-- ==== Defs.lean ====
def Pre_Kernel [hPre_listed_once_near : Cert.Pre_listed_once_near.Facts] (m : (ℓ : Loc Cert.Kernel.nD Cert.Kernel.τ Cert.Kernel.sig) → Buf (Elt Bits) ℓ) : Prop :=
  ∀ c : Dev Cert.Kernel.nD,
    (Cert.Pre_listed_once_near.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_listed_once_near : Cert.Pre_listed_once_near.Facts] (m : (ℓ : Loc Cert.KernelIdeal.nD Cert.KernelIdeal.τ Cert.KernelIdeal.sig) → Buf (Elt Ideal) ℓ) : Prop :=
  ∀ c : Dev Cert.KernelIdeal.nD,
    (Cert.Pre_listed_once_near.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_listed_once_near [hPre_listed_once_near : Cert.Pre_listed_once_near.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_listed_once_near.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseReferenceIdeal (m : (ℓ : Loc Cert.DenseReferenceIdeal.nD Cert.DenseReferenceIdeal.τ Cert.DenseReferenceIdeal.sig) → Buf (Elt Ideal) ℓ) : Prop :=
  True

def quiescent_Kernel [hKernel : Cert.Kernel.Facts] [hPre_listed_once_near : Cert.Pre_listed_once_near.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_listed_once_near : Cert.Pre_listed_once_near.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_listed_once_near [hReferenceIdeal : Cert.ReferenceIdeal.Facts] [hPre_listed_once_near : Cert.Pre_listed_once_near.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_listed_once_near m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5)
      ∧ r.2.mem ((c.tc : Thread Cert.Dense.nD Cert.Dense.τ).loc Cert.Dense.main_arg6) = m ((c.tc : Thread Cert.Dense.nD Cert.Dense.τ).loc Cert.Dense.main_arg6)
      ∧ r.2.mem ((c.tc : Thread Cert.Dense.nD Cert.Dense.τ).loc Cert.Dense.main_arg7) = m ((c.tc : Thread Cert.Dense.nD Cert.Dense.τ).loc Cert.Dense.main_arg7))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
      ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3)
      ∧ r.2.mem ((c.tc : Thread Cert.DenseReferenceIdeal.nD Cert.DenseReferenceIdeal.τ).loc Cert.DenseReferenceIdeal.main_arg4) = m ((c.tc : Thread Cert.DenseReferenceIdeal.nD Cert.DenseReferenceIdeal.τ).loc Cert.DenseReferenceIdeal.main_arg4)
      ∧ r.2.mem ((c.tc : Thread Cert.DenseReferenceIdeal.nD Cert.DenseReferenceIdeal.τ).loc Cert.DenseReferenceIdeal.main_arg5) = m ((c.tc : Thread Cert.DenseReferenceIdeal.nD Cert.DenseReferenceIdeal.τ).loc Cert.DenseReferenceIdeal.main_arg5)
      ∧ r.2.mem ((c.tc : Thread Cert.DenseReferenceIdeal.nD Cert.DenseReferenceIdeal.τ).loc Cert.DenseReferenceIdeal.main_arg6) = m ((c.tc : Thread Cert.DenseReferenceIdeal.nD Cert.DenseReferenceIdeal.τ).loc Cert.DenseReferenceIdeal.main_arg6)
      ∧ r.2.mem ((c.tc : Thread Cert.DenseReferenceIdeal.nD Cert.DenseReferenceIdeal.τ).loc Cert.DenseReferenceIdeal.main_arg7) = m ((c.tc : Thread Cert.DenseReferenceIdeal.nD Cert.DenseReferenceIdeal.τ).loc Cert.DenseReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_listed_once_near : Cert.Pre_listed_once_near.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v43)) (v2 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_v45) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Dense_DenseIdeal : Prop :=
  True

def algebraic_DenseIdeal_DenseReferenceIdeal [hDenseIdeal : Cert.DenseIdeal.Facts] [hDenseReferenceIdeal : Cert.DenseReferenceIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)
      ∧ m' ((c.tc : Thread Cert.DenseReferenceIdeal.nD Cert.DenseReferenceIdeal.τ).loc Cert.DenseReferenceIdeal.main_arg3) = m ((c.tc : Thread Cert.DenseIdeal.nD Cert.DenseIdeal.τ).loc Cert.DenseIdeal.main_arg3)
      ∧ m' ((c.tc : Thread Cert.DenseReferenceIdeal.nD Cert.DenseReferenceIdeal.τ).loc Cert.DenseReferenceIdeal.main_arg4) = m ((c.tc : Thread Cert.DenseIdeal.nD Cert.DenseIdeal.τ).loc Cert.DenseIdeal.main_arg4)
      ∧ m' ((c.tc : Thread Cert.DenseReferenceIdeal.nD Cert.DenseReferenceIdeal.τ).loc Cert.DenseReferenceIdeal.main_arg5) = m ((c.tc : Thread Cert.DenseIdeal.nD Cert.DenseIdeal.τ).loc Cert.DenseIdeal.main_arg5)
      ∧ m' ((c.tc : Thread Cert.DenseReferenceIdeal.nD Cert.DenseReferenceIdeal.τ).loc Cert.DenseReferenceIdeal.main_arg6) = m ((c.tc : Thread Cert.DenseIdeal.nD Cert.DenseIdeal.τ).loc Cert.DenseIdeal.main_arg6)
      ∧ m' ((c.tc : Thread Cert.DenseReferenceIdeal.nD Cert.DenseReferenceIdeal.τ).loc Cert.DenseReferenceIdeal.main_arg7) = m ((c.tc : Thread Cert.DenseIdeal.nD Cert.DenseIdeal.τ).loc Cert.DenseIdeal.main_arg7)) →
    ∃ (v0 : (c : Dev Cert.DenseIdeal.nD) → Buf (Elt Ideal) ((c.tc : Thread Cert.DenseIdeal.nD Cert.DenseIdeal.τ).loc Cert.DenseIdeal.main_v43)) (v1 : (c : Dev Cert.DenseIdeal.nD) → Buf (Elt Ideal) ((c.tc : Thread Cert.DenseIdeal.nD Cert.DenseIdeal.τ).loc Cert.DenseIdeal.main_v45)) (v2 : (c : Dev Cert.DenseIdeal.nD) → Buf (Elt Ideal) ((c.tc : Thread Cert.DenseIdeal.nD Cert.DenseIdeal.τ).loc Cert.DenseIdeal.main_v47)) (v3 : (c : Dev Cert.DenseIdeal.nD) → Buf (Elt Ideal) ((c.tc : Thread Cert.DenseIdeal.nD Cert.DenseIdeal.τ).loc Cert.DenseIdeal.main_v37_0)) (v4 : (c : Dev Cert.DenseIdeal.nD) → Buf (Elt Ideal) ((c.tc : Thread Cert.DenseIdeal.nD Cert.DenseIdeal.τ).loc Cert.DenseIdeal.main_v37_1)) (v5 : (c : Dev Cert.DenseIdeal.nD) → Buf (Elt Ideal) ((c.tc : Thread Cert.DenseIdeal.nD Cert.DenseIdeal.τ).loc Cert.DenseIdeal.main_v37_2)) (v6 : (c : Dev Cert.DenseIdeal.nD) → Buf (Elt Ideal) ((c.tc : Thread Cert.DenseIdeal.nD Cert.DenseIdeal.τ).loc Cert.DenseIdeal.main_v37_3)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v43) = v0 c
          ∧ r.2.mem ((c.tc : Thread Cert.DenseIdeal.nD Cert.DenseIdeal.τ).loc Cert.DenseIdeal.main_v45) = v1 c
          ∧ r.2.mem ((c.tc : Thread Cert.DenseIdeal.nD Cert.DenseIdeal.τ).loc Cert.DenseIdeal.main_v47) = v2 c
          ∧ r.2.mem ((c.tc : Thread Cert.DenseIdeal.nD Cert.DenseIdeal.τ).loc Cert.DenseIdeal.main_v37_0) = v3 c
          ∧ r.2.mem ((c.tc : Thread Cert.DenseIdeal.nD Cert.DenseIdeal.τ).loc Cert.DenseIdeal.main_v37_1) = v4 c
          ∧ r.2.mem ((c.tc : Thread Cert.DenseIdeal.nD Cert.DenseIdeal.τ).loc Cert.DenseIdeal.main_v37_2) = v5 c
          ∧ r.2.mem ((c.tc : Thread Cert.DenseIdeal.nD Cert.DenseIdeal.τ).loc Cert.DenseIdeal.main_v37_3) = v6 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
          ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
          ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v207) = v0 c
          ∧ r.2.mem ((c.tc : Thread Cert.DenseReferenceIdeal.nD Cert.DenseReferenceIdeal.τ).loc Cert.DenseReferenceIdeal.main_v203) = v1 c
          ∧ r.2.mem ((c.tc : Thread Cert.DenseReferenceIdeal.nD Cert.DenseReferenceIdeal.τ).loc Cert.DenseReferenceIdeal.main_v202) = v2 c
          ∧ r.2.mem ((c.tc : Thread Cert.DenseReferenceIdeal.nD Cert.DenseReferenceIdeal.τ).loc Cert.DenseReferenceIdeal.main_v241) = v3 c
          ∧ r.2.mem ((c.tc : Thread Cert.DenseReferenceIdeal.nD Cert.DenseReferenceIdeal.τ).loc Cert.DenseReferenceIdeal.main_v257) = v4 c
          ∧ r.2.mem ((c.tc : Thread Cert.DenseReferenceIdeal.nD Cert.DenseReferenceIdeal.τ).loc Cert.DenseReferenceIdeal.main_v288) = v5 c
          ∧ r.2.mem ((c.tc : Thread Cert.DenseReferenceIdeal.nD Cert.DenseReferenceIdeal.τ).loc Cert.DenseReferenceIdeal.main_v316) = v6 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2)
          ∧ r.2.mem ((c.tc : Thread Cert.DenseReferenceIdeal.nD Cert.DenseReferenceIdeal.τ).loc Cert.DenseReferenceIdeal.main_arg3) = m' ((c.tc : Thread Cert.DenseReferenceIdeal.nD Cert.DenseReferenceIdeal.τ).loc Cert.DenseReferenceIdeal.main_arg3)
          ∧ r.2.mem ((c.tc : Thread Cert.DenseReferenceIdeal.nD Cert.DenseReferenceIdeal.τ).loc Cert.DenseReferenceIdeal.main_arg4) = m' ((c.tc : Thread Cert.DenseReferenceIdeal.nD Cert.DenseReferenceIdeal.τ).loc Cert.DenseReferenceIdeal.main_arg4)
          ∧ r.2.mem ((c.tc : Thread Cert.DenseReferenceIdeal.nD Cert.DenseReferenceIdeal.τ).loc Cert.DenseReferenceIdeal.main_arg5) = m' ((c.tc : Thread Cert.DenseReferenceIdeal.nD Cert.DenseReferenceIdeal.τ).loc Cert.DenseReferenceIdeal.main_arg5)
          ∧ r.2.mem ((c.tc : Thread Cert.DenseReferenceIdeal.nD Cert.DenseReferenceIdeal.τ).loc Cert.DenseReferenceIdeal.main_arg6) = m' ((c.tc : Thread Cert.DenseReferenceIdeal.nD Cert.DenseReferenceIdeal.τ).loc Cert.DenseReferenceIdeal.main_arg6)
          ∧ r.2.mem ((c.tc : Thread Cert.DenseReferenceIdeal.nD Cert.DenseReferenceIdeal.τ).loc Cert.DenseReferenceIdeal.main_arg7) = m' ((c.tc : Thread Cert.DenseReferenceIdeal.nD Cert.DenseReferenceIdeal.τ).loc Cert.DenseReferenceIdeal.main_arg7))

def Claim : Prop :=
  ∃ (hKernel : Cert.Kernel.Facts) (hKernelIdeal : Cert.KernelIdeal.Facts) (hReferenceIdeal : Cert.ReferenceIdeal.Facts) (hDense : Cert.Dense.Facts) (hDenseIdeal : Cert.DenseIdeal.Facts) (hDenseReferenceIdeal : Cert.DenseReferenceIdeal.Facts) (hPre_listed_once_near : Cert.Pre_listed_once_near.Facts),
    quiescent_Kernel (hKernel := hKernel) (hPre_listed_once_near := hPre_listed_once_near)
    ∧ quiescent_KernelIdeal (hKernelIdeal := hKernelIdeal) (hPre_listed_once_near := hPre_listed_once_near)
    ∧ quiescent_ReferenceIdeal (hReferenceIdeal := hReferenceIdeal)
    ∧ quiescent_ReferenceIdeal_pre_listed_once_near (hReferenceIdeal := hReferenceIdeal) (hPre_listed_once_near := hPre_listed_once_near)
    ∧ quiescent_Dense (hDense := hDense)
    ∧ quiescent_DenseIdeal (hDenseIdeal := hDenseIdeal)
    ∧ quiescent_DenseReferenceIdeal (hDenseReferenceIdeal := hDenseReferenceIdeal)
    ∧ preserves_Kernel_KernelIdeal
    ∧ algebraic_KernelIdeal_ReferenceIdeal (hKernelIdeal := hKernelIdeal) (hReferenceIdeal := hReferenceIdeal) (hPre_listed_once_near := hPre_listed_once_near)
    ∧ preserves_Dense_DenseIdeal
    ∧ algebraic_DenseIdeal_DenseReferenceIdeal (hDenseIdeal := hDenseIdeal) (hDenseReferenceIdeal := hDenseReferenceIdeal)
-- ==== Pre_listed_once_near.lean ====
abbrev S1x10000x3 : Shape := ⟨3, ![1, 10000, 3]⟩
abbrev S34x1280 : Shape := ⟨2, ![34, 1280]⟩
abbrev S1x1280 : Shape := ⟨2, ![1, 1280]⟩
abbrev S512x1 : Shape := ⟨2, ![512, 1]⟩
abbrev S512x28 : Shape := ⟨2, ![512, 28]⟩
abbrev S1280 : Shape := ⟨1, ![1280]⟩
abbrev S_ : Shape := ⟨0, ![]⟩
abbrev S512 : Shape := ⟨1, ![512]⟩
abbrev S1280x512 : Shape := ⟨2, ![1280, 512]⟩
abbrev S1280x1 : Shape := ⟨2, ![1280, 1]⟩
abbrev S1x512 : Shape := ⟨2, ![1, 512]⟩
abbrev S1x512x28 : Shape := ⟨3, ![1, 512, 28]⟩
abbrev S1280x1x1 : Shape := ⟨3, ![1280, 1, 1]⟩
abbrev S1280x512x28 : Shape := ⟨3, ![1280, 512, 28]⟩
abbrev S1280x512x1 : Shape := ⟨3, ![1280, 512, 1]⟩

class Facts : Prop where
  shapeCasts_S1x1280_S1280 : S1x1280.ShapeCasts S1280
  bcast_S_S1280 : S_.BroadcastsInDim S1280 (![] : Fin 0 → Fin S1280.rank)
  bcast_S_S512 : S_.BroadcastsInDim S512 (![] : Fin 0 → Fin S512.rank)
  bcast_S_S1280x512 : S_.BroadcastsInDim S1280x512 (![] : Fin 0 → Fin S1280x512.rank)
  bcast_S1280_S1280x1_0 : S1280.BroadcastsInDim S1280x1 (![0] : Fin 1 → Fin S1280x1.rank)
  bcast_S512_S1x512_1 : S512.BroadcastsInDim S1x512 (![1] : Fin 1 → Fin S1x512.rank)
  bcast_S1280x1_S1280x512_0_1 : S1280x1.BroadcastsInDim S1280x512 (![0, 1] : Fin 2 → Fin S1280x512.rank)
  bcast_S1x512_S1280x512_0_1 : S1x512.BroadcastsInDim S1280x512 (![0, 1] : Fin 2 → Fin S1280x512.rank)
  bcast_S512x28_S1x512x28_1_2 : S512x28.BroadcastsInDim S1x512x28 (![1, 2] : Fin 2 → Fin S1x512x28.rank)
  bcast_S1280_S1280x1x1_0 : S1280.BroadcastsInDim S1280x1x1 (![0] : Fin 1 → Fin S1280x1x1.rank)
  bcast_S1x512x28_S1280x512x28_0_1_2 : S1x512x28.BroadcastsInDim S1280x512x28 (![0, 1, 2] : Fin 3 → Fin S1280x512x28.rank)
  bcast_S1280x1x1_S1280x512x28_0_1_2 : S1280x1x1.BroadcastsInDim S1280x512x28 (![0, 1, 2] : Fin 3 → Fin S1280x512x28.rank)
  bcast_S512x1_S512x28_0_1 : S512x1.BroadcastsInDim S512x28 (![0, 1] : Fin 2 → Fin S512x28.rank)
  bcast_S_S1x10000x3 : S_.BroadcastsInDim S1x10000x3 (![] : Fin 0 → Fin S1x10000x3.rank)
  reducesTo_S1x10000x3_S_d0_1_2 : S1x10000x3.ReducesTo [0, 1, 2] S_
  h_S_ : 0 < S_.numel
  bcast_S_S512x1 : S_.BroadcastsInDim S512x1 (![] : Fin 0 → Fin S512x1.rank)
  reducesTo_S512x1_S_d0_1 : S512x1.ReducesTo [0, 1] S_
  bcast_S_S512x28 : S_.BroadcastsInDim S512x28 (![] : Fin 0 → Fin S512x28.rank)
  reducesTo_S512x28_S_d0_1 : S512x28.ReducesTo [0, 1] S_
  reducesTo_S1280_S_d0 : S1280.ReducesTo [0] S_
  natLt_1_32 : 1 < 32
  reducesTo_S1280x512x28_S1280_d1_2 : S1280x512x28.ReducesTo [1, 2] S1280
  bcast_S1280x512_S1280x512x1_0_1 : S1280x512.BroadcastsInDim S1280x512x1 (![0, 1] : Fin 2 → Fin S1280x512x1.rank)
  bcast_S1280x512x1_S1280x512x28_0_1_2 : S1280x512x1.BroadcastsInDim S1280x512x28 (![0, 1, 2] : Fin 3 → Fin S1280x512x28.rank)
  reducesTo_S1280x512x28_S_d0_1_2 : S1280x512x28.ReducesTo [0, 1, 2] S_

variable [Facts]

def fn_part6 {F : FTy → Type} [FloatOps F] (main_v59 : IVec S1280x512 1) (main_v73 : IVec S1280x512x28 1) (main_v102 : IVec S_ 1) (main_v107 : IVec S_ 1) : IVec S_ 1 :=
  let main_v108 : IVec S_ 1 := andi main_v102 main_v107
  let main_v109 : IVec S1280x512x28 1 := noti main_v73
  let main_v110 : IVec S1280x512x1 1 := broadcastInDim S1280x512x1 ![0, 1] bcast_S1280x512_S1280x512x1_0_1 main_v59
  let main_v111 : IVec S1280x512x28 1 := broadcastInDim S1280x512x28 ![0, 1, 2] bcast_S1280x512x1_S1280x512x28_0_1_2 main_v110
  let main_v112 : IVec S1280x512x28 1 := ori main_v109 main_v111
  let main_c_34 : IVec S_ 1 := constantI S_ 1 1#1
  let main_v113 : IVec S_ 1 := (fun x v => Host.reduce IntOp.andi x v reducesTo_S1280x512x28_S_d0_1_2 h_S_) main_v112 main_c_34
  let main_v114 : IVec S_ 1 := andi main_v108 main_v113
  main_v114

def fn_part5 {F : FTy → Type} [FloatOps F] (main_v0 : IVec S1280 32) (main_v59 : IVec S1280x512 1) (main_v73 : IVec S1280x512x28 1) (main_v86 : IVec S_ 1) (main_v91 : IVec S512x28 1) : IVec S_ 1 :=
  let main_c_26 : IVec S_ 1 := constantI S_ 1 1#1
  let main_v92 : IVec S_ 1 := (fun x v => Host.reduce IntOp.andi x v reducesTo_S512x28_S_d0_1 h_S_) main_v91 main_c_26
  let main_v93 : IVec S_ 1 := andi main_v86 main_v92
  let main_c_27 : IVec S_ 32 := constantI S_ 32 0#32
  let main_v94 : IVec S1280 32 := broadcastInDim S1280 ![] bcast_S_S1280 main_c_27
  let main_v95 : IVec S1280 1 := cmpi .sge main_v0 main_v94
  let main_c_28 : IVec S_ 32 := constantI S_ 32 24#32
  let main_v96 : IVec S1280 32 := broadcastInDim S1280 ![] bcast_S_S1280 main_c_28
  let main_v97 : IVec S1280 32 := Host.shrsi main_v0 main_v96
  let main_c_29 : IVec S_ 32 := constantI S_ 32 10#32
  let main_v98 : IVec S1280 32 := broadcastInDim S1280 ![] bcast_S_S1280 main_c_29
  let main_v99 : IVec S1280 1 := cmpi .sle main_v97 main_v98
  let main_v100 : IVec S1280 1 := andi main_v95 main_v99
  let main_c_30 : IVec S_ 1 := constantI S_ 1 1#1
  let main_v101 : IVec S_ 1 := (fun x v => Host.reduce IntOp.andi x v reducesTo_S1280_S_d0 h_S_) main_v100 main_c_30
  let main_v102 : IVec S_ 1 := andi main_v93 main_v101
  let main_v103 : IVec S1280x512x28 32 := (extui 32 · natLt_1_32) main_v73
  let main_c_31 : IVec S_ 32 := constantI S_ 32 0#32
  let main_v104 : IVec S1280 32 := (fun x v => Host.reduce IntOp.addi x v reducesTo_S1280x512x28_S1280_d1_2 h_S_) main_v103 main_c_31
  let main_c_32 : IVec S_ 32 := constantI S_ 32 1#32
  let main_v105 : IVec S1280 32 := broadcastInDim S1280 ![] bcast_S_S1280 main_c_32
  let main_v106 : IVec S1280 1 := cmpi .eq main_v104 main_v105
  let main_c_33 : IVec S_ 1 := constantI S_ 1 1#1
  let main_v107 : IVec S_ 1 := (fun x v => Host.reduce IntOp.andi x v reducesTo_S1280_S_d0 h_S_) main_v106 main_c_33
  fn_part6 (F := F) main_v59 main_v73 main_v102 main_v107

def fn_part4 {F : FTy → Type} [FloatOps F] (main_arg0 : FVec F S1x10000x3 .f32) (main_arg3 : IVec S512x1 32) (main_arg4 : IVec S512x28 32) (main_v0 : IVec S1280 32) (main_v59 : IVec S1280x512 1) (main_v73 : IVec S1280x512x28 1) (main_v74 : FVec F S1x10000x3 .f32) : IVec S_ 1 :=
  let main_v75 : IVec S1x10000x3 1 := cmpf .oge main_arg0 main_v74
  let main_cst_19 : FVec F S_ .f32 := constant S_ .f32 0x3F800000#32
  let main_v76 : FVec F S1x10000x3 .f32 := broadcastInDim S1x10000x3 ![] bcast_S_S1x10000x3 main_cst_19
  let main_v77 : IVec S1x10000x3 1 := cmpf .olt main_arg0 main_v76
  let main_v78 : IVec S1x10000x3 1 := andi main_v75 main_v77
  let main_c_20 : IVec S_ 1 := constantI S_ 1 1#1
  let main_v79 : IVec S_ 1 := (fun x v => Host.reduce IntOp.andi x v reducesTo_S1x10000x3_S_d0_1_2 h_S_) main_v78 main_c_20
  let main_c_21 : IVec S_ 32 := constantI S_ 32 0#32
  let main_v80 : IVec S512x1 32 := broadcastInDim S512x1 ![] bcast_S_S512x1 main_c_21
  let main_v81 : IVec S512x1 1 := cmpi .sge main_arg3 main_v80
  let main_c_22 : IVec S_ 32 := constantI S_ 32 28#32
  let main_v82 : IVec S512x1 32 := broadcastInDim S512x1 ![] bcast_S_S512x1 main_c_22
  let main_v83 : IVec S512x1 1 := cmpi .sle main_arg3 main_v82
  let main_v84 : IVec S512x1 1 := andi main_v81 main_v83
  let main_c_23 : IVec S_ 1 := constantI S_ 1 1#1
  let main_v85 : IVec S_ 1 := (fun x v => Host.reduce IntOp.andi x v reducesTo_S512x1_S_d0_1 h_S_) main_v84 main_c_23
  let main_v86 : IVec S_ 1 := andi main_v79 main_v85
  let main_c_24 : IVec S_ 32 := constantI S_ 32 0#32
  let main_v87 : IVec S512x28 32 := broadcastInDim S512x28 ![] bcast_S_S512x28 main_c_24
  let main_v88 : IVec S512x28 1 := cmpi .sge main_arg4 main_v87
  let main_c_25 : IVec S_ 32 := constantI S_ 32 1280#32
  let main_v89 : IVec S512x28 32 := broadcastInDim S512x28 ![] bcast_S_S512x28 main_c_25
  let main_v90 : IVec S512x28 1 := cmpi .sle main_arg4 main_v89
  let main_v91 : IVec S512x28 1 := andi main_v88 main_v90
  fn_part5 (F := F) main_v0 main_v59 main_v73 main_v86 main_v91

def fn_part3 {F : FTy → Type} [FloatOps F] (main_arg0 : FVec F S1x10000x3 .f32) (main_arg3 : IVec S512x1 32) (main_arg4 : IVec S512x28 32) (main_v0 : IVec S1280 32) (main_v48 : IVec S1280x512 1) (main_v53 : IVec S1280x512 32) (main_c_16 : IVec S_ 32) : IVec S_ 1 :=
  let main_v54 : IVec S1280x512 32 := broadcastInDim S1280x512 ![] bcast_S_S1280x512 main_c_16
  let main_v55 : IVec S1280x512 1 := cmpi .sge main_v53 main_v54
  let main_v56 : IVec S1280x512 1 := andi main_v48 main_v55
  let main_c_17 : IVec S_ 32 := constantI S_ 32 25#32
  let main_v57 : IVec S1280x512 32 := broadcastInDim S1280x512 ![] bcast_S_S1280x512 main_c_17
  let main_v58 : IVec S1280x512 1 := cmpi .sle main_v53 main_v57
  let main_v59 : IVec S1280x512 1 := andi main_v56 main_v58
  let main_v60 : IVec S1280 32 := iotaInDim S1280 32 0
  let main_c_18 : IVec S_ 32 := constantI S_ 32 1#32
  let main_v61 : IVec S1280 32 := broadcastInDim S1280 ![] bcast_S_S1280 main_c_18
  let main_v62 : IVec S1280 32 := addi main_v60 main_v61
  let main_v63 : IVec S1x512x28 32 := broadcastInDim S1x512x28 ![1, 2] bcast_S512x28_S1x512x28_1_2 main_arg4
  let main_v64 : IVec S1280x1x1 32 := broadcastInDim S1280x1x1 ![0] bcast_S1280_S1280x1x1_0 main_v62
  let main_v65 : IVec S1280x512x28 32 := broadcastInDim S1280x512x28 ![0, 1, 2] bcast_S1x512x28_S1280x512x28_0_1_2 main_v63
  let main_v66 : IVec S1280x512x28 32 := broadcastInDim S1280x512x28 ![0, 1, 2] bcast_S1280x1x1_S1280x512x28_0_1_2 main_v64
  let main_v67 : IVec S1280x512x28 1 := cmpi .eq main_v65 main_v66
  let main_v68 : IVec S512x28 32 := iotaInDim S512x28 32 1
  let main_v69 : IVec S512x28 32 := broadcastInDim S512x28 ![0, 1] bcast_S512x1_S512x28_0_1 main_arg3
  let main_v70 : IVec S512x28 1 := cmpi .slt main_v68 main_v69
  let main_v71 : IVec S1x512x28 1 := broadcastInDim S1x512x28 ![1, 2] bcast_S512x28_S1x512x28_1_2 main_v70
  let main_v72 : IVec S1280x512x28 1 := broadcastInDim S1280x512x28 ![0, 1, 2] bcast_S1x512x28_S1280x512x28_0_1_2 main_v71
  let main_v73 : IVec S1280x512x28 1 := andi main_v67 main_v72
  let main_cst : FVec F S_ .f32 := constant S_ .f32 0x00000000#32
  let main_v74 : FVec F S1x10000x3 .f32 := broadcastInDim S1x10000x3 ![] bcast_S_S1x10000x3 main_cst
  fn_part4 (F := F) main_arg0 main_arg3 main_arg4 main_v0 main_v59 main_v73 main_v74

def fn_part2 {F : FTy → Type} [FloatOps F] (main_arg0 : FVec F S1x10000x3 .f32) (main_arg3 : IVec S512x1 32) (main_arg4 : IVec S512x28 32) (main_v0 : IVec S1280 32) (main_v8 : IVec S1280 32) (main_v10 : IVec S1280 32) (main_v21 : IVec S512 32) (main_v25 : IVec S512 32) (main_v26 : IVec S1280x512 1) (main_v31 : IVec S1280x512 32) (main_v33 : IVec S1280x512 1) : IVec S_ 1 :=
  let main_v34 : IVec S1280x512 1 := andi main_v26 main_v33
  let main_c_13 : IVec S_ 32 := constantI S_ 32 25#32
  let main_v35 : IVec S1280x512 32 := broadcastInDim S1280x512 ![] bcast_S_S1280x512 main_c_13
  let main_v36 : IVec S1280x512 1 := cmpi .sle main_v31 main_v35
  let main_v37 : IVec S1280x512 1 := andi main_v34 main_v36
  let main_v38 : IVec S1280x1 32 := broadcastInDim S1280x1 ![0] bcast_S1280_S1280x1_0 main_v8
  let main_v39 : IVec S1x512 32 := broadcastInDim S1x512 ![1] bcast_S512_S1x512_1 main_v21
  let main_v40 : IVec S1280x512 32 := broadcastInDim S1280x512 ![0, 1] bcast_S1280x1_S1280x512_0_1 main_v38
  let main_v41 : IVec S1280x512 32 := broadcastInDim S1280x512 ![0, 1] bcast_S1x512_S1280x512_0_1 main_v39
  let main_v42 : IVec S1280x512 32 := subi main_v40 main_v41
  let main_c_14 : IVec S_ 32 := constantI S_ 32 0#32
  let main_v43 : IVec S1280x512 32 := broadcastInDim S1280x512 ![] bcast_S_S1280x512 main_c_14
  let main_v44 : IVec S1280x512 1 := cmpi .sge main_v42 main_v43
  let main_v45 : IVec S1280x512 1 := andi main_v37 main_v44
  let main_c_15 : IVec S_ 32 := constantI S_ 32 25#32
  let main_v46 : IVec S1280x512 32 := broadcastInDim S1280x512 ![] bcast_S_S1280x512 main_c_15
  let main_v47 : IVec S1280x512 1 := cmpi .sle main_v42 main_v46
  let main_v48 : IVec S1280x512 1 := andi main_v45 main_v47
  let main_v49 : IVec S1280x1 32 := broadcastInDim S1280x1 ![0] bcast_S1280_S1280x1_0 main_v10
  let main_v50 : IVec S1x512 32 := broadcastInDim S1x512 ![1] bcast_S512_S1x512_1 main_v25
  let main_v51 : IVec S1280x512 32 := broadcastInDim S1280x512 ![0, 1] bcast_S1280x1_S1280x512_0_1 main_v49
  let main_v52 : IVec S1280x512 32 := broadcastInDim S1280x512 ![0, 1] bcast_S1x512_S1280x512_0_1 main_v50
  let main_v53 : IVec S1280x512 32 := subi main_v51 main_v52
  let main_c_16 : IVec S_ 32 := constantI S_ 32 0#32
  fn_part3 (F := F) main_arg0 main_arg3 main_arg4 main_v0 main_v48 main_v53 main_c_16

def fn_part1 {F : FTy → Type} [FloatOps F] (main_arg0 : FVec F S1x10000x3 .f32) (main_arg3 : IVec S512x1 32) (main_arg4 : IVec S512x28 32) (main_v0 : IVec S1280 32) (main_v4 : IVec S1280 32) (main_v8 : IVec S1280 32) (main_v10 : IVec S1280 32) (main_v11 : IVec S512 32) (main_v15 : IVec S512 32) (main_c_6 : IVec S_ 32) : IVec S_ 1 :=
  let main_v16 : IVec S512 32 := broadcastInDim S512 ![] bcast_S_S512 main_c_6
  let main_v17 : IVec S512 32 := Host.shrsi main_v11 main_v16
  let main_c_7 : IVec S_ 32 := constantI S_ 32 7#32
  let main_v18 : IVec S512 32 := broadcastInDim S512 ![] bcast_S_S512 main_c_7
  let main_v19 : IVec S512 32 := andi main_v17 main_v18
  let main_c_8 : IVec S_ 32 := constantI S_ 32 25#32
  let main_v20 : IVec S512 32 := broadcastInDim S512 ![] bcast_S_S512 main_c_8
  let main_v21 : IVec S512 32 := muli main_v20 main_v19
  let main_c_9 : IVec S_ 32 := constantI S_ 32 7#32
  let main_v22 : IVec S512 32 := broadcastInDim S512 ![] bcast_S_S512 main_c_9
  let main_v23 : IVec S512 32 := andi main_v11 main_v22
  let main_c_10 : IVec S_ 32 := constantI S_ 32 25#32
  let main_v24 : IVec S512 32 := broadcastInDim S512 ![] bcast_S_S512 main_c_10
  let main_v25 : IVec S512 32 := muli main_v24 main_v23
  let main_c_11 : IVec S_ 1 := constantI S_ 1 1#1
  let main_v26 : IVec S1280x512 1 := broadcastInDim S1280x512 ![] bcast_S_S1280x512 main_c_11
  let main_v27 : IVec S1280x1 32 := broadcastInDim S1280x1 ![0] bcast_S1280_S1280x1_0 main_v4
  let main_v28 : IVec S1x512 32 := broadcastInDim S1x512 ![1] bcast_S512_S1x512_1 main_v15
  let main_v29 : IVec S1280x512 32 := broadcastInDim S1280x512 ![0, 1] bcast_S1280x1_S1280x512_0_1 main_v27
  let main_v30 : IVec S1280x512 32 := broadcastInDim S1280x512 ![0, 1] bcast_S1x512_S1280x512_0_1 main_v28
  let main_v31 : IVec S1280x512 32 := subi main_v29 main_v30
  let main_c_12 : IVec S_ 32 := constantI S_ 32 0#32
  let main_v32 : IVec S1280x512 32 := broadcastInDim S1280x512 ![] bcast_S_S1280x512 main_c_12
  let main_v33 : IVec S1280x512 1 := cmpi .sge main_v31 main_v32
  fn_part2 (F := F) main_arg0 main_arg3 main_arg4 main_v0 main_v8 main_v10 main_v21 main_v25 main_v26 main_v31 main_v33

def fn {F : FTy → Type} [FloatOps F] (main_arg0 : FVec F S1x10000x3 .f32) (main_arg1 : FVec F S34x1280 .f32) (main_arg2 : IVec S1x1280 32) (main_arg3 : IVec S512x1 32) (main_arg4 : IVec S512x28 32) : IVec S_ 1 :=
  let main_v0 : IVec S1280 32 := shapeCast S1280 main_arg2 shapeCasts_S1x1280_S1280
  let main_c : IVec S_ 32 := constantI S_ 32 16#32
  let main_v1 : IVec S1280 32 := broadcastInDim S1280 ![] bcast_S_S1280 main_c
  let main_v2 : IVec S1280 32 := Host.shrsi main_v0 main_v1
  let main_c_0 : IVec S_ 32 := constantI S_ 32 255#32
  let main_v3 : IVec S1280 32 := broadcastInDim S1280 ![] bcast_S_S1280 main_c_0
  let main_v4 : IVec S1280 32 := andi main_v2 main_v3
  let main_c_1 : IVec S_ 32 := constantI S_ 32 8#32
  let main_v5 : IVec S1280 32 := broadcastInDim S1280 ![] bcast_S_S1280 main_c_1
  let main_v6 : IVec S1280 32 := Host.shrsi main_v0 main_v5
  let main_c_2 : IVec S_ 32 := constantI S_ 32 255#32
  let main_v7 : IVec S1280 32 := broadcastInDim S1280 ![] bcast_S_S1280 main_c_2
  let main_v8 : IVec S1280 32 := andi main_v6 main_v7
  let main_c_3 : IVec S_ 32 := constantI S_ 32 255#32
  let main_v9 : IVec S1280 32 := broadcastInDim S1280 ![] bcast_S_S1280 main_c_3
  let main_v10 : IVec S1280 32 := andi main_v0 main_v9
  let main_v11 : IVec S512 32 := iotaInDim S512 32 0
  let main_c_4 : IVec S_ 32 := constantI S_ 32 6#32
  let main_v12 : IVec S512 32 := broadcastInDim S512 ![] bcast_S_S512 main_c_4
  let main_v13 : IVec S512 32 := Host.shrsi main_v11 main_v12
  let main_c_5 : IVec S_ 32 := constantI S_ 32 25#32
  let main_v14 : IVec S512 32 := broadcastInDim S512 ![] bcast_S_S512 main_c_5
  let main_v15 : IVec S512 32 := muli main_v14 main_v13
  let main_c_6 : IVec S_ 32 := constantI S_ 32 3#32
  fn_part1 (F := F) main_arg0 main_arg3 main_arg4 main_v0 main_v4 main_v8 main_v10 main_v11 main_v15 main_c_6
-- ==== Kernel.lean ====
abbrev S1x10000x3 : Shape := ⟨3, ![1, 10000, 3]⟩
abbrev S34x1280 : Shape := ⟨2, ![34, 1280]⟩
abbrev S1x1280 : Shape := ⟨2, ![1, 1280]⟩
abbrev S512x1 : Shape := ⟨2, ![512, 1]⟩
abbrev S512x28 : Shape := ⟨2, ![512, 28]⟩
abbrev S10000x3 : Shape := ⟨2, ![10000, 3]⟩
abbrev S_ : Shape := ⟨0, ![]⟩
abbrev S3856x3 : Shape := ⟨2, ![3856, 3]⟩
abbrev S3856x1 : Shape := ⟨2, ![3856, 1]⟩
abbrev S3856 : Shape := ⟨1, ![3856]⟩
abbrev S4096 : Shape := ⟨1, ![4096]⟩
abbrev S43520 : Shape := ⟨1, ![43520]⟩
abbrev S1280 : Shape := ⟨1, ![1280]⟩
abbrev S512 : Shape := ⟨1, ![512]⟩
abbrev S14336 : Shape := ⟨1, ![14336]⟩
abbrev S131072 : Shape := ⟨1, ![131072]⟩
abbrev S128 : Shape := ⟨1, ![128]⟩
abbrev S16 : Shape := ⟨1, ![16]⟩
abbrev S4096x32 : Shape := ⟨2, ![4096, 32]⟩
abbrev S3856x17 : Shape := ⟨2, ![3856, 17]⟩

abbrev nBuf : Table → Nat
  | .hbm => 62
  | .local .scVector .vmem => 9
  | _ => 0

abbrev bufTy : (tb : Table) → Fin (nBuf tb) → BufTy
  | .hbm, ⟨0, _⟩ => ⟨S1x10000x3, .f32⟩
  | .hbm, ⟨1, _⟩ => ⟨S34x1280, .f32⟩
  | .hbm, ⟨2, _⟩ => ⟨S1x1280, .i32⟩
  | .hbm, ⟨3, _⟩ => ⟨S512x1, .i32⟩
  | .hbm, ⟨4, _⟩ => ⟨S512x28, .i32⟩
  | .hbm, ⟨5, _⟩ => ⟨S10000x3, .f32⟩
  | .hbm, ⟨6, _⟩ => ⟨S_, .f32⟩
  | .hbm, ⟨7, _⟩ => ⟨S10000x3, .f32⟩
  | .hbm, ⟨8, _⟩ => ⟨S10000x3, .f32⟩
  | .hbm, ⟨9, _⟩ => ⟨S10000x3, .f32⟩
  | .hbm, ⟨10, _⟩ => ⟨S10000x3, .i32⟩
  | .hbm, ⟨11, _⟩ => ⟨S3856x3, .f32⟩
  | .hbm, ⟨12, _⟩ => ⟨S3856x3, .i32⟩
  | .hbm, ⟨13, _⟩ => ⟨S3856x1, .f32⟩
  | .hbm, ⟨14, _⟩ => ⟨S3856, .f32⟩
  | .hbm, ⟨15, _⟩ => ⟨S3856, .bf16⟩
  | .hbm, ⟨16, _⟩ => ⟨S3856, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S3856x1, .f32⟩
  | .hbm, ⟨21, _⟩ => ⟨S3856, .f32⟩
  | .hbm, ⟨22, _⟩ => ⟨S3856, .bf16⟩
  | .hbm, ⟨23, _⟩ => ⟨S3856, .f32⟩
  | .hbm, ⟨24, _⟩ => ⟨S_, .f32⟩
  | .hbm, ⟨25, _⟩ => ⟨S_, .f32⟩
  | .hbm, ⟨26, _⟩ => ⟨S4096, .f32⟩
  | .hbm, ⟨27, _⟩ => ⟨S3856x1, .f32⟩
  | .hbm, ⟨28, _⟩ => ⟨S3856, .f32⟩
  | .hbm, ⟨29, _⟩ => ⟨S3856, .bf16⟩
  | .hbm, ⟨30, _⟩ => ⟨S3856, .f32⟩
  | .hbm, ⟨31, _⟩ => ⟨S_, .f32⟩
  | .hbm, ⟨32, _⟩ => ⟨S_, .f32⟩
  | .hbm, ⟨33, _⟩ => ⟨S4096, .f32⟩
  | .hbm, ⟨34, _⟩ => ⟨S3856x1, .i32⟩
  | .hbm, ⟨35, _⟩ => ⟨S3856, .i32⟩
  | .hbm, ⟨36, _⟩ => ⟨S_, .i32⟩
  | .hbm, ⟨37, _⟩ => ⟨S3856, .i32⟩
  | .hbm, ⟨38, _⟩ => ⟨S3856, .i32⟩
  | .hbm, ⟨39, _⟩ => ⟨S3856x1, .i32⟩
  | .hbm, ⟨40, _⟩ => ⟨S3856, .i32⟩
  | .hbm, ⟨41, _⟩ => ⟨S_, .i32⟩
  | .hbm, ⟨42, _⟩ => ⟨S3856, .i32⟩
  | .hbm, ⟨43, _⟩ => ⟨S3856, .i32⟩
  | .hbm, ⟨44, _⟩ => ⟨S3856, .i32⟩
  | .hbm, ⟨45, _⟩ => ⟨S3856x1, .i32⟩
  | .hbm, ⟨46, _⟩ => ⟨S3856, .i32⟩
  | .hbm, ⟨47, _⟩ => ⟨S3856, .i32⟩
  | .hbm, ⟨48, _⟩ => ⟨S_, .i32⟩
  | .hbm, ⟨49, _⟩ => ⟨S_, .i32⟩
  | .hbm, ⟨50, _⟩ => ⟨S4096, .i32⟩
  | .hbm, ⟨51, _⟩ => ⟨S43520, .f32⟩
  | .hbm, ⟨52, _⟩ => ⟨S1280, .i32⟩
  | .hbm, ⟨53, _⟩ => ⟨S512, .i32⟩
  | .hbm, ⟨54, _⟩ => ⟨S14336, .i32⟩
  | .hbm, ⟨55, _⟩ => ⟨S131072, .f32⟩
  | .hbm, ⟨56, _⟩ => ⟨S4096x32, .f32⟩
  | .hbm, ⟨57, _⟩ => ⟨S3856x17, .f32⟩
  | .hbm, ⟨58, _⟩ => ⟨S3856x1, .f32⟩
  | .hbm, ⟨59, _⟩ => ⟨S3856, .f32⟩
  | .hbm, ⟨60, _⟩ => ⟨S3856x1, .f32⟩
  | .hbm, ⟨61, _⟩ => ⟨S3856, .f32⟩
  | .local .scVector .vmem, ⟨0, _⟩ => ⟨S43520, .f32⟩
  | .local .scVector .vmem, ⟨1, _⟩ => ⟨S1280, .i32⟩
  | .local .scVector .vmem, ⟨2, _⟩ => ⟨S512, .i32⟩
  | .local .scVector .vmem, ⟨3, _⟩ => ⟨S14336, .i32⟩
  | .local .scVector .vmem, ⟨4, _⟩ => ⟨S128, .f32⟩
  | .local .scVector .vmem, ⟨5, _⟩ => ⟨S128, .f32⟩
  | .local .scVector .vmem, ⟨6, _⟩ => ⟨S128, .f32⟩
  | .local .scVector .vmem, ⟨7, _⟩ => ⟨S128, .i32⟩
  | .local .scVector .vmem, ⟨8, _⟩ => ⟨S4096, .f32⟩
  | _, _ => ⟨S1x10000x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_call1_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_call2_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_4 : Ref sig .tc := ⟨.hbm, 48, rfl⟩
abbrev main_call3_v0 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v35_scv : Ref sig .scVector := ⟨.hbm, 51, rfl⟩
abbrev main_v36_scv : Ref sig .scVector := ⟨.hbm, 52, rfl⟩
abbrev main_v37_scv : Ref sig .scVector := ⟨.hbm, 53, rfl⟩
abbrev main_v38_scv : Ref sig .scVector := ⟨.hbm, 54, rfl⟩
abbrev main_v11_scv : Ref sig .scVector := ⟨.hbm, 19, rfl⟩
abbrev main_v16_scv : Ref sig .scVector := ⟨.hbm, 26, rfl⟩
abbrev main_v21_scv : Ref sig .scVector := ⟨.hbm, 33, rfl⟩
abbrev main_v34_scv : Ref sig .scVector := ⟨.hbm, 50, rfl⟩
abbrev main_v39_scv : Ref sig .scVector := ⟨.hbm, 55, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
@[reducible] def k0_t1_loop : Scf.Loop 32 :=
  let c0_i32_0 : BitVec 32 := 0#32
  let c256_i32 : BitVec 32 := 256#32
  let v4 : BitVec 32 := Scalar.addi c0_i32_0 c256_i32
  let c1_i32 : BitVec 32 := 1#32
  ⟨c0_i32_0, v4, c1_i32⟩
def k0_off2 (k0_t1 : Fin k0_t1_loop.trips) : Fin 1 → Nat :=
  let c0_i32_0 : BitVec 32 := 0#32
  let c1_i32 : BitVec 32 := 1#32
  let arg20 : BitVec 32 := Scf.iv c0_i32_0 c1_i32 k0_t1
  let c16_i32 : BitVec 32 := 16#32
  let v8 : BitVec 32 := Scalar.muli arg20 c16_i32
  let v9 : Index := Scalar.indexCast v8
  ![v9.toNat]
@[reducible] def k0_t2_loop : Scf.Loop 32 :=
  let c0_i32_3 : BitVec 32 := 0#32
  let c8_i32 : BitVec 32 := 8#32
  let v6 : BitVec 32 := Scalar.addi c0_i32_3 c8_i32
  let c1_i32_4 : BitVec 32 := 1#32
  ⟨c0_i32_3, v6, c1_i32_4⟩
def k0_off3 (k0_t2 : Fin k0_t2_loop.trips) : Fin 1 → Nat :=
  let c0_i32_3 : BitVec 32 := 0#32
  let c1_i32_4 : BitVec 32 := 1#32
  let arg20 : BitVec 32 := Scf.iv c0_i32_3 c1_i32_4 k0_t2
  let c16_i32 : BitVec 32 := 16#32
  let v8 : BitVec 32 := Scalar.muli arg20 c16_i32
  let v9 : Index := Scalar.indexCast v8
  ![v9.toNat]

def k0_chk1 (v114 : IVec S16 32) : Prop :=
  (∀ a x, ((![v114] : Fin 1 → IVec S16 32) a x).toNat < S512.size a)
theorem k0_idx1_inb : ∀ (v114 : IVec S16 32) (k0_hw1 : k0_chk1 v114), ∀ a x, ((![v114] : Fin 1 → IVec S16 32) a x).toNat < S512.size a := fun v114 k0_hw1 => k0_hw1
@[reducible] def k0_t3_loop (v123 : BitVec 32) : Scf.Loop 32 :=
  let c0_i32_46 : BitVec 32 := 0#32
  let v124 : BitVec 32 := Scalar.subi v123 c0_i32_46
  let c1_i32_47 : BitVec 32 := 1#32
  let v126 : BitVec 32 := Scalar.divsi v124 c1_i32_47
  let v127 : BitVec 32 := Scalar.muli v126 c1_i32_47
  let v128 : BitVec 32 := Scalar.addi c0_i32_46 v127
  let c1_i32_48 : BitVec 32 := 1#32
  ⟨c0_i32_46, v128, c1_i32_48⟩

def k0_chk3 (v391 : IVec S16 32) : Prop :=
  (∀ a x, ((![v391] : Fin 1 → IVec S16 32) a x).toNat < S14336.size a)
theorem k0_idx2_inb : ∀ (v391 : IVec S16 32) (k0_hw3 : k0_chk3 v391), ∀ a x, ((![v391] : Fin 1 → IVec S16 32) a x).toNat < S14336.size a := fun v391 k0_hw3 => k0_hw3

def k0_chk4 (v399 : IVec S16 32) : Prop :=
  (∀ a x, ((![v399] : Fin 1 → IVec S16 32) a x).toNat < S1280.size a)
theorem k0_idx3_inb : ∀ (v399 : IVec S16 32) (k0_hw4 : k0_chk4 v399), ∀ a x, ((![v399] : Fin 1 → IVec S16 32) a x).toNat < S1280.size a := fun v399 k0_hw4 => k0_hw4
def k0_cond1 (v431 : BitVec 32) : BitVec 1 :=
  let c0_i32_170 : BitVec 32 := 0#32
  let v432 : BitVec 1 := Scalar.cmpi .sgt v431 c0_i32_170
  let v433 : BitVec 32 := Scalar.extui v432
  let c0_i32_171 : BitVec 32 := 0#32
  let v434 : BitVec 1 := Scalar.cmpi .ne v433 c0_i32_171
  v434

def k0_chk5 (v431 : BitVec 32) (v436 : IVec S16 32) : Prop :=
  (∀ (k0_h1 : k0_cond1 v431 = 1#1), ∀ a x, ((![v436] : Fin 1 → IVec S16 32) a x).toNat < S43520.size a)
theorem k0_idx4_inb : ∀ (v431 : BitVec 32) (v436 : IVec S16 32) (k0_hw5 : k0_chk5 v431 v436), ∀ (k0_h1 : k0_cond1 v431 = 1#1), ∀ a x, ((![v436] : Fin 1 → IVec S16 32) a x).toNat < S43520.size a := fun v431 v436 k0_hw5 k0_h1 => k0_hw5 k0_h1

def k0_chk6 (v431 : BitVec 32) (v439 : IVec S16 32) : Prop :=
  (∀ (k0_h1 : k0_cond1 v431 = 1#1), ∀ a x, ((![v439] : Fin 1 → IVec S16 32) a x).toNat < S43520.size a)
theorem k0_idx5_inb : ∀ (v431 : BitVec 32) (v439 : IVec S16 32) (k0_hw6 : k0_chk6 v431 v439), ∀ (k0_h1 : k0_cond1 v431 = 1#1), ∀ a x, ((![v439] : Fin 1 → IVec S16 32) a x).toNat < S43520.size a := fun v431 v439 k0_hw6 k0_h1 => k0_hw6 k0_h1

def k0_chk7 (v431 : BitVec 32) (v442 : IVec S16 32) : Prop :=
  (∀ (k0_h1 : k0_cond1 v431 = 1#1), ∀ a x, ((![v442] : Fin 1 → IVec S16 32) a x).toNat < S43520.size a)
theorem k0_idx6_inb : ∀ (v431 : BitVec 32) (v442 : IVec S16 32) (k0_hw7 : k0_chk7 v431 v442), ∀ (k0_h1 : k0_cond1 v431 = 1#1), ∀ a x, ((![v442] : Fin 1 → IVec S16 32) a x).toNat < S43520.size a := fun v431 v442 k0_hw7 k0_h1 => k0_hw7 k0_h1

def k0_chk8 (v431 : BitVec 32) (v445 : IVec S16 32) : Prop :=
  (∀ (k0_h1 : k0_cond1 v431 = 1#1), ∀ a x, ((![v445] : Fin 1 → IVec S16 32) a x).toNat < S43520.size a)
theorem k0_idx7_inb : ∀ (v431 : BitVec 32) (v445 : IVec S16 32) (k0_hw8 : k0_chk8 v431 v445), ∀ (k0_h1 : k0_cond1 v431 = 1#1), ∀ a x, ((![v445] : Fin 1 → IVec S16 32) a x).toNat < S43520.size a := fun v431 v445 k0_hw8 k0_h1 => k0_hw8 k0_h1

def k0_chk9 (v431 : BitVec 32) (v448 : IVec S16 32) : Prop :=
  (∀ (k0_h1 : k0_cond1 v431 = 1#1), ∀ a x, ((![v448] : Fin 1 → IVec S16 32) a x).toNat < S43520.size a)
theorem k0_idx8_inb : ∀ (v431 : BitVec 32) (v448 : IVec S16 32) (k0_hw9 : k0_chk9 v431 v448), ∀ (k0_h1 : k0_cond1 v431 = 1#1), ∀ a x, ((![v448] : Fin 1 → IVec S16 32) a x).toNat < S43520.size a := fun v431 v448 k0_hw9 k0_h1 => k0_hw9 k0_h1

def k0_chk10 (v431 : BitVec 32) (v451 : IVec S16 32) : Prop :=
  (∀ (k0_h1 : k0_cond1 v431 = 1#1), ∀ a x, ((![v451] : Fin 1 → IVec S16 32) a x).toNat < S43520.size a)
theorem k0_idx9_inb : ∀ (v431 : BitVec 32) (v451 : IVec S16 32) (k0_hw10 : k0_chk10 v431 v451), ∀ (k0_h1 : k0_cond1 v431 = 1#1), ∀ a x, ((![v451] : Fin 1 → IVec S16 32) a x).toNat < S43520.size a := fun v431 v451 k0_hw10 k0_h1 => k0_hw10 k0_h1

def k0_chk11 (v431 : BitVec 32) (v454 : IVec S16 32) : Prop :=
  (∀ (k0_h1 : k0_cond1 v431 = 1#1), ∀ a x, ((![v454] : Fin 1 → IVec S16 32) a x).toNat < S43520.size a)
theorem k0_idx10_inb : ∀ (v431 : BitVec 32) (v454 : IVec S16 32) (k0_hw11 : k0_chk11 v431 v454), ∀ (k0_h1 : k0_cond1 v431 = 1#1), ∀ a x, ((![v454] : Fin 1 → IVec S16 32) a x).toNat < S43520.size a := fun v431 v454 k0_hw11 k0_h1 => k0_hw11 k0_h1

def k0_chk12 (v431 : BitVec 32) (v457 : IVec S16 32) : Prop :=
  (∀ (k0_h1 : k0_cond1 v431 = 1#1), ∀ a x, ((![v457] : Fin 1 → IVec S16 32) a x).toNat < S43520.size a)
theorem k0_idx11_inb : ∀ (v431 : BitVec 32) (v457 : IVec S16 32) (k0_hw12 : k0_chk12 v431 v457), ∀ (k0_h1 : k0_cond1 v431 = 1#1), ∀ a x, ((![v457] : Fin 1 → IVec S16 32) a x).toNat < S43520.size a := fun v431 v457 k0_hw12 k0_h1 => k0_hw12 k0_h1

def k0_chk13 (v431 : BitVec 32) (v460 : IVec S16 32) : Prop :=
  (∀ (k0_h1 : k0_cond1 v431 = 1#1), ∀ a x, ((![v460] : Fin 1 → IVec S16 32) a x).toNat < S43520.size a)
theorem k0_idx12_inb : ∀ (v431 : BitVec 32) (v460 : IVec S16 32) (k0_hw13 : k0_chk13 v431 v460), ∀ (k0_h1 : k0_cond1 v431 = 1#1), ∀ a x, ((![v460] : Fin 1 → IVec S16 32) a x).toNat < S43520.size a := fun v431 v460 k0_hw13 k0_h1 => k0_hw13 k0_h1

def k0_chk14 (v431 : BitVec 32) (v463 : IVec S16 32) : Prop :=
  (∀ (k0_h1 : k0_cond1 v431 = 1#1), ∀ a x, ((![v463] : Fin 1 → IVec S16 32) a x).toNat < S43520.size a)
theorem k0_idx13_inb : ∀ (v431 : BitVec 32) (v463 : IVec S16 32) (k0_hw14 : k0_chk14 v431 v463), ∀ (k0_h1 : k0_cond1 v431 = 1#1), ∀ a x, ((![v463] : Fin 1 → IVec S16 32) a x).toNat < S43520.size a := fun v431 v463 k0_hw14 k0_h1 => k0_hw14 k0_h1

def k0_chk15 (v431 : BitVec 32) (v466 : IVec S16 32) : Prop :=
  (∀ (k0_h1 : k0_cond1 v431 = 1#1), ∀ a x, ((![v466] : Fin 1 → IVec S16 32) a x).toNat < S43520.size a)
theorem k0_idx14_inb : ∀ (v431 : BitVec 32) (v466 : IVec S16 32) (k0_hw15 : k0_chk15 v431 v466), ∀ (k0_h1 : k0_cond1 v431 = 1#1), ∀ a x, ((![v466] : Fin 1 → IVec S16 32) a x).toNat < S43520.size a := fun v431 v466 k0_hw15 k0_h1 => k0_hw15 k0_h1

def k0_chk16 (v431 : BitVec 32) (v477 : IVec S16 32) : Prop :=
  (∀ (k0_h1 : k0_cond1 v431 = 1#1), ∀ a x, ((![v477] : Fin 1 → IVec S16 32) a x).toNat < S43520.size a)
theorem k0_idx15_inb : ∀ (v431 : BitVec 32) (v477 : IVec S16 32) (k0_hw16 : k0_chk16 v431 v477), ∀ (k0_h1 : k0_cond1 v431 = 1#1), ∀ a x, ((![v477] : Fin 1 → IVec S16 32) a x).toNat < S43520.size a := fun v431 v477 k0_hw16 k0_h1 => k0_hw16 k0_h1

def k0_chk17 (v431 : BitVec 32) (v480 : IVec S16 32) : Prop :=
  (∀ (k0_h1 : k0_cond1 v431 = 1#1), ∀ a x, ((![v480] : Fin 1 → IVec S16 32) a x).toNat < S43520.size a)
theorem k0_idx16_inb : ∀ (v431 : BitVec 32) (v480 : IVec S16 32) (k0_hw17 : k0_chk17 v431 v480), ∀ (k0_h1 : k0_cond1 v431 = 1#1), ∀ a x, ((![v480] : Fin 1 → IVec S16 32) a x).toNat < S43520.size a := fun v431 v480 k0_hw17 k0_h1 => k0_hw17 k0_h1

def k0_chk18 (v431 : BitVec 32) (v492 : IVec S16 32) : Prop :=
  (∀ (k0_h1 : k0_cond1 v431 = 1#1), ∀ a x, ((![v492] : Fin 1 → IVec S16 32) a x).toNat < S43520.size a)
theorem k0_idx17_inb : ∀ (v431 : BitVec 32) (v492 : IVec S16 32) (k0_hw18 : k0_chk18 v431 v492), ∀ (k0_h1 : k0_cond1 v431 = 1#1), ∀ a x, ((![v492] : Fin 1 → IVec S16 32) a x).toNat < S43520.size a := fun v431 v492 k0_hw18 k0_h1 => k0_hw18 k0_h1

def k0_chk19 (v431 : BitVec 32) (v495 : IVec S16 32) : Prop :=
  (∀ (k0_h1 : k0_cond1 v431 = 1#1), ∀ a x, ((![v495] : Fin 1 → IVec S16 32) a x).toNat < S43520.size a)
theorem k0_idx18_inb : ∀ (v431 : BitVec 32) (v495 : IVec S16 32) (k0_hw19 : k0_chk19 v431 v495), ∀ (k0_h1 : k0_cond1 v431 = 1#1), ∀ a x, ((![v495] : Fin 1 → IVec S16 32) a x).toNat < S43520.size a := fun v431 v495 k0_hw19 k0_h1 => k0_hw19 k0_h1

def k0_chk20 (v431 : BitVec 32) (v507 : IVec S16 32) : Prop :=
  (∀ (k0_h1 : k0_cond1 v431 = 1#1), ∀ a x, ((![v507] : Fin 1 → IVec S16 32) a x).toNat < S43520.size a)
theorem k0_idx19_inb : ∀ (v431 : BitVec 32) (v507 : IVec S16 32) (k0_hw20 : k0_chk20 v431 v507), ∀ (k0_h1 : k0_cond1 v431 = 1#1), ∀ a x, ((![v507] : Fin 1 → IVec S16 32) a x).toNat < S43520.size a := fun v431 v507 k0_hw20 k0_h1 => k0_hw20 k0_h1

def k0_chk21 (v431 : BitVec 32) (v518 : IVec S16 32) : Prop :=
  (∀ (k0_h1 : k0_cond1 v431 = 1#1), ∀ a x, ((![v518] : Fin 1 → IVec S16 32) a x).toNat < S4096.size a)
theorem k0_idx20_inb : ∀ (v431 : BitVec 32) (v518 : IVec S16 32) (k0_hw21 : k0_chk21 v431 v518), ∀ (k0_h1 : k0_cond1 v431 = 1#1), ∀ a x, ((![v518] : Fin 1 → IVec S16 32) a x).toNat < S4096.size a := fun v431 v518 k0_hw21 k0_h1 => k0_hw21 k0_h1

def k0_chk22 (v431 : BitVec 32) (v520 : IVec S16 32) : Prop :=
  (∀ (k0_h1 : k0_cond1 v431 = 1#1), ∀ a x, ((![v520] : Fin 1 → IVec S16 32) a x).toNat < S43520.size a)
theorem k0_idx21_inb : ∀ (v431 : BitVec 32) (v520 : IVec S16 32) (k0_hw22 : k0_chk22 v431 v520), ∀ (k0_h1 : k0_cond1 v431 = 1#1), ∀ a x, ((![v520] : Fin 1 → IVec S16 32) a x).toNat < S43520.size a := fun v431 v520 k0_hw22 k0_h1 => k0_hw22 k0_h1

def k0_chk23 (v431 : BitVec 32) (v523 : IVec S16 32) : Prop :=
  (∀ (k0_h1 : k0_cond1 v431 = 1#1), ∀ a x, ((![v523] : Fin 1 → IVec S16 32) a x).toNat < S4096.size a)
theorem k0_idx22_inb : ∀ (v431 : BitVec 32) (v523 : IVec S16 32) (k0_hw23 : k0_chk23 v431 v523), ∀ (k0_h1 : k0_cond1 v431 = 1#1), ∀ a x, ((![v523] : Fin 1 → IVec S16 32) a x).toNat < S4096.size a := fun v431 v523 k0_hw23 k0_h1 => k0_hw23 k0_h1

def k0_chk24 (v431 : BitVec 32) (v526 : IVec S16 32) : Prop :=
  (∀ (k0_h1 : k0_cond1 v431 = 1#1), ∀ a x, ((![v526] : Fin 1 → IVec S16 32) a x).toNat < S43520.size a)
theorem k0_idx23_inb : ∀ (v431 : BitVec 32) (v526 : IVec S16 32) (k0_hw24 : k0_chk24 v431 v526), ∀ (k0_h1 : k0_cond1 v431 = 1#1), ∀ a x, ((![v526] : Fin 1 → IVec S16 32) a x).toNat < S43520.size a := fun v431 v526 k0_hw24 k0_h1 => k0_hw24 k0_h1

def k0_chk25 (v431 : BitVec 32) (v529 : IVec S16 32) : Prop :=
  (∀ (k0_h1 : k0_cond1 v431 = 1#1), ∀ a x, ((![v529] : Fin 1 → IVec S16 32) a x).toNat < S4096.size a)
theorem k0_idx24_inb : ∀ (v431 : BitVec 32) (v529 : IVec S16 32) (k0_hw25 : k0_chk25 v431 v529), ∀ (k0_h1 : k0_cond1 v431 = 1#1), ∀ a x, ((![v529] : Fin 1 → IVec S16 32) a x).toNat < S4096.size a := fun v431 v529 k0_hw25 k0_h1 => k0_hw25 k0_h1

def k0_chk26 (v431 : BitVec 32) (v532 : IVec S16 32) : Prop :=
  (∀ (k0_h1 : k0_cond1 v431 = 1#1), ∀ a x, ((![v532] : Fin 1 → IVec S16 32) a x).toNat < S43520.size a)
theorem k0_idx25_inb : ∀ (v431 : BitVec 32) (v532 : IVec S16 32) (k0_hw26 : k0_chk26 v431 v532), ∀ (k0_h1 : k0_cond1 v431 = 1#1), ∀ a x, ((![v532] : Fin 1 → IVec S16 32) a x).toNat < S43520.size a := fun v431 v532 k0_hw26 k0_h1 => k0_hw26 k0_h1

def k0_chk27 (v431 : BitVec 32) (v535 : IVec S16 32) : Prop :=
  (∀ (k0_h1 : k0_cond1 v431 = 1#1), ∀ a x, ((![v535] : Fin 1 → IVec S16 32) a x).toNat < S4096.size a)
theorem k0_idx26_inb : ∀ (v431 : BitVec 32) (v535 : IVec S16 32) (k0_hw27 : k0_chk27 v431 v535), ∀ (k0_h1 : k0_cond1 v431 = 1#1), ∀ a x, ((![v535] : Fin 1 → IVec S16 32) a x).toNat < S4096.size a := fun v431 v535 k0_hw27 k0_h1 => k0_hw27 k0_h1

def k0_chk28 (v431 : BitVec 32) (v538 : IVec S16 32) : Prop :=
  (∀ (k0_h1 : k0_cond1 v431 = 1#1), ∀ a x, ((![v538] : Fin 1 → IVec S16 32) a x).toNat < S43520.size a)
theorem k0_idx27_inb : ∀ (v431 : BitVec 32) (v538 : IVec S16 32) (k0_hw28 : k0_chk28 v431 v538), ∀ (k0_h1 : k0_cond1 v431 = 1#1), ∀ a x, ((![v538] : Fin 1 → IVec S16 32) a x).toNat < S43520.size a := fun v431 v538 k0_hw28 k0_h1 => k0_hw28 k0_h1

def k0_chk29 (v431 : BitVec 32) (v541 : IVec S16 32) : Prop :=
  (∀ (k0_h1 : k0_cond1 v431 = 1#1), ∀ a x, ((![v541] : Fin 1 → IVec S16 32) a x).toNat < S4096.size a)
theorem k0_idx28_inb : ∀ (v431 : BitVec 32) (v541 : IVec S16 32) (k0_hw29 : k0_chk29 v431 v541), ∀ (k0_h1 : k0_cond1 v431 = 1#1), ∀ a x, ((![v541] : Fin 1 → IVec S16 32) a x).toNat < S4096.size a := fun v431 v541 k0_hw29 k0_h1 => k0_hw29 k0_h1

def k0_chk30 (v431 : BitVec 32) (v544 : IVec S16 32) : Prop :=
  (∀ (k0_h1 : k0_cond1 v431 = 1#1), ∀ a x, ((![v544] : Fin 1 → IVec S16 32) a x).toNat < S43520.size a)
theorem k0_idx29_inb : ∀ (v431 : BitVec 32) (v544 : IVec S16 32) (k0_hw30 : k0_chk30 v431 v544), ∀ (k0_h1 : k0_cond1 v431 = 1#1), ∀ a x, ((![v544] : Fin 1 → IVec S16 32) a x).toNat < S43520.size a := fun v431 v544 k0_hw30 k0_h1 => k0_hw30 k0_h1

def k0_chk31 (v431 : BitVec 32) (v547 : IVec S16 32) : Prop :=
  (∀ (k0_h1 : k0_cond1 v431 = 1#1), ∀ a x, ((![v547] : Fin 1 → IVec S16 32) a x).toNat < S4096.size a)
theorem k0_idx30_inb : ∀ (v431 : BitVec 32) (v547 : IVec S16 32) (k0_hw31 : k0_chk31 v431 v547), ∀ (k0_h1 : k0_cond1 v431 = 1#1), ∀ a x, ((![v547] : Fin 1 → IVec S16 32) a x).toNat < S4096.size a := fun v431 v547 k0_hw31 k0_h1 => k0_hw31 k0_h1

def k0_chk32 (v431 : BitVec 32) (v550 : IVec S16 32) : Prop :=
  (∀ (k0_h1 : k0_cond1 v431 = 1#1), ∀ a x, ((![v550] : Fin 1 → IVec S16 32) a x).toNat < S43520.size a)
theorem k0_idx31_inb : ∀ (v431 : BitVec 32) (v550 : IVec S16 32) (k0_hw32 : k0_chk32 v431 v550), ∀ (k0_h1 : k0_cond1 v431 = 1#1), ∀ a x, ((![v550] : Fin 1 → IVec S16 32) a x).toNat < S43520.size a := fun v431 v550 k0_hw32 k0_h1 => k0_hw32 k0_h1

def k0_chk33 (v431 : BitVec 32) (v553 : IVec S16 32) : Prop :=
  (∀ (k0_h1 : k0_cond1 v431 = 1#1), ∀ a x, ((![v553] : Fin 1 → IVec S16 32) a x).toNat < S4096.size a)
theorem k0_idx32_inb : ∀ (v431 : BitVec 32) (v553 : IVec S16 32) (k0_hw33 : k0_chk33 v431 v553), ∀ (k0_h1 : k0_cond1 v431 = 1#1), ∀ a x, ((![v553] : Fin 1 → IVec S16 32) a x).toNat < S4096.size a := fun v431 v553 k0_hw33 k0_h1 => k0_hw33 k0_h1

def k0_chk34 (v431 : BitVec 32) (v556 : IVec S16 32) : Prop :=
  (∀ (k0_h1 : k0_cond1 v431 = 1#1), ∀ a x, ((![v556] : Fin 1 → IVec S16 32) a x).toNat < S43520.size a)
theorem k0_idx33_inb : ∀ (v431 : BitVec 32) (v556 : IVec S16 32) (k0_hw34 : k0_chk34 v431 v556), ∀ (k0_h1 : k0_cond1 v431 = 1#1), ∀ a x, ((![v556] : Fin 1 → IVec S16 32) a x).toNat < S43520.size a := fun v431 v556 k0_hw34 k0_h1 => k0_hw34 k0_h1

def k0_chk35 (v431 : BitVec 32) (v559 : IVec S16 32) : Prop :=
  (∀ (k0_h1 : k0_cond1 v431 = 1#1), ∀ a x, ((![v559] : Fin 1 → IVec S16 32) a x).toNat < S4096.size a)
theorem k0_idx34_inb : ∀ (v431 : BitVec 32) (v559 : IVec S16 32) (k0_hw35 : k0_chk35 v431 v559), ∀ (k0_h1 : k0_cond1 v431 = 1#1), ∀ a x, ((![v559] : Fin 1 → IVec S16 32) a x).toNat < S4096.size a := fun v431 v559 k0_hw35 k0_h1 => k0_hw35 k0_h1

def k0_chk36 (v431 : BitVec 32) (v562 : IVec S16 32) : Prop :=
  (∀ (k0_h1 : k0_cond1 v431 = 1#1), ∀ a x, ((![v562] : Fin 1 → IVec S16 32) a x).toNat < S43520.size a)
theorem k0_idx35_inb : ∀ (v431 : BitVec 32) (v562 : IVec S16 32) (k0_hw36 : k0_chk36 v431 v562), ∀ (k0_h1 : k0_cond1 v431 = 1#1), ∀ a x, ((![v562] : Fin 1 → IVec S16 32) a x).toNat < S43520.size a := fun v431 v562 k0_hw36 k0_h1 => k0_hw36 k0_h1

def k0_chk37 (v431 : BitVec 32) (v565 : IVec S16 32) : Prop :=
  (∀ (k0_h1 : k0_cond1 v431 = 1#1), ∀ a x, ((![v565] : Fin 1 → IVec S16 32) a x).toNat < S4096.size a)
theorem k0_idx36_inb : ∀ (v431 : BitVec 32) (v565 : IVec S16 32) (k0_hw37 : k0_chk37 v431 v565), ∀ (k0_h1 : k0_cond1 v431 = 1#1), ∀ a x, ((![v565] : Fin 1 → IVec S16 32) a x).toNat < S4096.size a := fun v431 v565 k0_hw37 k0_h1 => k0_hw37 k0_h1

def k0_chk38 (v431 : BitVec 32) (v568 : IVec S16 32) : Prop :=
  (∀ (k0_h1 : k0_cond1 v431 = 1#1), ∀ a x, ((![v568] : Fin 1 → IVec S16 32) a x).toNat < S43520.size a)
theorem k0_idx37_inb : ∀ (v431 : BitVec 32) (v568 : IVec S16 32) (k0_hw38 : k0_chk38 v431 v568), ∀ (k0_h1 : k0_cond1 v431 = 1#1), ∀ a x, ((![v568] : Fin 1 → IVec S16 32) a x).toNat < S43520.size a := fun v431 v568 k0_hw38 k0_h1 => k0_hw38 k0_h1

def k0_chk39 (v431 : BitVec 32) (v571 : IVec S16 32) : Prop :=
  (∀ (k0_h1 : k0_cond1 v431 = 1#1), ∀ a x, ((![v571] : Fin 1 → IVec S16 32) a x).toNat < S4096.size a)
theorem k0_idx38_inb : ∀ (v431 : BitVec 32) (v571 : IVec S16 32) (k0_hw39 : k0_chk39 v431 v571), ∀ (k0_h1 : k0_cond1 v431 = 1#1), ∀ a x, ((![v571] : Fin 1 → IVec S16 32) a x).toNat < S4096.size a := fun v431 v571 k0_hw39 k0_h1 => k0_hw39 k0_h1

def k0_chk40 (v431 : BitVec 32) (v574 : IVec S16 32) : Prop :=
  (∀ (k0_h1 : k0_cond1 v431 = 1#1), ∀ a x, ((![v574] : Fin 1 → IVec S16 32) a x).toNat < S43520.size a)
theorem k0_idx39_inb : ∀ (v431 : BitVec 32) (v574 : IVec S16 32) (k0_hw40 : k0_chk40 v431 v574), ∀ (k0_h1 : k0_cond1 v431 = 1#1), ∀ a x, ((![v574] : Fin 1 → IVec S16 32) a x).toNat < S43520.size a := fun v431 v574 k0_hw40 k0_h1 => k0_hw40 k0_h1

def k0_chk41 (v431 : BitVec 32) (v577 : IVec S16 32) : Prop :=
  (∀ (k0_h1 : k0_cond1 v431 = 1#1), ∀ a x, ((![v577] : Fin 1 → IVec S16 32) a x).toNat < S4096.size a)
theorem k0_idx40_inb : ∀ (v431 : BitVec 32) (v577 : IVec S16 32) (k0_hw41 : k0_chk41 v431 v577), ∀ (k0_h1 : k0_cond1 v431 = 1#1), ∀ a x, ((![v577] : Fin 1 → IVec S16 32) a x).toNat < S4096.size a := fun v431 v577 k0_hw41 k0_h1 => k0_hw41 k0_h1

def k0_chk42 (v431 : BitVec 32) (v580 : IVec S16 32) : Prop :=
  (∀ (k0_h1 : k0_cond1 v431 = 1#1), ∀ a x, ((![v580] : Fin 1 → IVec S16 32) a x).toNat < S43520.size a)
theorem k0_idx41_inb : ∀ (v431 : BitVec 32) (v580 : IVec S16 32) (k0_hw42 : k0_chk42 v431 v580), ∀ (k0_h1 : k0_cond1 v431 = 1#1), ∀ a x, ((![v580] : Fin 1 → IVec S16 32) a x).toNat < S43520.size a := fun v431 v580 k0_hw42 k0_h1 => k0_hw42 k0_h1

def k0_chk43 (v431 : BitVec 32) (v583 : IVec S16 32) : Prop :=
  (∀ (k0_h1 : k0_cond1 v431 = 1#1), ∀ a x, ((![v583] : Fin 1 → IVec S16 32) a x).toNat < S4096.size a)
theorem k0_idx42_inb : ∀ (v431 : BitVec 32) (v583 : IVec S16 32) (k0_hw43 : k0_chk43 v431 v583), ∀ (k0_h1 : k0_cond1 v431 = 1#1), ∀ a x, ((![v583] : Fin 1 → IVec S16 32) a x).toNat < S4096.size a := fun v431 v583 k0_hw43 k0_h1 => k0_hw43 k0_h1

def k0_chk44 (v431 : BitVec 32) (v586 : IVec S16 32) : Prop :=
  (∀ (k0_h1 : k0_cond1 v431 = 1#1), ∀ a x, ((![v586] : Fin 1 → IVec S16 32) a x).toNat < S43520.size a)
theorem k0_idx43_inb : ∀ (v431 : BitVec 32) (v586 : IVec S16 32) (k0_hw44 : k0_chk44 v431 v586), ∀ (k0_h1 : k0_cond1 v431 = 1#1), ∀ a x, ((![v586] : Fin 1 → IVec S16 32) a x).toNat < S43520.size a := fun v431 v586 k0_hw44 k0_h1 => k0_hw44 k0_h1

def k0_chk45 (v431 : BitVec 32) (v589 : IVec S16 32) : Prop :=
  (∀ (k0_h1 : k0_cond1 v431 = 1#1), ∀ a x, ((![v589] : Fin 1 → IVec S16 32) a x).toNat < S4096.size a)
theorem k0_idx44_inb : ∀ (v431 : BitVec 32) (v589 : IVec S16 32) (k0_hw45 : k0_chk45 v431 v589), ∀ (k0_h1 : k0_cond1 v431 = 1#1), ∀ a x, ((![v589] : Fin 1 → IVec S16 32) a x).toNat < S4096.size a := fun v431 v589 k0_hw45 k0_h1 => k0_hw45 k0_h1

def k0_chk46 (v431 : BitVec 32) (v592 : IVec S16 32) : Prop :=
  (∀ (k0_h1 : k0_cond1 v431 = 1#1), ∀ a x, ((![v592] : Fin 1 → IVec S16 32) a x).toNat < S43520.size a)
theorem k0_idx45_inb : ∀ (v431 : BitVec 32) (v592 : IVec S16 32) (k0_hw46 : k0_chk46 v431 v592), ∀ (k0_h1 : k0_cond1 v431 = 1#1), ∀ a x, ((![v592] : Fin 1 → IVec S16 32) a x).toNat < S43520.size a := fun v431 v592 k0_hw46 k0_h1 => k0_hw46 k0_h1

def k0_chk47 (v431 : BitVec 32) (v595 : IVec S16 32) : Prop :=
  (∀ (k0_h1 : k0_cond1 v431 = 1#1), ∀ a x, ((![v595] : Fin 1 → IVec S16 32) a x).toNat < S4096.size a)
theorem k0_idx46_inb : ∀ (v431 : BitVec 32) (v595 : IVec S16 32) (k0_hw47 : k0_chk47 v431 v595), ∀ (k0_h1 : k0_cond1 v431 = 1#1), ∀ a x, ((![v595] : Fin 1 → IVec S16 32) a x).toNat < S4096.size a := fun v431 v595 k0_hw47 k0_h1 => k0_hw47 k0_h1

def k0_chk48 (v431 : BitVec 32) (v598 : IVec S16 32) : Prop :=
  (∀ (k0_h1 : k0_cond1 v431 = 1#1), ∀ a x, ((![v598] : Fin 1 → IVec S16 32) a x).toNat < S43520.size a)
theorem k0_idx47_inb : ∀ (v431 : BitVec 32) (v598 : IVec S16 32) (k0_hw48 : k0_chk48 v431 v598), ∀ (k0_h1 : k0_cond1 v431 = 1#1), ∀ a x, ((![v598] : Fin 1 → IVec S16 32) a x).toNat < S43520.size a := fun v431 v598 k0_hw48 k0_h1 => k0_hw48 k0_h1

def k0_chk49 (v431 : BitVec 32) (v601 : IVec S16 32) : Prop :=
  (∀ (k0_h1 : k0_cond1 v431 = 1#1), ∀ a x, ((![v601] : Fin 1 → IVec S16 32) a x).toNat < S4096.size a)
theorem k0_idx48_inb : ∀ (v431 : BitVec 32) (v601 : IVec S16 32) (k0_hw49 : k0_chk49 v431 v601), ∀ (k0_h1 : k0_cond1 v431 = 1#1), ∀ a x, ((![v601] : Fin 1 → IVec S16 32) a x).toNat < S4096.size a := fun v431 v601 k0_hw49 k0_h1 => k0_hw49 k0_h1

def k0_chk50 (v431 : BitVec 32) (v604 : IVec S16 32) : Prop :=
  (∀ (k0_h1 : k0_cond1 v431 = 1#1), ∀ a x, ((![v604] : Fin 1 → IVec S16 32) a x).toNat < S43520.size a)
theorem k0_idx49_inb : ∀ (v431 : BitVec 32) (v604 : IVec S16 32) (k0_hw50 : k0_chk50 v431 v604), ∀ (k0_h1 : k0_cond1 v431 = 1#1), ∀ a x, ((![v604] : Fin 1 → IVec S16 32) a x).toNat < S43520.size a := fun v431 v604 k0_hw50 k0_h1 => k0_hw50 k0_h1

def k0_chk51 (v431 : BitVec 32) (v607 : IVec S16 32) : Prop :=
  (∀ (k0_h1 : k0_cond1 v431 = 1#1), ∀ a x, ((![v607] : Fin 1 → IVec S16 32) a x).toNat < S4096.size a)
theorem k0_idx50_inb : ∀ (v431 : BitVec 32) (v607 : IVec S16 32) (k0_hw51 : k0_chk51 v431 v607), ∀ (k0_h1 : k0_cond1 v431 = 1#1), ∀ a x, ((![v607] : Fin 1 → IVec S16 32) a x).toNat < S4096.size a := fun v431 v607 k0_hw51 k0_h1 => k0_hw51 k0_h1

def k0_chk52 (v431 : BitVec 32) (v610 : IVec S16 32) : Prop :=
  (∀ (k0_h1 : k0_cond1 v431 = 1#1), ∀ a x, ((![v610] : Fin 1 → IVec S16 32) a x).toNat < S43520.size a)
theorem k0_idx51_inb : ∀ (v431 : BitVec 32) (v610 : IVec S16 32) (k0_hw52 : k0_chk52 v431 v610), ∀ (k0_h1 : k0_cond1 v431 = 1#1), ∀ a x, ((![v610] : Fin 1 → IVec S16 32) a x).toNat < S43520.size a := fun v431 v610 k0_hw52 k0_h1 => k0_hw52 k0_h1

def k0_chk53 (v431 : BitVec 32) (v613 : IVec S16 32) : Prop :=
  (∀ (k0_h1 : k0_cond1 v431 = 1#1), ∀ a x, ((![v613] : Fin 1 → IVec S16 32) a x).toNat < S4096.size a)
theorem k0_idx52_inb : ∀ (v431 : BitVec 32) (v613 : IVec S16 32) (k0_hw53 : k0_chk53 v431 v613), ∀ (k0_h1 : k0_cond1 v431 = 1#1), ∀ a x, ((![v613] : Fin 1 → IVec S16 32) a x).toNat < S4096.size a := fun v431 v613 k0_hw53 k0_h1 => k0_hw53 k0_h1

def k0_chk54 (v431 : BitVec 32) (v616 : IVec S16 32) : Prop :=
  (∀ (k0_h1 : k0_cond1 v431 = 1#1), ∀ a x, ((![v616] : Fin 1 → IVec S16 32) a x).toNat < S43520.size a)
theorem k0_idx53_inb : ∀ (v431 : BitVec 32) (v616 : IVec S16 32) (k0_hw54 : k0_chk54 v431 v616), ∀ (k0_h1 : k0_cond1 v431 = 1#1), ∀ a x, ((![v616] : Fin 1 → IVec S16 32) a x).toNat < S43520.size a := fun v431 v616 k0_hw54 k0_h1 => k0_hw54 k0_h1

def k0_chk55 (v431 : BitVec 32) (v619 : IVec S16 32) : Prop :=
  (∀ (k0_h1 : k0_cond1 v431 = 1#1), ∀ a x, ((![v619] : Fin 1 → IVec S16 32) a x).toNat < S4096.size a)
theorem k0_idx54_inb : ∀ (v431 : BitVec 32) (v619 : IVec S16 32) (k0_hw55 : k0_chk55 v431 v619), ∀ (k0_h1 : k0_cond1 v431 = 1#1), ∀ a x, ((![v619] : Fin 1 → IVec S16 32) a x).toNat < S4096.size a := fun v431 v619 k0_hw55 k0_h1 => k0_hw55 k0_h1

def k0_chk56 (v431 : BitVec 32) (v622 : IVec S16 32) : Prop :=
  (∀ (k0_h1 : k0_cond1 v431 = 1#1), ∀ a x, ((![v622] : Fin 1 → IVec S16 32) a x).toNat < S43520.size a)
theorem k0_idx55_inb : ∀ (v431 : BitVec 32) (v622 : IVec S16 32) (k0_hw56 : k0_chk56 v431 v622), ∀ (k0_h1 : k0_cond1 v431 = 1#1), ∀ a x, ((![v622] : Fin 1 → IVec S16 32) a x).toNat < S43520.size a := fun v431 v622 k0_hw56 k0_h1 => k0_hw56 k0_h1

def k0_chk57 (v431 : BitVec 32) (v625 : IVec S16 32) : Prop :=
  (∀ (k0_h1 : k0_cond1 v431 = 1#1), ∀ a x, ((![v625] : Fin 1 → IVec S16 32) a x).toNat < S4096.size a)
theorem k0_idx56_inb : ∀ (v431 : BitVec 32) (v625 : IVec S16 32) (k0_hw57 : k0_chk57 v431 v625), ∀ (k0_h1 : k0_cond1 v431 = 1#1), ∀ a x, ((![v625] : Fin 1 → IVec S16 32) a x).toNat < S4096.size a := fun v431 v625 k0_hw57 k0_h1 => k0_hw57 k0_h1
@[reducible] def k0_t4_loop (v123 : BitVec 32) : Scf.Loop 32 :=
  let c0_i32_46 : BitVec 32 := 0#32
  let v124 : BitVec 32 := Scalar.subi v123 c0_i32_46
  let c1_i32_47 : BitVec 32 := 1#32
  let v126 : BitVec 32 := Scalar.divsi v124 c1_i32_47
  let v127 : BitVec 32 := Scalar.muli v126 c1_i32_47
  let v128 : BitVec 32 := Scalar.addi c0_i32_46 v127
  let v125 : BitVec 32 := Scalar.addi c0_i32_46 v124
  let c1_i32_49 : BitVec 32 := 1#32
  ⟨v128, v125, c1_i32_49⟩

def k0_chk2 (v123 : BitVec 32) : Prop :=
  ((k0_t3_loop v123).OK) ∧
  ((k0_t4_loop v123).OK)
theorem k0_t3_ok : ∀ (v123 : BitVec 32) (k0_hw2 : k0_chk2 v123), (k0_t3_loop v123).OK := fun v123 k0_hw2 => k0_hw2.1
theorem k0_t4_ok : ∀ (v123 : BitVec 32) (k0_hw2 : k0_chk2 v123), (k0_t4_loop v123).OK := fun v123 k0_hw2 => k0_hw2.2

def k0_chk58 (v391 : IVec S16 32) : Prop :=
  (∀ a x, ((![v391] : Fin 1 → IVec S16 32) a x).toNat < S14336.size a)
theorem k0_idx57_inb : ∀ (v391 : IVec S16 32) (k0_hw58 : k0_chk58 v391), ∀ a x, ((![v391] : Fin 1 → IVec S16 32) a x).toNat < S14336.size a := fun v391 k0_hw58 => k0_hw58

def k0_chk59 (v399 : IVec S16 32) : Prop :=
  (∀ a x, ((![v399] : Fin 1 → IVec S16 32) a x).toNat < S1280.size a)
theorem k0_idx58_inb : ∀ (v399 : IVec S16 32) (k0_hw59 : k0_chk59 v399), ∀ a x, ((![v399] : Fin 1 → IVec S16 32) a x).toNat < S1280.size a := fun v399 k0_hw59 => k0_hw59
def k0_cond2 (v431 : BitVec 32) : BitVec 1 :=
  let c0_i32_170 : BitVec 32 := 0#32
  let v432 : BitVec 1 := Scalar.cmpi .sgt v431 c0_i32_170
  let v433 : BitVec 32 := Scalar.extui v432
  let c0_i32_171 : BitVec 32 := 0#32
  let v434 : BitVec 1 := Scalar.cmpi .ne v433 c0_i32_171
  v434

def k0_chk60 (v431 : BitVec 32) (v436 : IVec S16 32) : Prop :=
  (∀ (k0_h2 : k0_cond2 v431 = 1#1), ∀ a x, ((![v436] : Fin 1 → IVec S16 32) a x).toNat < S43520.size a)
theorem k0_idx59_inb : ∀ (v431 : BitVec 32) (v436 : IVec S16 32) (k0_hw60 : k0_chk60 v431 v436), ∀ (k0_h2 : k0_cond2 v431 = 1#1), ∀ a x, ((![v436] : Fin 1 → IVec S16 32) a x).toNat < S43520.size a := fun v431 v436 k0_hw60 k0_h2 => k0_hw60 k0_h2

def k0_chk61 (v431 : BitVec 32) (v439 : IVec S16 32) : Prop :=
  (∀ (k0_h2 : k0_cond2 v431 = 1#1), ∀ a x, ((![v439] : Fin 1 → IVec S16 32) a x).toNat < S43520.size a)
theorem k0_idx60_inb : ∀ (v431 : BitVec 32) (v439 : IVec S16 32) (k0_hw61 : k0_chk61 v431 v439), ∀ (k0_h2 : k0_cond2 v431 = 1#1), ∀ a x, ((![v439] : Fin 1 → IVec S16 32) a x).toNat < S43520.size a := fun v431 v439 k0_hw61 k0_h2 => k0_hw61 k0_h2

def k0_chk62 (v431 : BitVec 32) (v442 : IVec S16 32) : Prop :=
  (∀ (k0_h2 : k0_cond2 v431 = 1#1), ∀ a x, ((![v442] : Fin 1 → IVec S16 32) a x).toNat < S43520.size a)
theorem k0_idx61_inb : ∀ (v431 : BitVec 32) (v442 : IVec S16 32) (k0_hw62 : k0_chk62 v431 v442), ∀ (k0_h2 : k0_cond2 v431 = 1#1), ∀ a x, ((![v442] : Fin 1 → IVec S16 32) a x).toNat < S43520.size a := fun v431 v442 k0_hw62 k0_h2 => k0_hw62 k0_h2

def k0_chk63 (v431 : BitVec 32) (v445 : IVec S16 32) : Prop :=
  (∀ (k0_h2 : k0_cond2 v431 = 1#1), ∀ a x, ((![v445] : Fin 1 → IVec S16 32) a x).toNat < S43520.size a)
theorem k0_idx62_inb : ∀ (v431 : BitVec 32) (v445 : IVec S16 32) (k0_hw63 : k0_chk63 v431 v445), ∀ (k0_h2 : k0_cond2 v431 = 1#1), ∀ a x, ((![v445] : Fin 1 → IVec S16 32) a x).toNat < S43520.size a := fun v431 v445 k0_hw63 k0_h2 => k0_hw63 k0_h2

def k0_chk64 (v431 : BitVec 32) (v448 : IVec S16 32) : Prop :=
  (∀ (k0_h2 : k0_cond2 v431 = 1#1), ∀ a x, ((![v448] : Fin 1 → IVec S16 32) a x).toNat < S43520.size a)
theorem k0_idx63_inb : ∀ (v431 : BitVec 32) (v448 : IVec S16 32) (k0_hw64 : k0_chk64 v431 v448), ∀ (k0_h2 : k0_cond2 v431 = 1#1), ∀ a x, ((![v448] : Fin 1 → IVec S16 32) a x).toNat < S43520.size a := fun v431 v448 k0_hw64 k0_h2 => k0_hw64 k0_h2

def k0_chk65 (v431 : BitVec 32) (v451 : IVec S16 32) : Prop :=
  (∀ (k0_h2 : k0_cond2 v431 = 1#1), ∀ a x, ((![v451] : Fin 1 → IVec S16 32) a x).toNat < S43520.size a)
theorem k0_idx64_inb : ∀ (v431 : BitVec 32) (v451 : IVec S16 32) (k0_hw65 : k0_chk65 v431 v451), ∀ (k0_h2 : k0_cond2 v431 = 1#1), ∀ a x, ((![v451] : Fin 1 → IVec S16 32) a x).toNat < S43520.size a := fun v431 v451 k0_hw65 k0_h2 => k0_hw65 k0_h2

def k0_chk66 (v431 : BitVec 32) (v454 : IVec S16 32) : Prop :=
  (∀ (k0_h2 : k0_cond2 v431 = 1#1), ∀ a x, ((![v454] : Fin 1 → IVec S16 32) a x).toNat < S43520.size a)
theorem k0_idx65_inb : ∀ (v431 : BitVec 32) (v454 : IVec S16 32) (k0_hw66 : k0_chk66 v431 v454), ∀ (k0_h2 : k0_cond2 v431 = 1#1), ∀ a x, ((![v454] : Fin 1 → IVec S16 32) a x).toNat < S43520.size a := fun v431 v454 k0_hw66 k0_h2 => k0_hw66 k0_h2

def k0_chk67 (v431 : BitVec 32) (v457 : IVec S16 32) : Prop :=
  (∀ (k0_h2 : k0_cond2 v431 = 1#1), ∀ a x, ((![v457] : Fin 1 → IVec S16 32) a x).toNat < S43520.size a)
theorem k0_idx66_inb : ∀ (v431 : BitVec 32) (v457 : IVec S16 32) (k0_hw67 : k0_chk67 v431 v457), ∀ (k0_h2 : k0_cond2 v431 = 1#1), ∀ a x, ((![v457] : Fin 1 → IVec S16 32) a x).toNat < S43520.size a := fun v431 v457 k0_hw67 k0_h2 => k0_hw67 k0_h2

def k0_chk68 (v431 : BitVec 32) (v460 : IVec S16 32) : Prop :=
  (∀ (k0_h2 : k0_cond2 v431 = 1#1), ∀ a x, ((![v460] : Fin 1 → IVec S16 32) a x).toNat < S43520.size a)
theorem k0_idx67_inb : ∀ (v431 : BitVec 32) (v460 : IVec S16 32) (k0_hw68 : k0_chk68 v431 v460), ∀ (k0_h2 : k0_cond2 v431 = 1#1), ∀ a x, ((![v460] : Fin 1 → IVec S16 32) a x).toNat < S43520.size a := fun v431 v460 k0_hw68 k0_h2 => k0_hw68 k0_h2

def k0_chk69 (v431 : BitVec 32) (v463 : IVec S16 32) : Prop :=
  (∀ (k0_h2 : k0_cond2 v431 = 1#1), ∀ a x, ((![v463] : Fin 1 → IVec S16 32) a x).toNat < S43520.size a)
theorem k0_idx68_inb : ∀ (v431 : BitVec 32) (v463 : IVec S16 32) (k0_hw69 : k0_chk69 v431 v463), ∀ (k0_h2 : k0_cond2 v431 = 1#1), ∀ a x, ((![v463] : Fin 1 → IVec S16 32) a x).toNat < S43520.size a := fun v431 v463 k0_hw69 k0_h2 => k0_hw69 k0_h2

def k0_chk70 (v431 : BitVec 32) (v466 : IVec S16 32) : Prop :=
  (∀ (k0_h2 : k0_cond2 v431 = 1#1), ∀ a x, ((![v466] : Fin 1 → IVec S16 32) a x).toNat < S43520.size a)
theorem k0_idx69_inb : ∀ (v431 : BitVec 32) (v466 : IVec S16 32) (k0_hw70 : k0_chk70 v431 v466), ∀ (k0_h2 : k0_cond2 v431 = 1#1), ∀ a x, ((![v466] : Fin 1 → IVec S16 32) a x).toNat < S43520.size a := fun v431 v466 k0_hw70 k0_h2 => k0_hw70 k0_h2

def k0_chk71 (v431 : BitVec 32) (v477 : IVec S16 32) : Prop :=
  (∀ (k0_h2 : k0_cond2 v431 = 1#1), ∀ a x, ((![v477] : Fin 1 → IVec S16 32) a x).toNat < S43520.size a)
theorem k0_idx70_inb : ∀ (v431 : BitVec 32) (v477 : IVec S16 32) (k0_hw71 : k0_chk71 v431 v477), ∀ (k0_h2 : k0_cond2 v431 = 1#1), ∀ a x, ((![v477] : Fin 1 → IVec S16 32) a x).toNat < S43520.size a := fun v431 v477 k0_hw71 k0_h2 => k0_hw71 k0_h2

def k0_chk72 (v431 : BitVec 32) (v480 : IVec S16 32) : Prop :=
  (∀ (k0_h2 : k0_cond2 v431 = 1#1), ∀ a x, ((![v480] : Fin 1 → IVec S16 32) a x).toNat < S43520.size a)
theorem k0_idx71_inb : ∀ (v431 : BitVec 32) (v480 : IVec S16 32) (k0_hw72 : k0_chk72 v431 v480), ∀ (k0_h2 : k0_cond2 v431 = 1#1), ∀ a x, ((![v480] : Fin 1 → IVec S16 32) a x).toNat < S43520.size a := fun v431 v480 k0_hw72 k0_h2 => k0_hw72 k0_h2

def k0_chk73 (v431 : BitVec 32) (v492 : IVec S16 32) : Prop :=
  (∀ (k0_h2 : k0_cond2 v431 = 1#1), ∀ a x, ((![v492] : Fin 1 → IVec S16 32) a x).toNat < S43520.size a)
theorem k0_idx72_inb : ∀ (v431 : BitVec 32) (v492 : IVec S16 32) (k0_hw73 : k0_chk73 v431 v492), ∀ (k0_h2 : k0_cond2 v431 = 1#1), ∀ a x, ((![v492] : Fin 1 → IVec S16 32) a x).toNat < S43520.size a := fun v431 v492 k0_hw73 k0_h2 => k0_hw73 k0_h2

def k0_chk74 (v431 : BitVec 32) (v495 : IVec S16 32) : Prop :=
  (∀ (k0_h2 : k0_cond2 v431 = 1#1), ∀ a x, ((![v495] : Fin 1 → IVec S16 32) a x).toNat < S43520.size a)
theorem k0_idx73_inb : ∀ (v431 : BitVec 32) (v495 : IVec S16 32) (k0_hw74 : k0_chk74 v431 v495), ∀ (k0_h2 : k0_cond2 v431 = 1#1), ∀ a x, ((![v495] : Fin 1 → IVec S16 32) a x).toNat < S43520.size a := fun v431 v495 k0_hw74 k0_h2 => k0_hw74 k0_h2

def k0_chk75 (v431 : BitVec 32) (v507 : IVec S16 32) : Prop :=
  (∀ (k0_h2 : k0_cond2 v431 = 1#1), ∀ a x, ((![v507] : Fin 1 → IVec S16 32) a x).toNat < S43520.size a)
theorem k0_idx74_inb : ∀ (v431 : BitVec 32) (v507 : IVec S16 32) (k0_hw75 : k0_chk75 v431 v507), ∀ (k0_h2 : k0_cond2 v431 = 1#1), ∀ a x, ((![v507] : Fin 1 → IVec S16 32) a x).toNat < S43520.size a := fun v431 v507 k0_hw75 k0_h2 => k0_hw75 k0_h2

def k0_chk76 (v431 : BitVec 32) (v518 : IVec S16 32) : Prop :=
  (∀ (k0_h2 : k0_cond2 v431 = 1#1), ∀ a x, ((![v518] : Fin 1 → IVec S16 32) a x).toNat < S4096.size a)
theorem k0_idx75_inb : ∀ (v431 : BitVec 32) (v518 : IVec S16 32) (k0_hw76 : k0_chk76 v431 v518), ∀ (k0_h2 : k0_cond2 v431 = 1#1), ∀ a x, ((![v518] : Fin 1 → IVec S16 32) a x).toNat < S4096.size a := fun v431 v518 k0_hw76 k0_h2 => k0_hw76 k0_h2

def k0_chk77 (v431 : BitVec 32) (v520 : IVec S16 32) : Prop :=
  (∀ (k0_h2 : k0_cond2 v431 = 1#1), ∀ a x, ((![v520] : Fin 1 → IVec S16 32) a x).toNat < S43520.size a)
theorem k0_idx76_inb : ∀ (v431 : BitVec 32) (v520 : IVec S16 32) (k0_hw77 : k0_chk77 v431 v520), ∀ (k0_h2 : k0_cond2 v431 = 1#1), ∀ a x, ((![v520] : Fin 1 → IVec S16 32) a x).toNat < S43520.size a := fun v431 v520 k0_hw77 k0_h2 => k0_hw77 k0_h2

def k0_chk78 (v431 : BitVec 32) (v523 : IVec S16 32) : Prop :=
  (∀ (k0_h2 : k0_cond2 v431 = 1#1), ∀ a x, ((![v523] : Fin 1 → IVec S16 32) a x).toNat < S4096.size a)
theorem k0_idx77_inb : ∀ (v431 : BitVec 32) (v523 : IVec S16 32) (k0_hw78 : k0_chk78 v431 v523), ∀ (k0_h2 : k0_cond2 v431 = 1#1), ∀ a x, ((![v523] : Fin 1 → IVec S16 32) a x).toNat < S4096.size a := fun v431 v523 k0_hw78 k0_h2 => k0_hw78 k0_h2

def k0_chk79 (v431 : BitVec 32) (v526 : IVec S16 32) : Prop :=
  (∀ (k0_h2 : k0_cond2 v431 = 1#1), ∀ a x, ((![v526] : Fin 1 → IVec S16 32) a x).toNat < S43520.size a)
theorem k0_idx78_inb : ∀ (v431 : BitVec 32) (v526 : IVec S16 32) (k0_hw79 : k0_chk79 v431 v526), ∀ (k0_h2 : k0_cond2 v431 = 1#1), ∀ a x, ((![v526] : Fin 1 → IVec S16 32) a x).toNat < S43520.size a := fun v431 v526 k0_hw79 k0_h2 => k0_hw79 k0_h2

def k0_chk80 (v431 : BitVec 32) (v529 : IVec S16 32) : Prop :=
  (∀ (k0_h2 : k0_cond2 v431 = 1#1), ∀ a x, ((![v529] : Fin 1 → IVec S16 32) a x).toNat < S4096.size a)
theorem k0_idx79_inb : ∀ (v431 : BitVec 32) (v529 : IVec S16 32) (k0_hw80 : k0_chk80 v431 v529), ∀ (k0_h2 : k0_cond2 v431 = 1#1), ∀ a x, ((![v529] : Fin 1 → IVec S16 32) a x).toNat < S4096.size a := fun v431 v529 k0_hw80 k0_h2 => k0_hw80 k0_h2

def k0_chk81 (v431 : BitVec 32) (v532 : IVec S16 32) : Prop :=
  (∀ (k0_h2 : k0_cond2 v431 = 1#1), ∀ a x, ((![v532] : Fin 1 → IVec S16 32) a x).toNat < S43520.size a)
theorem k0_idx80_inb : ∀ (v431 : BitVec 32) (v532 : IVec S16 32) (k0_hw81 : k0_chk81 v431 v532), ∀ (k0_h2 : k0_cond2 v431 = 1#1), ∀ a x, ((![v532] : Fin 1 → IVec S16 32) a x).toNat < S43520.size a := fun v431 v532 k0_hw81 k0_h2 => k0_hw81 k0_h2

def k0_chk82 (v431 : BitVec 32) (v535 : IVec S16 32) : Prop :=
  (∀ (k0_h2 : k0_cond2 v431 = 1#1), ∀ a x, ((![v535] : Fin 1 → IVec S16 32) a x).toNat < S4096.size a)
theorem k0_idx81_inb : ∀ (v431 : BitVec 32) (v535 : IVec S16 32) (k0_hw82 : k0_chk82 v431 v535), ∀ (k0_h2 : k0_cond2 v431 = 1#1), ∀ a x, ((![v535] : Fin 1 → IVec S16 32) a x).toNat < S4096.size a := fun v431 v535 k0_hw82 k0_h2 => k0_hw82 k0_h2

def k0_chk83 (v431 : BitVec 32) (v538 : IVec S16 32) : Prop :=
  (∀ (k0_h2 : k0_cond2 v431 = 1#1), ∀ a x, ((![v538] : Fin 1 → IVec S16 32) a x).toNat < S43520.size a)
theorem k0_idx82_inb : ∀ (v431 : BitVec 32) (v538 : IVec S16 32) (k0_hw83 : k0_chk83 v431 v538), ∀ (k0_h2 : k0_cond2 v431 = 1#1), ∀ a x, ((![v538] : Fin 1 → IVec S16 32) a x).toNat < S43520.size a := fun v431 v538 k0_hw83 k0_h2 => k0_hw83 k0_h2

def k0_chk84 (v431 : BitVec 32) (v541 : IVec S16 32) : Prop :=
  (∀ (k0_h2 : k0_cond2 v431 = 1#1), ∀ a x, ((![v541] : Fin 1 → IVec S16 32) a x).toNat < S4096.size a)
theorem k0_idx83_inb : ∀ (v431 : BitVec 32) (v541 : IVec S16 32) (k0_hw84 : k0_chk84 v431 v541), ∀ (k0_h2 : k0_cond2 v431 = 1#1), ∀ a x, ((![v541] : Fin 1 → IVec S16 32) a x).toNat < S4096.size a := fun v431 v541 k0_hw84 k0_h2 => k0_hw84 k0_h2

def k0_chk85 (v431 : BitVec 32) (v544 : IVec S16 32) : Prop :=
  (∀ (k0_h2 : k0_cond2 v431 = 1#1), ∀ a x, ((![v544] : Fin 1 → IVec S16 32) a x).toNat < S43520.size a)
theorem k0_idx84_inb : ∀ (v431 : BitVec 32) (v544 : IVec S16 32) (k0_hw85 : k0_chk85 v431 v544), ∀ (k0_h2 : k0_cond2 v431 = 1#1), ∀ a x, ((![v544] : Fin 1 → IVec S16 32) a x).toNat < S43520.size a := fun v431 v544 k0_hw85 k0_h2 => k0_hw85 k0_h2

def k0_chk86 (v431 : BitVec 32) (v547 : IVec S16 32) : Prop :=
  (∀ (k0_h2 : k0_cond2 v431 = 1#1), ∀ a x, ((![v547] : Fin 1 → IVec S16 32) a x).toNat < S4096.size a)
theorem k0_idx85_inb : ∀ (v431 : BitVec 32) (v547 : IVec S16 32) (k0_hw86 : k0_chk86 v431 v547), ∀ (k0_h2 : k0_cond2 v431 = 1#1), ∀ a x, ((![v547] : Fin 1 → IVec S16 32) a x).toNat < S4096.size a := fun v431 v547 k0_hw86 k0_h2 => k0_hw86 k0_h2

def k0_chk87 (v431 : BitVec 32) (v550 : IVec S16 32) : Prop :=
  (∀ (k0_h2 : k0_cond2 v431 = 1#1), ∀ a x, ((![v550] : Fin 1 → IVec S16 32) a x).toNat < S43520.size a)
theorem k0_idx86_inb : ∀ (v431 : BitVec 32) (v550 : IVec S16 32) (k0_hw87 : k0_chk87 v431 v550), ∀ (k0_h2 : k0_cond2 v431 = 1#1), ∀ a x, ((![v550] : Fin 1 → IVec S16 32) a x).toNat < S43520.size a := fun v431 v550 k0_hw87 k0_h2 => k0_hw87 k0_h2

def k0_chk88 (v431 : BitVec 32) (v553 : IVec S16 32) : Prop :=
  (∀ (k0_h2 : k0_cond2 v431 = 1#1), ∀ a x, ((![v553] : Fin 1 → IVec S16 32) a x).toNat < S4096.size a)
theorem k0_idx87_inb : ∀ (v431 : BitVec 32) (v553 : IVec S16 32) (k0_hw88 : k0_chk88 v431 v553), ∀ (k0_h2 : k0_cond2 v431 = 1#1), ∀ a x, ((![v553] : Fin 1 → IVec S16 32) a x).toNat < S4096.size a := fun v431 v553 k0_hw88 k0_h2 => k0_hw88 k0_h2

def k0_chk89 (v431 : BitVec 32) (v556 : IVec S16 32) : Prop :=
  (∀ (k0_h2 : k0_cond2 v431 = 1#1), ∀ a x, ((![v556] : Fin 1 → IVec S16 32) a x).toNat < S43520.size a)
theorem k0_idx88_inb : ∀ (v431 : BitVec 32) (v556 : IVec S16 32) (k0_hw89 : k0_chk89 v431 v556), ∀ (k0_h2 : k0_cond2 v431 = 1#1), ∀ a x, ((![v556] : Fin 1 → IVec S16 32) a x).toNat < S43520.size a := fun v431 v556 k0_hw89 k0_h2 => k0_hw89 k0_h2

def k0_chk90 (v431 : BitVec 32) (v559 : IVec S16 32) : Prop :=
  (∀ (k0_h2 : k0_cond2 v431 = 1#1), ∀ a x, ((![v559] : Fin 1 → IVec S16 32) a x).toNat < S4096.size a)
theorem k0_idx89_inb : ∀ (v431 : BitVec 32) (v559 : IVec S16 32) (k0_hw90 : k0_chk90 v431 v559), ∀ (k0_h2 : k0_cond2 v431 = 1#1), ∀ a x, ((![v559] : Fin 1 → IVec S16 32) a x).toNat < S4096.size a := fun v431 v559 k0_hw90 k0_h2 => k0_hw90 k0_h2

def k0_chk91 (v431 : BitVec 32) (v562 : IVec S16 32) : Prop :=
  (∀ (k0_h2 : k0_cond2 v431 = 1#1), ∀ a x, ((![v562] : Fin 1 → IVec S16 32) a x).toNat < S43520.size a)
theorem k0_idx90_inb : ∀ (v431 : BitVec 32) (v562 : IVec S16 32) (k0_hw91 : k0_chk91 v431 v562), ∀ (k0_h2 : k0_cond2 v431 = 1#1), ∀ a x, ((![v562] : Fin 1 → IVec S16 32) a x).toNat < S43520.size a := fun v431 v562 k0_hw91 k0_h2 => k0_hw91 k0_h2

def k0_chk92 (v431 : BitVec 32) (v565 : IVec S16 32) : Prop :=
  (∀ (k0_h2 : k0_cond2 v431 = 1#1), ∀ a x, ((![v565] : Fin 1 → IVec S16 32) a x).toNat < S4096.size a)
theorem k0_idx91_inb : ∀ (v431 : BitVec 32) (v565 : IVec S16 32) (k0_hw92 : k0_chk92 v431 v565), ∀ (k0_h2 : k0_cond2 v431 = 1#1), ∀ a x, ((![v565] : Fin 1 → IVec S16 32) a x).toNat < S4096.size a := fun v431 v565 k0_hw92 k0_h2 => k0_hw92 k0_h2

def k0_chk93 (v431 : BitVec 32) (v568 : IVec S16 32) : Prop :=
  (∀ (k0_h2 : k0_cond2 v431 = 1#1), ∀ a x, ((![v568] : Fin 1 → IVec S16 32) a x).toNat < S43520.size a)
theorem k0_idx92_inb : ∀ (v431 : BitVec 32) (v568 : IVec S16 32) (k0_hw93 : k0_chk93 v431 v568), ∀ (k0_h2 : k0_cond2 v431 = 1#1), ∀ a x, ((![v568] : Fin 1 → IVec S16 32) a x).toNat < S43520.size a := fun v431 v568 k0_hw93 k0_h2 => k0_hw93 k0_h2

def k0_chk94 (v431 : BitVec 32) (v571 : IVec S16 32) : Prop :=
  (∀ (k0_h2 : k0_cond2 v431 = 1#1), ∀ a x, ((![v571] : Fin 1 → IVec S16 32) a x).toNat < S4096.size a)
theorem k0_idx93_inb : ∀ (v431 : BitVec 32) (v571 : IVec S16 32) (k0_hw94 : k0_chk94 v431 v571), ∀ (k0_h2 : k0_cond2 v431 = 1#1), ∀ a x, ((![v571] : Fin 1 → IVec S16 32) a x).toNat < S4096.size a := fun v431 v571 k0_hw94 k0_h2 => k0_hw94 k0_h2

def k0_chk95 (v431 : BitVec 32) (v574 : IVec S16 32) : Prop :=
  (∀ (k0_h2 : k0_cond2 v431 = 1#1), ∀ a x, ((![v574] : Fin 1 → IVec S16 32) a x).toNat < S43520.size a)
theorem k0_idx94_inb : ∀ (v431 : BitVec 32) (v574 : IVec S16 32) (k0_hw95 : k0_chk95 v431 v574), ∀ (k0_h2 : k0_cond2 v431 = 1#1), ∀ a x, ((![v574] : Fin 1 → IVec S16 32) a x).toNat < S43520.size a := fun v431 v574 k0_hw95 k0_h2 => k0_hw95 k0_h2

def k0_chk96 (v431 : BitVec 32) (v577 : IVec S16 32) : Prop :=
  (∀ (k0_h2 : k0_cond2 v431 = 1#1), ∀ a x, ((![v577] : Fin 1 → IVec S16 32) a x).toNat < S4096.size a)
theorem k0_idx95_inb : ∀ (v431 : BitVec 32) (v577 : IVec S16 32) (k0_hw96 : k0_chk96 v431 v577), ∀ (k0_h2 : k0_cond2 v431 = 1#1), ∀ a x, ((![v577] : Fin 1 → IVec S16 32) a x).toNat < S4096.size a := fun v431 v577 k0_hw96 k0_h2 => k0_hw96 k0_h2

def k0_chk97 (v431 : BitVec 32) (v580 : IVec S16 32) : Prop :=
  (∀ (k0_h2 : k0_cond2 v431 = 1#1), ∀ a x, ((![v580] : Fin 1 → IVec S16 32) a x).toNat < S43520.size a)
theorem k0_idx96_inb : ∀ (v431 : BitVec 32) (v580 : IVec S16 32) (k0_hw97 : k0_chk97 v431 v580), ∀ (k0_h2 : k0_cond2 v431 = 1#1), ∀ a x, ((![v580] : Fin 1 → IVec S16 32) a x).toNat < S43520.size a := fun v431 v580 k0_hw97 k0_h2 => k0_hw97 k0_h2

def k0_chk98 (v431 : BitVec 32) (v583 : IVec S16 32) : Prop :=
  (∀ (k0_h2 : k0_cond2 v431 = 1#1), ∀ a x, ((![v583] : Fin 1 → IVec S16 32) a x).toNat < S4096.size a)
theorem k0_idx97_inb : ∀ (v431 : BitVec 32) (v583 : IVec S16 32) (k0_hw98 : k0_chk98 v431 v583), ∀ (k0_h2 : k0_cond2 v431 = 1#1), ∀ a x, ((![v583] : Fin 1 → IVec S16 32) a x).toNat < S4096.size a := fun v431 v583 k0_hw98 k0_h2 => k0_hw98 k0_h2

def k0_chk99 (v431 : BitVec 32) (v586 : IVec S16 32) : Prop :=
  (∀ (k0_h2 : k0_cond2 v431 = 1#1), ∀ a x, ((![v586] : Fin 1 → IVec S16 32) a x).toNat < S43520.size a)
theorem k0_idx98_inb : ∀ (v431 : BitVec 32) (v586 : IVec S16 32) (k0_hw99 : k0_chk99 v431 v586), ∀ (k0_h2 : k0_cond2 v431 = 1#1), ∀ a x, ((![v586] : Fin 1 → IVec S16 32) a x).toNat < S43520.size a := fun v431 v586 k0_hw99 k0_h2 => k0_hw99 k0_h2

def k0_chk100 (v431 : BitVec 32) (v589 : IVec S16 32) : Prop :=
  (∀ (k0_h2 : k0_cond2 v431 = 1#1), ∀ a x, ((![v589] : Fin 1 → IVec S16 32) a x).toNat < S4096.size a)
theorem k0_idx99_inb : ∀ (v431 : BitVec 32) (v589 : IVec S16 32) (k0_hw100 : k0_chk100 v431 v589), ∀ (k0_h2 : k0_cond2 v431 = 1#1), ∀ a x, ((![v589] : Fin 1 → IVec S16 32) a x).toNat < S4096.size a := fun v431 v589 k0_hw100 k0_h2 => k0_hw100 k0_h2

def k0_chk101 (v431 : BitVec 32) (v592 : IVec S16 32) : Prop :=
  (∀ (k0_h2 : k0_cond2 v431 = 1#1), ∀ a x, ((![v592] : Fin 1 → IVec S16 32) a x).toNat < S43520.size a)
theorem k0_idx100_inb : ∀ (v431 : BitVec 32) (v592 : IVec S16 32) (k0_hw101 : k0_chk101 v431 v592), ∀ (k0_h2 : k0_cond2 v431 = 1#1), ∀ a x, ((![v592] : Fin 1 → IVec S16 32) a x).toNat < S43520.size a := fun v431 v592 k0_hw101 k0_h2 => k0_hw101 k0_h2

def k0_chk102 (v431 : BitVec 32) (v595 : IVec S16 32) : Prop :=
  (∀ (k0_h2 : k0_cond2 v431 = 1#1), ∀ a x, ((![v595] : Fin 1 → IVec S16 32) a x).toNat < S4096.size a)
theorem k0_idx101_inb : ∀ (v431 : BitVec 32) (v595 : IVec S16 32) (k0_hw102 : k0_chk102 v431 v595), ∀ (k0_h2 : k0_cond2 v431 = 1#1), ∀ a x, ((![v595] : Fin 1 → IVec S16 32) a x).toNat < S4096.size a := fun v431 v595 k0_hw102 k0_h2 => k0_hw102 k0_h2

def k0_chk103 (v431 : BitVec 32) (v598 : IVec S16 32) : Prop :=
  (∀ (k0_h2 : k0_cond2 v431 = 1#1), ∀ a x, ((![v598] : Fin 1 → IVec S16 32) a x).toNat < S43520.size a)
theorem k0_idx102_inb : ∀ (v431 : BitVec 32) (v598 : IVec S16 32) (k0_hw103 : k0_chk103 v431 v598), ∀ (k0_h2 : k0_cond2 v431 = 1#1), ∀ a x, ((![v598] : Fin 1 → IVec S16 32) a x).toNat < S43520.size a := fun v431 v598 k0_hw103 k0_h2 => k0_hw103 k0_h2

def k0_chk104 (v431 : BitVec 32) (v601 : IVec S16 32) : Prop :=
  (∀ (k0_h2 : k0_cond2 v431 = 1#1), ∀ a x, ((![v601] : Fin 1 → IVec S16 32) a x).toNat < S4096.size a)
theorem k0_idx103_inb : ∀ (v431 : BitVec 32) (v601 : IVec S16 32) (k0_hw104 : k0_chk104 v431 v601), ∀ (k0_h2 : k0_cond2 v431 = 1#1), ∀ a x, ((![v601] : Fin 1 → IVec S16 32) a x).toNat < S4096.size a := fun v431 v601 k0_hw104 k0_h2 => k0_hw104 k0_h2

def k0_chk105 (v431 : BitVec 32) (v604 : IVec S16 32) : Prop :=
  (∀ (k0_h2 : k0_cond2 v431 = 1#1), ∀ a x, ((![v604] : Fin 1 → IVec S16 32) a x).toNat < S43520.size a)
theorem k0_idx104_inb : ∀ (v431 : BitVec 32) (v604 : IVec S16 32) (k0_hw105 : k0_chk105 v431 v604), ∀ (k0_h2 : k0_cond2 v431 = 1#1), ∀ a x, ((![v604] : Fin 1 → IVec S16 32) a x).toNat < S43520.size a := fun v431 v604 k0_hw105 k0_h2 => k0_hw105 k0_h2

def k0_chk106 (v431 : BitVec 32) (v607 : IVec S16 32) : Prop :=
  (∀ (k0_h2 : k0_cond2 v431 = 1#1), ∀ a x, ((![v607] : Fin 1 → IVec S16 32) a x).toNat < S4096.size a)
theorem k0_idx105_inb : ∀ (v431 : BitVec 32) (v607 : IVec S16 32) (k0_hw106 : k0_chk106 v431 v607), ∀ (k0_h2 : k0_cond2 v431 = 1#1), ∀ a x, ((![v607] : Fin 1 → IVec S16 32) a x).toNat < S4096.size a := fun v431 v607 k0_hw106 k0_h2 => k0_hw106 k0_h2

def k0_chk107 (v431 : BitVec 32) (v610 : IVec S16 32) : Prop :=
  (∀ (k0_h2 : k0_cond2 v431 = 1#1), ∀ a x, ((![v610] : Fin 1 → IVec S16 32) a x).toNat < S43520.size a)
theorem k0_idx106_inb : ∀ (v431 : BitVec 32) (v610 : IVec S16 32) (k0_hw107 : k0_chk107 v431 v610), ∀ (k0_h2 : k0_cond2 v431 = 1#1), ∀ a x, ((![v610] : Fin 1 → IVec S16 32) a x).toNat < S43520.size a := fun v431 v610 k0_hw107 k0_h2 => k0_hw107 k0_h2

def k0_chk108 (v431 : BitVec 32) (v613 : IVec S16 32) : Prop :=
  (∀ (k0_h2 : k0_cond2 v431 = 1#1), ∀ a x, ((![v613] : Fin 1 → IVec S16 32) a x).toNat < S4096.size a)
theorem k0_idx107_inb : ∀ (v431 : BitVec 32) (v613 : IVec S16 32) (k0_hw108 : k0_chk108 v431 v613), ∀ (k0_h2 : k0_cond2 v431 = 1#1), ∀ a x, ((![v613] : Fin 1 → IVec S16 32) a x).toNat < S4096.size a := fun v431 v613 k0_hw108 k0_h2 => k0_hw108 k0_h2

def k0_chk109 (v431 : BitVec 32) (v616 : IVec S16 32) : Prop :=
  (∀ (k0_h2 : k0_cond2 v431 = 1#1), ∀ a x, ((![v616] : Fin 1 → IVec S16 32) a x).toNat < S43520.size a)
theorem k0_idx108_inb : ∀ (v431 : BitVec 32) (v616 : IVec S16 32) (k0_hw109 : k0_chk109 v431 v616), ∀ (k0_h2 : k0_cond2 v431 = 1#1), ∀ a x, ((![v616] : Fin 1 → IVec S16 32) a x).toNat < S43520.size a := fun v431 v616 k0_hw109 k0_h2 => k0_hw109 k0_h2

def k0_chk110 (v431 : BitVec 32) (v619 : IVec S16 32) : Prop :=
  (∀ (k0_h2 : k0_cond2 v431 = 1#1), ∀ a x, ((![v619] : Fin 1 → IVec S16 32) a x).toNat < S4096.size a)
theorem k0_idx109_inb : ∀ (v431 : BitVec 32) (v619 : IVec S16 32) (k0_hw110 : k0_chk110 v431 v619), ∀ (k0_h2 : k0_cond2 v431 = 1#1), ∀ a x, ((![v619] : Fin 1 → IVec S16 32) a x).toNat < S4096.size a := fun v431 v619 k0_hw110 k0_h2 => k0_hw110 k0_h2

def k0_chk111 (v431 : BitVec 32) (v622 : IVec S16 32) : Prop :=
  (∀ (k0_h2 : k0_cond2 v431 = 1#1), ∀ a x, ((![v622] : Fin 1 → IVec S16 32) a x).toNat < S43520.size a)
theorem k0_idx110_inb : ∀ (v431 : BitVec 32) (v622 : IVec S16 32) (k0_hw111 : k0_chk111 v431 v622), ∀ (k0_h2 : k0_cond2 v431 = 1#1), ∀ a x, ((![v622] : Fin 1 → IVec S16 32) a x).toNat < S43520.size a := fun v431 v622 k0_hw111 k0_h2 => k0_hw111 k0_h2

def k0_chk112 (v431 : BitVec 32) (v625 : IVec S16 32) : Prop :=
  (∀ (k0_h2 : k0_cond2 v431 = 1#1), ∀ a x, ((![v625] : Fin 1 → IVec S16 32) a x).toNat < S4096.size a)
theorem k0_idx111_inb : ∀ (v431 : BitVec 32) (v625 : IVec S16 32) (k0_hw112 : k0_chk112 v431 v625), ∀ (k0_h2 : k0_cond2 v431 = 1#1), ∀ a x, ((![v625] : Fin 1 → IVec S16 32) a x).toNat < S4096.size a := fun v431 v625 k0_hw112 k0_h2 => k0_hw112 k0_h2

def k0_chk113 (v146 : IVec S16 32) : Prop :=
  (∀ a x, ((![v146] : Fin 1 → IVec S16 32) a x).toNat < S512.size a)
theorem k0_idx112_inb : ∀ (v146 : IVec S16 32) (k0_hw113 : k0_chk113 v146), ∀ a x, ((![v146] : Fin 1 → IVec S16 32) a x).toNat < S512.size a := fun v146 k0_hw113 => k0_hw113
@[reducible] def k0_t5_loop (v155 : BitVec 32) : Scf.Loop 32 :=
  let c0_i32_60 : BitVec 32 := 0#32
  let v156 : BitVec 32 := Scalar.subi v155 c0_i32_60
  let c1_i32_61 : BitVec 32 := 1#32
  let v158 : BitVec 32 := Scalar.divsi v156 c1_i32_61
  let v159 : BitVec 32 := Scalar.muli v158 c1_i32_61
  let v160 : BitVec 32 := Scalar.addi c0_i32_60 v159
  let c1_i32_62 : BitVec 32 := 1#32
  ⟨c0_i32_60, v160, c1_i32_62⟩

def k0_chk115 (v391 : IVec S16 32) : Prop :=
  (∀ a x, ((![v391] : Fin 1 → IVec S16 32) a x).toNat < S14336.size a)
theorem k0_idx113_inb : ∀ (v391 : IVec S16 32) (k0_hw115 : k0_chk115 v391), ∀ a x, ((![v391] : Fin 1 → IVec S16 32) a x).toNat < S14336.size a := fun v391 k0_hw115 => k0_hw115

def k0_chk116 (v399 : IVec S16 32) : Prop :=
  (∀ a x, ((![v399] : Fin 1 → IVec S16 32) a x).toNat < S1280.size a)
theorem k0_idx114_inb : ∀ (v399 : IVec S16 32) (k0_hw116 : k0_chk116 v399), ∀ a x, ((![v399] : Fin 1 → IVec S16 32) a x).toNat < S1280.size a := fun v399 k0_hw116 => k0_hw116
def k0_cond3 (v431 : BitVec 32) : BitVec 1 :=
  let c0_i32_170 : BitVec 32 := 0#32
  let v432 : BitVec 1 := Scalar.cmpi .sgt v431 c0_i32_170
  let v433 : BitVec 32 := Scalar.extui v432
  let c0_i32_171 : BitVec 32 := 0#32
  let v434 : BitVec 1 := Scalar.cmpi .ne v433 c0_i32_171
  v434

def k0_chk117 (v431 : BitVec 32) (v436 : IVec S16 32) : Prop :=
  (∀ (k0_h3 : k0_cond3 v431 = 1#1), ∀ a x, ((![v436] : Fin 1 → IVec S16 32) a x).toNat < S43520.size a)
theorem k0_idx115_inb : ∀ (v431 : BitVec 32) (v436 : IVec S16 32) (k0_hw117 : k0_chk117 v431 v436), ∀ (k0_h3 : k0_cond3 v431 = 1#1), ∀ a x, ((![v436] : Fin 1 → IVec S16 32) a x).toNat < S43520.size a := fun v431 v436 k0_hw117 k0_h3 => k0_hw117 k0_h3

def k0_chk118 (v431 : BitVec 32) (v439 : IVec S16 32) : Prop :=
  (∀ (k0_h3 : k0_cond3 v431 = 1#1), ∀ a x, ((![v439] : Fin 1 → IVec S16 32) a x).toNat < S43520.size a)
theorem k0_idx116_inb : ∀ (v431 : BitVec 32) (v439 : IVec S16 32) (k0_hw118 : k0_chk118 v431 v439), ∀ (k0_h3 : k0_cond3 v431 = 1#1), ∀ a x, ((![v439] : Fin 1 → IVec S16 32) a x).toNat < S43520.size a := fun v431 v439 k0_hw118 k0_h3 => k0_hw118 k0_h3

def k0_chk119 (v431 : BitVec 32) (v442 : IVec S16 32) : Prop :=
  (∀ (k0_h3 : k0_cond3 v431 = 1#1), ∀ a x, ((![v442] : Fin 1 → IVec S16 32) a x).toNat < S43520.size a)
theorem k0_idx117_inb : ∀ (v431 : BitVec 32) (v442 : IVec S16 32) (k0_hw119 : k0_chk119 v431 v442), ∀ (k0_h3 : k0_cond3 v431 = 1#1), ∀ a x, ((![v442] : Fin 1 → IVec S16 32) a x).toNat < S43520.size a := fun v431 v442 k0_hw119 k0_h3 => k0_hw119 k0_h3

def k0_chk120 (v431 : BitVec 32) (v445 : IVec S16 32) : Prop :=
  (∀ (k0_h3 : k0_cond3 v431 = 1#1), ∀ a x, ((![v445] : Fin 1 → IVec S16 32) a x).toNat < S43520.size a)
theorem k0_idx118_inb : ∀ (v431 : BitVec 32) (v445 : IVec S16 32) (k0_hw120 : k0_chk120 v431 v445), ∀ (k0_h3 : k0_cond3 v431 = 1#1), ∀ a x, ((![v445] : Fin 1 → IVec S16 32) a x).toNat < S43520.size a := fun v431 v445 k0_hw120 k0_h3 => k0_hw120 k0_h3

def k0_chk121 (v431 : BitVec 32) (v448 : IVec S16 32) : Prop :=
  (∀ (k0_h3 : k0_cond3 v431 = 1#1), ∀ a x, ((![v448] : Fin 1 → IVec S16 32) a x).toNat < S43520.size a)
theorem k0_idx119_inb : ∀ (v431 : BitVec 32) (v448 : IVec S16 32) (k0_hw121 : k0_chk121 v431 v448), ∀ (k0_h3 : k0_cond3 v431 = 1#1), ∀ a x, ((![v448] : Fin 1 → IVec S16 32) a x).toNat < S43520.size a := fun v431 v448 k0_hw121 k0_h3 => k0_hw121 k0_h3

def k0_chk122 (v431 : BitVec 32) (v451 : IVec S16 32) : Prop :=
  (∀ (k0_h3 : k0_cond3 v431 = 1#1), ∀ a x, ((![v451] : Fin 1 → IVec S16 32) a x).toNat < S43520.size a)
theorem k0_idx120_inb : ∀ (v431 : BitVec 32) (v451 : IVec S16 32) (k0_hw122 : k0_chk122 v431 v451), ∀ (k0_h3 : k0_cond3 v431 = 1#1), ∀ a x, ((![v451] : Fin 1 → IVec S16 32) a x).toNat < S43520.size a := fun v431 v451 k0_hw122 k0_h3 => k0_hw122 k0_h3

def k0_chk123 (v431 : BitVec 32) (v454 : IVec S16 32) : Prop :=
  (∀ (k0_h3 : k0_cond3 v431 = 1#1), ∀ a x, ((![v454] : Fin 1 → IVec S16 32) a x).toNat < S43520.size a)
theorem k0_idx121_inb : ∀ (v431 : BitVec 32) (v454 : IVec S16 32) (k0_hw123 : k0_chk123 v431 v454), ∀ (k0_h3 : k0_cond3 v431 = 1#1), ∀ a x, ((![v454] : Fin 1 → IVec S16 32) a x).toNat < S43520.size a := fun v431 v454 k0_hw123 k0_h3 => k0_hw123 k0_h3

def k0_chk124 (v431 : BitVec 32) (v457 : IVec S16 32) : Prop :=
  (∀ (k0_h3 : k0_cond3 v431 = 1#1), ∀ a x, ((![v457] : Fin 1 → IVec S16 32) a x).toNat < S43520.size a)
theorem k0_idx122_inb : ∀ (v431 : BitVec 32) (v457 : IVec S16 32) (k0_hw124 : k0_chk124 v431 v457), ∀ (k0_h3 : k0_cond3 v431 = 1#1), ∀ a x, ((![v457] : Fin 1 → IVec S16 32) a x).toNat < S43520.size a := fun v431 v457 k0_hw124 k0_h3 => k0_hw124 k0_h3

def k0_chk125 (v431 : BitVec 32) (v460 : IVec S16 32) : Prop :=
  (∀ (k0_h3 : k0_cond3 v431 = 1#1), ∀ a x, ((![v460] : Fin 1 → IVec S16 32) a x).toNat < S43520.size a)
theorem k0_idx123_inb : ∀ (v431 : BitVec 32) (v460 : IVec S16 32) (k0_hw125 : k0_chk125 v431 v460), ∀ (k0_h3 : k0_cond3 v431 = 1#1), ∀ a x, ((![v460] : Fin 1 → IVec S16 32) a x).toNat < S43520.size a := fun v431 v460 k0_hw125 k0_h3 => k0_hw125 k0_h3

def k0_chk126 (v431 : BitVec 32) (v463 : IVec S16 32) : Prop :=
  (∀ (k0_h3 : k0_cond3 v431 = 1#1), ∀ a x, ((![v463] : Fin 1 → IVec S16 32) a x).toNat < S43520.size a)
theorem k0_idx124_inb : ∀ (v431 : BitVec 32) (v463 : IVec S16 32) (k0_hw126 : k0_chk126 v431 v463), ∀ (k0_h3 : k0_cond3 v431 = 1#1), ∀ a x, ((![v463] : Fin 1 → IVec S16 32) a x).toNat < S43520.size a := fun v431 v463 k0_hw126 k0_h3 => k0_hw126 k0_h3

def k0_chk127 (v431 : BitVec 32) (v466 : IVec S16 32) : Prop :=
  (∀ (k0_h3 : k0_cond3 v431 = 1#1), ∀ a x, ((![v466] : Fin 1 → IVec S16 32) a x).toNat < S43520.size a)
theorem k0_idx125_inb : ∀ (v431 : BitVec 32) (v466 : IVec S16 32) (k0_hw127 : k0_chk127 v431 v466), ∀ (k0_h3 : k0_cond3 v431 = 1#1), ∀ a x, ((![v466] : Fin 1 → IVec S16 32) a x).toNat < S43520.size a := fun v431 v466 k0_hw127 k0_h3 => k0_hw127 k0_h3

def k0_chk128 (v431 : BitVec 32) (v477 : IVec S16 32) : Prop :=
  (∀ (k0_h3 : k0_cond3 v431 = 1#1), ∀ a x, ((![v477] : Fin 1 → IVec S16 32) a x).toNat < S43520.size a)
theorem k0_idx126_inb : ∀ (v431 : BitVec 32) (v477 : IVec S16 32) (k0_hw128 : k0_chk128 v431 v477), ∀ (k0_h3 : k0_cond3 v431 = 1#1), ∀ a x, ((![v477] : Fin 1 → IVec S16 32) a x).toNat < S43520.size a := fun v431 v477 k0_hw128 k0_h3 => k0_hw128 k0_h3

def k0_chk129 (v431 : BitVec 32) (v480 : IVec S16 32) : Prop :=
  (∀ (k0_h3 : k0_cond3 v431 = 1#1), ∀ a x, ((![v480] : Fin 1 → IVec S16 32) a x).toNat < S43520.size a)
theorem k0_idx127_inb : ∀ (v431 : BitVec 32) (v480 : IVec S16 32) (k0_hw129 : k0_chk129 v431 v480), ∀ (k0_h3 : k0_cond3 v431 = 1#1), ∀ a x, ((![v480] : Fin 1 → IVec S16 32) a x).toNat < S43520.size a := fun v431 v480 k0_hw129 k0_h3 => k0_hw129 k0_h3

def k0_chk130 (v431 : BitVec 32) (v492 : IVec S16 32) : Prop :=
  (∀ (k0_h3 : k0_cond3 v431 = 1#1), ∀ a x, ((![v492] : Fin 1 → IVec S16 32) a x).toNat < S43520.size a)
theorem k0_idx128_inb : ∀ (v431 : BitVec 32) (v492 : IVec S16 32) (k0_hw130 : k0_chk130 v431 v492), ∀ (k0_h3 : k0_cond3 v431 = 1#1), ∀ a x, ((![v492] : Fin 1 → IVec S16 32) a x).toNat < S43520.size a := fun v431 v492 k0_hw130 k0_h3 => k0_hw130 k0_h3

def k0_chk131 (v431 : BitVec 32) (v495 : IVec S16 32) : Prop :=
  (∀ (k0_h3 : k0_cond3 v431 = 1#1), ∀ a x, ((![v495] : Fin 1 → IVec S16 32) a x).toNat < S43520.size a)
theorem k0_idx129_inb : ∀ (v431 : BitVec 32) (v495 : IVec S16 32) (k0_hw131 : k0_chk131 v431 v495), ∀ (k0_h3 : k0_cond3 v431 = 1#1), ∀ a x, ((![v495] : Fin 1 → IVec S16 32) a x).toNat < S43520.size a := fun v431 v495 k0_hw131 k0_h3 => k0_hw131 k0_h3

def k0_chk132 (v431 : BitVec 32) (v507 : IVec S16 32) : Prop :=
  (∀ (k0_h3 : k0_cond3 v431 = 1#1), ∀ a x, ((![v507] : Fin 1 → IVec S16 32) a x).toNat < S43520.size a)
theorem k0_idx130_inb : ∀ (v431 : BitVec 32) (v507 : IVec S16 32) (k0_hw132 : k0_chk132 v431 v507), ∀ (k0_h3 : k0_cond3 v431 = 1#1), ∀ a x, ((![v507] : Fin 1 → IVec S16 32) a x).toNat < S43520.size a := fun v431 v507 k0_hw132 k0_h3 => k0_hw132 k0_h3

def k0_chk133 (v431 : BitVec 32) (v518 : IVec S16 32) : Prop :=
  (∀ (k0_h3 : k0_cond3 v431 = 1#1), ∀ a x, ((![v518] : Fin 1 → IVec S16 32) a x).toNat < S4096.size a)
theorem k0_idx131_inb : ∀ (v431 : BitVec 32) (v518 : IVec S16 32) (k0_hw133 : k0_chk133 v431 v518), ∀ (k0_h3 : k0_cond3 v431 = 1#1), ∀ a x, ((![v518] : Fin 1 → IVec S16 32) a x).toNat < S4096.size a := fun v431 v518 k0_hw133 k0_h3 => k0_hw133 k0_h3

def k0_chk134 (v431 : BitVec 32) (v520 : IVec S16 32) : Prop :=
  (∀ (k0_h3 : k0_cond3 v431 = 1#1), ∀ a x, ((![v520] : Fin 1 → IVec S16 32) a x).toNat < S43520.size a)
theorem k0_idx132_inb : ∀ (v431 : BitVec 32) (v520 : IVec S16 32) (k0_hw134 : k0_chk134 v431 v520), ∀ (k0_h3 : k0_cond3 v431 = 1#1), ∀ a x, ((![v520] : Fin 1 → IVec S16 32) a x).toNat < S43520.size a := fun v431 v520 k0_hw134 k0_h3 => k0_hw134 k0_h3

def k0_chk135 (v431 : BitVec 32) (v523 : IVec S16 32) : Prop :=
  (∀ (k0_h3 : k0_cond3 v431 = 1#1), ∀ a x, ((![v523] : Fin 1 → IVec S16 32) a x).toNat < S4096.size a)
theorem k0_idx133_inb : ∀ (v431 : BitVec 32) (v523 : IVec S16 32) (k0_hw135 : k0_chk135 v431 v523), ∀ (k0_h3 : k0_cond3 v431 = 1#1), ∀ a x, ((![v523] : Fin 1 → IVec S16 32) a x).toNat < S4096.size a := fun v431 v523 k0_hw135 k0_h3 => k0_hw135 k0_h3

def k0_chk136 (v431 : BitVec 32) (v526 : IVec S16 32) : Prop :=
  (∀ (k0_h3 : k0_cond3 v431 = 1#1), ∀ a x, ((![v526] : Fin 1 → IVec S16 32) a x).toNat < S43520.size a)
theorem k0_idx134_inb : ∀ (v431 : BitVec 32) (v526 : IVec S16 32) (k0_hw136 : k0_chk136 v431 v526), ∀ (k0_h3 : k0_cond3 v431 = 1#1), ∀ a x, ((![v526] : Fin 1 → IVec S16 32) a x).toNat < S43520.size a := fun v431 v526 k0_hw136 k0_h3 => k0_hw136 k0_h3

def k0_chk137 (v431 : BitVec 32) (v529 : IVec S16 32) : Prop :=
  (∀ (k0_h3 : k0_cond3 v431 = 1#1), ∀ a x, ((![v529] : Fin 1 → IVec S16 32) a x).toNat < S4096.size a)
theorem k0_idx135_inb : ∀ (v431 : BitVec 32) (v529 : IVec S16 32) (k0_hw137 : k0_chk137 v431 v529), ∀ (k0_h3 : k0_cond3 v431 = 1#1), ∀ a x, ((![v529] : Fin 1 → IVec S16 32) a x).toNat < S4096.size a := fun v431 v529 k0_hw137 k0_h3 => k0_hw137 k0_h3

def k0_chk138 (v431 : BitVec 32) (v532 : IVec S16 32) : Prop :=
  (∀ (k0_h3 : k0_cond3 v431 = 1#1), ∀ a x, ((![v532] : Fin 1 → IVec S16 32) a x).toNat < S43520.size a)
theorem k0_idx136_inb : ∀ (v431 : BitVec 32) (v532 : IVec S16 32) (k0_hw138 : k0_chk138 v431 v532), ∀ (k0_h3 : k0_cond3 v431 = 1#1), ∀ a x, ((![v532] : Fin 1 → IVec S16 32) a x).toNat < S43520.size a := fun v431 v532 k0_hw138 k0_h3 => k0_hw138 k0_h3

def k0_chk139 (v431 : BitVec 32) (v535 : IVec S16 32) : Prop :=
  (∀ (k0_h3 : k0_cond3 v431 = 1#1), ∀ a x, ((![v535] : Fin 1 → IVec S16 32) a x).toNat < S4096.size a)
theorem k0_idx137_inb : ∀ (v431 : BitVec 32) (v535 : IVec S16 32) (k0_hw139 : k0_chk139 v431 v535), ∀ (k0_h3 : k0_cond3 v431 = 1#1), ∀ a x, ((![v535] : Fin 1 → IVec S16 32) a x).toNat < S4096.size a := fun v431 v535 k0_hw139 k0_h3 => k0_hw139 k0_h3

def k0_chk140 (v431 : BitVec 32) (v538 : IVec S16 32) : Prop :=
  (∀ (k0_h3 : k0_cond3 v431 = 1#1), ∀ a x, ((![v538] : Fin 1 → IVec S16 32) a x).toNat < S43520.size a)
theorem k0_idx138_inb : ∀ (v431 : BitVec 32) (v538 : IVec S16 32) (k0_hw140 : k0_chk140 v431 v538), ∀ (k0_h3 : k0_cond3 v431 = 1#1), ∀ a x, ((![v538] : Fin 1 → IVec S16 32) a x).toNat < S43520.size a := fun v431 v538 k0_hw140 k0_h3 => k0_hw140 k0_h3

def k0_chk141 (v431 : BitVec 32) (v541 : IVec S16 32) : Prop :=
  (∀ (k0_h3 : k0_cond3 v431 = 1#1), ∀ a x, ((![v541] : Fin 1 → IVec S16 32) a x).toNat < S4096.size a)
theorem k0_idx139_inb : ∀ (v431 : BitVec 32) (v541 : IVec S16 32) (k0_hw141 : k0_chk141 v431 v541), ∀ (k0_h3 : k0_cond3 v431 = 1#1), ∀ a x, ((![v541] : Fin 1 → IVec S16 32) a x).toNat < S4096.size a := fun v431 v541 k0_hw141 k0_h3 => k0_hw141 k0_h3

def k0_chk142 (v431 : BitVec 32) (v544 : IVec S16 32) : Prop :=
  (∀ (k0_h3 : k0_cond3 v431 = 1#1), ∀ a x, ((![v544] : Fin 1 → IVec S16 32) a x).toNat < S43520.size a)
theorem k0_idx140_inb : ∀ (v431 : BitVec 32) (v544 : IVec S16 32) (k0_hw142 : k0_chk142 v431 v544), ∀ (k0_h3 : k0_cond3 v431 = 1#1), ∀ a x, ((![v544] : Fin 1 → IVec S16 32) a x).toNat < S43520.size a := fun v431 v544 k0_hw142 k0_h3 => k0_hw142 k0_h3

def k0_chk143 (v431 : BitVec 32) (v547 : IVec S16 32) : Prop :=
  (∀ (k0_h3 : k0_cond3 v431 = 1#1), ∀ a x, ((![v547] : Fin 1 → IVec S16 32) a x).toNat < S4096.size a)
theorem k0_idx141_inb : ∀ (v431 : BitVec 32) (v547 : IVec S16 32) (k0_hw143 : k0_chk143 v431 v547), ∀ (k0_h3 : k0_cond3 v431 = 1#1), ∀ a x, ((![v547] : Fin 1 → IVec S16 32) a x).toNat < S4096.size a := fun v431 v547 k0_hw143 k0_h3 => k0_hw143 k0_h3

def k0_chk144 (v431 : BitVec 32) (v550 : IVec S16 32) : Prop :=
  (∀ (k0_h3 : k0_cond3 v431 = 1#1), ∀ a x, ((![v550] : Fin 1 → IVec S16 32) a x).toNat < S43520.size a)
theorem k0_idx142_inb : ∀ (v431 : BitVec 32) (v550 : IVec S16 32) (k0_hw144 : k0_chk144 v431 v550), ∀ (k0_h3 : k0_cond3 v431 = 1#1), ∀ a x, ((![v550] : Fin 1 → IVec S16 32) a x).toNat < S43520.size a := fun v431 v550 k0_hw144 k0_h3 => k0_hw144 k0_h3

def k0_chk145 (v431 : BitVec 32) (v553 : IVec S16 32) : Prop :=
  (∀ (k0_h3 : k0_cond3 v431 = 1#1), ∀ a x, ((![v553] : Fin 1 → IVec S16 32) a x).toNat < S4096.size a)
theorem k0_idx143_inb : ∀ (v431 : BitVec 32) (v553 : IVec S16 32) (k0_hw145 : k0_chk145 v431 v553), ∀ (k0_h3 : k0_cond3 v431 = 1#1), ∀ a x, ((![v553] : Fin 1 → IVec S16 32) a x).toNat < S4096.size a := fun v431 v553 k0_hw145 k0_h3 => k0_hw145 k0_h3

def k0_chk146 (v431 : BitVec 32) (v556 : IVec S16 32) : Prop :=
  (∀ (k0_h3 : k0_cond3 v431 = 1#1), ∀ a x, ((![v556] : Fin 1 → IVec S16 32) a x).toNat < S43520.size a)
theorem k0_idx144_inb : ∀ (v431 : BitVec 32) (v556 : IVec S16 32) (k0_hw146 : k0_chk146 v431 v556), ∀ (k0_h3 : k0_cond3 v431 = 1#1), ∀ a x, ((![v556] : Fin 1 → IVec S16 32) a x).toNat < S43520.size a := fun v431 v556 k0_hw146 k0_h3 => k0_hw146 k0_h3

def k0_chk147 (v431 : BitVec 32) (v559 : IVec S16 32) : Prop :=
  (∀ (k0_h3 : k0_cond3 v431 = 1#1), ∀ a x, ((![v559] : Fin 1 → IVec S16 32) a x).toNat < S4096.size a)
theorem k0_idx145_inb : ∀ (v431 : BitVec 32) (v559 : IVec S16 32) (k0_hw147 : k0_chk147 v431 v559), ∀ (k0_h3 : k0_cond3 v431 = 1#1), ∀ a x, ((![v559] : Fin 1 → IVec S16 32) a x).toNat < S4096.size a := fun v431 v559 k0_hw147 k0_h3 => k0_hw147 k0_h3

def k0_chk148 (v431 : BitVec 32) (v562 : IVec S16 32) : Prop :=
  (∀ (k0_h3 : k0_cond3 v431 = 1#1), ∀ a x, ((![v562] : Fin 1 → IVec S16 32) a x).toNat < S43520.size a)
theorem k0_idx146_inb : ∀ (v431 : BitVec 32) (v562 : IVec S16 32) (k0_hw148 : k0_chk148 v431 v562), ∀ (k0_h3 : k0_cond3 v431 = 1#1), ∀ a x, ((![v562] : Fin 1 → IVec S16 32) a x).toNat < S43520.size a := fun v431 v562 k0_hw148 k0_h3 => k0_hw148 k0_h3

def k0_chk149 (v431 : BitVec 32) (v565 : IVec S16 32) : Prop :=
  (∀ (k0_h3 : k0_cond3 v431 = 1#1), ∀ a x, ((![v565] : Fin 1 → IVec S16 32) a x).toNat < S4096.size a)
theorem k0_idx147_inb : ∀ (v431 : BitVec 32) (v565 : IVec S16 32) (k0_hw149 : k0_chk149 v431 v565), ∀ (k0_h3 : k0_cond3 v431 = 1#1), ∀ a x, ((![v565] : Fin 1 → IVec S16 32) a x).toNat < S4096.size a := fun v431 v565 k0_hw149 k0_h3 => k0_hw149 k0_h3

def k0_chk150 (v431 : BitVec 32) (v568 : IVec S16 32) : Prop :=
  (∀ (k0_h3 : k0_cond3 v431 = 1#1), ∀ a x, ((![v568] : Fin 1 → IVec S16 32) a x).toNat < S43520.size a)
theorem k0_idx148_inb : ∀ (v431 : BitVec 32) (v568 : IVec S16 32) (k0_hw150 : k0_chk150 v431 v568), ∀ (k0_h3 : k0_cond3 v431 = 1#1), ∀ a x, ((![v568] : Fin 1 → IVec S16 32) a x).toNat < S43520.size a := fun v431 v568 k0_hw150 k0_h3 => k0_hw150 k0_h3

def k0_chk151 (v431 : BitVec 32) (v571 : IVec S16 32) : Prop :=
  (∀ (k0_h3 : k0_cond3 v431 = 1#1), ∀ a x, ((![v571] : Fin 1 → IVec S16 32) a x).toNat < S4096.size a)
theorem k0_idx149_inb : ∀ (v431 : BitVec 32) (v571 : IVec S16 32) (k0_hw151 : k0_chk151 v431 v571), ∀ (k0_h3 : k0_cond3 v431 = 1#1), ∀ a x, ((![v571] : Fin 1 → IVec S16 32) a x).toNat < S4096.size a := fun v431 v571 k0_hw151 k0_h3 => k0_hw151 k0_h3

def k0_chk152 (v431 : BitVec 32) (v574 : IVec S16 32) : Prop :=
  (∀ (k0_h3 : k0_cond3 v431 = 1#1), ∀ a x, ((![v574] : Fin 1 → IVec S16 32) a x).toNat < S43520.size a)
theorem k0_idx150_inb : ∀ (v431 : BitVec 32) (v574 : IVec S16 32) (k0_hw152 : k0_chk152 v431 v574), ∀ (k0_h3 : k0_cond3 v431 = 1#1), ∀ a x, ((![v574] : Fin 1 → IVec S16 32) a x).toNat < S43520.size a := fun v431 v574 k0_hw152 k0_h3 => k0_hw152 k0_h3

def k0_chk153 (v431 : BitVec 32) (v577 : IVec S16 32) : Prop :=
  (∀ (k0_h3 : k0_cond3 v431 = 1#1), ∀ a x, ((![v577] : Fin 1 → IVec S16 32) a x).toNat < S4096.size a)
theorem k0_idx151_inb : ∀ (v431 : BitVec 32) (v577 : IVec S16 32) (k0_hw153 : k0_chk153 v431 v577), ∀ (k0_h3 : k0_cond3 v431 = 1#1), ∀ a x, ((![v577] : Fin 1 → IVec S16 32) a x).toNat < S4096.size a := fun v431 v577 k0_hw153 k0_h3 => k0_hw153 k0_h3

def k0_chk154 (v431 : BitVec 32) (v580 : IVec S16 32) : Prop :=
  (∀ (k0_h3 : k0_cond3 v431 = 1#1), ∀ a x, ((![v580] : Fin 1 → IVec S16 32) a x).toNat < S43520.size a)
theorem k0_idx152_inb : ∀ (v431 : BitVec 32) (v580 : IVec S16 32) (k0_hw154 : k0_chk154 v431 v580), ∀ (k0_h3 : k0_cond3 v431 = 1#1), ∀ a x, ((![v580] : Fin 1 → IVec S16 32) a x).toNat < S43520.size a := fun v431 v580 k0_hw154 k0_h3 => k0_hw154 k0_h3

def k0_chk155 (v431 : BitVec 32) (v583 : IVec S16 32) : Prop :=
  (∀ (k0_h3 : k0_cond3 v431 = 1#1), ∀ a x, ((![v583] : Fin 1 → IVec S16 32) a x).toNat < S4096.size a)
theorem k0_idx153_inb : ∀ (v431 : BitVec 32) (v583 : IVec S16 32) (k0_hw155 : k0_chk155 v431 v583), ∀ (k0_h3 : k0_cond3 v431 = 1#1), ∀ a x, ((![v583] : Fin 1 → IVec S16 32) a x).toNat < S4096.size a := fun v431 v583 k0_hw155 k0_h3 => k0_hw155 k0_h3

def k0_chk156 (v431 : BitVec 32) (v586 : IVec S16 32) : Prop :=
  (∀ (k0_h3 : k0_cond3 v431 = 1#1), ∀ a x, ((![v586] : Fin 1 → IVec S16 32) a x).toNat < S43520.size a)
theorem k0_idx154_inb : ∀ (v431 : BitVec 32) (v586 : IVec S16 32) (k0_hw156 : k0_chk156 v431 v586), ∀ (k0_h3 : k0_cond3 v431 = 1#1), ∀ a x, ((![v586] : Fin 1 → IVec S16 32) a x).toNat < S43520.size a := fun v431 v586 k0_hw156 k0_h3 => k0_hw156 k0_h3

def k0_chk157 (v431 : BitVec 32) (v589 : IVec S16 32) : Prop :=
  (∀ (k0_h3 : k0_cond3 v431 = 1#1), ∀ a x, ((![v589] : Fin 1 → IVec S16 32) a x).toNat < S4096.size a)
theorem k0_idx155_inb : ∀ (v431 : BitVec 32) (v589 : IVec S16 32) (k0_hw157 : k0_chk157 v431 v589), ∀ (k0_h3 : k0_cond3 v431 = 1#1), ∀ a x, ((![v589] : Fin 1 → IVec S16 32) a x).toNat < S4096.size a := fun v431 v589 k0_hw157 k0_h3 => k0_hw157 k0_h3

def k0_chk158 (v431 : BitVec 32) (v592 : IVec S16 32) : Prop :=
  (∀ (k0_h3 : k0_cond3 v431 = 1#1), ∀ a x, ((![v592] : Fin 1 → IVec S16 32) a x).toNat < S43520.size a)
theorem k0_idx156_inb : ∀ (v431 : BitVec 32) (v592 : IVec S16 32) (k0_hw158 : k0_chk158 v431 v592), ∀ (k0_h3 : k0_cond3 v431 = 1#1), ∀ a x, ((![v592] : Fin 1 → IVec S16 32) a x).toNat < S43520.size a := fun v431 v592 k0_hw158 k0_h3 => k0_hw158 k0_h3

def k0_chk159 (v431 : BitVec 32) (v595 : IVec S16 32) : Prop :=
  (∀ (k0_h3 : k0_cond3 v431 = 1#1), ∀ a x, ((![v595] : Fin 1 → IVec S16 32) a x).toNat < S4096.size a)
theorem k0_idx157_inb : ∀ (v431 : BitVec 32) (v595 : IVec S16 32) (k0_hw159 : k0_chk159 v431 v595), ∀ (k0_h3 : k0_cond3 v431 = 1#1), ∀ a x, ((![v595] : Fin 1 → IVec S16 32) a x).toNat < S4096.size a := fun v431 v595 k0_hw159 k0_h3 => k0_hw159 k0_h3

def k0_chk160 (v431 : BitVec 32) (v598 : IVec S16 32) : Prop :=
  (∀ (k0_h3 : k0_cond3 v431 = 1#1), ∀ a x, ((![v598] : Fin 1 → IVec S16 32) a x).toNat < S43520.size a)
theorem k0_idx158_inb : ∀ (v431 : BitVec 32) (v598 : IVec S16 32) (k0_hw160 : k0_chk160 v431 v598), ∀ (k0_h3 : k0_cond3 v431 = 1#1), ∀ a x, ((![v598] : Fin 1 → IVec S16 32) a x).toNat < S43520.size a := fun v431 v598 k0_hw160 k0_h3 => k0_hw160 k0_h3

def k0_chk161 (v431 : BitVec 32) (v601 : IVec S16 32) : Prop :=
  (∀ (k0_h3 : k0_cond3 v431 = 1#1), ∀ a x, ((![v601] : Fin 1 → IVec S16 32) a x).toNat < S4096.size a)
theorem k0_idx159_inb : ∀ (v431 : BitVec 32) (v601 : IVec S16 32) (k0_hw161 : k0_chk161 v431 v601), ∀ (k0_h3 : k0_cond3 v431 = 1#1), ∀ a x, ((![v601] : Fin 1 → IVec S16 32) a x).toNat < S4096.size a := fun v431 v601 k0_hw161 k0_h3 => k0_hw161 k0_h3

def k0_chk162 (v431 : BitVec 32) (v604 : IVec S16 32) : Prop :=
  (∀ (k0_h3 : k0_cond3 v431 = 1#1), ∀ a x, ((![v604] : Fin 1 → IVec S16 32) a x).toNat < S43520.size a)
theorem k0_idx160_inb : ∀ (v431 : BitVec 32) (v604 : IVec S16 32) (k0_hw162 : k0_chk162 v431 v604), ∀ (k0_h3 : k0_cond3 v431 = 1#1), ∀ a x, ((![v604] : Fin 1 → IVec S16 32) a x).toNat < S43520.size a := fun v431 v604 k0_hw162 k0_h3 => k0_hw162 k0_h3

def k0_chk163 (v431 : BitVec 32) (v607 : IVec S16 32) : Prop :=
  (∀ (k0_h3 : k0_cond3 v431 = 1#1), ∀ a x, ((![v607] : Fin 1 → IVec S16 32) a x).toNat < S4096.size a)
theorem k0_idx161_inb : ∀ (v431 : BitVec 32) (v607 : IVec S16 32) (k0_hw163 : k0_chk163 v431 v607), ∀ (k0_h3 : k0_cond3 v431 = 1#1), ∀ a x, ((![v607] : Fin 1 → IVec S16 32) a x).toNat < S4096.size a := fun v431 v607 k0_hw163 k0_h3 => k0_hw163 k0_h3

def k0_chk164 (v431 : BitVec 32) (v610 : IVec S16 32) : Prop :=
  (∀ (k0_h3 : k0_cond3 v431 = 1#1), ∀ a x, ((![v610] : Fin 1 → IVec S16 32) a x).toNat < S43520.size a)
theorem k0_idx162_inb : ∀ (v431 : BitVec 32) (v610 : IVec S16 32) (k0_hw164 : k0_chk164 v431 v610), ∀ (k0_h3 : k0_cond3 v431 = 1#1), ∀ a x, ((![v610] : Fin 1 → IVec S16 32) a x).toNat < S43520.size a := fun v431 v610 k0_hw164 k0_h3 => k0_hw164 k0_h3

def k0_chk165 (v431 : BitVec 32) (v613 : IVec S16 32) : Prop :=
  (∀ (k0_h3 : k0_cond3 v431 = 1#1), ∀ a x, ((![v613] : Fin 1 → IVec S16 32) a x).toNat < S4096.size a)
theorem k0_idx163_inb : ∀ (v431 : BitVec 32) (v613 : IVec S16 32) (k0_hw165 : k0_chk165 v431 v613), ∀ (k0_h3 : k0_cond3 v431 = 1#1), ∀ a x, ((![v613] : Fin 1 → IVec S16 32) a x).toNat < S4096.size a := fun v431 v613 k0_hw165 k0_h3 => k0_hw165 k0_h3

def k0_chk166 (v431 : BitVec 32) (v616 : IVec S16 32) : Prop :=
  (∀ (k0_h3 : k0_cond3 v431 = 1#1), ∀ a x, ((![v616] : Fin 1 → IVec S16 32) a x).toNat < S43520.size a)
theorem k0_idx164_inb : ∀ (v431 : BitVec 32) (v616 : IVec S16 32) (k0_hw166 : k0_chk166 v431 v616), ∀ (k0_h3 : k0_cond3 v431 = 1#1), ∀ a x, ((![v616] : Fin 1 → IVec S16 32) a x).toNat < S43520.size a := fun v431 v616 k0_hw166 k0_h3 => k0_hw166 k0_h3

def k0_chk167 (v431 : BitVec 32) (v619 : IVec S16 32) : Prop :=
  (∀ (k0_h3 : k0_cond3 v431 = 1#1), ∀ a x, ((![v619] : Fin 1 → IVec S16 32) a x).toNat < S4096.size a)
theorem k0_idx165_inb : ∀ (v431 : BitVec 32) (v619 : IVec S16 32) (k0_hw167 : k0_chk167 v431 v619), ∀ (k0_h3 : k0_cond3 v431 = 1#1), ∀ a x, ((![v619] : Fin 1 → IVec S16 32) a x).toNat < S4096.size a := fun v431 v619 k0_hw167 k0_h3 => k0_hw167 k0_h3

def k0_chk168 (v431 : BitVec 32) (v622 : IVec S16 32) : Prop :=
  (∀ (k0_h3 : k0_cond3 v431 = 1#1), ∀ a x, ((![v622] : Fin 1 → IVec S16 32) a x).toNat < S43520.size a)
theorem k0_idx166_inb : ∀ (v431 : BitVec 32) (v622 : IVec S16 32) (k0_hw168 : k0_chk168 v431 v622), ∀ (k0_h3 : k0_cond3 v431 = 1#1), ∀ a x, ((![v622] : Fin 1 → IVec S16 32) a x).toNat < S43520.size a := fun v431 v622 k0_hw168 k0_h3 => k0_hw168 k0_h3

def k0_chk169 (v431 : BitVec 32) (v625 : IVec S16 32) : Prop :=
  (∀ (k0_h3 : k0_cond3 v431 = 1#1), ∀ a x, ((![v625] : Fin 1 → IVec S16 32) a x).toNat < S4096.size a)
theorem k0_idx167_inb : ∀ (v431 : BitVec 32) (v625 : IVec S16 32) (k0_hw169 : k0_chk169 v431 v625), ∀ (k0_h3 : k0_cond3 v431 = 1#1), ∀ a x, ((![v625] : Fin 1 → IVec S16 32) a x).toNat < S4096.size a := fun v431 v625 k0_hw169 k0_h3 => k0_hw169 k0_h3
@[reducible] def k0_t6_loop (v155 : BitVec 32) : Scf.Loop 32 :=
  let c0_i32_60 : BitVec 32 := 0#32
  let v156 : BitVec 32 := Scalar.subi v155 c0_i32_60
  let c1_i32_61 : BitVec 32 := 1#32
  let v158 : BitVec 32 := Scalar.divsi v156 c1_i32_61
  let v159 : BitVec 32 := Scalar.muli v158 c1_i32_61
  let v160 : BitVec 32 := Scalar.addi c0_i32_60 v159
  let v157 : BitVec 32 := Scalar.addi c0_i32_60 v156
  let c1_i32_63 : BitVec 32 := 1#32
  ⟨v160, v157, c1_i32_63⟩

def k0_chk114 (v155 : BitVec 32) : Prop :=
  ((k0_t5_loop v155).OK) ∧
  ((k0_t6_loop v155).OK)
theorem k0_t5_ok : ∀ (v155 : BitVec 32) (k0_hw114 : k0_chk114 v155), (k0_t5_loop v155).OK := fun v155 k0_hw114 => k0_hw114.1
theorem k0_t6_ok : ∀ (v155 : BitVec 32) (k0_hw114 : k0_chk114 v155), (k0_t6_loop v155).OK := fun v155 k0_hw114 => k0_hw114.2

def k0_chk170 (v391 : IVec S16 32) : Prop :=
  (∀ a x, ((![v391] : Fin 1 → IVec S16 32) a x).toNat < S14336.size a)
theorem k0_idx168_inb : ∀ (v391 : IVec S16 32) (k0_hw170 : k0_chk170 v391), ∀ a x, ((![v391] : Fin 1 → IVec S16 32) a x).toNat < S14336.size a := fun v391 k0_hw170 => k0_hw170

def k0_chk171 (v399 : IVec S16 32) : Prop :=
  (∀ a x, ((![v399] : Fin 1 → IVec S16 32) a x).toNat < S1280.size a)
theorem k0_idx169_inb : ∀ (v399 : IVec S16 32) (k0_hw171 : k0_chk171 v399), ∀ a x, ((![v399] : Fin 1 → IVec S16 32) a x).toNat < S1280.size a := fun v399 k0_hw171 => k0_hw171
def k0_cond4 (v431 : BitVec 32) : BitVec 1 :=
  let c0_i32_170 : BitVec 32 := 0#32
  let v432 : BitVec 1 := Scalar.cmpi .sgt v431 c0_i32_170
  let v433 : BitVec 32 := Scalar.extui v432
  let c0_i32_171 : BitVec 32 := 0#32
  let v434 : BitVec 1 := Scalar.cmpi .ne v433 c0_i32_171
  v434

def k0_chk172 (v431 : BitVec 32) (v436 : IVec S16 32) : Prop :=
  (∀ (k0_h4 : k0_cond4 v431 = 1#1), ∀ a x, ((![v436] : Fin 1 → IVec S16 32) a x).toNat < S43520.size a)
theorem k0_idx170_inb : ∀ (v431 : BitVec 32) (v436 : IVec S16 32) (k0_hw172 : k0_chk172 v431 v436), ∀ (k0_h4 : k0_cond4 v431 = 1#1), ∀ a x, ((![v436] : Fin 1 → IVec S16 32) a x).toNat < S43520.size a := fun v431 v436 k0_hw172 k0_h4 => k0_hw172 k0_h4

def k0_chk173 (v431 : BitVec 32) (v439 : IVec S16 32) : Prop :=
  (∀ (k0_h4 : k0_cond4 v431 = 1#1), ∀ a x, ((![v439] : Fin 1 → IVec S16 32) a x).toNat < S43520.size a)
theorem k0_idx171_inb : ∀ (v431 : BitVec 32) (v439 : IVec S16 32) (k0_hw173 : k0_chk173 v431 v439), ∀ (k0_h4 : k0_cond4 v431 = 1#1), ∀ a x, ((![v439] : Fin 1 → IVec S16 32) a x).toNat < S43520.size a := fun v431 v439 k0_hw173 k0_h4 => k0_hw173 k0_h4

def k0_chk174 (v431 : BitVec 32) (v442 : IVec S16 32) : Prop :=
  (∀ (k0_h4 : k0_cond4 v431 = 1#1), ∀ a x, ((![v442] : Fin 1 → IVec S16 32) a x).toNat < S43520.size a)
theorem k0_idx172_inb : ∀ (v431 : BitVec 32) (v442 : IVec S16 32) (k0_hw174 : k0_chk174 v431 v442), ∀ (k0_h4 : k0_cond4 v431 = 1#1), ∀ a x, ((![v442] : Fin 1 → IVec S16 32) a x).toNat < S43520.size a := fun v431 v442 k0_hw174 k0_h4 => k0_hw174 k0_h4

def k0_chk175 (v431 : BitVec 32) (v445 : IVec S16 32) : Prop :=
  (∀ (k0_h4 : k0_cond4 v431 = 1#1), ∀ a x, ((![v445] : Fin 1 → IVec S16 32) a x).toNat < S43520.size a)
theorem k0_idx173_inb : ∀ (v431 : BitVec 32) (v445 : IVec S16 32) (k0_hw175 : k0_chk175 v431 v445), ∀ (k0_h4 : k0_cond4 v431 = 1#1), ∀ a x, ((![v445] : Fin 1 → IVec S16 32) a x).toNat < S43520.size a := fun v431 v445 k0_hw175 k0_h4 => k0_hw175 k0_h4

def k0_chk176 (v431 : BitVec 32) (v448 : IVec S16 32) : Prop :=
  (∀ (k0_h4 : k0_cond4 v431 = 1#1), ∀ a x, ((![v448] : Fin 1 → IVec S16 32) a x).toNat < S43520.size a)
theorem k0_idx174_inb : ∀ (v431 : BitVec 32) (v448 : IVec S16 32) (k0_hw176 : k0_chk176 v431 v448), ∀ (k0_h4 : k0_cond4 v431 = 1#1), ∀ a x, ((![v448] : Fin 1 → IVec S16 32) a x).toNat < S43520.size a := fun v431 v448 k0_hw176 k0_h4 => k0_hw176 k0_h4

def k0_chk177 (v431 : BitVec 32) (v451 : IVec S16 32) : Prop :=
  (∀ (k0_h4 : k0_cond4 v431 = 1#1), ∀ a x, ((![v451] : Fin 1 → IVec S16 32) a x).toNat < S43520.size a)
theorem k0_idx175_inb : ∀ (v431 : BitVec 32) (v451 : IVec S16 32) (k0_hw177 : k0_chk177 v431 v451), ∀ (k0_h4 : k0_cond4 v431 = 1#1), ∀ a x, ((![v451] : Fin 1 → IVec S16 32) a x).toNat < S43520.size a := fun v431 v451 k0_hw177 k0_h4 => k0_hw177 k0_h4

def k0_chk178 (v431 : BitVec 32) (v454 : IVec S16 32) : Prop :=
  (∀ (k0_h4 : k0_cond4 v431 = 1#1), ∀ a x, ((![v454] : Fin 1 → IVec S16 32) a x).toNat < S43520.size a)
theorem k0_idx176_inb : ∀ (v431 : BitVec 32) (v454 : IVec S16 32) (k0_hw178 : k0_chk178 v431 v454), ∀ (k0_h4 : k0_cond4 v431 = 1#1), ∀ a x, ((![v454] : Fin 1 → IVec S16 32) a x).toNat < S43520.size a := fun v431 v454 k0_hw178 k0_h4 => k0_hw178 k0_h4

def k0_chk179 (v431 : BitVec 32) (v457 : IVec S16 32) : Prop :=
  (∀ (k0_h4 : k0_cond4 v431 = 1#1), ∀ a x, ((![v457] : Fin 1 → IVec S16 32) a x).toNat < S43520.size a)
theorem k0_idx177_inb : ∀ (v431 : BitVec 32) (v457 : IVec S16 32) (k0_hw179 : k0_chk179 v431 v457), ∀ (k0_h4 : k0_cond4 v431 = 1#1), ∀ a x, ((![v457] : Fin 1 → IVec S16 32) a x).toNat < S43520.size a := fun v431 v457 k0_hw179 k0_h4 => k0_hw179 k0_h4

def k0_chk180 (v431 : BitVec 32) (v460 : IVec S16 32) : Prop :=
  (∀ (k0_h4 : k0_cond4 v431 = 1#1), ∀ a x, ((![v460] : Fin 1 → IVec S16 32) a x).toNat < S43520.size a)
theorem k0_idx178_inb : ∀ (v431 : BitVec 32) (v460 : IVec S16 32) (k0_hw180 : k0_chk180 v431 v460), ∀ (k0_h4 : k0_cond4 v431 = 1#1), ∀ a x, ((![v460] : Fin 1 → IVec S16 32) a x).toNat < S43520.size a := fun v431 v460 k0_hw180 k0_h4 => k0_hw180 k0_h4

def k0_chk181 (v431 : BitVec 32) (v463 : IVec S16 32) : Prop :=
  (∀ (k0_h4 : k0_cond4 v431 = 1#1), ∀ a x, ((![v463] : Fin 1 → IVec S16 32) a x).toNat < S43520.size a)
theorem k0_idx179_inb : ∀ (v431 : BitVec 32) (v463 : IVec S16 32) (k0_hw181 : k0_chk181 v431 v463), ∀ (k0_h4 : k0_cond4 v431 = 1#1), ∀ a x, ((![v463] : Fin 1 → IVec S16 32) a x).toNat < S43520.size a := fun v431 v463 k0_hw181 k0_h4 => k0_hw181 k0_h4

def k0_chk182 (v431 : BitVec 32) (v466 : IVec S16 32) : Prop :=
  (∀ (k0_h4 : k0_cond4 v431 = 1#1), ∀ a x, ((![v466] : Fin 1 → IVec S16 32) a x).toNat < S43520.size a)
theorem k0_idx180_inb : ∀ (v431 : BitVec 32) (v466 : IVec S16 32) (k0_hw182 : k0_chk182 v431 v466), ∀ (k0_h4 : k0_cond4 v431 = 1#1), ∀ a x, ((![v466] : Fin 1 → IVec S16 32) a x).toNat < S43520.size a := fun v431 v466 k0_hw182 k0_h4 => k0_hw182 k0_h4

def k0_chk183 (v431 : BitVec 32) (v477 : IVec S16 32) : Prop :=
  (∀ (k0_h4 : k0_cond4 v431 = 1#1), ∀ a x, ((![v477] : Fin 1 → IVec S16 32) a x).toNat < S43520.size a)
theorem k0_idx181_inb : ∀ (v431 : BitVec 32) (v477 : IVec S16 32) (k0_hw183 : k0_chk183 v431 v477), ∀ (k0_h4 : k0_cond4 v431 = 1#1), ∀ a x, ((![v477] : Fin 1 → IVec S16 32) a x).toNat < S43520.size a := fun v431 v477 k0_hw183 k0_h4 => k0_hw183 k0_h4

def k0_chk184 (v431 : BitVec 32) (v480 : IVec S16 32) : Prop :=
  (∀ (k0_h4 : k0_cond4 v431 = 1#1), ∀ a x, ((![v480] : Fin 1 → IVec S16 32) a x).toNat < S43520.size a)
theorem k0_idx182_inb : ∀ (v431 : BitVec 32) (v480 : IVec S16 32) (k0_hw184 : k0_chk184 v431 v480), ∀ (k0_h4 : k0_cond4 v431 = 1#1), ∀ a x, ((![v480] : Fin 1 → IVec S16 32) a x).toNat < S43520.size a := fun v431 v480 k0_hw184 k0_h4 => k0_hw184 k0_h4

def k0_chk185 (v431 : BitVec 32) (v492 : IVec S16 32) : Prop :=
  (∀ (k0_h4 : k0_cond4 v431 = 1#1), ∀ a x, ((![v492] : Fin 1 → IVec S16 32) a x).toNat < S43520.size a)
theorem k0_idx183_inb : ∀ (v431 : BitVec 32) (v492 : IVec S16 32) (k0_hw185 : k0_chk185 v431 v492), ∀ (k0_h4 : k0_cond4 v431 = 1#1), ∀ a x, ((![v492] : Fin 1 → IVec S16 32) a x).toNat < S43520.size a := fun v431 v492 k0_hw185 k0_h4 => k0_hw185 k0_h4

def k0_chk186 (v431 : BitVec 32) (v495 : IVec S16 32) : Prop :=
  (∀ (k0_h4 : k0_cond4 v431 = 1#1), ∀ a x, ((![v495] : Fin 1 → IVec S16 32) a x).toNat < S43520.size a)
theorem k0_idx184_inb : ∀ (v431 : BitVec 32) (v495 : IVec S16 32) (k0_hw186 : k0_chk186 v431 v495), ∀ (k0_h4 : k0_cond4 v431 = 1#1), ∀ a x, ((![v495] : Fin 1 → IVec S16 32) a x).toNat < S43520.size a := fun v431 v495 k0_hw186 k0_h4 => k0_hw186 k0_h4

def k0_chk187 (v431 : BitVec 32) (v507 : IVec S16 32) : Prop :=
  (∀ (k0_h4 : k0_cond4 v431 = 1#1), ∀ a x, ((![v507] : Fin 1 → IVec S16 32) a x).toNat < S43520.size a)
theorem k0_idx185_inb : ∀ (v431 : BitVec 32) (v507 : IVec S16 32) (k0_hw187 : k0_chk187 v431 v507), ∀ (k0_h4 : k0_cond4 v431 = 1#1), ∀ a x, ((![v507] : Fin 1 → IVec S16 32) a x).toNat < S43520.size a := fun v431 v507 k0_hw187 k0_h4 => k0_hw187 k0_h4

def k0_chk188 (v431 : BitVec 32) (v518 : IVec S16 32) : Prop :=
  (∀ (k0_h4 : k0_cond4 v431 = 1#1), ∀ a x, ((![v518] : Fin 1 → IVec S16 32) a x).toNat < S4096.size a)
theorem k0_idx186_inb : ∀ (v431 : BitVec 32) (v518 : IVec S16 32) (k0_hw188 : k0_chk188 v431 v518), ∀ (k0_h4 : k0_cond4 v431 = 1#1), ∀ a x, ((![v518] : Fin 1 → IVec S16 32) a x).toNat < S4096.size a := fun v431 v518 k0_hw188 k0_h4 => k0_hw188 k0_h4

def k0_chk189 (v431 : BitVec 32) (v520 : IVec S16 32) : Prop :=
  (∀ (k0_h4 : k0_cond4 v431 = 1#1), ∀ a x, ((![v520] : Fin 1 → IVec S16 32) a x).toNat < S43520.size a)
theorem k0_idx187_inb : ∀ (v431 : BitVec 32) (v520 : IVec S16 32) (k0_hw189 : k0_chk189 v431 v520), ∀ (k0_h4 : k0_cond4 v431 = 1#1), ∀ a x, ((![v520] : Fin 1 → IVec S16 32) a x).toNat < S43520.size a := fun v431 v520 k0_hw189 k0_h4 => k0_hw189 k0_h4

def k0_chk190 (v431 : BitVec 32) (v523 : IVec S16 32) : Prop :=
  (∀ (k0_h4 : k0_cond4 v431 = 1#1), ∀ a x, ((![v523] : Fin 1 → IVec S16 32) a x).toNat < S4096.size a)
theorem k0_idx188_inb : ∀ (v431 : BitVec 32) (v523 : IVec S16 32) (k0_hw190 : k0_chk190 v431 v523), ∀ (k0_h4 : k0_cond4 v431 = 1#1), ∀ a x, ((![v523] : Fin 1 → IVec S16 32) a x).toNat < S4096.size a := fun v431 v523 k0_hw190 k0_h4 => k0_hw190 k0_h4

def k0_chk191 (v431 : BitVec 32) (v526 : IVec S16 32) : Prop :=
  (∀ (k0_h4 : k0_cond4 v431 = 1#1), ∀ a x, ((![v526] : Fin 1 → IVec S16 32) a x).toNat < S43520.size a)
theorem k0_idx189_inb : ∀ (v431 : BitVec 32) (v526 : IVec S16 32) (k0_hw191 : k0_chk191 v431 v526), ∀ (k0_h4 : k0_cond4 v431 = 1#1), ∀ a x, ((![v526] : Fin 1 → IVec S16 32) a x).toNat < S43520.size a := fun v431 v526 k0_hw191 k0_h4 => k0_hw191 k0_h4

def k0_chk192 (v431 : BitVec 32) (v529 : IVec S16 32) : Prop :=
  (∀ (k0_h4 : k0_cond4 v431 = 1#1), ∀ a x, ((![v529] : Fin 1 → IVec S16 32) a x).toNat < S4096.size a)
theorem k0_idx190_inb : ∀ (v431 : BitVec 32) (v529 : IVec S16 32) (k0_hw192 : k0_chk192 v431 v529), ∀ (k0_h4 : k0_cond4 v431 = 1#1), ∀ a x, ((![v529] : Fin 1 → IVec S16 32) a x).toNat < S4096.size a := fun v431 v529 k0_hw192 k0_h4 => k0_hw192 k0_h4

def k0_chk193 (v431 : BitVec 32) (v532 : IVec S16 32) : Prop :=
  (∀ (k0_h4 : k0_cond4 v431 = 1#1), ∀ a x, ((![v532] : Fin 1 → IVec S16 32) a x).toNat < S43520.size a)
theorem k0_idx191_inb : ∀ (v431 : BitVec 32) (v532 : IVec S16 32) (k0_hw193 : k0_chk193 v431 v532), ∀ (k0_h4 : k0_cond4 v431 = 1#1), ∀ a x, ((![v532] : Fin 1 → IVec S16 32) a x).toNat < S43520.size a := fun v431 v532 k0_hw193 k0_h4 => k0_hw193 k0_h4

def k0_chk194 (v431 : BitVec 32) (v535 : IVec S16 32) : Prop :=
  (∀ (k0_h4 : k0_cond4 v431 = 1#1), ∀ a x, ((![v535] : Fin 1 → IVec S16 32) a x).toNat < S4096.size a)
theorem k0_idx192_inb : ∀ (v431 : BitVec 32) (v535 : IVec S16 32) (k0_hw194 : k0_chk194 v431 v535), ∀ (k0_h4 : k0_cond4 v431 = 1#1), ∀ a x, ((![v535] : Fin 1 → IVec S16 32) a x).toNat < S4096.size a := fun v431 v535 k0_hw194 k0_h4 => k0_hw194 k0_h4

def k0_chk195 (v431 : BitVec 32) (v538 : IVec S16 32) : Prop :=
  (∀ (k0_h4 : k0_cond4 v431 = 1#1), ∀ a x, ((![v538] : Fin 1 → IVec S16 32) a x).toNat < S43520.size a)
theorem k0_idx193_inb : ∀ (v431 : BitVec 32) (v538 : IVec S16 32) (k0_hw195 : k0_chk195 v431 v538), ∀ (k0_h4 : k0_cond4 v431 = 1#1), ∀ a x, ((![v538] : Fin 1 → IVec S16 32) a x).toNat < S43520.size a := fun v431 v538 k0_hw195 k0_h4 => k0_hw195 k0_h4

def k0_chk196 (v431 : BitVec 32) (v541 : IVec S16 32) : Prop :=
  (∀ (k0_h4 : k0_cond4 v431 = 1#1), ∀ a x, ((![v541] : Fin 1 → IVec S16 32) a x).toNat < S4096.size a)
theorem k0_idx194_inb : ∀ (v431 : BitVec 32) (v541 : IVec S16 32) (k0_hw196 : k0_chk196 v431 v541), ∀ (k0_h4 : k0_cond4 v431 = 1#1), ∀ a x, ((![v541] : Fin 1 → IVec S16 32) a x).toNat < S4096.size a := fun v431 v541 k0_hw196 k0_h4 => k0_hw196 k0_h4

def k0_chk197 (v431 : BitVec 32) (v544 : IVec S16 32) : Prop :=
  (∀ (k0_h4 : k0_cond4 v431 = 1#1), ∀ a x, ((![v544] : Fin 1 → IVec S16 32) a x).toNat < S43520.size a)
theorem k0_idx195_inb : ∀ (v431 : BitVec 32) (v544 : IVec S16 32) (k0_hw197 : k0_chk197 v431 v544), ∀ (k0_h4 : k0_cond4 v431 = 1#1), ∀ a x, ((![v544] : Fin 1 → IVec S16 32) a x).toNat < S43520.size a := fun v431 v544 k0_hw197 k0_h4 => k0_hw197 k0_h4

def k0_chk198 (v431 : BitVec 32) (v547 : IVec S16 32) : Prop :=
  (∀ (k0_h4 : k0_cond4 v431 = 1#1), ∀ a x, ((![v547] : Fin 1 → IVec S16 32) a x).toNat < S4096.size a)
theorem k0_idx196_inb : ∀ (v431 : BitVec 32) (v547 : IVec S16 32) (k0_hw198 : k0_chk198 v431 v547), ∀ (k0_h4 : k0_cond4 v431 = 1#1), ∀ a x, ((![v547] : Fin 1 → IVec S16 32) a x).toNat < S4096.size a := fun v431 v547 k0_hw198 k0_h4 => k0_hw198 k0_h4

def k0_chk199 (v431 : BitVec 32) (v550 : IVec S16 32) : Prop :=
  (∀ (k0_h4 : k0_cond4 v431 = 1#1), ∀ a x, ((![v550] : Fin 1 → IVec S16 32) a x).toNat < S43520.size a)
theorem k0_idx197_inb : ∀ (v431 : BitVec 32) (v550 : IVec S16 32) (k0_hw199 : k0_chk199 v431 v550), ∀ (k0_h4 : k0_cond4 v431 = 1#1), ∀ a x, ((![v550] : Fin 1 → IVec S16 32) a x).toNat < S43520.size a := fun v431 v550 k0_hw199 k0_h4 => k0_hw199 k0_h4

def k0_chk200 (v431 : BitVec 32) (v553 : IVec S16 32) : Prop :=
  (∀ (k0_h4 : k0_cond4 v431 = 1#1), ∀ a x, ((![v553] : Fin 1 → IVec S16 32) a x).toNat < S4096.size a)
theorem k0_idx198_inb : ∀ (v431 : BitVec 32) (v553 : IVec S16 32) (k0_hw200 : k0_chk200 v431 v553), ∀ (k0_h4 : k0_cond4 v431 = 1#1), ∀ a x, ((![v553] : Fin 1 → IVec S16 32) a x).toNat < S4096.size a := fun v431 v553 k0_hw200 k0_h4 => k0_hw200 k0_h4

def k0_chk201 (v431 : BitVec 32) (v556 : IVec S16 32) : Prop :=
  (∀ (k0_h4 : k0_cond4 v431 = 1#1), ∀ a x, ((![v556] : Fin 1 → IVec S16 32) a x).toNat < S43520.size a)
theorem k0_idx199_inb : ∀ (v431 : BitVec 32) (v556 : IVec S16 32) (k0_hw201 : k0_chk201 v431 v556), ∀ (k0_h4 : k0_cond4 v431 = 1#1), ∀ a x, ((![v556] : Fin 1 → IVec S16 32) a x).toNat < S43520.size a := fun v431 v556 k0_hw201 k0_h4 => k0_hw201 k0_h4

def k0_chk202 (v431 : BitVec 32) (v559 : IVec S16 32) : Prop :=
  (∀ (k0_h4 : k0_cond4 v431 = 1#1), ∀ a x, ((![v559] : Fin 1 → IVec S16 32) a x).toNat < S4096.size a)
theorem k0_idx200_inb : ∀ (v431 : BitVec 32) (v559 : IVec S16 32) (k0_hw202 : k0_chk202 v431 v559), ∀ (k0_h4 : k0_cond4 v431 = 1#1), ∀ a x, ((![v559] : Fin 1 → IVec S16 32) a x).toNat < S4096.size a := fun v431 v559 k0_hw202 k0_h4 => k0_hw202 k0_h4

def k0_chk203 (v431 : BitVec 32) (v562 : IVec S16 32) : Prop :=
  (∀ (k0_h4 : k0_cond4 v431 = 1#1), ∀ a x, ((![v562] : Fin 1 → IVec S16 32) a x).toNat < S43520.size a)
theorem k0_idx201_inb : ∀ (v431 : BitVec 32) (v562 : IVec S16 32) (k0_hw203 : k0_chk203 v431 v562), ∀ (k0_h4 : k0_cond4 v431 = 1#1), ∀ a x, ((![v562] : Fin 1 → IVec S16 32) a x).toNat < S43520.size a := fun v431 v562 k0_hw203 k0_h4 => k0_hw203 k0_h4

def k0_chk204 (v431 : BitVec 32) (v565 : IVec S16 32) : Prop :=
  (∀ (k0_h4 : k0_cond4 v431 = 1#1), ∀ a x, ((![v565] : Fin 1 → IVec S16 32) a x).toNat < S4096.size a)
theorem k0_idx202_inb : ∀ (v431 : BitVec 32) (v565 : IVec S16 32) (k0_hw204 : k0_chk204 v431 v565), ∀ (k0_h4 : k0_cond4 v431 = 1#1), ∀ a x, ((![v565] : Fin 1 → IVec S16 32) a x).toNat < S4096.size a := fun v431 v565 k0_hw204 k0_h4 => k0_hw204 k0_h4

def k0_chk205 (v431 : BitVec 32) (v568 : IVec S16 32) : Prop :=
  (∀ (k0_h4 : k0_cond4 v431 = 1#1), ∀ a x, ((![v568] : Fin 1 → IVec S16 32) a x).toNat < S43520.size a)
theorem k0_idx203_inb : ∀ (v431 : BitVec 32) (v568 : IVec S16 32) (k0_hw205 : k0_chk205 v431 v568), ∀ (k0_h4 : k0_cond4 v431 = 1#1), ∀ a x, ((![v568] : Fin 1 → IVec S16 32) a x).toNat < S43520.size a := fun v431 v568 k0_hw205 k0_h4 => k0_hw205 k0_h4

def k0_chk206 (v431 : BitVec 32) (v571 : IVec S16 32) : Prop :=
  (∀ (k0_h4 : k0_cond4 v431 = 1#1), ∀ a x, ((![v571] : Fin 1 → IVec S16 32) a x).toNat < S4096.size a)
theorem k0_idx204_inb : ∀ (v431 : BitVec 32) (v571 : IVec S16 32) (k0_hw206 : k0_chk206 v431 v571), ∀ (k0_h4 : k0_cond4 v431 = 1#1), ∀ a x, ((![v571] : Fin 1 → IVec S16 32) a x).toNat < S4096.size a := fun v431 v571 k0_hw206 k0_h4 => k0_hw206 k0_h4

def k0_chk207 (v431 : BitVec 32) (v574 : IVec S16 32) : Prop :=
  (∀ (k0_h4 : k0_cond4 v431 = 1#1), ∀ a x, ((![v574] : Fin 1 → IVec S16 32) a x).toNat < S43520.size a)
theorem k0_idx205_inb : ∀ (v431 : BitVec 32) (v574 : IVec S16 32) (k0_hw207 : k0_chk207 v431 v574), ∀ (k0_h4 : k0_cond4 v431 = 1#1), ∀ a x, ((![v574] : Fin 1 → IVec S16 32) a x).toNat < S43520.size a := fun v431 v574 k0_hw207 k0_h4 => k0_hw207 k0_h4

def k0_chk208 (v431 : BitVec 32) (v577 : IVec S16 32) : Prop :=
  (∀ (k0_h4 : k0_cond4 v431 = 1#1), ∀ a x, ((![v577] : Fin 1 → IVec S16 32) a x).toNat < S4096.size a)
theorem k0_idx206_inb : ∀ (v431 : BitVec 32) (v577 : IVec S16 32) (k0_hw208 : k0_chk208 v431 v577), ∀ (k0_h4 : k0_cond4 v431 = 1#1), ∀ a x, ((![v577] : Fin 1 → IVec S16 32) a x).toNat < S4096.size a := fun v431 v577 k0_hw208 k0_h4 => k0_hw208 k0_h4

def k0_chk209 (v431 : BitVec 32) (v580 : IVec S16 32) : Prop :=
  (∀ (k0_h4 : k0_cond4 v431 = 1#1), ∀ a x, ((![v580] : Fin 1 → IVec S16 32) a x).toNat < S43520.size a)
theorem k0_idx207_inb : ∀ (v431 : BitVec 32) (v580 : IVec S16 32) (k0_hw209 : k0_chk209 v431 v580), ∀ (k0_h4 : k0_cond4 v431 = 1#1), ∀ a x, ((![v580] : Fin 1 → IVec S16 32) a x).toNat < S43520.size a := fun v431 v580 k0_hw209 k0_h4 => k0_hw209 k0_h4

def k0_chk210 (v431 : BitVec 32) (v583 : IVec S16 32) : Prop :=
  (∀ (k0_h4 : k0_cond4 v431 = 1#1), ∀ a x, ((![v583] : Fin 1 → IVec S16 32) a x).toNat < S4096.size a)
theorem k0_idx208_inb : ∀ (v431 : BitVec 32) (v583 : IVec S16 32) (k0_hw210 : k0_chk210 v431 v583), ∀ (k0_h4 : k0_cond4 v431 = 1#1), ∀ a x, ((![v583] : Fin 1 → IVec S16 32) a x).toNat < S4096.size a := fun v431 v583 k0_hw210 k0_h4 => k0_hw210 k0_h4

def k0_chk211 (v431 : BitVec 32) (v586 : IVec S16 32) : Prop :=
  (∀ (k0_h4 : k0_cond4 v431 = 1#1), ∀ a x, ((![v586] : Fin 1 → IVec S16 32) a x).toNat < S43520.size a)
theorem k0_idx209_inb : ∀ (v431 : BitVec 32) (v586 : IVec S16 32) (k0_hw211 : k0_chk211 v431 v586), ∀ (k0_h4 : k0_cond4 v431 = 1#1), ∀ a x, ((![v586] : Fin 1 → IVec S16 32) a x).toNat < S43520.size a := fun v431 v586 k0_hw211 k0_h4 => k0_hw211 k0_h4

def k0_chk212 (v431 : BitVec 32) (v589 : IVec S16 32) : Prop :=
  (∀ (k0_h4 : k0_cond4 v431 = 1#1), ∀ a x, ((![v589] : Fin 1 → IVec S16 32) a x).toNat < S4096.size a)
theorem k0_idx210_inb : ∀ (v431 : BitVec 32) (v589 : IVec S16 32) (k0_hw212 : k0_chk212 v431 v589), ∀ (k0_h4 : k0_cond4 v431 = 1#1), ∀ a x, ((![v589] : Fin 1 → IVec S16 32) a x).toNat < S4096.size a := fun v431 v589 k0_hw212 k0_h4 => k0_hw212 k0_h4

def k0_chk213 (v431 : BitVec 32) (v592 : IVec S16 32) : Prop :=
  (∀ (k0_h4 : k0_cond4 v431 = 1#1), ∀ a x, ((![v592] : Fin 1 → IVec S16 32) a x).toNat < S43520.size a)
theorem k0_idx211_inb : ∀ (v431 : BitVec 32) (v592 : IVec S16 32) (k0_hw213 : k0_chk213 v431 v592), ∀ (k0_h4 : k0_cond4 v431 = 1#1), ∀ a x, ((![v592] : Fin 1 → IVec S16 32) a x).toNat < S43520.size a := fun v431 v592 k0_hw213 k0_h4 => k0_hw213 k0_h4

def k0_chk214 (v431 : BitVec 32) (v595 : IVec S16 32) : Prop :=
  (∀ (k0_h4 : k0_cond4 v431 = 1#1), ∀ a x, ((![v595] : Fin 1 → IVec S16 32) a x).toNat < S4096.size a)
theorem k0_idx212_inb : ∀ (v431 : BitVec 32) (v595 : IVec S16 32) (k0_hw214 : k0_chk214 v431 v595), ∀ (k0_h4 : k0_cond4 v431 = 1#1), ∀ a x, ((![v595] : Fin 1 → IVec S16 32) a x).toNat < S4096.size a := fun v431 v595 k0_hw214 k0_h4 => k0_hw214 k0_h4

def k0_chk215 (v431 : BitVec 32) (v598 : IVec S16 32) : Prop :=
  (∀ (k0_h4 : k0_cond4 v431 = 1#1), ∀ a x, ((![v598] : Fin 1 → IVec S16 32) a x).toNat < S43520.size a)
theorem k0_idx213_inb : ∀ (v431 : BitVec 32) (v598 : IVec S16 32) (k0_hw215 : k0_chk215 v431 v598), ∀ (k0_h4 : k0_cond4 v431 = 1#1), ∀ a x, ((![v598] : Fin 1 → IVec S16 32) a x).toNat < S43520.size a := fun v431 v598 k0_hw215 k0_h4 => k0_hw215 k0_h4

def k0_chk216 (v431 : BitVec 32) (v601 : IVec S16 32) : Prop :=
  (∀ (k0_h4 : k0_cond4 v431 = 1#1), ∀ a x, ((![v601] : Fin 1 → IVec S16 32) a x).toNat < S4096.size a)
theorem k0_idx214_inb : ∀ (v431 : BitVec 32) (v601 : IVec S16 32) (k0_hw216 : k0_chk216 v431 v601), ∀ (k0_h4 : k0_cond4 v431 = 1#1), ∀ a x, ((![v601] : Fin 1 → IVec S16 32) a x).toNat < S4096.size a := fun v431 v601 k0_hw216 k0_h4 => k0_hw216 k0_h4

def k0_chk217 (v431 : BitVec 32) (v604 : IVec S16 32) : Prop :=
  (∀ (k0_h4 : k0_cond4 v431 = 1#1), ∀ a x, ((![v604] : Fin 1 → IVec S16 32) a x).toNat < S43520.size a)
theorem k0_idx215_inb : ∀ (v431 : BitVec 32) (v604 : IVec S16 32) (k0_hw217 : k0_chk217 v431 v604), ∀ (k0_h4 : k0_cond4 v431 = 1#1), ∀ a x, ((![v604] : Fin 1 → IVec S16 32) a x).toNat < S43520.size a := fun v431 v604 k0_hw217 k0_h4 => k0_hw217 k0_h4

def k0_chk218 (v431 : BitVec 32) (v607 : IVec S16 32) : Prop :=
  (∀ (k0_h4 : k0_cond4 v431 = 1#1), ∀ a x, ((![v607] : Fin 1 → IVec S16 32) a x).toNat < S4096.size a)
theorem k0_idx216_inb : ∀ (v431 : BitVec 32) (v607 : IVec S16 32) (k0_hw218 : k0_chk218 v431 v607), ∀ (k0_h4 : k0_cond4 v431 = 1#1), ∀ a x, ((![v607] : Fin 1 → IVec S16 32) a x).toNat < S4096.size a := fun v431 v607 k0_hw218 k0_h4 => k0_hw218 k0_h4

def k0_chk219 (v431 : BitVec 32) (v610 : IVec S16 32) : Prop :=
  (∀ (k0_h4 : k0_cond4 v431 = 1#1), ∀ a x, ((![v610] : Fin 1 → IVec S16 32) a x).toNat < S43520.size a)
theorem k0_idx217_inb : ∀ (v431 : BitVec 32) (v610 : IVec S16 32) (k0_hw219 : k0_chk219 v431 v610), ∀ (k0_h4 : k0_cond4 v431 = 1#1), ∀ a x, ((![v610] : Fin 1 → IVec S16 32) a x).toNat < S43520.size a := fun v431 v610 k0_hw219 k0_h4 => k0_hw219 k0_h4

def k0_chk220 (v431 : BitVec 32) (v613 : IVec S16 32) : Prop :=
  (∀ (k0_h4 : k0_cond4 v431 = 1#1), ∀ a x, ((![v613] : Fin 1 → IVec S16 32) a x).toNat < S4096.size a)
theorem k0_idx218_inb : ∀ (v431 : BitVec 32) (v613 : IVec S16 32) (k0_hw220 : k0_chk220 v431 v613), ∀ (k0_h4 : k0_cond4 v431 = 1#1), ∀ a x, ((![v613] : Fin 1 → IVec S16 32) a x).toNat < S4096.size a := fun v431 v613 k0_hw220 k0_h4 => k0_hw220 k0_h4

def k0_chk221 (v431 : BitVec 32) (v616 : IVec S16 32) : Prop :=
  (∀ (k0_h4 : k0_cond4 v431 = 1#1), ∀ a x, ((![v616] : Fin 1 → IVec S16 32) a x).toNat < S43520.size a)
theorem k0_idx219_inb : ∀ (v431 : BitVec 32) (v616 : IVec S16 32) (k0_hw221 : k0_chk221 v431 v616), ∀ (k0_h4 : k0_cond4 v431 = 1#1), ∀ a x, ((![v616] : Fin 1 → IVec S16 32) a x).toNat < S43520.size a := fun v431 v616 k0_hw221 k0_h4 => k0_hw221 k0_h4

def k0_chk222 (v431 : BitVec 32) (v619 : IVec S16 32) : Prop :=
  (∀ (k0_h4 : k0_cond4 v431 = 1#1), ∀ a x, ((![v619] : Fin 1 → IVec S16 32) a x).toNat < S4096.size a)
theorem k0_idx220_inb : ∀ (v431 : BitVec 32) (v619 : IVec S16 32) (k0_hw222 : k0_chk222 v431 v619), ∀ (k0_h4 : k0_cond4 v431 = 1#1), ∀ a x, ((![v619] : Fin 1 → IVec S16 32) a x).toNat < S4096.size a := fun v431 v619 k0_hw222 k0_h4 => k0_hw222 k0_h4

def k0_chk223 (v431 : BitVec 32) (v622 : IVec S16 32) : Prop :=
  (∀ (k0_h4 : k0_cond4 v431 = 1#1), ∀ a x, ((![v622] : Fin 1 → IVec S16 32) a x).toNat < S43520.size a)
theorem k0_idx221_inb : ∀ (v431 : BitVec 32) (v622 : IVec S16 32) (k0_hw223 : k0_chk223 v431 v622), ∀ (k0_h4 : k0_cond4 v431 = 1#1), ∀ a x, ((![v622] : Fin 1 → IVec S16 32) a x).toNat < S43520.size a := fun v431 v622 k0_hw223 k0_h4 => k0_hw223 k0_h4

def k0_chk224 (v431 : BitVec 32) (v625 : IVec S16 32) : Prop :=
  (∀ (k0_h4 : k0_cond4 v431 = 1#1), ∀ a x, ((![v625] : Fin 1 → IVec S16 32) a x).toNat < S4096.size a)
theorem k0_idx222_inb : ∀ (v431 : BitVec 32) (v625 : IVec S16 32) (k0_hw224 : k0_chk224 v431 v625), ∀ (k0_h4 : k0_cond4 v431 = 1#1), ∀ a x, ((![v625] : Fin 1 → IVec S16 32) a x).toNat < S4096.size a := fun v431 v625 k0_hw224 k0_h4 => k0_hw224 k0_h4

def k0_chk225 (v186 : IVec S16 32) : Prop :=
  (∀ a x, ((![v186] : Fin 1 → IVec S16 32) a x).toNat < S512.size a)
theorem k0_idx223_inb : ∀ (v186 : IVec S16 32) (k0_hw225 : k0_chk225 v186), ∀ a x, ((![v186] : Fin 1 → IVec S16 32) a x).toNat < S512.size a := fun v186 k0_hw225 => k0_hw225
@[reducible] def k0_t7_loop (v195 : BitVec 32) : Scf.Loop 32 :=
  let c0_i32_77 : BitVec 32 := 0#32
  let v196 : BitVec 32 := Scalar.subi v195 c0_i32_77
  let c1_i32_78 : BitVec 32 := 1#32
  let v198 : BitVec 32 := Scalar.divsi v196 c1_i32_78
  let v199 : BitVec 32 := Scalar.muli v198 c1_i32_78
  let v200 : BitVec 32 := Scalar.addi c0_i32_77 v199
  let c1_i32_79 : BitVec 32 := 1#32
  ⟨c0_i32_77, v200, c1_i32_79⟩

def k0_chk227 (v391 : IVec S16 32) : Prop :=
  (∀ a x, ((![v391] : Fin 1 → IVec S16 32) a x).toNat < S14336.size a)
theorem k0_idx224_inb : ∀ (v391 : IVec S16 32) (k0_hw227 : k0_chk227 v391), ∀ a x, ((![v391] : Fin 1 → IVec S16 32) a x).toNat < S14336.size a := fun v391 k0_hw227 => k0_hw227

def k0_chk228 (v399 : IVec S16 32) : Prop :=
  (∀ a x, ((![v399] : Fin 1 → IVec S16 32) a x).toNat < S1280.size a)
theorem k0_idx225_inb : ∀ (v399 : IVec S16 32) (k0_hw228 : k0_chk228 v399), ∀ a x, ((![v399] : Fin 1 → IVec S16 32) a x).toNat < S1280.size a := fun v399 k0_hw228 => k0_hw228
def k0_cond5 (v431 : BitVec 32) : BitVec 1 :=
  let c0_i32_170 : BitVec 32 := 0#32
  let v432 : BitVec 1 := Scalar.cmpi .sgt v431 c0_i32_170
  let v433 : BitVec 32 := Scalar.extui v432
  let c0_i32_171 : BitVec 32 := 0#32
  let v434 : BitVec 1 := Scalar.cmpi .ne v433 c0_i32_171
  v434

def k0_chk229 (v431 : BitVec 32) (v436 : IVec S16 32) : Prop :=
  (∀ (k0_h5 : k0_cond5 v431 = 1#1), ∀ a x, ((![v436] : Fin 1 → IVec S16 32) a x).toNat < S43520.size a)
theorem k0_idx226_inb : ∀ (v431 : BitVec 32) (v436 : IVec S16 32) (k0_hw229 : k0_chk229 v431 v436), ∀ (k0_h5 : k0_cond5 v431 = 1#1), ∀ a x, ((![v436] : Fin 1 → IVec S16 32) a x).toNat < S43520.size a := fun v431 v436 k0_hw229 k0_h5 => k0_hw229 k0_h5

def k0_chk230 (v431 : BitVec 32) (v439 : IVec S16 32) : Prop :=
  (∀ (k0_h5 : k0_cond5 v431 = 1#1), ∀ a x, ((![v439] : Fin 1 → IVec S16 32) a x).toNat < S43520.size a)
theorem k0_idx227_inb : ∀ (v431 : BitVec 32) (v439 : IVec S16 32) (k0_hw230 : k0_chk230 v431 v439), ∀ (k0_h5 : k0_cond5 v431 = 1#1), ∀ a x, ((![v439] : Fin 1 → IVec S16 32) a x).toNat < S43520.size a := fun v431 v439 k0_hw230 k0_h5 => k0_hw230 k0_h5

def k0_chk231 (v431 : BitVec 32) (v442 : IVec S16 32) : Prop :=
  (∀ (k0_h5 : k0_cond5 v431 = 1#1), ∀ a x, ((![v442] : Fin 1 → IVec S16 32) a x).toNat < S43520.size a)
theorem k0_idx228_inb : ∀ (v431 : BitVec 32) (v442 : IVec S16 32) (k0_hw231 : k0_chk231 v431 v442), ∀ (k0_h5 : k0_cond5 v431 = 1#1), ∀ a x, ((![v442] : Fin 1 → IVec S16 32) a x).toNat < S43520.size a := fun v431 v442 k0_hw231 k0_h5 => k0_hw231 k0_h5

def k0_chk232 (v431 : BitVec 32) (v445 : IVec S16 32) : Prop :=
  (∀ (k0_h5 : k0_cond5 v431 = 1#1), ∀ a x, ((![v445] : Fin 1 → IVec S16 32) a x).toNat < S43520.size a)
theorem k0_idx229_inb : ∀ (v431 : BitVec 32) (v445 : IVec S16 32) (k0_hw232 : k0_chk232 v431 v445), ∀ (k0_h5 : k0_cond5 v431 = 1#1), ∀ a x, ((![v445] : Fin 1 → IVec S16 32) a x).toNat < S43520.size a := fun v431 v445 k0_hw232 k0_h5 => k0_hw232 k0_h5

def k0_chk233 (v431 : BitVec 32) (v448 : IVec S16 32) : Prop :=
  (∀ (k0_h5 : k0_cond5 v431 = 1#1), ∀ a x, ((![v448] : Fin 1 → IVec S16 32) a x).toNat < S43520.size a)
theorem k0_idx230_inb : ∀ (v431 : BitVec 32) (v448 : IVec S16 32) (k0_hw233 : k0_chk233 v431 v448), ∀ (k0_h5 : k0_cond5 v431 = 1#1), ∀ a x, ((![v448] : Fin 1 → IVec S16 32) a x).toNat < S43520.size a := fun v431 v448 k0_hw233 k0_h5 => k0_hw233 k0_h5

def k0_chk234 (v431 : BitVec 32) (v451 : IVec S16 32) : Prop :=
  (∀ (k0_h5 : k0_cond5 v431 = 1#1), ∀ a x, ((![v451] : Fin 1 → IVec S16 32) a x).toNat < S43520.size a)
theorem k0_idx231_inb : ∀ (v431 : BitVec 32) (v451 : IVec S16 32) (k0_hw234 : k0_chk234 v431 v451), ∀ (k0_h5 : k0_cond5 v431 = 1#1), ∀ a x, ((![v451] : Fin 1 → IVec S16 32) a x).toNat < S43520.size a := fun v431 v451 k0_hw234 k0_h5 => k0_hw234 k0_h5

def k0_chk235 (v431 : BitVec 32) (v454 : IVec S16 32) : Prop :=
  (∀ (k0_h5 : k0_cond5 v431 = 1#1), ∀ a x, ((![v454] : Fin 1 → IVec S16 32) a x).toNat < S43520.size a)
theorem k0_idx232_inb : ∀ (v431 : BitVec 32) (v454 : IVec S16 32) (k0_hw235 : k0_chk235 v431 v454), ∀ (k0_h5 : k0_cond5 v431 = 1#1), ∀ a x, ((![v454] : Fin 1 → IVec S16 32) a x).toNat < S43520.size a := fun v431 v454 k0_hw235 k0_h5 => k0_hw235 k0_h5

def k0_chk236 (v431 : BitVec 32) (v457 : IVec S16 32) : Prop :=
  (∀ (k0_h5 : k0_cond5 v431 = 1#1), ∀ a x, ((![v457] : Fin 1 → IVec S16 32) a x).toNat < S43520.size a)
theorem k0_idx233_inb : ∀ (v431 : BitVec 32) (v457 : IVec S16 32) (k0_hw236 : k0_chk236 v431 v457), ∀ (k0_h5 : k0_cond5 v431 = 1#1), ∀ a x, ((![v457] : Fin 1 → IVec S16 32) a x).toNat < S43520.size a := fun v431 v457 k0_hw236 k0_h5 => k0_hw236 k0_h5

def k0_chk237 (v431 : BitVec 32) (v460 : IVec S16 32) : Prop :=
  (∀ (k0_h5 : k0_cond5 v431 = 1#1), ∀ a x, ((![v460] : Fin 1 → IVec S16 32) a x).toNat < S43520.size a)
theorem k0_idx234_inb : ∀ (v431 : BitVec 32) (v460 : IVec S16 32) (k0_hw237 : k0_chk237 v431 v460), ∀ (k0_h5 : k0_cond5 v431 = 1#1), ∀ a x, ((![v460] : Fin 1 → IVec S16 32) a x).toNat < S43520.size a := fun v431 v460 k0_hw237 k0_h5 => k0_hw237 k0_h5

def k0_chk238 (v431 : BitVec 32) (v463 : IVec S16 32) : Prop :=
  (∀ (k0_h5 : k0_cond5 v431 = 1#1), ∀ a x, ((![v463] : Fin 1 → IVec S16 32) a x).toNat < S43520.size a)
theorem k0_idx235_inb : ∀ (v431 : BitVec 32) (v463 : IVec S16 32) (k0_hw238 : k0_chk238 v431 v463), ∀ (k0_h5 : k0_cond5 v431 = 1#1), ∀ a x, ((![v463] : Fin 1 → IVec S16 32) a x).toNat < S43520.size a := fun v431 v463 k0_hw238 k0_h5 => k0_hw238 k0_h5

def k0_chk239 (v431 : BitVec 32) (v466 : IVec S16 32) : Prop :=
  (∀ (k0_h5 : k0_cond5 v431 = 1#1), ∀ a x, ((![v466] : Fin 1 → IVec S16 32) a x).toNat < S43520.size a)
theorem k0_idx236_inb : ∀ (v431 : BitVec 32) (v466 : IVec S16 32) (k0_hw239 : k0_chk239 v431 v466), ∀ (k0_h5 : k0_cond5 v431 = 1#1), ∀ a x, ((![v466] : Fin 1 → IVec S16 32) a x).toNat < S43520.size a := fun v431 v466 k0_hw239 k0_h5 => k0_hw239 k0_h5

def k0_chk240 (v431 : BitVec 32) (v477 : IVec S16 32) : Prop :=
  (∀ (k0_h5 : k0_cond5 v431 = 1#1), ∀ a x, ((![v477] : Fin 1 → IVec S16 32) a x).toNat < S43520.size a)
theorem k0_idx237_inb : ∀ (v431 : BitVec 32) (v477 : IVec S16 32) (k0_hw240 : k0_chk240 v431 v477), ∀ (k0_h5 : k0_cond5 v431 = 1#1), ∀ a x, ((![v477] : Fin 1 → IVec S16 32) a x).toNat < S43520.size a := fun v431 v477 k0_hw240 k0_h5 => k0_hw240 k0_h5

def k0_chk241 (v431 : BitVec 32) (v480 : IVec S16 32) : Prop :=
  (∀ (k0_h5 : k0_cond5 v431 = 1#1), ∀ a x, ((![v480] : Fin 1 → IVec S16 32) a x).toNat < S43520.size a)
theorem k0_idx238_inb : ∀ (v431 : BitVec 32) (v480 : IVec S16 32) (k0_hw241 : k0_chk241 v431 v480), ∀ (k0_h5 : k0_cond5 v431 = 1#1), ∀ a x, ((![v480] : Fin 1 → IVec S16 32) a x).toNat < S43520.size a := fun v431 v480 k0_hw241 k0_h5 => k0_hw241 k0_h5

def k0_chk242 (v431 : BitVec 32) (v492 : IVec S16 32) : Prop :=
  (∀ (k0_h5 : k0_cond5 v431 = 1#1), ∀ a x, ((![v492] : Fin 1 → IVec S16 32) a x).toNat < S43520.size a)
theorem k0_idx239_inb : ∀ (v431 : BitVec 32) (v492 : IVec S16 32) (k0_hw242 : k0_chk242 v431 v492), ∀ (k0_h5 : k0_cond5 v431 = 1#1), ∀ a x, ((![v492] : Fin 1 → IVec S16 32) a x).toNat < S43520.size a := fun v431 v492 k0_hw242 k0_h5 => k0_hw242 k0_h5

def k0_chk243 (v431 : BitVec 32) (v495 : IVec S16 32) : Prop :=
  (∀ (k0_h5 : k0_cond5 v431 = 1#1), ∀ a x, ((![v495] : Fin 1 → IVec S16 32) a x).toNat < S43520.size a)
theorem k0_idx240_inb : ∀ (v431 : BitVec 32) (v495 : IVec S16 32) (k0_hw243 : k0_chk243 v431 v495), ∀ (k0_h5 : k0_cond5 v431 = 1#1), ∀ a x, ((![v495] : Fin 1 → IVec S16 32) a x).toNat < S43520.size a := fun v431 v495 k0_hw243 k0_h5 => k0_hw243 k0_h5

def k0_chk244 (v431 : BitVec 32) (v507 : IVec S16 32) : Prop :=
  (∀ (k0_h5 : k0_cond5 v431 = 1#1), ∀ a x, ((![v507] : Fin 1 → IVec S16 32) a x).toNat < S43520.size a)
theorem k0_idx241_inb : ∀ (v431 : BitVec 32) (v507 : IVec S16 32) (k0_hw244 : k0_chk244 v431 v507), ∀ (k0_h5 : k0_cond5 v431 = 1#1), ∀ a x, ((![v507] : Fin 1 → IVec S16 32) a x).toNat < S43520.size a := fun v431 v507 k0_hw244 k0_h5 => k0_hw244 k0_h5

def k0_chk245 (v431 : BitVec 32) (v518 : IVec S16 32) : Prop :=
  (∀ (k0_h5 : k0_cond5 v431 = 1#1), ∀ a x, ((![v518] : Fin 1 → IVec S16 32) a x).toNat < S4096.size a)
theorem k0_idx242_inb : ∀ (v431 : BitVec 32) (v518 : IVec S16 32) (k0_hw245 : k0_chk245 v431 v518), ∀ (k0_h5 : k0_cond5 v431 = 1#1), ∀ a x, ((![v518] : Fin 1 → IVec S16 32) a x).toNat < S4096.size a := fun v431 v518 k0_hw245 k0_h5 => k0_hw245 k0_h5

def k0_chk246 (v431 : BitVec 32) (v520 : IVec S16 32) : Prop :=
  (∀ (k0_h5 : k0_cond5 v431 = 1#1), ∀ a x, ((![v520] : Fin 1 → IVec S16 32) a x).toNat < S43520.size a)
theorem k0_idx243_inb : ∀ (v431 : BitVec 32) (v520 : IVec S16 32) (k0_hw246 : k0_chk246 v431 v520), ∀ (k0_h5 : k0_cond5 v431 = 1#1), ∀ a x, ((![v520] : Fin 1 → IVec S16 32) a x).toNat < S43520.size a := fun v431 v520 k0_hw246 k0_h5 => k0_hw246 k0_h5

def k0_chk247 (v431 : BitVec 32) (v523 : IVec S16 32) : Prop :=
  (∀ (k0_h5 : k0_cond5 v431 = 1#1), ∀ a x, ((![v523] : Fin 1 → IVec S16 32) a x).toNat < S4096.size a)
theorem k0_idx244_inb : ∀ (v431 : BitVec 32) (v523 : IVec S16 32) (k0_hw247 : k0_chk247 v431 v523), ∀ (k0_h5 : k0_cond5 v431 = 1#1), ∀ a x, ((![v523] : Fin 1 → IVec S16 32) a x).toNat < S4096.size a := fun v431 v523 k0_hw247 k0_h5 => k0_hw247 k0_h5

def k0_chk248 (v431 : BitVec 32) (v526 : IVec S16 32) : Prop :=
  (∀ (k0_h5 : k0_cond5 v431 = 1#1), ∀ a x, ((![v526] : Fin 1 → IVec S16 32) a x).toNat < S43520.size a)
theorem k0_idx245_inb : ∀ (v431 : BitVec 32) (v526 : IVec S16 32) (k0_hw248 : k0_chk248 v431 v526), ∀ (k0_h5 : k0_cond5 v431 = 1#1), ∀ a x, ((![v526] : Fin 1 → IVec S16 32) a x).toNat < S43520.size a := fun v431 v526 k0_hw248 k0_h5 => k0_hw248 k0_h5

def k0_chk249 (v431 : BitVec 32) (v529 : IVec S16 32) : Prop :=
  (∀ (k0_h5 : k0_cond5 v431 = 1#1), ∀ a x, ((![v529] : Fin 1 → IVec S16 32) a x).toNat < S4096.size a)
theorem k0_idx246_inb : ∀ (v431 : BitVec 32) (v529 : IVec S16 32) (k0_hw249 : k0_chk249 v431 v529), ∀ (k0_h5 : k0_cond5 v431 = 1#1), ∀ a x, ((![v529] : Fin 1 → IVec S16 32) a x).toNat < S4096.size a := fun v431 v529 k0_hw249 k0_h5 => k0_hw249 k0_h5

def k0_chk250 (v431 : BitVec 32) (v532 : IVec S16 32) : Prop :=
  (∀ (k0_h5 : k0_cond5 v431 = 1#1), ∀ a x, ((![v532] : Fin 1 → IVec S16 32) a x).toNat < S43520.size a)
theorem k0_idx247_inb : ∀ (v431 : BitVec 32) (v532 : IVec S16 32) (k0_hw250 : k0_chk250 v431 v532), ∀ (k0_h5 : k0_cond5 v431 = 1#1), ∀ a x, ((![v532] : Fin 1 → IVec S16 32) a x).toNat < S43520.size a := fun v431 v532 k0_hw250 k0_h5 => k0_hw250 k0_h5

def k0_chk251 (v431 : BitVec 32) (v535 : IVec S16 32) : Prop :=
  (∀ (k0_h5 : k0_cond5 v431 = 1#1), ∀ a x, ((![v535] : Fin 1 → IVec S16 32) a x).toNat < S4096.size a)
theorem k0_idx248_inb : ∀ (v431 : BitVec 32) (v535 : IVec S16 32) (k0_hw251 : k0_chk251 v431 v535), ∀ (k0_h5 : k0_cond5 v431 = 1#1), ∀ a x, ((![v535] : Fin 1 → IVec S16 32) a x).toNat < S4096.size a := fun v431 v535 k0_hw251 k0_h5 => k0_hw251 k0_h5

def k0_chk252 (v431 : BitVec 32) (v538 : IVec S16 32) : Prop :=
  (∀ (k0_h5 : k0_cond5 v431 = 1#1), ∀ a x, ((![v538] : Fin 1 → IVec S16 32) a x).toNat < S43520.size a)
theorem k0_idx249_inb : ∀ (v431 : BitVec 32) (v538 : IVec S16 32) (k0_hw252 : k0_chk252 v431 v538), ∀ (k0_h5 : k0_cond5 v431 = 1#1), ∀ a x, ((![v538] : Fin 1 → IVec S16 32) a x).toNat < S43520.size a := fun v431 v538 k0_hw252 k0_h5 => k0_hw252 k0_h5

def k0_chk253 (v431 : BitVec 32) (v541 : IVec S16 32) : Prop :=
  (∀ (k0_h5 : k0_cond5 v431 = 1#1), ∀ a x, ((![v541] : Fin 1 → IVec S16 32) a x).toNat < S4096.size a)
theorem k0_idx250_inb : ∀ (v431 : BitVec 32) (v541 : IVec S16 32) (k0_hw253 : k0_chk253 v431 v541), ∀ (k0_h5 : k0_cond5 v431 = 1#1), ∀ a x, ((![v541] : Fin 1 → IVec S16 32) a x).toNat < S4096.size a := fun v431 v541 k0_hw253 k0_h5 => k0_hw253 k0_h5

def k0_chk254 (v431 : BitVec 32) (v544 : IVec S16 32) : Prop :=
  (∀ (k0_h5 : k0_cond5 v431 = 1#1), ∀ a x, ((![v544] : Fin 1 → IVec S16 32) a x).toNat < S43520.size a)
theorem k0_idx251_inb : ∀ (v431 : BitVec 32) (v544 : IVec S16 32) (k0_hw254 : k0_chk254 v431 v544), ∀ (k0_h5 : k0_cond5 v431 = 1#1), ∀ a x, ((![v544] : Fin 1 → IVec S16 32) a x).toNat < S43520.size a := fun v431 v544 k0_hw254 k0_h5 => k0_hw254 k0_h5

def k0_chk255 (v431 : BitVec 32) (v547 : IVec S16 32) : Prop :=
  (∀ (k0_h5 : k0_cond5 v431 = 1#1), ∀ a x, ((![v547] : Fin 1 → IVec S16 32) a x).toNat < S4096.size a)
theorem k0_idx252_inb : ∀ (v431 : BitVec 32) (v547 : IVec S16 32) (k0_hw255 : k0_chk255 v431 v547), ∀ (k0_h5 : k0_cond5 v431 = 1#1), ∀ a x, ((![v547] : Fin 1 → IVec S16 32) a x).toNat < S4096.size a := fun v431 v547 k0_hw255 k0_h5 => k0_hw255 k0_h5

def k0_chk256 (v431 : BitVec 32) (v550 : IVec S16 32) : Prop :=
  (∀ (k0_h5 : k0_cond5 v431 = 1#1), ∀ a x, ((![v550] : Fin 1 → IVec S16 32) a x).toNat < S43520.size a)
theorem k0_idx253_inb : ∀ (v431 : BitVec 32) (v550 : IVec S16 32) (k0_hw256 : k0_chk256 v431 v550), ∀ (k0_h5 : k0_cond5 v431 = 1#1), ∀ a x, ((![v550] : Fin 1 → IVec S16 32) a x).toNat < S43520.size a := fun v431 v550 k0_hw256 k0_h5 => k0_hw256 k0_h5

def k0_chk257 (v431 : BitVec 32) (v553 : IVec S16 32) : Prop :=
  (∀ (k0_h5 : k0_cond5 v431 = 1#1), ∀ a x, ((![v553] : Fin 1 → IVec S16 32) a x).toNat < S4096.size a)
theorem k0_idx254_inb : ∀ (v431 : BitVec 32) (v553 : IVec S16 32) (k0_hw257 : k0_chk257 v431 v553), ∀ (k0_h5 : k0_cond5 v431 = 1#1), ∀ a x, ((![v553] : Fin 1 → IVec S16 32) a x).toNat < S4096.size a := fun v431 v553 k0_hw257 k0_h5 => k0_hw257 k0_h5

def k0_chk258 (v431 : BitVec 32) (v556 : IVec S16 32) : Prop :=
  (∀ (k0_h5 : k0_cond5 v431 = 1#1), ∀ a x, ((![v556] : Fin 1 → IVec S16 32) a x).toNat < S43520.size a)
theorem k0_idx255_inb : ∀ (v431 : BitVec 32) (v556 : IVec S16 32) (k0_hw258 : k0_chk258 v431 v556), ∀ (k0_h5 : k0_cond5 v431 = 1#1), ∀ a x, ((![v556] : Fin 1 → IVec S16 32) a x).toNat < S43520.size a := fun v431 v556 k0_hw258 k0_h5 => k0_hw258 k0_h5

def k0_chk259 (v431 : BitVec 32) (v559 : IVec S16 32) : Prop :=
  (∀ (k0_h5 : k0_cond5 v431 = 1#1), ∀ a x, ((![v559] : Fin 1 → IVec S16 32) a x).toNat < S4096.size a)
theorem k0_idx256_inb : ∀ (v431 : BitVec 32) (v559 : IVec S16 32) (k0_hw259 : k0_chk259 v431 v559), ∀ (k0_h5 : k0_cond5 v431 = 1#1), ∀ a x, ((![v559] : Fin 1 → IVec S16 32) a x).toNat < S4096.size a := fun v431 v559 k0_hw259 k0_h5 => k0_hw259 k0_h5

def k0_chk260 (v431 : BitVec 32) (v562 : IVec S16 32) : Prop :=
  (∀ (k0_h5 : k0_cond5 v431 = 1#1), ∀ a x, ((![v562] : Fin 1 → IVec S16 32) a x).toNat < S43520.size a)
theorem k0_idx257_inb : ∀ (v431 : BitVec 32) (v562 : IVec S16 32) (k0_hw260 : k0_chk260 v431 v562), ∀ (k0_h5 : k0_cond5 v431 = 1#1), ∀ a x, ((![v562] : Fin 1 → IVec S16 32) a x).toNat < S43520.size a := fun v431 v562 k0_hw260 k0_h5 => k0_hw260 k0_h5

def k0_chk261 (v431 : BitVec 32) (v565 : IVec S16 32) : Prop :=
  (∀ (k0_h5 : k0_cond5 v431 = 1#1), ∀ a x, ((![v565] : Fin 1 → IVec S16 32) a x).toNat < S4096.size a)
theorem k0_idx258_inb : ∀ (v431 : BitVec 32) (v565 : IVec S16 32) (k0_hw261 : k0_chk261 v431 v565), ∀ (k0_h5 : k0_cond5 v431 = 1#1), ∀ a x, ((![v565] : Fin 1 → IVec S16 32) a x).toNat < S4096.size a := fun v431 v565 k0_hw261 k0_h5 => k0_hw261 k0_h5

def k0_chk262 (v431 : BitVec 32) (v568 : IVec S16 32) : Prop :=
  (∀ (k0_h5 : k0_cond5 v431 = 1#1), ∀ a x, ((![v568] : Fin 1 → IVec S16 32) a x).toNat < S43520.size a)
theorem k0_idx259_inb : ∀ (v431 : BitVec 32) (v568 : IVec S16 32) (k0_hw262 : k0_chk262 v431 v568), ∀ (k0_h5 : k0_cond5 v431 = 1#1), ∀ a x, ((![v568] : Fin 1 → IVec S16 32) a x).toNat < S43520.size a := fun v431 v568 k0_hw262 k0_h5 => k0_hw262 k0_h5

def k0_chk263 (v431 : BitVec 32) (v571 : IVec S16 32) : Prop :=
  (∀ (k0_h5 : k0_cond5 v431 = 1#1), ∀ a x, ((![v571] : Fin 1 → IVec S16 32) a x).toNat < S4096.size a)
theorem k0_idx260_inb : ∀ (v431 : BitVec 32) (v571 : IVec S16 32) (k0_hw263 : k0_chk263 v431 v571), ∀ (k0_h5 : k0_cond5 v431 = 1#1), ∀ a x, ((![v571] : Fin 1 → IVec S16 32) a x).toNat < S4096.size a := fun v431 v571 k0_hw263 k0_h5 => k0_hw263 k0_h5

def k0_chk264 (v431 : BitVec 32) (v574 : IVec S16 32) : Prop :=
  (∀ (k0_h5 : k0_cond5 v431 = 1#1), ∀ a x, ((![v574] : Fin 1 → IVec S16 32) a x).toNat < S43520.size a)
theorem k0_idx261_inb : ∀ (v431 : BitVec 32) (v574 : IVec S16 32) (k0_hw264 : k0_chk264 v431 v574), ∀ (k0_h5 : k0_cond5 v431 = 1#1), ∀ a x, ((![v574] : Fin 1 → IVec S16 32) a x).toNat < S43520.size a := fun v431 v574 k0_hw264 k0_h5 => k0_hw264 k0_h5

def k0_chk265 (v431 : BitVec 32) (v577 : IVec S16 32) : Prop :=
  (∀ (k0_h5 : k0_cond5 v431 = 1#1), ∀ a x, ((![v577] : Fin 1 → IVec S16 32) a x).toNat < S4096.size a)
theorem k0_idx262_inb : ∀ (v431 : BitVec 32) (v577 : IVec S16 32) (k0_hw265 : k0_chk265 v431 v577), ∀ (k0_h5 : k0_cond5 v431 = 1#1), ∀ a x, ((![v577] : Fin 1 → IVec S16 32) a x).toNat < S4096.size a := fun v431 v577 k0_hw265 k0_h5 => k0_hw265 k0_h5

def k0_chk266 (v431 : BitVec 32) (v580 : IVec S16 32) : Prop :=
  (∀ (k0_h5 : k0_cond5 v431 = 1#1), ∀ a x, ((![v580] : Fin 1 → IVec S16 32) a x).toNat < S43520.size a)
theorem k0_idx263_inb : ∀ (v431 : BitVec 32) (v580 : IVec S16 32) (k0_hw266 : k0_chk266 v431 v580), ∀ (k0_h5 : k0_cond5 v431 = 1#1), ∀ a x, ((![v580] : Fin 1 → IVec S16 32) a x).toNat < S43520.size a := fun v431 v580 k0_hw266 k0_h5 => k0_hw266 k0_h5

def k0_chk267 (v431 : BitVec 32) (v583 : IVec S16 32) : Prop :=
  (∀ (k0_h5 : k0_cond5 v431 = 1#1), ∀ a x, ((![v583] : Fin 1 → IVec S16 32) a x).toNat < S4096.size a)
theorem k0_idx264_inb : ∀ (v431 : BitVec 32) (v583 : IVec S16 32) (k0_hw267 : k0_chk267 v431 v583), ∀ (k0_h5 : k0_cond5 v431 = 1#1), ∀ a x, ((![v583] : Fin 1 → IVec S16 32) a x).toNat < S4096.size a := fun v431 v583 k0_hw267 k0_h5 => k0_hw267 k0_h5

def k0_chk268 (v431 : BitVec 32) (v586 : IVec S16 32) : Prop :=
  (∀ (k0_h5 : k0_cond5 v431 = 1#1), ∀ a x, ((![v586] : Fin 1 → IVec S16 32) a x).toNat < S43520.size a)
theorem k0_idx265_inb : ∀ (v431 : BitVec 32) (v586 : IVec S16 32) (k0_hw268 : k0_chk268 v431 v586), ∀ (k0_h5 : k0_cond5 v431 = 1#1), ∀ a x, ((![v586] : Fin 1 → IVec S16 32) a x).toNat < S43520.size a := fun v431 v586 k0_hw268 k0_h5 => k0_hw268 k0_h5

def k0_chk269 (v431 : BitVec 32) (v589 : IVec S16 32) : Prop :=
  (∀ (k0_h5 : k0_cond5 v431 = 1#1), ∀ a x, ((![v589] : Fin 1 → IVec S16 32) a x).toNat < S4096.size a)
theorem k0_idx266_inb : ∀ (v431 : BitVec 32) (v589 : IVec S16 32) (k0_hw269 : k0_chk269 v431 v589), ∀ (k0_h5 : k0_cond5 v431 = 1#1), ∀ a x, ((![v589] : Fin 1 → IVec S16 32) a x).toNat < S4096.size a := fun v431 v589 k0_hw269 k0_h5 => k0_hw269 k0_h5

def k0_chk270 (v431 : BitVec 32) (v592 : IVec S16 32) : Prop :=
  (∀ (k0_h5 : k0_cond5 v431 = 1#1), ∀ a x, ((![v592] : Fin 1 → IVec S16 32) a x).toNat < S43520.size a)
theorem k0_idx267_inb : ∀ (v431 : BitVec 32) (v592 : IVec S16 32) (k0_hw270 : k0_chk270 v431 v592), ∀ (k0_h5 : k0_cond5 v431 = 1#1), ∀ a x, ((![v592] : Fin 1 → IVec S16 32) a x).toNat < S43520.size a := fun v431 v592 k0_hw270 k0_h5 => k0_hw270 k0_h5

def k0_chk271 (v431 : BitVec 32) (v595 : IVec S16 32) : Prop :=
  (∀ (k0_h5 : k0_cond5 v431 = 1#1), ∀ a x, ((![v595] : Fin 1 → IVec S16 32) a x).toNat < S4096.size a)
theorem k0_idx268_inb : ∀ (v431 : BitVec 32) (v595 : IVec S16 32) (k0_hw271 : k0_chk271 v431 v595), ∀ (k0_h5 : k0_cond5 v431 = 1#1), ∀ a x, ((![v595] : Fin 1 → IVec S16 32) a x).toNat < S4096.size a := fun v431 v595 k0_hw271 k0_h5 => k0_hw271 k0_h5

def k0_chk272 (v431 : BitVec 32) (v598 : IVec S16 32) : Prop :=
  (∀ (k0_h5 : k0_cond5 v431 = 1#1), ∀ a x, ((![v598] : Fin 1 → IVec S16 32) a x).toNat < S43520.size a)
theorem k0_idx269_inb : ∀ (v431 : BitVec 32) (v598 : IVec S16 32) (k0_hw272 : k0_chk272 v431 v598), ∀ (k0_h5 : k0_cond5 v431 = 1#1), ∀ a x, ((![v598] : Fin 1 → IVec S16 32) a x).toNat < S43520.size a := fun v431 v598 k0_hw272 k0_h5 => k0_hw272 k0_h5

def k0_chk273 (v431 : BitVec 32) (v601 : IVec S16 32) : Prop :=
  (∀ (k0_h5 : k0_cond5 v431 = 1#1), ∀ a x, ((![v601] : Fin 1 → IVec S16 32) a x).toNat < S4096.size a)
theorem k0_idx270_inb : ∀ (v431 : BitVec 32) (v601 : IVec S16 32) (k0_hw273 : k0_chk273 v431 v601), ∀ (k0_h5 : k0_cond5 v431 = 1#1), ∀ a x, ((![v601] : Fin 1 → IVec S16 32) a x).toNat < S4096.size a := fun v431 v601 k0_hw273 k0_h5 => k0_hw273 k0_h5

def k0_chk274 (v431 : BitVec 32) (v604 : IVec S16 32) : Prop :=
  (∀ (k0_h5 : k0_cond5 v431 = 1#1), ∀ a x, ((![v604] : Fin 1 → IVec S16 32) a x).toNat < S43520.size a)
theorem k0_idx271_inb : ∀ (v431 : BitVec 32) (v604 : IVec S16 32) (k0_hw274 : k0_chk274 v431 v604), ∀ (k0_h5 : k0_cond5 v431 = 1#1), ∀ a x, ((![v604] : Fin 1 → IVec S16 32) a x).toNat < S43520.size a := fun v431 v604 k0_hw274 k0_h5 => k0_hw274 k0_h5

def k0_chk275 (v431 : BitVec 32) (v607 : IVec S16 32) : Prop :=
  (∀ (k0_h5 : k0_cond5 v431 = 1#1), ∀ a x, ((![v607] : Fin 1 → IVec S16 32) a x).toNat < S4096.size a)
theorem k0_idx272_inb : ∀ (v431 : BitVec 32) (v607 : IVec S16 32) (k0_hw275 : k0_chk275 v431 v607), ∀ (k0_h5 : k0_cond5 v431 = 1#1), ∀ a x, ((![v607] : Fin 1 → IVec S16 32) a x).toNat < S4096.size a := fun v431 v607 k0_hw275 k0_h5 => k0_hw275 k0_h5

def k0_chk276 (v431 : BitVec 32) (v610 : IVec S16 32) : Prop :=
  (∀ (k0_h5 : k0_cond5 v431 = 1#1), ∀ a x, ((![v610] : Fin 1 → IVec S16 32) a x).toNat < S43520.size a)
theorem k0_idx273_inb : ∀ (v431 : BitVec 32) (v610 : IVec S16 32) (k0_hw276 : k0_chk276 v431 v610), ∀ (k0_h5 : k0_cond5 v431 = 1#1), ∀ a x, ((![v610] : Fin 1 → IVec S16 32) a x).toNat < S43520.size a := fun v431 v610 k0_hw276 k0_h5 => k0_hw276 k0_h5

def k0_chk277 (v431 : BitVec 32) (v613 : IVec S16 32) : Prop :=
  (∀ (k0_h5 : k0_cond5 v431 = 1#1), ∀ a x, ((![v613] : Fin 1 → IVec S16 32) a x).toNat < S4096.size a)
theorem k0_idx274_inb : ∀ (v431 : BitVec 32) (v613 : IVec S16 32) (k0_hw277 : k0_chk277 v431 v613), ∀ (k0_h5 : k0_cond5 v431 = 1#1), ∀ a x, ((![v613] : Fin 1 → IVec S16 32) a x).toNat < S4096.size a := fun v431 v613 k0_hw277 k0_h5 => k0_hw277 k0_h5

def k0_chk278 (v431 : BitVec 32) (v616 : IVec S16 32) : Prop :=
  (∀ (k0_h5 : k0_cond5 v431 = 1#1), ∀ a x, ((![v616] : Fin 1 → IVec S16 32) a x).toNat < S43520.size a)
theorem k0_idx275_inb : ∀ (v431 : BitVec 32) (v616 : IVec S16 32) (k0_hw278 : k0_chk278 v431 v616), ∀ (k0_h5 : k0_cond5 v431 = 1#1), ∀ a x, ((![v616] : Fin 1 → IVec S16 32) a x).toNat < S43520.size a := fun v431 v616 k0_hw278 k0_h5 => k0_hw278 k0_h5

def k0_chk279 (v431 : BitVec 32) (v619 : IVec S16 32) : Prop :=
  (∀ (k0_h5 : k0_cond5 v431 = 1#1), ∀ a x, ((![v619] : Fin 1 → IVec S16 32) a x).toNat < S4096.size a)
theorem k0_idx276_inb : ∀ (v431 : BitVec 32) (v619 : IVec S16 32) (k0_hw279 : k0_chk279 v431 v619), ∀ (k0_h5 : k0_cond5 v431 = 1#1), ∀ a x, ((![v619] : Fin 1 → IVec S16 32) a x).toNat < S4096.size a := fun v431 v619 k0_hw279 k0_h5 => k0_hw279 k0_h5

def k0_chk280 (v431 : BitVec 32) (v622 : IVec S16 32) : Prop :=
  (∀ (k0_h5 : k0_cond5 v431 = 1#1), ∀ a x, ((![v622] : Fin 1 → IVec S16 32) a x).toNat < S43520.size a)
theorem k0_idx277_inb : ∀ (v431 : BitVec 32) (v622 : IVec S16 32) (k0_hw280 : k0_chk280 v431 v622), ∀ (k0_h5 : k0_cond5 v431 = 1#1), ∀ a x, ((![v622] : Fin 1 → IVec S16 32) a x).toNat < S43520.size a := fun v431 v622 k0_hw280 k0_h5 => k0_hw280 k0_h5

def k0_chk281 (v431 : BitVec 32) (v625 : IVec S16 32) : Prop :=
  (∀ (k0_h5 : k0_cond5 v431 = 1#1), ∀ a x, ((![v625] : Fin 1 → IVec S16 32) a x).toNat < S4096.size a)
theorem k0_idx278_inb : ∀ (v431 : BitVec 32) (v625 : IVec S16 32) (k0_hw281 : k0_chk281 v431 v625), ∀ (k0_h5 : k0_cond5 v431 = 1#1), ∀ a x, ((![v625] : Fin 1 → IVec S16 32) a x).toNat < S4096.size a := fun v431 v625 k0_hw281 k0_h5 => k0_hw281 k0_h5
@[reducible] def k0_t8_loop (v195 : BitVec 32) : Scf.Loop 32 :=
  let c0_i32_77 : BitVec 32 := 0#32
  let v196 : BitVec 32 := Scalar.subi v195 c0_i32_77
  let c1_i32_78 : BitVec 32 := 1#32
  let v198 : BitVec 32 := Scalar.divsi v196 c1_i32_78
  let v199 : BitVec 32 := Scalar.muli v198 c1_i32_78
  let v200 : BitVec 32 := Scalar.addi c0_i32_77 v199
  let v197 : BitVec 32 := Scalar.addi c0_i32_77 v196
  let c1_i32_80 : BitVec 32 := 1#32
  ⟨v200, v197, c1_i32_80⟩

def k0_chk226 (v195 : BitVec 32) : Prop :=
  ((k0_t7_loop v195).OK) ∧
  ((k0_t8_loop v195).OK)
theorem k0_t7_ok : ∀ (v195 : BitVec 32) (k0_hw226 : k0_chk226 v195), (k0_t7_loop v195).OK := fun v195 k0_hw226 => k0_hw226.1
theorem k0_t8_ok : ∀ (v195 : BitVec 32) (k0_hw226 : k0_chk226 v195), (k0_t8_loop v195).OK := fun v195 k0_hw226 => k0_hw226.2

def k0_chk282 (v391 : IVec S16 32) : Prop :=
  (∀ a x, ((![v391] : Fin 1 → IVec S16 32) a x).toNat < S14336.size a)
theorem k0_idx279_inb : ∀ (v391 : IVec S16 32) (k0_hw282 : k0_chk282 v391), ∀ a x, ((![v391] : Fin 1 → IVec S16 32) a x).toNat < S14336.size a := fun v391 k0_hw282 => k0_hw282

def k0_chk283 (v399 : IVec S16 32) : Prop :=
  (∀ a x, ((![v399] : Fin 1 → IVec S16 32) a x).toNat < S1280.size a)
theorem k0_idx280_inb : ∀ (v399 : IVec S16 32) (k0_hw283 : k0_chk283 v399), ∀ a x, ((![v399] : Fin 1 → IVec S16 32) a x).toNat < S1280.size a := fun v399 k0_hw283 => k0_hw283
def k0_cond6 (v431 : BitVec 32) : BitVec 1 :=
  let c0_i32_170 : BitVec 32 := 0#32
  let v432 : BitVec 1 := Scalar.cmpi .sgt v431 c0_i32_170
  let v433 : BitVec 32 := Scalar.extui v432
  let c0_i32_171 : BitVec 32 := 0#32
  let v434 : BitVec 1 := Scalar.cmpi .ne v433 c0_i32_171
  v434

def k0_chk284 (v431 : BitVec 32) (v436 : IVec S16 32) : Prop :=
  (∀ (k0_h6 : k0_cond6 v431 = 1#1), ∀ a x, ((![v436] : Fin 1 → IVec S16 32) a x).toNat < S43520.size a)
theorem k0_idx281_inb : ∀ (v431 : BitVec 32) (v436 : IVec S16 32) (k0_hw284 : k0_chk284 v431 v436), ∀ (k0_h6 : k0_cond6 v431 = 1#1), ∀ a x, ((![v436] : Fin 1 → IVec S16 32) a x).toNat < S43520.size a := fun v431 v436 k0_hw284 k0_h6 => k0_hw284 k0_h6

def k0_chk285 (v431 : BitVec 32) (v439 : IVec S16 32) : Prop :=
  (∀ (k0_h6 : k0_cond6 v431 = 1#1), ∀ a x, ((![v439] : Fin 1 → IVec S16 32) a x).toNat < S43520.size a)
theorem k0_idx282_inb : ∀ (v431 : BitVec 32) (v439 : IVec S16 32) (k0_hw285 : k0_chk285 v431 v439), ∀ (k0_h6 : k0_cond6 v431 = 1#1), ∀ a x, ((![v439] : Fin 1 → IVec S16 32) a x).toNat < S43520.size a := fun v431 v439 k0_hw285 k0_h6 => k0_hw285 k0_h6

def k0_chk286 (v431 : BitVec 32) (v442 : IVec S16 32) : Prop :=
  (∀ (k0_h6 : k0_cond6 v431 = 1#1), ∀ a x, ((![v442] : Fin 1 → IVec S16 32) a x).toNat < S43520.size a)
theorem k0_idx283_inb : ∀ (v431 : BitVec 32) (v442 : IVec S16 32) (k0_hw286 : k0_chk286 v431 v442), ∀ (k0_h6 : k0_cond6 v431 = 1#1), ∀ a x, ((![v442] : Fin 1 → IVec S16 32) a x).toNat < S43520.size a := fun v431 v442 k0_hw286 k0_h6 => k0_hw286 k0_h6

def k0_chk287 (v431 : BitVec 32) (v445 : IVec S16 32) : Prop :=
  (∀ (k0_h6 : k0_cond6 v431 = 1#1), ∀ a x, ((![v445] : Fin 1 → IVec S16 32) a x).toNat < S43520.size a)
theorem k0_idx284_inb : ∀ (v431 : BitVec 32) (v445 : IVec S16 32) (k0_hw287 : k0_chk287 v431 v445), ∀ (k0_h6 : k0_cond6 v431 = 1#1), ∀ a x, ((![v445] : Fin 1 → IVec S16 32) a x).toNat < S43520.size a := fun v431 v445 k0_hw287 k0_h6 => k0_hw287 k0_h6

def k0_chk288 (v431 : BitVec 32) (v448 : IVec S16 32) : Prop :=
  (∀ (k0_h6 : k0_cond6 v431 = 1#1), ∀ a x, ((![v448] : Fin 1 → IVec S16 32) a x).toNat < S43520.size a)
theorem k0_idx285_inb : ∀ (v431 : BitVec 32) (v448 : IVec S16 32) (k0_hw288 : k0_chk288 v431 v448), ∀ (k0_h6 : k0_cond6 v431 = 1#1), ∀ a x, ((![v448] : Fin 1 → IVec S16 32) a x).toNat < S43520.size a := fun v431 v448 k0_hw288 k0_h6 => k0_hw288 k0_h6

def k0_chk289 (v431 : BitVec 32) (v451 : IVec S16 32) : Prop :=
  (∀ (k0_h6 : k0_cond6 v431 = 1#1), ∀ a x, ((![v451] : Fin 1 → IVec S16 32) a x).toNat < S43520.size a)
theorem k0_idx286_inb : ∀ (v431 : BitVec 32) (v451 : IVec S16 32) (k0_hw289 : k0_chk289 v431 v451), ∀ (k0_h6 : k0_cond6 v431 = 1#1), ∀ a x, ((![v451] : Fin 1 → IVec S16 32) a x).toNat < S43520.size a := fun v431 v451 k0_hw289 k0_h6 => k0_hw289 k0_h6

def k0_chk290 (v431 : BitVec 32) (v454 : IVec S16 32) : Prop :=
  (∀ (k0_h6 : k0_cond6 v431 = 1#1), ∀ a x, ((![v454] : Fin 1 → IVec S16 32) a x).toNat < S43520.size a)
theorem k0_idx287_inb : ∀ (v431 : BitVec 32) (v454 : IVec S16 32) (k0_hw290 : k0_chk290 v431 v454), ∀ (k0_h6 : k0_cond6 v431 = 1#1), ∀ a x, ((![v454] : Fin 1 → IVec S16 32) a x).toNat < S43520.size a := fun v431 v454 k0_hw290 k0_h6 => k0_hw290 k0_h6

def k0_chk291 (v431 : BitVec 32) (v457 : IVec S16 32) : Prop :=
  (∀ (k0_h6 : k0_cond6 v431 = 1#1), ∀ a x, ((![v457] : Fin 1 → IVec S16 32) a x).toNat < S43520.size a)
theorem k0_idx288_inb : ∀ (v431 : BitVec 32) (v457 : IVec S16 32) (k0_hw291 : k0_chk291 v431 v457), ∀ (k0_h6 : k0_cond6 v431 = 1#1), ∀ a x, ((![v457] : Fin 1 → IVec S16 32) a x).toNat < S43520.size a := fun v431 v457 k0_hw291 k0_h6 => k0_hw291 k0_h6

def k0_chk292 (v431 : BitVec 32) (v460 : IVec S16 32) : Prop :=
  (∀ (k0_h6 : k0_cond6 v431 = 1#1), ∀ a x, ((![v460] : Fin 1 → IVec S16 32) a x).toNat < S43520.size a)
theorem k0_idx289_inb : ∀ (v431 : BitVec 32) (v460 : IVec S16 32) (k0_hw292 : k0_chk292 v431 v460), ∀ (k0_h6 : k0_cond6 v431 = 1#1), ∀ a x, ((![v460] : Fin 1 → IVec S16 32) a x).toNat < S43520.size a := fun v431 v460 k0_hw292 k0_h6 => k0_hw292 k0_h6

def k0_chk293 (v431 : BitVec 32) (v463 : IVec S16 32) : Prop :=
  (∀ (k0_h6 : k0_cond6 v431 = 1#1), ∀ a x, ((![v463] : Fin 1 → IVec S16 32) a x).toNat < S43520.size a)
theorem k0_idx290_inb : ∀ (v431 : BitVec 32) (v463 : IVec S16 32) (k0_hw293 : k0_chk293 v431 v463), ∀ (k0_h6 : k0_cond6 v431 = 1#1), ∀ a x, ((![v463] : Fin 1 → IVec S16 32) a x).toNat < S43520.size a := fun v431 v463 k0_hw293 k0_h6 => k0_hw293 k0_h6

def k0_chk294 (v431 : BitVec 32) (v466 : IVec S16 32) : Prop :=
  (∀ (k0_h6 : k0_cond6 v431 = 1#1), ∀ a x, ((![v466] : Fin 1 → IVec S16 32) a x).toNat < S43520.size a)
theorem k0_idx291_inb : ∀ (v431 : BitVec 32) (v466 : IVec S16 32) (k0_hw294 : k0_chk294 v431 v466), ∀ (k0_h6 : k0_cond6 v431 = 1#1), ∀ a x, ((![v466] : Fin 1 → IVec S16 32) a x).toNat < S43520.size a := fun v431 v466 k0_hw294 k0_h6 => k0_hw294 k0_h6

def k0_chk295 (v431 : BitVec 32) (v477 : IVec S16 32) : Prop :=
  (∀ (k0_h6 : k0_cond6 v431 = 1#1), ∀ a x, ((![v477] : Fin 1 → IVec S16 32) a x).toNat < S43520.size a)
theorem k0_idx292_inb : ∀ (v431 : BitVec 32) (v477 : IVec S16 32) (k0_hw295 : k0_chk295 v431 v477), ∀ (k0_h6 : k0_cond6 v431 = 1#1), ∀ a x, ((![v477] : Fin 1 → IVec S16 32) a x).toNat < S43520.size a := fun v431 v477 k0_hw295 k0_h6 => k0_hw295 k0_h6

def k0_chk296 (v431 : BitVec 32) (v480 : IVec S16 32) : Prop :=
  (∀ (k0_h6 : k0_cond6 v431 = 1#1), ∀ a x, ((![v480] : Fin 1 → IVec S16 32) a x).toNat < S43520.size a)
theorem k0_idx293_inb : ∀ (v431 : BitVec 32) (v480 : IVec S16 32) (k0_hw296 : k0_chk296 v431 v480), ∀ (k0_h6 : k0_cond6 v431 = 1#1), ∀ a x, ((![v480] : Fin 1 → IVec S16 32) a x).toNat < S43520.size a := fun v431 v480 k0_hw296 k0_h6 => k0_hw296 k0_h6

def k0_chk297 (v431 : BitVec 32) (v492 : IVec S16 32) : Prop :=
  (∀ (k0_h6 : k0_cond6 v431 = 1#1), ∀ a x, ((![v492] : Fin 1 → IVec S16 32) a x).toNat < S43520.size a)
theorem k0_idx294_inb : ∀ (v431 : BitVec 32) (v492 : IVec S16 32) (k0_hw297 : k0_chk297 v431 v492), ∀ (k0_h6 : k0_cond6 v431 = 1#1), ∀ a x, ((![v492] : Fin 1 → IVec S16 32) a x).toNat < S43520.size a := fun v431 v492 k0_hw297 k0_h6 => k0_hw297 k0_h6

def k0_chk298 (v431 : BitVec 32) (v495 : IVec S16 32) : Prop :=
  (∀ (k0_h6 : k0_cond6 v431 = 1#1), ∀ a x, ((![v495] : Fin 1 → IVec S16 32) a x).toNat < S43520.size a)
theorem k0_idx295_inb : ∀ (v431 : BitVec 32) (v495 : IVec S16 32) (k0_hw298 : k0_chk298 v431 v495), ∀ (k0_h6 : k0_cond6 v431 = 1#1), ∀ a x, ((![v495] : Fin 1 → IVec S16 32) a x).toNat < S43520.size a := fun v431 v495 k0_hw298 k0_h6 => k0_hw298 k0_h6

def k0_chk299 (v431 : BitVec 32) (v507 : IVec S16 32) : Prop :=
  (∀ (k0_h6 : k0_cond6 v431 = 1#1), ∀ a x, ((![v507] : Fin 1 → IVec S16 32) a x).toNat < S43520.size a)
theorem k0_idx296_inb : ∀ (v431 : BitVec 32) (v507 : IVec S16 32) (k0_hw299 : k0_chk299 v431 v507), ∀ (k0_h6 : k0_cond6 v431 = 1#1), ∀ a x, ((![v507] : Fin 1 → IVec S16 32) a x).toNat < S43520.size a := fun v431 v507 k0_hw299 k0_h6 => k0_hw299 k0_h6

def k0_chk300 (v431 : BitVec 32) (v518 : IVec S16 32) : Prop :=
  (∀ (k0_h6 : k0_cond6 v431 = 1#1), ∀ a x, ((![v518] : Fin 1 → IVec S16 32) a x).toNat < S4096.size a)
theorem k0_idx297_inb : ∀ (v431 : BitVec 32) (v518 : IVec S16 32) (k0_hw300 : k0_chk300 v431 v518), ∀ (k0_h6 : k0_cond6 v431 = 1#1), ∀ a x, ((![v518] : Fin 1 → IVec S16 32) a x).toNat < S4096.size a := fun v431 v518 k0_hw300 k0_h6 => k0_hw300 k0_h6

def k0_chk301 (v431 : BitVec 32) (v520 : IVec S16 32) : Prop :=
  (∀ (k0_h6 : k0_cond6 v431 = 1#1), ∀ a x, ((![v520] : Fin 1 → IVec S16 32) a x).toNat < S43520.size a)
theorem k0_idx298_inb : ∀ (v431 : BitVec 32) (v520 : IVec S16 32) (k0_hw301 : k0_chk301 v431 v520), ∀ (k0_h6 : k0_cond6 v431 = 1#1), ∀ a x, ((![v520] : Fin 1 → IVec S16 32) a x).toNat < S43520.size a := fun v431 v520 k0_hw301 k0_h6 => k0_hw301 k0_h6

def k0_chk302 (v431 : BitVec 32) (v523 : IVec S16 32) : Prop :=
  (∀ (k0_h6 : k0_cond6 v431 = 1#1), ∀ a x, ((![v523] : Fin 1 → IVec S16 32) a x).toNat < S4096.size a)
theorem k0_idx299_inb : ∀ (v431 : BitVec 32) (v523 : IVec S16 32) (k0_hw302 : k0_chk302 v431 v523), ∀ (k0_h6 : k0_cond6 v431 = 1#1), ∀ a x, ((![v523] : Fin 1 → IVec S16 32) a x).toNat < S4096.size a := fun v431 v523 k0_hw302 k0_h6 => k0_hw302 k0_h6

def k0_chk303 (v431 : BitVec 32) (v526 : IVec S16 32) : Prop :=
  (∀ (k0_h6 : k0_cond6 v431 = 1#1), ∀ a x, ((![v526] : Fin 1 → IVec S16 32) a x).toNat < S43520.size a)
theorem k0_idx300_inb : ∀ (v431 : BitVec 32) (v526 : IVec S16 32) (k0_hw303 : k0_chk303 v431 v526), ∀ (k0_h6 : k0_cond6 v431 = 1#1), ∀ a x, ((![v526] : Fin 1 → IVec S16 32) a x).toNat < S43520.size a := fun v431 v526 k0_hw303 k0_h6 => k0_hw303 k0_h6

def k0_chk304 (v431 : BitVec 32) (v529 : IVec S16 32) : Prop :=
  (∀ (k0_h6 : k0_cond6 v431 = 1#1), ∀ a x, ((![v529] : Fin 1 → IVec S16 32) a x).toNat < S4096.size a)
theorem k0_idx301_inb : ∀ (v431 : BitVec 32) (v529 : IVec S16 32) (k0_hw304 : k0_chk304 v431 v529), ∀ (k0_h6 : k0_cond6 v431 = 1#1), ∀ a x, ((![v529] : Fin 1 → IVec S16 32) a x).toNat < S4096.size a := fun v431 v529 k0_hw304 k0_h6 => k0_hw304 k0_h6

def k0_chk305 (v431 : BitVec 32) (v532 : IVec S16 32) : Prop :=
  (∀ (k0_h6 : k0_cond6 v431 = 1#1), ∀ a x, ((![v532] : Fin 1 → IVec S16 32) a x).toNat < S43520.size a)
theorem k0_idx302_inb : ∀ (v431 : BitVec 32) (v532 : IVec S16 32) (k0_hw305 : k0_chk305 v431 v532), ∀ (k0_h6 : k0_cond6 v431 = 1#1), ∀ a x, ((![v532] : Fin 1 → IVec S16 32) a x).toNat < S43520.size a := fun v431 v532 k0_hw305 k0_h6 => k0_hw305 k0_h6

def k0_chk306 (v431 : BitVec 32) (v535 : IVec S16 32) : Prop :=
  (∀ (k0_h6 : k0_cond6 v431 = 1#1), ∀ a x, ((![v535] : Fin 1 → IVec S16 32) a x).toNat < S4096.size a)
theorem k0_idx303_inb : ∀ (v431 : BitVec 32) (v535 : IVec S16 32) (k0_hw306 : k0_chk306 v431 v535), ∀ (k0_h6 : k0_cond6 v431 = 1#1), ∀ a x, ((![v535] : Fin 1 → IVec S16 32) a x).toNat < S4096.size a := fun v431 v535 k0_hw306 k0_h6 => k0_hw306 k0_h6

def k0_chk307 (v431 : BitVec 32) (v538 : IVec S16 32) : Prop :=
  (∀ (k0_h6 : k0_cond6 v431 = 1#1), ∀ a x, ((![v538] : Fin 1 → IVec S16 32) a x).toNat < S43520.size a)
theorem k0_idx304_inb : ∀ (v431 : BitVec 32) (v538 : IVec S16 32) (k0_hw307 : k0_chk307 v431 v538), ∀ (k0_h6 : k0_cond6 v431 = 1#1), ∀ a x, ((![v538] : Fin 1 → IVec S16 32) a x).toNat < S43520.size a := fun v431 v538 k0_hw307 k0_h6 => k0_hw307 k0_h6

def k0_chk308 (v431 : BitVec 32) (v541 : IVec S16 32) : Prop :=
  (∀ (k0_h6 : k0_cond6 v431 = 1#1), ∀ a x, ((![v541] : Fin 1 → IVec S16 32) a x).toNat < S4096.size a)
theorem k0_idx305_inb : ∀ (v431 : BitVec 32) (v541 : IVec S16 32) (k0_hw308 : k0_chk308 v431 v541), ∀ (k0_h6 : k0_cond6 v431 = 1#1), ∀ a x, ((![v541] : Fin 1 → IVec S16 32) a x).toNat < S4096.size a := fun v431 v541 k0_hw308 k0_h6 => k0_hw308 k0_h6

def k0_chk309 (v431 : BitVec 32) (v544 : IVec S16 32) : Prop :=
  (∀ (k0_h6 : k0_cond6 v431 = 1#1), ∀ a x, ((![v544] : Fin 1 → IVec S16 32) a x).toNat < S43520.size a)
theorem k0_idx306_inb : ∀ (v431 : BitVec 32) (v544 : IVec S16 32) (k0_hw309 : k0_chk309 v431 v544), ∀ (k0_h6 : k0_cond6 v431 = 1#1), ∀ a x, ((![v544] : Fin 1 → IVec S16 32) a x).toNat < S43520.size a := fun v431 v544 k0_hw309 k0_h6 => k0_hw309 k0_h6

def k0_chk310 (v431 : BitVec 32) (v547 : IVec S16 32) : Prop :=
  (∀ (k0_h6 : k0_cond6 v431 = 1#1), ∀ a x, ((![v547] : Fin 1 → IVec S16 32) a x).toNat < S4096.size a)
theorem k0_idx307_inb : ∀ (v431 : BitVec 32) (v547 : IVec S16 32) (k0_hw310 : k0_chk310 v431 v547), ∀ (k0_h6 : k0_cond6 v431 = 1#1), ∀ a x, ((![v547] : Fin 1 → IVec S16 32) a x).toNat < S4096.size a := fun v431 v547 k0_hw310 k0_h6 => k0_hw310 k0_h6

def k0_chk311 (v431 : BitVec 32) (v550 : IVec S16 32) : Prop :=
  (∀ (k0_h6 : k0_cond6 v431 = 1#1), ∀ a x, ((![v550] : Fin 1 → IVec S16 32) a x).toNat < S43520.size a)
theorem k0_idx308_inb : ∀ (v431 : BitVec 32) (v550 : IVec S16 32) (k0_hw311 : k0_chk311 v431 v550), ∀ (k0_h6 : k0_cond6 v431 = 1#1), ∀ a x, ((![v550] : Fin 1 → IVec S16 32) a x).toNat < S43520.size a := fun v431 v550 k0_hw311 k0_h6 => k0_hw311 k0_h6

def k0_chk312 (v431 : BitVec 32) (v553 : IVec S16 32) : Prop :=
  (∀ (k0_h6 : k0_cond6 v431 = 1#1), ∀ a x, ((![v553] : Fin 1 → IVec S16 32) a x).toNat < S4096.size a)
theorem k0_idx309_inb : ∀ (v431 : BitVec 32) (v553 : IVec S16 32) (k0_hw312 : k0_chk312 v431 v553), ∀ (k0_h6 : k0_cond6 v431 = 1#1), ∀ a x, ((![v553] : Fin 1 → IVec S16 32) a x).toNat < S4096.size a := fun v431 v553 k0_hw312 k0_h6 => k0_hw312 k0_h6

def k0_chk313 (v431 : BitVec 32) (v556 : IVec S16 32) : Prop :=
  (∀ (k0_h6 : k0_cond6 v431 = 1#1), ∀ a x, ((![v556] : Fin 1 → IVec S16 32) a x).toNat < S43520.size a)
theorem k0_idx310_inb : ∀ (v431 : BitVec 32) (v556 : IVec S16 32) (k0_hw313 : k0_chk313 v431 v556), ∀ (k0_h6 : k0_cond6 v431 = 1#1), ∀ a x, ((![v556] : Fin 1 → IVec S16 32) a x).toNat < S43520.size a := fun v431 v556 k0_hw313 k0_h6 => k0_hw313 k0_h6

def k0_chk314 (v431 : BitVec 32) (v559 : IVec S16 32) : Prop :=
  (∀ (k0_h6 : k0_cond6 v431 = 1#1), ∀ a x, ((![v559] : Fin 1 → IVec S16 32) a x).toNat < S4096.size a)
theorem k0_idx311_inb : ∀ (v431 : BitVec 32) (v559 : IVec S16 32) (k0_hw314 : k0_chk314 v431 v559), ∀ (k0_h6 : k0_cond6 v431 = 1#1), ∀ a x, ((![v559] : Fin 1 → IVec S16 32) a x).toNat < S4096.size a := fun v431 v559 k0_hw314 k0_h6 => k0_hw314 k0_h6

def k0_chk315 (v431 : BitVec 32) (v562 : IVec S16 32) : Prop :=
  (∀ (k0_h6 : k0_cond6 v431 = 1#1), ∀ a x, ((![v562] : Fin 1 → IVec S16 32) a x).toNat < S43520.size a)
theorem k0_idx312_inb : ∀ (v431 : BitVec 32) (v562 : IVec S16 32) (k0_hw315 : k0_chk315 v431 v562), ∀ (k0_h6 : k0_cond6 v431 = 1#1), ∀ a x, ((![v562] : Fin 1 → IVec S16 32) a x).toNat < S43520.size a := fun v431 v562 k0_hw315 k0_h6 => k0_hw315 k0_h6

def k0_chk316 (v431 : BitVec 32) (v565 : IVec S16 32) : Prop :=
  (∀ (k0_h6 : k0_cond6 v431 = 1#1), ∀ a x, ((![v565] : Fin 1 → IVec S16 32) a x).toNat < S4096.size a)
theorem k0_idx313_inb : ∀ (v431 : BitVec 32) (v565 : IVec S16 32) (k0_hw316 : k0_chk316 v431 v565), ∀ (k0_h6 : k0_cond6 v431 = 1#1), ∀ a x, ((![v565] : Fin 1 → IVec S16 32) a x).toNat < S4096.size a := fun v431 v565 k0_hw316 k0_h6 => k0_hw316 k0_h6

def k0_chk317 (v431 : BitVec 32) (v568 : IVec S16 32) : Prop :=
  (∀ (k0_h6 : k0_cond6 v431 = 1#1), ∀ a x, ((![v568] : Fin 1 → IVec S16 32) a x).toNat < S43520.size a)
theorem k0_idx314_inb : ∀ (v431 : BitVec 32) (v568 : IVec S16 32) (k0_hw317 : k0_chk317 v431 v568), ∀ (k0_h6 : k0_cond6 v431 = 1#1), ∀ a x, ((![v568] : Fin 1 → IVec S16 32) a x).toNat < S43520.size a := fun v431 v568 k0_hw317 k0_h6 => k0_hw317 k0_h6

def k0_chk318 (v431 : BitVec 32) (v571 : IVec S16 32) : Prop :=
  (∀ (k0_h6 : k0_cond6 v431 = 1#1), ∀ a x, ((![v571] : Fin 1 → IVec S16 32) a x).toNat < S4096.size a)
theorem k0_idx315_inb : ∀ (v431 : BitVec 32) (v571 : IVec S16 32) (k0_hw318 : k0_chk318 v431 v571), ∀ (k0_h6 : k0_cond6 v431 = 1#1), ∀ a x, ((![v571] : Fin 1 → IVec S16 32) a x).toNat < S4096.size a := fun v431 v571 k0_hw318 k0_h6 => k0_hw318 k0_h6

def k0_chk319 (v431 : BitVec 32) (v574 : IVec S16 32) : Prop :=
  (∀ (k0_h6 : k0_cond6 v431 = 1#1), ∀ a x, ((![v574] : Fin 1 → IVec S16 32) a x).toNat < S43520.size a)
theorem k0_idx316_inb : ∀ (v431 : BitVec 32) (v574 : IVec S16 32) (k0_hw319 : k0_chk319 v431 v574), ∀ (k0_h6 : k0_cond6 v431 = 1#1), ∀ a x, ((![v574] : Fin 1 → IVec S16 32) a x).toNat < S43520.size a := fun v431 v574 k0_hw319 k0_h6 => k0_hw319 k0_h6

def k0_chk320 (v431 : BitVec 32) (v577 : IVec S16 32) : Prop :=
  (∀ (k0_h6 : k0_cond6 v431 = 1#1), ∀ a x, ((![v577] : Fin 1 → IVec S16 32) a x).toNat < S4096.size a)
theorem k0_idx317_inb : ∀ (v431 : BitVec 32) (v577 : IVec S16 32) (k0_hw320 : k0_chk320 v431 v577), ∀ (k0_h6 : k0_cond6 v431 = 1#1), ∀ a x, ((![v577] : Fin 1 → IVec S16 32) a x).toNat < S4096.size a := fun v431 v577 k0_hw320 k0_h6 => k0_hw320 k0_h6

def k0_chk321 (v431 : BitVec 32) (v580 : IVec S16 32) : Prop :=
  (∀ (k0_h6 : k0_cond6 v431 = 1#1), ∀ a x, ((![v580] : Fin 1 → IVec S16 32) a x).toNat < S43520.size a)
theorem k0_idx318_inb : ∀ (v431 : BitVec 32) (v580 : IVec S16 32) (k0_hw321 : k0_chk321 v431 v580), ∀ (k0_h6 : k0_cond6 v431 = 1#1), ∀ a x, ((![v580] : Fin 1 → IVec S16 32) a x).toNat < S43520.size a := fun v431 v580 k0_hw321 k0_h6 => k0_hw321 k0_h6

def k0_chk322 (v431 : BitVec 32) (v583 : IVec S16 32) : Prop :=
  (∀ (k0_h6 : k0_cond6 v431 = 1#1), ∀ a x, ((![v583] : Fin 1 → IVec S16 32) a x).toNat < S4096.size a)
theorem k0_idx319_inb : ∀ (v431 : BitVec 32) (v583 : IVec S16 32) (k0_hw322 : k0_chk322 v431 v583), ∀ (k0_h6 : k0_cond6 v431 = 1#1), ∀ a x, ((![v583] : Fin 1 → IVec S16 32) a x).toNat < S4096.size a := fun v431 v583 k0_hw322 k0_h6 => k0_hw322 k0_h6

def k0_chk323 (v431 : BitVec 32) (v586 : IVec S16 32) : Prop :=
  (∀ (k0_h6 : k0_cond6 v431 = 1#1), ∀ a x, ((![v586] : Fin 1 → IVec S16 32) a x).toNat < S43520.size a)
theorem k0_idx320_inb : ∀ (v431 : BitVec 32) (v586 : IVec S16 32) (k0_hw323 : k0_chk323 v431 v586), ∀ (k0_h6 : k0_cond6 v431 = 1#1), ∀ a x, ((![v586] : Fin 1 → IVec S16 32) a x).toNat < S43520.size a := fun v431 v586 k0_hw323 k0_h6 => k0_hw323 k0_h6

def k0_chk324 (v431 : BitVec 32) (v589 : IVec S16 32) : Prop :=
  (∀ (k0_h6 : k0_cond6 v431 = 1#1), ∀ a x, ((![v589] : Fin 1 → IVec S16 32) a x).toNat < S4096.size a)
theorem k0_idx321_inb : ∀ (v431 : BitVec 32) (v589 : IVec S16 32) (k0_hw324 : k0_chk324 v431 v589), ∀ (k0_h6 : k0_cond6 v431 = 1#1), ∀ a x, ((![v589] : Fin 1 → IVec S16 32) a x).toNat < S4096.size a := fun v431 v589 k0_hw324 k0_h6 => k0_hw324 k0_h6

def k0_chk325 (v431 : BitVec 32) (v592 : IVec S16 32) : Prop :=
  (∀ (k0_h6 : k0_cond6 v431 = 1#1), ∀ a x, ((![v592] : Fin 1 → IVec S16 32) a x).toNat < S43520.size a)
theorem k0_idx322_inb : ∀ (v431 : BitVec 32) (v592 : IVec S16 32) (k0_hw325 : k0_chk325 v431 v592), ∀ (k0_h6 : k0_cond6 v431 = 1#1), ∀ a x, ((![v592] : Fin 1 → IVec S16 32) a x).toNat < S43520.size a := fun v431 v592 k0_hw325 k0_h6 => k0_hw325 k0_h6

def k0_chk326 (v431 : BitVec 32) (v595 : IVec S16 32) : Prop :=
  (∀ (k0_h6 : k0_cond6 v431 = 1#1), ∀ a x, ((![v595] : Fin 1 → IVec S16 32) a x).toNat < S4096.size a)
theorem k0_idx323_inb : ∀ (v431 : BitVec 32) (v595 : IVec S16 32) (k0_hw326 : k0_chk326 v431 v595), ∀ (k0_h6 : k0_cond6 v431 = 1#1), ∀ a x, ((![v595] : Fin 1 → IVec S16 32) a x).toNat < S4096.size a := fun v431 v595 k0_hw326 k0_h6 => k0_hw326 k0_h6

def k0_chk327 (v431 : BitVec 32) (v598 : IVec S16 32) : Prop :=
  (∀ (k0_h6 : k0_cond6 v431 = 1#1), ∀ a x, ((![v598] : Fin 1 → IVec S16 32) a x).toNat < S43520.size a)
theorem k0_idx324_inb : ∀ (v431 : BitVec 32) (v598 : IVec S16 32) (k0_hw327 : k0_chk327 v431 v598), ∀ (k0_h6 : k0_cond6 v431 = 1#1), ∀ a x, ((![v598] : Fin 1 → IVec S16 32) a x).toNat < S43520.size a := fun v431 v598 k0_hw327 k0_h6 => k0_hw327 k0_h6

def k0_chk328 (v431 : BitVec 32) (v601 : IVec S16 32) : Prop :=
  (∀ (k0_h6 : k0_cond6 v431 = 1#1), ∀ a x, ((![v601] : Fin 1 → IVec S16 32) a x).toNat < S4096.size a)
theorem k0_idx325_inb : ∀ (v431 : BitVec 32) (v601 : IVec S16 32) (k0_hw328 : k0_chk328 v431 v601), ∀ (k0_h6 : k0_cond6 v431 = 1#1), ∀ a x, ((![v601] : Fin 1 → IVec S16 32) a x).toNat < S4096.size a := fun v431 v601 k0_hw328 k0_h6 => k0_hw328 k0_h6

def k0_chk329 (v431 : BitVec 32) (v604 : IVec S16 32) : Prop :=
  (∀ (k0_h6 : k0_cond6 v431 = 1#1), ∀ a x, ((![v604] : Fin 1 → IVec S16 32) a x).toNat < S43520.size a)
theorem k0_idx326_inb : ∀ (v431 : BitVec 32) (v604 : IVec S16 32) (k0_hw329 : k0_chk329 v431 v604), ∀ (k0_h6 : k0_cond6 v431 = 1#1), ∀ a x, ((![v604] : Fin 1 → IVec S16 32) a x).toNat < S43520.size a := fun v431 v604 k0_hw329 k0_h6 => k0_hw329 k0_h6

def k0_chk330 (v431 : BitVec 32) (v607 : IVec S16 32) : Prop :=
  (∀ (k0_h6 : k0_cond6 v431 = 1#1), ∀ a x, ((![v607] : Fin 1 → IVec S16 32) a x).toNat < S4096.size a)
theorem k0_idx327_inb : ∀ (v431 : BitVec 32) (v607 : IVec S16 32) (k0_hw330 : k0_chk330 v431 v607), ∀ (k0_h6 : k0_cond6 v431 = 1#1), ∀ a x, ((![v607] : Fin 1 → IVec S16 32) a x).toNat < S4096.size a := fun v431 v607 k0_hw330 k0_h6 => k0_hw330 k0_h6

def k0_chk331 (v431 : BitVec 32) (v610 : IVec S16 32) : Prop :=
  (∀ (k0_h6 : k0_cond6 v431 = 1#1), ∀ a x, ((![v610] : Fin 1 → IVec S16 32) a x).toNat < S43520.size a)
theorem k0_idx328_inb : ∀ (v431 : BitVec 32) (v610 : IVec S16 32) (k0_hw331 : k0_chk331 v431 v610), ∀ (k0_h6 : k0_cond6 v431 = 1#1), ∀ a x, ((![v610] : Fin 1 → IVec S16 32) a x).toNat < S43520.size a := fun v431 v610 k0_hw331 k0_h6 => k0_hw331 k0_h6

def k0_chk332 (v431 : BitVec 32) (v613 : IVec S16 32) : Prop :=
  (∀ (k0_h6 : k0_cond6 v431 = 1#1), ∀ a x, ((![v613] : Fin 1 → IVec S16 32) a x).toNat < S4096.size a)
theorem k0_idx329_inb : ∀ (v431 : BitVec 32) (v613 : IVec S16 32) (k0_hw332 : k0_chk332 v431 v613), ∀ (k0_h6 : k0_cond6 v431 = 1#1), ∀ a x, ((![v613] : Fin 1 → IVec S16 32) a x).toNat < S4096.size a := fun v431 v613 k0_hw332 k0_h6 => k0_hw332 k0_h6

def k0_chk333 (v431 : BitVec 32) (v616 : IVec S16 32) : Prop :=
  (∀ (k0_h6 : k0_cond6 v431 = 1#1), ∀ a x, ((![v616] : Fin 1 → IVec S16 32) a x).toNat < S43520.size a)
theorem k0_idx330_inb : ∀ (v431 : BitVec 32) (v616 : IVec S16 32) (k0_hw333 : k0_chk333 v431 v616), ∀ (k0_h6 : k0_cond6 v431 = 1#1), ∀ a x, ((![v616] : Fin 1 → IVec S16 32) a x).toNat < S43520.size a := fun v431 v616 k0_hw333 k0_h6 => k0_hw333 k0_h6

def k0_chk334 (v431 : BitVec 32) (v619 : IVec S16 32) : Prop :=
  (∀ (k0_h6 : k0_cond6 v431 = 1#1), ∀ a x, ((![v619] : Fin 1 → IVec S16 32) a x).toNat < S4096.size a)
theorem k0_idx331_inb : ∀ (v431 : BitVec 32) (v619 : IVec S16 32) (k0_hw334 : k0_chk334 v431 v619), ∀ (k0_h6 : k0_cond6 v431 = 1#1), ∀ a x, ((![v619] : Fin 1 → IVec S16 32) a x).toNat < S4096.size a := fun v431 v619 k0_hw334 k0_h6 => k0_hw334 k0_h6

def k0_chk335 (v431 : BitVec 32) (v622 : IVec S16 32) : Prop :=
  (∀ (k0_h6 : k0_cond6 v431 = 1#1), ∀ a x, ((![v622] : Fin 1 → IVec S16 32) a x).toNat < S43520.size a)
theorem k0_idx332_inb : ∀ (v431 : BitVec 32) (v622 : IVec S16 32) (k0_hw335 : k0_chk335 v431 v622), ∀ (k0_h6 : k0_cond6 v431 = 1#1), ∀ a x, ((![v622] : Fin 1 → IVec S16 32) a x).toNat < S43520.size a := fun v431 v622 k0_hw335 k0_h6 => k0_hw335 k0_h6

def k0_chk336 (v431 : BitVec 32) (v625 : IVec S16 32) : Prop :=
  (∀ (k0_h6 : k0_cond6 v431 = 1#1), ∀ a x, ((![v625] : Fin 1 → IVec S16 32) a x).toNat < S4096.size a)
theorem k0_idx333_inb : ∀ (v431 : BitVec 32) (v625 : IVec S16 32) (k0_hw336 : k0_chk336 v431 v625), ∀ (k0_h6 : k0_cond6 v431 = 1#1), ∀ a x, ((![v625] : Fin 1 → IVec S16 32) a x).toNat < S4096.size a := fun v431 v625 k0_hw336 k0_h6 => k0_hw336 k0_h6

def k0_chk337 (v218 : IVec S16 32) : Prop :=
  (∀ a x, ((![v218] : Fin 1 → IVec S16 32) a x).toNat < S512.size a)
theorem k0_idx334_inb : ∀ (v218 : IVec S16 32) (k0_hw337 : k0_chk337 v218), ∀ a x, ((![v218] : Fin 1 → IVec S16 32) a x).toNat < S512.size a := fun v218 k0_hw337 => k0_hw337
@[reducible] def k0_t9_loop (v227 : BitVec 32) : Scf.Loop 32 :=
  let c0_i32_91 : BitVec 32 := 0#32
  let v228 : BitVec 32 := Scalar.subi v227 c0_i32_91
  let c1_i32_92 : BitVec 32 := 1#32
  let v230 : BitVec 32 := Scalar.divsi v228 c1_i32_92
  let v231 : BitVec 32 := Scalar.muli v230 c1_i32_92
  let v232 : BitVec 32 := Scalar.addi c0_i32_91 v231
  let c1_i32_93 : BitVec 32 := 1#32
  ⟨c0_i32_91, v232, c1_i32_93⟩

def k0_chk339 (v391 : IVec S16 32) : Prop :=
  (∀ a x, ((![v391] : Fin 1 → IVec S16 32) a x).toNat < S14336.size a)
theorem k0_idx335_inb : ∀ (v391 : IVec S16 32) (k0_hw339 : k0_chk339 v391), ∀ a x, ((![v391] : Fin 1 → IVec S16 32) a x).toNat < S14336.size a := fun v391 k0_hw339 => k0_hw339

def k0_chk340 (v399 : IVec S16 32) : Prop :=
  (∀ a x, ((![v399] : Fin 1 → IVec S16 32) a x).toNat < S1280.size a)
theorem k0_idx336_inb : ∀ (v399 : IVec S16 32) (k0_hw340 : k0_chk340 v399), ∀ a x, ((![v399] : Fin 1 → IVec S16 32) a x).toNat < S1280.size a := fun v399 k0_hw340 => k0_hw340
def k0_cond7 (v431 : BitVec 32) : BitVec 1 :=
  let c0_i32_170 : BitVec 32 := 0#32
  let v432 : BitVec 1 := Scalar.cmpi .sgt v431 c0_i32_170
  let v433 : BitVec 32 := Scalar.extui v432
  let c0_i32_171 : BitVec 32 := 0#32
  let v434 : BitVec 1 := Scalar.cmpi .ne v433 c0_i32_171
  v434

def k0_chk341 (v431 : BitVec 32) (v436 : IVec S16 32) : Prop :=
  (∀ (k0_h7 : k0_cond7 v431 = 1#1), ∀ a x, ((![v436] : Fin 1 → IVec S16 32) a x).toNat < S43520.size a)
theorem k0_idx337_inb : ∀ (v431 : BitVec 32) (v436 : IVec S16 32) (k0_hw341 : k0_chk341 v431 v436), ∀ (k0_h7 : k0_cond7 v431 = 1#1), ∀ a x, ((![v436] : Fin 1 → IVec S16 32) a x).toNat < S43520.size a := fun v431 v436 k0_hw341 k0_h7 => k0_hw341 k0_h7

def k0_chk342 (v431 : BitVec 32) (v439 : IVec S16 32) : Prop :=
  (∀ (k0_h7 : k0_cond7 v431 = 1#1), ∀ a x, ((![v439] : Fin 1 → IVec S16 32) a x).toNat < S43520.size a)
theorem k0_idx338_inb : ∀ (v431 : BitVec 32) (v439 : IVec S16 32) (k0_hw342 : k0_chk342 v431 v439), ∀ (k0_h7 : k0_cond7 v431 = 1#1), ∀ a x, ((![v439] : Fin 1 → IVec S16 32) a x).toNat < S43520.size a := fun v431 v439 k0_hw342 k0_h7 => k0_hw342 k0_h7

def k0_chk343 (v431 : BitVec 32) (v442 : IVec S16 32) : Prop :=
  (∀ (k0_h7 : k0_cond7 v431 = 1#1), ∀ a x, ((![v442] : Fin 1 → IVec S16 32) a x).toNat < S43520.size a)
theorem k0_idx339_inb : ∀ (v431 : BitVec 32) (v442 : IVec S16 32) (k0_hw343 : k0_chk343 v431 v442), ∀ (k0_h7 : k0_cond7 v431 = 1#1), ∀ a x, ((![v442] : Fin 1 → IVec S16 32) a x).toNat < S43520.size a := fun v431 v442 k0_hw343 k0_h7 => k0_hw343 k0_h7

def k0_chk344 (v431 : BitVec 32) (v445 : IVec S16 32) : Prop :=
  (∀ (k0_h7 : k0_cond7 v431 = 1#1), ∀ a x, ((![v445] : Fin 1 → IVec S16 32) a x).toNat < S43520.size a)
theorem k0_idx340_inb : ∀ (v431 : BitVec 32) (v445 : IVec S16 32) (k0_hw344 : k0_chk344 v431 v445), ∀ (k0_h7 : k0_cond7 v431 = 1#1), ∀ a x, ((![v445] : Fin 1 → IVec S16 32) a x).toNat < S43520.size a := fun v431 v445 k0_hw344 k0_h7 => k0_hw344 k0_h7

def k0_chk345 (v431 : BitVec 32) (v448 : IVec S16 32) : Prop :=
  (∀ (k0_h7 : k0_cond7 v431 = 1#1), ∀ a x, ((![v448] : Fin 1 → IVec S16 32) a x).toNat < S43520.size a)
theorem k0_idx341_inb : ∀ (v431 : BitVec 32) (v448 : IVec S16 32) (k0_hw345 : k0_chk345 v431 v448), ∀ (k0_h7 : k0_cond7 v431 = 1#1), ∀ a x, ((![v448] : Fin 1 → IVec S16 32) a x).toNat < S43520.size a := fun v431 v448 k0_hw345 k0_h7 => k0_hw345 k0_h7

def k0_chk346 (v431 : BitVec 32) (v451 : IVec S16 32) : Prop :=
  (∀ (k0_h7 : k0_cond7 v431 = 1#1), ∀ a x, ((![v451] : Fin 1 → IVec S16 32) a x).toNat < S43520.size a)
theorem k0_idx342_inb : ∀ (v431 : BitVec 32) (v451 : IVec S16 32) (k0_hw346 : k0_chk346 v431 v451), ∀ (k0_h7 : k0_cond7 v431 = 1#1), ∀ a x, ((![v451] : Fin 1 → IVec S16 32) a x).toNat < S43520.size a := fun v431 v451 k0_hw346 k0_h7 => k0_hw346 k0_h7

def k0_chk347 (v431 : BitVec 32) (v454 : IVec S16 32) : Prop :=
  (∀ (k0_h7 : k0_cond7 v431 = 1#1), ∀ a x, ((![v454] : Fin 1 → IVec S16 32) a x).toNat < S43520.size a)
theorem k0_idx343_inb : ∀ (v431 : BitVec 32) (v454 : IVec S16 32) (k0_hw347 : k0_chk347 v431 v454), ∀ (k0_h7 : k0_cond7 v431 = 1#1), ∀ a x, ((![v454] : Fin 1 → IVec S16 32) a x).toNat < S43520.size a := fun v431 v454 k0_hw347 k0_h7 => k0_hw347 k0_h7

def k0_chk348 (v431 : BitVec 32) (v457 : IVec S16 32) : Prop :=
  (∀ (k0_h7 : k0_cond7 v431 = 1#1), ∀ a x, ((![v457] : Fin 1 → IVec S16 32) a x).toNat < S43520.size a)
theorem k0_idx344_inb : ∀ (v431 : BitVec 32) (v457 : IVec S16 32) (k0_hw348 : k0_chk348 v431 v457), ∀ (k0_h7 : k0_cond7 v431 = 1#1), ∀ a x, ((![v457] : Fin 1 → IVec S16 32) a x).toNat < S43520.size a := fun v431 v457 k0_hw348 k0_h7 => k0_hw348 k0_h7

def k0_chk349 (v431 : BitVec 32) (v460 : IVec S16 32) : Prop :=
  (∀ (k0_h7 : k0_cond7 v431 = 1#1), ∀ a x, ((![v460] : Fin 1 → IVec S16 32) a x).toNat < S43520.size a)
theorem k0_idx345_inb : ∀ (v431 : BitVec 32) (v460 : IVec S16 32) (k0_hw349 : k0_chk349 v431 v460), ∀ (k0_h7 : k0_cond7 v431 = 1#1), ∀ a x, ((![v460] : Fin 1 → IVec S16 32) a x).toNat < S43520.size a := fun v431 v460 k0_hw349 k0_h7 => k0_hw349 k0_h7

def k0_chk350 (v431 : BitVec 32) (v463 : IVec S16 32) : Prop :=
  (∀ (k0_h7 : k0_cond7 v431 = 1#1), ∀ a x, ((![v463] : Fin 1 → IVec S16 32) a x).toNat < S43520.size a)
theorem k0_idx346_inb : ∀ (v431 : BitVec 32) (v463 : IVec S16 32) (k0_hw350 : k0_chk350 v431 v463), ∀ (k0_h7 : k0_cond7 v431 = 1#1), ∀ a x, ((![v463] : Fin 1 → IVec S16 32) a x).toNat < S43520.size a := fun v431 v463 k0_hw350 k0_h7 => k0_hw350 k0_h7

def k0_chk351 (v431 : BitVec 32) (v466 : IVec S16 32) : Prop :=
  (∀ (k0_h7 : k0_cond7 v431 = 1#1), ∀ a x, ((![v466] : Fin 1 → IVec S16 32) a x).toNat < S43520.size a)
theorem k0_idx347_inb : ∀ (v431 : BitVec 32) (v466 : IVec S16 32) (k0_hw351 : k0_chk351 v431 v466), ∀ (k0_h7 : k0_cond7 v431 = 1#1), ∀ a x, ((![v466] : Fin 1 → IVec S16 32) a x).toNat < S43520.size a := fun v431 v466 k0_hw351 k0_h7 => k0_hw351 k0_h7

def k0_chk352 (v431 : BitVec 32) (v477 : IVec S16 32) : Prop :=
  (∀ (k0_h7 : k0_cond7 v431 = 1#1), ∀ a x, ((![v477] : Fin 1 → IVec S16 32) a x).toNat < S43520.size a)
theorem k0_idx348_inb : ∀ (v431 : BitVec 32) (v477 : IVec S16 32) (k0_hw352 : k0_chk352 v431 v477), ∀ (k0_h7 : k0_cond7 v431 = 1#1), ∀ a x, ((![v477] : Fin 1 → IVec S16 32) a x).toNat < S43520.size a := fun v431 v477 k0_hw352 k0_h7 => k0_hw352 k0_h7

def k0_chk353 (v431 : BitVec 32) (v480 : IVec S16 32) : Prop :=
  (∀ (k0_h7 : k0_cond7 v431 = 1#1), ∀ a x, ((![v480] : Fin 1 → IVec S16 32) a x).toNat < S43520.size a)
theorem k0_idx349_inb : ∀ (v431 : BitVec 32) (v480 : IVec S16 32) (k0_hw353 : k0_chk353 v431 v480), ∀ (k0_h7 : k0_cond7 v431 = 1#1), ∀ a x, ((![v480] : Fin 1 → IVec S16 32) a x).toNat < S43520.size a := fun v431 v480 k0_hw353 k0_h7 => k0_hw353 k0_h7

def k0_chk354 (v431 : BitVec 32) (v492 : IVec S16 32) : Prop :=
  (∀ (k0_h7 : k0_cond7 v431 = 1#1), ∀ a x, ((![v492] : Fin 1 → IVec S16 32) a x).toNat < S43520.size a)
theorem k0_idx350_inb : ∀ (v431 : BitVec 32) (v492 : IVec S16 32) (k0_hw354 : k0_chk354 v431 v492), ∀ (k0_h7 : k0_cond7 v431 = 1#1), ∀ a x, ((![v492] : Fin 1 → IVec S16 32) a x).toNat < S43520.size a := fun v431 v492 k0_hw354 k0_h7 => k0_hw354 k0_h7

def k0_chk355 (v431 : BitVec 32) (v495 : IVec S16 32) : Prop :=
  (∀ (k0_h7 : k0_cond7 v431 = 1#1), ∀ a x, ((![v495] : Fin 1 → IVec S16 32) a x).toNat < S43520.size a)
theorem k0_idx351_inb : ∀ (v431 : BitVec 32) (v495 : IVec S16 32) (k0_hw355 : k0_chk355 v431 v495), ∀ (k0_h7 : k0_cond7 v431 = 1#1), ∀ a x, ((![v495] : Fin 1 → IVec S16 32) a x).toNat < S43520.size a := fun v431 v495 k0_hw355 k0_h7 => k0_hw355 k0_h7

def k0_chk356 (v431 : BitVec 32) (v507 : IVec S16 32) : Prop :=
  (∀ (k0_h7 : k0_cond7 v431 = 1#1), ∀ a x, ((![v507] : Fin 1 → IVec S16 32) a x).toNat < S43520.size a)
theorem k0_idx352_inb : ∀ (v431 : BitVec 32) (v507 : IVec S16 32) (k0_hw356 : k0_chk356 v431 v507), ∀ (k0_h7 : k0_cond7 v431 = 1#1), ∀ a x, ((![v507] : Fin 1 → IVec S16 32) a x).toNat < S43520.size a := fun v431 v507 k0_hw356 k0_h7 => k0_hw356 k0_h7

def k0_chk357 (v431 : BitVec 32) (v518 : IVec S16 32) : Prop :=
  (∀ (k0_h7 : k0_cond7 v431 = 1#1), ∀ a x, ((![v518] : Fin 1 → IVec S16 32) a x).toNat < S4096.size a)
theorem k0_idx353_inb : ∀ (v431 : BitVec 32) (v518 : IVec S16 32) (k0_hw357 : k0_chk357 v431 v518), ∀ (k0_h7 : k0_cond7 v431 = 1#1), ∀ a x, ((![v518] : Fin 1 → IVec S16 32) a x).toNat < S4096.size a := fun v431 v518 k0_hw357 k0_h7 => k0_hw357 k0_h7

def k0_chk358 (v431 : BitVec 32) (v520 : IVec S16 32) : Prop :=
  (∀ (k0_h7 : k0_cond7 v431 = 1#1), ∀ a x, ((![v520] : Fin 1 → IVec S16 32) a x).toNat < S43520.size a)
theorem k0_idx354_inb : ∀ (v431 : BitVec 32) (v520 : IVec S16 32) (k0_hw358 : k0_chk358 v431 v520), ∀ (k0_h7 : k0_cond7 v431 = 1#1), ∀ a x, ((![v520] : Fin 1 → IVec S16 32) a x).toNat < S43520.size a := fun v431 v520 k0_hw358 k0_h7 => k0_hw358 k0_h7

def k0_chk359 (v431 : BitVec 32) (v523 : IVec S16 32) : Prop :=
  (∀ (k0_h7 : k0_cond7 v431 = 1#1), ∀ a x, ((![v523] : Fin 1 → IVec S16 32) a x).toNat < S4096.size a)
theorem k0_idx355_inb : ∀ (v431 : BitVec 32) (v523 : IVec S16 32) (k0_hw359 : k0_chk359 v431 v523), ∀ (k0_h7 : k0_cond7 v431 = 1#1), ∀ a x, ((![v523] : Fin 1 → IVec S16 32) a x).toNat < S4096.size a := fun v431 v523 k0_hw359 k0_h7 => k0_hw359 k0_h7

def k0_chk360 (v431 : BitVec 32) (v526 : IVec S16 32) : Prop :=
  (∀ (k0_h7 : k0_cond7 v431 = 1#1), ∀ a x, ((![v526] : Fin 1 → IVec S16 32) a x).toNat < S43520.size a)
theorem k0_idx356_inb : ∀ (v431 : BitVec 32) (v526 : IVec S16 32) (k0_hw360 : k0_chk360 v431 v526), ∀ (k0_h7 : k0_cond7 v431 = 1#1), ∀ a x, ((![v526] : Fin 1 → IVec S16 32) a x).toNat < S43520.size a := fun v431 v526 k0_hw360 k0_h7 => k0_hw360 k0_h7

def k0_chk361 (v431 : BitVec 32) (v529 : IVec S16 32) : Prop :=
  (∀ (k0_h7 : k0_cond7 v431 = 1#1), ∀ a x, ((![v529] : Fin 1 → IVec S16 32) a x).toNat < S4096.size a)
theorem k0_idx357_inb : ∀ (v431 : BitVec 32) (v529 : IVec S16 32) (k0_hw361 : k0_chk361 v431 v529), ∀ (k0_h7 : k0_cond7 v431 = 1#1), ∀ a x, ((![v529] : Fin 1 → IVec S16 32) a x).toNat < S4096.size a := fun v431 v529 k0_hw361 k0_h7 => k0_hw361 k0_h7

def k0_chk362 (v431 : BitVec 32) (v532 : IVec S16 32) : Prop :=
  (∀ (k0_h7 : k0_cond7 v431 = 1#1), ∀ a x, ((![v532] : Fin 1 → IVec S16 32) a x).toNat < S43520.size a)
theorem k0_idx358_inb : ∀ (v431 : BitVec 32) (v532 : IVec S16 32) (k0_hw362 : k0_chk362 v431 v532), ∀ (k0_h7 : k0_cond7 v431 = 1#1), ∀ a x, ((![v532] : Fin 1 → IVec S16 32) a x).toNat < S43520.size a := fun v431 v532 k0_hw362 k0_h7 => k0_hw362 k0_h7

def k0_chk363 (v431 : BitVec 32) (v535 : IVec S16 32) : Prop :=
  (∀ (k0_h7 : k0_cond7 v431 = 1#1), ∀ a x, ((![v535] : Fin 1 → IVec S16 32) a x).toNat < S4096.size a)
theorem k0_idx359_inb : ∀ (v431 : BitVec 32) (v535 : IVec S16 32) (k0_hw363 : k0_chk363 v431 v535), ∀ (k0_h7 : k0_cond7 v431 = 1#1), ∀ a x, ((![v535] : Fin 1 → IVec S16 32) a x).toNat < S4096.size a := fun v431 v535 k0_hw363 k0_h7 => k0_hw363 k0_h7

def k0_chk364 (v431 : BitVec 32) (v538 : IVec S16 32) : Prop :=
  (∀ (k0_h7 : k0_cond7 v431 = 1#1), ∀ a x, ((![v538] : Fin 1 → IVec S16 32) a x).toNat < S43520.size a)
theorem k0_idx360_inb : ∀ (v431 : BitVec 32) (v538 : IVec S16 32) (k0_hw364 : k0_chk364 v431 v538), ∀ (k0_h7 : k0_cond7 v431 = 1#1), ∀ a x, ((![v538] : Fin 1 → IVec S16 32) a x).toNat < S43520.size a := fun v431 v538 k0_hw364 k0_h7 => k0_hw364 k0_h7

def k0_chk365 (v431 : BitVec 32) (v541 : IVec S16 32) : Prop :=
  (∀ (k0_h7 : k0_cond7 v431 = 1#1), ∀ a x, ((![v541] : Fin 1 → IVec S16 32) a x).toNat < S4096.size a)
theorem k0_idx361_inb : ∀ (v431 : BitVec 32) (v541 : IVec S16 32) (k0_hw365 : k0_chk365 v431 v541), ∀ (k0_h7 : k0_cond7 v431 = 1#1), ∀ a x, ((![v541] : Fin 1 → IVec S16 32) a x).toNat < S4096.size a := fun v431 v541 k0_hw365 k0_h7 => k0_hw365 k0_h7

def k0_chk366 (v431 : BitVec 32) (v544 : IVec S16 32) : Prop :=
  (∀ (k0_h7 : k0_cond7 v431 = 1#1), ∀ a x, ((![v544] : Fin 1 → IVec S16 32) a x).toNat < S43520.size a)
theorem k0_idx362_inb : ∀ (v431 : BitVec 32) (v544 : IVec S16 32) (k0_hw366 : k0_chk366 v431 v544), ∀ (k0_h7 : k0_cond7 v431 = 1#1), ∀ a x, ((![v544] : Fin 1 → IVec S16 32) a x).toNat < S43520.size a := fun v431 v544 k0_hw366 k0_h7 => k0_hw366 k0_h7

def k0_chk367 (v431 : BitVec 32) (v547 : IVec S16 32) : Prop :=
  (∀ (k0_h7 : k0_cond7 v431 = 1#1), ∀ a x, ((![v547] : Fin 1 → IVec S16 32) a x).toNat < S4096.size a)
theorem k0_idx363_inb : ∀ (v431 : BitVec 32) (v547 : IVec S16 32) (k0_hw367 : k0_chk367 v431 v547), ∀ (k0_h7 : k0_cond7 v431 = 1#1), ∀ a x, ((![v547] : Fin 1 → IVec S16 32) a x).toNat < S4096.size a := fun v431 v547 k0_hw367 k0_h7 => k0_hw367 k0_h7

def k0_chk368 (v431 : BitVec 32) (v550 : IVec S16 32) : Prop :=
  (∀ (k0_h7 : k0_cond7 v431 = 1#1), ∀ a x, ((![v550] : Fin 1 → IVec S16 32) a x).toNat < S43520.size a)
theorem k0_idx364_inb : ∀ (v431 : BitVec 32) (v550 : IVec S16 32) (k0_hw368 : k0_chk368 v431 v550), ∀ (k0_h7 : k0_cond7 v431 = 1#1), ∀ a x, ((![v550] : Fin 1 → IVec S16 32) a x).toNat < S43520.size a := fun v431 v550 k0_hw368 k0_h7 => k0_hw368 k0_h7

def k0_chk369 (v431 : BitVec 32) (v553 : IVec S16 32) : Prop :=
  (∀ (k0_h7 : k0_cond7 v431 = 1#1), ∀ a x, ((![v553] : Fin 1 → IVec S16 32) a x).toNat < S4096.size a)
theorem k0_idx365_inb : ∀ (v431 : BitVec 32) (v553 : IVec S16 32) (k0_hw369 : k0_chk369 v431 v553), ∀ (k0_h7 : k0_cond7 v431 = 1#1), ∀ a x, ((![v553] : Fin 1 → IVec S16 32) a x).toNat < S4096.size a := fun v431 v553 k0_hw369 k0_h7 => k0_hw369 k0_h7

def k0_chk370 (v431 : BitVec 32) (v556 : IVec S16 32) : Prop :=
  (∀ (k0_h7 : k0_cond7 v431 = 1#1), ∀ a x, ((![v556] : Fin 1 → IVec S16 32) a x).toNat < S43520.size a)
theorem k0_idx366_inb : ∀ (v431 : BitVec 32) (v556 : IVec S16 32) (k0_hw370 : k0_chk370 v431 v556), ∀ (k0_h7 : k0_cond7 v431 = 1#1), ∀ a x, ((![v556] : Fin 1 → IVec S16 32) a x).toNat < S43520.size a := fun v431 v556 k0_hw370 k0_h7 => k0_hw370 k0_h7

def k0_chk371 (v431 : BitVec 32) (v559 : IVec S16 32) : Prop :=
  (∀ (k0_h7 : k0_cond7 v431 = 1#1), ∀ a x, ((![v559] : Fin 1 → IVec S16 32) a x).toNat < S4096.size a)
theorem k0_idx367_inb : ∀ (v431 : BitVec 32) (v559 : IVec S16 32) (k0_hw371 : k0_chk371 v431 v559), ∀ (k0_h7 : k0_cond7 v431 = 1#1), ∀ a x, ((![v559] : Fin 1 → IVec S16 32) a x).toNat < S4096.size a := fun v431 v559 k0_hw371 k0_h7 => k0_hw371 k0_h7

def k0_chk372 (v431 : BitVec 32) (v562 : IVec S16 32) : Prop :=
  (∀ (k0_h7 : k0_cond7 v431 = 1#1), ∀ a x, ((![v562] : Fin 1 → IVec S16 32) a x).toNat < S43520.size a)
theorem k0_idx368_inb : ∀ (v431 : BitVec 32) (v562 : IVec S16 32) (k0_hw372 : k0_chk372 v431 v562), ∀ (k0_h7 : k0_cond7 v431 = 1#1), ∀ a x, ((![v562] : Fin 1 → IVec S16 32) a x).toNat < S43520.size a := fun v431 v562 k0_hw372 k0_h7 => k0_hw372 k0_h7

def k0_chk373 (v431 : BitVec 32) (v565 : IVec S16 32) : Prop :=
  (∀ (k0_h7 : k0_cond7 v431 = 1#1), ∀ a x, ((![v565] : Fin 1 → IVec S16 32) a x).toNat < S4096.size a)
theorem k0_idx369_inb : ∀ (v431 : BitVec 32) (v565 : IVec S16 32) (k0_hw373 : k0_chk373 v431 v565), ∀ (k0_h7 : k0_cond7 v431 = 1#1), ∀ a x, ((![v565] : Fin 1 → IVec S16 32) a x).toNat < S4096.size a := fun v431 v565 k0_hw373 k0_h7 => k0_hw373 k0_h7

def k0_chk374 (v431 : BitVec 32) (v568 : IVec S16 32) : Prop :=
  (∀ (k0_h7 : k0_cond7 v431 = 1#1), ∀ a x, ((![v568] : Fin 1 → IVec S16 32) a x).toNat < S43520.size a)
theorem k0_idx370_inb : ∀ (v431 : BitVec 32) (v568 : IVec S16 32) (k0_hw374 : k0_chk374 v431 v568), ∀ (k0_h7 : k0_cond7 v431 = 1#1), ∀ a x, ((![v568] : Fin 1 → IVec S16 32) a x).toNat < S43520.size a := fun v431 v568 k0_hw374 k0_h7 => k0_hw374 k0_h7

def k0_chk375 (v431 : BitVec 32) (v571 : IVec S16 32) : Prop :=
  (∀ (k0_h7 : k0_cond7 v431 = 1#1), ∀ a x, ((![v571] : Fin 1 → IVec S16 32) a x).toNat < S4096.size a)
theorem k0_idx371_inb : ∀ (v431 : BitVec 32) (v571 : IVec S16 32) (k0_hw375 : k0_chk375 v431 v571), ∀ (k0_h7 : k0_cond7 v431 = 1#1), ∀ a x, ((![v571] : Fin 1 → IVec S16 32) a x).toNat < S4096.size a := fun v431 v571 k0_hw375 k0_h7 => k0_hw375 k0_h7

def k0_chk376 (v431 : BitVec 32) (v574 : IVec S16 32) : Prop :=
  (∀ (k0_h7 : k0_cond7 v431 = 1#1), ∀ a x, ((![v574] : Fin 1 → IVec S16 32) a x).toNat < S43520.size a)
theorem k0_idx372_inb : ∀ (v431 : BitVec 32) (v574 : IVec S16 32) (k0_hw376 : k0_chk376 v431 v574), ∀ (k0_h7 : k0_cond7 v431 = 1#1), ∀ a x, ((![v574] : Fin 1 → IVec S16 32) a x).toNat < S43520.size a := fun v431 v574 k0_hw376 k0_h7 => k0_hw376 k0_h7

def k0_chk377 (v431 : BitVec 32) (v577 : IVec S16 32) : Prop :=
  (∀ (k0_h7 : k0_cond7 v431 = 1#1), ∀ a x, ((![v577] : Fin 1 → IVec S16 32) a x).toNat < S4096.size a)
theorem k0_idx373_inb : ∀ (v431 : BitVec 32) (v577 : IVec S16 32) (k0_hw377 : k0_chk377 v431 v577), ∀ (k0_h7 : k0_cond7 v431 = 1#1), ∀ a x, ((![v577] : Fin 1 → IVec S16 32) a x).toNat < S4096.size a := fun v431 v577 k0_hw377 k0_h7 => k0_hw377 k0_h7

def k0_chk378 (v431 : BitVec 32) (v580 : IVec S16 32) : Prop :=
  (∀ (k0_h7 : k0_cond7 v431 = 1#1), ∀ a x, ((![v580] : Fin 1 → IVec S16 32) a x).toNat < S43520.size a)
theorem k0_idx374_inb : ∀ (v431 : BitVec 32) (v580 : IVec S16 32) (k0_hw378 : k0_chk378 v431 v580), ∀ (k0_h7 : k0_cond7 v431 = 1#1), ∀ a x, ((![v580] : Fin 1 → IVec S16 32) a x).toNat < S43520.size a := fun v431 v580 k0_hw378 k0_h7 => k0_hw378 k0_h7

def k0_chk379 (v431 : BitVec 32) (v583 : IVec S16 32) : Prop :=
  (∀ (k0_h7 : k0_cond7 v431 = 1#1), ∀ a x, ((![v583] : Fin 1 → IVec S16 32) a x).toNat < S4096.size a)
theorem k0_idx375_inb : ∀ (v431 : BitVec 32) (v583 : IVec S16 32) (k0_hw379 : k0_chk379 v431 v583), ∀ (k0_h7 : k0_cond7 v431 = 1#1), ∀ a x, ((![v583] : Fin 1 → IVec S16 32) a x).toNat < S4096.size a := fun v431 v583 k0_hw379 k0_h7 => k0_hw379 k0_h7

def k0_chk380 (v431 : BitVec 32) (v586 : IVec S16 32) : Prop :=
  (∀ (k0_h7 : k0_cond7 v431 = 1#1), ∀ a x, ((![v586] : Fin 1 → IVec S16 32) a x).toNat < S43520.size a)
theorem k0_idx376_inb : ∀ (v431 : BitVec 32) (v586 : IVec S16 32) (k0_hw380 : k0_chk380 v431 v586), ∀ (k0_h7 : k0_cond7 v431 = 1#1), ∀ a x, ((![v586] : Fin 1 → IVec S16 32) a x).toNat < S43520.size a := fun v431 v586 k0_hw380 k0_h7 => k0_hw380 k0_h7

def k0_chk381 (v431 : BitVec 32) (v589 : IVec S16 32) : Prop :=
  (∀ (k0_h7 : k0_cond7 v431 = 1#1), ∀ a x, ((![v589] : Fin 1 → IVec S16 32) a x).toNat < S4096.size a)
theorem k0_idx377_inb : ∀ (v431 : BitVec 32) (v589 : IVec S16 32) (k0_hw381 : k0_chk381 v431 v589), ∀ (k0_h7 : k0_cond7 v431 = 1#1), ∀ a x, ((![v589] : Fin 1 → IVec S16 32) a x).toNat < S4096.size a := fun v431 v589 k0_hw381 k0_h7 => k0_hw381 k0_h7

def k0_chk382 (v431 : BitVec 32) (v592 : IVec S16 32) : Prop :=
  (∀ (k0_h7 : k0_cond7 v431 = 1#1), ∀ a x, ((![v592] : Fin 1 → IVec S16 32) a x).toNat < S43520.size a)
theorem k0_idx378_inb : ∀ (v431 : BitVec 32) (v592 : IVec S16 32) (k0_hw382 : k0_chk382 v431 v592), ∀ (k0_h7 : k0_cond7 v431 = 1#1), ∀ a x, ((![v592] : Fin 1 → IVec S16 32) a x).toNat < S43520.size a := fun v431 v592 k0_hw382 k0_h7 => k0_hw382 k0_h7

def k0_chk383 (v431 : BitVec 32) (v595 : IVec S16 32) : Prop :=
  (∀ (k0_h7 : k0_cond7 v431 = 1#1), ∀ a x, ((![v595] : Fin 1 → IVec S16 32) a x).toNat < S4096.size a)
theorem k0_idx379_inb : ∀ (v431 : BitVec 32) (v595 : IVec S16 32) (k0_hw383 : k0_chk383 v431 v595), ∀ (k0_h7 : k0_cond7 v431 = 1#1), ∀ a x, ((![v595] : Fin 1 → IVec S16 32) a x).toNat < S4096.size a := fun v431 v595 k0_hw383 k0_h7 => k0_hw383 k0_h7

def k0_chk384 (v431 : BitVec 32) (v598 : IVec S16 32) : Prop :=
  (∀ (k0_h7 : k0_cond7 v431 = 1#1), ∀ a x, ((![v598] : Fin 1 → IVec S16 32) a x).toNat < S43520.size a)
theorem k0_idx380_inb : ∀ (v431 : BitVec 32) (v598 : IVec S16 32) (k0_hw384 : k0_chk384 v431 v598), ∀ (k0_h7 : k0_cond7 v431 = 1#1), ∀ a x, ((![v598] : Fin 1 → IVec S16 32) a x).toNat < S43520.size a := fun v431 v598 k0_hw384 k0_h7 => k0_hw384 k0_h7

def k0_chk385 (v431 : BitVec 32) (v601 : IVec S16 32) : Prop :=
  (∀ (k0_h7 : k0_cond7 v431 = 1#1), ∀ a x, ((![v601] : Fin 1 → IVec S16 32) a x).toNat < S4096.size a)
theorem k0_idx381_inb : ∀ (v431 : BitVec 32) (v601 : IVec S16 32) (k0_hw385 : k0_chk385 v431 v601), ∀ (k0_h7 : k0_cond7 v431 = 1#1), ∀ a x, ((![v601] : Fin 1 → IVec S16 32) a x).toNat < S4096.size a := fun v431 v601 k0_hw385 k0_h7 => k0_hw385 k0_h7

def k0_chk386 (v431 : BitVec 32) (v604 : IVec S16 32) : Prop :=
  (∀ (k0_h7 : k0_cond7 v431 = 1#1), ∀ a x, ((![v604] : Fin 1 → IVec S16 32) a x).toNat < S43520.size a)
theorem k0_idx382_inb : ∀ (v431 : BitVec 32) (v604 : IVec S16 32) (k0_hw386 : k0_chk386 v431 v604), ∀ (k0_h7 : k0_cond7 v431 = 1#1), ∀ a x, ((![v604] : Fin 1 → IVec S16 32) a x).toNat < S43520.size a := fun v431 v604 k0_hw386 k0_h7 => k0_hw386 k0_h7

def k0_chk387 (v431 : BitVec 32) (v607 : IVec S16 32) : Prop :=
  (∀ (k0_h7 : k0_cond7 v431 = 1#1), ∀ a x, ((![v607] : Fin 1 → IVec S16 32) a x).toNat < S4096.size a)
theorem k0_idx383_inb : ∀ (v431 : BitVec 32) (v607 : IVec S16 32) (k0_hw387 : k0_chk387 v431 v607), ∀ (k0_h7 : k0_cond7 v431 = 1#1), ∀ a x, ((![v607] : Fin 1 → IVec S16 32) a x).toNat < S4096.size a := fun v431 v607 k0_hw387 k0_h7 => k0_hw387 k0_h7

def k0_chk388 (v431 : BitVec 32) (v610 : IVec S16 32) : Prop :=
  (∀ (k0_h7 : k0_cond7 v431 = 1#1), ∀ a x, ((![v610] : Fin 1 → IVec S16 32) a x).toNat < S43520.size a)
theorem k0_idx384_inb : ∀ (v431 : BitVec 32) (v610 : IVec S16 32) (k0_hw388 : k0_chk388 v431 v610), ∀ (k0_h7 : k0_cond7 v431 = 1#1), ∀ a x, ((![v610] : Fin 1 → IVec S16 32) a x).toNat < S43520.size a := fun v431 v610 k0_hw388 k0_h7 => k0_hw388 k0_h7

def k0_chk389 (v431 : BitVec 32) (v613 : IVec S16 32) : Prop :=
  (∀ (k0_h7 : k0_cond7 v431 = 1#1), ∀ a x, ((![v613] : Fin 1 → IVec S16 32) a x).toNat < S4096.size a)
theorem k0_idx385_inb : ∀ (v431 : BitVec 32) (v613 : IVec S16 32) (k0_hw389 : k0_chk389 v431 v613), ∀ (k0_h7 : k0_cond7 v431 = 1#1), ∀ a x, ((![v613] : Fin 1 → IVec S16 32) a x).toNat < S4096.size a := fun v431 v613 k0_hw389 k0_h7 => k0_hw389 k0_h7

def k0_chk390 (v431 : BitVec 32) (v616 : IVec S16 32) : Prop :=
  (∀ (k0_h7 : k0_cond7 v431 = 1#1), ∀ a x, ((![v616] : Fin 1 → IVec S16 32) a x).toNat < S43520.size a)
theorem k0_idx386_inb : ∀ (v431 : BitVec 32) (v616 : IVec S16 32) (k0_hw390 : k0_chk390 v431 v616), ∀ (k0_h7 : k0_cond7 v431 = 1#1), ∀ a x, ((![v616] : Fin 1 → IVec S16 32) a x).toNat < S43520.size a := fun v431 v616 k0_hw390 k0_h7 => k0_hw390 k0_h7

def k0_chk391 (v431 : BitVec 32) (v619 : IVec S16 32) : Prop :=
  (∀ (k0_h7 : k0_cond7 v431 = 1#1), ∀ a x, ((![v619] : Fin 1 → IVec S16 32) a x).toNat < S4096.size a)
theorem k0_idx387_inb : ∀ (v431 : BitVec 32) (v619 : IVec S16 32) (k0_hw391 : k0_chk391 v431 v619), ∀ (k0_h7 : k0_cond7 v431 = 1#1), ∀ a x, ((![v619] : Fin 1 → IVec S16 32) a x).toNat < S4096.size a := fun v431 v619 k0_hw391 k0_h7 => k0_hw391 k0_h7

def k0_chk392 (v431 : BitVec 32) (v622 : IVec S16 32) : Prop :=
  (∀ (k0_h7 : k0_cond7 v431 = 1#1), ∀ a x, ((![v622] : Fin 1 → IVec S16 32) a x).toNat < S43520.size a)
theorem k0_idx388_inb : ∀ (v431 : BitVec 32) (v622 : IVec S16 32) (k0_hw392 : k0_chk392 v431 v622), ∀ (k0_h7 : k0_cond7 v431 = 1#1), ∀ a x, ((![v622] : Fin 1 → IVec S16 32) a x).toNat < S43520.size a := fun v431 v622 k0_hw392 k0_h7 => k0_hw392 k0_h7

def k0_chk393 (v431 : BitVec 32) (v625 : IVec S16 32) : Prop :=
  (∀ (k0_h7 : k0_cond7 v431 = 1#1), ∀ a x, ((![v625] : Fin 1 → IVec S16 32) a x).toNat < S4096.size a)
theorem k0_idx389_inb : ∀ (v431 : BitVec 32) (v625 : IVec S16 32) (k0_hw393 : k0_chk393 v431 v625), ∀ (k0_h7 : k0_cond7 v431 = 1#1), ∀ a x, ((![v625] : Fin 1 → IVec S16 32) a x).toNat < S4096.size a := fun v431 v625 k0_hw393 k0_h7 => k0_hw393 k0_h7
@[reducible] def k0_t10_loop (v227 : BitVec 32) : Scf.Loop 32 :=
  let c0_i32_91 : BitVec 32 := 0#32
  let v228 : BitVec 32 := Scalar.subi v227 c0_i32_91
  let c1_i32_92 : BitVec 32 := 1#32
  let v230 : BitVec 32 := Scalar.divsi v228 c1_i32_92
  let v231 : BitVec 32 := Scalar.muli v230 c1_i32_92
  let v232 : BitVec 32 := Scalar.addi c0_i32_91 v231
  let v229 : BitVec 32 := Scalar.addi c0_i32_91 v228
  let c1_i32_94 : BitVec 32 := 1#32
  ⟨v232, v229, c1_i32_94⟩

def k0_chk338 (v227 : BitVec 32) : Prop :=
  ((k0_t9_loop v227).OK) ∧
  ((k0_t10_loop v227).OK)
theorem k0_t9_ok : ∀ (v227 : BitVec 32) (k0_hw338 : k0_chk338 v227), (k0_t9_loop v227).OK := fun v227 k0_hw338 => k0_hw338.1
theorem k0_t10_ok : ∀ (v227 : BitVec 32) (k0_hw338 : k0_chk338 v227), (k0_t10_loop v227).OK := fun v227 k0_hw338 => k0_hw338.2

def k0_chk394 (v391 : IVec S16 32) : Prop :=
  (∀ a x, ((![v391] : Fin 1 → IVec S16 32) a x).toNat < S14336.size a)
theorem k0_idx390_inb : ∀ (v391 : IVec S16 32) (k0_hw394 : k0_chk394 v391), ∀ a x, ((![v391] : Fin 1 → IVec S16 32) a x).toNat < S14336.size a := fun v391 k0_hw394 => k0_hw394

def k0_chk395 (v399 : IVec S16 32) : Prop :=
  (∀ a x, ((![v399] : Fin 1 → IVec S16 32) a x).toNat < S1280.size a)
theorem k0_idx391_inb : ∀ (v399 : IVec S16 32) (k0_hw395 : k0_chk395 v399), ∀ a x, ((![v399] : Fin 1 → IVec S16 32) a x).toNat < S1280.size a := fun v399 k0_hw395 => k0_hw395
def k0_cond8 (v431 : BitVec 32) : BitVec 1 :=
  let c0_i32_170 : BitVec 32 := 0#32
  let v432 : BitVec 1 := Scalar.cmpi .sgt v431 c0_i32_170
  let v433 : BitVec 32 := Scalar.extui v432
  let c0_i32_171 : BitVec 32 := 0#32
  let v434 : BitVec 1 := Scalar.cmpi .ne v433 c0_i32_171
  v434

def k0_chk396 (v431 : BitVec 32) (v436 : IVec S16 32) : Prop :=
  (∀ (k0_h8 : k0_cond8 v431 = 1#1), ∀ a x, ((![v436] : Fin 1 → IVec S16 32) a x).toNat < S43520.size a)
theorem k0_idx392_inb : ∀ (v431 : BitVec 32) (v436 : IVec S16 32) (k0_hw396 : k0_chk396 v431 v436), ∀ (k0_h8 : k0_cond8 v431 = 1#1), ∀ a x, ((![v436] : Fin 1 → IVec S16 32) a x).toNat < S43520.size a := fun v431 v436 k0_hw396 k0_h8 => k0_hw396 k0_h8

def k0_chk397 (v431 : BitVec 32) (v439 : IVec S16 32) : Prop :=
  (∀ (k0_h8 : k0_cond8 v431 = 1#1), ∀ a x, ((![v439] : Fin 1 → IVec S16 32) a x).toNat < S43520.size a)
theorem k0_idx393_inb : ∀ (v431 : BitVec 32) (v439 : IVec S16 32) (k0_hw397 : k0_chk397 v431 v439), ∀ (k0_h8 : k0_cond8 v431 = 1#1), ∀ a x, ((![v439] : Fin 1 → IVec S16 32) a x).toNat < S43520.size a := fun v431 v439 k0_hw397 k0_h8 => k0_hw397 k0_h8

def k0_chk398 (v431 : BitVec 32) (v442 : IVec S16 32) : Prop :=
  (∀ (k0_h8 : k0_cond8 v431 = 1#1), ∀ a x, ((![v442] : Fin 1 → IVec S16 32) a x).toNat < S43520.size a)
theorem k0_idx394_inb : ∀ (v431 : BitVec 32) (v442 : IVec S16 32) (k0_hw398 : k0_chk398 v431 v442), ∀ (k0_h8 : k0_cond8 v431 = 1#1), ∀ a x, ((![v442] : Fin 1 → IVec S16 32) a x).toNat < S43520.size a := fun v431 v442 k0_hw398 k0_h8 => k0_hw398 k0_h8

def k0_chk399 (v431 : BitVec 32) (v445 : IVec S16 32) : Prop :=
  (∀ (k0_h8 : k0_cond8 v431 = 1#1), ∀ a x, ((![v445] : Fin 1 → IVec S16 32) a x).toNat < S43520.size a)
theorem k0_idx395_inb : ∀ (v431 : BitVec 32) (v445 : IVec S16 32) (k0_hw399 : k0_chk399 v431 v445), ∀ (k0_h8 : k0_cond8 v431 = 1#1), ∀ a x, ((![v445] : Fin 1 → IVec S16 32) a x).toNat < S43520.size a := fun v431 v445 k0_hw399 k0_h8 => k0_hw399 k0_h8

def k0_chk400 (v431 : BitVec 32) (v448 : IVec S16 32) : Prop :=
  (∀ (k0_h8 : k0_cond8 v431 = 1#1), ∀ a x, ((![v448] : Fin 1 → IVec S16 32) a x).toNat < S43520.size a)
theorem k0_idx396_inb : ∀ (v431 : BitVec 32) (v448 : IVec S16 32) (k0_hw400 : k0_chk400 v431 v448), ∀ (k0_h8 : k0_cond8 v431 = 1#1), ∀ a x, ((![v448] : Fin 1 → IVec S16 32) a x).toNat < S43520.size a := fun v431 v448 k0_hw400 k0_h8 => k0_hw400 k0_h8

def k0_chk401 (v431 : BitVec 32) (v451 : IVec S16 32) : Prop :=
  (∀ (k0_h8 : k0_cond8 v431 = 1#1), ∀ a x, ((![v451] : Fin 1 → IVec S16 32) a x).toNat < S43520.size a)
theorem k0_idx397_inb : ∀ (v431 : BitVec 32) (v451 : IVec S16 32) (k0_hw401 : k0_chk401 v431 v451), ∀ (k0_h8 : k0_cond8 v431 = 1#1), ∀ a x, ((![v451] : Fin 1 → IVec S16 32) a x).toNat < S43520.size a := fun v431 v451 k0_hw401 k0_h8 => k0_hw401 k0_h8

def k0_chk402 (v431 : BitVec 32) (v454 : IVec S16 32) : Prop :=
  (∀ (k0_h8 : k0_cond8 v431 = 1#1), ∀ a x, ((![v454] : Fin 1 → IVec S16 32) a x).toNat < S43520.size a)
theorem k0_idx398_inb : ∀ (v431 : BitVec 32) (v454 : IVec S16 32) (k0_hw402 : k0_chk402 v431 v454), ∀ (k0_h8 : k0_cond8 v431 = 1#1), ∀ a x, ((![v454] : Fin 1 → IVec S16 32) a x).toNat < S43520.size a := fun v431 v454 k0_hw402 k0_h8 => k0_hw402 k0_h8

def k0_chk403 (v431 : BitVec 32) (v457 : IVec S16 32) : Prop :=
  (∀ (k0_h8 : k0_cond8 v431 = 1#1), ∀ a x, ((![v457] : Fin 1 → IVec S16 32) a x).toNat < S43520.size a)
theorem k0_idx399_inb : ∀ (v431 : BitVec 32) (v457 : IVec S16 32) (k0_hw403 : k0_chk403 v431 v457), ∀ (k0_h8 : k0_cond8 v431 = 1#1), ∀ a x, ((![v457] : Fin 1 → IVec S16 32) a x).toNat < S43520.size a := fun v431 v457 k0_hw403 k0_h8 => k0_hw403 k0_h8

def k0_chk404 (v431 : BitVec 32) (v460 : IVec S16 32) : Prop :=
  (∀ (k0_h8 : k0_cond8 v431 = 1#1), ∀ a x, ((![v460] : Fin 1 → IVec S16 32) a x).toNat < S43520.size a)
theorem k0_idx400_inb : ∀ (v431 : BitVec 32) (v460 : IVec S16 32) (k0_hw404 : k0_chk404 v431 v460), ∀ (k0_h8 : k0_cond8 v431 = 1#1), ∀ a x, ((![v460] : Fin 1 → IVec S16 32) a x).toNat < S43520.size a := fun v431 v460 k0_hw404 k0_h8 => k0_hw404 k0_h8

def k0_chk405 (v431 : BitVec 32) (v463 : IVec S16 32) : Prop :=
  (∀ (k0_h8 : k0_cond8 v431 = 1#1), ∀ a x, ((![v463] : Fin 1 → IVec S16 32) a x).toNat < S43520.size a)
theorem k0_idx401_inb : ∀ (v431 : BitVec 32) (v463 : IVec S16 32) (k0_hw405 : k0_chk405 v431 v463), ∀ (k0_h8 : k0_cond8 v431 = 1#1), ∀ a x, ((![v463] : Fin 1 → IVec S16 32) a x).toNat < S43520.size a := fun v431 v463 k0_hw405 k0_h8 => k0_hw405 k0_h8

def k0_chk406 (v431 : BitVec 32) (v466 : IVec S16 32) : Prop :=
  (∀ (k0_h8 : k0_cond8 v431 = 1#1), ∀ a x, ((![v466] : Fin 1 → IVec S16 32) a x).toNat < S43520.size a)
theorem k0_idx402_inb : ∀ (v431 : BitVec 32) (v466 : IVec S16 32) (k0_hw406 : k0_chk406 v431 v466), ∀ (k0_h8 : k0_cond8 v431 = 1#1), ∀ a x, ((![v466] : Fin 1 → IVec S16 32) a x).toNat < S43520.size a := fun v431 v466 k0_hw406 k0_h8 => k0_hw406 k0_h8

def k0_chk407 (v431 : BitVec 32) (v477 : IVec S16 32) : Prop :=
  (∀ (k0_h8 : k0_cond8 v431 = 1#1), ∀ a x, ((![v477] : Fin 1 → IVec S16 32) a x).toNat < S43520.size a)
theorem k0_idx403_inb : ∀ (v431 : BitVec 32) (v477 : IVec S16 32) (k0_hw407 : k0_chk407 v431 v477), ∀ (k0_h8 : k0_cond8 v431 = 1#1), ∀ a x, ((![v477] : Fin 1 → IVec S16 32) a x).toNat < S43520.size a := fun v431 v477 k0_hw407 k0_h8 => k0_hw407 k0_h8

def k0_chk408 (v431 : BitVec 32) (v480 : IVec S16 32) : Prop :=
  (∀ (k0_h8 : k0_cond8 v431 = 1#1), ∀ a x, ((![v480] : Fin 1 → IVec S16 32) a x).toNat < S43520.size a)
theorem k0_idx404_inb : ∀ (v431 : BitVec 32) (v480 : IVec S16 32) (k0_hw408 : k0_chk408 v431 v480), ∀ (k0_h8 : k0_cond8 v431 = 1#1), ∀ a x, ((![v480] : Fin 1 → IVec S16 32) a x).toNat < S43520.size a := fun v431 v480 k0_hw408 k0_h8 => k0_hw408 k0_h8

def k0_chk409 (v431 : BitVec 32) (v492 : IVec S16 32) : Prop :=
  (∀ (k0_h8 : k0_cond8 v431 = 1#1), ∀ a x, ((![v492] : Fin 1 → IVec S16 32) a x).toNat < S43520.size a)
theorem k0_idx405_inb : ∀ (v431 : BitVec 32) (v492 : IVec S16 32) (k0_hw409 : k0_chk409 v431 v492), ∀ (k0_h8 : k0_cond8 v431 = 1#1), ∀ a x, ((![v492] : Fin 1 → IVec S16 32) a x).toNat < S43520.size a := fun v431 v492 k0_hw409 k0_h8 => k0_hw409 k0_h8

def k0_chk410 (v431 : BitVec 32) (v495 : IVec S16 32) : Prop :=
  (∀ (k0_h8 : k0_cond8 v431 = 1#1), ∀ a x, ((![v495] : Fin 1 → IVec S16 32) a x).toNat < S43520.size a)
theorem k0_idx406_inb : ∀ (v431 : BitVec 32) (v495 : IVec S16 32) (k0_hw410 : k0_chk410 v431 v495), ∀ (k0_h8 : k0_cond8 v431 = 1#1), ∀ a x, ((![v495] : Fin 1 → IVec S16 32) a x).toNat < S43520.size a := fun v431 v495 k0_hw410 k0_h8 => k0_hw410 k0_h8

def k0_chk411 (v431 : BitVec 32) (v507 : IVec S16 32) : Prop :=
  (∀ (k0_h8 : k0_cond8 v431 = 1#1), ∀ a x, ((![v507] : Fin 1 → IVec S16 32) a x).toNat < S43520.size a)
theorem k0_idx407_inb : ∀ (v431 : BitVec 32) (v507 : IVec S16 32) (k0_hw411 : k0_chk411 v431 v507), ∀ (k0_h8 : k0_cond8 v431 = 1#1), ∀ a x, ((![v507] : Fin 1 → IVec S16 32) a x).toNat < S43520.size a := fun v431 v507 k0_hw411 k0_h8 => k0_hw411 k0_h8

def k0_chk412 (v431 : BitVec 32) (v518 : IVec S16 32) : Prop :=
  (∀ (k0_h8 : k0_cond8 v431 = 1#1), ∀ a x, ((![v518] : Fin 1 → IVec S16 32) a x).toNat < S4096.size a)
theorem k0_idx408_inb : ∀ (v431 : BitVec 32) (v518 : IVec S16 32) (k0_hw412 : k0_chk412 v431 v518), ∀ (k0_h8 : k0_cond8 v431 = 1#1), ∀ a x, ((![v518] : Fin 1 → IVec S16 32) a x).toNat < S4096.size a := fun v431 v518 k0_hw412 k0_h8 => k0_hw412 k0_h8

def k0_chk413 (v431 : BitVec 32) (v520 : IVec S16 32) : Prop :=
  (∀ (k0_h8 : k0_cond8 v431 = 1#1), ∀ a x, ((![v520] : Fin 1 → IVec S16 32) a x).toNat < S43520.size a)
theorem k0_idx409_inb : ∀ (v431 : BitVec 32) (v520 : IVec S16 32) (k0_hw413 : k0_chk413 v431 v520), ∀ (k0_h8 : k0_cond8 v431 = 1#1), ∀ a x, ((![v520] : Fin 1 → IVec S16 32) a x).toNat < S43520.size a := fun v431 v520 k0_hw413 k0_h8 => k0_hw413 k0_h8

def k0_chk414 (v431 : BitVec 32) (v523 : IVec S16 32) : Prop :=
  (∀ (k0_h8 : k0_cond8 v431 = 1#1), ∀ a x, ((![v523] : Fin 1 → IVec S16 32) a x).toNat < S4096.size a)
theorem k0_idx410_inb : ∀ (v431 : BitVec 32) (v523 : IVec S16 32) (k0_hw414 : k0_chk414 v431 v523), ∀ (k0_h8 : k0_cond8 v431 = 1#1), ∀ a x, ((![v523] : Fin 1 → IVec S16 32) a x).toNat < S4096.size a := fun v431 v523 k0_hw414 k0_h8 => k0_hw414 k0_h8

def k0_chk415 (v431 : BitVec 32) (v526 : IVec S16 32) : Prop :=
  (∀ (k0_h8 : k0_cond8 v431 = 1#1), ∀ a x, ((![v526] : Fin 1 → IVec S16 32) a x).toNat < S43520.size a)
theorem k0_idx411_inb : ∀ (v431 : BitVec 32) (v526 : IVec S16 32) (k0_hw415 : k0_chk415 v431 v526), ∀ (k0_h8 : k0_cond8 v431 = 1#1), ∀ a x, ((![v526] : Fin 1 → IVec S16 32) a x).toNat < S43520.size a := fun v431 v526 k0_hw415 k0_h8 => k0_hw415 k0_h8

def k0_chk416 (v431 : BitVec 32) (v529 : IVec S16 32) : Prop :=
  (∀ (k0_h8 : k0_cond8 v431 = 1#1), ∀ a x, ((![v529] : Fin 1 → IVec S16 32) a x).toNat < S4096.size a)
theorem k0_idx412_inb : ∀ (v431 : BitVec 32) (v529 : IVec S16 32) (k0_hw416 : k0_chk416 v431 v529), ∀ (k0_h8 : k0_cond8 v431 = 1#1), ∀ a x, ((![v529] : Fin 1 → IVec S16 32) a x).toNat < S4096.size a := fun v431 v529 k0_hw416 k0_h8 => k0_hw416 k0_h8

def k0_chk417 (v431 : BitVec 32) (v532 : IVec S16 32) : Prop :=
  (∀ (k0_h8 : k0_cond8 v431 = 1#1), ∀ a x, ((![v532] : Fin 1 → IVec S16 32) a x).toNat < S43520.size a)
theorem k0_idx413_inb : ∀ (v431 : BitVec 32) (v532 : IVec S16 32) (k0_hw417 : k0_chk417 v431 v532), ∀ (k0_h8 : k0_cond8 v431 = 1#1), ∀ a x, ((![v532] : Fin 1 → IVec S16 32) a x).toNat < S43520.size a := fun v431 v532 k0_hw417 k0_h8 => k0_hw417 k0_h8

def k0_chk418 (v431 : BitVec 32) (v535 : IVec S16 32) : Prop :=
  (∀ (k0_h8 : k0_cond8 v431 = 1#1), ∀ a x, ((![v535] : Fin 1 → IVec S16 32) a x).toNat < S4096.size a)
theorem k0_idx414_inb : ∀ (v431 : BitVec 32) (v535 : IVec S16 32) (k0_hw418 : k0_chk418 v431 v535), ∀ (k0_h8 : k0_cond8 v431 = 1#1), ∀ a x, ((![v535] : Fin 1 → IVec S16 32) a x).toNat < S4096.size a := fun v431 v535 k0_hw418 k0_h8 => k0_hw418 k0_h8

def k0_chk419 (v431 : BitVec 32) (v538 : IVec S16 32) : Prop :=
  (∀ (k0_h8 : k0_cond8 v431 = 1#1), ∀ a x, ((![v538] : Fin 1 → IVec S16 32) a x).toNat < S43520.size a)
theorem k0_idx415_inb : ∀ (v431 : BitVec 32) (v538 : IVec S16 32) (k0_hw419 : k0_chk419 v431 v538), ∀ (k0_h8 : k0_cond8 v431 = 1#1), ∀ a x, ((![v538] : Fin 1 → IVec S16 32) a x).toNat < S43520.size a := fun v431 v538 k0_hw419 k0_h8 => k0_hw419 k0_h8

def k0_chk420 (v431 : BitVec 32) (v541 : IVec S16 32) : Prop :=
  (∀ (k0_h8 : k0_cond8 v431 = 1#1), ∀ a x, ((![v541] : Fin 1 → IVec S16 32) a x).toNat < S4096.size a)
theorem k0_idx416_inb : ∀ (v431 : BitVec 32) (v541 : IVec S16 32) (k0_hw420 : k0_chk420 v431 v541), ∀ (k0_h8 : k0_cond8 v431 = 1#1), ∀ a x, ((![v541] : Fin 1 → IVec S16 32) a x).toNat < S4096.size a := fun v431 v541 k0_hw420 k0_h8 => k0_hw420 k0_h8

def k0_chk421 (v431 : BitVec 32) (v544 : IVec S16 32) : Prop :=
  (∀ (k0_h8 : k0_cond8 v431 = 1#1), ∀ a x, ((![v544] : Fin 1 → IVec S16 32) a x).toNat < S43520.size a)
theorem k0_idx417_inb : ∀ (v431 : BitVec 32) (v544 : IVec S16 32) (k0_hw421 : k0_chk421 v431 v544), ∀ (k0_h8 : k0_cond8 v431 = 1#1), ∀ a x, ((![v544] : Fin 1 → IVec S16 32) a x).toNat < S43520.size a := fun v431 v544 k0_hw421 k0_h8 => k0_hw421 k0_h8

def k0_chk422 (v431 : BitVec 32) (v547 : IVec S16 32) : Prop :=
  (∀ (k0_h8 : k0_cond8 v431 = 1#1), ∀ a x, ((![v547] : Fin 1 → IVec S16 32) a x).toNat < S4096.size a)
theorem k0_idx418_inb : ∀ (v431 : BitVec 32) (v547 : IVec S16 32) (k0_hw422 : k0_chk422 v431 v547), ∀ (k0_h8 : k0_cond8 v431 = 1#1), ∀ a x, ((![v547] : Fin 1 → IVec S16 32) a x).toNat < S4096.size a := fun v431 v547 k0_hw422 k0_h8 => k0_hw422 k0_h8

def k0_chk423 (v431 : BitVec 32) (v550 : IVec S16 32) : Prop :=
  (∀ (k0_h8 : k0_cond8 v431 = 1#1), ∀ a x, ((![v550] : Fin 1 → IVec S16 32) a x).toNat < S43520.size a)
theorem k0_idx419_inb : ∀ (v431 : BitVec 32) (v550 : IVec S16 32) (k0_hw423 : k0_chk423 v431 v550), ∀ (k0_h8 : k0_cond8 v431 = 1#1), ∀ a x, ((![v550] : Fin 1 → IVec S16 32) a x).toNat < S43520.size a := fun v431 v550 k0_hw423 k0_h8 => k0_hw423 k0_h8

def k0_chk424 (v431 : BitVec 32) (v553 : IVec S16 32) : Prop :=
  (∀ (k0_h8 : k0_cond8 v431 = 1#1), ∀ a x, ((![v553] : Fin 1 → IVec S16 32) a x).toNat < S4096.size a)
theorem k0_idx420_inb : ∀ (v431 : BitVec 32) (v553 : IVec S16 32) (k0_hw424 : k0_chk424 v431 v553), ∀ (k0_h8 : k0_cond8 v431 = 1#1), ∀ a x, ((![v553] : Fin 1 → IVec S16 32) a x).toNat < S4096.size a := fun v431 v553 k0_hw424 k0_h8 => k0_hw424 k0_h8

def k0_chk425 (v431 : BitVec 32) (v556 : IVec S16 32) : Prop :=
  (∀ (k0_h8 : k0_cond8 v431 = 1#1), ∀ a x, ((![v556] : Fin 1 → IVec S16 32) a x).toNat < S43520.size a)
theorem k0_idx421_inb : ∀ (v431 : BitVec 32) (v556 : IVec S16 32) (k0_hw425 : k0_chk425 v431 v556), ∀ (k0_h8 : k0_cond8 v431 = 1#1), ∀ a x, ((![v556] : Fin 1 → IVec S16 32) a x).toNat < S43520.size a := fun v431 v556 k0_hw425 k0_h8 => k0_hw425 k0_h8

def k0_chk426 (v431 : BitVec 32) (v559 : IVec S16 32) : Prop :=
  (∀ (k0_h8 : k0_cond8 v431 = 1#1), ∀ a x, ((![v559] : Fin 1 → IVec S16 32) a x).toNat < S4096.size a)
theorem k0_idx422_inb : ∀ (v431 : BitVec 32) (v559 : IVec S16 32) (k0_hw426 : k0_chk426 v431 v559), ∀ (k0_h8 : k0_cond8 v431 = 1#1), ∀ a x, ((![v559] : Fin 1 → IVec S16 32) a x).toNat < S4096.size a := fun v431 v559 k0_hw426 k0_h8 => k0_hw426 k0_h8

def k0_chk427 (v431 : BitVec 32) (v562 : IVec S16 32) : Prop :=
  (∀ (k0_h8 : k0_cond8 v431 = 1#1), ∀ a x, ((![v562] : Fin 1 → IVec S16 32) a x).toNat < S43520.size a)
theorem k0_idx423_inb : ∀ (v431 : BitVec 32) (v562 : IVec S16 32) (k0_hw427 : k0_chk427 v431 v562), ∀ (k0_h8 : k0_cond8 v431 = 1#1), ∀ a x, ((![v562] : Fin 1 → IVec S16 32) a x).toNat < S43520.size a := fun v431 v562 k0_hw427 k0_h8 => k0_hw427 k0_h8

def k0_chk428 (v431 : BitVec 32) (v565 : IVec S16 32) : Prop :=
  (∀ (k0_h8 : k0_cond8 v431 = 1#1), ∀ a x, ((![v565] : Fin 1 → IVec S16 32) a x).toNat < S4096.size a)
theorem k0_idx424_inb : ∀ (v431 : BitVec 32) (v565 : IVec S16 32) (k0_hw428 : k0_chk428 v431 v565), ∀ (k0_h8 : k0_cond8 v431 = 1#1), ∀ a x, ((![v565] : Fin 1 → IVec S16 32) a x).toNat < S4096.size a := fun v431 v565 k0_hw428 k0_h8 => k0_hw428 k0_h8

def k0_chk429 (v431 : BitVec 32) (v568 : IVec S16 32) : Prop :=
  (∀ (k0_h8 : k0_cond8 v431 = 1#1), ∀ a x, ((![v568] : Fin 1 → IVec S16 32) a x).toNat < S43520.size a)
theorem k0_idx425_inb : ∀ (v431 : BitVec 32) (v568 : IVec S16 32) (k0_hw429 : k0_chk429 v431 v568), ∀ (k0_h8 : k0_cond8 v431 = 1#1), ∀ a x, ((![v568] : Fin 1 → IVec S16 32) a x).toNat < S43520.size a := fun v431 v568 k0_hw429 k0_h8 => k0_hw429 k0_h8

def k0_chk430 (v431 : BitVec 32) (v571 : IVec S16 32) : Prop :=
  (∀ (k0_h8 : k0_cond8 v431 = 1#1), ∀ a x, ((![v571] : Fin 1 → IVec S16 32) a x).toNat < S4096.size a)
theorem k0_idx426_inb : ∀ (v431 : BitVec 32) (v571 : IVec S16 32) (k0_hw430 : k0_chk430 v431 v571), ∀ (k0_h8 : k0_cond8 v431 = 1#1), ∀ a x, ((![v571] : Fin 1 → IVec S16 32) a x).toNat < S4096.size a := fun v431 v571 k0_hw430 k0_h8 => k0_hw430 k0_h8

def k0_chk431 (v431 : BitVec 32) (v574 : IVec S16 32) : Prop :=
  (∀ (k0_h8 : k0_cond8 v431 = 1#1), ∀ a x, ((![v574] : Fin 1 → IVec S16 32) a x).toNat < S43520.size a)
theorem k0_idx427_inb : ∀ (v431 : BitVec 32) (v574 : IVec S16 32) (k0_hw431 : k0_chk431 v431 v574), ∀ (k0_h8 : k0_cond8 v431 = 1#1), ∀ a x, ((![v574] : Fin 1 → IVec S16 32) a x).toNat < S43520.size a := fun v431 v574 k0_hw431 k0_h8 => k0_hw431 k0_h8

def k0_chk432 (v431 : BitVec 32) (v577 : IVec S16 32) : Prop :=
  (∀ (k0_h8 : k0_cond8 v431 = 1#1), ∀ a x, ((![v577] : Fin 1 → IVec S16 32) a x).toNat < S4096.size a)
theorem k0_idx428_inb : ∀ (v431 : BitVec 32) (v577 : IVec S16 32) (k0_hw432 : k0_chk432 v431 v577), ∀ (k0_h8 : k0_cond8 v431 = 1#1), ∀ a x, ((![v577] : Fin 1 → IVec S16 32) a x).toNat < S4096.size a := fun v431 v577 k0_hw432 k0_h8 => k0_hw432 k0_h8

def k0_chk433 (v431 : BitVec 32) (v580 : IVec S16 32) : Prop :=
  (∀ (k0_h8 : k0_cond8 v431 = 1#1), ∀ a x, ((![v580] : Fin 1 → IVec S16 32) a x).toNat < S43520.size a)
theorem k0_idx429_inb : ∀ (v431 : BitVec 32) (v580 : IVec S16 32) (k0_hw433 : k0_chk433 v431 v580), ∀ (k0_h8 : k0_cond8 v431 = 1#1), ∀ a x, ((![v580] : Fin 1 → IVec S16 32) a x).toNat < S43520.size a := fun v431 v580 k0_hw433 k0_h8 => k0_hw433 k0_h8

def k0_chk434 (v431 : BitVec 32) (v583 : IVec S16 32) : Prop :=
  (∀ (k0_h8 : k0_cond8 v431 = 1#1), ∀ a x, ((![v583] : Fin 1 → IVec S16 32) a x).toNat < S4096.size a)
theorem k0_idx430_inb : ∀ (v431 : BitVec 32) (v583 : IVec S16 32) (k0_hw434 : k0_chk434 v431 v583), ∀ (k0_h8 : k0_cond8 v431 = 1#1), ∀ a x, ((![v583] : Fin 1 → IVec S16 32) a x).toNat < S4096.size a := fun v431 v583 k0_hw434 k0_h8 => k0_hw434 k0_h8

def k0_chk435 (v431 : BitVec 32) (v586 : IVec S16 32) : Prop :=
  (∀ (k0_h8 : k0_cond8 v431 = 1#1), ∀ a x, ((![v586] : Fin 1 → IVec S16 32) a x).toNat < S43520.size a)
theorem k0_idx431_inb : ∀ (v431 : BitVec 32) (v586 : IVec S16 32) (k0_hw435 : k0_chk435 v431 v586), ∀ (k0_h8 : k0_cond8 v431 = 1#1), ∀ a x, ((![v586] : Fin 1 → IVec S16 32) a x).toNat < S43520.size a := fun v431 v586 k0_hw435 k0_h8 => k0_hw435 k0_h8

def k0_chk436 (v431 : BitVec 32) (v589 : IVec S16 32) : Prop :=
  (∀ (k0_h8 : k0_cond8 v431 = 1#1), ∀ a x, ((![v589] : Fin 1 → IVec S16 32) a x).toNat < S4096.size a)
theorem k0_idx432_inb : ∀ (v431 : BitVec 32) (v589 : IVec S16 32) (k0_hw436 : k0_chk436 v431 v589), ∀ (k0_h8 : k0_cond8 v431 = 1#1), ∀ a x, ((![v589] : Fin 1 → IVec S16 32) a x).toNat < S4096.size a := fun v431 v589 k0_hw436 k0_h8 => k0_hw436 k0_h8

def k0_chk437 (v431 : BitVec 32) (v592 : IVec S16 32) : Prop :=
  (∀ (k0_h8 : k0_cond8 v431 = 1#1), ∀ a x, ((![v592] : Fin 1 → IVec S16 32) a x).toNat < S43520.size a)
theorem k0_idx433_inb : ∀ (v431 : BitVec 32) (v592 : IVec S16 32) (k0_hw437 : k0_chk437 v431 v592), ∀ (k0_h8 : k0_cond8 v431 = 1#1), ∀ a x, ((![v592] : Fin 1 → IVec S16 32) a x).toNat < S43520.size a := fun v431 v592 k0_hw437 k0_h8 => k0_hw437 k0_h8

def k0_chk438 (v431 : BitVec 32) (v595 : IVec S16 32) : Prop :=
  (∀ (k0_h8 : k0_cond8 v431 = 1#1), ∀ a x, ((![v595] : Fin 1 → IVec S16 32) a x).toNat < S4096.size a)
theorem k0_idx434_inb : ∀ (v431 : BitVec 32) (v595 : IVec S16 32) (k0_hw438 : k0_chk438 v431 v595), ∀ (k0_h8 : k0_cond8 v431 = 1#1), ∀ a x, ((![v595] : Fin 1 → IVec S16 32) a x).toNat < S4096.size a := fun v431 v595 k0_hw438 k0_h8 => k0_hw438 k0_h8

def k0_chk439 (v431 : BitVec 32) (v598 : IVec S16 32) : Prop :=
  (∀ (k0_h8 : k0_cond8 v431 = 1#1), ∀ a x, ((![v598] : Fin 1 → IVec S16 32) a x).toNat < S43520.size a)
theorem k0_idx435_inb : ∀ (v431 : BitVec 32) (v598 : IVec S16 32) (k0_hw439 : k0_chk439 v431 v598), ∀ (k0_h8 : k0_cond8 v431 = 1#1), ∀ a x, ((![v598] : Fin 1 → IVec S16 32) a x).toNat < S43520.size a := fun v431 v598 k0_hw439 k0_h8 => k0_hw439 k0_h8

def k0_chk440 (v431 : BitVec 32) (v601 : IVec S16 32) : Prop :=
  (∀ (k0_h8 : k0_cond8 v431 = 1#1), ∀ a x, ((![v601] : Fin 1 → IVec S16 32) a x).toNat < S4096.size a)
theorem k0_idx436_inb : ∀ (v431 : BitVec 32) (v601 : IVec S16 32) (k0_hw440 : k0_chk440 v431 v601), ∀ (k0_h8 : k0_cond8 v431 = 1#1), ∀ a x, ((![v601] : Fin 1 → IVec S16 32) a x).toNat < S4096.size a := fun v431 v601 k0_hw440 k0_h8 => k0_hw440 k0_h8

def k0_chk441 (v431 : BitVec 32) (v604 : IVec S16 32) : Prop :=
  (∀ (k0_h8 : k0_cond8 v431 = 1#1), ∀ a x, ((![v604] : Fin 1 → IVec S16 32) a x).toNat < S43520.size a)
theorem k0_idx437_inb : ∀ (v431 : BitVec 32) (v604 : IVec S16 32) (k0_hw441 : k0_chk441 v431 v604), ∀ (k0_h8 : k0_cond8 v431 = 1#1), ∀ a x, ((![v604] : Fin 1 → IVec S16 32) a x).toNat < S43520.size a := fun v431 v604 k0_hw441 k0_h8 => k0_hw441 k0_h8

def k0_chk442 (v431 : BitVec 32) (v607 : IVec S16 32) : Prop :=
  (∀ (k0_h8 : k0_cond8 v431 = 1#1), ∀ a x, ((![v607] : Fin 1 → IVec S16 32) a x).toNat < S4096.size a)
theorem k0_idx438_inb : ∀ (v431 : BitVec 32) (v607 : IVec S16 32) (k0_hw442 : k0_chk442 v431 v607), ∀ (k0_h8 : k0_cond8 v431 = 1#1), ∀ a x, ((![v607] : Fin 1 → IVec S16 32) a x).toNat < S4096.size a := fun v431 v607 k0_hw442 k0_h8 => k0_hw442 k0_h8

def k0_chk443 (v431 : BitVec 32) (v610 : IVec S16 32) : Prop :=
  (∀ (k0_h8 : k0_cond8 v431 = 1#1), ∀ a x, ((![v610] : Fin 1 → IVec S16 32) a x).toNat < S43520.size a)
theorem k0_idx439_inb : ∀ (v431 : BitVec 32) (v610 : IVec S16 32) (k0_hw443 : k0_chk443 v431 v610), ∀ (k0_h8 : k0_cond8 v431 = 1#1), ∀ a x, ((![v610] : Fin 1 → IVec S16 32) a x).toNat < S43520.size a := fun v431 v610 k0_hw443 k0_h8 => k0_hw443 k0_h8

def k0_chk444 (v431 : BitVec 32) (v613 : IVec S16 32) : Prop :=
  (∀ (k0_h8 : k0_cond8 v431 = 1#1), ∀ a x, ((![v613] : Fin 1 → IVec S16 32) a x).toNat < S4096.size a)
theorem k0_idx440_inb : ∀ (v431 : BitVec 32) (v613 : IVec S16 32) (k0_hw444 : k0_chk444 v431 v613), ∀ (k0_h8 : k0_cond8 v431 = 1#1), ∀ a x, ((![v613] : Fin 1 → IVec S16 32) a x).toNat < S4096.size a := fun v431 v613 k0_hw444 k0_h8 => k0_hw444 k0_h8

def k0_chk445 (v431 : BitVec 32) (v616 : IVec S16 32) : Prop :=
  (∀ (k0_h8 : k0_cond8 v431 = 1#1), ∀ a x, ((![v616] : Fin 1 → IVec S16 32) a x).toNat < S43520.size a)
theorem k0_idx441_inb : ∀ (v431 : BitVec 32) (v616 : IVec S16 32) (k0_hw445 : k0_chk445 v431 v616), ∀ (k0_h8 : k0_cond8 v431 = 1#1), ∀ a x, ((![v616] : Fin 1 → IVec S16 32) a x).toNat < S43520.size a := fun v431 v616 k0_hw445 k0_h8 => k0_hw445 k0_h8

def k0_chk446 (v431 : BitVec 32) (v619 : IVec S16 32) : Prop :=
  (∀ (k0_h8 : k0_cond8 v431 = 1#1), ∀ a x, ((![v619] : Fin 1 → IVec S16 32) a x).toNat < S4096.size a)
theorem k0_idx442_inb : ∀ (v431 : BitVec 32) (v619 : IVec S16 32) (k0_hw446 : k0_chk446 v431 v619), ∀ (k0_h8 : k0_cond8 v431 = 1#1), ∀ a x, ((![v619] : Fin 1 → IVec S16 32) a x).toNat < S4096.size a := fun v431 v619 k0_hw446 k0_h8 => k0_hw446 k0_h8

def k0_chk447 (v431 : BitVec 32) (v622 : IVec S16 32) : Prop :=
  (∀ (k0_h8 : k0_cond8 v431 = 1#1), ∀ a x, ((![v622] : Fin 1 → IVec S16 32) a x).toNat < S43520.size a)
theorem k0_idx443_inb : ∀ (v431 : BitVec 32) (v622 : IVec S16 32) (k0_hw447 : k0_chk447 v431 v622), ∀ (k0_h8 : k0_cond8 v431 = 1#1), ∀ a x, ((![v622] : Fin 1 → IVec S16 32) a x).toNat < S43520.size a := fun v431 v622 k0_hw447 k0_h8 => k0_hw447 k0_h8

def k0_chk448 (v431 : BitVec 32) (v625 : IVec S16 32) : Prop :=
  (∀ (k0_h8 : k0_cond8 v431 = 1#1), ∀ a x, ((![v625] : Fin 1 → IVec S16 32) a x).toNat < S4096.size a)
theorem k0_idx444_inb : ∀ (v431 : BitVec 32) (v625 : IVec S16 32) (k0_hw448 : k0_chk448 v431 v625), ∀ (k0_h8 : k0_cond8 v431 = 1#1), ∀ a x, ((![v625] : Fin 1 → IVec S16 32) a x).toNat < S4096.size a := fun v431 v625 k0_hw448 k0_h8 => k0_hw448 k0_h8

def k0_chk449 (v265 : IVec S16 32) : Prop :=
  (∀ a x, ((![v265] : Fin 1 → IVec S16 32) a x).toNat < S512.size a)
theorem k0_idx445_inb : ∀ (v265 : IVec S16 32) (k0_hw449 : k0_chk449 v265), ∀ a x, ((![v265] : Fin 1 → IVec S16 32) a x).toNat < S512.size a := fun v265 k0_hw449 => k0_hw449
@[reducible] def k0_t11_loop (v274 : BitVec 32) : Scf.Loop 32 :=
  let c0_i32_111 : BitVec 32 := 0#32
  let v275 : BitVec 32 := Scalar.subi v274 c0_i32_111
  let c1_i32_112 : BitVec 32 := 1#32
  let v277 : BitVec 32 := Scalar.divsi v275 c1_i32_112
  let v278 : BitVec 32 := Scalar.muli v277 c1_i32_112
  let v279 : BitVec 32 := Scalar.addi c0_i32_111 v278
  let c1_i32_113 : BitVec 32 := 1#32
  ⟨c0_i32_111, v279, c1_i32_113⟩

def k0_chk451 (v391 : IVec S16 32) : Prop :=
  (∀ a x, ((![v391] : Fin 1 → IVec S16 32) a x).toNat < S14336.size a)
theorem k0_idx446_inb : ∀ (v391 : IVec S16 32) (k0_hw451 : k0_chk451 v391), ∀ a x, ((![v391] : Fin 1 → IVec S16 32) a x).toNat < S14336.size a := fun v391 k0_hw451 => k0_hw451

def k0_chk452 (v399 : IVec S16 32) : Prop :=
  (∀ a x, ((![v399] : Fin 1 → IVec S16 32) a x).toNat < S1280.size a)
theorem k0_idx447_inb : ∀ (v399 : IVec S16 32) (k0_hw452 : k0_chk452 v399), ∀ a x, ((![v399] : Fin 1 → IVec S16 32) a x).toNat < S1280.size a := fun v399 k0_hw452 => k0_hw452
def k0_cond9 (v431 : BitVec 32) : BitVec 1 :=
  let c0_i32_170 : BitVec 32 := 0#32
  let v432 : BitVec 1 := Scalar.cmpi .sgt v431 c0_i32_170
  let v433 : BitVec 32 := Scalar.extui v432
  let c0_i32_171 : BitVec 32 := 0#32
  let v434 : BitVec 1 := Scalar.cmpi .ne v433 c0_i32_171
  v434

def k0_chk453 (v431 : BitVec 32) (v436 : IVec S16 32) : Prop :=
  (∀ (k0_h9 : k0_cond9 v431 = 1#1), ∀ a x, ((![v436] : Fin 1 → IVec S16 32) a x).toNat < S43520.size a)
theorem k0_idx448_inb : ∀ (v431 : BitVec 32) (v436 : IVec S16 32) (k0_hw453 : k0_chk453 v431 v436), ∀ (k0_h9 : k0_cond9 v431 = 1#1), ∀ a x, ((![v436] : Fin 1 → IVec S16 32) a x).toNat < S43520.size a := fun v431 v436 k0_hw453 k0_h9 => k0_hw453 k0_h9

def k0_chk454 (v431 : BitVec 32) (v439 : IVec S16 32) : Prop :=
  (∀ (k0_h9 : k0_cond9 v431 = 1#1), ∀ a x, ((![v439] : Fin 1 → IVec S16 32) a x).toNat < S43520.size a)
theorem k0_idx449_inb : ∀ (v431 : BitVec 32) (v439 : IVec S16 32) (k0_hw454 : k0_chk454 v431 v439), ∀ (k0_h9 : k0_cond9 v431 = 1#1), ∀ a x, ((![v439] : Fin 1 → IVec S16 32) a x).toNat < S43520.size a := fun v431 v439 k0_hw454 k0_h9 => k0_hw454 k0_h9

def k0_chk455 (v431 : BitVec 32) (v442 : IVec S16 32) : Prop :=
  (∀ (k0_h9 : k0_cond9 v431 = 1#1), ∀ a x, ((![v442] : Fin 1 → IVec S16 32) a x).toNat < S43520.size a)
theorem k0_idx450_inb : ∀ (v431 : BitVec 32) (v442 : IVec S16 32) (k0_hw455 : k0_chk455 v431 v442), ∀ (k0_h9 : k0_cond9 v431 = 1#1), ∀ a x, ((![v442] : Fin 1 → IVec S16 32) a x).toNat < S43520.size a := fun v431 v442 k0_hw455 k0_h9 => k0_hw455 k0_h9

def k0_chk456 (v431 : BitVec 32) (v445 : IVec S16 32) : Prop :=
  (∀ (k0_h9 : k0_cond9 v431 = 1#1), ∀ a x, ((![v445] : Fin 1 → IVec S16 32) a x).toNat < S43520.size a)
theorem k0_idx451_inb : ∀ (v431 : BitVec 32) (v445 : IVec S16 32) (k0_hw456 : k0_chk456 v431 v445), ∀ (k0_h9 : k0_cond9 v431 = 1#1), ∀ a x, ((![v445] : Fin 1 → IVec S16 32) a x).toNat < S43520.size a := fun v431 v445 k0_hw456 k0_h9 => k0_hw456 k0_h9

def k0_chk457 (v431 : BitVec 32) (v448 : IVec S16 32) : Prop :=
  (∀ (k0_h9 : k0_cond9 v431 = 1#1), ∀ a x, ((![v448] : Fin 1 → IVec S16 32) a x).toNat < S43520.size a)
theorem k0_idx452_inb : ∀ (v431 : BitVec 32) (v448 : IVec S16 32) (k0_hw457 : k0_chk457 v431 v448), ∀ (k0_h9 : k0_cond9 v431 = 1#1), ∀ a x, ((![v448] : Fin 1 → IVec S16 32) a x).toNat < S43520.size a := fun v431 v448 k0_hw457 k0_h9 => k0_hw457 k0_h9

def k0_chk458 (v431 : BitVec 32) (v451 : IVec S16 32) : Prop :=
  (∀ (k0_h9 : k0_cond9 v431 = 1#1), ∀ a x, ((![v451] : Fin 1 → IVec S16 32) a x).toNat < S43520.size a)
theorem k0_idx453_inb : ∀ (v431 : BitVec 32) (v451 : IVec S16 32) (k0_hw458 : k0_chk458 v431 v451), ∀ (k0_h9 : k0_cond9 v431 = 1#1), ∀ a x, ((![v451] : Fin 1 → IVec S16 32) a x).toNat < S43520.size a := fun v431 v451 k0_hw458 k0_h9 => k0_hw458 k0_h9

def k0_chk459 (v431 : BitVec 32) (v454 : IVec S16 32) : Prop :=
  (∀ (k0_h9 : k0_cond9 v431 = 1#1), ∀ a x, ((![v454] : Fin 1 → IVec S16 32) a x).toNat < S43520.size a)
theorem k0_idx454_inb : ∀ (v431 : BitVec 32) (v454 : IVec S16 32) (k0_hw459 : k0_chk459 v431 v454), ∀ (k0_h9 : k0_cond9 v431 = 1#1), ∀ a x, ((![v454] : Fin 1 → IVec S16 32) a x).toNat < S43520.size a := fun v431 v454 k0_hw459 k0_h9 => k0_hw459 k0_h9

def k0_chk460 (v431 : BitVec 32) (v457 : IVec S16 32) : Prop :=
  (∀ (k0_h9 : k0_cond9 v431 = 1#1), ∀ a x, ((![v457] : Fin 1 → IVec S16 32) a x).toNat < S43520.size a)
theorem k0_idx455_inb : ∀ (v431 : BitVec 32) (v457 : IVec S16 32) (k0_hw460 : k0_chk460 v431 v457), ∀ (k0_h9 : k0_cond9 v431 = 1#1), ∀ a x, ((![v457] : Fin 1 → IVec S16 32) a x).toNat < S43520.size a := fun v431 v457 k0_hw460 k0_h9 => k0_hw460 k0_h9

def k0_chk461 (v431 : BitVec 32) (v460 : IVec S16 32) : Prop :=
  (∀ (k0_h9 : k0_cond9 v431 = 1#1), ∀ a x, ((![v460] : Fin 1 → IVec S16 32) a x).toNat < S43520.size a)
theorem k0_idx456_inb : ∀ (v431 : BitVec 32) (v460 : IVec S16 32) (k0_hw461 : k0_chk461 v431 v460), ∀ (k0_h9 : k0_cond9 v431 = 1#1), ∀ a x, ((![v460] : Fin 1 → IVec S16 32) a x).toNat < S43520.size a := fun v431 v460 k0_hw461 k0_h9 => k0_hw461 k0_h9

def k0_chk462 (v431 : BitVec 32) (v463 : IVec S16 32) : Prop :=
  (∀ (k0_h9 : k0_cond9 v431 = 1#1), ∀ a x, ((![v463] : Fin 1 → IVec S16 32) a x).toNat < S43520.size a)
theorem k0_idx457_inb : ∀ (v431 : BitVec 32) (v463 : IVec S16 32) (k0_hw462 : k0_chk462 v431 v463), ∀ (k0_h9 : k0_cond9 v431 = 1#1), ∀ a x, ((![v463] : Fin 1 → IVec S16 32) a x).toNat < S43520.size a := fun v431 v463 k0_hw462 k0_h9 => k0_hw462 k0_h9

def k0_chk463 (v431 : BitVec 32) (v466 : IVec S16 32) : Prop :=
  (∀ (k0_h9 : k0_cond9 v431 = 1#1), ∀ a x, ((![v466] : Fin 1 → IVec S16 32) a x).toNat < S43520.size a)
theorem k0_idx458_inb : ∀ (v431 : BitVec 32) (v466 : IVec S16 32) (k0_hw463 : k0_chk463 v431 v466), ∀ (k0_h9 : k0_cond9 v431 = 1#1), ∀ a x, ((![v466] : Fin 1 → IVec S16 32) a x).toNat < S43520.size a := fun v431 v466 k0_hw463 k0_h9 => k0_hw463 k0_h9

def k0_chk464 (v431 : BitVec 32) (v477 : IVec S16 32) : Prop :=
  (∀ (k0_h9 : k0_cond9 v431 = 1#1), ∀ a x, ((![v477] : Fin 1 → IVec S16 32) a x).toNat < S43520.size a)
theorem k0_idx459_inb : ∀ (v431 : BitVec 32) (v477 : IVec S16 32) (k0_hw464 : k0_chk464 v431 v477), ∀ (k0_h9 : k0_cond9 v431 = 1#1), ∀ a x, ((![v477] : Fin 1 → IVec S16 32) a x).toNat < S43520.size a := fun v431 v477 k0_hw464 k0_h9 => k0_hw464 k0_h9

def k0_chk465 (v431 : BitVec 32) (v480 : IVec S16 32) : Prop :=
  (∀ (k0_h9 : k0_cond9 v431 = 1#1), ∀ a x, ((![v480] : Fin 1 → IVec S16 32) a x).toNat < S43520.size a)
theorem k0_idx460_inb : ∀ (v431 : BitVec 32) (v480 : IVec S16 32) (k0_hw465 : k0_chk465 v431 v480), ∀ (k0_h9 : k0_cond9 v431 = 1#1), ∀ a x, ((![v480] : Fin 1 → IVec S16 32) a x).toNat < S43520.size a := fun v431 v480 k0_hw465 k0_h9 => k0_hw465 k0_h9

def k0_chk466 (v431 : BitVec 32) (v492 : IVec S16 32) : Prop :=
  (∀ (k0_h9 : k0_cond9 v431 = 1#1), ∀ a x, ((![v492] : Fin 1 → IVec S16 32) a x).toNat < S43520.size a)
theorem k0_idx461_inb : ∀ (v431 : BitVec 32) (v492 : IVec S16 32) (k0_hw466 : k0_chk466 v431 v492), ∀ (k0_h9 : k0_cond9 v431 = 1#1), ∀ a x, ((![v492] : Fin 1 → IVec S16 32) a x).toNat < S43520.size a := fun v431 v492 k0_hw466 k0_h9 => k0_hw466 k0_h9

def k0_chk467 (v431 : BitVec 32) (v495 : IVec S16 32) : Prop :=
  (∀ (k0_h9 : k0_cond9 v431 = 1#1), ∀ a x, ((![v495] : Fin 1 → IVec S16 32) a x).toNat < S43520.size a)
theorem k0_idx462_inb : ∀ (v431 : BitVec 32) (v495 : IVec S16 32) (k0_hw467 : k0_chk467 v431 v495), ∀ (k0_h9 : k0_cond9 v431 = 1#1), ∀ a x, ((![v495] : Fin 1 → IVec S16 32) a x).toNat < S43520.size a := fun v431 v495 k0_hw467 k0_h9 => k0_hw467 k0_h9

def k0_chk468 (v431 : BitVec 32) (v507 : IVec S16 32) : Prop :=
  (∀ (k0_h9 : k0_cond9 v431 = 1#1), ∀ a x, ((![v507] : Fin 1 → IVec S16 32) a x).toNat < S43520.size a)
theorem k0_idx463_inb : ∀ (v431 : BitVec 32) (v507 : IVec S16 32) (k0_hw468 : k0_chk468 v431 v507), ∀ (k0_h9 : k0_cond9 v431 = 1#1), ∀ a x, ((![v507] : Fin 1 → IVec S16 32) a x).toNat < S43520.size a := fun v431 v507 k0_hw468 k0_h9 => k0_hw468 k0_h9

def k0_chk469 (v431 : BitVec 32) (v518 : IVec S16 32) : Prop :=
  (∀ (k0_h9 : k0_cond9 v431 = 1#1), ∀ a x, ((![v518] : Fin 1 → IVec S16 32) a x).toNat < S4096.size a)
theorem k0_idx464_inb : ∀ (v431 : BitVec 32) (v518 : IVec S16 32) (k0_hw469 : k0_chk469 v431 v518), ∀ (k0_h9 : k0_cond9 v431 = 1#1), ∀ a x, ((![v518] : Fin 1 → IVec S16 32) a x).toNat < S4096.size a := fun v431 v518 k0_hw469 k0_h9 => k0_hw469 k0_h9

def k0_chk470 (v431 : BitVec 32) (v520 : IVec S16 32) : Prop :=
  (∀ (k0_h9 : k0_cond9 v431 = 1#1), ∀ a x, ((![v520] : Fin 1 → IVec S16 32) a x).toNat < S43520.size a)
theorem k0_idx465_inb : ∀ (v431 : BitVec 32) (v520 : IVec S16 32) (k0_hw470 : k0_chk470 v431 v520), ∀ (k0_h9 : k0_cond9 v431 = 1#1), ∀ a x, ((![v520] : Fin 1 → IVec S16 32) a x).toNat < S43520.size a := fun v431 v520 k0_hw470 k0_h9 => k0_hw470 k0_h9

def k0_chk471 (v431 : BitVec 32) (v523 : IVec S16 32) : Prop :=
  (∀ (k0_h9 : k0_cond9 v431 = 1#1), ∀ a x, ((![v523] : Fin 1 → IVec S16 32) a x).toNat < S4096.size a)
theorem k0_idx466_inb : ∀ (v431 : BitVec 32) (v523 : IVec S16 32) (k0_hw471 : k0_chk471 v431 v523), ∀ (k0_h9 : k0_cond9 v431 = 1#1), ∀ a x, ((![v523] : Fin 1 → IVec S16 32) a x).toNat < S4096.size a := fun v431 v523 k0_hw471 k0_h9 => k0_hw471 k0_h9

def k0_chk472 (v431 : BitVec 32) (v526 : IVec S16 32) : Prop :=
  (∀ (k0_h9 : k0_cond9 v431 = 1#1), ∀ a x, ((![v526] : Fin 1 → IVec S16 32) a x).toNat < S43520.size a)
theorem k0_idx467_inb : ∀ (v431 : BitVec 32) (v526 : IVec S16 32) (k0_hw472 : k0_chk472 v431 v526), ∀ (k0_h9 : k0_cond9 v431 = 1#1), ∀ a x, ((![v526] : Fin 1 → IVec S16 32) a x).toNat < S43520.size a := fun v431 v526 k0_hw472 k0_h9 => k0_hw472 k0_h9

def k0_chk473 (v431 : BitVec 32) (v529 : IVec S16 32) : Prop :=
  (∀ (k0_h9 : k0_cond9 v431 = 1#1), ∀ a x, ((![v529] : Fin 1 → IVec S16 32) a x).toNat < S4096.size a)
theorem k0_idx468_inb : ∀ (v431 : BitVec 32) (v529 : IVec S16 32) (k0_hw473 : k0_chk473 v431 v529), ∀ (k0_h9 : k0_cond9 v431 = 1#1), ∀ a x, ((![v529] : Fin 1 → IVec S16 32) a x).toNat < S4096.size a := fun v431 v529 k0_hw473 k0_h9 => k0_hw473 k0_h9

def k0_chk474 (v431 : BitVec 32) (v532 : IVec S16 32) : Prop :=
  (∀ (k0_h9 : k0_cond9 v431 = 1#1), ∀ a x, ((![v532] : Fin 1 → IVec S16 32) a x).toNat < S43520.size a)
theorem k0_idx469_inb : ∀ (v431 : BitVec 32) (v532 : IVec S16 32) (k0_hw474 : k0_chk474 v431 v532), ∀ (k0_h9 : k0_cond9 v431 = 1#1), ∀ a x, ((![v532] : Fin 1 → IVec S16 32) a x).toNat < S43520.size a := fun v431 v532 k0_hw474 k0_h9 => k0_hw474 k0_h9

def k0_chk475 (v431 : BitVec 32) (v535 : IVec S16 32) : Prop :=
  (∀ (k0_h9 : k0_cond9 v431 = 1#1), ∀ a x, ((![v535] : Fin 1 → IVec S16 32) a x).toNat < S4096.size a)
theorem k0_idx470_inb : ∀ (v431 : BitVec 32) (v535 : IVec S16 32) (k0_hw475 : k0_chk475 v431 v535), ∀ (k0_h9 : k0_cond9 v431 = 1#1), ∀ a x, ((![v535] : Fin 1 → IVec S16 32) a x).toNat < S4096.size a := fun v431 v535 k0_hw475 k0_h9 => k0_hw475 k0_h9

def k0_chk476 (v431 : BitVec 32) (v538 : IVec S16 32) : Prop :=
  (∀ (k0_h9 : k0_cond9 v431 = 1#1), ∀ a x, ((![v538] : Fin 1 → IVec S16 32) a x).toNat < S43520.size a)
theorem k0_idx471_inb : ∀ (v431 : BitVec 32) (v538 : IVec S16 32) (k0_hw476 : k0_chk476 v431 v538), ∀ (k0_h9 : k0_cond9 v431 = 1#1), ∀ a x, ((![v538] : Fin 1 → IVec S16 32) a x).toNat < S43520.size a := fun v431 v538 k0_hw476 k0_h9 => k0_hw476 k0_h9

def k0_chk477 (v431 : BitVec 32) (v541 : IVec S16 32) : Prop :=
  (∀ (k0_h9 : k0_cond9 v431 = 1#1), ∀ a x, ((![v541] : Fin 1 → IVec S16 32) a x).toNat < S4096.size a)
theorem k0_idx472_inb : ∀ (v431 : BitVec 32) (v541 : IVec S16 32) (k0_hw477 : k0_chk477 v431 v541), ∀ (k0_h9 : k0_cond9 v431 = 1#1), ∀ a x, ((![v541] : Fin 1 → IVec S16 32) a x).toNat < S4096.size a := fun v431 v541 k0_hw477 k0_h9 => k0_hw477 k0_h9

def k0_chk478 (v431 : BitVec 32) (v544 : IVec S16 32) : Prop :=
  (∀ (k0_h9 : k0_cond9 v431 = 1#1), ∀ a x, ((![v544] : Fin 1 → IVec S16 32) a x).toNat < S43520.size a)
theorem k0_idx473_inb : ∀ (v431 : BitVec 32) (v544 : IVec S16 32) (k0_hw478 : k0_chk478 v431 v544), ∀ (k0_h9 : k0_cond9 v431 = 1#1), ∀ a x, ((![v544] : Fin 1 → IVec S16 32) a x).toNat < S43520.size a := fun v431 v544 k0_hw478 k0_h9 => k0_hw478 k0_h9

def k0_chk479 (v431 : BitVec 32) (v547 : IVec S16 32) : Prop :=
  (∀ (k0_h9 : k0_cond9 v431 = 1#1), ∀ a x, ((![v547] : Fin 1 → IVec S16 32) a x).toNat < S4096.size a)
theorem k0_idx474_inb : ∀ (v431 : BitVec 32) (v547 : IVec S16 32) (k0_hw479 : k0_chk479 v431 v547), ∀ (k0_h9 : k0_cond9 v431 = 1#1), ∀ a x, ((![v547] : Fin 1 → IVec S16 32) a x).toNat < S4096.size a := fun v431 v547 k0_hw479 k0_h9 => k0_hw479 k0_h9

def k0_chk480 (v431 : BitVec 32) (v550 : IVec S16 32) : Prop :=
  (∀ (k0_h9 : k0_cond9 v431 = 1#1), ∀ a x, ((![v550] : Fin 1 → IVec S16 32) a x).toNat < S43520.size a)
theorem k0_idx475_inb : ∀ (v431 : BitVec 32) (v550 : IVec S16 32) (k0_hw480 : k0_chk480 v431 v550), ∀ (k0_h9 : k0_cond9 v431 = 1#1), ∀ a x, ((![v550] : Fin 1 → IVec S16 32) a x).toNat < S43520.size a := fun v431 v550 k0_hw480 k0_h9 => k0_hw480 k0_h9

def k0_chk481 (v431 : BitVec 32) (v553 : IVec S16 32) : Prop :=
  (∀ (k0_h9 : k0_cond9 v431 = 1#1), ∀ a x, ((![v553] : Fin 1 → IVec S16 32) a x).toNat < S4096.size a)
theorem k0_idx476_inb : ∀ (v431 : BitVec 32) (v553 : IVec S16 32) (k0_hw481 : k0_chk481 v431 v553), ∀ (k0_h9 : k0_cond9 v431 = 1#1), ∀ a x, ((![v553] : Fin 1 → IVec S16 32) a x).toNat < S4096.size a := fun v431 v553 k0_hw481 k0_h9 => k0_hw481 k0_h9

def k0_chk482 (v431 : BitVec 32) (v556 : IVec S16 32) : Prop :=
  (∀ (k0_h9 : k0_cond9 v431 = 1#1), ∀ a x, ((![v556] : Fin 1 → IVec S16 32) a x).toNat < S43520.size a)
theorem k0_idx477_inb : ∀ (v431 : BitVec 32) (v556 : IVec S16 32) (k0_hw482 : k0_chk482 v431 v556), ∀ (k0_h9 : k0_cond9 v431 = 1#1), ∀ a x, ((![v556] : Fin 1 → IVec S16 32) a x).toNat < S43520.size a := fun v431 v556 k0_hw482 k0_h9 => k0_hw482 k0_h9

def k0_chk483 (v431 : BitVec 32) (v559 : IVec S16 32) : Prop :=
  (∀ (k0_h9 : k0_cond9 v431 = 1#1), ∀ a x, ((![v559] : Fin 1 → IVec S16 32) a x).toNat < S4096.size a)
theorem k0_idx478_inb : ∀ (v431 : BitVec 32) (v559 : IVec S16 32) (k0_hw483 : k0_chk483 v431 v559), ∀ (k0_h9 : k0_cond9 v431 = 1#1), ∀ a x, ((![v559] : Fin 1 → IVec S16 32) a x).toNat < S4096.size a := fun v431 v559 k0_hw483 k0_h9 => k0_hw483 k0_h9

def k0_chk484 (v431 : BitVec 32) (v562 : IVec S16 32) : Prop :=
  (∀ (k0_h9 : k0_cond9 v431 = 1#1), ∀ a x, ((![v562] : Fin 1 → IVec S16 32) a x).toNat < S43520.size a)
theorem k0_idx479_inb : ∀ (v431 : BitVec 32) (v562 : IVec S16 32) (k0_hw484 : k0_chk484 v431 v562), ∀ (k0_h9 : k0_cond9 v431 = 1#1), ∀ a x, ((![v562] : Fin 1 → IVec S16 32) a x).toNat < S43520.size a := fun v431 v562 k0_hw484 k0_h9 => k0_hw484 k0_h9

def k0_chk485 (v431 : BitVec 32) (v565 : IVec S16 32) : Prop :=
  (∀ (k0_h9 : k0_cond9 v431 = 1#1), ∀ a x, ((![v565] : Fin 1 → IVec S16 32) a x).toNat < S4096.size a)
theorem k0_idx480_inb : ∀ (v431 : BitVec 32) (v565 : IVec S16 32) (k0_hw485 : k0_chk485 v431 v565), ∀ (k0_h9 : k0_cond9 v431 = 1#1), ∀ a x, ((![v565] : Fin 1 → IVec S16 32) a x).toNat < S4096.size a := fun v431 v565 k0_hw485 k0_h9 => k0_hw485 k0_h9

def k0_chk486 (v431 : BitVec 32) (v568 : IVec S16 32) : Prop :=
  (∀ (k0_h9 : k0_cond9 v431 = 1#1), ∀ a x, ((![v568] : Fin 1 → IVec S16 32) a x).toNat < S43520.size a)
theorem k0_idx481_inb : ∀ (v431 : BitVec 32) (v568 : IVec S16 32) (k0_hw486 : k0_chk486 v431 v568), ∀ (k0_h9 : k0_cond9 v431 = 1#1), ∀ a x, ((![v568] : Fin 1 → IVec S16 32) a x).toNat < S43520.size a := fun v431 v568 k0_hw486 k0_h9 => k0_hw486 k0_h9

def k0_chk487 (v431 : BitVec 32) (v571 : IVec S16 32) : Prop :=
  (∀ (k0_h9 : k0_cond9 v431 = 1#1), ∀ a x, ((![v571] : Fin 1 → IVec S16 32) a x).toNat < S4096.size a)
theorem k0_idx482_inb : ∀ (v431 : BitVec 32) (v571 : IVec S16 32) (k0_hw487 : k0_chk487 v431 v571), ∀ (k0_h9 : k0_cond9 v431 = 1#1), ∀ a x, ((![v571] : Fin 1 → IVec S16 32) a x).toNat < S4096.size a := fun v431 v571 k0_hw487 k0_h9 => k0_hw487 k0_h9

def k0_chk488 (v431 : BitVec 32) (v574 : IVec S16 32) : Prop :=
  (∀ (k0_h9 : k0_cond9 v431 = 1#1), ∀ a x, ((![v574] : Fin 1 → IVec S16 32) a x).toNat < S43520.size a)
theorem k0_idx483_inb : ∀ (v431 : BitVec 32) (v574 : IVec S16 32) (k0_hw488 : k0_chk488 v431 v574), ∀ (k0_h9 : k0_cond9 v431 = 1#1), ∀ a x, ((![v574] : Fin 1 → IVec S16 32) a x).toNat < S43520.size a := fun v431 v574 k0_hw488 k0_h9 => k0_hw488 k0_h9

def k0_chk489 (v431 : BitVec 32) (v577 : IVec S16 32) : Prop :=
  (∀ (k0_h9 : k0_cond9 v431 = 1#1), ∀ a x, ((![v577] : Fin 1 → IVec S16 32) a x).toNat < S4096.size a)
theorem k0_idx484_inb : ∀ (v431 : BitVec 32) (v577 : IVec S16 32) (k0_hw489 : k0_chk489 v431 v577), ∀ (k0_h9 : k0_cond9 v431 = 1#1), ∀ a x, ((![v577] : Fin 1 → IVec S16 32) a x).toNat < S4096.size a := fun v431 v577 k0_hw489 k0_h9 => k0_hw489 k0_h9

def k0_chk490 (v431 : BitVec 32) (v580 : IVec S16 32) : Prop :=
  (∀ (k0_h9 : k0_cond9 v431 = 1#1), ∀ a x, ((![v580] : Fin 1 → IVec S16 32) a x).toNat < S43520.size a)
theorem k0_idx485_inb : ∀ (v431 : BitVec 32) (v580 : IVec S16 32) (k0_hw490 : k0_chk490 v431 v580), ∀ (k0_h9 : k0_cond9 v431 = 1#1), ∀ a x, ((![v580] : Fin 1 → IVec S16 32) a x).toNat < S43520.size a := fun v431 v580 k0_hw490 k0_h9 => k0_hw490 k0_h9

def k0_chk491 (v431 : BitVec 32) (v583 : IVec S16 32) : Prop :=
  (∀ (k0_h9 : k0_cond9 v431 = 1#1), ∀ a x, ((![v583] : Fin 1 → IVec S16 32) a x).toNat < S4096.size a)
theorem k0_idx486_inb : ∀ (v431 : BitVec 32) (v583 : IVec S16 32) (k0_hw491 : k0_chk491 v431 v583), ∀ (k0_h9 : k0_cond9 v431 = 1#1), ∀ a x, ((![v583] : Fin 1 → IVec S16 32) a x).toNat < S4096.size a := fun v431 v583 k0_hw491 k0_h9 => k0_hw491 k0_h9

def k0_chk492 (v431 : BitVec 32) (v586 : IVec S16 32) : Prop :=
  (∀ (k0_h9 : k0_cond9 v431 = 1#1), ∀ a x, ((![v586] : Fin 1 → IVec S16 32) a x).toNat < S43520.size a)
theorem k0_idx487_inb : ∀ (v431 : BitVec 32) (v586 : IVec S16 32) (k0_hw492 : k0_chk492 v431 v586), ∀ (k0_h9 : k0_cond9 v431 = 1#1), ∀ a x, ((![v586] : Fin 1 → IVec S16 32) a x).toNat < S43520.size a := fun v431 v586 k0_hw492 k0_h9 => k0_hw492 k0_h9

def k0_chk493 (v431 : BitVec 32) (v589 : IVec S16 32) : Prop :=
  (∀ (k0_h9 : k0_cond9 v431 = 1#1), ∀ a x, ((![v589] : Fin 1 → IVec S16 32) a x).toNat < S4096.size a)
theorem k0_idx488_inb : ∀ (v431 : BitVec 32) (v589 : IVec S16 32) (k0_hw493 : k0_chk493 v431 v589), ∀ (k0_h9 : k0_cond9 v431 = 1#1), ∀ a x, ((![v589] : Fin 1 → IVec S16 32) a x).toNat < S4096.size a := fun v431 v589 k0_hw493 k0_h9 => k0_hw493 k0_h9

def k0_chk494 (v431 : BitVec 32) (v592 : IVec S16 32) : Prop :=
  (∀ (k0_h9 : k0_cond9 v431 = 1#1), ∀ a x, ((![v592] : Fin 1 → IVec S16 32) a x).toNat < S43520.size a)
theorem k0_idx489_inb : ∀ (v431 : BitVec 32) (v592 : IVec S16 32) (k0_hw494 : k0_chk494 v431 v592), ∀ (k0_h9 : k0_cond9 v431 = 1#1), ∀ a x, ((![v592] : Fin 1 → IVec S16 32) a x).toNat < S43520.size a := fun v431 v592 k0_hw494 k0_h9 => k0_hw494 k0_h9

def k0_chk495 (v431 : BitVec 32) (v595 : IVec S16 32) : Prop :=
  (∀ (k0_h9 : k0_cond9 v431 = 1#1), ∀ a x, ((![v595] : Fin 1 → IVec S16 32) a x).toNat < S4096.size a)
theorem k0_idx490_inb : ∀ (v431 : BitVec 32) (v595 : IVec S16 32) (k0_hw495 : k0_chk495 v431 v595), ∀ (k0_h9 : k0_cond9 v431 = 1#1), ∀ a x, ((![v595] : Fin 1 → IVec S16 32) a x).toNat < S4096.size a := fun v431 v595 k0_hw495 k0_h9 => k0_hw495 k0_h9

def k0_chk496 (v431 : BitVec 32) (v598 : IVec S16 32) : Prop :=
  (∀ (k0_h9 : k0_cond9 v431 = 1#1), ∀ a x, ((![v598] : Fin 1 → IVec S16 32) a x).toNat < S43520.size a)
theorem k0_idx491_inb : ∀ (v431 : BitVec 32) (v598 : IVec S16 32) (k0_hw496 : k0_chk496 v431 v598), ∀ (k0_h9 : k0_cond9 v431 = 1#1), ∀ a x, ((![v598] : Fin 1 → IVec S16 32) a x).toNat < S43520.size a := fun v431 v598 k0_hw496 k0_h9 => k0_hw496 k0_h9

def k0_chk497 (v431 : BitVec 32) (v601 : IVec S16 32) : Prop :=
  (∀ (k0_h9 : k0_cond9 v431 = 1#1), ∀ a x, ((![v601] : Fin 1 → IVec S16 32) a x).toNat < S4096.size a)
theorem k0_idx492_inb : ∀ (v431 : BitVec 32) (v601 : IVec S16 32) (k0_hw497 : k0_chk497 v431 v601), ∀ (k0_h9 : k0_cond9 v431 = 1#1), ∀ a x, ((![v601] : Fin 1 → IVec S16 32) a x).toNat < S4096.size a := fun v431 v601 k0_hw497 k0_h9 => k0_hw497 k0_h9

def k0_chk498 (v431 : BitVec 32) (v604 : IVec S16 32) : Prop :=
  (∀ (k0_h9 : k0_cond9 v431 = 1#1), ∀ a x, ((![v604] : Fin 1 → IVec S16 32) a x).toNat < S43520.size a)
theorem k0_idx493_inb : ∀ (v431 : BitVec 32) (v604 : IVec S16 32) (k0_hw498 : k0_chk498 v431 v604), ∀ (k0_h9 : k0_cond9 v431 = 1#1), ∀ a x, ((![v604] : Fin 1 → IVec S16 32) a x).toNat < S43520.size a := fun v431 v604 k0_hw498 k0_h9 => k0_hw498 k0_h9

def k0_chk499 (v431 : BitVec 32) (v607 : IVec S16 32) : Prop :=
  (∀ (k0_h9 : k0_cond9 v431 = 1#1), ∀ a x, ((![v607] : Fin 1 → IVec S16 32) a x).toNat < S4096.size a)
theorem k0_idx494_inb : ∀ (v431 : BitVec 32) (v607 : IVec S16 32) (k0_hw499 : k0_chk499 v431 v607), ∀ (k0_h9 : k0_cond9 v431 = 1#1), ∀ a x, ((![v607] : Fin 1 → IVec S16 32) a x).toNat < S4096.size a := fun v431 v607 k0_hw499 k0_h9 => k0_hw499 k0_h9

def k0_chk500 (v431 : BitVec 32) (v610 : IVec S16 32) : Prop :=
  (∀ (k0_h9 : k0_cond9 v431 = 1#1), ∀ a x, ((![v610] : Fin 1 → IVec S16 32) a x).toNat < S43520.size a)
theorem k0_idx495_inb : ∀ (v431 : BitVec 32) (v610 : IVec S16 32) (k0_hw500 : k0_chk500 v431 v610), ∀ (k0_h9 : k0_cond9 v431 = 1#1), ∀ a x, ((![v610] : Fin 1 → IVec S16 32) a x).toNat < S43520.size a := fun v431 v610 k0_hw500 k0_h9 => k0_hw500 k0_h9

def k0_chk501 (v431 : BitVec 32) (v613 : IVec S16 32) : Prop :=
  (∀ (k0_h9 : k0_cond9 v431 = 1#1), ∀ a x, ((![v613] : Fin 1 → IVec S16 32) a x).toNat < S4096.size a)
theorem k0_idx496_inb : ∀ (v431 : BitVec 32) (v613 : IVec S16 32) (k0_hw501 : k0_chk501 v431 v613), ∀ (k0_h9 : k0_cond9 v431 = 1#1), ∀ a x, ((![v613] : Fin 1 → IVec S16 32) a x).toNat < S4096.size a := fun v431 v613 k0_hw501 k0_h9 => k0_hw501 k0_h9

def k0_chk502 (v431 : BitVec 32) (v616 : IVec S16 32) : Prop :=
  (∀ (k0_h9 : k0_cond9 v431 = 1#1), ∀ a x, ((![v616] : Fin 1 → IVec S16 32) a x).toNat < S43520.size a)
theorem k0_idx497_inb : ∀ (v431 : BitVec 32) (v616 : IVec S16 32) (k0_hw502 : k0_chk502 v431 v616), ∀ (k0_h9 : k0_cond9 v431 = 1#1), ∀ a x, ((![v616] : Fin 1 → IVec S16 32) a x).toNat < S43520.size a := fun v431 v616 k0_hw502 k0_h9 => k0_hw502 k0_h9

def k0_chk503 (v431 : BitVec 32) (v619 : IVec S16 32) : Prop :=
  (∀ (k0_h9 : k0_cond9 v431 = 1#1), ∀ a x, ((![v619] : Fin 1 → IVec S16 32) a x).toNat < S4096.size a)
theorem k0_idx498_inb : ∀ (v431 : BitVec 32) (v619 : IVec S16 32) (k0_hw503 : k0_chk503 v431 v619), ∀ (k0_h9 : k0_cond9 v431 = 1#1), ∀ a x, ((![v619] : Fin 1 → IVec S16 32) a x).toNat < S4096.size a := fun v431 v619 k0_hw503 k0_h9 => k0_hw503 k0_h9

def k0_chk504 (v431 : BitVec 32) (v622 : IVec S16 32) : Prop :=
  (∀ (k0_h9 : k0_cond9 v431 = 1#1), ∀ a x, ((![v622] : Fin 1 → IVec S16 32) a x).toNat < S43520.size a)
theorem k0_idx499_inb : ∀ (v431 : BitVec 32) (v622 : IVec S16 32) (k0_hw504 : k0_chk504 v431 v622), ∀ (k0_h9 : k0_cond9 v431 = 1#1), ∀ a x, ((![v622] : Fin 1 → IVec S16 32) a x).toNat < S43520.size a := fun v431 v622 k0_hw504 k0_h9 => k0_hw504 k0_h9

def k0_chk505 (v431 : BitVec 32) (v625 : IVec S16 32) : Prop :=
  (∀ (k0_h9 : k0_cond9 v431 = 1#1), ∀ a x, ((![v625] : Fin 1 → IVec S16 32) a x).toNat < S4096.size a)
theorem k0_idx500_inb : ∀ (v431 : BitVec 32) (v625 : IVec S16 32) (k0_hw505 : k0_chk505 v431 v625), ∀ (k0_h9 : k0_cond9 v431 = 1#1), ∀ a x, ((![v625] : Fin 1 → IVec S16 32) a x).toNat < S4096.size a := fun v431 v625 k0_hw505 k0_h9 => k0_hw505 k0_h9
@[reducible] def k0_t12_loop (v274 : BitVec 32) : Scf.Loop 32 :=
  let c0_i32_111 : BitVec 32 := 0#32
  let v275 : BitVec 32 := Scalar.subi v274 c0_i32_111
  let c1_i32_112 : BitVec 32 := 1#32
  let v277 : BitVec 32 := Scalar.divsi v275 c1_i32_112
  let v278 : BitVec 32 := Scalar.muli v277 c1_i32_112
  let v279 : BitVec 32 := Scalar.addi c0_i32_111 v278
  let v276 : BitVec 32 := Scalar.addi c0_i32_111 v275
  let c1_i32_114 : BitVec 32 := 1#32
  ⟨v279, v276, c1_i32_114⟩

def k0_chk450 (v274 : BitVec 32) : Prop :=
  ((k0_t11_loop v274).OK) ∧
  ((k0_t12_loop v274).OK)
theorem k0_t11_ok : ∀ (v274 : BitVec 32) (k0_hw450 : k0_chk450 v274), (k0_t11_loop v274).OK := fun v274 k0_hw450 => k0_hw450.1
theorem k0_t12_ok : ∀ (v274 : BitVec 32) (k0_hw450 : k0_chk450 v274), (k0_t12_loop v274).OK := fun v274 k0_hw450 => k0_hw450.2

def k0_chk506 (v391 : IVec S16 32) : Prop :=
  (∀ a x, ((![v391] : Fin 1 → IVec S16 32) a x).toNat < S14336.size a)
theorem k0_idx501_inb : ∀ (v391 : IVec S16 32) (k0_hw506 : k0_chk506 v391), ∀ a x, ((![v391] : Fin 1 → IVec S16 32) a x).toNat < S14336.size a := fun v391 k0_hw506 => k0_hw506

def k0_chk507 (v399 : IVec S16 32) : Prop :=
  (∀ a x, ((![v399] : Fin 1 → IVec S16 32) a x).toNat < S1280.size a)
theorem k0_idx502_inb : ∀ (v399 : IVec S16 32) (k0_hw507 : k0_chk507 v399), ∀ a x, ((![v399] : Fin 1 → IVec S16 32) a x).toNat < S1280.size a := fun v399 k0_hw507 => k0_hw507
def k0_cond10 (v431 : BitVec 32) : BitVec 1 :=
  let c0_i32_170 : BitVec 32 := 0#32
  let v432 : BitVec 1 := Scalar.cmpi .sgt v431 c0_i32_170
  let v433 : BitVec 32 := Scalar.extui v432
  let c0_i32_171 : BitVec 32 := 0#32
  let v434 : BitVec 1 := Scalar.cmpi .ne v433 c0_i32_171
  v434

def k0_chk508 (v431 : BitVec 32) (v436 : IVec S16 32) : Prop :=
  (∀ (k0_h10 : k0_cond10 v431 = 1#1), ∀ a x, ((![v436] : Fin 1 → IVec S16 32) a x).toNat < S43520.size a)
theorem k0_idx503_inb : ∀ (v431 : BitVec 32) (v436 : IVec S16 32) (k0_hw508 : k0_chk508 v431 v436), ∀ (k0_h10 : k0_cond10 v431 = 1#1), ∀ a x, ((![v436] : Fin 1 → IVec S16 32) a x).toNat < S43520.size a := fun v431 v436 k0_hw508 k0_h10 => k0_hw508 k0_h10

def k0_chk509 (v431 : BitVec 32) (v439 : IVec S16 32) : Prop :=
  (∀ (k0_h10 : k0_cond10 v431 = 1#1), ∀ a x, ((![v439] : Fin 1 → IVec S16 32) a x).toNat < S43520.size a)
theorem k0_idx504_inb : ∀ (v431 : BitVec 32) (v439 : IVec S16 32) (k0_hw509 : k0_chk509 v431 v439), ∀ (k0_h10 : k0_cond10 v431 = 1#1), ∀ a x, ((![v439] : Fin 1 → IVec S16 32) a x).toNat < S43520.size a := fun v431 v439 k0_hw509 k0_h10 => k0_hw509 k0_h10

def k0_chk510 (v431 : BitVec 32) (v442 : IVec S16 32) : Prop :=
  (∀ (k0_h10 : k0_cond10 v431 = 1#1), ∀ a x, ((![v442] : Fin 1 → IVec S16 32) a x).toNat < S43520.size a)
theorem k0_idx505_inb : ∀ (v431 : BitVec 32) (v442 : IVec S16 32) (k0_hw510 : k0_chk510 v431 v442), ∀ (k0_h10 : k0_cond10 v431 = 1#1), ∀ a x, ((![v442] : Fin 1 → IVec S16 32) a x).toNat < S43520.size a := fun v431 v442 k0_hw510 k0_h10 => k0_hw510 k0_h10

def k0_chk511 (v431 : BitVec 32) (v445 : IVec S16 32) : Prop :=
  (∀ (k0_h10 : k0_cond10 v431 = 1#1), ∀ a x, ((![v445] : Fin 1 → IVec S16 32) a x).toNat < S43520.size a)
theorem k0_idx506_inb : ∀ (v431 : BitVec 32) (v445 : IVec S16 32) (k0_hw511 : k0_chk511 v431 v445), ∀ (k0_h10 : k0_cond10 v431 = 1#1), ∀ a x, ((![v445] : Fin 1 → IVec S16 32) a x).toNat < S43520.size a := fun v431 v445 k0_hw511 k0_h10 => k0_hw511 k0_h10

def k0_chk512 (v431 : BitVec 32) (v448 : IVec S16 32) : Prop :=
  (∀ (k0_h10 : k0_cond10 v431 = 1#1), ∀ a x, ((![v448] : Fin 1 → IVec S16 32) a x).toNat < S43520.size a)
theorem k0_idx507_inb : ∀ (v431 : BitVec 32) (v448 : IVec S16 32) (k0_hw512 : k0_chk512 v431 v448), ∀ (k0_h10 : k0_cond10 v431 = 1#1), ∀ a x, ((![v448] : Fin 1 → IVec S16 32) a x).toNat < S43520.size a := fun v431 v448 k0_hw512 k0_h10 => k0_hw512 k0_h10

def k0_chk513 (v431 : BitVec 32) (v451 : IVec S16 32) : Prop :=
  (∀ (k0_h10 : k0_cond10 v431 = 1#1), ∀ a x, ((![v451] : Fin 1 → IVec S16 32) a x).toNat < S43520.size a)
theorem k0_idx508_inb : ∀ (v431 : BitVec 32) (v451 : IVec S16 32) (k0_hw513 : k0_chk513 v431 v451), ∀ (k0_h10 : k0_cond10 v431 = 1#1), ∀ a x, ((![v451] : Fin 1 → IVec S16 32) a x).toNat < S43520.size a := fun v431 v451 k0_hw513 k0_h10 => k0_hw513 k0_h10

def k0_chk514 (v431 : BitVec 32) (v454 : IVec S16 32) : Prop :=
  (∀ (k0_h10 : k0_cond10 v431 = 1#1), ∀ a x, ((![v454] : Fin 1 → IVec S16 32) a x).toNat < S43520.size a)
theorem k0_idx509_inb : ∀ (v431 : BitVec 32) (v454 : IVec S16 32) (k0_hw514 : k0_chk514 v431 v454), ∀ (k0_h10 : k0_cond10 v431 = 1#1), ∀ a x, ((![v454] : Fin 1 → IVec S16 32) a x).toNat < S43520.size a := fun v431 v454 k0_hw514 k0_h10 => k0_hw514 k0_h10

def k0_chk515 (v431 : BitVec 32) (v457 : IVec S16 32) : Prop :=
  (∀ (k0_h10 : k0_cond10 v431 = 1#1), ∀ a x, ((![v457] : Fin 1 → IVec S16 32) a x).toNat < S43520.size a)
theorem k0_idx510_inb : ∀ (v431 : BitVec 32) (v457 : IVec S16 32) (k0_hw515 : k0_chk515 v431 v457), ∀ (k0_h10 : k0_cond10 v431 = 1#1), ∀ a x, ((![v457] : Fin 1 → IVec S16 32) a x).toNat < S43520.size a := fun v431 v457 k0_hw515 k0_h10 => k0_hw515 k0_h10

def k0_chk516 (v431 : BitVec 32) (v460 : IVec S16 32) : Prop :=
  (∀ (k0_h10 : k0_cond10 v431 = 1#1), ∀ a x, ((![v460] : Fin 1 → IVec S16 32) a x).toNat < S43520.size a)
theorem k0_idx511_inb : ∀ (v431 : BitVec 32) (v460 : IVec S16 32) (k0_hw516 : k0_chk516 v431 v460), ∀ (k0_h10 : k0_cond10 v431 = 1#1), ∀ a x, ((![v460] : Fin 1 → IVec S16 32) a x).toNat < S43520.size a := fun v431 v460 k0_hw516 k0_h10 => k0_hw516 k0_h10

def k0_chk517 (v431 : BitVec 32) (v463 : IVec S16 32) : Prop :=
  (∀ (k0_h10 : k0_cond10 v431 = 1#1), ∀ a x, ((![v463] : Fin 1 → IVec S16 32) a x).toNat < S43520.size a)
theorem k0_idx512_inb : ∀ (v431 : BitVec 32) (v463 : IVec S16 32) (k0_hw517 : k0_chk517 v431 v463), ∀ (k0_h10 : k0_cond10 v431 = 1#1), ∀ a x, ((![v463] : Fin 1 → IVec S16 32) a x).toNat < S43520.size a := fun v431 v463 k0_hw517 k0_h10 => k0_hw517 k0_h10

def k0_chk518 (v431 : BitVec 32) (v466 : IVec S16 32) : Prop :=
  (∀ (k0_h10 : k0_cond10 v431 = 1#1), ∀ a x, ((![v466] : Fin 1 → IVec S16 32) a x).toNat < S43520.size a)
theorem k0_idx513_inb : ∀ (v431 : BitVec 32) (v466 : IVec S16 32) (k0_hw518 : k0_chk518 v431 v466), ∀ (k0_h10 : k0_cond10 v431 = 1#1), ∀ a x, ((![v466] : Fin 1 → IVec S16 32) a x).toNat < S43520.size a := fun v431 v466 k0_hw518 k0_h10 => k0_hw518 k0_h10

def k0_chk519 (v431 : BitVec 32) (v477 : IVec S16 32) : Prop :=
  (∀ (k0_h10 : k0_cond10 v431 = 1#1), ∀ a x, ((![v477] : Fin 1 → IVec S16 32) a x).toNat < S43520.size a)
theorem k0_idx514_inb : ∀ (v431 : BitVec 32) (v477 : IVec S16 32) (k0_hw519 : k0_chk519 v431 v477), ∀ (k0_h10 : k0_cond10 v431 = 1#1), ∀ a x, ((![v477] : Fin 1 → IVec S16 32) a x).toNat < S43520.size a := fun v431 v477 k0_hw519 k0_h10 => k0_hw519 k0_h10

def k0_chk520 (v431 : BitVec 32) (v480 : IVec S16 32) : Prop :=
  (∀ (k0_h10 : k0_cond10 v431 = 1#1), ∀ a x, ((![v480] : Fin 1 → IVec S16 32) a x).toNat < S43520.size a)
theorem k0_idx515_inb : ∀ (v431 : BitVec 32) (v480 : IVec S16 32) (k0_hw520 : k0_chk520 v431 v480), ∀ (k0_h10 : k0_cond10 v431 = 1#1), ∀ a x, ((![v480] : Fin 1 → IVec S16 32) a x).toNat < S43520.size a := fun v431 v480 k0_hw520 k0_h10 => k0_hw520 k0_h10

def k0_chk521 (v431 : BitVec 32) (v492 : IVec S16 32) : Prop :=
  (∀ (k0_h10 : k0_cond10 v431 = 1#1), ∀ a x, ((![v492] : Fin 1 → IVec S16 32) a x).toNat < S43520.size a)
theorem k0_idx516_inb : ∀ (v431 : BitVec 32) (v492 : IVec S16 32) (k0_hw521 : k0_chk521 v431 v492), ∀ (k0_h10 : k0_cond10 v431 = 1#1), ∀ a x, ((![v492] : Fin 1 → IVec S16 32) a x).toNat < S43520.size a := fun v431 v492 k0_hw521 k0_h10 => k0_hw521 k0_h10

def k0_chk522 (v431 : BitVec 32) (v495 : IVec S16 32) : Prop :=
  (∀ (k0_h10 : k0_cond10 v431 = 1#1), ∀ a x, ((![v495] : Fin 1 → IVec S16 32) a x).toNat < S43520.size a)
theorem k0_idx517_inb : ∀ (v431 : BitVec 32) (v495 : IVec S16 32) (k0_hw522 : k0_chk522 v431 v495), ∀ (k0_h10 : k0_cond10 v431 = 1#1), ∀ a x, ((![v495] : Fin 1 → IVec S16 32) a x).toNat < S43520.size a := fun v431 v495 k0_hw522 k0_h10 => k0_hw522 k0_h10

def k0_chk523 (v431 : BitVec 32) (v507 : IVec S16 32) : Prop :=
  (∀ (k0_h10 : k0_cond10 v431 = 1#1), ∀ a x, ((![v507] : Fin 1 → IVec S16 32) a x).toNat < S43520.size a)
theorem k0_idx518_inb : ∀ (v431 : BitVec 32) (v507 : IVec S16 32) (k0_hw523 : k0_chk523 v431 v507), ∀ (k0_h10 : k0_cond10 v431 = 1#1), ∀ a x, ((![v507] : Fin 1 → IVec S16 32) a x).toNat < S43520.size a := fun v431 v507 k0_hw523 k0_h10 => k0_hw523 k0_h10

def k0_chk524 (v431 : BitVec 32) (v518 : IVec S16 32) : Prop :=
  (∀ (k0_h10 : k0_cond10 v431 = 1#1), ∀ a x, ((![v518] : Fin 1 → IVec S16 32) a x).toNat < S4096.size a)
theorem k0_idx519_inb : ∀ (v431 : BitVec 32) (v518 : IVec S16 32) (k0_hw524 : k0_chk524 v431 v518), ∀ (k0_h10 : k0_cond10 v431 = 1#1), ∀ a x, ((![v518] : Fin 1 → IVec S16 32) a x).toNat < S4096.size a := fun v431 v518 k0_hw524 k0_h10 => k0_hw524 k0_h10

def k0_chk525 (v431 : BitVec 32) (v520 : IVec S16 32) : Prop :=
  (∀ (k0_h10 : k0_cond10 v431 = 1#1), ∀ a x, ((![v520] : Fin 1 → IVec S16 32) a x).toNat < S43520.size a)
theorem k0_idx520_inb : ∀ (v431 : BitVec 32) (v520 : IVec S16 32) (k0_hw525 : k0_chk525 v431 v520), ∀ (k0_h10 : k0_cond10 v431 = 1#1), ∀ a x, ((![v520] : Fin 1 → IVec S16 32) a x).toNat < S43520.size a := fun v431 v520 k0_hw525 k0_h10 => k0_hw525 k0_h10

def k0_chk526 (v431 : BitVec 32) (v523 : IVec S16 32) : Prop :=
  (∀ (k0_h10 : k0_cond10 v431 = 1#1), ∀ a x, ((![v523] : Fin 1 → IVec S16 32) a x).toNat < S4096.size a)
theorem k0_idx521_inb : ∀ (v431 : BitVec 32) (v523 : IVec S16 32) (k0_hw526 : k0_chk526 v431 v523), ∀ (k0_h10 : k0_cond10 v431 = 1#1), ∀ a x, ((![v523] : Fin 1 → IVec S16 32) a x).toNat < S4096.size a := fun v431 v523 k0_hw526 k0_h10 => k0_hw526 k0_h10

def k0_chk527 (v431 : BitVec 32) (v526 : IVec S16 32) : Prop :=
  (∀ (k0_h10 : k0_cond10 v431 = 1#1), ∀ a x, ((![v526] : Fin 1 → IVec S16 32) a x).toNat < S43520.size a)
theorem k0_idx522_inb : ∀ (v431 : BitVec 32) (v526 : IVec S16 32) (k0_hw527 : k0_chk527 v431 v526), ∀ (k0_h10 : k0_cond10 v431 = 1#1), ∀ a x, ((![v526] : Fin 1 → IVec S16 32) a x).toNat < S43520.size a := fun v431 v526 k0_hw527 k0_h10 => k0_hw527 k0_h10

def k0_chk528 (v431 : BitVec 32) (v529 : IVec S16 32) : Prop :=
  (∀ (k0_h10 : k0_cond10 v431 = 1#1), ∀ a x, ((![v529] : Fin 1 → IVec S16 32) a x).toNat < S4096.size a)
theorem k0_idx523_inb : ∀ (v431 : BitVec 32) (v529 : IVec S16 32) (k0_hw528 : k0_chk528 v431 v529), ∀ (k0_h10 : k0_cond10 v431 = 1#1), ∀ a x, ((![v529] : Fin 1 → IVec S16 32) a x).toNat < S4096.size a := fun v431 v529 k0_hw528 k0_h10 => k0_hw528 k0_h10

def k0_chk529 (v431 : BitVec 32) (v532 : IVec S16 32) : Prop :=
  (∀ (k0_h10 : k0_cond10 v431 = 1#1), ∀ a x, ((![v532] : Fin 1 → IVec S16 32) a x).toNat < S43520.size a)
theorem k0_idx524_inb : ∀ (v431 : BitVec 32) (v532 : IVec S16 32) (k0_hw529 : k0_chk529 v431 v532), ∀ (k0_h10 : k0_cond10 v431 = 1#1), ∀ a x, ((![v532] : Fin 1 → IVec S16 32) a x).toNat < S43520.size a := fun v431 v532 k0_hw529 k0_h10 => k0_hw529 k0_h10

def k0_chk530 (v431 : BitVec 32) (v535 : IVec S16 32) : Prop :=
  (∀ (k0_h10 : k0_cond10 v431 = 1#1), ∀ a x, ((![v535] : Fin 1 → IVec S16 32) a x).toNat < S4096.size a)
theorem k0_idx525_inb : ∀ (v431 : BitVec 32) (v535 : IVec S16 32) (k0_hw530 : k0_chk530 v431 v535), ∀ (k0_h10 : k0_cond10 v431 = 1#1), ∀ a x, ((![v535] : Fin 1 → IVec S16 32) a x).toNat < S4096.size a := fun v431 v535 k0_hw530 k0_h10 => k0_hw530 k0_h10

def k0_chk531 (v431 : BitVec 32) (v538 : IVec S16 32) : Prop :=
  (∀ (k0_h10 : k0_cond10 v431 = 1#1), ∀ a x, ((![v538] : Fin 1 → IVec S16 32) a x).toNat < S43520.size a)
theorem k0_idx526_inb : ∀ (v431 : BitVec 32) (v538 : IVec S16 32) (k0_hw531 : k0_chk531 v431 v538), ∀ (k0_h10 : k0_cond10 v431 = 1#1), ∀ a x, ((![v538] : Fin 1 → IVec S16 32) a x).toNat < S43520.size a := fun v431 v538 k0_hw531 k0_h10 => k0_hw531 k0_h10

def k0_chk532 (v431 : BitVec 32) (v541 : IVec S16 32) : Prop :=
  (∀ (k0_h10 : k0_cond10 v431 = 1#1), ∀ a x, ((![v541] : Fin 1 → IVec S16 32) a x).toNat < S4096.size a)
theorem k0_idx527_inb : ∀ (v431 : BitVec 32) (v541 : IVec S16 32) (k0_hw532 : k0_chk532 v431 v541), ∀ (k0_h10 : k0_cond10 v431 = 1#1), ∀ a x, ((![v541] : Fin 1 → IVec S16 32) a x).toNat < S4096.size a := fun v431 v541 k0_hw532 k0_h10 => k0_hw532 k0_h10

def k0_chk533 (v431 : BitVec 32) (v544 : IVec S16 32) : Prop :=
  (∀ (k0_h10 : k0_cond10 v431 = 1#1), ∀ a x, ((![v544] : Fin 1 → IVec S16 32) a x).toNat < S43520.size a)
theorem k0_idx528_inb : ∀ (v431 : BitVec 32) (v544 : IVec S16 32) (k0_hw533 : k0_chk533 v431 v544), ∀ (k0_h10 : k0_cond10 v431 = 1#1), ∀ a x, ((![v544] : Fin 1 → IVec S16 32) a x).toNat < S43520.size a := fun v431 v544 k0_hw533 k0_h10 => k0_hw533 k0_h10

def k0_chk534 (v431 : BitVec 32) (v547 : IVec S16 32) : Prop :=
  (∀ (k0_h10 : k0_cond10 v431 = 1#1), ∀ a x, ((![v547] : Fin 1 → IVec S16 32) a x).toNat < S4096.size a)
theorem k0_idx529_inb : ∀ (v431 : BitVec 32) (v547 : IVec S16 32) (k0_hw534 : k0_chk534 v431 v547), ∀ (k0_h10 : k0_cond10 v431 = 1#1), ∀ a x, ((![v547] : Fin 1 → IVec S16 32) a x).toNat < S4096.size a := fun v431 v547 k0_hw534 k0_h10 => k0_hw534 k0_h10

def k0_chk535 (v431 : BitVec 32) (v550 : IVec S16 32) : Prop :=
  (∀ (k0_h10 : k0_cond10 v431 = 1#1), ∀ a x, ((![v550] : Fin 1 → IVec S16 32) a x).toNat < S43520.size a)
theorem k0_idx530_inb : ∀ (v431 : BitVec 32) (v550 : IVec S16 32) (k0_hw535 : k0_chk535 v431 v550), ∀ (k0_h10 : k0_cond10 v431 = 1#1), ∀ a x, ((![v550] : Fin 1 → IVec S16 32) a x).toNat < S43520.size a := fun v431 v550 k0_hw535 k0_h10 => k0_hw535 k0_h10

def k0_chk536 (v431 : BitVec 32) (v553 : IVec S16 32) : Prop :=
  (∀ (k0_h10 : k0_cond10 v431 = 1#1), ∀ a x, ((![v553] : Fin 1 → IVec S16 32) a x).toNat < S4096.size a)
theorem k0_idx531_inb : ∀ (v431 : BitVec 32) (v553 : IVec S16 32) (k0_hw536 : k0_chk536 v431 v553), ∀ (k0_h10 : k0_cond10 v431 = 1#1), ∀ a x, ((![v553] : Fin 1 → IVec S16 32) a x).toNat < S4096.size a := fun v431 v553 k0_hw536 k0_h10 => k0_hw536 k0_h10

def k0_chk537 (v431 : BitVec 32) (v556 : IVec S16 32) : Prop :=
  (∀ (k0_h10 : k0_cond10 v431 = 1#1), ∀ a x, ((![v556] : Fin 1 → IVec S16 32) a x).toNat < S43520.size a)
theorem k0_idx532_inb : ∀ (v431 : BitVec 32) (v556 : IVec S16 32) (k0_hw537 : k0_chk537 v431 v556), ∀ (k0_h10 : k0_cond10 v431 = 1#1), ∀ a x, ((![v556] : Fin 1 → IVec S16 32) a x).toNat < S43520.size a := fun v431 v556 k0_hw537 k0_h10 => k0_hw537 k0_h10

def k0_chk538 (v431 : BitVec 32) (v559 : IVec S16 32) : Prop :=
  (∀ (k0_h10 : k0_cond10 v431 = 1#1), ∀ a x, ((![v559] : Fin 1 → IVec S16 32) a x).toNat < S4096.size a)
theorem k0_idx533_inb : ∀ (v431 : BitVec 32) (v559 : IVec S16 32) (k0_hw538 : k0_chk538 v431 v559), ∀ (k0_h10 : k0_cond10 v431 = 1#1), ∀ a x, ((![v559] : Fin 1 → IVec S16 32) a x).toNat < S4096.size a := fun v431 v559 k0_hw538 k0_h10 => k0_hw538 k0_h10

def k0_chk539 (v431 : BitVec 32) (v562 : IVec S16 32) : Prop :=
  (∀ (k0_h10 : k0_cond10 v431 = 1#1), ∀ a x, ((![v562] : Fin 1 → IVec S16 32) a x).toNat < S43520.size a)
theorem k0_idx534_inb : ∀ (v431 : BitVec 32) (v562 : IVec S16 32) (k0_hw539 : k0_chk539 v431 v562), ∀ (k0_h10 : k0_cond10 v431 = 1#1), ∀ a x, ((![v562] : Fin 1 → IVec S16 32) a x).toNat < S43520.size a := fun v431 v562 k0_hw539 k0_h10 => k0_hw539 k0_h10

def k0_chk540 (v431 : BitVec 32) (v565 : IVec S16 32) : Prop :=
  (∀ (k0_h10 : k0_cond10 v431 = 1#1), ∀ a x, ((![v565] : Fin 1 → IVec S16 32) a x).toNat < S4096.size a)
theorem k0_idx535_inb : ∀ (v431 : BitVec 32) (v565 : IVec S16 32) (k0_hw540 : k0_chk540 v431 v565), ∀ (k0_h10 : k0_cond10 v431 = 1#1), ∀ a x, ((![v565] : Fin 1 → IVec S16 32) a x).toNat < S4096.size a := fun v431 v565 k0_hw540 k0_h10 => k0_hw540 k0_h10

def k0_chk541 (v431 : BitVec 32) (v568 : IVec S16 32) : Prop :=
  (∀ (k0_h10 : k0_cond10 v431 = 1#1), ∀ a x, ((![v568] : Fin 1 → IVec S16 32) a x).toNat < S43520.size a)
theorem k0_idx536_inb : ∀ (v431 : BitVec 32) (v568 : IVec S16 32) (k0_hw541 : k0_chk541 v431 v568), ∀ (k0_h10 : k0_cond10 v431 = 1#1), ∀ a x, ((![v568] : Fin 1 → IVec S16 32) a x).toNat < S43520.size a := fun v431 v568 k0_hw541 k0_h10 => k0_hw541 k0_h10

def k0_chk542 (v431 : BitVec 32) (v571 : IVec S16 32) : Prop :=
  (∀ (k0_h10 : k0_cond10 v431 = 1#1), ∀ a x, ((![v571] : Fin 1 → IVec S16 32) a x).toNat < S4096.size a)
theorem k0_idx537_inb : ∀ (v431 : BitVec 32) (v571 : IVec S16 32) (k0_hw542 : k0_chk542 v431 v571), ∀ (k0_h10 : k0_cond10 v431 = 1#1), ∀ a x, ((![v571] : Fin 1 → IVec S16 32) a x).toNat < S4096.size a := fun v431 v571 k0_hw542 k0_h10 => k0_hw542 k0_h10

def k0_chk543 (v431 : BitVec 32) (v574 : IVec S16 32) : Prop :=
  (∀ (k0_h10 : k0_cond10 v431 = 1#1), ∀ a x, ((![v574] : Fin 1 → IVec S16 32) a x).toNat < S43520.size a)
theorem k0_idx538_inb : ∀ (v431 : BitVec 32) (v574 : IVec S16 32) (k0_hw543 : k0_chk543 v431 v574), ∀ (k0_h10 : k0_cond10 v431 = 1#1), ∀ a x, ((![v574] : Fin 1 → IVec S16 32) a x).toNat < S43520.size a := fun v431 v574 k0_hw543 k0_h10 => k0_hw543 k0_h10

def k0_chk544 (v431 : BitVec 32) (v577 : IVec S16 32) : Prop :=
  (∀ (k0_h10 : k0_cond10 v431 = 1#1), ∀ a x, ((![v577] : Fin 1 → IVec S16 32) a x).toNat < S4096.size a)
theorem k0_idx539_inb : ∀ (v431 : BitVec 32) (v577 : IVec S16 32) (k0_hw544 : k0_chk544 v431 v577), ∀ (k0_h10 : k0_cond10 v431 = 1#1), ∀ a x, ((![v577] : Fin 1 → IVec S16 32) a x).toNat < S4096.size a := fun v431 v577 k0_hw544 k0_h10 => k0_hw544 k0_h10

def k0_chk545 (v431 : BitVec 32) (v580 : IVec S16 32) : Prop :=
  (∀ (k0_h10 : k0_cond10 v431 = 1#1), ∀ a x, ((![v580] : Fin 1 → IVec S16 32) a x).toNat < S43520.size a)
theorem k0_idx540_inb : ∀ (v431 : BitVec 32) (v580 : IVec S16 32) (k0_hw545 : k0_chk545 v431 v580), ∀ (k0_h10 : k0_cond10 v431 = 1#1), ∀ a x, ((![v580] : Fin 1 → IVec S16 32) a x).toNat < S43520.size a := fun v431 v580 k0_hw545 k0_h10 => k0_hw545 k0_h10

def k0_chk546 (v431 : BitVec 32) (v583 : IVec S16 32) : Prop :=
  (∀ (k0_h10 : k0_cond10 v431 = 1#1), ∀ a x, ((![v583] : Fin 1 → IVec S16 32) a x).toNat < S4096.size a)
theorem k0_idx541_inb : ∀ (v431 : BitVec 32) (v583 : IVec S16 32) (k0_hw546 : k0_chk546 v431 v583), ∀ (k0_h10 : k0_cond10 v431 = 1#1), ∀ a x, ((![v583] : Fin 1 → IVec S16 32) a x).toNat < S4096.size a := fun v431 v583 k0_hw546 k0_h10 => k0_hw546 k0_h10

def k0_chk547 (v431 : BitVec 32) (v586 : IVec S16 32) : Prop :=
  (∀ (k0_h10 : k0_cond10 v431 = 1#1), ∀ a x, ((![v586] : Fin 1 → IVec S16 32) a x).toNat < S43520.size a)
theorem k0_idx542_inb : ∀ (v431 : BitVec 32) (v586 : IVec S16 32) (k0_hw547 : k0_chk547 v431 v586), ∀ (k0_h10 : k0_cond10 v431 = 1#1), ∀ a x, ((![v586] : Fin 1 → IVec S16 32) a x).toNat < S43520.size a := fun v431 v586 k0_hw547 k0_h10 => k0_hw547 k0_h10

def k0_chk548 (v431 : BitVec 32) (v589 : IVec S16 32) : Prop :=
  (∀ (k0_h10 : k0_cond10 v431 = 1#1), ∀ a x, ((![v589] : Fin 1 → IVec S16 32) a x).toNat < S4096.size a)
theorem k0_idx543_inb : ∀ (v431 : BitVec 32) (v589 : IVec S16 32) (k0_hw548 : k0_chk548 v431 v589), ∀ (k0_h10 : k0_cond10 v431 = 1#1), ∀ a x, ((![v589] : Fin 1 → IVec S16 32) a x).toNat < S4096.size a := fun v431 v589 k0_hw548 k0_h10 => k0_hw548 k0_h10

def k0_chk549 (v431 : BitVec 32) (v592 : IVec S16 32) : Prop :=
  (∀ (k0_h10 : k0_cond10 v431 = 1#1), ∀ a x, ((![v592] : Fin 1 → IVec S16 32) a x).toNat < S43520.size a)
theorem k0_idx544_inb : ∀ (v431 : BitVec 32) (v592 : IVec S16 32) (k0_hw549 : k0_chk549 v431 v592), ∀ (k0_h10 : k0_cond10 v431 = 1#1), ∀ a x, ((![v592] : Fin 1 → IVec S16 32) a x).toNat < S43520.size a := fun v431 v592 k0_hw549 k0_h10 => k0_hw549 k0_h10

def k0_chk550 (v431 : BitVec 32) (v595 : IVec S16 32) : Prop :=
  (∀ (k0_h10 : k0_cond10 v431 = 1#1), ∀ a x, ((![v595] : Fin 1 → IVec S16 32) a x).toNat < S4096.size a)
theorem k0_idx545_inb : ∀ (v431 : BitVec 32) (v595 : IVec S16 32) (k0_hw550 : k0_chk550 v431 v595), ∀ (k0_h10 : k0_cond10 v431 = 1#1), ∀ a x, ((![v595] : Fin 1 → IVec S16 32) a x).toNat < S4096.size a := fun v431 v595 k0_hw550 k0_h10 => k0_hw550 k0_h10

def k0_chk551 (v431 : BitVec 32) (v598 : IVec S16 32) : Prop :=
  (∀ (k0_h10 : k0_cond10 v431 = 1#1), ∀ a x, ((![v598] : Fin 1 → IVec S16 32) a x).toNat < S43520.size a)
theorem k0_idx546_inb : ∀ (v431 : BitVec 32) (v598 : IVec S16 32) (k0_hw551 : k0_chk551 v431 v598), ∀ (k0_h10 : k0_cond10 v431 = 1#1), ∀ a x, ((![v598] : Fin 1 → IVec S16 32) a x).toNat < S43520.size a := fun v431 v598 k0_hw551 k0_h10 => k0_hw551 k0_h10

def k0_chk552 (v431 : BitVec 32) (v601 : IVec S16 32) : Prop :=
  (∀ (k0_h10 : k0_cond10 v431 = 1#1), ∀ a x, ((![v601] : Fin 1 → IVec S16 32) a x).toNat < S4096.size a)
theorem k0_idx547_inb : ∀ (v431 : BitVec 32) (v601 : IVec S16 32) (k0_hw552 : k0_chk552 v431 v601), ∀ (k0_h10 : k0_cond10 v431 = 1#1), ∀ a x, ((![v601] : Fin 1 → IVec S16 32) a x).toNat < S4096.size a := fun v431 v601 k0_hw552 k0_h10 => k0_hw552 k0_h10

def k0_chk553 (v431 : BitVec 32) (v604 : IVec S16 32) : Prop :=
  (∀ (k0_h10 : k0_cond10 v431 = 1#1), ∀ a x, ((![v604] : Fin 1 → IVec S16 32) a x).toNat < S43520.size a)
theorem k0_idx548_inb : ∀ (v431 : BitVec 32) (v604 : IVec S16 32) (k0_hw553 : k0_chk553 v431 v604), ∀ (k0_h10 : k0_cond10 v431 = 1#1), ∀ a x, ((![v604] : Fin 1 → IVec S16 32) a x).toNat < S43520.size a := fun v431 v604 k0_hw553 k0_h10 => k0_hw553 k0_h10

def k0_chk554 (v431 : BitVec 32) (v607 : IVec S16 32) : Prop :=
  (∀ (k0_h10 : k0_cond10 v431 = 1#1), ∀ a x, ((![v607] : Fin 1 → IVec S16 32) a x).toNat < S4096.size a)
theorem k0_idx549_inb : ∀ (v431 : BitVec 32) (v607 : IVec S16 32) (k0_hw554 : k0_chk554 v431 v607), ∀ (k0_h10 : k0_cond10 v431 = 1#1), ∀ a x, ((![v607] : Fin 1 → IVec S16 32) a x).toNat < S4096.size a := fun v431 v607 k0_hw554 k0_h10 => k0_hw554 k0_h10

def k0_chk555 (v431 : BitVec 32) (v610 : IVec S16 32) : Prop :=
  (∀ (k0_h10 : k0_cond10 v431 = 1#1), ∀ a x, ((![v610] : Fin 1 → IVec S16 32) a x).toNat < S43520.size a)
theorem k0_idx550_inb : ∀ (v431 : BitVec 32) (v610 : IVec S16 32) (k0_hw555 : k0_chk555 v431 v610), ∀ (k0_h10 : k0_cond10 v431 = 1#1), ∀ a x, ((![v610] : Fin 1 → IVec S16 32) a x).toNat < S43520.size a := fun v431 v610 k0_hw555 k0_h10 => k0_hw555 k0_h10

def k0_chk556 (v431 : BitVec 32) (v613 : IVec S16 32) : Prop :=
  (∀ (k0_h10 : k0_cond10 v431 = 1#1), ∀ a x, ((![v613] : Fin 1 → IVec S16 32) a x).toNat < S4096.size a)
theorem k0_idx551_inb : ∀ (v431 : BitVec 32) (v613 : IVec S16 32) (k0_hw556 : k0_chk556 v431 v613), ∀ (k0_h10 : k0_cond10 v431 = 1#1), ∀ a x, ((![v613] : Fin 1 → IVec S16 32) a x).toNat < S4096.size a := fun v431 v613 k0_hw556 k0_h10 => k0_hw556 k0_h10

def k0_chk557 (v431 : BitVec 32) (v616 : IVec S16 32) : Prop :=
  (∀ (k0_h10 : k0_cond10 v431 = 1#1), ∀ a x, ((![v616] : Fin 1 → IVec S16 32) a x).toNat < S43520.size a)
theorem k0_idx552_inb : ∀ (v431 : BitVec 32) (v616 : IVec S16 32) (k0_hw557 : k0_chk557 v431 v616), ∀ (k0_h10 : k0_cond10 v431 = 1#1), ∀ a x, ((![v616] : Fin 1 → IVec S16 32) a x).toNat < S43520.size a := fun v431 v616 k0_hw557 k0_h10 => k0_hw557 k0_h10

def k0_chk558 (v431 : BitVec 32) (v619 : IVec S16 32) : Prop :=
  (∀ (k0_h10 : k0_cond10 v431 = 1#1), ∀ a x, ((![v619] : Fin 1 → IVec S16 32) a x).toNat < S4096.size a)
theorem k0_idx553_inb : ∀ (v431 : BitVec 32) (v619 : IVec S16 32) (k0_hw558 : k0_chk558 v431 v619), ∀ (k0_h10 : k0_cond10 v431 = 1#1), ∀ a x, ((![v619] : Fin 1 → IVec S16 32) a x).toNat < S4096.size a := fun v431 v619 k0_hw558 k0_h10 => k0_hw558 k0_h10

def k0_chk559 (v431 : BitVec 32) (v622 : IVec S16 32) : Prop :=
  (∀ (k0_h10 : k0_cond10 v431 = 1#1), ∀ a x, ((![v622] : Fin 1 → IVec S16 32) a x).toNat < S43520.size a)
theorem k0_idx554_inb : ∀ (v431 : BitVec 32) (v622 : IVec S16 32) (k0_hw559 : k0_chk559 v431 v622), ∀ (k0_h10 : k0_cond10 v431 = 1#1), ∀ a x, ((![v622] : Fin 1 → IVec S16 32) a x).toNat < S43520.size a := fun v431 v622 k0_hw559 k0_h10 => k0_hw559 k0_h10

def k0_chk560 (v431 : BitVec 32) (v625 : IVec S16 32) : Prop :=
  (∀ (k0_h10 : k0_cond10 v431 = 1#1), ∀ a x, ((![v625] : Fin 1 → IVec S16 32) a x).toNat < S4096.size a)
theorem k0_idx555_inb : ∀ (v431 : BitVec 32) (v625 : IVec S16 32) (k0_hw560 : k0_chk560 v431 v625), ∀ (k0_h10 : k0_cond10 v431 = 1#1), ∀ a x, ((![v625] : Fin 1 → IVec S16 32) a x).toNat < S4096.size a := fun v431 v625 k0_hw560 k0_h10 => k0_hw560 k0_h10

def k0_chk561 (v297 : IVec S16 32) : Prop :=
  (∀ a x, ((![v297] : Fin 1 → IVec S16 32) a x).toNat < S512.size a)
theorem k0_idx556_inb : ∀ (v297 : IVec S16 32) (k0_hw561 : k0_chk561 v297), ∀ a x, ((![v297] : Fin 1 → IVec S16 32) a x).toNat < S512.size a := fun v297 k0_hw561 => k0_hw561
@[reducible] def k0_t13_loop (v306 : BitVec 32) : Scf.Loop 32 :=
  let c0_i32_125 : BitVec 32 := 0#32
  let v307 : BitVec 32 := Scalar.subi v306 c0_i32_125
  let c1_i32_126 : BitVec 32 := 1#32
  let v309 : BitVec 32 := Scalar.divsi v307 c1_i32_126
  let v310 : BitVec 32 := Scalar.muli v309 c1_i32_126
  let v311 : BitVec 32 := Scalar.addi c0_i32_125 v310
  let c1_i32_127 : BitVec 32 := 1#32
  ⟨c0_i32_125, v311, c1_i32_127⟩

def k0_chk563 (v391 : IVec S16 32) : Prop :=
  (∀ a x, ((![v391] : Fin 1 → IVec S16 32) a x).toNat < S14336.size a)
theorem k0_idx557_inb : ∀ (v391 : IVec S16 32) (k0_hw563 : k0_chk563 v391), ∀ a x, ((![v391] : Fin 1 → IVec S16 32) a x).toNat < S14336.size a := fun v391 k0_hw563 => k0_hw563

def k0_chk564 (v399 : IVec S16 32) : Prop :=
  (∀ a x, ((![v399] : Fin 1 → IVec S16 32) a x).toNat < S1280.size a)
theorem k0_idx558_inb : ∀ (v399 : IVec S16 32) (k0_hw564 : k0_chk564 v399), ∀ a x, ((![v399] : Fin 1 → IVec S16 32) a x).toNat < S1280.size a := fun v399 k0_hw564 => k0_hw564
def k0_cond11 (v431 : BitVec 32) : BitVec 1 :=
  let c0_i32_170 : BitVec 32 := 0#32
  let v432 : BitVec 1 := Scalar.cmpi .sgt v431 c0_i32_170
  let v433 : BitVec 32 := Scalar.extui v432
  let c0_i32_171 : BitVec 32 := 0#32
  let v434 : BitVec 1 := Scalar.cmpi .ne v433 c0_i32_171
  v434

def k0_chk565 (v431 : BitVec 32) (v436 : IVec S16 32) : Prop :=
  (∀ (k0_h11 : k0_cond11 v431 = 1#1), ∀ a x, ((![v436] : Fin 1 → IVec S16 32) a x).toNat < S43520.size a)
theorem k0_idx559_inb : ∀ (v431 : BitVec 32) (v436 : IVec S16 32) (k0_hw565 : k0_chk565 v431 v436), ∀ (k0_h11 : k0_cond11 v431 = 1#1), ∀ a x, ((![v436] : Fin 1 → IVec S16 32) a x).toNat < S43520.size a := fun v431 v436 k0_hw565 k0_h11 => k0_hw565 k0_h11

def k0_chk566 (v431 : BitVec 32) (v439 : IVec S16 32) : Prop :=
  (∀ (k0_h11 : k0_cond11 v431 = 1#1), ∀ a x, ((![v439] : Fin 1 → IVec S16 32) a x).toNat < S43520.size a)
theorem k0_idx560_inb : ∀ (v431 : BitVec 32) (v439 : IVec S16 32) (k0_hw566 : k0_chk566 v431 v439), ∀ (k0_h11 : k0_cond11 v431 = 1#1), ∀ a x, ((![v439] : Fin 1 → IVec S16 32) a x).toNat < S43520.size a := fun v431 v439 k0_hw566 k0_h11 => k0_hw566 k0_h11

def k0_chk567 (v431 : BitVec 32) (v442 : IVec S16 32) : Prop :=
  (∀ (k0_h11 : k0_cond11 v431 = 1#1), ∀ a x, ((![v442] : Fin 1 → IVec S16 32) a x).toNat < S43520.size a)
theorem k0_idx561_inb : ∀ (v431 : BitVec 32) (v442 : IVec S16 32) (k0_hw567 : k0_chk567 v431 v442), ∀ (k0_h11 : k0_cond11 v431 = 1#1), ∀ a x, ((![v442] : Fin 1 → IVec S16 32) a x).toNat < S43520.size a := fun v431 v442 k0_hw567 k0_h11 => k0_hw567 k0_h11

def k0_chk568 (v431 : BitVec 32) (v445 : IVec S16 32) : Prop :=
  (∀ (k0_h11 : k0_cond11 v431 = 1#1), ∀ a x, ((![v445] : Fin 1 → IVec S16 32) a x).toNat < S43520.size a)
theorem k0_idx562_inb : ∀ (v431 : BitVec 32) (v445 : IVec S16 32) (k0_hw568 : k0_chk568 v431 v445), ∀ (k0_h11 : k0_cond11 v431 = 1#1), ∀ a x, ((![v445] : Fin 1 → IVec S16 32) a x).toNat < S43520.size a := fun v431 v445 k0_hw568 k0_h11 => k0_hw568 k0_h11

def k0_chk569 (v431 : BitVec 32) (v448 : IVec S16 32) : Prop :=
  (∀ (k0_h11 : k0_cond11 v431 = 1#1), ∀ a x, ((![v448] : Fin 1 → IVec S16 32) a x).toNat < S43520.size a)
theorem k0_idx563_inb : ∀ (v431 : BitVec 32) (v448 : IVec S16 32) (k0_hw569 : k0_chk569 v431 v448), ∀ (k0_h11 : k0_cond11 v431 = 1#1), ∀ a x, ((![v448] : Fin 1 → IVec S16 32) a x).toNat < S43520.size a := fun v431 v448 k0_hw569 k0_h11 => k0_hw569 k0_h11

def k0_chk570 (v431 : BitVec 32) (v451 : IVec S16 32) : Prop :=
  (∀ (k0_h11 : k0_cond11 v431 = 1#1), ∀ a x, ((![v451] : Fin 1 → IVec S16 32) a x).toNat < S43520.size a)
theorem k0_idx564_inb : ∀ (v431 : BitVec 32) (v451 : IVec S16 32) (k0_hw570 : k0_chk570 v431 v451), ∀ (k0_h11 : k0_cond11 v431 = 1#1), ∀ a x, ((![v451] : Fin 1 → IVec S16 32) a x).toNat < S43520.size a := fun v431 v451 k0_hw570 k0_h11 => k0_hw570 k0_h11

def k0_chk571 (v431 : BitVec 32) (v454 : IVec S16 32) : Prop :=
  (∀ (k0_h11 : k0_cond11 v431 = 1#1), ∀ a x, ((![v454] : Fin 1 → IVec S16 32) a x).toNat < S43520.size a)
theorem k0_idx565_inb : ∀ (v431 : BitVec 32) (v454 : IVec S16 32) (k0_hw571 : k0_chk571 v431 v454), ∀ (k0_h11 : k0_cond11 v431 = 1#1), ∀ a x, ((![v454] : Fin 1 → IVec S16 32) a x).toNat < S43520.size a := fun v431 v454 k0_hw571 k0_h11 => k0_hw571 k0_h11

def k0_chk572 (v431 : BitVec 32) (v457 : IVec S16 32) : Prop :=
  (∀ (k0_h11 : k0_cond11 v431 = 1#1), ∀ a x, ((![v457] : Fin 1 → IVec S16 32) a x).toNat < S43520.size a)
theorem k0_idx566_inb : ∀ (v431 : BitVec 32) (v457 : IVec S16 32) (k0_hw572 : k0_chk572 v431 v457), ∀ (k0_h11 : k0_cond11 v431 = 1#1), ∀ a x, ((![v457] : Fin 1 → IVec S16 32) a x).toNat < S43520.size a := fun v431 v457 k0_hw572 k0_h11 => k0_hw572 k0_h11

def k0_chk573 (v431 : BitVec 32) (v460 : IVec S16 32) : Prop :=
  (∀ (k0_h11 : k0_cond11 v431 = 1#1), ∀ a x, ((![v460] : Fin 1 → IVec S16 32) a x).toNat < S43520.size a)
theorem k0_idx567_inb : ∀ (v431 : BitVec 32) (v460 : IVec S16 32) (k0_hw573 : k0_chk573 v431 v460), ∀ (k0_h11 : k0_cond11 v431 = 1#1), ∀ a x, ((![v460] : Fin 1 → IVec S16 32) a x).toNat < S43520.size a := fun v431 v460 k0_hw573 k0_h11 => k0_hw573 k0_h11

def k0_chk574 (v431 : BitVec 32) (v463 : IVec S16 32) : Prop :=
  (∀ (k0_h11 : k0_cond11 v431 = 1#1), ∀ a x, ((![v463] : Fin 1 → IVec S16 32) a x).toNat < S43520.size a)
theorem k0_idx568_inb : ∀ (v431 : BitVec 32) (v463 : IVec S16 32) (k0_hw574 : k0_chk574 v431 v463), ∀ (k0_h11 : k0_cond11 v431 = 1#1), ∀ a x, ((![v463] : Fin 1 → IVec S16 32) a x).toNat < S43520.size a := fun v431 v463 k0_hw574 k0_h11 => k0_hw574 k0_h11

def k0_chk575 (v431 : BitVec 32) (v466 : IVec S16 32) : Prop :=
  (∀ (k0_h11 : k0_cond11 v431 = 1#1), ∀ a x, ((![v466] : Fin 1 → IVec S16 32) a x).toNat < S43520.size a)
theorem k0_idx569_inb : ∀ (v431 : BitVec 32) (v466 : IVec S16 32) (k0_hw575 : k0_chk575 v431 v466), ∀ (k0_h11 : k0_cond11 v431 = 1#1), ∀ a x, ((![v466] : Fin 1 → IVec S16 32) a x).toNat < S43520.size a := fun v431 v466 k0_hw575 k0_h11 => k0_hw575 k0_h11

def k0_chk576 (v431 : BitVec 32) (v477 : IVec S16 32) : Prop :=
  (∀ (k0_h11 : k0_cond11 v431 = 1#1), ∀ a x, ((![v477] : Fin 1 → IVec S16 32) a x).toNat < S43520.size a)
theorem k0_idx570_inb : ∀ (v431 : BitVec 32) (v477 : IVec S16 32) (k0_hw576 : k0_chk576 v431 v477), ∀ (k0_h11 : k0_cond11 v431 = 1#1), ∀ a x, ((![v477] : Fin 1 → IVec S16 32) a x).toNat < S43520.size a := fun v431 v477 k0_hw576 k0_h11 => k0_hw576 k0_h11

def k0_chk577 (v431 : BitVec 32) (v480 : IVec S16 32) : Prop :=
  (∀ (k0_h11 : k0_cond11 v431 = 1#1), ∀ a x, ((![v480] : Fin 1 → IVec S16 32) a x).toNat < S43520.size a)
theorem k0_idx571_inb : ∀ (v431 : BitVec 32) (v480 : IVec S16 32) (k0_hw577 : k0_chk577 v431 v480), ∀ (k0_h11 : k0_cond11 v431 = 1#1), ∀ a x, ((![v480] : Fin 1 → IVec S16 32) a x).toNat < S43520.size a := fun v431 v480 k0_hw577 k0_h11 => k0_hw577 k0_h11

def k0_chk578 (v431 : BitVec 32) (v492 : IVec S16 32) : Prop :=
  (∀ (k0_h11 : k0_cond11 v431 = 1#1), ∀ a x, ((![v492] : Fin 1 → IVec S16 32) a x).toNat < S43520.size a)
theorem k0_idx572_inb : ∀ (v431 : BitVec 32) (v492 : IVec S16 32) (k0_hw578 : k0_chk578 v431 v492), ∀ (k0_h11 : k0_cond11 v431 = 1#1), ∀ a x, ((![v492] : Fin 1 → IVec S16 32) a x).toNat < S43520.size a := fun v431 v492 k0_hw578 k0_h11 => k0_hw578 k0_h11

def k0_chk579 (v431 : BitVec 32) (v495 : IVec S16 32) : Prop :=
  (∀ (k0_h11 : k0_cond11 v431 = 1#1), ∀ a x, ((![v495] : Fin 1 → IVec S16 32) a x).toNat < S43520.size a)
theorem k0_idx573_inb : ∀ (v431 : BitVec 32) (v495 : IVec S16 32) (k0_hw579 : k0_chk579 v431 v495), ∀ (k0_h11 : k0_cond11 v431 = 1#1), ∀ a x, ((![v495] : Fin 1 → IVec S16 32) a x).toNat < S43520.size a := fun v431 v495 k0_hw579 k0_h11 => k0_hw579 k0_h11

def k0_chk580 (v431 : BitVec 32) (v507 : IVec S16 32) : Prop :=
  (∀ (k0_h11 : k0_cond11 v431 = 1#1), ∀ a x, ((![v507] : Fin 1 → IVec S16 32) a x).toNat < S43520.size a)
theorem k0_idx574_inb : ∀ (v431 : BitVec 32) (v507 : IVec S16 32) (k0_hw580 : k0_chk580 v431 v507), ∀ (k0_h11 : k0_cond11 v431 = 1#1), ∀ a x, ((![v507] : Fin 1 → IVec S16 32) a x).toNat < S43520.size a := fun v431 v507 k0_hw580 k0_h11 => k0_hw580 k0_h11

def k0_chk581 (v431 : BitVec 32) (v518 : IVec S16 32) : Prop :=
  (∀ (k0_h11 : k0_cond11 v431 = 1#1), ∀ a x, ((![v518] : Fin 1 → IVec S16 32) a x).toNat < S4096.size a)
theorem k0_idx575_inb : ∀ (v431 : BitVec 32) (v518 : IVec S16 32) (k0_hw581 : k0_chk581 v431 v518), ∀ (k0_h11 : k0_cond11 v431 = 1#1), ∀ a x, ((![v518] : Fin 1 → IVec S16 32) a x).toNat < S4096.size a := fun v431 v518 k0_hw581 k0_h11 => k0_hw581 k0_h11

def k0_chk582 (v431 : BitVec 32) (v520 : IVec S16 32) : Prop :=
  (∀ (k0_h11 : k0_cond11 v431 = 1#1), ∀ a x, ((![v520] : Fin 1 → IVec S16 32) a x).toNat < S43520.size a)
theorem k0_idx576_inb : ∀ (v431 : BitVec 32) (v520 : IVec S16 32) (k0_hw582 : k0_chk582 v431 v520), ∀ (k0_h11 : k0_cond11 v431 = 1#1), ∀ a x, ((![v520] : Fin 1 → IVec S16 32) a x).toNat < S43520.size a := fun v431 v520 k0_hw582 k0_h11 => k0_hw582 k0_h11

def k0_chk583 (v431 : BitVec 32) (v523 : IVec S16 32) : Prop :=
  (∀ (k0_h11 : k0_cond11 v431 = 1#1), ∀ a x, ((![v523] : Fin 1 → IVec S16 32) a x).toNat < S4096.size a)
theorem k0_idx577_inb : ∀ (v431 : BitVec 32) (v523 : IVec S16 32) (k0_hw583 : k0_chk583 v431 v523), ∀ (k0_h11 : k0_cond11 v431 = 1#1), ∀ a x, ((![v523] : Fin 1 → IVec S16 32) a x).toNat < S4096.size a := fun v431 v523 k0_hw583 k0_h11 => k0_hw583 k0_h11

def k0_chk584 (v431 : BitVec 32) (v526 : IVec S16 32) : Prop :=
  (∀ (k0_h11 : k0_cond11 v431 = 1#1), ∀ a x, ((![v526] : Fin 1 → IVec S16 32) a x).toNat < S43520.size a)
theorem k0_idx578_inb : ∀ (v431 : BitVec 32) (v526 : IVec S16 32) (k0_hw584 : k0_chk584 v431 v526), ∀ (k0_h11 : k0_cond11 v431 = 1#1), ∀ a x, ((![v526] : Fin 1 → IVec S16 32) a x).toNat < S43520.size a := fun v431 v526 k0_hw584 k0_h11 => k0_hw584 k0_h11

def k0_chk585 (v431 : BitVec 32) (v529 : IVec S16 32) : Prop :=
  (∀ (k0_h11 : k0_cond11 v431 = 1#1), ∀ a x, ((![v529] : Fin 1 → IVec S16 32) a x).toNat < S4096.size a)
theorem k0_idx579_inb : ∀ (v431 : BitVec 32) (v529 : IVec S16 32) (k0_hw585 : k0_chk585 v431 v529), ∀ (k0_h11 : k0_cond11 v431 = 1#1), ∀ a x, ((![v529] : Fin 1 → IVec S16 32) a x).toNat < S4096.size a := fun v431 v529 k0_hw585 k0_h11 => k0_hw585 k0_h11

def k0_chk586 (v431 : BitVec 32) (v532 : IVec S16 32) : Prop :=
  (∀ (k0_h11 : k0_cond11 v431 = 1#1), ∀ a x, ((![v532] : Fin 1 → IVec S16 32) a x).toNat < S43520.size a)
theorem k0_idx580_inb : ∀ (v431 : BitVec 32) (v532 : IVec S16 32) (k0_hw586 : k0_chk586 v431 v532), ∀ (k0_h11 : k0_cond11 v431 = 1#1), ∀ a x, ((![v532] : Fin 1 → IVec S16 32) a x).toNat < S43520.size a := fun v431 v532 k0_hw586 k0_h11 => k0_hw586 k0_h11

def k0_chk587 (v431 : BitVec 32) (v535 : IVec S16 32) : Prop :=
  (∀ (k0_h11 : k0_cond11 v431 = 1#1), ∀ a x, ((![v535] : Fin 1 → IVec S16 32) a x).toNat < S4096.size a)
theorem k0_idx581_inb : ∀ (v431 : BitVec 32) (v535 : IVec S16 32) (k0_hw587 : k0_chk587 v431 v535), ∀ (k0_h11 : k0_cond11 v431 = 1#1), ∀ a x, ((![v535] : Fin 1 → IVec S16 32) a x).toNat < S4096.size a := fun v431 v535 k0_hw587 k0_h11 => k0_hw587 k0_h11

def k0_chk588 (v431 : BitVec 32) (v538 : IVec S16 32) : Prop :=
  (∀ (k0_h11 : k0_cond11 v431 = 1#1), ∀ a x, ((![v538] : Fin 1 → IVec S16 32) a x).toNat < S43520.size a)
theorem k0_idx582_inb : ∀ (v431 : BitVec 32) (v538 : IVec S16 32) (k0_hw588 : k0_chk588 v431 v538), ∀ (k0_h11 : k0_cond11 v431 = 1#1), ∀ a x, ((![v538] : Fin 1 → IVec S16 32) a x).toNat < S43520.size a := fun v431 v538 k0_hw588 k0_h11 => k0_hw588 k0_h11

def k0_chk589 (v431 : BitVec 32) (v541 : IVec S16 32) : Prop :=
  (∀ (k0_h11 : k0_cond11 v431 = 1#1), ∀ a x, ((![v541] : Fin 1 → IVec S16 32) a x).toNat < S4096.size a)
theorem k0_idx583_inb : ∀ (v431 : BitVec 32) (v541 : IVec S16 32) (k0_hw589 : k0_chk589 v431 v541), ∀ (k0_h11 : k0_cond11 v431 = 1#1), ∀ a x, ((![v541] : Fin 1 → IVec S16 32) a x).toNat < S4096.size a := fun v431 v541 k0_hw589 k0_h11 => k0_hw589 k0_h11

def k0_chk590 (v431 : BitVec 32) (v544 : IVec S16 32) : Prop :=
  (∀ (k0_h11 : k0_cond11 v431 = 1#1), ∀ a x, ((![v544] : Fin 1 → IVec S16 32) a x).toNat < S43520.size a)
theorem k0_idx584_inb : ∀ (v431 : BitVec 32) (v544 : IVec S16 32) (k0_hw590 : k0_chk590 v431 v544), ∀ (k0_h11 : k0_cond11 v431 = 1#1), ∀ a x, ((![v544] : Fin 1 → IVec S16 32) a x).toNat < S43520.size a := fun v431 v544 k0_hw590 k0_h11 => k0_hw590 k0_h11

def k0_chk591 (v431 : BitVec 32) (v547 : IVec S16 32) : Prop :=
  (∀ (k0_h11 : k0_cond11 v431 = 1#1), ∀ a x, ((![v547] : Fin 1 → IVec S16 32) a x).toNat < S4096.size a)
theorem k0_idx585_inb : ∀ (v431 : BitVec 32) (v547 : IVec S16 32) (k0_hw591 : k0_chk591 v431 v547), ∀ (k0_h11 : k0_cond11 v431 = 1#1), ∀ a x, ((![v547] : Fin 1 → IVec S16 32) a x).toNat < S4096.size a := fun v431 v547 k0_hw591 k0_h11 => k0_hw591 k0_h11

def k0_chk592 (v431 : BitVec 32) (v550 : IVec S16 32) : Prop :=
  (∀ (k0_h11 : k0_cond11 v431 = 1#1), ∀ a x, ((![v550] : Fin 1 → IVec S16 32) a x).toNat < S43520.size a)
theorem k0_idx586_inb : ∀ (v431 : BitVec 32) (v550 : IVec S16 32) (k0_hw592 : k0_chk592 v431 v550), ∀ (k0_h11 : k0_cond11 v431 = 1#1), ∀ a x, ((![v550] : Fin 1 → IVec S16 32) a x).toNat < S43520.size a := fun v431 v550 k0_hw592 k0_h11 => k0_hw592 k0_h11

def k0_chk593 (v431 : BitVec 32) (v553 : IVec S16 32) : Prop :=
  (∀ (k0_h11 : k0_cond11 v431 = 1#1), ∀ a x, ((![v553] : Fin 1 → IVec S16 32) a x).toNat < S4096.size a)
theorem k0_idx587_inb : ∀ (v431 : BitVec 32) (v553 : IVec S16 32) (k0_hw593 : k0_chk593 v431 v553), ∀ (k0_h11 : k0_cond11 v431 = 1#1), ∀ a x, ((![v553] : Fin 1 → IVec S16 32) a x).toNat < S4096.size a := fun v431 v553 k0_hw593 k0_h11 => k0_hw593 k0_h11

def k0_chk594 (v431 : BitVec 32) (v556 : IVec S16 32) : Prop :=
  (∀ (k0_h11 : k0_cond11 v431 = 1#1), ∀ a x, ((![v556] : Fin 1 → IVec S16 32) a x).toNat < S43520.size a)
theorem k0_idx588_inb : ∀ (v431 : BitVec 32) (v556 : IVec S16 32) (k0_hw594 : k0_chk594 v431 v556), ∀ (k0_h11 : k0_cond11 v431 = 1#1), ∀ a x, ((![v556] : Fin 1 → IVec S16 32) a x).toNat < S43520.size a := fun v431 v556 k0_hw594 k0_h11 => k0_hw594 k0_h11

def k0_chk595 (v431 : BitVec 32) (v559 : IVec S16 32) : Prop :=
  (∀ (k0_h11 : k0_cond11 v431 = 1#1), ∀ a x, ((![v559] : Fin 1 → IVec S16 32) a x).toNat < S4096.size a)
theorem k0_idx589_inb : ∀ (v431 : BitVec 32) (v559 : IVec S16 32) (k0_hw595 : k0_chk595 v431 v559), ∀ (k0_h11 : k0_cond11 v431 = 1#1), ∀ a x, ((![v559] : Fin 1 → IVec S16 32) a x).toNat < S4096.size a := fun v431 v559 k0_hw595 k0_h11 => k0_hw595 k0_h11

def k0_chk596 (v431 : BitVec 32) (v562 : IVec S16 32) : Prop :=
  (∀ (k0_h11 : k0_cond11 v431 = 1#1), ∀ a x, ((![v562] : Fin 1 → IVec S16 32) a x).toNat < S43520.size a)
theorem k0_idx590_inb : ∀ (v431 : BitVec 32) (v562 : IVec S16 32) (k0_hw596 : k0_chk596 v431 v562), ∀ (k0_h11 : k0_cond11 v431 = 1#1), ∀ a x, ((![v562] : Fin 1 → IVec S16 32) a x).toNat < S43520.size a := fun v431 v562 k0_hw596 k0_h11 => k0_hw596 k0_h11

def k0_chk597 (v431 : BitVec 32) (v565 : IVec S16 32) : Prop :=
  (∀ (k0_h11 : k0_cond11 v431 = 1#1), ∀ a x, ((![v565] : Fin 1 → IVec S16 32) a x).toNat < S4096.size a)
theorem k0_idx591_inb : ∀ (v431 : BitVec 32) (v565 : IVec S16 32) (k0_hw597 : k0_chk597 v431 v565), ∀ (k0_h11 : k0_cond11 v431 = 1#1), ∀ a x, ((![v565] : Fin 1 → IVec S16 32) a x).toNat < S4096.size a := fun v431 v565 k0_hw597 k0_h11 => k0_hw597 k0_h11

def k0_chk598 (v431 : BitVec 32) (v568 : IVec S16 32) : Prop :=
  (∀ (k0_h11 : k0_cond11 v431 = 1#1), ∀ a x, ((![v568] : Fin 1 → IVec S16 32) a x).toNat < S43520.size a)
theorem k0_idx592_inb : ∀ (v431 : BitVec 32) (v568 : IVec S16 32) (k0_hw598 : k0_chk598 v431 v568), ∀ (k0_h11 : k0_cond11 v431 = 1#1), ∀ a x, ((![v568] : Fin 1 → IVec S16 32) a x).toNat < S43520.size a := fun v431 v568 k0_hw598 k0_h11 => k0_hw598 k0_h11

def k0_chk599 (v431 : BitVec 32) (v571 : IVec S16 32) : Prop :=
  (∀ (k0_h11 : k0_cond11 v431 = 1#1), ∀ a x, ((![v571] : Fin 1 → IVec S16 32) a x).toNat < S4096.size a)
theorem k0_idx593_inb : ∀ (v431 : BitVec 32) (v571 : IVec S16 32) (k0_hw599 : k0_chk599 v431 v571), ∀ (k0_h11 : k0_cond11 v431 = 1#1), ∀ a x, ((![v571] : Fin 1 → IVec S16 32) a x).toNat < S4096.size a := fun v431 v571 k0_hw599 k0_h11 => k0_hw599 k0_h11

def k0_chk600 (v431 : BitVec 32) (v574 : IVec S16 32) : Prop :=
  (∀ (k0_h11 : k0_cond11 v431 = 1#1), ∀ a x, ((![v574] : Fin 1 → IVec S16 32) a x).toNat < S43520.size a)
theorem k0_idx594_inb : ∀ (v431 : BitVec 32) (v574 : IVec S16 32) (k0_hw600 : k0_chk600 v431 v574), ∀ (k0_h11 : k0_cond11 v431 = 1#1), ∀ a x, ((![v574] : Fin 1 → IVec S16 32) a x).toNat < S43520.size a := fun v431 v574 k0_hw600 k0_h11 => k0_hw600 k0_h11

def k0_chk601 (v431 : BitVec 32) (v577 : IVec S16 32) : Prop :=
  (∀ (k0_h11 : k0_cond11 v431 = 1#1), ∀ a x, ((![v577] : Fin 1 → IVec S16 32) a x).toNat < S4096.size a)
theorem k0_idx595_inb : ∀ (v431 : BitVec 32) (v577 : IVec S16 32) (k0_hw601 : k0_chk601 v431 v577), ∀ (k0_h11 : k0_cond11 v431 = 1#1), ∀ a x, ((![v577] : Fin 1 → IVec S16 32) a x).toNat < S4096.size a := fun v431 v577 k0_hw601 k0_h11 => k0_hw601 k0_h11

def k0_chk602 (v431 : BitVec 32) (v580 : IVec S16 32) : Prop :=
  (∀ (k0_h11 : k0_cond11 v431 = 1#1), ∀ a x, ((![v580] : Fin 1 → IVec S16 32) a x).toNat < S43520.size a)
theorem k0_idx596_inb : ∀ (v431 : BitVec 32) (v580 : IVec S16 32) (k0_hw602 : k0_chk602 v431 v580), ∀ (k0_h11 : k0_cond11 v431 = 1#1), ∀ a x, ((![v580] : Fin 1 → IVec S16 32) a x).toNat < S43520.size a := fun v431 v580 k0_hw602 k0_h11 => k0_hw602 k0_h11

def k0_chk603 (v431 : BitVec 32) (v583 : IVec S16 32) : Prop :=
  (∀ (k0_h11 : k0_cond11 v431 = 1#1), ∀ a x, ((![v583] : Fin 1 → IVec S16 32) a x).toNat < S4096.size a)
theorem k0_idx597_inb : ∀ (v431 : BitVec 32) (v583 : IVec S16 32) (k0_hw603 : k0_chk603 v431 v583), ∀ (k0_h11 : k0_cond11 v431 = 1#1), ∀ a x, ((![v583] : Fin 1 → IVec S16 32) a x).toNat < S4096.size a := fun v431 v583 k0_hw603 k0_h11 => k0_hw603 k0_h11

def k0_chk604 (v431 : BitVec 32) (v586 : IVec S16 32) : Prop :=
  (∀ (k0_h11 : k0_cond11 v431 = 1#1), ∀ a x, ((![v586] : Fin 1 → IVec S16 32) a x).toNat < S43520.size a)
theorem k0_idx598_inb : ∀ (v431 : BitVec 32) (v586 : IVec S16 32) (k0_hw604 : k0_chk604 v431 v586), ∀ (k0_h11 : k0_cond11 v431 = 1#1), ∀ a x, ((![v586] : Fin 1 → IVec S16 32) a x).toNat < S43520.size a := fun v431 v586 k0_hw604 k0_h11 => k0_hw604 k0_h11

def k0_chk605 (v431 : BitVec 32) (v589 : IVec S16 32) : Prop :=
  (∀ (k0_h11 : k0_cond11 v431 = 1#1), ∀ a x, ((![v589] : Fin 1 → IVec S16 32) a x).toNat < S4096.size a)
theorem k0_idx599_inb : ∀ (v431 : BitVec 32) (v589 : IVec S16 32) (k0_hw605 : k0_chk605 v431 v589), ∀ (k0_h11 : k0_cond11 v431 = 1#1), ∀ a x, ((![v589] : Fin 1 → IVec S16 32) a x).toNat < S4096.size a := fun v431 v589 k0_hw605 k0_h11 => k0_hw605 k0_h11

def k0_chk606 (v431 : BitVec 32) (v592 : IVec S16 32) : Prop :=
  (∀ (k0_h11 : k0_cond11 v431 = 1#1), ∀ a x, ((![v592] : Fin 1 → IVec S16 32) a x).toNat < S43520.size a)
theorem k0_idx600_inb : ∀ (v431 : BitVec 32) (v592 : IVec S16 32) (k0_hw606 : k0_chk606 v431 v592), ∀ (k0_h11 : k0_cond11 v431 = 1#1), ∀ a x, ((![v592] : Fin 1 → IVec S16 32) a x).toNat < S43520.size a := fun v431 v592 k0_hw606 k0_h11 => k0_hw606 k0_h11

def k0_chk607 (v431 : BitVec 32) (v595 : IVec S16 32) : Prop :=
  (∀ (k0_h11 : k0_cond11 v431 = 1#1), ∀ a x, ((![v595] : Fin 1 → IVec S16 32) a x).toNat < S4096.size a)
theorem k0_idx601_inb : ∀ (v431 : BitVec 32) (v595 : IVec S16 32) (k0_hw607 : k0_chk607 v431 v595), ∀ (k0_h11 : k0_cond11 v431 = 1#1), ∀ a x, ((![v595] : Fin 1 → IVec S16 32) a x).toNat < S4096.size a := fun v431 v595 k0_hw607 k0_h11 => k0_hw607 k0_h11

def k0_chk608 (v431 : BitVec 32) (v598 : IVec S16 32) : Prop :=
  (∀ (k0_h11 : k0_cond11 v431 = 1#1), ∀ a x, ((![v598] : Fin 1 → IVec S16 32) a x).toNat < S43520.size a)
theorem k0_idx602_inb : ∀ (v431 : BitVec 32) (v598 : IVec S16 32) (k0_hw608 : k0_chk608 v431 v598), ∀ (k0_h11 : k0_cond11 v431 = 1#1), ∀ a x, ((![v598] : Fin 1 → IVec S16 32) a x).toNat < S43520.size a := fun v431 v598 k0_hw608 k0_h11 => k0_hw608 k0_h11

def k0_chk609 (v431 : BitVec 32) (v601 : IVec S16 32) : Prop :=
  (∀ (k0_h11 : k0_cond11 v431 = 1#1), ∀ a x, ((![v601] : Fin 1 → IVec S16 32) a x).toNat < S4096.size a)
theorem k0_idx603_inb : ∀ (v431 : BitVec 32) (v601 : IVec S16 32) (k0_hw609 : k0_chk609 v431 v601), ∀ (k0_h11 : k0_cond11 v431 = 1#1), ∀ a x, ((![v601] : Fin 1 → IVec S16 32) a x).toNat < S4096.size a := fun v431 v601 k0_hw609 k0_h11 => k0_hw609 k0_h11

def k0_chk610 (v431 : BitVec 32) (v604 : IVec S16 32) : Prop :=
  (∀ (k0_h11 : k0_cond11 v431 = 1#1), ∀ a x, ((![v604] : Fin 1 → IVec S16 32) a x).toNat < S43520.size a)
theorem k0_idx604_inb : ∀ (v431 : BitVec 32) (v604 : IVec S16 32) (k0_hw610 : k0_chk610 v431 v604), ∀ (k0_h11 : k0_cond11 v431 = 1#1), ∀ a x, ((![v604] : Fin 1 → IVec S16 32) a x).toNat < S43520.size a := fun v431 v604 k0_hw610 k0_h11 => k0_hw610 k0_h11

def k0_chk611 (v431 : BitVec 32) (v607 : IVec S16 32) : Prop :=
  (∀ (k0_h11 : k0_cond11 v431 = 1#1), ∀ a x, ((![v607] : Fin 1 → IVec S16 32) a x).toNat < S4096.size a)
theorem k0_idx605_inb : ∀ (v431 : BitVec 32) (v607 : IVec S16 32) (k0_hw611 : k0_chk611 v431 v607), ∀ (k0_h11 : k0_cond11 v431 = 1#1), ∀ a x, ((![v607] : Fin 1 → IVec S16 32) a x).toNat < S4096.size a := fun v431 v607 k0_hw611 k0_h11 => k0_hw611 k0_h11

def k0_chk612 (v431 : BitVec 32) (v610 : IVec S16 32) : Prop :=
  (∀ (k0_h11 : k0_cond11 v431 = 1#1), ∀ a x, ((![v610] : Fin 1 → IVec S16 32) a x).toNat < S43520.size a)
theorem k0_idx606_inb : ∀ (v431 : BitVec 32) (v610 : IVec S16 32) (k0_hw612 : k0_chk612 v431 v610), ∀ (k0_h11 : k0_cond11 v431 = 1#1), ∀ a x, ((![v610] : Fin 1 → IVec S16 32) a x).toNat < S43520.size a := fun v431 v610 k0_hw612 k0_h11 => k0_hw612 k0_h11

def k0_chk613 (v431 : BitVec 32) (v613 : IVec S16 32) : Prop :=
  (∀ (k0_h11 : k0_cond11 v431 = 1#1), ∀ a x, ((![v613] : Fin 1 → IVec S16 32) a x).toNat < S4096.size a)
theorem k0_idx607_inb : ∀ (v431 : BitVec 32) (v613 : IVec S16 32) (k0_hw613 : k0_chk613 v431 v613), ∀ (k0_h11 : k0_cond11 v431 = 1#1), ∀ a x, ((![v613] : Fin 1 → IVec S16 32) a x).toNat < S4096.size a := fun v431 v613 k0_hw613 k0_h11 => k0_hw613 k0_h11

def k0_chk614 (v431 : BitVec 32) (v616 : IVec S16 32) : Prop :=
  (∀ (k0_h11 : k0_cond11 v431 = 1#1), ∀ a x, ((![v616] : Fin 1 → IVec S16 32) a x).toNat < S43520.size a)
theorem k0_idx608_inb : ∀ (v431 : BitVec 32) (v616 : IVec S16 32) (k0_hw614 : k0_chk614 v431 v616), ∀ (k0_h11 : k0_cond11 v431 = 1#1), ∀ a x, ((![v616] : Fin 1 → IVec S16 32) a x).toNat < S43520.size a := fun v431 v616 k0_hw614 k0_h11 => k0_hw614 k0_h11

def k0_chk615 (v431 : BitVec 32) (v619 : IVec S16 32) : Prop :=
  (∀ (k0_h11 : k0_cond11 v431 = 1#1), ∀ a x, ((![v619] : Fin 1 → IVec S16 32) a x).toNat < S4096.size a)
theorem k0_idx609_inb : ∀ (v431 : BitVec 32) (v619 : IVec S16 32) (k0_hw615 : k0_chk615 v431 v619), ∀ (k0_h11 : k0_cond11 v431 = 1#1), ∀ a x, ((![v619] : Fin 1 → IVec S16 32) a x).toNat < S4096.size a := fun v431 v619 k0_hw615 k0_h11 => k0_hw615 k0_h11

def k0_chk616 (v431 : BitVec 32) (v622 : IVec S16 32) : Prop :=
  (∀ (k0_h11 : k0_cond11 v431 = 1#1), ∀ a x, ((![v622] : Fin 1 → IVec S16 32) a x).toNat < S43520.size a)
theorem k0_idx610_inb : ∀ (v431 : BitVec 32) (v622 : IVec S16 32) (k0_hw616 : k0_chk616 v431 v622), ∀ (k0_h11 : k0_cond11 v431 = 1#1), ∀ a x, ((![v622] : Fin 1 → IVec S16 32) a x).toNat < S43520.size a := fun v431 v622 k0_hw616 k0_h11 => k0_hw616 k0_h11

def k0_chk617 (v431 : BitVec 32) (v625 : IVec S16 32) : Prop :=
  (∀ (k0_h11 : k0_cond11 v431 = 1#1), ∀ a x, ((![v625] : Fin 1 → IVec S16 32) a x).toNat < S4096.size a)
theorem k0_idx611_inb : ∀ (v431 : BitVec 32) (v625 : IVec S16 32) (k0_hw617 : k0_chk617 v431 v625), ∀ (k0_h11 : k0_cond11 v431 = 1#1), ∀ a x, ((![v625] : Fin 1 → IVec S16 32) a x).toNat < S4096.size a := fun v431 v625 k0_hw617 k0_h11 => k0_hw617 k0_h11
@[reducible] def k0_t14_loop (v306 : BitVec 32) : Scf.Loop 32 :=
  let c0_i32_125 : BitVec 32 := 0#32
  let v307 : BitVec 32 := Scalar.subi v306 c0_i32_125
  let c1_i32_126 : BitVec 32 := 1#32
  let v309 : BitVec 32 := Scalar.divsi v307 c1_i32_126
  let v310 : BitVec 32 := Scalar.muli v309 c1_i32_126
  let v311 : BitVec 32 := Scalar.addi c0_i32_125 v310
  let v308 : BitVec 32 := Scalar.addi c0_i32_125 v307
  let c1_i32_128 : BitVec 32 := 1#32
  ⟨v311, v308, c1_i32_128⟩

def k0_chk562 (v306 : BitVec 32) : Prop :=
  ((k0_t13_loop v306).OK) ∧
  ((k0_t14_loop v306).OK)
theorem k0_t13_ok : ∀ (v306 : BitVec 32) (k0_hw562 : k0_chk562 v306), (k0_t13_loop v306).OK := fun v306 k0_hw562 => k0_hw562.1
theorem k0_t14_ok : ∀ (v306 : BitVec 32) (k0_hw562 : k0_chk562 v306), (k0_t14_loop v306).OK := fun v306 k0_hw562 => k0_hw562.2

def k0_chk618 (v391 : IVec S16 32) : Prop :=
  (∀ a x, ((![v391] : Fin 1 → IVec S16 32) a x).toNat < S14336.size a)
theorem k0_idx612_inb : ∀ (v391 : IVec S16 32) (k0_hw618 : k0_chk618 v391), ∀ a x, ((![v391] : Fin 1 → IVec S16 32) a x).toNat < S14336.size a := fun v391 k0_hw618 => k0_hw618

def k0_chk619 (v399 : IVec S16 32) : Prop :=
  (∀ a x, ((![v399] : Fin 1 → IVec S16 32) a x).toNat < S1280.size a)
theorem k0_idx613_inb : ∀ (v399 : IVec S16 32) (k0_hw619 : k0_chk619 v399), ∀ a x, ((![v399] : Fin 1 → IVec S16 32) a x).toNat < S1280.size a := fun v399 k0_hw619 => k0_hw619
def k0_cond12 (v431 : BitVec 32) : BitVec 1 :=
  let c0_i32_170 : BitVec 32 := 0#32
  let v432 : BitVec 1 := Scalar.cmpi .sgt v431 c0_i32_170
  let v433 : BitVec 32 := Scalar.extui v432
  let c0_i32_171 : BitVec 32 := 0#32
  let v434 : BitVec 1 := Scalar.cmpi .ne v433 c0_i32_171
  v434

def k0_chk620 (v431 : BitVec 32) (v436 : IVec S16 32) : Prop :=
  (∀ (k0_h12 : k0_cond12 v431 = 1#1), ∀ a x, ((![v436] : Fin 1 → IVec S16 32) a x).toNat < S43520.size a)
theorem k0_idx614_inb : ∀ (v431 : BitVec 32) (v436 : IVec S16 32) (k0_hw620 : k0_chk620 v431 v436), ∀ (k0_h12 : k0_cond12 v431 = 1#1), ∀ a x, ((![v436] : Fin 1 → IVec S16 32) a x).toNat < S43520.size a := fun v431 v436 k0_hw620 k0_h12 => k0_hw620 k0_h12

def k0_chk621 (v431 : BitVec 32) (v439 : IVec S16 32) : Prop :=
  (∀ (k0_h12 : k0_cond12 v431 = 1#1), ∀ a x, ((![v439] : Fin 1 → IVec S16 32) a x).toNat < S43520.size a)
theorem k0_idx615_inb : ∀ (v431 : BitVec 32) (v439 : IVec S16 32) (k0_hw621 : k0_chk621 v431 v439), ∀ (k0_h12 : k0_cond12 v431 = 1#1), ∀ a x, ((![v439] : Fin 1 → IVec S16 32) a x).toNat < S43520.size a := fun v431 v439 k0_hw621 k0_h12 => k0_hw621 k0_h12

def k0_chk622 (v431 : BitVec 32) (v442 : IVec S16 32) : Prop :=
  (∀ (k0_h12 : k0_cond12 v431 = 1#1), ∀ a x, ((![v442] : Fin 1 → IVec S16 32) a x).toNat < S43520.size a)
theorem k0_idx616_inb : ∀ (v431 : BitVec 32) (v442 : IVec S16 32) (k0_hw622 : k0_chk622 v431 v442), ∀ (k0_h12 : k0_cond12 v431 = 1#1), ∀ a x, ((![v442] : Fin 1 → IVec S16 32) a x).toNat < S43520.size a := fun v431 v442 k0_hw622 k0_h12 => k0_hw622 k0_h12

def k0_chk623 (v431 : BitVec 32) (v445 : IVec S16 32) : Prop :=
  (∀ (k0_h12 : k0_cond12 v431 = 1#1), ∀ a x, ((![v445] : Fin 1 → IVec S16 32) a x).toNat < S43520.size a)
theorem k0_idx617_inb : ∀ (v431 : BitVec 32) (v445 : IVec S16 32) (k0_hw623 : k0_chk623 v431 v445), ∀ (k0_h12 : k0_cond12 v431 = 1#1), ∀ a x, ((![v445] : Fin 1 → IVec S16 32) a x).toNat < S43520.size a := fun v431 v445 k0_hw623 k0_h12 => k0_hw623 k0_h12

def k0_chk624 (v431 : BitVec 32) (v448 : IVec S16 32) : Prop :=
  (∀ (k0_h12 : k0_cond12 v431 = 1#1), ∀ a x, ((![v448] : Fin 1 → IVec S16 32) a x).toNat < S43520.size a)
theorem k0_idx618_inb : ∀ (v431 : BitVec 32) (v448 : IVec S16 32) (k0_hw624 : k0_chk624 v431 v448), ∀ (k0_h12 : k0_cond12 v431 = 1#1), ∀ a x, ((![v448] : Fin 1 → IVec S16 32) a x).toNat < S43520.size a := fun v431 v448 k0_hw624 k0_h12 => k0_hw624 k0_h12

def k0_chk625 (v431 : BitVec 32) (v451 : IVec S16 32) : Prop :=
  (∀ (k0_h12 : k0_cond12 v431 = 1#1), ∀ a x, ((![v451] : Fin 1 → IVec S16 32) a x).toNat < S43520.size a)
theorem k0_idx619_inb : ∀ (v431 : BitVec 32) (v451 : IVec S16 32) (k0_hw625 : k0_chk625 v431 v451), ∀ (k0_h12 : k0_cond12 v431 = 1#1), ∀ a x, ((![v451] : Fin 1 → IVec S16 32) a x).toNat < S43520.size a := fun v431 v451 k0_hw625 k0_h12 => k0_hw625 k0_h12

def k0_chk626 (v431 : BitVec 32) (v454 : IVec S16 32) : Prop :=
  (∀ (k0_h12 : k0_cond12 v431 = 1#1), ∀ a x, ((![v454] : Fin 1 → IVec S16 32) a x).toNat < S43520.size a)
theorem k0_idx620_inb : ∀ (v431 : BitVec 32) (v454 : IVec S16 32) (k0_hw626 : k0_chk626 v431 v454), ∀ (k0_h12 : k0_cond12 v431 = 1#1), ∀ a x, ((![v454] : Fin 1 → IVec S16 32) a x).toNat < S43520.size a := fun v431 v454 k0_hw626 k0_h12 => k0_hw626 k0_h12

def k0_chk627 (v431 : BitVec 32) (v457 : IVec S16 32) : Prop :=
  (∀ (k0_h12 : k0_cond12 v431 = 1#1), ∀ a x, ((![v457] : Fin 1 → IVec S16 32) a x).toNat < S43520.size a)
theorem k0_idx621_inb : ∀ (v431 : BitVec 32) (v457 : IVec S16 32) (k0_hw627 : k0_chk627 v431 v457), ∀ (k0_h12 : k0_cond12 v431 = 1#1), ∀ a x, ((![v457] : Fin 1 → IVec S16 32) a x).toNat < S43520.size a := fun v431 v457 k0_hw627 k0_h12 => k0_hw627 k0_h12

def k0_chk628 (v431 : BitVec 32) (v460 : IVec S16 32) : Prop :=
  (∀ (k0_h12 : k0_cond12 v431 = 1#1), ∀ a x, ((![v460] : Fin 1 → IVec S16 32) a x).toNat < S43520.size a)
theorem k0_idx622_inb : ∀ (v431 : BitVec 32) (v460 : IVec S16 32) (k0_hw628 : k0_chk628 v431 v460), ∀ (k0_h12 : k0_cond12 v431 = 1#1), ∀ a x, ((![v460] : Fin 1 → IVec S16 32) a x).toNat < S43520.size a := fun v431 v460 k0_hw628 k0_h12 => k0_hw628 k0_h12

def k0_chk629 (v431 : BitVec 32) (v463 : IVec S16 32) : Prop :=
  (∀ (k0_h12 : k0_cond12 v431 = 1#1), ∀ a x, ((![v463] : Fin 1 → IVec S16 32) a x).toNat < S43520.size a)
theorem k0_idx623_inb : ∀ (v431 : BitVec 32) (v463 : IVec S16 32) (k0_hw629 : k0_chk629 v431 v463), ∀ (k0_h12 : k0_cond12 v431 = 1#1), ∀ a x, ((![v463] : Fin 1 → IVec S16 32) a x).toNat < S43520.size a := fun v431 v463 k0_hw629 k0_h12 => k0_hw629 k0_h12

def k0_chk630 (v431 : BitVec 32) (v466 : IVec S16 32) : Prop :=
  (∀ (k0_h12 : k0_cond12 v431 = 1#1), ∀ a x, ((![v466] : Fin 1 → IVec S16 32) a x).toNat < S43520.size a)
theorem k0_idx624_inb : ∀ (v431 : BitVec 32) (v466 : IVec S16 32) (k0_hw630 : k0_chk630 v431 v466), ∀ (k0_h12 : k0_cond12 v431 = 1#1), ∀ a x, ((![v466] : Fin 1 → IVec S16 32) a x).toNat < S43520.size a := fun v431 v466 k0_hw630 k0_h12 => k0_hw630 k0_h12

def k0_chk631 (v431 : BitVec 32) (v477 : IVec S16 32) : Prop :=
  (∀ (k0_h12 : k0_cond12 v431 = 1#1), ∀ a x, ((![v477] : Fin 1 → IVec S16 32) a x).toNat < S43520.size a)
theorem k0_idx625_inb : ∀ (v431 : BitVec 32) (v477 : IVec S16 32) (k0_hw631 : k0_chk631 v431 v477), ∀ (k0_h12 : k0_cond12 v431 = 1#1), ∀ a x, ((![v477] : Fin 1 → IVec S16 32) a x).toNat < S43520.size a := fun v431 v477 k0_hw631 k0_h12 => k0_hw631 k0_h12

def k0_chk632 (v431 : BitVec 32) (v480 : IVec S16 32) : Prop :=
  (∀ (k0_h12 : k0_cond12 v431 = 1#1), ∀ a x, ((![v480] : Fin 1 → IVec S16 32) a x).toNat < S43520.size a)
theorem k0_idx626_inb : ∀ (v431 : BitVec 32) (v480 : IVec S16 32) (k0_hw632 : k0_chk632 v431 v480), ∀ (k0_h12 : k0_cond12 v431 = 1#1), ∀ a x, ((![v480] : Fin 1 → IVec S16 32) a x).toNat < S43520.size a := fun v431 v480 k0_hw632 k0_h12 => k0_hw632 k0_h12

def k0_chk633 (v431 : BitVec 32) (v492 : IVec S16 32) : Prop :=
  (∀ (k0_h12 : k0_cond12 v431 = 1#1), ∀ a x, ((![v492] : Fin 1 → IVec S16 32) a x).toNat < S43520.size a)
theorem k0_idx627_inb : ∀ (v431 : BitVec 32) (v492 : IVec S16 32) (k0_hw633 : k0_chk633 v431 v492), ∀ (k0_h12 : k0_cond12 v431 = 1#1), ∀ a x, ((![v492] : Fin 1 → IVec S16 32) a x).toNat < S43520.size a := fun v431 v492 k0_hw633 k0_h12 => k0_hw633 k0_h12

def k0_chk634 (v431 : BitVec 32) (v495 : IVec S16 32) : Prop :=
  (∀ (k0_h12 : k0_cond12 v431 = 1#1), ∀ a x, ((![v495] : Fin 1 → IVec S16 32) a x).toNat < S43520.size a)
theorem k0_idx628_inb : ∀ (v431 : BitVec 32) (v495 : IVec S16 32) (k0_hw634 : k0_chk634 v431 v495), ∀ (k0_h12 : k0_cond12 v431 = 1#1), ∀ a x, ((![v495] : Fin 1 → IVec S16 32) a x).toNat < S43520.size a := fun v431 v495 k0_hw634 k0_h12 => k0_hw634 k0_h12

def k0_chk635 (v431 : BitVec 32) (v507 : IVec S16 32) : Prop :=
  (∀ (k0_h12 : k0_cond12 v431 = 1#1), ∀ a x, ((![v507] : Fin 1 → IVec S16 32) a x).toNat < S43520.size a)
theorem k0_idx629_inb : ∀ (v431 : BitVec 32) (v507 : IVec S16 32) (k0_hw635 : k0_chk635 v431 v507), ∀ (k0_h12 : k0_cond12 v431 = 1#1), ∀ a x, ((![v507] : Fin 1 → IVec S16 32) a x).toNat < S43520.size a := fun v431 v507 k0_hw635 k0_h12 => k0_hw635 k0_h12

def k0_chk636 (v431 : BitVec 32) (v518 : IVec S16 32) : Prop :=
  (∀ (k0_h12 : k0_cond12 v431 = 1#1), ∀ a x, ((![v518] : Fin 1 → IVec S16 32) a x).toNat < S4096.size a)
theorem k0_idx630_inb : ∀ (v431 : BitVec 32) (v518 : IVec S16 32) (k0_hw636 : k0_chk636 v431 v518), ∀ (k0_h12 : k0_cond12 v431 = 1#1), ∀ a x, ((![v518] : Fin 1 → IVec S16 32) a x).toNat < S4096.size a := fun v431 v518 k0_hw636 k0_h12 => k0_hw636 k0_h12

def k0_chk637 (v431 : BitVec 32) (v520 : IVec S16 32) : Prop :=
  (∀ (k0_h12 : k0_cond12 v431 = 1#1), ∀ a x, ((![v520] : Fin 1 → IVec S16 32) a x).toNat < S43520.size a)
theorem k0_idx631_inb : ∀ (v431 : BitVec 32) (v520 : IVec S16 32) (k0_hw637 : k0_chk637 v431 v520), ∀ (k0_h12 : k0_cond12 v431 = 1#1), ∀ a x, ((![v520] : Fin 1 → IVec S16 32) a x).toNat < S43520.size a := fun v431 v520 k0_hw637 k0_h12 => k0_hw637 k0_h12

def k0_chk638 (v431 : BitVec 32) (v523 : IVec S16 32) : Prop :=
  (∀ (k0_h12 : k0_cond12 v431 = 1#1), ∀ a x, ((![v523] : Fin 1 → IVec S16 32) a x).toNat < S4096.size a)
theorem k0_idx632_inb : ∀ (v431 : BitVec 32) (v523 : IVec S16 32) (k0_hw638 : k0_chk638 v431 v523), ∀ (k0_h12 : k0_cond12 v431 = 1#1), ∀ a x, ((![v523] : Fin 1 → IVec S16 32) a x).toNat < S4096.size a := fun v431 v523 k0_hw638 k0_h12 => k0_hw638 k0_h12

def k0_chk639 (v431 : BitVec 32) (v526 : IVec S16 32) : Prop :=
  (∀ (k0_h12 : k0_cond12 v431 = 1#1), ∀ a x, ((![v526] : Fin 1 → IVec S16 32) a x).toNat < S43520.size a)
theorem k0_idx633_inb : ∀ (v431 : BitVec 32) (v526 : IVec S16 32) (k0_hw639 : k0_chk639 v431 v526), ∀ (k0_h12 : k0_cond12 v431 = 1#1), ∀ a x, ((![v526] : Fin 1 → IVec S16 32) a x).toNat < S43520.size a := fun v431 v526 k0_hw639 k0_h12 => k0_hw639 k0_h12

def k0_chk640 (v431 : BitVec 32) (v529 : IVec S16 32) : Prop :=
  (∀ (k0_h12 : k0_cond12 v431 = 1#1), ∀ a x, ((![v529] : Fin 1 → IVec S16 32) a x).toNat < S4096.size a)
theorem k0_idx634_inb : ∀ (v431 : BitVec 32) (v529 : IVec S16 32) (k0_hw640 : k0_chk640 v431 v529), ∀ (k0_h12 : k0_cond12 v431 = 1#1), ∀ a x, ((![v529] : Fin 1 → IVec S16 32) a x).toNat < S4096.size a := fun v431 v529 k0_hw640 k0_h12 => k0_hw640 k0_h12

def k0_chk641 (v431 : BitVec 32) (v532 : IVec S16 32) : Prop :=
  (∀ (k0_h12 : k0_cond12 v431 = 1#1), ∀ a x, ((![v532] : Fin 1 → IVec S16 32) a x).toNat < S43520.size a)
theorem k0_idx635_inb : ∀ (v431 : BitVec 32) (v532 : IVec S16 32) (k0_hw641 : k0_chk641 v431 v532), ∀ (k0_h12 : k0_cond12 v431 = 1#1), ∀ a x, ((![v532] : Fin 1 → IVec S16 32) a x).toNat < S43520.size a := fun v431 v532 k0_hw641 k0_h12 => k0_hw641 k0_h12

def k0_chk642 (v431 : BitVec 32) (v535 : IVec S16 32) : Prop :=
  (∀ (k0_h12 : k0_cond12 v431 = 1#1), ∀ a x, ((![v535] : Fin 1 → IVec S16 32) a x).toNat < S4096.size a)
theorem k0_idx636_inb : ∀ (v431 : BitVec 32) (v535 : IVec S16 32) (k0_hw642 : k0_chk642 v431 v535), ∀ (k0_h12 : k0_cond12 v431 = 1#1), ∀ a x, ((![v535] : Fin 1 → IVec S16 32) a x).toNat < S4096.size a := fun v431 v535 k0_hw642 k0_h12 => k0_hw642 k0_h12

def k0_chk643 (v431 : BitVec 32) (v538 : IVec S16 32) : Prop :=
  (∀ (k0_h12 : k0_cond12 v431 = 1#1), ∀ a x, ((![v538] : Fin 1 → IVec S16 32) a x).toNat < S43520.size a)
theorem k0_idx637_inb : ∀ (v431 : BitVec 32) (v538 : IVec S16 32) (k0_hw643 : k0_chk643 v431 v538), ∀ (k0_h12 : k0_cond12 v431 = 1#1), ∀ a x, ((![v538] : Fin 1 → IVec S16 32) a x).toNat < S43520.size a := fun v431 v538 k0_hw643 k0_h12 => k0_hw643 k0_h12

def k0_chk644 (v431 : BitVec 32) (v541 : IVec S16 32) : Prop :=
  (∀ (k0_h12 : k0_cond12 v431 = 1#1), ∀ a x, ((![v541] : Fin 1 → IVec S16 32) a x).toNat < S4096.size a)
theorem k0_idx638_inb : ∀ (v431 : BitVec 32) (v541 : IVec S16 32) (k0_hw644 : k0_chk644 v431 v541), ∀ (k0_h12 : k0_cond12 v431 = 1#1), ∀ a x, ((![v541] : Fin 1 → IVec S16 32) a x).toNat < S4096.size a := fun v431 v541 k0_hw644 k0_h12 => k0_hw644 k0_h12

def k0_chk645 (v431 : BitVec 32) (v544 : IVec S16 32) : Prop :=
  (∀ (k0_h12 : k0_cond12 v431 = 1#1), ∀ a x, ((![v544] : Fin 1 → IVec S16 32) a x).toNat < S43520.size a)
theorem k0_idx639_inb : ∀ (v431 : BitVec 32) (v544 : IVec S16 32) (k0_hw645 : k0_chk645 v431 v544), ∀ (k0_h12 : k0_cond12 v431 = 1#1), ∀ a x, ((![v544] : Fin 1 → IVec S16 32) a x).toNat < S43520.size a := fun v431 v544 k0_hw645 k0_h12 => k0_hw645 k0_h12

def k0_chk646 (v431 : BitVec 32) (v547 : IVec S16 32) : Prop :=
  (∀ (k0_h12 : k0_cond12 v431 = 1#1), ∀ a x, ((![v547] : Fin 1 → IVec S16 32) a x).toNat < S4096.size a)
theorem k0_idx640_inb : ∀ (v431 : BitVec 32) (v547 : IVec S16 32) (k0_hw646 : k0_chk646 v431 v547), ∀ (k0_h12 : k0_cond12 v431 = 1#1), ∀ a x, ((![v547] : Fin 1 → IVec S16 32) a x).toNat < S4096.size a := fun v431 v547 k0_hw646 k0_h12 => k0_hw646 k0_h12

def k0_chk647 (v431 : BitVec 32) (v550 : IVec S16 32) : Prop :=
  (∀ (k0_h12 : k0_cond12 v431 = 1#1), ∀ a x, ((![v550] : Fin 1 → IVec S16 32) a x).toNat < S43520.size a)
theorem k0_idx641_inb : ∀ (v431 : BitVec 32) (v550 : IVec S16 32) (k0_hw647 : k0_chk647 v431 v550), ∀ (k0_h12 : k0_cond12 v431 = 1#1), ∀ a x, ((![v550] : Fin 1 → IVec S16 32) a x).toNat < S43520.size a := fun v431 v550 k0_hw647 k0_h12 => k0_hw647 k0_h12

def k0_chk648 (v431 : BitVec 32) (v553 : IVec S16 32) : Prop :=
  (∀ (k0_h12 : k0_cond12 v431 = 1#1), ∀ a x, ((![v553] : Fin 1 → IVec S16 32) a x).toNat < S4096.size a)
theorem k0_idx642_inb : ∀ (v431 : BitVec 32) (v553 : IVec S16 32) (k0_hw648 : k0_chk648 v431 v553), ∀ (k0_h12 : k0_cond12 v431 = 1#1), ∀ a x, ((![v553] : Fin 1 → IVec S16 32) a x).toNat < S4096.size a := fun v431 v553 k0_hw648 k0_h12 => k0_hw648 k0_h12

def k0_chk649 (v431 : BitVec 32) (v556 : IVec S16 32) : Prop :=
  (∀ (k0_h12 : k0_cond12 v431 = 1#1), ∀ a x, ((![v556] : Fin 1 → IVec S16 32) a x).toNat < S43520.size a)
theorem k0_idx643_inb : ∀ (v431 : BitVec 32) (v556 : IVec S16 32) (k0_hw649 : k0_chk649 v431 v556), ∀ (k0_h12 : k0_cond12 v431 = 1#1), ∀ a x, ((![v556] : Fin 1 → IVec S16 32) a x).toNat < S43520.size a := fun v431 v556 k0_hw649 k0_h12 => k0_hw649 k0_h12

def k0_chk650 (v431 : BitVec 32) (v559 : IVec S16 32) : Prop :=
  (∀ (k0_h12 : k0_cond12 v431 = 1#1), ∀ a x, ((![v559] : Fin 1 → IVec S16 32) a x).toNat < S4096.size a)
theorem k0_idx644_inb : ∀ (v431 : BitVec 32) (v559 : IVec S16 32) (k0_hw650 : k0_chk650 v431 v559), ∀ (k0_h12 : k0_cond12 v431 = 1#1), ∀ a x, ((![v559] : Fin 1 → IVec S16 32) a x).toNat < S4096.size a := fun v431 v559 k0_hw650 k0_h12 => k0_hw650 k0_h12

def k0_chk651 (v431 : BitVec 32) (v562 : IVec S16 32) : Prop :=
  (∀ (k0_h12 : k0_cond12 v431 = 1#1), ∀ a x, ((![v562] : Fin 1 → IVec S16 32) a x).toNat < S43520.size a)
theorem k0_idx645_inb : ∀ (v431 : BitVec 32) (v562 : IVec S16 32) (k0_hw651 : k0_chk651 v431 v562), ∀ (k0_h12 : k0_cond12 v431 = 1#1), ∀ a x, ((![v562] : Fin 1 → IVec S16 32) a x).toNat < S43520.size a := fun v431 v562 k0_hw651 k0_h12 => k0_hw651 k0_h12

def k0_chk652 (v431 : BitVec 32) (v565 : IVec S16 32) : Prop :=
  (∀ (k0_h12 : k0_cond12 v431 = 1#1), ∀ a x, ((![v565] : Fin 1 → IVec S16 32) a x).toNat < S4096.size a)
theorem k0_idx646_inb : ∀ (v431 : BitVec 32) (v565 : IVec S16 32) (k0_hw652 : k0_chk652 v431 v565), ∀ (k0_h12 : k0_cond12 v431 = 1#1), ∀ a x, ((![v565] : Fin 1 → IVec S16 32) a x).toNat < S4096.size a := fun v431 v565 k0_hw652 k0_h12 => k0_hw652 k0_h12

def k0_chk653 (v431 : BitVec 32) (v568 : IVec S16 32) : Prop :=
  (∀ (k0_h12 : k0_cond12 v431 = 1#1), ∀ a x, ((![v568] : Fin 1 → IVec S16 32) a x).toNat < S43520.size a)
theorem k0_idx647_inb : ∀ (v431 : BitVec 32) (v568 : IVec S16 32) (k0_hw653 : k0_chk653 v431 v568), ∀ (k0_h12 : k0_cond12 v431 = 1#1), ∀ a x, ((![v568] : Fin 1 → IVec S16 32) a x).toNat < S43520.size a := fun v431 v568 k0_hw653 k0_h12 => k0_hw653 k0_h12

def k0_chk654 (v431 : BitVec 32) (v571 : IVec S16 32) : Prop :=
  (∀ (k0_h12 : k0_cond12 v431 = 1#1), ∀ a x, ((![v571] : Fin 1 → IVec S16 32) a x).toNat < S4096.size a)
theorem k0_idx648_inb : ∀ (v431 : BitVec 32) (v571 : IVec S16 32) (k0_hw654 : k0_chk654 v431 v571), ∀ (k0_h12 : k0_cond12 v431 = 1#1), ∀ a x, ((![v571] : Fin 1 → IVec S16 32) a x).toNat < S4096.size a := fun v431 v571 k0_hw654 k0_h12 => k0_hw654 k0_h12

def k0_chk655 (v431 : BitVec 32) (v574 : IVec S16 32) : Prop :=
  (∀ (k0_h12 : k0_cond12 v431 = 1#1), ∀ a x, ((![v574] : Fin 1 → IVec S16 32) a x).toNat < S43520.size a)
theorem k0_idx649_inb : ∀ (v431 : BitVec 32) (v574 : IVec S16 32) (k0_hw655 : k0_chk655 v431 v574), ∀ (k0_h12 : k0_cond12 v431 = 1#1), ∀ a x, ((![v574] : Fin 1 → IVec S16 32) a x).toNat < S43520.size a := fun v431 v574 k0_hw655 k0_h12 => k0_hw655 k0_h12

def k0_chk656 (v431 : BitVec 32) (v577 : IVec S16 32) : Prop :=
  (∀ (k0_h12 : k0_cond12 v431 = 1#1), ∀ a x, ((![v577] : Fin 1 → IVec S16 32) a x).toNat < S4096.size a)
theorem k0_idx650_inb : ∀ (v431 : BitVec 32) (v577 : IVec S16 32) (k0_hw656 : k0_chk656 v431 v577), ∀ (k0_h12 : k0_cond12 v431 = 1#1), ∀ a x, ((![v577] : Fin 1 → IVec S16 32) a x).toNat < S4096.size a := fun v431 v577 k0_hw656 k0_h12 => k0_hw656 k0_h12

def k0_chk657 (v431 : BitVec 32) (v580 : IVec S16 32) : Prop :=
  (∀ (k0_h12 : k0_cond12 v431 = 1#1), ∀ a x, ((![v580] : Fin 1 → IVec S16 32) a x).toNat < S43520.size a)
theorem k0_idx651_inb : ∀ (v431 : BitVec 32) (v580 : IVec S16 32) (k0_hw657 : k0_chk657 v431 v580), ∀ (k0_h12 : k0_cond12 v431 = 1#1), ∀ a x, ((![v580] : Fin 1 → IVec S16 32) a x).toNat < S43520.size a := fun v431 v580 k0_hw657 k0_h12 => k0_hw657 k0_h12

def k0_chk658 (v431 : BitVec 32) (v583 : IVec S16 32) : Prop :=
  (∀ (k0_h12 : k0_cond12 v431 = 1#1), ∀ a x, ((![v583] : Fin 1 → IVec S16 32) a x).toNat < S4096.size a)
theorem k0_idx652_inb : ∀ (v431 : BitVec 32) (v583 : IVec S16 32) (k0_hw658 : k0_chk658 v431 v583), ∀ (k0_h12 : k0_cond12 v431 = 1#1), ∀ a x, ((![v583] : Fin 1 → IVec S16 32) a x).toNat < S4096.size a := fun v431 v583 k0_hw658 k0_h12 => k0_hw658 k0_h12

def k0_chk659 (v431 : BitVec 32) (v586 : IVec S16 32) : Prop :=
  (∀ (k0_h12 : k0_cond12 v431 = 1#1), ∀ a x, ((![v586] : Fin 1 → IVec S16 32) a x).toNat < S43520.size a)
theorem k0_idx653_inb : ∀ (v431 : BitVec 32) (v586 : IVec S16 32) (k0_hw659 : k0_chk659 v431 v586), ∀ (k0_h12 : k0_cond12 v431 = 1#1), ∀ a x, ((![v586] : Fin 1 → IVec S16 32) a x).toNat < S43520.size a := fun v431 v586 k0_hw659 k0_h12 => k0_hw659 k0_h12

def k0_chk660 (v431 : BitVec 32) (v589 : IVec S16 32) : Prop :=
  (∀ (k0_h12 : k0_cond12 v431 = 1#1), ∀ a x, ((![v589] : Fin 1 → IVec S16 32) a x).toNat < S4096.size a)
theorem k0_idx654_inb : ∀ (v431 : BitVec 32) (v589 : IVec S16 32) (k0_hw660 : k0_chk660 v431 v589), ∀ (k0_h12 : k0_cond12 v431 = 1#1), ∀ a x, ((![v589] : Fin 1 → IVec S16 32) a x).toNat < S4096.size a := fun v431 v589 k0_hw660 k0_h12 => k0_hw660 k0_h12

def k0_chk661 (v431 : BitVec 32) (v592 : IVec S16 32) : Prop :=
  (∀ (k0_h12 : k0_cond12 v431 = 1#1), ∀ a x, ((![v592] : Fin 1 → IVec S16 32) a x).toNat < S43520.size a)
theorem k0_idx655_inb : ∀ (v431 : BitVec 32) (v592 : IVec S16 32) (k0_hw661 : k0_chk661 v431 v592), ∀ (k0_h12 : k0_cond12 v431 = 1#1), ∀ a x, ((![v592] : Fin 1 → IVec S16 32) a x).toNat < S43520.size a := fun v431 v592 k0_hw661 k0_h12 => k0_hw661 k0_h12

def k0_chk662 (v431 : BitVec 32) (v595 : IVec S16 32) : Prop :=
  (∀ (k0_h12 : k0_cond12 v431 = 1#1), ∀ a x, ((![v595] : Fin 1 → IVec S16 32) a x).toNat < S4096.size a)
theorem k0_idx656_inb : ∀ (v431 : BitVec 32) (v595 : IVec S16 32) (k0_hw662 : k0_chk662 v431 v595), ∀ (k0_h12 : k0_cond12 v431 = 1#1), ∀ a x, ((![v595] : Fin 1 → IVec S16 32) a x).toNat < S4096.size a := fun v431 v595 k0_hw662 k0_h12 => k0_hw662 k0_h12

def k0_chk663 (v431 : BitVec 32) (v598 : IVec S16 32) : Prop :=
  (∀ (k0_h12 : k0_cond12 v431 = 1#1), ∀ a x, ((![v598] : Fin 1 → IVec S16 32) a x).toNat < S43520.size a)
theorem k0_idx657_inb : ∀ (v431 : BitVec 32) (v598 : IVec S16 32) (k0_hw663 : k0_chk663 v431 v598), ∀ (k0_h12 : k0_cond12 v431 = 1#1), ∀ a x, ((![v598] : Fin 1 → IVec S16 32) a x).toNat < S43520.size a := fun v431 v598 k0_hw663 k0_h12 => k0_hw663 k0_h12

def k0_chk664 (v431 : BitVec 32) (v601 : IVec S16 32) : Prop :=
  (∀ (k0_h12 : k0_cond12 v431 = 1#1), ∀ a x, ((![v601] : Fin 1 → IVec S16 32) a x).toNat < S4096.size a)
theorem k0_idx658_inb : ∀ (v431 : BitVec 32) (v601 : IVec S16 32) (k0_hw664 : k0_chk664 v431 v601), ∀ (k0_h12 : k0_cond12 v431 = 1#1), ∀ a x, ((![v601] : Fin 1 → IVec S16 32) a x).toNat < S4096.size a := fun v431 v601 k0_hw664 k0_h12 => k0_hw664 k0_h12

def k0_chk665 (v431 : BitVec 32) (v604 : IVec S16 32) : Prop :=
  (∀ (k0_h12 : k0_cond12 v431 = 1#1), ∀ a x, ((![v604] : Fin 1 → IVec S16 32) a x).toNat < S43520.size a)
theorem k0_idx659_inb : ∀ (v431 : BitVec 32) (v604 : IVec S16 32) (k0_hw665 : k0_chk665 v431 v604), ∀ (k0_h12 : k0_cond12 v431 = 1#1), ∀ a x, ((![v604] : Fin 1 → IVec S16 32) a x).toNat < S43520.size a := fun v431 v604 k0_hw665 k0_h12 => k0_hw665 k0_h12

def k0_chk666 (v431 : BitVec 32) (v607 : IVec S16 32) : Prop :=
  (∀ (k0_h12 : k0_cond12 v431 = 1#1), ∀ a x, ((![v607] : Fin 1 → IVec S16 32) a x).toNat < S4096.size a)
theorem k0_idx660_inb : ∀ (v431 : BitVec 32) (v607 : IVec S16 32) (k0_hw666 : k0_chk666 v431 v607), ∀ (k0_h12 : k0_cond12 v431 = 1#1), ∀ a x, ((![v607] : Fin 1 → IVec S16 32) a x).toNat < S4096.size a := fun v431 v607 k0_hw666 k0_h12 => k0_hw666 k0_h12

def k0_chk667 (v431 : BitVec 32) (v610 : IVec S16 32) : Prop :=
  (∀ (k0_h12 : k0_cond12 v431 = 1#1), ∀ a x, ((![v610] : Fin 1 → IVec S16 32) a x).toNat < S43520.size a)
theorem k0_idx661_inb : ∀ (v431 : BitVec 32) (v610 : IVec S16 32) (k0_hw667 : k0_chk667 v431 v610), ∀ (k0_h12 : k0_cond12 v431 = 1#1), ∀ a x, ((![v610] : Fin 1 → IVec S16 32) a x).toNat < S43520.size a := fun v431 v610 k0_hw667 k0_h12 => k0_hw667 k0_h12

def k0_chk668 (v431 : BitVec 32) (v613 : IVec S16 32) : Prop :=
  (∀ (k0_h12 : k0_cond12 v431 = 1#1), ∀ a x, ((![v613] : Fin 1 → IVec S16 32) a x).toNat < S4096.size a)
theorem k0_idx662_inb : ∀ (v431 : BitVec 32) (v613 : IVec S16 32) (k0_hw668 : k0_chk668 v431 v613), ∀ (k0_h12 : k0_cond12 v431 = 1#1), ∀ a x, ((![v613] : Fin 1 → IVec S16 32) a x).toNat < S4096.size a := fun v431 v613 k0_hw668 k0_h12 => k0_hw668 k0_h12

def k0_chk669 (v431 : BitVec 32) (v616 : IVec S16 32) : Prop :=
  (∀ (k0_h12 : k0_cond12 v431 = 1#1), ∀ a x, ((![v616] : Fin 1 → IVec S16 32) a x).toNat < S43520.size a)
theorem k0_idx663_inb : ∀ (v431 : BitVec 32) (v616 : IVec S16 32) (k0_hw669 : k0_chk669 v431 v616), ∀ (k0_h12 : k0_cond12 v431 = 1#1), ∀ a x, ((![v616] : Fin 1 → IVec S16 32) a x).toNat < S43520.size a := fun v431 v616 k0_hw669 k0_h12 => k0_hw669 k0_h12

def k0_chk670 (v431 : BitVec 32) (v619 : IVec S16 32) : Prop :=
  (∀ (k0_h12 : k0_cond12 v431 = 1#1), ∀ a x, ((![v619] : Fin 1 → IVec S16 32) a x).toNat < S4096.size a)
theorem k0_idx664_inb : ∀ (v431 : BitVec 32) (v619 : IVec S16 32) (k0_hw670 : k0_chk670 v431 v619), ∀ (k0_h12 : k0_cond12 v431 = 1#1), ∀ a x, ((![v619] : Fin 1 → IVec S16 32) a x).toNat < S4096.size a := fun v431 v619 k0_hw670 k0_h12 => k0_hw670 k0_h12

def k0_chk671 (v431 : BitVec 32) (v622 : IVec S16 32) : Prop :=
  (∀ (k0_h12 : k0_cond12 v431 = 1#1), ∀ a x, ((![v622] : Fin 1 → IVec S16 32) a x).toNat < S43520.size a)
theorem k0_idx665_inb : ∀ (v431 : BitVec 32) (v622 : IVec S16 32) (k0_hw671 : k0_chk671 v431 v622), ∀ (k0_h12 : k0_cond12 v431 = 1#1), ∀ a x, ((![v622] : Fin 1 → IVec S16 32) a x).toNat < S43520.size a := fun v431 v622 k0_hw671 k0_h12 => k0_hw671 k0_h12

def k0_chk672 (v431 : BitVec 32) (v625 : IVec S16 32) : Prop :=
  (∀ (k0_h12 : k0_cond12 v431 = 1#1), ∀ a x, ((![v625] : Fin 1 → IVec S16 32) a x).toNat < S4096.size a)
theorem k0_idx666_inb : ∀ (v431 : BitVec 32) (v625 : IVec S16 32) (k0_hw672 : k0_chk672 v431 v625), ∀ (k0_h12 : k0_cond12 v431 = 1#1), ∀ a x, ((![v625] : Fin 1 → IVec S16 32) a x).toNat < S4096.size a := fun v431 v625 k0_hw672 k0_h12 => k0_hw672 k0_h12

def k0_chk673 (v337 : IVec S16 32) : Prop :=
  (∀ a x, ((![v337] : Fin 1 → IVec S16 32) a x).toNat < S512.size a)
theorem k0_idx667_inb : ∀ (v337 : IVec S16 32) (k0_hw673 : k0_chk673 v337), ∀ a x, ((![v337] : Fin 1 → IVec S16 32) a x).toNat < S512.size a := fun v337 k0_hw673 => k0_hw673
@[reducible] def k0_t15_loop (v346 : BitVec 32) : Scf.Loop 32 :=
  let c0_i32_142 : BitVec 32 := 0#32
  let v347 : BitVec 32 := Scalar.subi v346 c0_i32_142
  let c1_i32_143 : BitVec 32 := 1#32
  let v349 : BitVec 32 := Scalar.divsi v347 c1_i32_143
  let v350 : BitVec 32 := Scalar.muli v349 c1_i32_143
  let v351 : BitVec 32 := Scalar.addi c0_i32_142 v350
  let c1_i32_144 : BitVec 32 := 1#32
  ⟨c0_i32_142, v351, c1_i32_144⟩

def k0_chk675 (v391 : IVec S16 32) : Prop :=
  (∀ a x, ((![v391] : Fin 1 → IVec S16 32) a x).toNat < S14336.size a)
theorem k0_idx668_inb : ∀ (v391 : IVec S16 32) (k0_hw675 : k0_chk675 v391), ∀ a x, ((![v391] : Fin 1 → IVec S16 32) a x).toNat < S14336.size a := fun v391 k0_hw675 => k0_hw675

def k0_chk676 (v399 : IVec S16 32) : Prop :=
  (∀ a x, ((![v399] : Fin 1 → IVec S16 32) a x).toNat < S1280.size a)
theorem k0_idx669_inb : ∀ (v399 : IVec S16 32) (k0_hw676 : k0_chk676 v399), ∀ a x, ((![v399] : Fin 1 → IVec S16 32) a x).toNat < S1280.size a := fun v399 k0_hw676 => k0_hw676
def k0_cond13 (v431 : BitVec 32) : BitVec 1 :=
  let c0_i32_170 : BitVec 32 := 0#32
  let v432 : BitVec 1 := Scalar.cmpi .sgt v431 c0_i32_170
  let v433 : BitVec 32 := Scalar.extui v432
  let c0_i32_171 : BitVec 32 := 0#32
  let v434 : BitVec 1 := Scalar.cmpi .ne v433 c0_i32_171
  v434

def k0_chk677 (v431 : BitVec 32) (v436 : IVec S16 32) : Prop :=
  (∀ (k0_h13 : k0_cond13 v431 = 1#1), ∀ a x, ((![v436] : Fin 1 → IVec S16 32) a x).toNat < S43520.size a)
theorem k0_idx670_inb : ∀ (v431 : BitVec 32) (v436 : IVec S16 32) (k0_hw677 : k0_chk677 v431 v436), ∀ (k0_h13 : k0_cond13 v431 = 1#1), ∀ a x, ((![v436] : Fin 1 → IVec S16 32) a x).toNat < S43520.size a := fun v431 v436 k0_hw677 k0_h13 => k0_hw677 k0_h13

def k0_chk678 (v431 : BitVec 32) (v439 : IVec S16 32) : Prop :=
  (∀ (k0_h13 : k0_cond13 v431 = 1#1), ∀ a x, ((![v439] : Fin 1 → IVec S16 32) a x).toNat < S43520.size a)
theorem k0_idx671_inb : ∀ (v431 : BitVec 32) (v439 : IVec S16 32) (k0_hw678 : k0_chk678 v431 v439), ∀ (k0_h13 : k0_cond13 v431 = 1#1), ∀ a x, ((![v439] : Fin 1 → IVec S16 32) a x).toNat < S43520.size a := fun v431 v439 k0_hw678 k0_h13 => k0_hw678 k0_h13

def k0_chk679 (v431 : BitVec 32) (v442 : IVec S16 32) : Prop :=
  (∀ (k0_h13 : k0_cond13 v431 = 1#1), ∀ a x, ((![v442] : Fin 1 → IVec S16 32) a x).toNat < S43520.size a)
theorem k0_idx672_inb : ∀ (v431 : BitVec 32) (v442 : IVec S16 32) (k0_hw679 : k0_chk679 v431 v442), ∀ (k0_h13 : k0_cond13 v431 = 1#1), ∀ a x, ((![v442] : Fin 1 → IVec S16 32) a x).toNat < S43520.size a := fun v431 v442 k0_hw679 k0_h13 => k0_hw679 k0_h13

def k0_chk680 (v431 : BitVec 32) (v445 : IVec S16 32) : Prop :=
  (∀ (k0_h13 : k0_cond13 v431 = 1#1), ∀ a x, ((![v445] : Fin 1 → IVec S16 32) a x).toNat < S43520.size a)
theorem k0_idx673_inb : ∀ (v431 : BitVec 32) (v445 : IVec S16 32) (k0_hw680 : k0_chk680 v431 v445), ∀ (k0_h13 : k0_cond13 v431 = 1#1), ∀ a x, ((![v445] : Fin 1 → IVec S16 32) a x).toNat < S43520.size a := fun v431 v445 k0_hw680 k0_h13 => k0_hw680 k0_h13

def k0_chk681 (v431 : BitVec 32) (v448 : IVec S16 32) : Prop :=
  (∀ (k0_h13 : k0_cond13 v431 = 1#1), ∀ a x, ((![v448] : Fin 1 → IVec S16 32) a x).toNat < S43520.size a)
theorem k0_idx674_inb : ∀ (v431 : BitVec 32) (v448 : IVec S16 32) (k0_hw681 : k0_chk681 v431 v448), ∀ (k0_h13 : k0_cond13 v431 = 1#1), ∀ a x, ((![v448] : Fin 1 → IVec S16 32) a x).toNat < S43520.size a := fun v431 v448 k0_hw681 k0_h13 => k0_hw681 k0_h13

def k0_chk682 (v431 : BitVec 32) (v451 : IVec S16 32) : Prop :=
  (∀ (k0_h13 : k0_cond13 v431 = 1#1), ∀ a x, ((![v451] : Fin 1 → IVec S16 32) a x).toNat < S43520.size a)
theorem k0_idx675_inb : ∀ (v431 : BitVec 32) (v451 : IVec S16 32) (k0_hw682 : k0_chk682 v431 v451), ∀ (k0_h13 : k0_cond13 v431 = 1#1), ∀ a x, ((![v451] : Fin 1 → IVec S16 32) a x).toNat < S43520.size a := fun v431 v451 k0_hw682 k0_h13 => k0_hw682 k0_h13

def k0_chk683 (v431 : BitVec 32) (v454 : IVec S16 32) : Prop :=
  (∀ (k0_h13 : k0_cond13 v431 = 1#1), ∀ a x, ((![v454] : Fin 1 → IVec S16 32) a x).toNat < S43520.size a)
theorem k0_idx676_inb : ∀ (v431 : BitVec 32) (v454 : IVec S16 32) (k0_hw683 : k0_chk683 v431 v454), ∀ (k0_h13 : k0_cond13 v431 = 1#1), ∀ a x, ((![v454] : Fin 1 → IVec S16 32) a x).toNat < S43520.size a := fun v431 v454 k0_hw683 k0_h13 => k0_hw683 k0_h13

def k0_chk684 (v431 : BitVec 32) (v457 : IVec S16 32) : Prop :=
  (∀ (k0_h13 : k0_cond13 v431 = 1#1), ∀ a x, ((![v457] : Fin 1 → IVec S16 32) a x).toNat < S43520.size a)
theorem k0_idx677_inb : ∀ (v431 : BitVec 32) (v457 : IVec S16 32) (k0_hw684 : k0_chk684 v431 v457), ∀ (k0_h13 : k0_cond13 v431 = 1#1), ∀ a x, ((![v457] : Fin 1 → IVec S16 32) a x).toNat < S43520.size a := fun v431 v457 k0_hw684 k0_h13 => k0_hw684 k0_h13

def k0_chk685 (v431 : BitVec 32) (v460 : IVec S16 32) : Prop :=
  (∀ (k0_h13 : k0_cond13 v431 = 1#1), ∀ a x, ((![v460] : Fin 1 → IVec S16 32) a x).toNat < S43520.size a)
theorem k0_idx678_inb : ∀ (v431 : BitVec 32) (v460 : IVec S16 32) (k0_hw685 : k0_chk685 v431 v460), ∀ (k0_h13 : k0_cond13 v431 = 1#1), ∀ a x, ((![v460] : Fin 1 → IVec S16 32) a x).toNat < S43520.size a := fun v431 v460 k0_hw685 k0_h13 => k0_hw685 k0_h13

def k0_chk686 (v431 : BitVec 32) (v463 : IVec S16 32) : Prop :=
  (∀ (k0_h13 : k0_cond13 v431 = 1#1), ∀ a x, ((![v463] : Fin 1 → IVec S16 32) a x).toNat < S43520.size a)
theorem k0_idx679_inb : ∀ (v431 : BitVec 32) (v463 : IVec S16 32) (k0_hw686 : k0_chk686 v431 v463), ∀ (k0_h13 : k0_cond13 v431 = 1#1), ∀ a x, ((![v463] : Fin 1 → IVec S16 32) a x).toNat < S43520.size a := fun v431 v463 k0_hw686 k0_h13 => k0_hw686 k0_h13

def k0_chk687 (v431 : BitVec 32) (v466 : IVec S16 32) : Prop :=
  (∀ (k0_h13 : k0_cond13 v431 = 1#1), ∀ a x, ((![v466] : Fin 1 → IVec S16 32) a x).toNat < S43520.size a)
theorem k0_idx680_inb : ∀ (v431 : BitVec 32) (v466 : IVec S16 32) (k0_hw687 : k0_chk687 v431 v466), ∀ (k0_h13 : k0_cond13 v431 = 1#1), ∀ a x, ((![v466] : Fin 1 → IVec S16 32) a x).toNat < S43520.size a := fun v431 v466 k0_hw687 k0_h13 => k0_hw687 k0_h13

def k0_chk688 (v431 : BitVec 32) (v477 : IVec S16 32) : Prop :=
  (∀ (k0_h13 : k0_cond13 v431 = 1#1), ∀ a x, ((![v477] : Fin 1 → IVec S16 32) a x).toNat < S43520.size a)
theorem k0_idx681_inb : ∀ (v431 : BitVec 32) (v477 : IVec S16 32) (k0_hw688 : k0_chk688 v431 v477), ∀ (k0_h13 : k0_cond13 v431 = 1#1), ∀ a x, ((![v477] : Fin 1 → IVec S16 32) a x).toNat < S43520.size a := fun v431 v477 k0_hw688 k0_h13 => k0_hw688 k0_h13

def k0_chk689 (v431 : BitVec 32) (v480 : IVec S16 32) : Prop :=
  (∀ (k0_h13 : k0_cond13 v431 = 1#1), ∀ a x, ((![v480] : Fin 1 → IVec S16 32) a x).toNat < S43520.size a)
theorem k0_idx682_inb : ∀ (v431 : BitVec 32) (v480 : IVec S16 32) (k0_hw689 : k0_chk689 v431 v480), ∀ (k0_h13 : k0_cond13 v431 = 1#1), ∀ a x, ((![v480] : Fin 1 → IVec S16 32) a x).toNat < S43520.size a := fun v431 v480 k0_hw689 k0_h13 => k0_hw689 k0_h13

def k0_chk690 (v431 : BitVec 32) (v492 : IVec S16 32) : Prop :=
  (∀ (k0_h13 : k0_cond13 v431 = 1#1), ∀ a x, ((![v492] : Fin 1 → IVec S16 32) a x).toNat < S43520.size a)
theorem k0_idx683_inb : ∀ (v431 : BitVec 32) (v492 : IVec S16 32) (k0_hw690 : k0_chk690 v431 v492), ∀ (k0_h13 : k0_cond13 v431 = 1#1), ∀ a x, ((![v492] : Fin 1 → IVec S16 32) a x).toNat < S43520.size a := fun v431 v492 k0_hw690 k0_h13 => k0_hw690 k0_h13

def k0_chk691 (v431 : BitVec 32) (v495 : IVec S16 32) : Prop :=
  (∀ (k0_h13 : k0_cond13 v431 = 1#1), ∀ a x, ((![v495] : Fin 1 → IVec S16 32) a x).toNat < S43520.size a)
theorem k0_idx684_inb : ∀ (v431 : BitVec 32) (v495 : IVec S16 32) (k0_hw691 : k0_chk691 v431 v495), ∀ (k0_h13 : k0_cond13 v431 = 1#1), ∀ a x, ((![v495] : Fin 1 → IVec S16 32) a x).toNat < S43520.size a := fun v431 v495 k0_hw691 k0_h13 => k0_hw691 k0_h13

def k0_chk692 (v431 : BitVec 32) (v507 : IVec S16 32) : Prop :=
  (∀ (k0_h13 : k0_cond13 v431 = 1#1), ∀ a x, ((![v507] : Fin 1 → IVec S16 32) a x).toNat < S43520.size a)
theorem k0_idx685_inb : ∀ (v431 : BitVec 32) (v507 : IVec S16 32) (k0_hw692 : k0_chk692 v431 v507), ∀ (k0_h13 : k0_cond13 v431 = 1#1), ∀ a x, ((![v507] : Fin 1 → IVec S16 32) a x).toNat < S43520.size a := fun v431 v507 k0_hw692 k0_h13 => k0_hw692 k0_h13

def k0_chk693 (v431 : BitVec 32) (v518 : IVec S16 32) : Prop :=
  (∀ (k0_h13 : k0_cond13 v431 = 1#1), ∀ a x, ((![v518] : Fin 1 → IVec S16 32) a x).toNat < S4096.size a)
theorem k0_idx686_inb : ∀ (v431 : BitVec 32) (v518 : IVec S16 32) (k0_hw693 : k0_chk693 v431 v518), ∀ (k0_h13 : k0_cond13 v431 = 1#1), ∀ a x, ((![v518] : Fin 1 → IVec S16 32) a x).toNat < S4096.size a := fun v431 v518 k0_hw693 k0_h13 => k0_hw693 k0_h13

def k0_chk694 (v431 : BitVec 32) (v520 : IVec S16 32) : Prop :=
  (∀ (k0_h13 : k0_cond13 v431 = 1#1), ∀ a x, ((![v520] : Fin 1 → IVec S16 32) a x).toNat < S43520.size a)
theorem k0_idx687_inb : ∀ (v431 : BitVec 32) (v520 : IVec S16 32) (k0_hw694 : k0_chk694 v431 v520), ∀ (k0_h13 : k0_cond13 v431 = 1#1), ∀ a x, ((![v520] : Fin 1 → IVec S16 32) a x).toNat < S43520.size a := fun v431 v520 k0_hw694 k0_h13 => k0_hw694 k0_h13

def k0_chk695 (v431 : BitVec 32) (v523 : IVec S16 32) : Prop :=
  (∀ (k0_h13 : k0_cond13 v431 = 1#1), ∀ a x, ((![v523] : Fin 1 → IVec S16 32) a x).toNat < S4096.size a)
theorem k0_idx688_inb : ∀ (v431 : BitVec 32) (v523 : IVec S16 32) (k0_hw695 : k0_chk695 v431 v523), ∀ (k0_h13 : k0_cond13 v431 = 1#1), ∀ a x, ((![v523] : Fin 1 → IVec S16 32) a x).toNat < S4096.size a := fun v431 v523 k0_hw695 k0_h13 => k0_hw695 k0_h13

def k0_chk696 (v431 : BitVec 32) (v526 : IVec S16 32) : Prop :=
  (∀ (k0_h13 : k0_cond13 v431 = 1#1), ∀ a x, ((![v526] : Fin 1 → IVec S16 32) a x).toNat < S43520.size a)
theorem k0_idx689_inb : ∀ (v431 : BitVec 32) (v526 : IVec S16 32) (k0_hw696 : k0_chk696 v431 v526), ∀ (k0_h13 : k0_cond13 v431 = 1#1), ∀ a x, ((![v526] : Fin 1 → IVec S16 32) a x).toNat < S43520.size a := fun v431 v526 k0_hw696 k0_h13 => k0_hw696 k0_h13

def k0_chk697 (v431 : BitVec 32) (v529 : IVec S16 32) : Prop :=
  (∀ (k0_h13 : k0_cond13 v431 = 1#1), ∀ a x, ((![v529] : Fin 1 → IVec S16 32) a x).toNat < S4096.size a)
theorem k0_idx690_inb : ∀ (v431 : BitVec 32) (v529 : IVec S16 32) (k0_hw697 : k0_chk697 v431 v529), ∀ (k0_h13 : k0_cond13 v431 = 1#1), ∀ a x, ((![v529] : Fin 1 → IVec S16 32) a x).toNat < S4096.size a := fun v431 v529 k0_hw697 k0_h13 => k0_hw697 k0_h13

def k0_chk698 (v431 : BitVec 32) (v532 : IVec S16 32) : Prop :=
  (∀ (k0_h13 : k0_cond13 v431 = 1#1), ∀ a x, ((![v532] : Fin 1 → IVec S16 32) a x).toNat < S43520.size a)
theorem k0_idx691_inb : ∀ (v431 : BitVec 32) (v532 : IVec S16 32) (k0_hw698 : k0_chk698 v431 v532), ∀ (k0_h13 : k0_cond13 v431 = 1#1), ∀ a x, ((![v532] : Fin 1 → IVec S16 32) a x).toNat < S43520.size a := fun v431 v532 k0_hw698 k0_h13 => k0_hw698 k0_h13

def k0_chk699 (v431 : BitVec 32) (v535 : IVec S16 32) : Prop :=
  (∀ (k0_h13 : k0_cond13 v431 = 1#1), ∀ a x, ((![v535] : Fin 1 → IVec S16 32) a x).toNat < S4096.size a)
theorem k0_idx692_inb : ∀ (v431 : BitVec 32) (v535 : IVec S16 32) (k0_hw699 : k0_chk699 v431 v535), ∀ (k0_h13 : k0_cond13 v431 = 1#1), ∀ a x, ((![v535] : Fin 1 → IVec S16 32) a x).toNat < S4096.size a := fun v431 v535 k0_hw699 k0_h13 => k0_hw699 k0_h13

def k0_chk700 (v431 : BitVec 32) (v538 : IVec S16 32) : Prop :=
  (∀ (k0_h13 : k0_cond13 v431 = 1#1), ∀ a x, ((![v538] : Fin 1 → IVec S16 32) a x).toNat < S43520.size a)
theorem k0_idx693_inb : ∀ (v431 : BitVec 32) (v538 : IVec S16 32) (k0_hw700 : k0_chk700 v431 v538), ∀ (k0_h13 : k0_cond13 v431 = 1#1), ∀ a x, ((![v538] : Fin 1 → IVec S16 32) a x).toNat < S43520.size a := fun v431 v538 k0_hw700 k0_h13 => k0_hw700 k0_h13

def k0_chk701 (v431 : BitVec 32) (v541 : IVec S16 32) : Prop :=
  (∀ (k0_h13 : k0_cond13 v431 = 1#1), ∀ a x, ((![v541] : Fin 1 → IVec S16 32) a x).toNat < S4096.size a)
theorem k0_idx694_inb : ∀ (v431 : BitVec 32) (v541 : IVec S16 32) (k0_hw701 : k0_chk701 v431 v541), ∀ (k0_h13 : k0_cond13 v431 = 1#1), ∀ a x, ((![v541] : Fin 1 → IVec S16 32) a x).toNat < S4096.size a := fun v431 v541 k0_hw701 k0_h13 => k0_hw701 k0_h13

def k0_chk702 (v431 : BitVec 32) (v544 : IVec S16 32) : Prop :=
  (∀ (k0_h13 : k0_cond13 v431 = 1#1), ∀ a x, ((![v544] : Fin 1 → IVec S16 32) a x).toNat < S43520.size a)
theorem k0_idx695_inb : ∀ (v431 : BitVec 32) (v544 : IVec S16 32) (k0_hw702 : k0_chk702 v431 v544), ∀ (k0_h13 : k0_cond13 v431 = 1#1), ∀ a x, ((![v544] : Fin 1 → IVec S16 32) a x).toNat < S43520.size a := fun v431 v544 k0_hw702 k0_h13 => k0_hw702 k0_h13

def k0_chk703 (v431 : BitVec 32) (v547 : IVec S16 32) : Prop :=
  (∀ (k0_h13 : k0_cond13 v431 = 1#1), ∀ a x, ((![v547] : Fin 1 → IVec S16 32) a x).toNat < S4096.size a)
theorem k0_idx696_inb : ∀ (v431 : BitVec 32) (v547 : IVec S16 32) (k0_hw703 : k0_chk703 v431 v547), ∀ (k0_h13 : k0_cond13 v431 = 1#1), ∀ a x, ((![v547] : Fin 1 → IVec S16 32) a x).toNat < S4096.size a := fun v431 v547 k0_hw703 k0_h13 => k0_hw703 k0_h13

def k0_chk704 (v431 : BitVec 32) (v550 : IVec S16 32) : Prop :=
  (∀ (k0_h13 : k0_cond13 v431 = 1#1), ∀ a x, ((![v550] : Fin 1 → IVec S16 32) a x).toNat < S43520.size a)
theorem k0_idx697_inb : ∀ (v431 : BitVec 32) (v550 : IVec S16 32) (k0_hw704 : k0_chk704 v431 v550), ∀ (k0_h13 : k0_cond13 v431 = 1#1), ∀ a x, ((![v550] : Fin 1 → IVec S16 32) a x).toNat < S43520.size a := fun v431 v550 k0_hw704 k0_h13 => k0_hw704 k0_h13

def k0_chk705 (v431 : BitVec 32) (v553 : IVec S16 32) : Prop :=
  (∀ (k0_h13 : k0_cond13 v431 = 1#1), ∀ a x, ((![v553] : Fin 1 → IVec S16 32) a x).toNat < S4096.size a)
theorem k0_idx698_inb : ∀ (v431 : BitVec 32) (v553 : IVec S16 32) (k0_hw705 : k0_chk705 v431 v553), ∀ (k0_h13 : k0_cond13 v431 = 1#1), ∀ a x, ((![v553] : Fin 1 → IVec S16 32) a x).toNat < S4096.size a := fun v431 v553 k0_hw705 k0_h13 => k0_hw705 k0_h13

def k0_chk706 (v431 : BitVec 32) (v556 : IVec S16 32) : Prop :=
  (∀ (k0_h13 : k0_cond13 v431 = 1#1), ∀ a x, ((![v556] : Fin 1 → IVec S16 32) a x).toNat < S43520.size a)
theorem k0_idx699_inb : ∀ (v431 : BitVec 32) (v556 : IVec S16 32) (k0_hw706 : k0_chk706 v431 v556), ∀ (k0_h13 : k0_cond13 v431 = 1#1), ∀ a x, ((![v556] : Fin 1 → IVec S16 32) a x).toNat < S43520.size a := fun v431 v556 k0_hw706 k0_h13 => k0_hw706 k0_h13

def k0_chk707 (v431 : BitVec 32) (v559 : IVec S16 32) : Prop :=
  (∀ (k0_h13 : k0_cond13 v431 = 1#1), ∀ a x, ((![v559] : Fin 1 → IVec S16 32) a x).toNat < S4096.size a)
theorem k0_idx700_inb : ∀ (v431 : BitVec 32) (v559 : IVec S16 32) (k0_hw707 : k0_chk707 v431 v559), ∀ (k0_h13 : k0_cond13 v431 = 1#1), ∀ a x, ((![v559] : Fin 1 → IVec S16 32) a x).toNat < S4096.size a := fun v431 v559 k0_hw707 k0_h13 => k0_hw707 k0_h13

def k0_chk708 (v431 : BitVec 32) (v562 : IVec S16 32) : Prop :=
  (∀ (k0_h13 : k0_cond13 v431 = 1#1), ∀ a x, ((![v562] : Fin 1 → IVec S16 32) a x).toNat < S43520.size a)
theorem k0_idx701_inb : ∀ (v431 : BitVec 32) (v562 : IVec S16 32) (k0_hw708 : k0_chk708 v431 v562), ∀ (k0_h13 : k0_cond13 v431 = 1#1), ∀ a x, ((![v562] : Fin 1 → IVec S16 32) a x).toNat < S43520.size a := fun v431 v562 k0_hw708 k0_h13 => k0_hw708 k0_h13

def k0_chk709 (v431 : BitVec 32) (v565 : IVec S16 32) : Prop :=
  (∀ (k0_h13 : k0_cond13 v431 = 1#1), ∀ a x, ((![v565] : Fin 1 → IVec S16 32) a x).toNat < S4096.size a)
theorem k0_idx702_inb : ∀ (v431 : BitVec 32) (v565 : IVec S16 32) (k0_hw709 : k0_chk709 v431 v565), ∀ (k0_h13 : k0_cond13 v431 = 1#1), ∀ a x, ((![v565] : Fin 1 → IVec S16 32) a x).toNat < S4096.size a := fun v431 v565 k0_hw709 k0_h13 => k0_hw709 k0_h13

def k0_chk710 (v431 : BitVec 32) (v568 : IVec S16 32) : Prop :=
  (∀ (k0_h13 : k0_cond13 v431 = 1#1), ∀ a x, ((![v568] : Fin 1 → IVec S16 32) a x).toNat < S43520.size a)
theorem k0_idx703_inb : ∀ (v431 : BitVec 32) (v568 : IVec S16 32) (k0_hw710 : k0_chk710 v431 v568), ∀ (k0_h13 : k0_cond13 v431 = 1#1), ∀ a x, ((![v568] : Fin 1 → IVec S16 32) a x).toNat < S43520.size a := fun v431 v568 k0_hw710 k0_h13 => k0_hw710 k0_h13

def k0_chk711 (v431 : BitVec 32) (v571 : IVec S16 32) : Prop :=
  (∀ (k0_h13 : k0_cond13 v431 = 1#1), ∀ a x, ((![v571] : Fin 1 → IVec S16 32) a x).toNat < S4096.size a)
theorem k0_idx704_inb : ∀ (v431 : BitVec 32) (v571 : IVec S16 32) (k0_hw711 : k0_chk711 v431 v571), ∀ (k0_h13 : k0_cond13 v431 = 1#1), ∀ a x, ((![v571] : Fin 1 → IVec S16 32) a x).toNat < S4096.size a := fun v431 v571 k0_hw711 k0_h13 => k0_hw711 k0_h13

def k0_chk712 (v431 : BitVec 32) (v574 : IVec S16 32) : Prop :=
  (∀ (k0_h13 : k0_cond13 v431 = 1#1), ∀ a x, ((![v574] : Fin 1 → IVec S16 32) a x).toNat < S43520.size a)
theorem k0_idx705_inb : ∀ (v431 : BitVec 32) (v574 : IVec S16 32) (k0_hw712 : k0_chk712 v431 v574), ∀ (k0_h13 : k0_cond13 v431 = 1#1), ∀ a x, ((![v574] : Fin 1 → IVec S16 32) a x).toNat < S43520.size a := fun v431 v574 k0_hw712 k0_h13 => k0_hw712 k0_h13

def k0_chk713 (v431 : BitVec 32) (v577 : IVec S16 32) : Prop :=
  (∀ (k0_h13 : k0_cond13 v431 = 1#1), ∀ a x, ((![v577] : Fin 1 → IVec S16 32) a x).toNat < S4096.size a)
theorem k0_idx706_inb : ∀ (v431 : BitVec 32) (v577 : IVec S16 32) (k0_hw713 : k0_chk713 v431 v577), ∀ (k0_h13 : k0_cond13 v431 = 1#1), ∀ a x, ((![v577] : Fin 1 → IVec S16 32) a x).toNat < S4096.size a := fun v431 v577 k0_hw713 k0_h13 => k0_hw713 k0_h13

def k0_chk714 (v431 : BitVec 32) (v580 : IVec S16 32) : Prop :=
  (∀ (k0_h13 : k0_cond13 v431 = 1#1), ∀ a x, ((![v580] : Fin 1 → IVec S16 32) a x).toNat < S43520.size a)
theorem k0_idx707_inb : ∀ (v431 : BitVec 32) (v580 : IVec S16 32) (k0_hw714 : k0_chk714 v431 v580), ∀ (k0_h13 : k0_cond13 v431 = 1#1), ∀ a x, ((![v580] : Fin 1 → IVec S16 32) a x).toNat < S43520.size a := fun v431 v580 k0_hw714 k0_h13 => k0_hw714 k0_h13

def k0_chk715 (v431 : BitVec 32) (v583 : IVec S16 32) : Prop :=
  (∀ (k0_h13 : k0_cond13 v431 = 1#1), ∀ a x, ((![v583] : Fin 1 → IVec S16 32) a x).toNat < S4096.size a)
theorem k0_idx708_inb : ∀ (v431 : BitVec 32) (v583 : IVec S16 32) (k0_hw715 : k0_chk715 v431 v583), ∀ (k0_h13 : k0_cond13 v431 = 1#1), ∀ a x, ((![v583] : Fin 1 → IVec S16 32) a x).toNat < S4096.size a := fun v431 v583 k0_hw715 k0_h13 => k0_hw715 k0_h13

def k0_chk716 (v431 : BitVec 32) (v586 : IVec S16 32) : Prop :=
  (∀ (k0_h13 : k0_cond13 v431 = 1#1), ∀ a x, ((![v586] : Fin 1 → IVec S16 32) a x).toNat < S43520.size a)
theorem k0_idx709_inb : ∀ (v431 : BitVec 32) (v586 : IVec S16 32) (k0_hw716 : k0_chk716 v431 v586), ∀ (k0_h13 : k0_cond13 v431 = 1#1), ∀ a x, ((![v586] : Fin 1 → IVec S16 32) a x).toNat < S43520.size a := fun v431 v586 k0_hw716 k0_h13 => k0_hw716 k0_h13

def k0_chk717 (v431 : BitVec 32) (v589 : IVec S16 32) : Prop :=
  (∀ (k0_h13 : k0_cond13 v431 = 1#1), ∀ a x, ((![v589] : Fin 1 → IVec S16 32) a x).toNat < S4096.size a)
theorem k0_idx710_inb : ∀ (v431 : BitVec 32) (v589 : IVec S16 32) (k0_hw717 : k0_chk717 v431 v589), ∀ (k0_h13 : k0_cond13 v431 = 1#1), ∀ a x, ((![v589] : Fin 1 → IVec S16 32) a x).toNat < S4096.size a := fun v431 v589 k0_hw717 k0_h13 => k0_hw717 k0_h13

def k0_chk718 (v431 : BitVec 32) (v592 : IVec S16 32) : Prop :=
  (∀ (k0_h13 : k0_cond13 v431 = 1#1), ∀ a x, ((![v592] : Fin 1 → IVec S16 32) a x).toNat < S43520.size a)
theorem k0_idx711_inb : ∀ (v431 : BitVec 32) (v592 : IVec S16 32) (k0_hw718 : k0_chk718 v431 v592), ∀ (k0_h13 : k0_cond13 v431 = 1#1), ∀ a x, ((![v592] : Fin 1 → IVec S16 32) a x).toNat < S43520.size a := fun v431 v592 k0_hw718 k0_h13 => k0_hw718 k0_h13

def k0_chk719 (v431 : BitVec 32) (v595 : IVec S16 32) : Prop :=
  (∀ (k0_h13 : k0_cond13 v431 = 1#1), ∀ a x, ((![v595] : Fin 1 → IVec S16 32) a x).toNat < S4096.size a)
theorem k0_idx712_inb : ∀ (v431 : BitVec 32) (v595 : IVec S16 32) (k0_hw719 : k0_chk719 v431 v595), ∀ (k0_h13 : k0_cond13 v431 = 1#1), ∀ a x, ((![v595] : Fin 1 → IVec S16 32) a x).toNat < S4096.size a := fun v431 v595 k0_hw719 k0_h13 => k0_hw719 k0_h13

def k0_chk720 (v431 : BitVec 32) (v598 : IVec S16 32) : Prop :=
  (∀ (k0_h13 : k0_cond13 v431 = 1#1), ∀ a x, ((![v598] : Fin 1 → IVec S16 32) a x).toNat < S43520.size a)
theorem k0_idx713_inb : ∀ (v431 : BitVec 32) (v598 : IVec S16 32) (k0_hw720 : k0_chk720 v431 v598), ∀ (k0_h13 : k0_cond13 v431 = 1#1), ∀ a x, ((![v598] : Fin 1 → IVec S16 32) a x).toNat < S43520.size a := fun v431 v598 k0_hw720 k0_h13 => k0_hw720 k0_h13

def k0_chk721 (v431 : BitVec 32) (v601 : IVec S16 32) : Prop :=
  (∀ (k0_h13 : k0_cond13 v431 = 1#1), ∀ a x, ((![v601] : Fin 1 → IVec S16 32) a x).toNat < S4096.size a)
theorem k0_idx714_inb : ∀ (v431 : BitVec 32) (v601 : IVec S16 32) (k0_hw721 : k0_chk721 v431 v601), ∀ (k0_h13 : k0_cond13 v431 = 1#1), ∀ a x, ((![v601] : Fin 1 → IVec S16 32) a x).toNat < S4096.size a := fun v431 v601 k0_hw721 k0_h13 => k0_hw721 k0_h13

def k0_chk722 (v431 : BitVec 32) (v604 : IVec S16 32) : Prop :=
  (∀ (k0_h13 : k0_cond13 v431 = 1#1), ∀ a x, ((![v604] : Fin 1 → IVec S16 32) a x).toNat < S43520.size a)
theorem k0_idx715_inb : ∀ (v431 : BitVec 32) (v604 : IVec S16 32) (k0_hw722 : k0_chk722 v431 v604), ∀ (k0_h13 : k0_cond13 v431 = 1#1), ∀ a x, ((![v604] : Fin 1 → IVec S16 32) a x).toNat < S43520.size a := fun v431 v604 k0_hw722 k0_h13 => k0_hw722 k0_h13

def k0_chk723 (v431 : BitVec 32) (v607 : IVec S16 32) : Prop :=
  (∀ (k0_h13 : k0_cond13 v431 = 1#1), ∀ a x, ((![v607] : Fin 1 → IVec S16 32) a x).toNat < S4096.size a)
theorem k0_idx716_inb : ∀ (v431 : BitVec 32) (v607 : IVec S16 32) (k0_hw723 : k0_chk723 v431 v607), ∀ (k0_h13 : k0_cond13 v431 = 1#1), ∀ a x, ((![v607] : Fin 1 → IVec S16 32) a x).toNat < S4096.size a := fun v431 v607 k0_hw723 k0_h13 => k0_hw723 k0_h13

def k0_chk724 (v431 : BitVec 32) (v610 : IVec S16 32) : Prop :=
  (∀ (k0_h13 : k0_cond13 v431 = 1#1), ∀ a x, ((![v610] : Fin 1 → IVec S16 32) a x).toNat < S43520.size a)
theorem k0_idx717_inb : ∀ (v431 : BitVec 32) (v610 : IVec S16 32) (k0_hw724 : k0_chk724 v431 v610), ∀ (k0_h13 : k0_cond13 v431 = 1#1), ∀ a x, ((![v610] : Fin 1 → IVec S16 32) a x).toNat < S43520.size a := fun v431 v610 k0_hw724 k0_h13 => k0_hw724 k0_h13

def k0_chk725 (v431 : BitVec 32) (v613 : IVec S16 32) : Prop :=
  (∀ (k0_h13 : k0_cond13 v431 = 1#1), ∀ a x, ((![v613] : Fin 1 → IVec S16 32) a x).toNat < S4096.size a)
theorem k0_idx718_inb : ∀ (v431 : BitVec 32) (v613 : IVec S16 32) (k0_hw725 : k0_chk725 v431 v613), ∀ (k0_h13 : k0_cond13 v431 = 1#1), ∀ a x, ((![v613] : Fin 1 → IVec S16 32) a x).toNat < S4096.size a := fun v431 v613 k0_hw725 k0_h13 => k0_hw725 k0_h13

def k0_chk726 (v431 : BitVec 32) (v616 : IVec S16 32) : Prop :=
  (∀ (k0_h13 : k0_cond13 v431 = 1#1), ∀ a x, ((![v616] : Fin 1 → IVec S16 32) a x).toNat < S43520.size a)
theorem k0_idx719_inb : ∀ (v431 : BitVec 32) (v616 : IVec S16 32) (k0_hw726 : k0_chk726 v431 v616), ∀ (k0_h13 : k0_cond13 v431 = 1#1), ∀ a x, ((![v616] : Fin 1 → IVec S16 32) a x).toNat < S43520.size a := fun v431 v616 k0_hw726 k0_h13 => k0_hw726 k0_h13

def k0_chk727 (v431 : BitVec 32) (v619 : IVec S16 32) : Prop :=
  (∀ (k0_h13 : k0_cond13 v431 = 1#1), ∀ a x, ((![v619] : Fin 1 → IVec S16 32) a x).toNat < S4096.size a)
theorem k0_idx720_inb : ∀ (v431 : BitVec 32) (v619 : IVec S16 32) (k0_hw727 : k0_chk727 v431 v619), ∀ (k0_h13 : k0_cond13 v431 = 1#1), ∀ a x, ((![v619] : Fin 1 → IVec S16 32) a x).toNat < S4096.size a := fun v431 v619 k0_hw727 k0_h13 => k0_hw727 k0_h13

def k0_chk728 (v431 : BitVec 32) (v622 : IVec S16 32) : Prop :=
  (∀ (k0_h13 : k0_cond13 v431 = 1#1), ∀ a x, ((![v622] : Fin 1 → IVec S16 32) a x).toNat < S43520.size a)
theorem k0_idx721_inb : ∀ (v431 : BitVec 32) (v622 : IVec S16 32) (k0_hw728 : k0_chk728 v431 v622), ∀ (k0_h13 : k0_cond13 v431 = 1#1), ∀ a x, ((![v622] : Fin 1 → IVec S16 32) a x).toNat < S43520.size a := fun v431 v622 k0_hw728 k0_h13 => k0_hw728 k0_h13

def k0_chk729 (v431 : BitVec 32) (v625 : IVec S16 32) : Prop :=
  (∀ (k0_h13 : k0_cond13 v431 = 1#1), ∀ a x, ((![v625] : Fin 1 → IVec S16 32) a x).toNat < S4096.size a)
theorem k0_idx722_inb : ∀ (v431 : BitVec 32) (v625 : IVec S16 32) (k0_hw729 : k0_chk729 v431 v625), ∀ (k0_h13 : k0_cond13 v431 = 1#1), ∀ a x, ((![v625] : Fin 1 → IVec S16 32) a x).toNat < S4096.size a := fun v431 v625 k0_hw729 k0_h13 => k0_hw729 k0_h13
@[reducible] def k0_t16_loop (v346 : BitVec 32) : Scf.Loop 32 :=
  let c0_i32_142 : BitVec 32 := 0#32
  let v347 : BitVec 32 := Scalar.subi v346 c0_i32_142
  let c1_i32_143 : BitVec 32 := 1#32
  let v349 : BitVec 32 := Scalar.divsi v347 c1_i32_143
  let v350 : BitVec 32 := Scalar.muli v349 c1_i32_143
  let v351 : BitVec 32 := Scalar.addi c0_i32_142 v350
  let v348 : BitVec 32 := Scalar.addi c0_i32_142 v347
  let c1_i32_145 : BitVec 32 := 1#32
  ⟨v351, v348, c1_i32_145⟩

def k0_chk674 (v346 : BitVec 32) : Prop :=
  ((k0_t15_loop v346).OK) ∧
  ((k0_t16_loop v346).OK)
theorem k0_t15_ok : ∀ (v346 : BitVec 32) (k0_hw674 : k0_chk674 v346), (k0_t15_loop v346).OK := fun v346 k0_hw674 => k0_hw674.1
theorem k0_t16_ok : ∀ (v346 : BitVec 32) (k0_hw674 : k0_chk674 v346), (k0_t16_loop v346).OK := fun v346 k0_hw674 => k0_hw674.2

def k0_chk730 (v391 : IVec S16 32) : Prop :=
  (∀ a x, ((![v391] : Fin 1 → IVec S16 32) a x).toNat < S14336.size a)
theorem k0_idx723_inb : ∀ (v391 : IVec S16 32) (k0_hw730 : k0_chk730 v391), ∀ a x, ((![v391] : Fin 1 → IVec S16 32) a x).toNat < S14336.size a := fun v391 k0_hw730 => k0_hw730

def k0_chk731 (v399 : IVec S16 32) : Prop :=
  (∀ a x, ((![v399] : Fin 1 → IVec S16 32) a x).toNat < S1280.size a)
theorem k0_idx724_inb : ∀ (v399 : IVec S16 32) (k0_hw731 : k0_chk731 v399), ∀ a x, ((![v399] : Fin 1 → IVec S16 32) a x).toNat < S1280.size a := fun v399 k0_hw731 => k0_hw731
def k0_cond14 (v431 : BitVec 32) : BitVec 1 :=
  let c0_i32_170 : BitVec 32 := 0#32
  let v432 : BitVec 1 := Scalar.cmpi .sgt v431 c0_i32_170
  let v433 : BitVec 32 := Scalar.extui v432
  let c0_i32_171 : BitVec 32 := 0#32
  let v434 : BitVec 1 := Scalar.cmpi .ne v433 c0_i32_171
  v434

def k0_chk732 (v431 : BitVec 32) (v436 : IVec S16 32) : Prop :=
  (∀ (k0_h14 : k0_cond14 v431 = 1#1), ∀ a x, ((![v436] : Fin 1 → IVec S16 32) a x).toNat < S43520.size a)
theorem k0_idx725_inb : ∀ (v431 : BitVec 32) (v436 : IVec S16 32) (k0_hw732 : k0_chk732 v431 v436), ∀ (k0_h14 : k0_cond14 v431 = 1#1), ∀ a x, ((![v436] : Fin 1 → IVec S16 32) a x).toNat < S43520.size a := fun v431 v436 k0_hw732 k0_h14 => k0_hw732 k0_h14

def k0_chk733 (v431 : BitVec 32) (v439 : IVec S16 32) : Prop :=
  (∀ (k0_h14 : k0_cond14 v431 = 1#1), ∀ a x, ((![v439] : Fin 1 → IVec S16 32) a x).toNat < S43520.size a)
theorem k0_idx726_inb : ∀ (v431 : BitVec 32) (v439 : IVec S16 32) (k0_hw733 : k0_chk733 v431 v439), ∀ (k0_h14 : k0_cond14 v431 = 1#1), ∀ a x, ((![v439] : Fin 1 → IVec S16 32) a x).toNat < S43520.size a := fun v431 v439 k0_hw733 k0_h14 => k0_hw733 k0_h14

def k0_chk734 (v431 : BitVec 32) (v442 : IVec S16 32) : Prop :=
  (∀ (k0_h14 : k0_cond14 v431 = 1#1), ∀ a x, ((![v442] : Fin 1 → IVec S16 32) a x).toNat < S43520.size a)
theorem k0_idx727_inb : ∀ (v431 : BitVec 32) (v442 : IVec S16 32) (k0_hw734 : k0_chk734 v431 v442), ∀ (k0_h14 : k0_cond14 v431 = 1#1), ∀ a x, ((![v442] : Fin 1 → IVec S16 32) a x).toNat < S43520.size a := fun v431 v442 k0_hw734 k0_h14 => k0_hw734 k0_h14

def k0_chk735 (v431 : BitVec 32) (v445 : IVec S16 32) : Prop :=
  (∀ (k0_h14 : k0_cond14 v431 = 1#1), ∀ a x, ((![v445] : Fin 1 → IVec S16 32) a x).toNat < S43520.size a)
theorem k0_idx728_inb : ∀ (v431 : BitVec 32) (v445 : IVec S16 32) (k0_hw735 : k0_chk735 v431 v445), ∀ (k0_h14 : k0_cond14 v431 = 1#1), ∀ a x, ((![v445] : Fin 1 → IVec S16 32) a x).toNat < S43520.size a := fun v431 v445 k0_hw735 k0_h14 => k0_hw735 k0_h14

def k0_chk736 (v431 : BitVec 32) (v448 : IVec S16 32) : Prop :=
  (∀ (k0_h14 : k0_cond14 v431 = 1#1), ∀ a x, ((![v448] : Fin 1 → IVec S16 32) a x).toNat < S43520.size a)
theorem k0_idx729_inb : ∀ (v431 : BitVec 32) (v448 : IVec S16 32) (k0_hw736 : k0_chk736 v431 v448), ∀ (k0_h14 : k0_cond14 v431 = 1#1), ∀ a x, ((![v448] : Fin 1 → IVec S16 32) a x).toNat < S43520.size a := fun v431 v448 k0_hw736 k0_h14 => k0_hw736 k0_h14

def k0_chk737 (v431 : BitVec 32) (v451 : IVec S16 32) : Prop :=
  (∀ (k0_h14 : k0_cond14 v431 = 1#1), ∀ a x, ((![v451] : Fin 1 → IVec S16 32) a x).toNat < S43520.size a)
theorem k0_idx730_inb : ∀ (v431 : BitVec 32) (v451 : IVec S16 32) (k0_hw737 : k0_chk737 v431 v451), ∀ (k0_h14 : k0_cond14 v431 = 1#1), ∀ a x, ((![v451] : Fin 1 → IVec S16 32) a x).toNat < S43520.size a := fun v431 v451 k0_hw737 k0_h14 => k0_hw737 k0_h14

def k0_chk738 (v431 : BitVec 32) (v454 : IVec S16 32) : Prop :=
  (∀ (k0_h14 : k0_cond14 v431 = 1#1), ∀ a x, ((![v454] : Fin 1 → IVec S16 32) a x).toNat < S43520.size a)
theorem k0_idx731_inb : ∀ (v431 : BitVec 32) (v454 : IVec S16 32) (k0_hw738 : k0_chk738 v431 v454), ∀ (k0_h14 : k0_cond14 v431 = 1#1), ∀ a x, ((![v454] : Fin 1 → IVec S16 32) a x).toNat < S43520.size a := fun v431 v454 k0_hw738 k0_h14 => k0_hw738 k0_h14

def k0_chk739 (v431 : BitVec 32) (v457 : IVec S16 32) : Prop :=
  (∀ (k0_h14 : k0_cond14 v431 = 1#1), ∀ a x, ((![v457] : Fin 1 → IVec S16 32) a x).toNat < S43520.size a)
theorem k0_idx732_inb : ∀ (v431 : BitVec 32) (v457 : IVec S16 32) (k0_hw739 : k0_chk739 v431 v457), ∀ (k0_h14 : k0_cond14 v431 = 1#1), ∀ a x, ((![v457] : Fin 1 → IVec S16 32) a x).toNat < S43520.size a := fun v431 v457 k0_hw739 k0_h14 => k0_hw739 k0_h14

def k0_chk740 (v431 : BitVec 32) (v460 : IVec S16 32) : Prop :=
  (∀ (k0_h14 : k0_cond14 v431 = 1#1), ∀ a x, ((![v460] : Fin 1 → IVec S16 32) a x).toNat < S43520.size a)
theorem k0_idx733_inb : ∀ (v431 : BitVec 32) (v460 : IVec S16 32) (k0_hw740 : k0_chk740 v431 v460), ∀ (k0_h14 : k0_cond14 v431 = 1#1), ∀ a x, ((![v460] : Fin 1 → IVec S16 32) a x).toNat < S43520.size a := fun v431 v460 k0_hw740 k0_h14 => k0_hw740 k0_h14

def k0_chk741 (v431 : BitVec 32) (v463 : IVec S16 32) : Prop :=
  (∀ (k0_h14 : k0_cond14 v431 = 1#1), ∀ a x, ((![v463] : Fin 1 → IVec S16 32) a x).toNat < S43520.size a)
theorem k0_idx734_inb : ∀ (v431 : BitVec 32) (v463 : IVec S16 32) (k0_hw741 : k0_chk741 v431 v463), ∀ (k0_h14 : k0_cond14 v431 = 1#1), ∀ a x, ((![v463] : Fin 1 → IVec S16 32) a x).toNat < S43520.size a := fun v431 v463 k0_hw741 k0_h14 => k0_hw741 k0_h14

def k0_chk742 (v431 : BitVec 32) (v466 : IVec S16 32) : Prop :=
  (∀ (k0_h14 : k0_cond14 v431 = 1#1), ∀ a x, ((![v466] : Fin 1 → IVec S16 32) a x).toNat < S43520.size a)
theorem k0_idx735_inb : ∀ (v431 : BitVec 32) (v466 : IVec S16 32) (k0_hw742 : k0_chk742 v431 v466), ∀ (k0_h14 : k0_cond14 v431 = 1#1), ∀ a x, ((![v466] : Fin 1 → IVec S16 32) a x).toNat < S43520.size a := fun v431 v466 k0_hw742 k0_h14 => k0_hw742 k0_h14

def k0_chk743 (v431 : BitVec 32) (v477 : IVec S16 32) : Prop :=
  (∀ (k0_h14 : k0_cond14 v431 = 1#1), ∀ a x, ((![v477] : Fin 1 → IVec S16 32) a x).toNat < S43520.size a)
theorem k0_idx736_inb : ∀ (v431 : BitVec 32) (v477 : IVec S16 32) (k0_hw743 : k0_chk743 v431 v477), ∀ (k0_h14 : k0_cond14 v431 = 1#1), ∀ a x, ((![v477] : Fin 1 → IVec S16 32) a x).toNat < S43520.size a := fun v431 v477 k0_hw743 k0_h14 => k0_hw743 k0_h14

def k0_chk744 (v431 : BitVec 32) (v480 : IVec S16 32) : Prop :=
  (∀ (k0_h14 : k0_cond14 v431 = 1#1), ∀ a x, ((![v480] : Fin 1 → IVec S16 32) a x).toNat < S43520.size a)
theorem k0_idx737_inb : ∀ (v431 : BitVec 32) (v480 : IVec S16 32) (k0_hw744 : k0_chk744 v431 v480), ∀ (k0_h14 : k0_cond14 v431 = 1#1), ∀ a x, ((![v480] : Fin 1 → IVec S16 32) a x).toNat < S43520.size a := fun v431 v480 k0_hw744 k0_h14 => k0_hw744 k0_h14

def k0_chk745 (v431 : BitVec 32) (v492 : IVec S16 32) : Prop :=
  (∀ (k0_h14 : k0_cond14 v431 = 1#1), ∀ a x, ((![v492] : Fin 1 → IVec S16 32) a x).toNat < S43520.size a)
theorem k0_idx738_inb : ∀ (v431 : BitVec 32) (v492 : IVec S16 32) (k0_hw745 : k0_chk745 v431 v492), ∀ (k0_h14 : k0_cond14 v431 = 1#1), ∀ a x, ((![v492] : Fin 1 → IVec S16 32) a x).toNat < S43520.size a := fun v431 v492 k0_hw745 k0_h14 => k0_hw745 k0_h14

def k0_chk746 (v431 : BitVec 32) (v495 : IVec S16 32) : Prop :=
  (∀ (k0_h14 : k0_cond14 v431 = 1#1), ∀ a x, ((![v495] : Fin 1 → IVec S16 32) a x).toNat < S43520.size a)
theorem k0_idx739_inb : ∀ (v431 : BitVec 32) (v495 : IVec S16 32) (k0_hw746 : k0_chk746 v431 v495), ∀ (k0_h14 : k0_cond14 v431 = 1#1), ∀ a x, ((![v495] : Fin 1 → IVec S16 32) a x).toNat < S43520.size a := fun v431 v495 k0_hw746 k0_h14 => k0_hw746 k0_h14

def k0_chk747 (v431 : BitVec 32) (v507 : IVec S16 32) : Prop :=
  (∀ (k0_h14 : k0_cond14 v431 = 1#1), ∀ a x, ((![v507] : Fin 1 → IVec S16 32) a x).toNat < S43520.size a)
theorem k0_idx740_inb : ∀ (v431 : BitVec 32) (v507 : IVec S16 32) (k0_hw747 : k0_chk747 v431 v507), ∀ (k0_h14 : k0_cond14 v431 = 1#1), ∀ a x, ((![v507] : Fin 1 → IVec S16 32) a x).toNat < S43520.size a := fun v431 v507 k0_hw747 k0_h14 => k0_hw747 k0_h14

def k0_chk748 (v431 : BitVec 32) (v518 : IVec S16 32) : Prop :=
  (∀ (k0_h14 : k0_cond14 v431 = 1#1), ∀ a x, ((![v518] : Fin 1 → IVec S16 32) a x).toNat < S4096.size a)
theorem k0_idx741_inb : ∀ (v431 : BitVec 32) (v518 : IVec S16 32) (k0_hw748 : k0_chk748 v431 v518), ∀ (k0_h14 : k0_cond14 v431 = 1#1), ∀ a x, ((![v518] : Fin 1 → IVec S16 32) a x).toNat < S4096.size a := fun v431 v518 k0_hw748 k0_h14 => k0_hw748 k0_h14

def k0_chk749 (v431 : BitVec 32) (v520 : IVec S16 32) : Prop :=
  (∀ (k0_h14 : k0_cond14 v431 = 1#1), ∀ a x, ((![v520] : Fin 1 → IVec S16 32) a x).toNat < S43520.size a)
theorem k0_idx742_inb : ∀ (v431 : BitVec 32) (v520 : IVec S16 32) (k0_hw749 : k0_chk749 v431 v520), ∀ (k0_h14 : k0_cond14 v431 = 1#1), ∀ a x, ((![v520] : Fin 1 → IVec S16 32) a x).toNat < S43520.size a := fun v431 v520 k0_hw749 k0_h14 => k0_hw749 k0_h14

def k0_chk750 (v431 : BitVec 32) (v523 : IVec S16 32) : Prop :=
  (∀ (k0_h14 : k0_cond14 v431 = 1#1), ∀ a x, ((![v523] : Fin 1 → IVec S16 32) a x).toNat < S4096.size a)
theorem k0_idx743_inb : ∀ (v431 : BitVec 32) (v523 : IVec S16 32) (k0_hw750 : k0_chk750 v431 v523), ∀ (k0_h14 : k0_cond14 v431 = 1#1), ∀ a x, ((![v523] : Fin 1 → IVec S16 32) a x).toNat < S4096.size a := fun v431 v523 k0_hw750 k0_h14 => k0_hw750 k0_h14

def k0_chk751 (v431 : BitVec 32) (v526 : IVec S16 32) : Prop :=
  (∀ (k0_h14 : k0_cond14 v431 = 1#1), ∀ a x, ((![v526] : Fin 1 → IVec S16 32) a x).toNat < S43520.size a)
theorem k0_idx744_inb : ∀ (v431 : BitVec 32) (v526 : IVec S16 32) (k0_hw751 : k0_chk751 v431 v526), ∀ (k0_h14 : k0_cond14 v431 = 1#1), ∀ a x, ((![v526] : Fin 1 → IVec S16 32) a x).toNat < S43520.size a := fun v431 v526 k0_hw751 k0_h14 => k0_hw751 k0_h14

def k0_chk752 (v431 : BitVec 32) (v529 : IVec S16 32) : Prop :=
  (∀ (k0_h14 : k0_cond14 v431 = 1#1), ∀ a x, ((![v529] : Fin 1 → IVec S16 32) a x).toNat < S4096.size a)
theorem k0_idx745_inb : ∀ (v431 : BitVec 32) (v529 : IVec S16 32) (k0_hw752 : k0_chk752 v431 v529), ∀ (k0_h14 : k0_cond14 v431 = 1#1), ∀ a x, ((![v529] : Fin 1 → IVec S16 32) a x).toNat < S4096.size a := fun v431 v529 k0_hw752 k0_h14 => k0_hw752 k0_h14

def k0_chk753 (v431 : BitVec 32) (v532 : IVec S16 32) : Prop :=
  (∀ (k0_h14 : k0_cond14 v431 = 1#1), ∀ a x, ((![v532] : Fin 1 → IVec S16 32) a x).toNat < S43520.size a)
theorem k0_idx746_inb : ∀ (v431 : BitVec 32) (v532 : IVec S16 32) (k0_hw753 : k0_chk753 v431 v532), ∀ (k0_h14 : k0_cond14 v431 = 1#1), ∀ a x, ((![v532] : Fin 1 → IVec S16 32) a x).toNat < S43520.size a := fun v431 v532 k0_hw753 k0_h14 => k0_hw753 k0_h14

def k0_chk754 (v431 : BitVec 32) (v535 : IVec S16 32) : Prop :=
  (∀ (k0_h14 : k0_cond14 v431 = 1#1), ∀ a x, ((![v535] : Fin 1 → IVec S16 32) a x).toNat < S4096.size a)
theorem k0_idx747_inb : ∀ (v431 : BitVec 32) (v535 : IVec S16 32) (k0_hw754 : k0_chk754 v431 v535), ∀ (k0_h14 : k0_cond14 v431 = 1#1), ∀ a x, ((![v535] : Fin 1 → IVec S16 32) a x).toNat < S4096.size a := fun v431 v535 k0_hw754 k0_h14 => k0_hw754 k0_h14

def k0_chk755 (v431 : BitVec 32) (v538 : IVec S16 32) : Prop :=
  (∀ (k0_h14 : k0_cond14 v431 = 1#1), ∀ a x, ((![v538] : Fin 1 → IVec S16 32) a x).toNat < S43520.size a)
theorem k0_idx748_inb : ∀ (v431 : BitVec 32) (v538 : IVec S16 32) (k0_hw755 : k0_chk755 v431 v538), ∀ (k0_h14 : k0_cond14 v431 = 1#1), ∀ a x, ((![v538] : Fin 1 → IVec S16 32) a x).toNat < S43520.size a := fun v431 v538 k0_hw755 k0_h14 => k0_hw755 k0_h14

def k0_chk756 (v431 : BitVec 32) (v541 : IVec S16 32) : Prop :=
  (∀ (k0_h14 : k0_cond14 v431 = 1#1), ∀ a x, ((![v541] : Fin 1 → IVec S16 32) a x).toNat < S4096.size a)
theorem k0_idx749_inb : ∀ (v431 : BitVec 32) (v541 : IVec S16 32) (k0_hw756 : k0_chk756 v431 v541), ∀ (k0_h14 : k0_cond14 v431 = 1#1), ∀ a x, ((![v541] : Fin 1 → IVec S16 32) a x).toNat < S4096.size a := fun v431 v541 k0_hw756 k0_h14 => k0_hw756 k0_h14

def k0_chk757 (v431 : BitVec 32) (v544 : IVec S16 32) : Prop :=
  (∀ (k0_h14 : k0_cond14 v431 = 1#1), ∀ a x, ((![v544] : Fin 1 → IVec S16 32) a x).toNat < S43520.size a)
theorem k0_idx750_inb : ∀ (v431 : BitVec 32) (v544 : IVec S16 32) (k0_hw757 : k0_chk757 v431 v544), ∀ (k0_h14 : k0_cond14 v431 = 1#1), ∀ a x, ((![v544] : Fin 1 → IVec S16 32) a x).toNat < S43520.size a := fun v431 v544 k0_hw757 k0_h14 => k0_hw757 k0_h14

def k0_chk758 (v431 : BitVec 32) (v547 : IVec S16 32) : Prop :=
  (∀ (k0_h14 : k0_cond14 v431 = 1#1), ∀ a x, ((![v547] : Fin 1 → IVec S16 32) a x).toNat < S4096.size a)
theorem k0_idx751_inb : ∀ (v431 : BitVec 32) (v547 : IVec S16 32) (k0_hw758 : k0_chk758 v431 v547), ∀ (k0_h14 : k0_cond14 v431 = 1#1), ∀ a x, ((![v547] : Fin 1 → IVec S16 32) a x).toNat < S4096.size a := fun v431 v547 k0_hw758 k0_h14 => k0_hw758 k0_h14

def k0_chk759 (v431 : BitVec 32) (v550 : IVec S16 32) : Prop :=
  (∀ (k0_h14 : k0_cond14 v431 = 1#1), ∀ a x, ((![v550] : Fin 1 → IVec S16 32) a x).toNat < S43520.size a)
theorem k0_idx752_inb : ∀ (v431 : BitVec 32) (v550 : IVec S16 32) (k0_hw759 : k0_chk759 v431 v550), ∀ (k0_h14 : k0_cond14 v431 = 1#1), ∀ a x, ((![v550] : Fin 1 → IVec S16 32) a x).toNat < S43520.size a := fun v431 v550 k0_hw759 k0_h14 => k0_hw759 k0_h14

def k0_chk760 (v431 : BitVec 32) (v553 : IVec S16 32) : Prop :=
  (∀ (k0_h14 : k0_cond14 v431 = 1#1), ∀ a x, ((![v553] : Fin 1 → IVec S16 32) a x).toNat < S4096.size a)
theorem k0_idx753_inb : ∀ (v431 : BitVec 32) (v553 : IVec S16 32) (k0_hw760 : k0_chk760 v431 v553), ∀ (k0_h14 : k0_cond14 v431 = 1#1), ∀ a x, ((![v553] : Fin 1 → IVec S16 32) a x).toNat < S4096.size a := fun v431 v553 k0_hw760 k0_h14 => k0_hw760 k0_h14

def k0_chk761 (v431 : BitVec 32) (v556 : IVec S16 32) : Prop :=
  (∀ (k0_h14 : k0_cond14 v431 = 1#1), ∀ a x, ((![v556] : Fin 1 → IVec S16 32) a x).toNat < S43520.size a)
theorem k0_idx754_inb : ∀ (v431 : BitVec 32) (v556 : IVec S16 32) (k0_hw761 : k0_chk761 v431 v556), ∀ (k0_h14 : k0_cond14 v431 = 1#1), ∀ a x, ((![v556] : Fin 1 → IVec S16 32) a x).toNat < S43520.size a := fun v431 v556 k0_hw761 k0_h14 => k0_hw761 k0_h14

def k0_chk762 (v431 : BitVec 32) (v559 : IVec S16 32) : Prop :=
  (∀ (k0_h14 : k0_cond14 v431 = 1#1), ∀ a x, ((![v559] : Fin 1 → IVec S16 32) a x).toNat < S4096.size a)
theorem k0_idx755_inb : ∀ (v431 : BitVec 32) (v559 : IVec S16 32) (k0_hw762 : k0_chk762 v431 v559), ∀ (k0_h14 : k0_cond14 v431 = 1#1), ∀ a x, ((![v559] : Fin 1 → IVec S16 32) a x).toNat < S4096.size a := fun v431 v559 k0_hw762 k0_h14 => k0_hw762 k0_h14

def k0_chk763 (v431 : BitVec 32) (v562 : IVec S16 32) : Prop :=
  (∀ (k0_h14 : k0_cond14 v431 = 1#1), ∀ a x, ((![v562] : Fin 1 → IVec S16 32) a x).toNat < S43520.size a)
theorem k0_idx756_inb : ∀ (v431 : BitVec 32) (v562 : IVec S16 32) (k0_hw763 : k0_chk763 v431 v562), ∀ (k0_h14 : k0_cond14 v431 = 1#1), ∀ a x, ((![v562] : Fin 1 → IVec S16 32) a x).toNat < S43520.size a := fun v431 v562 k0_hw763 k0_h14 => k0_hw763 k0_h14

def k0_chk764 (v431 : BitVec 32) (v565 : IVec S16 32) : Prop :=
  (∀ (k0_h14 : k0_cond14 v431 = 1#1), ∀ a x, ((![v565] : Fin 1 → IVec S16 32) a x).toNat < S4096.size a)
theorem k0_idx757_inb : ∀ (v431 : BitVec 32) (v565 : IVec S16 32) (k0_hw764 : k0_chk764 v431 v565), ∀ (k0_h14 : k0_cond14 v431 = 1#1), ∀ a x, ((![v565] : Fin 1 → IVec S16 32) a x).toNat < S4096.size a := fun v431 v565 k0_hw764 k0_h14 => k0_hw764 k0_h14

def k0_chk765 (v431 : BitVec 32) (v568 : IVec S16 32) : Prop :=
  (∀ (k0_h14 : k0_cond14 v431 = 1#1), ∀ a x, ((![v568] : Fin 1 → IVec S16 32) a x).toNat < S43520.size a)
theorem k0_idx758_inb : ∀ (v431 : BitVec 32) (v568 : IVec S16 32) (k0_hw765 : k0_chk765 v431 v568), ∀ (k0_h14 : k0_cond14 v431 = 1#1), ∀ a x, ((![v568] : Fin 1 → IVec S16 32) a x).toNat < S43520.size a := fun v431 v568 k0_hw765 k0_h14 => k0_hw765 k0_h14

def k0_chk766 (v431 : BitVec 32) (v571 : IVec S16 32) : Prop :=
  (∀ (k0_h14 : k0_cond14 v431 = 1#1), ∀ a x, ((![v571] : Fin 1 → IVec S16 32) a x).toNat < S4096.size a)
theorem k0_idx759_inb : ∀ (v431 : BitVec 32) (v571 : IVec S16 32) (k0_hw766 : k0_chk766 v431 v571), ∀ (k0_h14 : k0_cond14 v431 = 1#1), ∀ a x, ((![v571] : Fin 1 → IVec S16 32) a x).toNat < S4096.size a := fun v431 v571 k0_hw766 k0_h14 => k0_hw766 k0_h14

def k0_chk767 (v431 : BitVec 32) (v574 : IVec S16 32) : Prop :=
  (∀ (k0_h14 : k0_cond14 v431 = 1#1), ∀ a x, ((![v574] : Fin 1 → IVec S16 32) a x).toNat < S43520.size a)
theorem k0_idx760_inb : ∀ (v431 : BitVec 32) (v574 : IVec S16 32) (k0_hw767 : k0_chk767 v431 v574), ∀ (k0_h14 : k0_cond14 v431 = 1#1), ∀ a x, ((![v574] : Fin 1 → IVec S16 32) a x).toNat < S43520.size a := fun v431 v574 k0_hw767 k0_h14 => k0_hw767 k0_h14

def k0_chk768 (v431 : BitVec 32) (v577 : IVec S16 32) : Prop :=
  (∀ (k0_h14 : k0_cond14 v431 = 1#1), ∀ a x, ((![v577] : Fin 1 → IVec S16 32) a x).toNat < S4096.size a)
theorem k0_idx761_inb : ∀ (v431 : BitVec 32) (v577 : IVec S16 32) (k0_hw768 : k0_chk768 v431 v577), ∀ (k0_h14 : k0_cond14 v431 = 1#1), ∀ a x, ((![v577] : Fin 1 → IVec S16 32) a x).toNat < S4096.size a := fun v431 v577 k0_hw768 k0_h14 => k0_hw768 k0_h14

def k0_chk769 (v431 : BitVec 32) (v580 : IVec S16 32) : Prop :=
  (∀ (k0_h14 : k0_cond14 v431 = 1#1), ∀ a x, ((![v580] : Fin 1 → IVec S16 32) a x).toNat < S43520.size a)
theorem k0_idx762_inb : ∀ (v431 : BitVec 32) (v580 : IVec S16 32) (k0_hw769 : k0_chk769 v431 v580), ∀ (k0_h14 : k0_cond14 v431 = 1#1), ∀ a x, ((![v580] : Fin 1 → IVec S16 32) a x).toNat < S43520.size a := fun v431 v580 k0_hw769 k0_h14 => k0_hw769 k0_h14

def k0_chk770 (v431 : BitVec 32) (v583 : IVec S16 32) : Prop :=
  (∀ (k0_h14 : k0_cond14 v431 = 1#1), ∀ a x, ((![v583] : Fin 1 → IVec S16 32) a x).toNat < S4096.size a)
theorem k0_idx763_inb : ∀ (v431 : BitVec 32) (v583 : IVec S16 32) (k0_hw770 : k0_chk770 v431 v583), ∀ (k0_h14 : k0_cond14 v431 = 1#1), ∀ a x, ((![v583] : Fin 1 → IVec S16 32) a x).toNat < S4096.size a := fun v431 v583 k0_hw770 k0_h14 => k0_hw770 k0_h14

def k0_chk771 (v431 : BitVec 32) (v586 : IVec S16 32) : Prop :=
  (∀ (k0_h14 : k0_cond14 v431 = 1#1), ∀ a x, ((![v586] : Fin 1 → IVec S16 32) a x).toNat < S43520.size a)
theorem k0_idx764_inb : ∀ (v431 : BitVec 32) (v586 : IVec S16 32) (k0_hw771 : k0_chk771 v431 v586), ∀ (k0_h14 : k0_cond14 v431 = 1#1), ∀ a x, ((![v586] : Fin 1 → IVec S16 32) a x).toNat < S43520.size a := fun v431 v586 k0_hw771 k0_h14 => k0_hw771 k0_h14

def k0_chk772 (v431 : BitVec 32) (v589 : IVec S16 32) : Prop :=
  (∀ (k0_h14 : k0_cond14 v431 = 1#1), ∀ a x, ((![v589] : Fin 1 → IVec S16 32) a x).toNat < S4096.size a)
theorem k0_idx765_inb : ∀ (v431 : BitVec 32) (v589 : IVec S16 32) (k0_hw772 : k0_chk772 v431 v589), ∀ (k0_h14 : k0_cond14 v431 = 1#1), ∀ a x, ((![v589] : Fin 1 → IVec S16 32) a x).toNat < S4096.size a := fun v431 v589 k0_hw772 k0_h14 => k0_hw772 k0_h14

def k0_chk773 (v431 : BitVec 32) (v592 : IVec S16 32) : Prop :=
  (∀ (k0_h14 : k0_cond14 v431 = 1#1), ∀ a x, ((![v592] : Fin 1 → IVec S16 32) a x).toNat < S43520.size a)
theorem k0_idx766_inb : ∀ (v431 : BitVec 32) (v592 : IVec S16 32) (k0_hw773 : k0_chk773 v431 v592), ∀ (k0_h14 : k0_cond14 v431 = 1#1), ∀ a x, ((![v592] : Fin 1 → IVec S16 32) a x).toNat < S43520.size a := fun v431 v592 k0_hw773 k0_h14 => k0_hw773 k0_h14

def k0_chk774 (v431 : BitVec 32) (v595 : IVec S16 32) : Prop :=
  (∀ (k0_h14 : k0_cond14 v431 = 1#1), ∀ a x, ((![v595] : Fin 1 → IVec S16 32) a x).toNat < S4096.size a)
theorem k0_idx767_inb : ∀ (v431 : BitVec 32) (v595 : IVec S16 32) (k0_hw774 : k0_chk774 v431 v595), ∀ (k0_h14 : k0_cond14 v431 = 1#1), ∀ a x, ((![v595] : Fin 1 → IVec S16 32) a x).toNat < S4096.size a := fun v431 v595 k0_hw774 k0_h14 => k0_hw774 k0_h14

def k0_chk775 (v431 : BitVec 32) (v598 : IVec S16 32) : Prop :=
  (∀ (k0_h14 : k0_cond14 v431 = 1#1), ∀ a x, ((![v598] : Fin 1 → IVec S16 32) a x).toNat < S43520.size a)
theorem k0_idx768_inb : ∀ (v431 : BitVec 32) (v598 : IVec S16 32) (k0_hw775 : k0_chk775 v431 v598), ∀ (k0_h14 : k0_cond14 v431 = 1#1), ∀ a x, ((![v598] : Fin 1 → IVec S16 32) a x).toNat < S43520.size a := fun v431 v598 k0_hw775 k0_h14 => k0_hw775 k0_h14

def k0_chk776 (v431 : BitVec 32) (v601 : IVec S16 32) : Prop :=
  (∀ (k0_h14 : k0_cond14 v431 = 1#1), ∀ a x, ((![v601] : Fin 1 → IVec S16 32) a x).toNat < S4096.size a)
theorem k0_idx769_inb : ∀ (v431 : BitVec 32) (v601 : IVec S16 32) (k0_hw776 : k0_chk776 v431 v601), ∀ (k0_h14 : k0_cond14 v431 = 1#1), ∀ a x, ((![v601] : Fin 1 → IVec S16 32) a x).toNat < S4096.size a := fun v431 v601 k0_hw776 k0_h14 => k0_hw776 k0_h14

def k0_chk777 (v431 : BitVec 32) (v604 : IVec S16 32) : Prop :=
  (∀ (k0_h14 : k0_cond14 v431 = 1#1), ∀ a x, ((![v604] : Fin 1 → IVec S16 32) a x).toNat < S43520.size a)
theorem k0_idx770_inb : ∀ (v431 : BitVec 32) (v604 : IVec S16 32) (k0_hw777 : k0_chk777 v431 v604), ∀ (k0_h14 : k0_cond14 v431 = 1#1), ∀ a x, ((![v604] : Fin 1 → IVec S16 32) a x).toNat < S43520.size a := fun v431 v604 k0_hw777 k0_h14 => k0_hw777 k0_h14

def k0_chk778 (v431 : BitVec 32) (v607 : IVec S16 32) : Prop :=
  (∀ (k0_h14 : k0_cond14 v431 = 1#1), ∀ a x, ((![v607] : Fin 1 → IVec S16 32) a x).toNat < S4096.size a)
theorem k0_idx771_inb : ∀ (v431 : BitVec 32) (v607 : IVec S16 32) (k0_hw778 : k0_chk778 v431 v607), ∀ (k0_h14 : k0_cond14 v431 = 1#1), ∀ a x, ((![v607] : Fin 1 → IVec S16 32) a x).toNat < S4096.size a := fun v431 v607 k0_hw778 k0_h14 => k0_hw778 k0_h14

def k0_chk779 (v431 : BitVec 32) (v610 : IVec S16 32) : Prop :=
  (∀ (k0_h14 : k0_cond14 v431 = 1#1), ∀ a x, ((![v610] : Fin 1 → IVec S16 32) a x).toNat < S43520.size a)
theorem k0_idx772_inb : ∀ (v431 : BitVec 32) (v610 : IVec S16 32) (k0_hw779 : k0_chk779 v431 v610), ∀ (k0_h14 : k0_cond14 v431 = 1#1), ∀ a x, ((![v610] : Fin 1 → IVec S16 32) a x).toNat < S43520.size a := fun v431 v610 k0_hw779 k0_h14 => k0_hw779 k0_h14

def k0_chk780 (v431 : BitVec 32) (v613 : IVec S16 32) : Prop :=
  (∀ (k0_h14 : k0_cond14 v431 = 1#1), ∀ a x, ((![v613] : Fin 1 → IVec S16 32) a x).toNat < S4096.size a)
theorem k0_idx773_inb : ∀ (v431 : BitVec 32) (v613 : IVec S16 32) (k0_hw780 : k0_chk780 v431 v613), ∀ (k0_h14 : k0_cond14 v431 = 1#1), ∀ a x, ((![v613] : Fin 1 → IVec S16 32) a x).toNat < S4096.size a := fun v431 v613 k0_hw780 k0_h14 => k0_hw780 k0_h14

def k0_chk781 (v431 : BitVec 32) (v616 : IVec S16 32) : Prop :=
  (∀ (k0_h14 : k0_cond14 v431 = 1#1), ∀ a x, ((![v616] : Fin 1 → IVec S16 32) a x).toNat < S43520.size a)
theorem k0_idx774_inb : ∀ (v431 : BitVec 32) (v616 : IVec S16 32) (k0_hw781 : k0_chk781 v431 v616), ∀ (k0_h14 : k0_cond14 v431 = 1#1), ∀ a x, ((![v616] : Fin 1 → IVec S16 32) a x).toNat < S43520.size a := fun v431 v616 k0_hw781 k0_h14 => k0_hw781 k0_h14

def k0_chk782 (v431 : BitVec 32) (v619 : IVec S16 32) : Prop :=
  (∀ (k0_h14 : k0_cond14 v431 = 1#1), ∀ a x, ((![v619] : Fin 1 → IVec S16 32) a x).toNat < S4096.size a)
theorem k0_idx775_inb : ∀ (v431 : BitVec 32) (v619 : IVec S16 32) (k0_hw782 : k0_chk782 v431 v619), ∀ (k0_h14 : k0_cond14 v431 = 1#1), ∀ a x, ((![v619] : Fin 1 → IVec S16 32) a x).toNat < S4096.size a := fun v431 v619 k0_hw782 k0_h14 => k0_hw782 k0_h14

def k0_chk783 (v431 : BitVec 32) (v622 : IVec S16 32) : Prop :=
  (∀ (k0_h14 : k0_cond14 v431 = 1#1), ∀ a x, ((![v622] : Fin 1 → IVec S16 32) a x).toNat < S43520.size a)
theorem k0_idx776_inb : ∀ (v431 : BitVec 32) (v622 : IVec S16 32) (k0_hw783 : k0_chk783 v431 v622), ∀ (k0_h14 : k0_cond14 v431 = 1#1), ∀ a x, ((![v622] : Fin 1 → IVec S16 32) a x).toNat < S43520.size a := fun v431 v622 k0_hw783 k0_h14 => k0_hw783 k0_h14

def k0_chk784 (v431 : BitVec 32) (v625 : IVec S16 32) : Prop :=
  (∀ (k0_h14 : k0_cond14 v431 = 1#1), ∀ a x, ((![v625] : Fin 1 → IVec S16 32) a x).toNat < S4096.size a)
theorem k0_idx777_inb : ∀ (v431 : BitVec 32) (v625 : IVec S16 32) (k0_hw784 : k0_chk784 v431 v625), ∀ (k0_h14 : k0_cond14 v431 = 1#1), ∀ a x, ((![v625] : Fin 1 → IVec S16 32) a x).toNat < S4096.size a := fun v431 v625 k0_hw784 k0_h14 => k0_hw784 k0_h14

def k0_chk785 (v369 : IVec S16 32) : Prop :=
  (∀ a x, ((![v369] : Fin 1 → IVec S16 32) a x).toNat < S512.size a)
theorem k0_idx778_inb : ∀ (v369 : IVec S16 32) (k0_hw785 : k0_chk785 v369), ∀ a x, ((![v369] : Fin 1 → IVec S16 32) a x).toNat < S512.size a := fun v369 k0_hw785 => k0_hw785
@[reducible] def k0_t17_loop (v378 : BitVec 32) : Scf.Loop 32 :=
  let c0_i32_156 : BitVec 32 := 0#32
  let v379 : BitVec 32 := Scalar.subi v378 c0_i32_156
  let c1_i32_157 : BitVec 32 := 1#32
  let v381 : BitVec 32 := Scalar.divsi v379 c1_i32_157
  let v382 : BitVec 32 := Scalar.muli v381 c1_i32_157
  let v383 : BitVec 32 := Scalar.addi c0_i32_156 v382
  let c1_i32_158 : BitVec 32 := 1#32
  ⟨c0_i32_156, v383, c1_i32_158⟩

def k0_chk787 (v391 : IVec S16 32) : Prop :=
  (∀ a x, ((![v391] : Fin 1 → IVec S16 32) a x).toNat < S14336.size a)
theorem k0_idx779_inb : ∀ (v391 : IVec S16 32) (k0_hw787 : k0_chk787 v391), ∀ a x, ((![v391] : Fin 1 → IVec S16 32) a x).toNat < S14336.size a := fun v391 k0_hw787 => k0_hw787

def k0_chk788 (v399 : IVec S16 32) : Prop :=
  (∀ a x, ((![v399] : Fin 1 → IVec S16 32) a x).toNat < S1280.size a)
theorem k0_idx780_inb : ∀ (v399 : IVec S16 32) (k0_hw788 : k0_chk788 v399), ∀ a x, ((![v399] : Fin 1 → IVec S16 32) a x).toNat < S1280.size a := fun v399 k0_hw788 => k0_hw788
def k0_cond15 (v431 : BitVec 32) : BitVec 1 :=
  let c0_i32_170 : BitVec 32 := 0#32
  let v432 : BitVec 1 := Scalar.cmpi .sgt v431 c0_i32_170
  let v433 : BitVec 32 := Scalar.extui v432
  let c0_i32_171 : BitVec 32 := 0#32
  let v434 : BitVec 1 := Scalar.cmpi .ne v433 c0_i32_171
  v434

def k0_chk789 (v431 : BitVec 32) (v436 : IVec S16 32) : Prop :=
  (∀ (k0_h15 : k0_cond15 v431 = 1#1), ∀ a x, ((![v436] : Fin 1 → IVec S16 32) a x).toNat < S43520.size a)
theorem k0_idx781_inb : ∀ (v431 : BitVec 32) (v436 : IVec S16 32) (k0_hw789 : k0_chk789 v431 v436), ∀ (k0_h15 : k0_cond15 v431 = 1#1), ∀ a x, ((![v436] : Fin 1 → IVec S16 32) a x).toNat < S43520.size a := fun v431 v436 k0_hw789 k0_h15 => k0_hw789 k0_h15

def k0_chk790 (v431 : BitVec 32) (v439 : IVec S16 32) : Prop :=
  (∀ (k0_h15 : k0_cond15 v431 = 1#1), ∀ a x, ((![v439] : Fin 1 → IVec S16 32) a x).toNat < S43520.size a)
theorem k0_idx782_inb : ∀ (v431 : BitVec 32) (v439 : IVec S16 32) (k0_hw790 : k0_chk790 v431 v439), ∀ (k0_h15 : k0_cond15 v431 = 1#1), ∀ a x, ((![v439] : Fin 1 → IVec S16 32) a x).toNat < S43520.size a := fun v431 v439 k0_hw790 k0_h15 => k0_hw790 k0_h15

def k0_chk791 (v431 : BitVec 32) (v442 : IVec S16 32) : Prop :=
  (∀ (k0_h15 : k0_cond15 v431 = 1#1), ∀ a x, ((![v442] : Fin 1 → IVec S16 32) a x).toNat < S43520.size a)
theorem k0_idx783_inb : ∀ (v431 : BitVec 32) (v442 : IVec S16 32) (k0_hw791 : k0_chk791 v431 v442), ∀ (k0_h15 : k0_cond15 v431 = 1#1), ∀ a x, ((![v442] : Fin 1 → IVec S16 32) a x).toNat < S43520.size a := fun v431 v442 k0_hw791 k0_h15 => k0_hw791 k0_h15

def k0_chk792 (v431 : BitVec 32) (v445 : IVec S16 32) : Prop :=
  (∀ (k0_h15 : k0_cond15 v431 = 1#1), ∀ a x, ((![v445] : Fin 1 → IVec S16 32) a x).toNat < S43520.size a)
theorem k0_idx784_inb : ∀ (v431 : BitVec 32) (v445 : IVec S16 32) (k0_hw792 : k0_chk792 v431 v445), ∀ (k0_h15 : k0_cond15 v431 = 1#1), ∀ a x, ((![v445] : Fin 1 → IVec S16 32) a x).toNat < S43520.size a := fun v431 v445 k0_hw792 k0_h15 => k0_hw792 k0_h15

def k0_chk793 (v431 : BitVec 32) (v448 : IVec S16 32) : Prop :=
  (∀ (k0_h15 : k0_cond15 v431 = 1#1), ∀ a x, ((![v448] : Fin 1 → IVec S16 32) a x).toNat < S43520.size a)
theorem k0_idx785_inb : ∀ (v431 : BitVec 32) (v448 : IVec S16 32) (k0_hw793 : k0_chk793 v431 v448), ∀ (k0_h15 : k0_cond15 v431 = 1#1), ∀ a x, ((![v448] : Fin 1 → IVec S16 32) a x).toNat < S43520.size a := fun v431 v448 k0_hw793 k0_h15 => k0_hw793 k0_h15

def k0_chk794 (v431 : BitVec 32) (v451 : IVec S16 32) : Prop :=
  (∀ (k0_h15 : k0_cond15 v431 = 1#1), ∀ a x, ((![v451] : Fin 1 → IVec S16 32) a x).toNat < S43520.size a)
theorem k0_idx786_inb : ∀ (v431 : BitVec 32) (v451 : IVec S16 32) (k0_hw794 : k0_chk794 v431 v451), ∀ (k0_h15 : k0_cond15 v431 = 1#1), ∀ a x, ((![v451] : Fin 1 → IVec S16 32) a x).toNat < S43520.size a := fun v431 v451 k0_hw794 k0_h15 => k0_hw794 k0_h15

def k0_chk795 (v431 : BitVec 32) (v454 : IVec S16 32) : Prop :=
  (∀ (k0_h15 : k0_cond15 v431 = 1#1), ∀ a x, ((![v454] : Fin 1 → IVec S16 32) a x).toNat < S43520.size a)
theorem k0_idx787_inb : ∀ (v431 : BitVec 32) (v454 : IVec S16 32) (k0_hw795 : k0_chk795 v431 v454), ∀ (k0_h15 : k0_cond15 v431 = 1#1), ∀ a x, ((![v454] : Fin 1 → IVec S16 32) a x).toNat < S43520.size a := fun v431 v454 k0_hw795 k0_h15 => k0_hw795 k0_h15

def k0_chk796 (v431 : BitVec 32) (v457 : IVec S16 32) : Prop :=
  (∀ (k0_h15 : k0_cond15 v431 = 1#1), ∀ a x, ((![v457] : Fin 1 → IVec S16 32) a x).toNat < S43520.size a)
theorem k0_idx788_inb : ∀ (v431 : BitVec 32) (v457 : IVec S16 32) (k0_hw796 : k0_chk796 v431 v457), ∀ (k0_h15 : k0_cond15 v431 = 1#1), ∀ a x, ((![v457] : Fin 1 → IVec S16 32) a x).toNat < S43520.size a := fun v431 v457 k0_hw796 k0_h15 => k0_hw796 k0_h15

def k0_chk797 (v431 : BitVec 32) (v460 : IVec S16 32) : Prop :=
  (∀ (k0_h15 : k0_cond15 v431 = 1#1), ∀ a x, ((![v460] : Fin 1 → IVec S16 32) a x).toNat < S43520.size a)
theorem k0_idx789_inb : ∀ (v431 : BitVec 32) (v460 : IVec S16 32) (k0_hw797 : k0_chk797 v431 v460), ∀ (k0_h15 : k0_cond15 v431 = 1#1), ∀ a x, ((![v460] : Fin 1 → IVec S16 32) a x).toNat < S43520.size a := fun v431 v460 k0_hw797 k0_h15 => k0_hw797 k0_h15

def k0_chk798 (v431 : BitVec 32) (v463 : IVec S16 32) : Prop :=
  (∀ (k0_h15 : k0_cond15 v431 = 1#1), ∀ a x, ((![v463] : Fin 1 → IVec S16 32) a x).toNat < S43520.size a)
theorem k0_idx790_inb : ∀ (v431 : BitVec 32) (v463 : IVec S16 32) (k0_hw798 : k0_chk798 v431 v463), ∀ (k0_h15 : k0_cond15 v431 = 1#1), ∀ a x, ((![v463] : Fin 1 → IVec S16 32) a x).toNat < S43520.size a := fun v431 v463 k0_hw798 k0_h15 => k0_hw798 k0_h15

def k0_chk799 (v431 : BitVec 32) (v466 : IVec S16 32) : Prop :=
  (∀ (k0_h15 : k0_cond15 v431 = 1#1), ∀ a x, ((![v466] : Fin 1 → IVec S16 32) a x).toNat < S43520.size a)
theorem k0_idx791_inb : ∀ (v431 : BitVec 32) (v466 : IVec S16 32) (k0_hw799 : k0_chk799 v431 v466), ∀ (k0_h15 : k0_cond15 v431 = 1#1), ∀ a x, ((![v466] : Fin 1 → IVec S16 32) a x).toNat < S43520.size a := fun v431 v466 k0_hw799 k0_h15 => k0_hw799 k0_h15

def k0_chk800 (v431 : BitVec 32) (v477 : IVec S16 32) : Prop :=
  (∀ (k0_h15 : k0_cond15 v431 = 1#1), ∀ a x, ((![v477] : Fin 1 → IVec S16 32) a x).toNat < S43520.size a)
theorem k0_idx792_inb : ∀ (v431 : BitVec 32) (v477 : IVec S16 32) (k0_hw800 : k0_chk800 v431 v477), ∀ (k0_h15 : k0_cond15 v431 = 1#1), ∀ a x, ((![v477] : Fin 1 → IVec S16 32) a x).toNat < S43520.size a := fun v431 v477 k0_hw800 k0_h15 => k0_hw800 k0_h15

def k0_chk801 (v431 : BitVec 32) (v480 : IVec S16 32) : Prop :=
  (∀ (k0_h15 : k0_cond15 v431 = 1#1), ∀ a x, ((![v480] : Fin 1 → IVec S16 32) a x).toNat < S43520.size a)
theorem k0_idx793_inb : ∀ (v431 : BitVec 32) (v480 : IVec S16 32) (k0_hw801 : k0_chk801 v431 v480), ∀ (k0_h15 : k0_cond15 v431 = 1#1), ∀ a x, ((![v480] : Fin 1 → IVec S16 32) a x).toNat < S43520.size a := fun v431 v480 k0_hw801 k0_h15 => k0_hw801 k0_h15

def k0_chk802 (v431 : BitVec 32) (v492 : IVec S16 32) : Prop :=
  (∀ (k0_h15 : k0_cond15 v431 = 1#1), ∀ a x, ((![v492] : Fin 1 → IVec S16 32) a x).toNat < S43520.size a)
theorem k0_idx794_inb : ∀ (v431 : BitVec 32) (v492 : IVec S16 32) (k0_hw802 : k0_chk802 v431 v492), ∀ (k0_h15 : k0_cond15 v431 = 1#1), ∀ a x, ((![v492] : Fin 1 → IVec S16 32) a x).toNat < S43520.size a := fun v431 v492 k0_hw802 k0_h15 => k0_hw802 k0_h15

def k0_chk803 (v431 : BitVec 32) (v495 : IVec S16 32) : Prop :=
  (∀ (k0_h15 : k0_cond15 v431 = 1#1), ∀ a x, ((![v495] : Fin 1 → IVec S16 32) a x).toNat < S43520.size a)
theorem k0_idx795_inb : ∀ (v431 : BitVec 32) (v495 : IVec S16 32) (k0_hw803 : k0_chk803 v431 v495), ∀ (k0_h15 : k0_cond15 v431 = 1#1), ∀ a x, ((![v495] : Fin 1 → IVec S16 32) a x).toNat < S43520.size a := fun v431 v495 k0_hw803 k0_h15 => k0_hw803 k0_h15

def k0_chk804 (v431 : BitVec 32) (v507 : IVec S16 32) : Prop :=
  (∀ (k0_h15 : k0_cond15 v431 = 1#1), ∀ a x, ((![v507] : Fin 1 → IVec S16 32) a x).toNat < S43520.size a)
theorem k0_idx796_inb : ∀ (v431 : BitVec 32) (v507 : IVec S16 32) (k0_hw804 : k0_chk804 v431 v507), ∀ (k0_h15 : k0_cond15 v431 = 1#1), ∀ a x, ((![v507] : Fin 1 → IVec S16 32) a x).toNat < S43520.size a := fun v431 v507 k0_hw804 k0_h15 => k0_hw804 k0_h15

def k0_chk805 (v431 : BitVec 32) (v518 : IVec S16 32) : Prop :=
  (∀ (k0_h15 : k0_cond15 v431 = 1#1), ∀ a x, ((![v518] : Fin 1 → IVec S16 32) a x).toNat < S4096.size a)
theorem k0_idx797_inb : ∀ (v431 : BitVec 32) (v518 : IVec S16 32) (k0_hw805 : k0_chk805 v431 v518), ∀ (k0_h15 : k0_cond15 v431 = 1#1), ∀ a x, ((![v518] : Fin 1 → IVec S16 32) a x).toNat < S4096.size a := fun v431 v518 k0_hw805 k0_h15 => k0_hw805 k0_h15

def k0_chk806 (v431 : BitVec 32) (v520 : IVec S16 32) : Prop :=
  (∀ (k0_h15 : k0_cond15 v431 = 1#1), ∀ a x, ((![v520] : Fin 1 → IVec S16 32) a x).toNat < S43520.size a)
theorem k0_idx798_inb : ∀ (v431 : BitVec 32) (v520 : IVec S16 32) (k0_hw806 : k0_chk806 v431 v520), ∀ (k0_h15 : k0_cond15 v431 = 1#1), ∀ a x, ((![v520] : Fin 1 → IVec S16 32) a x).toNat < S43520.size a := fun v431 v520 k0_hw806 k0_h15 => k0_hw806 k0_h15

def k0_chk807 (v431 : BitVec 32) (v523 : IVec S16 32) : Prop :=
  (∀ (k0_h15 : k0_cond15 v431 = 1#1), ∀ a x, ((![v523] : Fin 1 → IVec S16 32) a x).toNat < S4096.size a)
theorem k0_idx799_inb : ∀ (v431 : BitVec 32) (v523 : IVec S16 32) (k0_hw807 : k0_chk807 v431 v523), ∀ (k0_h15 : k0_cond15 v431 = 1#1), ∀ a x, ((![v523] : Fin 1 → IVec S16 32) a x).toNat < S4096.size a := fun v431 v523 k0_hw807 k0_h15 => k0_hw807 k0_h15

def k0_chk808 (v431 : BitVec 32) (v526 : IVec S16 32) : Prop :=
  (∀ (k0_h15 : k0_cond15 v431 = 1#1), ∀ a x, ((![v526] : Fin 1 → IVec S16 32) a x).toNat < S43520.size a)
theorem k0_idx800_inb : ∀ (v431 : BitVec 32) (v526 : IVec S16 32) (k0_hw808 : k0_chk808 v431 v526), ∀ (k0_h15 : k0_cond15 v431 = 1#1), ∀ a x, ((![v526] : Fin 1 → IVec S16 32) a x).toNat < S43520.size a := fun v431 v526 k0_hw808 k0_h15 => k0_hw808 k0_h15

def k0_chk809 (v431 : BitVec 32) (v529 : IVec S16 32) : Prop :=
  (∀ (k0_h15 : k0_cond15 v431 = 1#1), ∀ a x, ((![v529] : Fin 1 → IVec S16 32) a x).toNat < S4096.size a)
theorem k0_idx801_inb : ∀ (v431 : BitVec 32) (v529 : IVec S16 32) (k0_hw809 : k0_chk809 v431 v529), ∀ (k0_h15 : k0_cond15 v431 = 1#1), ∀ a x, ((![v529] : Fin 1 → IVec S16 32) a x).toNat < S4096.size a := fun v431 v529 k0_hw809 k0_h15 => k0_hw809 k0_h15

def k0_chk810 (v431 : BitVec 32) (v532 : IVec S16 32) : Prop :=
  (∀ (k0_h15 : k0_cond15 v431 = 1#1), ∀ a x, ((![v532] : Fin 1 → IVec S16 32) a x).toNat < S43520.size a)
theorem k0_idx802_inb : ∀ (v431 : BitVec 32) (v532 : IVec S16 32) (k0_hw810 : k0_chk810 v431 v532), ∀ (k0_h15 : k0_cond15 v431 = 1#1), ∀ a x, ((![v532] : Fin 1 → IVec S16 32) a x).toNat < S43520.size a := fun v431 v532 k0_hw810 k0_h15 => k0_hw810 k0_h15

def k0_chk811 (v431 : BitVec 32) (v535 : IVec S16 32) : Prop :=
  (∀ (k0_h15 : k0_cond15 v431 = 1#1), ∀ a x, ((![v535] : Fin 1 → IVec S16 32) a x).toNat < S4096.size a)
theorem k0_idx803_inb : ∀ (v431 : BitVec 32) (v535 : IVec S16 32) (k0_hw811 : k0_chk811 v431 v535), ∀ (k0_h15 : k0_cond15 v431 = 1#1), ∀ a x, ((![v535] : Fin 1 → IVec S16 32) a x).toNat < S4096.size a := fun v431 v535 k0_hw811 k0_h15 => k0_hw811 k0_h15

def k0_chk812 (v431 : BitVec 32) (v538 : IVec S16 32) : Prop :=
  (∀ (k0_h15 : k0_cond15 v431 = 1#1), ∀ a x, ((![v538] : Fin 1 → IVec S16 32) a x).toNat < S43520.size a)
theorem k0_idx804_inb : ∀ (v431 : BitVec 32) (v538 : IVec S16 32) (k0_hw812 : k0_chk812 v431 v538), ∀ (k0_h15 : k0_cond15 v431 = 1#1), ∀ a x, ((![v538] : Fin 1 → IVec S16 32) a x).toNat < S43520.size a := fun v431 v538 k0_hw812 k0_h15 => k0_hw812 k0_h15

def k0_chk813 (v431 : BitVec 32) (v541 : IVec S16 32) : Prop :=
  (∀ (k0_h15 : k0_cond15 v431 = 1#1), ∀ a x, ((![v541] : Fin 1 → IVec S16 32) a x).toNat < S4096.size a)
theorem k0_idx805_inb : ∀ (v431 : BitVec 32) (v541 : IVec S16 32) (k0_hw813 : k0_chk813 v431 v541), ∀ (k0_h15 : k0_cond15 v431 = 1#1), ∀ a x, ((![v541] : Fin 1 → IVec S16 32) a x).toNat < S4096.size a := fun v431 v541 k0_hw813 k0_h15 => k0_hw813 k0_h15

def k0_chk814 (v431 : BitVec 32) (v544 : IVec S16 32) : Prop :=
  (∀ (k0_h15 : k0_cond15 v431 = 1#1), ∀ a x, ((![v544] : Fin 1 → IVec S16 32) a x).toNat < S43520.size a)
theorem k0_idx806_inb : ∀ (v431 : BitVec 32) (v544 : IVec S16 32) (k0_hw814 : k0_chk814 v431 v544), ∀ (k0_h15 : k0_cond15 v431 = 1#1), ∀ a x, ((![v544] : Fin 1 → IVec S16 32) a x).toNat < S43520.size a := fun v431 v544 k0_hw814 k0_h15 => k0_hw814 k0_h15

def k0_chk815 (v431 : BitVec 32) (v547 : IVec S16 32) : Prop :=
  (∀ (k0_h15 : k0_cond15 v431 = 1#1), ∀ a x, ((![v547] : Fin 1 → IVec S16 32) a x).toNat < S4096.size a)
theorem k0_idx807_inb : ∀ (v431 : BitVec 32) (v547 : IVec S16 32) (k0_hw815 : k0_chk815 v431 v547), ∀ (k0_h15 : k0_cond15 v431 = 1#1), ∀ a x, ((![v547] : Fin 1 → IVec S16 32) a x).toNat < S4096.size a := fun v431 v547 k0_hw815 k0_h15 => k0_hw815 k0_h15

def k0_chk816 (v431 : BitVec 32) (v550 : IVec S16 32) : Prop :=
  (∀ (k0_h15 : k0_cond15 v431 = 1#1), ∀ a x, ((![v550] : Fin 1 → IVec S16 32) a x).toNat < S43520.size a)
theorem k0_idx808_inb : ∀ (v431 : BitVec 32) (v550 : IVec S16 32) (k0_hw816 : k0_chk816 v431 v550), ∀ (k0_h15 : k0_cond15 v431 = 1#1), ∀ a x, ((![v550] : Fin 1 → IVec S16 32) a x).toNat < S43520.size a := fun v431 v550 k0_hw816 k0_h15 => k0_hw816 k0_h15

def k0_chk817 (v431 : BitVec 32) (v553 : IVec S16 32) : Prop :=
  (∀ (k0_h15 : k0_cond15 v431 = 1#1), ∀ a x, ((![v553] : Fin 1 → IVec S16 32) a x).toNat < S4096.size a)
theorem k0_idx809_inb : ∀ (v431 : BitVec 32) (v553 : IVec S16 32) (k0_hw817 : k0_chk817 v431 v553), ∀ (k0_h15 : k0_cond15 v431 = 1#1), ∀ a x, ((![v553] : Fin 1 → IVec S16 32) a x).toNat < S4096.size a := fun v431 v553 k0_hw817 k0_h15 => k0_hw817 k0_h15

def k0_chk818 (v431 : BitVec 32) (v556 : IVec S16 32) : Prop :=
  (∀ (k0_h15 : k0_cond15 v431 = 1#1), ∀ a x, ((![v556] : Fin 1 → IVec S16 32) a x).toNat < S43520.size a)
theorem k0_idx810_inb : ∀ (v431 : BitVec 32) (v556 : IVec S16 32) (k0_hw818 : k0_chk818 v431 v556), ∀ (k0_h15 : k0_cond15 v431 = 1#1), ∀ a x, ((![v556] : Fin 1 → IVec S16 32) a x).toNat < S43520.size a := fun v431 v556 k0_hw818 k0_h15 => k0_hw818 k0_h15

def k0_chk819 (v431 : BitVec 32) (v559 : IVec S16 32) : Prop :=
  (∀ (k0_h15 : k0_cond15 v431 = 1#1), ∀ a x, ((![v559] : Fin 1 → IVec S16 32) a x).toNat < S4096.size a)
theorem k0_idx811_inb : ∀ (v431 : BitVec 32) (v559 : IVec S16 32) (k0_hw819 : k0_chk819 v431 v559), ∀ (k0_h15 : k0_cond15 v431 = 1#1), ∀ a x, ((![v559] : Fin 1 → IVec S16 32) a x).toNat < S4096.size a := fun v431 v559 k0_hw819 k0_h15 => k0_hw819 k0_h15

def k0_chk820 (v431 : BitVec 32) (v562 : IVec S16 32) : Prop :=
  (∀ (k0_h15 : k0_cond15 v431 = 1#1), ∀ a x, ((![v562] : Fin 1 → IVec S16 32) a x).toNat < S43520.size a)
theorem k0_idx812_inb : ∀ (v431 : BitVec 32) (v562 : IVec S16 32) (k0_hw820 : k0_chk820 v431 v562), ∀ (k0_h15 : k0_cond15 v431 = 1#1), ∀ a x, ((![v562] : Fin 1 → IVec S16 32) a x).toNat < S43520.size a := fun v431 v562 k0_hw820 k0_h15 => k0_hw820 k0_h15

def k0_chk821 (v431 : BitVec 32) (v565 : IVec S16 32) : Prop :=
  (∀ (k0_h15 : k0_cond15 v431 = 1#1), ∀ a x, ((![v565] : Fin 1 → IVec S16 32) a x).toNat < S4096.size a)
theorem k0_idx813_inb : ∀ (v431 : BitVec 32) (v565 : IVec S16 32) (k0_hw821 : k0_chk821 v431 v565), ∀ (k0_h15 : k0_cond15 v431 = 1#1), ∀ a x, ((![v565] : Fin 1 → IVec S16 32) a x).toNat < S4096.size a := fun v431 v565 k0_hw821 k0_h15 => k0_hw821 k0_h15

def k0_chk822 (v431 : BitVec 32) (v568 : IVec S16 32) : Prop :=
  (∀ (k0_h15 : k0_cond15 v431 = 1#1), ∀ a x, ((![v568] : Fin 1 → IVec S16 32) a x).toNat < S43520.size a)
theorem k0_idx814_inb : ∀ (v431 : BitVec 32) (v568 : IVec S16 32) (k0_hw822 : k0_chk822 v431 v568), ∀ (k0_h15 : k0_cond15 v431 = 1#1), ∀ a x, ((![v568] : Fin 1 → IVec S16 32) a x).toNat < S43520.size a := fun v431 v568 k0_hw822 k0_h15 => k0_hw822 k0_h15

def k0_chk823 (v431 : BitVec 32) (v571 : IVec S16 32) : Prop :=
  (∀ (k0_h15 : k0_cond15 v431 = 1#1), ∀ a x, ((![v571] : Fin 1 → IVec S16 32) a x).toNat < S4096.size a)
theorem k0_idx815_inb : ∀ (v431 : BitVec 32) (v571 : IVec S16 32) (k0_hw823 : k0_chk823 v431 v571), ∀ (k0_h15 : k0_cond15 v431 = 1#1), ∀ a x, ((![v571] : Fin 1 → IVec S16 32) a x).toNat < S4096.size a := fun v431 v571 k0_hw823 k0_h15 => k0_hw823 k0_h15

def k0_chk824 (v431 : BitVec 32) (v574 : IVec S16 32) : Prop :=
  (∀ (k0_h15 : k0_cond15 v431 = 1#1), ∀ a x, ((![v574] : Fin 1 → IVec S16 32) a x).toNat < S43520.size a)
theorem k0_idx816_inb : ∀ (v431 : BitVec 32) (v574 : IVec S16 32) (k0_hw824 : k0_chk824 v431 v574), ∀ (k0_h15 : k0_cond15 v431 = 1#1), ∀ a x, ((![v574] : Fin 1 → IVec S16 32) a x).toNat < S43520.size a := fun v431 v574 k0_hw824 k0_h15 => k0_hw824 k0_h15

def k0_chk825 (v431 : BitVec 32) (v577 : IVec S16 32) : Prop :=
  (∀ (k0_h15 : k0_cond15 v431 = 1#1), ∀ a x, ((![v577] : Fin 1 → IVec S16 32) a x).toNat < S4096.size a)
theorem k0_idx817_inb : ∀ (v431 : BitVec 32) (v577 : IVec S16 32) (k0_hw825 : k0_chk825 v431 v577), ∀ (k0_h15 : k0_cond15 v431 = 1#1), ∀ a x, ((![v577] : Fin 1 → IVec S16 32) a x).toNat < S4096.size a := fun v431 v577 k0_hw825 k0_h15 => k0_hw825 k0_h15

def k0_chk826 (v431 : BitVec 32) (v580 : IVec S16 32) : Prop :=
  (∀ (k0_h15 : k0_cond15 v431 = 1#1), ∀ a x, ((![v580] : Fin 1 → IVec S16 32) a x).toNat < S43520.size a)
theorem k0_idx818_inb : ∀ (v431 : BitVec 32) (v580 : IVec S16 32) (k0_hw826 : k0_chk826 v431 v580), ∀ (k0_h15 : k0_cond15 v431 = 1#1), ∀ a x, ((![v580] : Fin 1 → IVec S16 32) a x).toNat < S43520.size a := fun v431 v580 k0_hw826 k0_h15 => k0_hw826 k0_h15

def k0_chk827 (v431 : BitVec 32) (v583 : IVec S16 32) : Prop :=
  (∀ (k0_h15 : k0_cond15 v431 = 1#1), ∀ a x, ((![v583] : Fin 1 → IVec S16 32) a x).toNat < S4096.size a)
theorem k0_idx819_inb : ∀ (v431 : BitVec 32) (v583 : IVec S16 32) (k0_hw827 : k0_chk827 v431 v583), ∀ (k0_h15 : k0_cond15 v431 = 1#1), ∀ a x, ((![v583] : Fin 1 → IVec S16 32) a x).toNat < S4096.size a := fun v431 v583 k0_hw827 k0_h15 => k0_hw827 k0_h15

def k0_chk828 (v431 : BitVec 32) (v586 : IVec S16 32) : Prop :=
  (∀ (k0_h15 : k0_cond15 v431 = 1#1), ∀ a x, ((![v586] : Fin 1 → IVec S16 32) a x).toNat < S43520.size a)
theorem k0_idx820_inb : ∀ (v431 : BitVec 32) (v586 : IVec S16 32) (k0_hw828 : k0_chk828 v431 v586), ∀ (k0_h15 : k0_cond15 v431 = 1#1), ∀ a x, ((![v586] : Fin 1 → IVec S16 32) a x).toNat < S43520.size a := fun v431 v586 k0_hw828 k0_h15 => k0_hw828 k0_h15

def k0_chk829 (v431 : BitVec 32) (v589 : IVec S16 32) : Prop :=
  (∀ (k0_h15 : k0_cond15 v431 = 1#1), ∀ a x, ((![v589] : Fin 1 → IVec S16 32) a x).toNat < S4096.size a)
theorem k0_idx821_inb : ∀ (v431 : BitVec 32) (v589 : IVec S16 32) (k0_hw829 : k0_chk829 v431 v589), ∀ (k0_h15 : k0_cond15 v431 = 1#1), ∀ a x, ((![v589] : Fin 1 → IVec S16 32) a x).toNat < S4096.size a := fun v431 v589 k0_hw829 k0_h15 => k0_hw829 k0_h15

def k0_chk830 (v431 : BitVec 32) (v592 : IVec S16 32) : Prop :=
  (∀ (k0_h15 : k0_cond15 v431 = 1#1), ∀ a x, ((![v592] : Fin 1 → IVec S16 32) a x).toNat < S43520.size a)
theorem k0_idx822_inb : ∀ (v431 : BitVec 32) (v592 : IVec S16 32) (k0_hw830 : k0_chk830 v431 v592), ∀ (k0_h15 : k0_cond15 v431 = 1#1), ∀ a x, ((![v592] : Fin 1 → IVec S16 32) a x).toNat < S43520.size a := fun v431 v592 k0_hw830 k0_h15 => k0_hw830 k0_h15

def k0_chk831 (v431 : BitVec 32) (v595 : IVec S16 32) : Prop :=
  (∀ (k0_h15 : k0_cond15 v431 = 1#1), ∀ a x, ((![v595] : Fin 1 → IVec S16 32) a x).toNat < S4096.size a)
theorem k0_idx823_inb : ∀ (v431 : BitVec 32) (v595 : IVec S16 32) (k0_hw831 : k0_chk831 v431 v595), ∀ (k0_h15 : k0_cond15 v431 = 1#1), ∀ a x, ((![v595] : Fin 1 → IVec S16 32) a x).toNat < S4096.size a := fun v431 v595 k0_hw831 k0_h15 => k0_hw831 k0_h15

def k0_chk832 (v431 : BitVec 32) (v598 : IVec S16 32) : Prop :=
  (∀ (k0_h15 : k0_cond15 v431 = 1#1), ∀ a x, ((![v598] : Fin 1 → IVec S16 32) a x).toNat < S43520.size a)
theorem k0_idx824_inb : ∀ (v431 : BitVec 32) (v598 : IVec S16 32) (k0_hw832 : k0_chk832 v431 v598), ∀ (k0_h15 : k0_cond15 v431 = 1#1), ∀ a x, ((![v598] : Fin 1 → IVec S16 32) a x).toNat < S43520.size a := fun v431 v598 k0_hw832 k0_h15 => k0_hw832 k0_h15

def k0_chk833 (v431 : BitVec 32) (v601 : IVec S16 32) : Prop :=
  (∀ (k0_h15 : k0_cond15 v431 = 1#1), ∀ a x, ((![v601] : Fin 1 → IVec S16 32) a x).toNat < S4096.size a)
theorem k0_idx825_inb : ∀ (v431 : BitVec 32) (v601 : IVec S16 32) (k0_hw833 : k0_chk833 v431 v601), ∀ (k0_h15 : k0_cond15 v431 = 1#1), ∀ a x, ((![v601] : Fin 1 → IVec S16 32) a x).toNat < S4096.size a := fun v431 v601 k0_hw833 k0_h15 => k0_hw833 k0_h15

def k0_chk834 (v431 : BitVec 32) (v604 : IVec S16 32) : Prop :=
  (∀ (k0_h15 : k0_cond15 v431 = 1#1), ∀ a x, ((![v604] : Fin 1 → IVec S16 32) a x).toNat < S43520.size a)
theorem k0_idx826_inb : ∀ (v431 : BitVec 32) (v604 : IVec S16 32) (k0_hw834 : k0_chk834 v431 v604), ∀ (k0_h15 : k0_cond15 v431 = 1#1), ∀ a x, ((![v604] : Fin 1 → IVec S16 32) a x).toNat < S43520.size a := fun v431 v604 k0_hw834 k0_h15 => k0_hw834 k0_h15

def k0_chk835 (v431 : BitVec 32) (v607 : IVec S16 32) : Prop :=
  (∀ (k0_h15 : k0_cond15 v431 = 1#1), ∀ a x, ((![v607] : Fin 1 → IVec S16 32) a x).toNat < S4096.size a)
theorem k0_idx827_inb : ∀ (v431 : BitVec 32) (v607 : IVec S16 32) (k0_hw835 : k0_chk835 v431 v607), ∀ (k0_h15 : k0_cond15 v431 = 1#1), ∀ a x, ((![v607] : Fin 1 → IVec S16 32) a x).toNat < S4096.size a := fun v431 v607 k0_hw835 k0_h15 => k0_hw835 k0_h15

def k0_chk836 (v431 : BitVec 32) (v610 : IVec S16 32) : Prop :=
  (∀ (k0_h15 : k0_cond15 v431 = 1#1), ∀ a x, ((![v610] : Fin 1 → IVec S16 32) a x).toNat < S43520.size a)
theorem k0_idx828_inb : ∀ (v431 : BitVec 32) (v610 : IVec S16 32) (k0_hw836 : k0_chk836 v431 v610), ∀ (k0_h15 : k0_cond15 v431 = 1#1), ∀ a x, ((![v610] : Fin 1 → IVec S16 32) a x).toNat < S43520.size a := fun v431 v610 k0_hw836 k0_h15 => k0_hw836 k0_h15

def k0_chk837 (v431 : BitVec 32) (v613 : IVec S16 32) : Prop :=
  (∀ (k0_h15 : k0_cond15 v431 = 1#1), ∀ a x, ((![v613] : Fin 1 → IVec S16 32) a x).toNat < S4096.size a)
theorem k0_idx829_inb : ∀ (v431 : BitVec 32) (v613 : IVec S16 32) (k0_hw837 : k0_chk837 v431 v613), ∀ (k0_h15 : k0_cond15 v431 = 1#1), ∀ a x, ((![v613] : Fin 1 → IVec S16 32) a x).toNat < S4096.size a := fun v431 v613 k0_hw837 k0_h15 => k0_hw837 k0_h15

def k0_chk838 (v431 : BitVec 32) (v616 : IVec S16 32) : Prop :=
  (∀ (k0_h15 : k0_cond15 v431 = 1#1), ∀ a x, ((![v616] : Fin 1 → IVec S16 32) a x).toNat < S43520.size a)
theorem k0_idx830_inb : ∀ (v431 : BitVec 32) (v616 : IVec S16 32) (k0_hw838 : k0_chk838 v431 v616), ∀ (k0_h15 : k0_cond15 v431 = 1#1), ∀ a x, ((![v616] : Fin 1 → IVec S16 32) a x).toNat < S43520.size a := fun v431 v616 k0_hw838 k0_h15 => k0_hw838 k0_h15

def k0_chk839 (v431 : BitVec 32) (v619 : IVec S16 32) : Prop :=
  (∀ (k0_h15 : k0_cond15 v431 = 1#1), ∀ a x, ((![v619] : Fin 1 → IVec S16 32) a x).toNat < S4096.size a)
theorem k0_idx831_inb : ∀ (v431 : BitVec 32) (v619 : IVec S16 32) (k0_hw839 : k0_chk839 v431 v619), ∀ (k0_h15 : k0_cond15 v431 = 1#1), ∀ a x, ((![v619] : Fin 1 → IVec S16 32) a x).toNat < S4096.size a := fun v431 v619 k0_hw839 k0_h15 => k0_hw839 k0_h15

def k0_chk840 (v431 : BitVec 32) (v622 : IVec S16 32) : Prop :=
  (∀ (k0_h15 : k0_cond15 v431 = 1#1), ∀ a x, ((![v622] : Fin 1 → IVec S16 32) a x).toNat < S43520.size a)
theorem k0_idx832_inb : ∀ (v431 : BitVec 32) (v622 : IVec S16 32) (k0_hw840 : k0_chk840 v431 v622), ∀ (k0_h15 : k0_cond15 v431 = 1#1), ∀ a x, ((![v622] : Fin 1 → IVec S16 32) a x).toNat < S43520.size a := fun v431 v622 k0_hw840 k0_h15 => k0_hw840 k0_h15

def k0_chk841 (v431 : BitVec 32) (v625 : IVec S16 32) : Prop :=
  (∀ (k0_h15 : k0_cond15 v431 = 1#1), ∀ a x, ((![v625] : Fin 1 → IVec S16 32) a x).toNat < S4096.size a)
theorem k0_idx833_inb : ∀ (v431 : BitVec 32) (v625 : IVec S16 32) (k0_hw841 : k0_chk841 v431 v625), ∀ (k0_h15 : k0_cond15 v431 = 1#1), ∀ a x, ((![v625] : Fin 1 → IVec S16 32) a x).toNat < S4096.size a := fun v431 v625 k0_hw841 k0_h15 => k0_hw841 k0_h15
@[reducible] def k0_t18_loop (v378 : BitVec 32) : Scf.Loop 32 :=
  let c0_i32_156 : BitVec 32 := 0#32
  let v379 : BitVec 32 := Scalar.subi v378 c0_i32_156
  let c1_i32_157 : BitVec 32 := 1#32
  let v381 : BitVec 32 := Scalar.divsi v379 c1_i32_157
  let v382 : BitVec 32 := Scalar.muli v381 c1_i32_157
  let v383 : BitVec 32 := Scalar.addi c0_i32_156 v382
  let v380 : BitVec 32 := Scalar.addi c0_i32_156 v379
  let c1_i32_159 : BitVec 32 := 1#32
  ⟨v383, v380, c1_i32_159⟩

def k0_chk786 (v378 : BitVec 32) : Prop :=
  ((k0_t17_loop v378).OK) ∧
  ((k0_t18_loop v378).OK)
theorem k0_t17_ok : ∀ (v378 : BitVec 32) (k0_hw786 : k0_chk786 v378), (k0_t17_loop v378).OK := fun v378 k0_hw786 => k0_hw786.1
theorem k0_t18_ok : ∀ (v378 : BitVec 32) (k0_hw786 : k0_chk786 v378), (k0_t18_loop v378).OK := fun v378 k0_hw786 => k0_hw786.2

def k0_chk842 (v391 : IVec S16 32) : Prop :=
  (∀ a x, ((![v391] : Fin 1 → IVec S16 32) a x).toNat < S14336.size a)
theorem k0_idx834_inb : ∀ (v391 : IVec S16 32) (k0_hw842 : k0_chk842 v391), ∀ a x, ((![v391] : Fin 1 → IVec S16 32) a x).toNat < S14336.size a := fun v391 k0_hw842 => k0_hw842

def k0_chk843 (v399 : IVec S16 32) : Prop :=
  (∀ a x, ((![v399] : Fin 1 → IVec S16 32) a x).toNat < S1280.size a)
theorem k0_idx835_inb : ∀ (v399 : IVec S16 32) (k0_hw843 : k0_chk843 v399), ∀ a x, ((![v399] : Fin 1 → IVec S16 32) a x).toNat < S1280.size a := fun v399 k0_hw843 => k0_hw843
def k0_cond16 (v431 : BitVec 32) : BitVec 1 :=
  let c0_i32_170 : BitVec 32 := 0#32
  let v432 : BitVec 1 := Scalar.cmpi .sgt v431 c0_i32_170
  let v433 : BitVec 32 := Scalar.extui v432
  let c0_i32_171 : BitVec 32 := 0#32
  let v434 : BitVec 1 := Scalar.cmpi .ne v433 c0_i32_171
  v434

def k0_chk844 (v431 : BitVec 32) (v436 : IVec S16 32) : Prop :=
  (∀ (k0_h16 : k0_cond16 v431 = 1#1), ∀ a x, ((![v436] : Fin 1 → IVec S16 32) a x).toNat < S43520.size a)
theorem k0_idx836_inb : ∀ (v431 : BitVec 32) (v436 : IVec S16 32) (k0_hw844 : k0_chk844 v431 v436), ∀ (k0_h16 : k0_cond16 v431 = 1#1), ∀ a x, ((![v436] : Fin 1 → IVec S16 32) a x).toNat < S43520.size a := fun v431 v436 k0_hw844 k0_h16 => k0_hw844 k0_h16

def k0_chk845 (v431 : BitVec 32) (v439 : IVec S16 32) : Prop :=
  (∀ (k0_h16 : k0_cond16 v431 = 1#1), ∀ a x, ((![v439] : Fin 1 → IVec S16 32) a x).toNat < S43520.size a)
theorem k0_idx837_inb : ∀ (v431 : BitVec 32) (v439 : IVec S16 32) (k0_hw845 : k0_chk845 v431 v439), ∀ (k0_h16 : k0_cond16 v431 = 1#1), ∀ a x, ((![v439] : Fin 1 → IVec S16 32) a x).toNat < S43520.size a := fun v431 v439 k0_hw845 k0_h16 => k0_hw845 k0_h16

def k0_chk846 (v431 : BitVec 32) (v442 : IVec S16 32) : Prop :=
  (∀ (k0_h16 : k0_cond16 v431 = 1#1), ∀ a x, ((![v442] : Fin 1 → IVec S16 32) a x).toNat < S43520.size a)
theorem k0_idx838_inb : ∀ (v431 : BitVec 32) (v442 : IVec S16 32) (k0_hw846 : k0_chk846 v431 v442), ∀ (k0_h16 : k0_cond16 v431 = 1#1), ∀ a x, ((![v442] : Fin 1 → IVec S16 32) a x).toNat < S43520.size a := fun v431 v442 k0_hw846 k0_h16 => k0_hw846 k0_h16

def k0_chk847 (v431 : BitVec 32) (v445 : IVec S16 32) : Prop :=
  (∀ (k0_h16 : k0_cond16 v431 = 1#1), ∀ a x, ((![v445] : Fin 1 → IVec S16 32) a x).toNat < S43520.size a)
theorem k0_idx839_inb : ∀ (v431 : BitVec 32) (v445 : IVec S16 32) (k0_hw847 : k0_chk847 v431 v445), ∀ (k0_h16 : k0_cond16 v431 = 1#1), ∀ a x, ((![v445] : Fin 1 → IVec S16 32) a x).toNat < S43520.size a := fun v431 v445 k0_hw847 k0_h16 => k0_hw847 k0_h16

def k0_chk848 (v431 : BitVec 32) (v448 : IVec S16 32) : Prop :=
  (∀ (k0_h16 : k0_cond16 v431 = 1#1), ∀ a x, ((![v448] : Fin 1 → IVec S16 32) a x).toNat < S43520.size a)
theorem k0_idx840_inb : ∀ (v431 : BitVec 32) (v448 : IVec S16 32) (k0_hw848 : k0_chk848 v431 v448), ∀ (k0_h16 : k0_cond16 v431 = 1#1), ∀ a x, ((![v448] : Fin 1 → IVec S16 32) a x).toNat < S43520.size a := fun v431 v448 k0_hw848 k0_h16 => k0_hw848 k0_h16

def k0_chk849 (v431 : BitVec 32) (v451 : IVec S16 32) : Prop :=
  (∀ (k0_h16 : k0_cond16 v431 = 1#1), ∀ a x, ((![v451] : Fin 1 → IVec S16 32) a x).toNat < S43520.size a)
theorem k0_idx841_inb : ∀ (v431 : BitVec 32) (v451 : IVec S16 32) (k0_hw849 : k0_chk849 v431 v451), ∀ (k0_h16 : k0_cond16 v431 = 1#1), ∀ a x, ((![v451] : Fin 1 → IVec S16 32) a x).toNat < S43520.size a := fun v431 v451 k0_hw849 k0_h16 => k0_hw849 k0_h16

def k0_chk850 (v431 : BitVec 32) (v454 : IVec S16 32) : Prop :=
  (∀ (k0_h16 : k0_cond16 v431 = 1#1), ∀ a x, ((![v454] : Fin 1 → IVec S16 32) a x).toNat < S43520.size a)
theorem k0_idx842_inb : ∀ (v431 : BitVec 32) (v454 : IVec S16 32) (k0_hw850 : k0_chk850 v431 v454), ∀ (k0_h16 : k0_cond16 v431 = 1#1), ∀ a x, ((![v454] : Fin 1 → IVec S16 32) a x).toNat < S43520.size a := fun v431 v454 k0_hw850 k0_h16 => k0_hw850 k0_h16

def k0_chk851 (v431 : BitVec 32) (v457 : IVec S16 32) : Prop :=
  (∀ (k0_h16 : k0_cond16 v431 = 1#1), ∀ a x, ((![v457] : Fin 1 → IVec S16 32) a x).toNat < S43520.size a)
theorem k0_idx843_inb : ∀ (v431 : BitVec 32) (v457 : IVec S16 32) (k0_hw851 : k0_chk851 v431 v457), ∀ (k0_h16 : k0_cond16 v431 = 1#1), ∀ a x, ((![v457] : Fin 1 → IVec S16 32) a x).toNat < S43520.size a := fun v431 v457 k0_hw851 k0_h16 => k0_hw851 k0_h16

def k0_chk852 (v431 : BitVec 32) (v460 : IVec S16 32) : Prop :=
  (∀ (k0_h16 : k0_cond16 v431 = 1#1), ∀ a x, ((![v460] : Fin 1 → IVec S16 32) a x).toNat < S43520.size a)
theorem k0_idx844_inb : ∀ (v431 : BitVec 32) (v460 : IVec S16 32) (k0_hw852 : k0_chk852 v431 v460), ∀ (k0_h16 : k0_cond16 v431 = 1#1), ∀ a x, ((![v460] : Fin 1 → IVec S16 32) a x).toNat < S43520.size a := fun v431 v460 k0_hw852 k0_h16 => k0_hw852 k0_h16

def k0_chk853 (v431 : BitVec 32) (v463 : IVec S16 32) : Prop :=
  (∀ (k0_h16 : k0_cond16 v431 = 1#1), ∀ a x, ((![v463] : Fin 1 → IVec S16 32) a x).toNat < S43520.size a)
theorem k0_idx845_inb : ∀ (v431 : BitVec 32) (v463 : IVec S16 32) (k0_hw853 : k0_chk853 v431 v463), ∀ (k0_h16 : k0_cond16 v431 = 1#1), ∀ a x, ((![v463] : Fin 1 → IVec S16 32) a x).toNat < S43520.size a := fun v431 v463 k0_hw853 k0_h16 => k0_hw853 k0_h16

def k0_chk854 (v431 : BitVec 32) (v466 : IVec S16 32) : Prop :=
  (∀ (k0_h16 : k0_cond16 v431 = 1#1), ∀ a x, ((![v466] : Fin 1 → IVec S16 32) a x).toNat < S43520.size a)
theorem k0_idx846_inb : ∀ (v431 : BitVec 32) (v466 : IVec S16 32) (k0_hw854 : k0_chk854 v431 v466), ∀ (k0_h16 : k0_cond16 v431 = 1#1), ∀ a x, ((![v466] : Fin 1 → IVec S16 32) a x).toNat < S43520.size a := fun v431 v466 k0_hw854 k0_h16 => k0_hw854 k0_h16

def k0_chk855 (v431 : BitVec 32) (v477 : IVec S16 32) : Prop :=
  (∀ (k0_h16 : k0_cond16 v431 = 1#1), ∀ a x, ((![v477] : Fin 1 → IVec S16 32) a x).toNat < S43520.size a)
theorem k0_idx847_inb : ∀ (v431 : BitVec 32) (v477 : IVec S16 32) (k0_hw855 : k0_chk855 v431 v477), ∀ (k0_h16 : k0_cond16 v431 = 1#1), ∀ a x, ((![v477] : Fin 1 → IVec S16 32) a x).toNat < S43520.size a := fun v431 v477 k0_hw855 k0_h16 => k0_hw855 k0_h16

def k0_chk856 (v431 : BitVec 32) (v480 : IVec S16 32) : Prop :=
  (∀ (k0_h16 : k0_cond16 v431 = 1#1), ∀ a x, ((![v480] : Fin 1 → IVec S16 32) a x).toNat < S43520.size a)
theorem k0_idx848_inb : ∀ (v431 : BitVec 32) (v480 : IVec S16 32) (k0_hw856 : k0_chk856 v431 v480), ∀ (k0_h16 : k0_cond16 v431 = 1#1), ∀ a x, ((![v480] : Fin 1 → IVec S16 32) a x).toNat < S43520.size a := fun v431 v480 k0_hw856 k0_h16 => k0_hw856 k0_h16

def k0_chk857 (v431 : BitVec 32) (v492 : IVec S16 32) : Prop :=
  (∀ (k0_h16 : k0_cond16 v431 = 1#1), ∀ a x, ((![v492] : Fin 1 → IVec S16 32) a x).toNat < S43520.size a)
theorem k0_idx849_inb : ∀ (v431 : BitVec 32) (v492 : IVec S16 32) (k0_hw857 : k0_chk857 v431 v492), ∀ (k0_h16 : k0_cond16 v431 = 1#1), ∀ a x, ((![v492] : Fin 1 → IVec S16 32) a x).toNat < S43520.size a := fun v431 v492 k0_hw857 k0_h16 => k0_hw857 k0_h16

def k0_chk858 (v431 : BitVec 32) (v495 : IVec S16 32) : Prop :=
  (∀ (k0_h16 : k0_cond16 v431 = 1#1), ∀ a x, ((![v495] : Fin 1 → IVec S16 32) a x).toNat < S43520.size a)
theorem k0_idx850_inb : ∀ (v431 : BitVec 32) (v495 : IVec S16 32) (k0_hw858 : k0_chk858 v431 v495), ∀ (k0_h16 : k0_cond16 v431 = 1#1), ∀ a x, ((![v495] : Fin 1 → IVec S16 32) a x).toNat < S43520.size a := fun v431 v495 k0_hw858 k0_h16 => k0_hw858 k0_h16

def k0_chk859 (v431 : BitVec 32) (v507 : IVec S16 32) : Prop :=
  (∀ (k0_h16 : k0_cond16 v431 = 1#1), ∀ a x, ((![v507] : Fin 1 → IVec S16 32) a x).toNat < S43520.size a)
theorem k0_idx851_inb : ∀ (v431 : BitVec 32) (v507 : IVec S16 32) (k0_hw859 : k0_chk859 v431 v507), ∀ (k0_h16 : k0_cond16 v431 = 1#1), ∀ a x, ((![v507] : Fin 1 → IVec S16 32) a x).toNat < S43520.size a := fun v431 v507 k0_hw859 k0_h16 => k0_hw859 k0_h16

def k0_chk860 (v431 : BitVec 32) (v518 : IVec S16 32) : Prop :=
  (∀ (k0_h16 : k0_cond16 v431 = 1#1), ∀ a x, ((![v518] : Fin 1 → IVec S16 32) a x).toNat < S4096.size a)
theorem k0_idx852_inb : ∀ (v431 : BitVec 32) (v518 : IVec S16 32) (k0_hw860 : k0_chk860 v431 v518), ∀ (k0_h16 : k0_cond16 v431 = 1#1), ∀ a x, ((![v518] : Fin 1 → IVec S16 32) a x).toNat < S4096.size a := fun v431 v518 k0_hw860 k0_h16 => k0_hw860 k0_h16

def k0_chk861 (v431 : BitVec 32) (v520 : IVec S16 32) : Prop :=
  (∀ (k0_h16 : k0_cond16 v431 = 1#1), ∀ a x, ((![v520] : Fin 1 → IVec S16 32) a x).toNat < S43520.size a)
theorem k0_idx853_inb : ∀ (v431 : BitVec 32) (v520 : IVec S16 32) (k0_hw861 : k0_chk861 v431 v520), ∀ (k0_h16 : k0_cond16 v431 = 1#1), ∀ a x, ((![v520] : Fin 1 → IVec S16 32) a x).toNat < S43520.size a := fun v431 v520 k0_hw861 k0_h16 => k0_hw861 k0_h16

def k0_chk862 (v431 : BitVec 32) (v523 : IVec S16 32) : Prop :=
  (∀ (k0_h16 : k0_cond16 v431 = 1#1), ∀ a x, ((![v523] : Fin 1 → IVec S16 32) a x).toNat < S4096.size a)
theorem k0_idx854_inb : ∀ (v431 : BitVec 32) (v523 : IVec S16 32) (k0_hw862 : k0_chk862 v431 v523), ∀ (k0_h16 : k0_cond16 v431 = 1#1), ∀ a x, ((![v523] : Fin 1 → IVec S16 32) a x).toNat < S4096.size a := fun v431 v523 k0_hw862 k0_h16 => k0_hw862 k0_h16

def k0_chk863 (v431 : BitVec 32) (v526 : IVec S16 32) : Prop :=
  (∀ (k0_h16 : k0_cond16 v431 = 1#1), ∀ a x, ((![v526] : Fin 1 → IVec S16 32) a x).toNat < S43520.size a)
theorem k0_idx855_inb : ∀ (v431 : BitVec 32) (v526 : IVec S16 32) (k0_hw863 : k0_chk863 v431 v526), ∀ (k0_h16 : k0_cond16 v431 = 1#1), ∀ a x, ((![v526] : Fin 1 → IVec S16 32) a x).toNat < S43520.size a := fun v431 v526 k0_hw863 k0_h16 => k0_hw863 k0_h16

def k0_chk864 (v431 : BitVec 32) (v529 : IVec S16 32) : Prop :=
  (∀ (k0_h16 : k0_cond16 v431 = 1#1), ∀ a x, ((![v529] : Fin 1 → IVec S16 32) a x).toNat < S4096.size a)
theorem k0_idx856_inb : ∀ (v431 : BitVec 32) (v529 : IVec S16 32) (k0_hw864 : k0_chk864 v431 v529), ∀ (k0_h16 : k0_cond16 v431 = 1#1), ∀ a x, ((![v529] : Fin 1 → IVec S16 32) a x).toNat < S4096.size a := fun v431 v529 k0_hw864 k0_h16 => k0_hw864 k0_h16

def k0_chk865 (v431 : BitVec 32) (v532 : IVec S16 32) : Prop :=
  (∀ (k0_h16 : k0_cond16 v431 = 1#1), ∀ a x, ((![v532] : Fin 1 → IVec S16 32) a x).toNat < S43520.size a)
theorem k0_idx857_inb : ∀ (v431 : BitVec 32) (v532 : IVec S16 32) (k0_hw865 : k0_chk865 v431 v532), ∀ (k0_h16 : k0_cond16 v431 = 1#1), ∀ a x, ((![v532] : Fin 1 → IVec S16 32) a x).toNat < S43520.size a := fun v431 v532 k0_hw865 k0_h16 => k0_hw865 k0_h16

def k0_chk866 (v431 : BitVec 32) (v535 : IVec S16 32) : Prop :=
  (∀ (k0_h16 : k0_cond16 v431 = 1#1), ∀ a x, ((![v535] : Fin 1 → IVec S16 32) a x).toNat < S4096.size a)
theorem k0_idx858_inb : ∀ (v431 : BitVec 32) (v535 : IVec S16 32) (k0_hw866 : k0_chk866 v431 v535), ∀ (k0_h16 : k0_cond16 v431 = 1#1), ∀ a x, ((![v535] : Fin 1 → IVec S16 32) a x).toNat < S4096.size a := fun v431 v535 k0_hw866 k0_h16 => k0_hw866 k0_h16

def k0_chk867 (v431 : BitVec 32) (v538 : IVec S16 32) : Prop :=
  (∀ (k0_h16 : k0_cond16 v431 = 1#1), ∀ a x, ((![v538] : Fin 1 → IVec S16 32) a x).toNat < S43520.size a)
theorem k0_idx859_inb : ∀ (v431 : BitVec 32) (v538 : IVec S16 32) (k0_hw867 : k0_chk867 v431 v538), ∀ (k0_h16 : k0_cond16 v431 = 1#1), ∀ a x, ((![v538] : Fin 1 → IVec S16 32) a x).toNat < S43520.size a := fun v431 v538 k0_hw867 k0_h16 => k0_hw867 k0_h16

def k0_chk868 (v431 : BitVec 32) (v541 : IVec S16 32) : Prop :=
  (∀ (k0_h16 : k0_cond16 v431 = 1#1), ∀ a x, ((![v541] : Fin 1 → IVec S16 32) a x).toNat < S4096.size a)
theorem k0_idx860_inb : ∀ (v431 : BitVec 32) (v541 : IVec S16 32) (k0_hw868 : k0_chk868 v431 v541), ∀ (k0_h16 : k0_cond16 v431 = 1#1), ∀ a x, ((![v541] : Fin 1 → IVec S16 32) a x).toNat < S4096.size a := fun v431 v541 k0_hw868 k0_h16 => k0_hw868 k0_h16

def k0_chk869 (v431 : BitVec 32) (v544 : IVec S16 32) : Prop :=
  (∀ (k0_h16 : k0_cond16 v431 = 1#1), ∀ a x, ((![v544] : Fin 1 → IVec S16 32) a x).toNat < S43520.size a)
theorem k0_idx861_inb : ∀ (v431 : BitVec 32) (v544 : IVec S16 32) (k0_hw869 : k0_chk869 v431 v544), ∀ (k0_h16 : k0_cond16 v431 = 1#1), ∀ a x, ((![v544] : Fin 1 → IVec S16 32) a x).toNat < S43520.size a := fun v431 v544 k0_hw869 k0_h16 => k0_hw869 k0_h16

def k0_chk870 (v431 : BitVec 32) (v547 : IVec S16 32) : Prop :=
  (∀ (k0_h16 : k0_cond16 v431 = 1#1), ∀ a x, ((![v547] : Fin 1 → IVec S16 32) a x).toNat < S4096.size a)
theorem k0_idx862_inb : ∀ (v431 : BitVec 32) (v547 : IVec S16 32) (k0_hw870 : k0_chk870 v431 v547), ∀ (k0_h16 : k0_cond16 v431 = 1#1), ∀ a x, ((![v547] : Fin 1 → IVec S16 32) a x).toNat < S4096.size a := fun v431 v547 k0_hw870 k0_h16 => k0_hw870 k0_h16

def k0_chk871 (v431 : BitVec 32) (v550 : IVec S16 32) : Prop :=
  (∀ (k0_h16 : k0_cond16 v431 = 1#1), ∀ a x, ((![v550] : Fin 1 → IVec S16 32) a x).toNat < S43520.size a)
theorem k0_idx863_inb : ∀ (v431 : BitVec 32) (v550 : IVec S16 32) (k0_hw871 : k0_chk871 v431 v550), ∀ (k0_h16 : k0_cond16 v431 = 1#1), ∀ a x, ((![v550] : Fin 1 → IVec S16 32) a x).toNat < S43520.size a := fun v431 v550 k0_hw871 k0_h16 => k0_hw871 k0_h16

def k0_chk872 (v431 : BitVec 32) (v553 : IVec S16 32) : Prop :=
  (∀ (k0_h16 : k0_cond16 v431 = 1#1), ∀ a x, ((![v553] : Fin 1 → IVec S16 32) a x).toNat < S4096.size a)
theorem k0_idx864_inb : ∀ (v431 : BitVec 32) (v553 : IVec S16 32) (k0_hw872 : k0_chk872 v431 v553), ∀ (k0_h16 : k0_cond16 v431 = 1#1), ∀ a x, ((![v553] : Fin 1 → IVec S16 32) a x).toNat < S4096.size a := fun v431 v553 k0_hw872 k0_h16 => k0_hw872 k0_h16

def k0_chk873 (v431 : BitVec 32) (v556 : IVec S16 32) : Prop :=
  (∀ (k0_h16 : k0_cond16 v431 = 1#1), ∀ a x, ((![v556] : Fin 1 → IVec S16 32) a x).toNat < S43520.size a)
theorem k0_idx865_inb : ∀ (v431 : BitVec 32) (v556 : IVec S16 32) (k0_hw873 : k0_chk873 v431 v556), ∀ (k0_h16 : k0_cond16 v431 = 1#1), ∀ a x, ((![v556] : Fin 1 → IVec S16 32) a x).toNat < S43520.size a := fun v431 v556 k0_hw873 k0_h16 => k0_hw873 k0_h16

def k0_chk874 (v431 : BitVec 32) (v559 : IVec S16 32) : Prop :=
  (∀ (k0_h16 : k0_cond16 v431 = 1#1), ∀ a x, ((![v559] : Fin 1 → IVec S16 32) a x).toNat < S4096.size a)
theorem k0_idx866_inb : ∀ (v431 : BitVec 32) (v559 : IVec S16 32) (k0_hw874 : k0_chk874 v431 v559), ∀ (k0_h16 : k0_cond16 v431 = 1#1), ∀ a x, ((![v559] : Fin 1 → IVec S16 32) a x).toNat < S4096.size a := fun v431 v559 k0_hw874 k0_h16 => k0_hw874 k0_h16

def k0_chk875 (v431 : BitVec 32) (v562 : IVec S16 32) : Prop :=
  (∀ (k0_h16 : k0_cond16 v431 = 1#1), ∀ a x, ((![v562] : Fin 1 → IVec S16 32) a x).toNat < S43520.size a)
theorem k0_idx867_inb : ∀ (v431 : BitVec 32) (v562 : IVec S16 32) (k0_hw875 : k0_chk875 v431 v562), ∀ (k0_h16 : k0_cond16 v431 = 1#1), ∀ a x, ((![v562] : Fin 1 → IVec S16 32) a x).toNat < S43520.size a := fun v431 v562 k0_hw875 k0_h16 => k0_hw875 k0_h16

def k0_chk876 (v431 : BitVec 32) (v565 : IVec S16 32) : Prop :=
  (∀ (k0_h16 : k0_cond16 v431 = 1#1), ∀ a x, ((![v565] : Fin 1 → IVec S16 32) a x).toNat < S4096.size a)
theorem k0_idx868_inb : ∀ (v431 : BitVec 32) (v565 : IVec S16 32) (k0_hw876 : k0_chk876 v431 v565), ∀ (k0_h16 : k0_cond16 v431 = 1#1), ∀ a x, ((![v565] : Fin 1 → IVec S16 32) a x).toNat < S4096.size a := fun v431 v565 k0_hw876 k0_h16 => k0_hw876 k0_h16

def k0_chk877 (v431 : BitVec 32) (v568 : IVec S16 32) : Prop :=
  (∀ (k0_h16 : k0_cond16 v431 = 1#1), ∀ a x, ((![v568] : Fin 1 → IVec S16 32) a x).toNat < S43520.size a)
theorem k0_idx869_inb : ∀ (v431 : BitVec 32) (v568 : IVec S16 32) (k0_hw877 : k0_chk877 v431 v568), ∀ (k0_h16 : k0_cond16 v431 = 1#1), ∀ a x, ((![v568] : Fin 1 → IVec S16 32) a x).toNat < S43520.size a := fun v431 v568 k0_hw877 k0_h16 => k0_hw877 k0_h16

def k0_chk878 (v431 : BitVec 32) (v571 : IVec S16 32) : Prop :=
  (∀ (k0_h16 : k0_cond16 v431 = 1#1), ∀ a x, ((![v571] : Fin 1 → IVec S16 32) a x).toNat < S4096.size a)
theorem k0_idx870_inb : ∀ (v431 : BitVec 32) (v571 : IVec S16 32) (k0_hw878 : k0_chk878 v431 v571), ∀ (k0_h16 : k0_cond16 v431 = 1#1), ∀ a x, ((![v571] : Fin 1 → IVec S16 32) a x).toNat < S4096.size a := fun v431 v571 k0_hw878 k0_h16 => k0_hw878 k0_h16

def k0_chk879 (v431 : BitVec 32) (v574 : IVec S16 32) : Prop :=
  (∀ (k0_h16 : k0_cond16 v431 = 1#1), ∀ a x, ((![v574] : Fin 1 → IVec S16 32) a x).toNat < S43520.size a)
theorem k0_idx871_inb : ∀ (v431 : BitVec 32) (v574 : IVec S16 32) (k0_hw879 : k0_chk879 v431 v574), ∀ (k0_h16 : k0_cond16 v431 = 1#1), ∀ a x, ((![v574] : Fin 1 → IVec S16 32) a x).toNat < S43520.size a := fun v431 v574 k0_hw879 k0_h16 => k0_hw879 k0_h16

def k0_chk880 (v431 : BitVec 32) (v577 : IVec S16 32) : Prop :=
  (∀ (k0_h16 : k0_cond16 v431 = 1#1), ∀ a x, ((![v577] : Fin 1 → IVec S16 32) a x).toNat < S4096.size a)
theorem k0_idx872_inb : ∀ (v431 : BitVec 32) (v577 : IVec S16 32) (k0_hw880 : k0_chk880 v431 v577), ∀ (k0_h16 : k0_cond16 v431 = 1#1), ∀ a x, ((![v577] : Fin 1 → IVec S16 32) a x).toNat < S4096.size a := fun v431 v577 k0_hw880 k0_h16 => k0_hw880 k0_h16

def k0_chk881 (v431 : BitVec 32) (v580 : IVec S16 32) : Prop :=
  (∀ (k0_h16 : k0_cond16 v431 = 1#1), ∀ a x, ((![v580] : Fin 1 → IVec S16 32) a x).toNat < S43520.size a)
theorem k0_idx873_inb : ∀ (v431 : BitVec 32) (v580 : IVec S16 32) (k0_hw881 : k0_chk881 v431 v580), ∀ (k0_h16 : k0_cond16 v431 = 1#1), ∀ a x, ((![v580] : Fin 1 → IVec S16 32) a x).toNat < S43520.size a := fun v431 v580 k0_hw881 k0_h16 => k0_hw881 k0_h16

def k0_chk882 (v431 : BitVec 32) (v583 : IVec S16 32) : Prop :=
  (∀ (k0_h16 : k0_cond16 v431 = 1#1), ∀ a x, ((![v583] : Fin 1 → IVec S16 32) a x).toNat < S4096.size a)
theorem k0_idx874_inb : ∀ (v431 : BitVec 32) (v583 : IVec S16 32) (k0_hw882 : k0_chk882 v431 v583), ∀ (k0_h16 : k0_cond16 v431 = 1#1), ∀ a x, ((![v583] : Fin 1 → IVec S16 32) a x).toNat < S4096.size a := fun v431 v583 k0_hw882 k0_h16 => k0_hw882 k0_h16

def k0_chk883 (v431 : BitVec 32) (v586 : IVec S16 32) : Prop :=
  (∀ (k0_h16 : k0_cond16 v431 = 1#1), ∀ a x, ((![v586] : Fin 1 → IVec S16 32) a x).toNat < S43520.size a)
theorem k0_idx875_inb : ∀ (v431 : BitVec 32) (v586 : IVec S16 32) (k0_hw883 : k0_chk883 v431 v586), ∀ (k0_h16 : k0_cond16 v431 = 1#1), ∀ a x, ((![v586] : Fin 1 → IVec S16 32) a x).toNat < S43520.size a := fun v431 v586 k0_hw883 k0_h16 => k0_hw883 k0_h16

def k0_chk884 (v431 : BitVec 32) (v589 : IVec S16 32) : Prop :=
  (∀ (k0_h16 : k0_cond16 v431 = 1#1), ∀ a x, ((![v589] : Fin 1 → IVec S16 32) a x).toNat < S4096.size a)
theorem k0_idx876_inb : ∀ (v431 : BitVec 32) (v589 : IVec S16 32) (k0_hw884 : k0_chk884 v431 v589), ∀ (k0_h16 : k0_cond16 v431 = 1#1), ∀ a x, ((![v589] : Fin 1 → IVec S16 32) a x).toNat < S4096.size a := fun v431 v589 k0_hw884 k0_h16 => k0_hw884 k0_h16

def k0_chk885 (v431 : BitVec 32) (v592 : IVec S16 32) : Prop :=
  (∀ (k0_h16 : k0_cond16 v431 = 1#1), ∀ a x, ((![v592] : Fin 1 → IVec S16 32) a x).toNat < S43520.size a)
theorem k0_idx877_inb : ∀ (v431 : BitVec 32) (v592 : IVec S16 32) (k0_hw885 : k0_chk885 v431 v592), ∀ (k0_h16 : k0_cond16 v431 = 1#1), ∀ a x, ((![v592] : Fin 1 → IVec S16 32) a x).toNat < S43520.size a := fun v431 v592 k0_hw885 k0_h16 => k0_hw885 k0_h16

def k0_chk886 (v431 : BitVec 32) (v595 : IVec S16 32) : Prop :=
  (∀ (k0_h16 : k0_cond16 v431 = 1#1), ∀ a x, ((![v595] : Fin 1 → IVec S16 32) a x).toNat < S4096.size a)
theorem k0_idx878_inb : ∀ (v431 : BitVec 32) (v595 : IVec S16 32) (k0_hw886 : k0_chk886 v431 v595), ∀ (k0_h16 : k0_cond16 v431 = 1#1), ∀ a x, ((![v595] : Fin 1 → IVec S16 32) a x).toNat < S4096.size a := fun v431 v595 k0_hw886 k0_h16 => k0_hw886 k0_h16

def k0_chk887 (v431 : BitVec 32) (v598 : IVec S16 32) : Prop :=
  (∀ (k0_h16 : k0_cond16 v431 = 1#1), ∀ a x, ((![v598] : Fin 1 → IVec S16 32) a x).toNat < S43520.size a)
theorem k0_idx879_inb : ∀ (v431 : BitVec 32) (v598 : IVec S16 32) (k0_hw887 : k0_chk887 v431 v598), ∀ (k0_h16 : k0_cond16 v431 = 1#1), ∀ a x, ((![v598] : Fin 1 → IVec S16 32) a x).toNat < S43520.size a := fun v431 v598 k0_hw887 k0_h16 => k0_hw887 k0_h16

def k0_chk888 (v431 : BitVec 32) (v601 : IVec S16 32) : Prop :=
  (∀ (k0_h16 : k0_cond16 v431 = 1#1), ∀ a x, ((![v601] : Fin 1 → IVec S16 32) a x).toNat < S4096.size a)
theorem k0_idx880_inb : ∀ (v431 : BitVec 32) (v601 : IVec S16 32) (k0_hw888 : k0_chk888 v431 v601), ∀ (k0_h16 : k0_cond16 v431 = 1#1), ∀ a x, ((![v601] : Fin 1 → IVec S16 32) a x).toNat < S4096.size a := fun v431 v601 k0_hw888 k0_h16 => k0_hw888 k0_h16

def k0_chk889 (v431 : BitVec 32) (v604 : IVec S16 32) : Prop :=
  (∀ (k0_h16 : k0_cond16 v431 = 1#1), ∀ a x, ((![v604] : Fin 1 → IVec S16 32) a x).toNat < S43520.size a)
theorem k0_idx881_inb : ∀ (v431 : BitVec 32) (v604 : IVec S16 32) (k0_hw889 : k0_chk889 v431 v604), ∀ (k0_h16 : k0_cond16 v431 = 1#1), ∀ a x, ((![v604] : Fin 1 → IVec S16 32) a x).toNat < S43520.size a := fun v431 v604 k0_hw889 k0_h16 => k0_hw889 k0_h16

def k0_chk890 (v431 : BitVec 32) (v607 : IVec S16 32) : Prop :=
  (∀ (k0_h16 : k0_cond16 v431 = 1#1), ∀ a x, ((![v607] : Fin 1 → IVec S16 32) a x).toNat < S4096.size a)
theorem k0_idx882_inb : ∀ (v431 : BitVec 32) (v607 : IVec S16 32) (k0_hw890 : k0_chk890 v431 v607), ∀ (k0_h16 : k0_cond16 v431 = 1#1), ∀ a x, ((![v607] : Fin 1 → IVec S16 32) a x).toNat < S4096.size a := fun v431 v607 k0_hw890 k0_h16 => k0_hw890 k0_h16

def k0_chk891 (v431 : BitVec 32) (v610 : IVec S16 32) : Prop :=
  (∀ (k0_h16 : k0_cond16 v431 = 1#1), ∀ a x, ((![v610] : Fin 1 → IVec S16 32) a x).toNat < S43520.size a)
theorem k0_idx883_inb : ∀ (v431 : BitVec 32) (v610 : IVec S16 32) (k0_hw891 : k0_chk891 v431 v610), ∀ (k0_h16 : k0_cond16 v431 = 1#1), ∀ a x, ((![v610] : Fin 1 → IVec S16 32) a x).toNat < S43520.size a := fun v431 v610 k0_hw891 k0_h16 => k0_hw891 k0_h16

def k0_chk892 (v431 : BitVec 32) (v613 : IVec S16 32) : Prop :=
  (∀ (k0_h16 : k0_cond16 v431 = 1#1), ∀ a x, ((![v613] : Fin 1 → IVec S16 32) a x).toNat < S4096.size a)
theorem k0_idx884_inb : ∀ (v431 : BitVec 32) (v613 : IVec S16 32) (k0_hw892 : k0_chk892 v431 v613), ∀ (k0_h16 : k0_cond16 v431 = 1#1), ∀ a x, ((![v613] : Fin 1 → IVec S16 32) a x).toNat < S4096.size a := fun v431 v613 k0_hw892 k0_h16 => k0_hw892 k0_h16

def k0_chk893 (v431 : BitVec 32) (v616 : IVec S16 32) : Prop :=
  (∀ (k0_h16 : k0_cond16 v431 = 1#1), ∀ a x, ((![v616] : Fin 1 → IVec S16 32) a x).toNat < S43520.size a)
theorem k0_idx885_inb : ∀ (v431 : BitVec 32) (v616 : IVec S16 32) (k0_hw893 : k0_chk893 v431 v616), ∀ (k0_h16 : k0_cond16 v431 = 1#1), ∀ a x, ((![v616] : Fin 1 → IVec S16 32) a x).toNat < S43520.size a := fun v431 v616 k0_hw893 k0_h16 => k0_hw893 k0_h16

def k0_chk894 (v431 : BitVec 32) (v619 : IVec S16 32) : Prop :=
  (∀ (k0_h16 : k0_cond16 v431 = 1#1), ∀ a x, ((![v619] : Fin 1 → IVec S16 32) a x).toNat < S4096.size a)
theorem k0_idx886_inb : ∀ (v431 : BitVec 32) (v619 : IVec S16 32) (k0_hw894 : k0_chk894 v431 v619), ∀ (k0_h16 : k0_cond16 v431 = 1#1), ∀ a x, ((![v619] : Fin 1 → IVec S16 32) a x).toNat < S4096.size a := fun v431 v619 k0_hw894 k0_h16 => k0_hw894 k0_h16

def k0_chk895 (v431 : BitVec 32) (v622 : IVec S16 32) : Prop :=
  (∀ (k0_h16 : k0_cond16 v431 = 1#1), ∀ a x, ((![v622] : Fin 1 → IVec S16 32) a x).toNat < S43520.size a)
theorem k0_idx887_inb : ∀ (v431 : BitVec 32) (v622 : IVec S16 32) (k0_hw895 : k0_chk895 v431 v622), ∀ (k0_h16 : k0_cond16 v431 = 1#1), ∀ a x, ((![v622] : Fin 1 → IVec S16 32) a x).toNat < S43520.size a := fun v431 v622 k0_hw895 k0_h16 => k0_hw895 k0_h16

def k0_chk896 (v431 : BitVec 32) (v625 : IVec S16 32) : Prop :=
  (∀ (k0_h16 : k0_cond16 v431 = 1#1), ∀ a x, ((![v625] : Fin 1 → IVec S16 32) a x).toNat < S4096.size a)
theorem k0_idx888_inb : ∀ (v431 : BitVec 32) (v625 : IVec S16 32) (k0_hw896 : k0_chk896 v431 v625), ∀ (k0_h16 : k0_cond16 v431 = 1#1), ∀ a x, ((![v625] : Fin 1 → IVec S16 32) a x).toNat < S4096.size a := fun v431 v625 k0_hw896 k0_h16 => k0_hw896 k0_h16
def k0_off4 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32 : BitVec 32 := 32#32
  let v7 : BitVec 32 := Scalar.muli v2 c32_i32
  ![v7.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1x10000x3 : Shape := ⟨3, ![1, 10000, 3]⟩
abbrev S34x1280 : Shape := ⟨2, ![34, 1280]⟩
abbrev S1x1280 : Shape := ⟨2, ![1, 1280]⟩
abbrev S512x1 : Shape := ⟨2, ![512, 1]⟩
abbrev S512x28 : Shape := ⟨2, ![512, 28]⟩
abbrev S1x3856x3 : Shape := ⟨3, ![1, 3856, 3]⟩
abbrev S3856x3 : Shape := ⟨2, ![3856, 3]⟩
abbrev S_ : Shape := ⟨0, ![]⟩
abbrev S1280 : Shape := ⟨1, ![1280]⟩
abbrev S3856x1280 : Shape := ⟨2, ![3856, 1280]⟩
abbrev S3x1280 : Shape := ⟨2, ![3, 1280]⟩
abbrev S3856x1 : Shape := ⟨2, ![3856, 1]⟩
abbrev S3856 : Shape := ⟨1, ![3856]⟩
abbrev S17x1280 : Shape := ⟨2, ![17, 1280]⟩
abbrev S1280x17 : Shape := ⟨2, ![1280, 17]⟩
abbrev S3856x17 : Shape := ⟨2, ![3856, 17]⟩

abbrev nBuf : Space → Nat
  | .hbm => 120
  | .vmem => 0
  | .smem => 0
  | _ => 0

abbrev bufTy : (tb : Table) → Fin (tcTables nBuf tb) → BufTy
  | .hbm, ⟨0, _⟩ => ⟨S1x10000x3, .f32⟩
  | .hbm, ⟨1, _⟩ => ⟨S34x1280, .f32⟩
  | .hbm, ⟨2, _⟩ => ⟨S1x1280, .i32⟩
  | .hbm, ⟨3, _⟩ => ⟨S512x1, .i32⟩
  | .hbm, ⟨4, _⟩ => ⟨S512x28, .i32⟩
  | .hbm, ⟨5, _⟩ => ⟨S1x3856x3, .f32⟩
  | .hbm, ⟨6, _⟩ => ⟨S3856x3, .f32⟩
  | .hbm, ⟨7, _⟩ => ⟨S_, .f32⟩
  | .hbm, ⟨8, _⟩ => ⟨S3856x3, .f32⟩
  | .hbm, ⟨9, _⟩ => ⟨S3856x3, .f32⟩
  | .hbm, ⟨10, _⟩ => ⟨S3856x3, .f32⟩
  | .hbm, ⟨11, _⟩ => ⟨S3856x3, .i32⟩
  | .hbm, ⟨12, _⟩ => ⟨S1280, .i32⟩
  | .hbm, ⟨13, _⟩ => ⟨S_, .i32⟩
  | .hbm, ⟨14, _⟩ => ⟨S1280, .i32⟩
  | .hbm, ⟨15, _⟩ => ⟨S1280, .i32⟩
  | .hbm, ⟨16, _⟩ => ⟨S_, .i32⟩
  | .hbm, ⟨17, _⟩ => ⟨S1280, .i32⟩
  | .hbm, ⟨18, _⟩ => ⟨S1280, .i32⟩
  | .hbm, ⟨19, _⟩ => ⟨S_, .i32⟩
  | .hbm, ⟨20, _⟩ => ⟨S1280, .i32⟩
  | .hbm, ⟨21, _⟩ => ⟨S1280, .i32⟩
  | .hbm, ⟨22, _⟩ => ⟨S_, .i32⟩
  | .hbm, ⟨23, _⟩ => ⟨S1280, .i32⟩
  | .hbm, ⟨24, _⟩ => ⟨S1280, .i32⟩
  | .hbm, ⟨25, _⟩ => ⟨S_, .i32⟩
  | .hbm, ⟨26, _⟩ => ⟨S1280, .i32⟩
  | .hbm, ⟨27, _⟩ => ⟨S1280, .i32⟩
  | .hbm, ⟨28, _⟩ => ⟨S_, .i32⟩
  | .hbm, ⟨29, _⟩ => ⟨S1280, .i32⟩
  | .hbm, ⟨30, _⟩ => ⟨S1280, .i32⟩
  | .hbm, ⟨31, _⟩ => ⟨S_, .f32⟩
  | .hbm, ⟨32, _⟩ => ⟨S3856x1280, .f32⟩
  | .hbm, ⟨33, _⟩ => ⟨S_, .i32⟩
  | .hbm, ⟨34, _⟩ => ⟨S3856x1280, .i32⟩
  | .hbm, ⟨35, _⟩ => ⟨S3x1280, .f32⟩
  | .hbm, ⟨36, _⟩ => ⟨S3856x1280, .f32⟩
  | .hbm, ⟨37, _⟩ => ⟨S1x1280, .f32⟩
  | .hbm, ⟨38, _⟩ => ⟨S1280, .f32⟩
  | .hbm, ⟨39, _⟩ => ⟨S1x1280, .f32⟩
  | .hbm, ⟨40, _⟩ => ⟨S3856x1280, .f32⟩
  | .hbm, ⟨41, _⟩ => ⟨S3856x1280, .f32⟩
  | .hbm, ⟨42, _⟩ => ⟨S3856x1280, .f32⟩
  | .hbm, ⟨43, _⟩ => ⟨S1x1280, .f32⟩
  | .hbm, ⟨44, _⟩ => ⟨S1280, .f32⟩
  | .hbm, ⟨45, _⟩ => ⟨S1x1280, .f32⟩
  | .hbm, ⟨46, _⟩ => ⟨S3856x1280, .f32⟩
  | .hbm, ⟨47, _⟩ => ⟨S3856x1280, .f32⟩
  | .hbm, ⟨48, _⟩ => ⟨S3856x1280, .f32⟩
  | .hbm, ⟨49, _⟩ => ⟨S3856x1, .i32⟩
  | .hbm, ⟨50, _⟩ => ⟨S1x1280, .i32⟩
  | .hbm, ⟨51, _⟩ => ⟨S3856x1280, .i32⟩
  | .hbm, ⟨52, _⟩ => ⟨S3856x1280, .i32⟩
  | .hbm, ⟨53, _⟩ => ⟨S3856x1280, .i32⟩
  | .hbm, ⟨54, _⟩ => ⟨S3856x1280, .i32⟩
  | .hbm, ⟨55, _⟩ => ⟨S3856x1280, .i32⟩
  | .hbm, ⟨56, _⟩ => ⟨S3x1280, .f32⟩
  | .hbm, ⟨57, _⟩ => ⟨S3856x1280, .f32⟩
  | .hbm, ⟨58, _⟩ => ⟨S1x1280, .f32⟩
  | .hbm, ⟨59, _⟩ => ⟨S1280, .f32⟩
  | .hbm, ⟨60, _⟩ => ⟨S1x1280, .f32⟩
  | .hbm, ⟨61, _⟩ => ⟨S3856x1280, .f32⟩
  | .hbm, ⟨62, _⟩ => ⟨S3856x1280, .f32⟩
  | .hbm, ⟨63, _⟩ => ⟨S3856x1280, .f32⟩
  | .hbm, ⟨64, _⟩ => ⟨S1x1280, .f32⟩
  | .hbm, ⟨65, _⟩ => ⟨S1280, .f32⟩
  | .hbm, ⟨66, _⟩ => ⟨S1x1280, .f32⟩
  | .hbm, ⟨67, _⟩ => ⟨S3856x1280, .f32⟩
  | .hbm, ⟨68, _⟩ => ⟨S3856x1280, .f32⟩
  | .hbm, ⟨69, _⟩ => ⟨S3856x1280, .f32⟩
  | .hbm, ⟨70, _⟩ => ⟨S3856x1, .i32⟩
  | .hbm, ⟨71, _⟩ => ⟨S1x1280, .i32⟩
  | .hbm, ⟨72, _⟩ => ⟨S3856x1280, .i32⟩
  | .hbm, ⟨73, _⟩ => ⟨S3856x1280, .i32⟩
  | .hbm, ⟨74, _⟩ => ⟨S3856x1280, .i32⟩
  | .hbm, ⟨75, _⟩ => ⟨S3856x1280, .i32⟩
  | .hbm, ⟨76, _⟩ => ⟨S3856x1280, .i32⟩
  | .hbm, ⟨77, _⟩ => ⟨S3x1280, .f32⟩
  | .hbm, ⟨78, _⟩ => ⟨S3856x1280, .f32⟩
  | .hbm, ⟨79, _⟩ => ⟨S1x1280, .f32⟩
  | .hbm, ⟨80, _⟩ => ⟨S1280, .f32⟩
  | .hbm, ⟨81, _⟩ => ⟨S1x1280, .f32⟩
  | .hbm, ⟨82, _⟩ => ⟨S3856x1280, .f32⟩
  | .hbm, ⟨83, _⟩ => ⟨S3856x1280, .f32⟩
  | .hbm, ⟨84, _⟩ => ⟨S3856x1280, .f32⟩
  | .hbm, ⟨85, _⟩ => ⟨S1x1280, .f32⟩
  | .hbm, ⟨86, _⟩ => ⟨S1280, .f32⟩
  | .hbm, ⟨87, _⟩ => ⟨S1x1280, .f32⟩
  | .hbm, ⟨88, _⟩ => ⟨S3856x1280, .f32⟩
  | .hbm, ⟨89, _⟩ => ⟨S3856x1280, .f32⟩
  | .hbm, ⟨90, _⟩ => ⟨S3856x1280, .f32⟩
  | .hbm, ⟨91, _⟩ => ⟨S3856x1, .i32⟩
  | .hbm, ⟨92, _⟩ => ⟨S1x1280, .i32⟩
  | .hbm, ⟨93, _⟩ => ⟨S3856x1280, .i32⟩
  | .hbm, ⟨94, _⟩ => ⟨S3856x1280, .i32⟩
  | .hbm, ⟨95, _⟩ => ⟨S3856x1280, .i32⟩
  | .hbm, ⟨96, _⟩ => ⟨S3856x1280, .i32⟩
  | .hbm, ⟨97, _⟩ => ⟨S3856x1280, .i32⟩
  | .hbm, ⟨98, _⟩ => ⟨S_, .f32⟩
  | .hbm, ⟨99, _⟩ => ⟨S3856x1280, .f32⟩
  | .hbm, ⟨100, _⟩ => ⟨S3856x1280, .f32⟩
  | .hbm, ⟨101, _⟩ => ⟨S3856x1280, .f32⟩
  | .hbm, ⟨102, _⟩ => ⟨S1x1280, .i32⟩
  | .hbm, ⟨103, _⟩ => ⟨S3856x1280, .i32⟩
  | .hbm, ⟨104, _⟩ => ⟨S3856x1280, .i1⟩
  | .hbm, ⟨105, _⟩ => ⟨S3856x1280, .f32⟩
  | .hbm, ⟨106, _⟩ => ⟨S3856x1280, .f32⟩
  | .hbm, ⟨107, _⟩ => ⟨S1x1280, .f32⟩
  | .hbm, ⟨108, _⟩ => ⟨S1280, .f32⟩
  | .hbm, ⟨109, _⟩ => ⟨S1x1280, .f32⟩
  | .hbm, ⟨110, _⟩ => ⟨S3856x1280, .f32⟩
  | .hbm, ⟨111, _⟩ => ⟨S3856x1280, .f32⟩
  | .hbm, ⟨112, _⟩ => ⟨S_, .f32⟩
  | .hbm, ⟨113, _⟩ => ⟨S3856, .f32⟩
  | .hbm, ⟨114, _⟩ => ⟨S1x1280, .f32⟩
  | .hbm, ⟨115, _⟩ => ⟨S1280, .f32⟩
  | .hbm, ⟨116, _⟩ => ⟨S3856, .f32⟩
  | .hbm, ⟨117, _⟩ => ⟨S17x1280, .f32⟩
  | .hbm, ⟨118, _⟩ => ⟨S1280x17, .f32⟩
  | .hbm, ⟨119, _⟩ => ⟨S3856x17, .f32⟩
  | _, _ => ⟨S1x10000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_c_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_cst_7 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_cst_8 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩

abbrev nD : Nat := 1
abbrev τ : Topo := Topo.v7x

variable {F : FTy → Type} [FloatOps F]
-- ==== Dense.lean ====
abbrev S1x10000x3 : Shape := ⟨3, ![1, 10000, 3]⟩
abbrev S1x1280x3 : Shape := ⟨3, ![1, 1280, 3]⟩
abbrev S1x1280 : Shape := ⟨2, ![1, 1280]⟩
abbrev S1x1280x17 : Shape := ⟨3, ![1, 1280, 17]⟩
abbrev S1x1280x4 : Shape := ⟨3, ![1, 1280, 4]⟩
abbrev S10000x3 : Shape := ⟨2, ![10000, 3]⟩
abbrev S1280x3 : Shape := ⟨2, ![1280, 3]⟩
abbrev S1280 : Shape := ⟨1, ![1280]⟩
abbrev S1280x17 : Shape := ⟨2, ![1280, 17]⟩
abbrev S1280x4 : Shape := ⟨2, ![1280, 4]⟩
abbrev S1280x1 : Shape := ⟨2, ![1280, 1]⟩
abbrev S_ : Shape := ⟨0, ![]⟩
abbrev S3x1280 : Shape := ⟨2, ![3, 1280]⟩
abbrev S4x1280 : Shape := ⟨2, ![4, 1280]⟩
abbrev S17x1280 : Shape := ⟨2, ![17, 1280]⟩
abbrev S34x1280 : Shape := ⟨2, ![34, 1280]⟩
abbrev S512x1 : Shape := ⟨2, ![512, 1]⟩
abbrev S512x28 : Shape := ⟨2, ![512, 28]⟩
abbrev S1280x19 : Shape := ⟨2, ![1280, 19]⟩
abbrev S512x1280 : Shape := ⟨2, ![512, 1280]⟩
abbrev S512 : Shape := ⟨1, ![512]⟩
abbrev S1280x1280 : Shape := ⟨2, ![1280, 1280]⟩
abbrev S1280x28 : Shape := ⟨2, ![1280, 28]⟩
abbrev S6144x3 : Shape := ⟨2, ![6144, 3]⟩
abbrev S6144x19 : Shape := ⟨2, ![6144, 19]⟩
abbrev S1024x3 : Shape := ⟨2, ![1024, 3]⟩
abbrev S1024x19 : Shape := ⟨2, ![1024, 19]⟩
abbrev S1024x1280 : Shape := ⟨2, ![1024, 1280]⟩
abbrev S1024x1 : Shape := ⟨2, ![1024, 1]⟩
abbrev S6144x17 : Shape := ⟨2, ![6144, 17]⟩
abbrev S6144x1 : Shape := ⟨2, ![6144, 1]⟩
abbrev S6144 : Shape := ⟨1, ![6144]⟩

abbrev nBuf : Space → Nat
  | .hbm => 71
  | .vmem => 36
  | .smem => 0
  | _ => 0

abbrev bufTy : (tb : Table) → Fin (tcTables nBuf tb) → BufTy
  | .hbm, ⟨0, _⟩ => ⟨S1x10000x3, .f32⟩
  | .hbm, ⟨1, _⟩ => ⟨S1x1280x3, .f32⟩
  | .hbm, ⟨2, _⟩ => ⟨S1x1280, .f32⟩
  | .hbm, ⟨3, _⟩ => ⟨S1x1280, .f32⟩
  | .hbm, ⟨4, _⟩ => ⟨S1x1280, .f32⟩
  | .hbm, ⟨5, _⟩ => ⟨S1x1280x17, .f32⟩
  | .hbm, ⟨6, _⟩ => ⟨S1x1280x3, .f32⟩
  | .hbm, ⟨7, _⟩ => ⟨S1x1280x4, .f32⟩
  | .hbm, ⟨8, _⟩ => ⟨S10000x3, .f32⟩
  | .hbm, ⟨9, _⟩ => ⟨S1280x3, .f32⟩
  | .hbm, ⟨10, _⟩ => ⟨S1280, .f32⟩
  | .hbm, ⟨11, _⟩ => ⟨S1280, .f32⟩
  | .hbm, ⟨12, _⟩ => ⟨S1280, .f32⟩
  | .hbm, ⟨13, _⟩ => ⟨S1280x17, .f32⟩
  | .hbm, ⟨14, _⟩ => ⟨S1280x3, .f32⟩
  | .hbm, ⟨15, _⟩ => ⟨S1280x4, .f32⟩
  | .hbm, ⟨16, _⟩ => ⟨S1280x1, .f32⟩
  | .hbm, ⟨17, _⟩ => ⟨S1280x17, .f32⟩
  | .hbm, ⟨18, _⟩ => ⟨S1280x17, .f32⟩
  | .hbm, ⟨19, _⟩ => ⟨S_, .f32⟩
  | .hbm, ⟨20, _⟩ => ⟨S10000x3, .f32⟩
  | .hbm, ⟨21, _⟩ => ⟨S10000x3, .f32⟩
  | .hbm, ⟨22, _⟩ => ⟨S10000x3, .f32⟩
  | .hbm, ⟨23, _⟩ => ⟨S10000x3, .i32⟩
  | .hbm, ⟨24, _⟩ => ⟨S_, .f32⟩
  | .hbm, ⟨25, _⟩ => ⟨S1280x3, .f32⟩
  | .hbm, ⟨26, _⟩ => ⟨S1280x3, .f32⟩
  | .hbm, ⟨27, _⟩ => ⟨S1280x3, .f32⟩
  | .hbm, ⟨28, _⟩ => ⟨S1280x3, .i32⟩
  | .hbm, ⟨29, _⟩ => ⟨S3x1280, .i32⟩
  | .hbm, ⟨30, _⟩ => ⟨S_, .f32⟩
  | .hbm, ⟨31, _⟩ => ⟨S1280, .f32⟩
  | .hbm, ⟨32, _⟩ => ⟨S_, .f32⟩
  | .hbm, ⟨33, _⟩ => ⟨S1280, .f32⟩
  | .hbm, ⟨34, _⟩ => ⟨S1280, .f32⟩
  | .hbm, ⟨35, _⟩ => ⟨S_, .f32⟩
  | .hbm, ⟨36, _⟩ => ⟨S1280, .f32⟩
  | .hbm, ⟨37, _⟩ => ⟨S1280, .f32⟩
  | .hbm, ⟨38, _⟩ => ⟨S1280, .f32⟩
  | .hbm, ⟨39, _⟩ => ⟨S_, .f32⟩
  | .hbm, ⟨40, _⟩ => ⟨S1280, .f32⟩
  | .hbm, ⟨41, _⟩ => ⟨S1280, .f32⟩
  | .hbm, ⟨42, _⟩ => ⟨S1280, .i32⟩
  | .hbm, ⟨43, _⟩ => ⟨S1x1280, .i32⟩
  | .hbm, ⟨44, _⟩ => ⟨S3x1280, .f32⟩
  | .hbm, ⟨45, _⟩ => ⟨S4x1280, .f32⟩
  | .hbm, ⟨46, _⟩ => ⟨S3x1280, .f32⟩
  | .hbm, ⟨47, _⟩ => ⟨S17x1280, .f32⟩
  | .hbm, ⟨48, _⟩ => ⟨S1280x1, .f32⟩
  | .hbm, ⟨49, _⟩ => ⟨S1x1280, .f32⟩
  | .hbm, ⟨50, _⟩ => ⟨S1x1280, .f32⟩
  | .hbm, ⟨51, _⟩ => ⟨S34x1280, .f32⟩
  | .hbm, ⟨52, _⟩ => ⟨S1x1280, .i32⟩
  | .hbm, ⟨53, _⟩ => ⟨S512x1, .i32⟩
  | .hbm, ⟨54, _⟩ => ⟨S512x28, .i32⟩
  | .hbm, ⟨55, _⟩ => ⟨S3x1280, .bf16⟩
  | .hbm, ⟨56, _⟩ => ⟨S3x1280, .bf16⟩
  | .hbm, ⟨57, _⟩ => ⟨S3x1280, .bf16⟩
  | .hbm, ⟨58, _⟩ => ⟨S3x1280, .f32⟩
  | .hbm, ⟨59, _⟩ => ⟨S3x1280, .f32⟩
  | .hbm, ⟨60, _⟩ => ⟨S1280x19, .bf16⟩
  | .hbm, ⟨61, _⟩ => ⟨S6144x3, .f32⟩
  | .hbm, ⟨62, _⟩ => ⟨S6144x3, .bf16⟩
  | .hbm, ⟨63, _⟩ => ⟨S6144x3, .i32⟩
  | .hbm, ⟨64, _⟩ => ⟨S1x1280, .f32⟩
  | .hbm, ⟨65, _⟩ => ⟨S6144x19, .f32⟩
  | .hbm, ⟨66, _⟩ => ⟨S6144x17, .f32⟩
  | .hbm, ⟨67, _⟩ => ⟨S6144x1, .f32⟩
  | .hbm, ⟨68, _⟩ => ⟨S6144, .f32⟩
  | .hbm, ⟨69, _⟩ => ⟨S6144x1, .f32⟩
  | .hbm, ⟨70, _⟩ => ⟨S6144, .f32⟩
  | .local _ .vmem, ⟨0, _⟩ => ⟨S1280x3, .f32⟩
  | .local _ .vmem, ⟨1, _⟩ => ⟨S3x1280, .f32⟩
  | .local _ .vmem, ⟨2, _⟩ => ⟨S4x1280, .f32⟩
  | .local _ .vmem, ⟨3, _⟩ => ⟨S3x1280, .f32⟩
  | .local _ .vmem, ⟨4, _⟩ => ⟨S17x1280, .f32⟩
  | .local _ .vmem, ⟨5, _⟩ => ⟨S1280x17, .f32⟩
  | .local _ .vmem, ⟨6, _⟩ => ⟨S1280x1, .f32⟩
  | .local _ .vmem, ⟨7, _⟩ => ⟨S1x1280, .f32⟩
  | .local _ .vmem, ⟨8, _⟩ => ⟨S1x1280, .f32⟩
  | .local _ .vmem, ⟨9, _⟩ => ⟨S3x1280, .i32⟩
  | .local _ .vmem, ⟨10, _⟩ => ⟨S1x1280, .i32⟩
  | .local _ .vmem, ⟨11, _⟩ => ⟨S34x1280, .f32⟩
  | .local _ .vmem, ⟨12, _⟩ => ⟨S1x1280, .i32⟩
  | .local _ .vmem, ⟨13, _⟩ => ⟨S512x1, .i32⟩
  | .local _ .vmem, ⟨14, _⟩ => ⟨S512x28, .i32⟩
  | .local _ .vmem, ⟨15, _⟩ => ⟨S3x1280, .bf16⟩
  | .local _ .vmem, ⟨16, _⟩ => ⟨S3x1280, .bf16⟩
  | .local _ .vmem, ⟨17, _⟩ => ⟨S3x1280, .bf16⟩
  | .local _ .vmem, ⟨18, _⟩ => ⟨S3x1280, .f32⟩
  | .local _ .vmem, ⟨19, _⟩ => ⟨S3x1280, .f32⟩
  | .local _ .vmem, ⟨20, _⟩ => ⟨S1280x19, .bf16⟩
  | .local _ .vmem, ⟨21, _⟩ => ⟨S1024x3, .bf16⟩
  | .local _ .vmem, ⟨22, _⟩ => ⟨S1024x3, .bf16⟩
  | .local _ .vmem, ⟨23, _⟩ => ⟨S1024x3, .i32⟩
  | .local _ .vmem, ⟨24, _⟩ => ⟨S1024x3, .i32⟩
  | .local _ .vmem, ⟨25, _⟩ => ⟨S3x1280, .bf16⟩
  | .local _ .vmem, ⟨26, _⟩ => ⟨S3x1280, .bf16⟩
  | .local _ .vmem, ⟨27, _⟩ => ⟨S3x1280, .bf16⟩
  | .local _ .vmem, ⟨28, _⟩ => ⟨S3x1280, .f32⟩
  | .local _ .vmem, ⟨29, _⟩ => ⟨S3x1280, .f32⟩
  | .local _ .vmem, ⟨30, _⟩ => ⟨S1x1280, .f32⟩
  | .local _ .vmem, ⟨31, _⟩ => ⟨S3x1280, .i32⟩
  | .local _ .vmem, ⟨32, _⟩ => ⟨S1x1280, .i32⟩
  | .local _ .vmem, ⟨33, _⟩ => ⟨S1280x19, .bf16⟩
  | .local _ .vmem, ⟨34, _⟩ => ⟨S1024x19, .f32⟩
  | .local _ .vmem, ⟨35, _⟩ => ⟨S1024x19, .f32⟩
  | _, _ => ⟨S1x10000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37_0 : Ref sig .tc := ⟨.hbm, 51, rfl⟩
abbrev main_v37_1 : Ref sig .tc := ⟨.hbm, 52, rfl⟩
abbrev main_v37_2 : Ref sig .tc := ⟨.hbm, 53, rfl⟩
abbrev main_v37_3 : Ref sig .tc := ⟨.hbm, 54, rfl⟩
abbrev main_v37_4 : Ref sig .tc := ⟨.hbm, 55, rfl⟩
abbrev main_v37_5 : Ref sig .tc := ⟨.hbm, 56, rfl⟩
abbrev main_v37_6 : Ref sig .tc := ⟨.hbm, 57, rfl⟩
abbrev main_v37_7 : Ref sig .tc := ⟨.hbm, 58, rfl⟩
abbrev main_v37_8 : Ref sig .tc := ⟨.hbm, 59, rfl⟩
abbrev main_v37_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg9_0 : Ref sig .tc := ⟨.vmem, 32, rfl⟩
abbrev cc1_stg10_0 : Ref sig .tc := ⟨.vmem, 33, rfl⟩
abbrev cc1_stg11_0 : Ref sig .tc := ⟨.vmem, 34, rfl⟩
abbrev cc1_stg11_1 : Ref sig .tc := ⟨.vmem, 35, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem3_0 : DmaSem sig := 26
abbrev cc1_sem4_0 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem9_0 : DmaSem sig := 32
abbrev cc1_sem10_0 : DmaSem sig := 33
abbrev cc1_sem11_0 : DmaSem sig := 34
abbrev cc1_sem11_1 : DmaSem sig := 35

abbrev nD : Nat := 1
abbrev τ : Topo := Topo.v7x

variable {F : FTy → Type} [FloatOps F]

abbrev grid0 : Pipeline.Grid := .none

abbrev stage0_0 : Fin 1 → Memref sig .tc .vmem S1280x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S17x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1280x17 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1280x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1280 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x1280 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1280 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S34x1280 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1280 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S512x1 .i32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S512x28 .i32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S3x1280 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S3x1280 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S3x1280 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S3x1280 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S3x1280 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1280x19 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev grid1 : Pipeline.Grid := ⟨1, ![6], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x3 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x3 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3x1280 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3x1280 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3x1280 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3x1280 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S3x1280 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1280 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S3x1280 .i32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1280 .i32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1280x19 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S1024x19 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]
-- ==== DenseReferenceIdeal.lean ====
abbrev S1x10000x3 : Shape := ⟨3, ![1, 10000, 3]⟩
abbrev S1x1280x3 : Shape := ⟨3, ![1, 1280, 3]⟩
abbrev S1x1280 : Shape := ⟨2, ![1, 1280]⟩
abbrev S1x1280x17 : Shape := ⟨3, ![1, 1280, 17]⟩
abbrev S1x1280x4 : Shape := ⟨3, ![1, 1280, 4]⟩
abbrev S1x6144x3 : Shape := ⟨3, ![1, 6144, 3]⟩
abbrev S6144x3 : Shape := ⟨2, ![6144, 3]⟩
abbrev S1280x3 : Shape := ⟨2, ![1280, 3]⟩
abbrev S1280 : Shape := ⟨1, ![1280]⟩
abbrev S1280x17 : Shape := ⟨2, ![1280, 17]⟩
abbrev S1280x4 : Shape := ⟨2, ![1280, 4]⟩
abbrev S_ : Shape := ⟨0, ![]⟩
abbrev S3 : Shape := ⟨1, ![3]⟩
abbrev S1x3 : Shape := ⟨2, ![1, 3]⟩
abbrev S1280x1 : Shape := ⟨2, ![1280, 1]⟩
abbrev S1280x1x3 : Shape := ⟨3, ![1280, 1, 3]⟩
abbrev S1280x3x3 : Shape := ⟨3, ![1280, 3, 3]⟩
abbrev S6144x1280 : Shape := ⟨2, ![6144, 1280]⟩
abbrev S1280x3x1 : Shape := ⟨3, ![1280, 3, 1]⟩
abbrev S3x1280 : Shape := ⟨2, ![3, 1280]⟩
abbrev S6144x1 : Shape := ⟨2, ![6144, 1]⟩
abbrev S6144 : Shape := ⟨1, ![6144]⟩
abbrev S6144x17 : Shape := ⟨2, ![6144, 17]⟩
abbrev S17x1280 : Shape := ⟨2, ![17, 1280]⟩
abbrev S34x1280 : Shape := ⟨2, ![34, 1280]⟩
abbrev S512 : Shape := ⟨1, ![512]⟩
abbrev S512x1 : Shape := ⟨2, ![512, 1]⟩
abbrev S512x1280 : Shape := ⟨2, ![512, 1280]⟩
abbrev S1280x1280 : Shape := ⟨2, ![1280, 1280]⟩
abbrev S512x1x1280 : Shape := ⟨3, ![512, 1, 1280]⟩
abbrev S28 : Shape := ⟨1, ![28]⟩
abbrev S28x1 : Shape := ⟨2, ![28, 1]⟩
abbrev S28x1280 : Shape := ⟨2, ![28, 1280]⟩
abbrev S1x28x1280 : Shape := ⟨3, ![1, 28, 1280]⟩
abbrev S512x28x1280 : Shape := ⟨3, ![512, 28, 1280]⟩
abbrev S512x28 : Shape := ⟨2, ![512, 28]⟩

abbrev nBuf : Space → Nat
  | .hbm => 377
  | .vmem => 0
  | .smem => 0
  | _ => 0

abbrev hbmTy0_0 (i : Nat) : BufTy := match i % 128 with
  | 0 => ⟨S1x10000x3, .f32⟩
  | 1 => ⟨S1x1280x3, .f32⟩
  | 2 => ⟨S1x1280, .f32⟩
  | 3 => ⟨S1x1280, .f32⟩
  | 4 => ⟨S1x1280, .f32⟩
  | 5 => ⟨S1x1280x17, .f32⟩
  | 6 => ⟨S1x1280x3, .f32⟩
  | 7 => ⟨S1x1280x4, .f32⟩
  | 8 => ⟨S1x6144x3, .f32⟩
  | 9 => ⟨S6144x3, .f32⟩
  | 10 => ⟨S1280x3, .f32⟩
  | 11 => ⟨S1280, .f32⟩
  | 12 => ⟨S1280, .f32⟩
  | 13 => ⟨S1280, .f32⟩
  | 14 => ⟨S1280x17, .f32⟩
  | 15 => ⟨S1280x3, .f32⟩
  | 16 => ⟨S1280x4, .f32⟩
  | 17 => ⟨S_, .f32⟩
  | 18 => ⟨S3, .f32⟩
  | 19 => ⟨S1x3, .f32⟩
  | 20 => ⟨S6144x3, .f32⟩
  | 21 => ⟨S6144x3, .f32⟩
  | 22 => ⟨S_, .f32⟩
  | 23 => ⟨S6144x3, .f32⟩
  | 24 => ⟨S6144x3, .f32⟩
  | 25 => ⟨S6144x3, .f32⟩
  | 26 => ⟨S6144x3, .i32⟩
  | 27 => ⟨S1x3, .f32⟩
  | 28 => ⟨S1280x3, .f32⟩
  | 29 => ⟨S1280x3, .f32⟩
  | 30 => ⟨S_, .f32⟩
  | 31 => ⟨S1280x3, .f32⟩
  | 32 => ⟨S1280x3, .f32⟩
  | 33 => ⟨S1280x3, .f32⟩
  | 34 => ⟨S1280x3, .i32⟩
  | 35 => ⟨S_, .f32⟩
  | 36 => ⟨S1280, .f32⟩
  | 37 => ⟨S_, .f32⟩
  | 38 => ⟨S1280, .f32⟩
  | 39 => ⟨S1280, .f32⟩
  | 40 => ⟨S_, .f32⟩
  | 41 => ⟨S1280, .f32⟩
  | 42 => ⟨S1280, .f32⟩
  | 43 => ⟨S1280, .f32⟩
  | 44 => ⟨S_, .f32⟩
  | 45 => ⟨S1280, .f32⟩
  | 46 => ⟨S1280, .f32⟩
  | 47 => ⟨S1280, .i32⟩
  | 48 => ⟨S1280x4, .f32⟩
  | 49 => ⟨S_, .f32⟩
  | 50 => ⟨S1280, .f32⟩
  | 51 => ⟨S1280x1, .f32⟩
  | 52 => ⟨S1280x1, .f32⟩
  | 53 => ⟨S1280x4, .f32⟩
  | 54 => ⟨S1280x4, .f32⟩
  | 55 => ⟨S1280x1, .f32⟩
  | 56 => ⟨S1280, .f32⟩
  | 57 => ⟨S1280x1, .f32⟩
  | 58 => ⟨S1280, .f32⟩
  | 59 => ⟨S1280x1, .f32⟩
  | 60 => ⟨S1280, .f32⟩
  | 61 => ⟨S1280x1, .f32⟩
  | 62 => ⟨S1280, .f32⟩
  | 63 => ⟨S1280, .f32⟩
  | 64 => ⟨S1280, .f32⟩
  | 65 => ⟨S1280, .f32⟩
  | 66 => ⟨S_, .f32⟩
  | 67 => ⟨S1280, .f32⟩
  | 68 => ⟨S1280, .f32⟩
  | 69 => ⟨S_, .f32⟩
  | 70 => ⟨S1280, .f32⟩
  | 71 => ⟨S1280, .f32⟩
  | 72 => ⟨S1280, .f32⟩
  | 73 => ⟨S1280, .f32⟩
  | 74 => ⟨S1280, .f32⟩
  | 75 => ⟨S_, .f32⟩
  | 76 => ⟨S1280, .f32⟩
  | 77 => ⟨S1280, .f32⟩
  | 78 => ⟨S1280, .f32⟩
  | 79 => ⟨S1280, .f32⟩
  | 80 => ⟨S1280, .f32⟩
  | 81 => ⟨S_, .f32⟩
  | 82 => ⟨S1280, .f32⟩
  | 83 => ⟨S1280, .f32⟩
  | 84 => ⟨S1280x1, .f32⟩
  | 85 => ⟨S1280x1, .f32⟩
  | 86 => ⟨S1280x1, .f32⟩
  | 87 => ⟨S1280x3, .f32⟩
  | 88 => ⟨S1280, .f32⟩
  | 89 => ⟨S1280, .f32⟩
  | 90 => ⟨S1280, .f32⟩
  | 91 => ⟨S_, .f32⟩
  | 92 => ⟨S1280, .f32⟩
  | 93 => ⟨S1280, .f32⟩
  | 94 => ⟨S1280, .f32⟩
  | 95 => ⟨S1280, .f32⟩
  | 96 => ⟨S1280, .f32⟩
  | 97 => ⟨S_, .f32⟩
  | 98 => ⟨S1280, .f32⟩
  | 99 => ⟨S1280, .f32⟩
  | 100 => ⟨S_, .f32⟩
  | 101 => ⟨S1280, .f32⟩
  | 102 => ⟨S1280, .f32⟩
  | 103 => ⟨S1280, .f32⟩
  | 104 => ⟨S1280, .f32⟩
  | 105 => ⟨S1280, .f32⟩
  | 106 => ⟨S_, .f32⟩
  | 107 => ⟨S1280, .f32⟩
  | 108 => ⟨S1280, .f32⟩
  | 109 => ⟨S1280x1, .f32⟩
  | 110 => ⟨S1280x1, .f32⟩
  | 111 => ⟨S1280x1, .f32⟩
  | 112 => ⟨S1280x3, .f32⟩
  | 113 => ⟨S1280, .f32⟩
  | 114 => ⟨S1280, .f32⟩
  | 115 => ⟨S1280, .f32⟩
  | 116 => ⟨S_, .f32⟩
  | 117 => ⟨S1280, .f32⟩
  | 118 => ⟨S1280, .f32⟩
  | 119 => ⟨S1280, .f32⟩
  | 120 => ⟨S1280, .f32⟩
  | 121 => ⟨S1280, .f32⟩
  | 122 => ⟨S_, .f32⟩
  | 123 => ⟨S1280, .f32⟩
  | 124 => ⟨S1280, .f32⟩
  | 125 => ⟨S1280, .f32⟩
  | 126 => ⟨S1280, .f32⟩
  | 127 => ⟨S1280, .f32⟩
  | _ => ⟨S1x10000x3, .f32⟩

abbrev hbmTy0_1 (i : Nat) : BufTy := match i % 128 with
  | 0 => ⟨S_, .f32⟩
  | 1 => ⟨S1280, .f32⟩
  | 2 => ⟨S1280, .f32⟩
  | 3 => ⟨S_, .f32⟩
  | 4 => ⟨S1280, .f32⟩
  | 5 => ⟨S1280, .f32⟩
  | 6 => ⟨S1280x1, .f32⟩
  | 7 => ⟨S1280x1, .f32⟩
  | 8 => ⟨S1280x1, .f32⟩
  | 9 => ⟨S1280x3, .f32⟩
  | 10 => ⟨S1280x1x3, .f32⟩
  | 11 => ⟨S1280x1x3, .f32⟩
  | 12 => ⟨S1280x1x3, .f32⟩
  | 13 => ⟨S1280x3x3, .f32⟩
  | 14 => ⟨S1280x3, .f32⟩
  | 15 => ⟨S_, .f32⟩
  | 16 => ⟨S1280x3, .f32⟩
  | 17 => ⟨S1280x3, .f32⟩
  | 18 => ⟨S_, .f32⟩
  | 19 => ⟨S6144x1280, .f32⟩
  | 20 => ⟨S_, .i32⟩
  | 21 => ⟨S6144x1280, .i32⟩
  | 22 => ⟨S1280x3x1, .f32⟩
  | 23 => ⟨S1280x3, .f32⟩
  | 24 => ⟨S3x1280, .f32⟩
  | 25 => ⟨S6144x1280, .f32⟩
  | 26 => ⟨S1280x3, .f32⟩
  | 27 => ⟨S_, .f32⟩
  | 28 => ⟨S1280, .f32⟩
  | 29 => ⟨S1x1280, .f32⟩
  | 30 => ⟨S6144x1280, .f32⟩
  | 31 => ⟨S6144x1280, .f32⟩
  | 32 => ⟨S6144x1280, .f32⟩
  | 33 => ⟨S1280x1, .f32⟩
  | 34 => ⟨S1280, .f32⟩
  | 35 => ⟨S1x1280, .f32⟩
  | 36 => ⟨S6144x1280, .f32⟩
  | 37 => ⟨S6144x1280, .f32⟩
  | 38 => ⟨S6144x1280, .f32⟩
  | 39 => ⟨S6144x1, .i32⟩
  | 40 => ⟨S1280x1, .i32⟩
  | 41 => ⟨S1280, .i32⟩
  | 42 => ⟨S1x1280, .i32⟩
  | 43 => ⟨S6144x1280, .i32⟩
  | 44 => ⟨S6144x1280, .i32⟩
  | 45 => ⟨S6144x1280, .i32⟩
  | 46 => ⟨S6144x1280, .i32⟩
  | 47 => ⟨S6144x1280, .i32⟩
  | 48 => ⟨S1280x3x1, .f32⟩
  | 49 => ⟨S1280x3, .f32⟩
  | 50 => ⟨S3x1280, .f32⟩
  | 51 => ⟨S6144x1280, .f32⟩
  | 52 => ⟨S1280x3, .f32⟩
  | 53 => ⟨S_, .f32⟩
  | 54 => ⟨S1280, .f32⟩
  | 55 => ⟨S1x1280, .f32⟩
  | 56 => ⟨S6144x1280, .f32⟩
  | 57 => ⟨S6144x1280, .f32⟩
  | 58 => ⟨S6144x1280, .f32⟩
  | 59 => ⟨S1280x1, .f32⟩
  | 60 => ⟨S1280, .f32⟩
  | 61 => ⟨S1x1280, .f32⟩
  | 62 => ⟨S6144x1280, .f32⟩
  | 63 => ⟨S6144x1280, .f32⟩
  | 64 => ⟨S6144x1280, .f32⟩
  | 65 => ⟨S6144x1, .i32⟩
  | 66 => ⟨S1280x1, .i32⟩
  | 67 => ⟨S1280, .i32⟩
  | 68 => ⟨S1x1280, .i32⟩
  | 69 => ⟨S6144x1280, .i32⟩
  | 70 => ⟨S6144x1280, .i32⟩
  | 71 => ⟨S6144x1280, .i32⟩
  | 72 => ⟨S6144x1280, .i32⟩
  | 73 => ⟨S6144x1280, .i32⟩
  | 74 => ⟨S1280x3x1, .f32⟩
  | 75 => ⟨S1280x3, .f32⟩
  | 76 => ⟨S3x1280, .f32⟩
  | 77 => ⟨S6144x1280, .f32⟩
  | 78 => ⟨S1280x3, .f32⟩
  | 79 => ⟨S_, .f32⟩
  | 80 => ⟨S1280, .f32⟩
  | 81 => ⟨S1x1280, .f32⟩
  | 82 => ⟨S6144x1280, .f32⟩
  | 83 => ⟨S6144x1280, .f32⟩
  | 84 => ⟨S6144x1280, .f32⟩
  | 85 => ⟨S1280x1, .f32⟩
  | 86 => ⟨S1280, .f32⟩
  | 87 => ⟨S1x1280, .f32⟩
  | 88 => ⟨S6144x1280, .f32⟩
  | 89 => ⟨S6144x1280, .f32⟩
  | 90 => ⟨S6144x1280, .f32⟩
  | 91 => ⟨S6144x1, .i32⟩
  | 92 => ⟨S1280x1, .i32⟩
  | 93 => ⟨S1280, .i32⟩
  | 94 => ⟨S1x1280, .i32⟩
  | 95 => ⟨S6144x1280, .i32⟩
  | 96 => ⟨S6144x1280, .i32⟩
  | 97 => ⟨S6144x1280, .i32⟩
  | 98 => ⟨S6144x1280, .i32⟩
  | 99 => ⟨S6144x1280, .i32⟩
  | 100 => ⟨S_, .f32⟩
  | 101 => ⟨S6144x1280, .f32⟩
  | 102 => ⟨S6144x1280, .f32⟩
  | 103 => ⟨S6144x1280, .f32⟩
  | 104 => ⟨S1x1280, .i32⟩
  | 105 => ⟨S6144x1280, .i32⟩
  | 106 => ⟨S6144x1280, .i1⟩
  | 107 => ⟨S6144x1280, .f32⟩
  | 108 => ⟨S6144x1280, .f32⟩
  | 109 => ⟨S1x1280, .f32⟩
  | 110 => ⟨S6144x1280, .f32⟩
  | 111 => ⟨S6144x1280, .f32⟩
  | 112 => ⟨S_, .f32⟩
  | 113 => ⟨S6144, .f32⟩
  | 114 => ⟨S6144, .f32⟩
  | 115 => ⟨S1280x1, .f32⟩
  | 116 => ⟨S1280x17, .f32⟩
  | 117 => ⟨S1280x17, .f32⟩
  | 118 => ⟨S6144x17, .f32⟩
  | 119 => ⟨S1280x1, .f32⟩
  | 120 => ⟨S1280x17, .f32⟩
  | 121 => ⟨S1280x17, .f32⟩
  | 122 => ⟨S1280x3x1, .f32⟩
  | 123 => ⟨S1280x3, .f32⟩
  | 124 => ⟨S1280x3, .f32⟩
  | 125 => ⟨S_, .f32⟩
  | 126 => ⟨S1280, .f32⟩
  | 127 => ⟨S1x1280, .f32⟩
  | _ => ⟨S1x10000x3, .f32⟩

abbrev hbmTy0_2 (i : Nat) : BufTy := match i % 128 with
  | 0 => ⟨S1280x3x1, .f32⟩
  | 1 => ⟨S1280x3, .f32⟩
  | 2 => ⟨S1280x3, .f32⟩
  | 3 => ⟨S_, .f32⟩
  | 4 => ⟨S1280, .f32⟩
  | 5 => ⟨S1x1280, .f32⟩
  | 6 => ⟨S1280x3x1, .f32⟩
  | 7 => ⟨S1280x3, .f32⟩
  | 8 => ⟨S1280x3, .f32⟩
  | 9 => ⟨S_, .f32⟩
  | 10 => ⟨S1280, .f32⟩
  | 11 => ⟨S1x1280, .f32⟩
  | 12 => ⟨S1280x3x1, .f32⟩
  | 13 => ⟨S1280x3, .f32⟩
  | 14 => ⟨S3x1280, .f32⟩
  | 15 => ⟨S1280x3x1, .f32⟩
  | 16 => ⟨S1280x3, .f32⟩
  | 17 => ⟨S3x1280, .f32⟩
  | 18 => ⟨S1280x3x1, .f32⟩
  | 19 => ⟨S1280x3, .f32⟩
  | 20 => ⟨S3x1280, .f32⟩
  | 21 => ⟨S17x1280, .f32⟩
  | 22 => ⟨S1x1280, .f32⟩
  | 23 => ⟨S_, .f32⟩
  | 24 => ⟨S1280x3, .f32⟩
  | 25 => ⟨S1280x3, .f32⟩
  | 26 => ⟨S3x1280, .f32⟩
  | 27 => ⟨S1x1280, .f32⟩
  | 28 => ⟨S34x1280, .f32⟩
  | 29 => ⟨S_, .i32⟩
  | 30 => ⟨S1280, .i32⟩
  | 31 => ⟨S1280, .i32⟩
  | 32 => ⟨S1280x1, .i32⟩
  | 33 => ⟨S1280, .i32⟩
  | 34 => ⟨S_, .i32⟩
  | 35 => ⟨S1280, .i32⟩
  | 36 => ⟨S1280, .i32⟩
  | 37 => ⟨S1280, .i32⟩
  | 38 => ⟨S1280x1, .i32⟩
  | 39 => ⟨S1280, .i32⟩
  | 40 => ⟨S_, .i32⟩
  | 41 => ⟨S1280, .i32⟩
  | 42 => ⟨S1280, .i32⟩
  | 43 => ⟨S1280, .i32⟩
  | 44 => ⟨S1280x1, .i32⟩
  | 45 => ⟨S1280, .i32⟩
  | 46 => ⟨S1280, .i32⟩
  | 47 => ⟨S1x1280, .i32⟩
  | 48 => ⟨S_, .f32⟩
  | 49 => ⟨S1280x3, .f32⟩
  | 50 => ⟨S1280x3, .f32⟩
  | 51 => ⟨S_, .f32⟩
  | 52 => ⟨S1280x3, .f32⟩
  | 53 => ⟨S1280x3, .f32⟩
  | 54 => ⟨S1280x3, .i32⟩
  | 55 => ⟨S_, .i32⟩
  | 56 => ⟨S1280x3, .i32⟩
  | 57 => ⟨S1280x3, .i32⟩
  | 58 => ⟨S1280x1, .i32⟩
  | 59 => ⟨S1280, .i32⟩
  | 60 => ⟨S_, .i32⟩
  | 61 => ⟨S1280, .i32⟩
  | 62 => ⟨S1280, .i32⟩
  | 63 => ⟨S1280x1, .i32⟩
  | 64 => ⟨S1280, .i32⟩
  | 65 => ⟨S1280, .i32⟩
  | 66 => ⟨S_, .i32⟩
  | 67 => ⟨S1280, .i32⟩
  | 68 => ⟨S1280, .i32⟩
  | 69 => ⟨S1280x1, .i32⟩
  | 70 => ⟨S1280, .i32⟩
  | 71 => ⟨S1280, .i32⟩
  | 72 => ⟨S1280, .i32⟩
  | 73 => ⟨S1x1280, .i32⟩
  | 74 => ⟨S512, .i32⟩
  | 75 => ⟨S512x1, .i32⟩
  | 76 => ⟨S512x1280, .i32⟩
  | 77 => ⟨S512x1280, .i32⟩
  | 78 => ⟨S512x1280, .i1⟩
  | 79 => ⟨S512x1280, .i32⟩
  | 80 => ⟨S_, .i32⟩
  | 81 => ⟨S512, .i32⟩
  | 82 => ⟨S512x1, .i32⟩
  | 83 => ⟨S_, .i32⟩
  | 84 => ⟨S512x1, .i32⟩
  | 85 => ⟨S512x1, .i32⟩
  | 86 => ⟨S1280x1, .i32⟩
  | 87 => ⟨S1x1280, .i32⟩
  | 88 => ⟨S1280x1280, .i32⟩
  | 89 => ⟨S1280x1280, .i32⟩
  | 90 => ⟨S1280x1280, .i1⟩
  | 91 => ⟨S1x1280, .i32⟩
  | 92 => ⟨S1280x1, .i32⟩
  | 93 => ⟨S1280x1280, .i32⟩
  | 94 => ⟨S1280x1280, .i32⟩
  | 95 => ⟨S1280x1280, .i1⟩
  | 96 => ⟨S1280x1280, .i1⟩
  | 97 => ⟨S1280x1280, .i32⟩
  | 98 => ⟨S_, .i32⟩
  | 99 => ⟨S1280, .i32⟩
  | 100 => ⟨S512x1x1280, .i1⟩
  | 101 => ⟨S1x1280, .i32⟩
  | 102 => ⟨S28, .i32⟩
  | 103 => ⟨S28x1, .i32⟩
  | 104 => ⟨S28x1280, .i32⟩
  | 105 => ⟨S28x1280, .i32⟩
  | 106 => ⟨S28x1280, .i1⟩
  | 107 => ⟨S1x28x1280, .i1⟩
  | 108 => ⟨S512x28x1280, .i1⟩
  | 109 => ⟨S512x28x1280, .i1⟩
  | 110 => ⟨S512x28x1280, .i1⟩
  | 111 => ⟨S_, .i32⟩
  | 112 => ⟨S1280, .i32⟩
  | 113 => ⟨S1280, .i32⟩
  | 114 => ⟨S_, .i32⟩
  | 115 => ⟨S_, .i32⟩
  | 116 => ⟨S512x28x1280, .i32⟩
  | 117 => ⟨S512x28x1280, .i32⟩
  | 118 => ⟨S512x28x1280, .i32⟩
  | 119 => ⟨S_, .i32⟩
  | 120 => ⟨S512x28, .i32⟩
  | _ => ⟨S1x10000x3, .f32⟩

abbrev hbmTy (i : Nat) : BufTy := match i / 128 with
  | 0 => hbmTy0_0 i
  | 1 => hbmTy0_1 i
  | 2 => hbmTy0_2 i
  | _ => ⟨S1x10000x3, .f32⟩

abbrev bufTy : (tb : Table) → Fin (tcTables nBuf tb) → BufTy
  | .hbm, ⟨i, _⟩ => hbmTy i
  | _, _ => ⟨S1x10000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_v0 : Ref sig .tc := ⟨.hbm, 48, rfl⟩
abbrev main_call0_cst : Ref sig .tc := ⟨.hbm, 49, rfl⟩
abbrev main_call0_v1 : Ref sig .tc := ⟨.hbm, 50, rfl⟩
abbrev main_call0_v2 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_cst_7 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_8 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_9 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_10 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_11 : Ref sig .tc := ⟨.hbm, 97, rfl⟩
abbrev main_v73 : Ref sig .tc := ⟨.hbm, 98, rfl⟩
abbrev main_v74 : Ref sig .tc := ⟨.hbm, 99, rfl⟩
abbrev main_cst_12 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_13 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_14 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_15 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_16 : Ref sig .tc := ⟨.hbm, 128, rfl⟩
abbrev main_v99 : Ref sig .tc := ⟨.hbm, 129, rfl⟩
abbrev main_v100 : Ref sig .tc := ⟨.hbm, 130, rfl⟩
abbrev main_cst_17 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_18 : Ref sig .tc := ⟨.hbm, 143, rfl⟩
abbrev main_v112 : Ref sig .tc := ⟨.hbm, 144, rfl⟩
abbrev main_v113 : Ref sig .tc := ⟨.hbm, 145, rfl⟩
abbrev main_cst_19 : Ref sig .tc := ⟨.hbm, 146, rfl⟩
abbrev main_v114 : Ref sig .tc := ⟨.hbm, 147, rfl⟩
abbrev main_c : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_cst_20 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_cst_21 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_cst_22 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_cst_23 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_cst_24 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_v211 : Ref sig .tc := ⟨.hbm, 250, rfl⟩
abbrev main_v212 : Ref sig .tc := ⟨.hbm, 251, rfl⟩
abbrev main_v213 : Ref sig .tc := ⟨.hbm, 252, rfl⟩
abbrev main_cst_25 : Ref sig .tc := ⟨.hbm, 253, rfl⟩
abbrev main_v214 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_cst_26 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_v222 : Ref sig .tc := ⟨.hbm, 263, rfl⟩
abbrev main_v223 : Ref sig .tc := ⟨.hbm, 264, rfl⟩
abbrev main_cst_27 : Ref sig .tc := ⟨.hbm, 265, rfl⟩
abbrev main_v224 : Ref sig .tc := ⟨.hbm, 266, rfl⟩
abbrev main_v225 : Ref sig .tc := ⟨.hbm, 267, rfl⟩
abbrev main_v226 : Ref sig .tc := ⟨.hbm, 268, rfl⟩
abbrev main_v227 : Ref sig .tc := ⟨.hbm, 269, rfl⟩
abbrev main_v228 : Ref sig .tc := ⟨.hbm, 270, rfl⟩
abbrev main_v229 : Ref sig .tc := ⟨.hbm, 271, rfl⟩
abbrev main_v230 : Ref sig .tc := ⟨.hbm, 272, rfl⟩
abbrev main_v231 : Ref sig .tc := ⟨.hbm, 273, rfl⟩
abbrev main_v232 : Ref sig .tc := ⟨.hbm, 274, rfl⟩
abbrev main_v233 : Ref sig .tc := ⟨.hbm, 275, rfl⟩
abbrev main_v234 : Ref sig .tc := ⟨.hbm, 276, rfl⟩
abbrev main_v235 : Ref sig .tc := ⟨.hbm, 277, rfl⟩
abbrev main_v236 : Ref sig .tc := ⟨.hbm, 278, rfl⟩
abbrev main_cst_28 : Ref sig .tc := ⟨.hbm, 279, rfl⟩
abbrev main_v237 : Ref sig .tc := ⟨.hbm, 280, rfl⟩
abbrev main_v238 : Ref sig .tc := ⟨.hbm, 281, rfl⟩
abbrev main_v239 : Ref sig .tc := ⟨.hbm, 282, rfl⟩
abbrev main_v240 : Ref sig .tc := ⟨.hbm, 283, rfl⟩
abbrev main_v241 : Ref sig .tc := ⟨.hbm, 284, rfl⟩
abbrev main_c_29 : Ref sig .tc := ⟨.hbm, 285, rfl⟩
abbrev main_v242 : Ref sig .tc := ⟨.hbm, 286, rfl⟩
abbrev main_v243 : Ref sig .tc := ⟨.hbm, 287, rfl⟩
abbrev main_v244 : Ref sig .tc := ⟨.hbm, 288, rfl⟩
abbrev main_v245 : Ref sig .tc := ⟨.hbm, 289, rfl⟩
abbrev main_c_30 : Ref sig .tc := ⟨.hbm, 290, rfl⟩
abbrev main_v246 : Ref sig .tc := ⟨.hbm, 291, rfl⟩
abbrev main_v247 : Ref sig .tc := ⟨.hbm, 292, rfl⟩
abbrev main_v248 : Ref sig .tc := ⟨.hbm, 293, rfl⟩
abbrev main_v249 : Ref sig .tc := ⟨.hbm, 294, rfl⟩
abbrev main_v250 : Ref sig .tc := ⟨.hbm, 295, rfl⟩
abbrev main_c_31 : Ref sig .tc := ⟨.hbm, 296, rfl⟩
abbrev main_v251 : Ref sig .tc := ⟨.hbm, 297, rfl⟩
abbrev main_v252 : Ref sig .tc := ⟨.hbm, 298, rfl⟩
abbrev main_v253 : Ref sig .tc := ⟨.hbm, 299, rfl⟩
abbrev main_v254 : Ref sig .tc := ⟨.hbm, 300, rfl⟩
abbrev main_v255 : Ref sig .tc := ⟨.hbm, 301, rfl⟩
abbrev main_v256 : Ref sig .tc := ⟨.hbm, 302, rfl⟩
abbrev main_v257 : Ref sig .tc := ⟨.hbm, 303, rfl⟩
abbrev main_cst_32 : Ref sig .tc := ⟨.hbm, 304, rfl⟩
abbrev main_v258 : Ref sig .tc := ⟨.hbm, 305, rfl⟩
abbrev main_v259 : Ref sig .tc := ⟨.hbm, 306, rfl⟩
abbrev main_cst_33 : Ref sig .tc := ⟨.hbm, 307, rfl⟩
abbrev main_v260 : Ref sig .tc := ⟨.hbm, 308, rfl⟩
abbrev main_v261 : Ref sig .tc := ⟨.hbm, 309, rfl⟩
abbrev main_v262 : Ref sig .tc := ⟨.hbm, 310, rfl⟩
abbrev main_c_34 : Ref sig .tc := ⟨.hbm, 311, rfl⟩
abbrev main_v263 : Ref sig .tc := ⟨.hbm, 312, rfl⟩
abbrev main_v264 : Ref sig .tc := ⟨.hbm, 313, rfl⟩
abbrev main_v265 : Ref sig .tc := ⟨.hbm, 314, rfl⟩
abbrev main_v266 : Ref sig .tc := ⟨.hbm, 315, rfl⟩
abbrev main_c_35 : Ref sig .tc := ⟨.hbm, 316, rfl⟩
abbrev main_v267 : Ref sig .tc := ⟨.hbm, 317, rfl⟩
abbrev main_v268 : Ref sig .tc := ⟨.hbm, 318, rfl⟩
abbrev main_v269 : Ref sig .tc := ⟨.hbm, 319, rfl⟩
abbrev main_v270 : Ref sig .tc := ⟨.hbm, 320, rfl⟩
abbrev main_v271 : Ref sig .tc := ⟨.hbm, 321, rfl⟩
abbrev main_c_36 : Ref sig .tc := ⟨.hbm, 322, rfl⟩
abbrev main_v272 : Ref sig .tc := ⟨.hbm, 323, rfl⟩
abbrev main_v273 : Ref sig .tc := ⟨.hbm, 324, rfl⟩
abbrev main_v274 : Ref sig .tc := ⟨.hbm, 325, rfl⟩
abbrev main_v275 : Ref sig .tc := ⟨.hbm, 326, rfl⟩
abbrev main_v276 : Ref sig .tc := ⟨.hbm, 327, rfl⟩
abbrev main_v277 : Ref sig .tc := ⟨.hbm, 328, rfl⟩
abbrev main_v278 : Ref sig .tc := ⟨.hbm, 329, rfl⟩
abbrev main_v279 : Ref sig .tc := ⟨.hbm, 330, rfl⟩
abbrev main_v280 : Ref sig .tc := ⟨.hbm, 331, rfl⟩
abbrev main_v281 : Ref sig .tc := ⟨.hbm, 332, rfl⟩
abbrev main_v282 : Ref sig .tc := ⟨.hbm, 333, rfl⟩
abbrev main_v283 : Ref sig .tc := ⟨.hbm, 334, rfl⟩
abbrev main_v284 : Ref sig .tc := ⟨.hbm, 335, rfl⟩
abbrev main_c_37 : Ref sig .tc := ⟨.hbm, 336, rfl⟩
abbrev main_v285 : Ref sig .tc := ⟨.hbm, 337, rfl⟩
abbrev main_v286 : Ref sig .tc := ⟨.hbm, 338, rfl⟩
abbrev main_c_38 : Ref sig .tc := ⟨.hbm, 339, rfl⟩
abbrev main_v287 : Ref sig .tc := ⟨.hbm, 340, rfl⟩
abbrev main_v288 : Ref sig .tc := ⟨.hbm, 341, rfl⟩
abbrev main_v289 : Ref sig .tc := ⟨.hbm, 342, rfl⟩
abbrev main_v290 : Ref sig .tc := ⟨.hbm, 343, rfl⟩
abbrev main_v291 : Ref sig .tc := ⟨.hbm, 344, rfl⟩
abbrev main_v292 : Ref sig .tc := ⟨.hbm, 345, rfl⟩
abbrev main_v293 : Ref sig .tc := ⟨.hbm, 346, rfl⟩
abbrev main_v294 : Ref sig .tc := ⟨.hbm, 347, rfl⟩
abbrev main_v295 : Ref sig .tc := ⟨.hbm, 348, rfl⟩
abbrev main_v296 : Ref sig .tc := ⟨.hbm, 349, rfl⟩
abbrev main_v297 : Ref sig .tc := ⟨.hbm, 350, rfl⟩
abbrev main_v298 : Ref sig .tc := ⟨.hbm, 351, rfl⟩
abbrev main_v299 : Ref sig .tc := ⟨.hbm, 352, rfl⟩
abbrev main_v300 : Ref sig .tc := ⟨.hbm, 353, rfl⟩
abbrev main_c_39 : Ref sig .tc := ⟨.hbm, 354, rfl⟩
abbrev main_v301 : Ref sig .tc := ⟨.hbm, 355, rfl⟩
abbrev main_v302 : Ref sig .tc := ⟨.hbm, 356, rfl⟩
abbrev main_v303 : Ref sig .tc := ⟨.hbm, 357, rfl⟩
abbrev main_v304 : Ref sig .tc := ⟨.hbm, 358, rfl⟩
abbrev main_v305 : Ref sig .tc := ⟨.hbm, 359, rfl⟩
abbrev main_v306 : Ref sig .tc := ⟨.hbm, 360, rfl⟩
abbrev main_v307 : Ref sig .tc := ⟨.hbm, 361, rfl⟩
abbrev main_v308 : Ref sig .tc := ⟨.hbm, 362, rfl⟩
abbrev main_v309 : Ref sig .tc := ⟨.hbm, 363, rfl⟩
abbrev main_v310 : Ref sig .tc := ⟨.hbm, 364, rfl⟩
abbrev main_v311 : Ref sig .tc := ⟨.hbm, 365, rfl⟩
abbrev main_v312 : Ref sig .tc := ⟨.hbm, 366, rfl⟩
abbrev main_c_40 : Ref sig .tc := ⟨.hbm, 367, rfl⟩
abbrev main_v313 : Ref sig .tc := ⟨.hbm, 368, rfl⟩
abbrev main_v314 : Ref sig .tc := ⟨.hbm, 369, rfl⟩
abbrev main_c_41 : Ref sig .tc := ⟨.hbm, 370, rfl⟩
abbrev main_call1_v0 : Ref sig .tc := ⟨.hbm, 371, rfl⟩
abbrev main_call1_v1 : Ref sig .tc := ⟨.hbm, 372, rfl⟩
abbrev main_call1_v2 : Ref sig .tc := ⟨.hbm, 373, rfl⟩
abbrev main_v315 : Ref sig .tc := ⟨.hbm, 374, rfl⟩
abbrev main_c_42 : Ref sig .tc := ⟨.hbm, 375, rfl⟩
abbrev main_v316 : Ref sig .tc := ⟨.hbm, 376, rfl⟩

abbrev nD : Nat := 1
abbrev τ : Topo := Topo.v7x

variable {F : FTy → Type} [FloatOps F]
-- ==== Proof.Held.lean ====
/-
  Programs over scratch buffers, as plain functions of what the buffers hold. `Held m g` is a memref's elements,
  outright, reading `g`. A program whose effects are loads and stores of one buffer `o` and loads of tables that stay as
  they are is described by `Does p f Post`: run while `o` reads `f` it returns some `x` and leaves `o` reading some `g`
  with `Post x g`. The rules below take one operation at a time, so that the kernel's body is a walk through its text
  with no separation logic left in it.
-/
module

public import Idealize.ShloMosaic.Lib.SparseCore.Ops
public import Idealize.ShloMosaic.Lib.Tactic

@[expose] public section

noncomputable section

namespace Cert.Proof

open Idealize.ShloMosaic
open Idealize.ShloMosaic.SparseCore
open Idealize.SL
open Idealize.SL.BI (sProp)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable (defs : Defs nD τ sig (Elt F) Λ) (𝒱 : Variants) (c : Thread nD τ)

local notation "𝕄" => MT nD τ sig Ix (Elt F) Name U Lvl

section Read

variable {κ : Kind} {sp : Space} {s : Shape} {e : EltTy}

theorem read_slice_whole (v : View sig κ sp s e) (f : v.ty.Contents (Elt F)) :
    (v.slice (Rect.whole s)).read (Elt F) f = v.read (Elt F) f := by
  funext x
  show _root_.cast _ (f (v.emb ((Rect.whole s).emb x))) = _root_.cast _ (f (v.emb x))
  rw [Rect.emb_whole_apply]

theorem set_slice_whole' (v : View sig κ sp s e) : (v.slice (Rect.whole s)).set = v.set := by
  rw [View.set_slice, Rect.set_whole]; rfl

theorem read_slice_rect (v : View sig κ sp s e) (r : Rect s) (f : v.ty.Contents (Elt F)) :
    (v.slice r).read (Elt F) f = fun x => v.read (Elt F) f (r.emb x) := rfl

end Read

variable {s : Shape} {e : EltTy}

/-- The memref's elements, held outright, reading `g`. -/
def Held (m : Memref sig c.2.kind .vmem s e) (g : Vec F s e) : sProp 𝕄 :=
  iprop(∃ f : Buf (Elt F) (m.view.loc c), ⌜m.view.read (Elt F) f = g⌝ ∗ (m.view.loc c ↦[m.view.set]{fullShare} f))

variable {α β : Type}

section Ops

/-- A gather from a held buffer. -/
theorem held_loadIdx {t : Shape} {m : Memref sig c.2.kind .vmem s e} {g : Vec F s e} {idxs : Fin s.rank → IVec t 32}
    {h : ∀ a x, (idxs a x).toNat < s.size a} {hl : m.view.Loads} {k : Vec F t e → Prog (TpuEff nD τ sig (Elt F) Λ c.2) α} {Q : α → sProp 𝕄} :
    (Held c m g : sProp 𝕄)
      ⊢ iprop(((Held c m g) -∗ wp frame (wpE defs 𝒱 c none) Set.univ (k (loadIdx g idxs h)) Q)
        -∗ wp frame (wpE defs 𝒱 c none) Set.univ (vectorLoadIdx m idxs h hl >>= k) Q) := by
  unfold Held
  iintro ⟨%f, %hf, H⟩ Hk
  iapply (wp_vectorLoadIdx (defs := defs) 𝒱 c none Set.univ (Q := Q) (base := m) (idxs := idxs) (h := h) (hl := hl) (k := k)
    (S := m.view.set) (q := fullShare) (f := f) (by rw [set_slice_whole'])) $$ H
  iintro H
  rw [read_slice_whole, hf]
  iapply Hk
  iexists f
  isplitr
  · ipureintro; exact hf
  · iexact H

/-- A scatter into a held buffer. -/
theorem held_storeIdx {d : Fin 1 → Nat} {m : Memref sig c.2.kind .vmem s e} {g : Vec F s e} {idxs : Fin s.rank → IVec ⟨1, d⟩ 32}
    {v : Vec F ⟨1, d⟩ e} {mask : IVec ⟨1, d⟩ 1} {add : Bool} {h : ∀ a x, (idxs a x).toNat < s.size a}
    {hs : (m.access (.whole s)).Stores Finset.univ} {k : PUnit → Prog (TpuEff nD τ sig (Elt F) Λ c.2) α} {Q : α → sProp 𝕄} :
    (Held c m g : sProp 𝕄)
      ⊢ iprop(((Held c m (storeIdx g idxs v mask add h)) -∗ wp frame (wpE defs 𝒱 c none) Set.univ (k ⟨⟩) Q)
        -∗ wp frame (wpE defs 𝒱 c none) Set.univ (vectorStoreIdx m idxs v mask add h hs >>= k) Q) := by
  unfold Held
  iintro ⟨%f, %hf, H⟩ Hk
  have e₀ : m.view.set = (m.access (.whole s)).set := (set_slice_whole' m.view).symm
  rw [e₀]
  iapply (wp_vectorStoreIdx (defs := defs) 𝒱 c none Set.univ (Q := Q) (base := m) (idxs := idxs) (h := h) (hs := hs) (k := k)
    (v := v) (mask := mask) (add := add) (f := f)) $$ H
  iintro H
  iapply Hk
  iexists _
  isplitr
  rotate_left
  · iexact H
  · ipureintro
    rw [← read_slice_whole m.view, View.read_write_univ, read_slice_whole, hf]

/-- A load of a rectangle of a held buffer. -/
theorem held_load {m : Memref sig c.2.kind .vmem s e} {g : Vec F s e} {r : Rect s} {hl : m.view.LoadsAt r}
    {k : (r.shape.Idx → Elt F e) → Prog (TpuEff nD τ sig (Elt F) Λ c.2) α} {Q : α → sProp 𝕄} :
    (Held c m g : sProp 𝕄)
      ⊢ iprop(((Held c m g) -∗ wp frame (wpE defs 𝒱 c none) Set.univ (k fun x => g (r.emb x)) Q)
        -∗ wp frame (wpE defs 𝒱 c none) Set.univ (Prog.op (TpuEff.load m r.toLoadRect hl) k) Q) := by
  unfold Held
  iintro ⟨%f, %hf, H⟩ Hk
  iapply (wp_load_rect (defs := defs) 𝒱 c none Set.univ (Q := Q) (m := m) (r := r) (hl := hl) (k := k)
    (S := m.view.set) (q := fullShare) (f := f) (View.set_slice_subset m.view r)) $$ H
  iintro H
  rw [read_slice_rect, hf]
  iapply Hk
  iexists f
  isplitr
  · ipureintro; exact hf
  · iexact H

/-- A store of a rectangle of a held buffer: what it then reads is the payload on the rectangle, and as before off it. -/
theorem held_store {m : Memref sig c.2.kind .vmem s e} {g : Vec F s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ c.2) α} {Q : α → sProp 𝕄} :
    (Held c m g : sProp 𝕄)
      ⊢ iprop((∀ g' : Vec F s e, ⌜(∀ x, g' (r.emb x) = w x) ∧ ∀ y, (∀ x, r.emb x ≠ y) → g' y = g y⌝ -∗ (Held c m g') -∗
            wp frame (wpE defs 𝒱 c none) Set.univ (k ⟨⟩) Q)
        -∗ wp frame (wpE defs 𝒱 c none) Set.univ (Prog.op (TpuEff.store m r w Finset.univ hx hm) k) Q) := by
  unfold Held
  iintro ⟨%f, %hf, H⟩ Hk
  iapply (wp_store (defs := defs) 𝒱 c none Set.univ (Q := Q) (m := m) (r := r) (w := w) (Mk := Finset.univ) (hx := hx) (hm := hm)
    (k := k) (S := m.view.set) (f := f) (View.set_slice_subset m.view r)) $$ H
  iintro H
  iapply Hk $$ %(m.view.read (Elt F) ((m.view.slice r).write (Elt F) f w Finset.univ)) [] [H]
  · ipureintro
    refine ⟨fun x => View.read_slice_write_emb (v := m.view) r f w (Finset.mem_univ x), fun y hy => ?_⟩
    rw [View.read_slice_write_of_not_mem (v := m.view) r f w Finset.univ (fun h => ?_), hf]
    obtain ⟨x, -, hx⟩ := Finset.mem_map.mp h
    exact hy x hx
  · iexists _
    isplitr
    rotate_left
    · iexact H
    · ipureintro; rfl

end Ops

end Cert.Proof

end
-- ==== Proof.Does.lean ====
/-
  The judgement `Does`: what a program that only loads tables and scatters into one output buffer returns and leaves
  there (Held.lean). `R` holds the tables, `Has R m g` says table `m` is among them and reads `g`; `o` is the output.
-/
module

public import proofs.«01_k».proof.Proof.Held

@[expose] public section

noncomputable section

namespace Cert.Proof

open Idealize.ShloMosaic
open Idealize.ShloMosaic.SparseCore
open Idealize.SL
open Idealize.SL.BI (sProp)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}

/-- The machine a judgement is made about: its label table, variants and thread. -/
structure At (nD : Nat) (τ : Topo) (sig : RefSig) (F : FTy → Type) (Λ : Labels) where
  defs : Defs nD τ sig (Elt F) Λ
  𝒱 : Variants
  c : Thread nD τ

local notation "𝕄" => MT nD τ sig Ix (Elt F) Name U Lvl

variable (a : At nD τ sig F Λ) (R : sProp (MT nD τ sig Ix (Elt F) Name U Lvl))
variable {s s' t : Shape} {e e' : EltTy} {α β : Type}

/-- Table `m` is among `R`'s and reads `g`. -/
def Has (m : Memref sig a.c.2.kind .vmem s e) (g : Vec F s e) : Prop :=
  R ⊢ iprop((Held a.c m g : sProp 𝕄) ∗ ((Held a.c m g : sProp 𝕄) -∗ R))

/-- Run while `o` reads `f` (and the tables `R` are held), `p` returns an `x` and leaves `o` reading a `g` with `Post x g`. -/
def Does (o : Memref sig a.c.2.kind .vmem s e) (p : Prog (TpuEff nD τ sig (Elt F) Λ a.c.2) α) (f : Vec F s e)
    (Post : α → Vec F s e → Prop) : Prop :=
  iprop(R ∗ (Held a.c o f : sProp 𝕄)) ⊢ wp frame (wpE a.defs a.𝒱 a.c none) Set.univ p
    (fun x => (iprop(∃ g, ⌜Post x g⌝ ∗ R ∗ Held a.c o g) : sProp 𝕄))

variable {a} {R} {o : Memref sig a.c.2.kind .vmem s e} {f : Vec F s e}

theorem Does.pure {x : α} {Post : α → Vec F s e → Prop} (h : Post x f) : Does a R o (Pure.pure x) f Post := by
  unfold Does
  rw [wp_pure]
  iintro ⟨HR, HO⟩
  imodintro
  iexists f
  isplitr
  · ipureintro; exact h
  · isplitl [HR]
    · iexact HR
    · iexact HO

theorem Does.bind {p : Prog (TpuEff nD τ sig (Elt F) Λ a.c.2) α} {q : α → Prog (TpuEff nD τ sig (Elt F) Λ a.c.2) β}
    {Post : β → Vec F s e → Prop} {Mid : α → Vec F s e → Prop} (hp : Does a R o p f Mid)
    (hq : ∀ x g, Mid x g → Does a R o (q x) g Post) : Does a R o (p >>= q) f Post := by
  unfold Does at *
  rw [wp_bind]
  refine hp.trans (wp_mono _ _ _ fun x => ?_)
  iintro ⟨%g, %hg, H⟩
  iapply (hq x g hg)
  iexact H

theorem Does.mono {p : Prog (TpuEff nD τ sig (Elt F) Λ a.c.2) α} {Post Post' : α → Vec F s e → Prop}
    (hp : Does a R o p f Post) (h : ∀ x g, Post x g → Post' x g) : Does a R o p f Post' := by
  unfold Does at *
  refine hp.trans (wp_mono _ _ _ fun x => ?_)
  iintro ⟨%g, %hg, H⟩
  iexists g
  isplitr
  · ipureintro; exact h x g hg
  · iexact H

theorem Does.dite {c : Prop} [Decidable c] {p : c → Prog (TpuEff nD τ sig (Elt F) Λ a.c.2) α}
    {q : ¬c → Prog (TpuEff nD τ sig (Elt F) Λ a.c.2) α} {Post : α → Vec F s e → Prop}
    (hp : ∀ h, Does a R o (p h) f Post) (hq : ∀ h, Does a R o (q h) f Post) :
    Does a R o (if h : c then p h else q h) f Post := by
  by_cases h : c
  · rw [dif_pos h]; exact hp h
  · rw [dif_neg h]; exact hq h

theorem Does.bind' {p : Prog (TpuEff nD τ sig (Elt F) Λ a.c.2) α} {q : α → Prog (TpuEff nD τ sig (Elt F) Λ a.c.2) β}
    {Post : β → Vec F s e → Prop} (hp : Does a R o p f fun x g => Does a R o (q x) g Post) : Does a R o (p >>= q) f Post :=
  hp.bind fun _ _ h => h

theorem Does.assume {P : Prop} {d : Decidable P} {k : PLift P → Prog (TpuEff nD τ sig (Elt F) Λ a.c.2) β}
    {Post : β → Vec F s e → Prop} (h : P) (hk : Does a R o (k ⟨h⟩) f Post) :
    Does a R o (Prog.lift (TpuEff.assume P d) >>= k) f Post := by
  unfold Does at *
  refine hk.trans ?_
  rw [show (Prog.lift (TpuEff.assume P d) >>= k : Prog (TpuEff nD τ sig (Elt F) Λ a.c.2) β) = .op (.assume P d) k from rfl,
    wp_assume_of _ _ _ _ h]

theorem Does.loadIdx {m : Memref sig a.c.2.kind .vmem s' e'} {g : Vec F s' e'} (hR : Has a R m g) {idxs : Fin s'.rank → IVec t 32}
    {h : ∀ a x, (idxs a x).toNat < s'.size a} {hl : m.view.Loads} {k : Vec F t e' → Prog (TpuEff nD τ sig (Elt F) Λ a.c.2) β}
    {Post : β → Vec F s e → Prop} (hk : Does a R o (k (Idealize.ShloMosaic.loadIdx g idxs h)) f Post) :
    Does a R o (vectorLoadIdx m idxs h hl >>= k) f Post := by
  unfold Does Has at *
  iintro ⟨HR, HO⟩
  ihave ⟨HT, Hback⟩ := hR $$ HR
  iapply (held_loadIdx a.defs a.𝒱 a.c (m := m) (g := g) (idxs := idxs) (h := h) (hl := hl) (k := k)) $$ HT
  iintro HT
  iapply hk
  isplitr [HO]
  · iapply Hback; iexact HT
  · iexact HO

theorem Does.load {m : Memref sig a.c.2.kind .vmem s' e'} {g : Vec F s' e'} (hR : Has a R m g) {r : Rect s'} {hl : m.view.LoadsAt r}
    {k : (r.shape.Idx → Elt F e') → Prog (TpuEff nD τ sig (Elt F) Λ a.c.2) β} {Post : β → Vec F s e → Prop}
    (hk : Does a R o (k fun x => g (r.emb x)) f Post) :
    Does a R o (Prog.lift (TpuEff.load m r.toLoadRect hl) >>= k) f Post := by
  unfold Does Has at *
  iintro ⟨HR, HO⟩
  ihave ⟨HT, Hback⟩ := hR $$ HR
  iapply (held_load a.defs a.𝒱 a.c (m := m) (g := g) (r := r) (hl := hl) (k := k)) $$ HT
  iintro HT
  iapply hk
  isplitr [HO]
  · iapply Hback; iexact HT
  · iexact HO

/-- A load of the output buffer itself. -/
theorem Does.loadOut {r : Rect s} {hl : o.view.LoadsAt r}
    {k : (r.shape.Idx → Elt F e) → Prog (TpuEff nD τ sig (Elt F) Λ a.c.2) β} {Post : β → Vec F s e → Prop}
    (hk : Does a R o (k fun x => f (r.emb x)) f Post) :
    Does a R o (Prog.lift (TpuEff.load o r.toLoadRect hl) >>= k) f Post := by
  unfold Does at *
  iintro ⟨HR, HO⟩
  iapply (held_load a.defs a.𝒱 a.c (m := o) (g := f) (r := r) (hl := hl) (k := k)) $$ HO
  iintro HO
  iapply hk
  isplitr [HO]
  · iexact HR
  · iexact HO

theorem Does.store {r : Rect s} {w : r.shape.Idx → Elt F e}
    {hx : (o.access r).Stores Finset.univ} {hm : (Finset.univ : Finset r.shape.Idx) = Finset.univ ∨ ∀ a, r.stride a = 1}
    {k : PUnit → Prog (TpuEff nD τ sig (Elt F) Λ a.c.2) β} {Post : β → Vec F s e → Prop}
    (hk : ∀ g' : Vec F s e, (∀ x, g' (r.emb x) = w x) → (∀ y, (∀ x, r.emb x ≠ y) → g' y = f y) → Does a R o (k ⟨⟩) g' Post) :
    Does a R o (Prog.lift (TpuEff.store o r w Finset.univ hx hm) >>= k) f Post := by
  unfold Does at *
  iintro ⟨HR, HO⟩
  iapply (held_store a.defs a.𝒱 a.c (m := o) (g := f) (r := r) (w := w) (hx := hx) (hm := hm) (k := k)) $$ HO
  iintro %g' %hg' HO
  iapply (hk g' hg'.1 hg'.2)
  isplitr [HO]
  · iexact HR
  · iexact HO

theorem Does.storeIdx {d : Fin 1 → Nat} {idxs : Fin s.rank → IVec ⟨1, d⟩ 32}
    {v : Vec F ⟨1, d⟩ e} {mask : IVec ⟨1, d⟩ 1} {add : Bool} {h : ∀ a x, (idxs a x).toNat < s.size a}
    {hs : (o.access (.whole s)).Stores Finset.univ} {k : PUnit → Prog (TpuEff nD τ sig (Elt F) Λ a.c.2) β}
    {Post : β → Vec F s e → Prop} (hk : Does a R o (k ⟨⟩) (Idealize.ShloMosaic.storeIdx f idxs v mask add h) Post) :
    Does a R o (vectorStoreIdx o idxs v mask add h hs >>= k) f Post := by
  unfold Does at *
  iintro ⟨HR, HO⟩
  iapply (held_storeIdx a.defs a.𝒱 a.c (m := o) (g := f) (idxs := idxs) (v := v) (mask := mask) (add := add) (h := h) (hs := hs) (k := k)) $$ HO
  iintro HO
  iapply hk
  isplitr [HO]
  · iexact HR
  · iexact HO

/-- A loop with nothing carried but the output buffer, by an invariant of what it reads before each trip. -/
theorem Does.for {w : Nat} {l : Scf.Loop w} {hok : l.OK} {body : Fin l.trips → PUnit → Prog (TpuEff nD τ sig (Elt F) Λ a.c.2) PUnit}
    (I : Nat → Vec F s e → Prop) (h0 : I 0 f)
    (hbody : ∀ (k : Fin l.trips) g, I k.val g → Does a R o (body k ⟨⟩) g fun _ g' => I (k.val + 1) g') :
    Does a R o (Scf.Loop.for l hok ⟨⟩ body) f fun _ g => I l.trips g := by
  unfold Does
  iintro H
  iapply (Scf.wp_for frame (wpE a.defs a.𝒱 a.c none) Set.univ l.lb l.ub l.st hok PUnit.unit body
    (fun n _ => iprop(∃ g, ⌜I n g⌝ ∗ R ∗ Held a.c o g)) (fun k _ => ?_))
  rotate_left
  · isplitl [H]
    · iexists f
      isplitr
      · ipureintro; exact h0
      · iexact H
    · iintro %_ H; iexact H
  · iintro ⟨%g, %hg, H⟩
    have hb := hbody k g hg
    unfold Does at hb
    iapply hb
    iexact H

/-- A loop of no trips. -/
theorem Does.for0 {w : Nat} {l : Scf.Loop w} {hok : l.OK} {body : Fin l.trips → PUnit → Prog (TpuEff nD τ sig (Elt F) Λ a.c.2) PUnit}
    (htr : l.trips = 0) {Post : PUnit → Vec F s e → Prop} (h : Post ⟨⟩ f) :
    Does a R o (Scf.Loop.for l hok ⟨⟩ body) f Post :=
  (Does.for (fun _ g => g = f) rfl fun k => absurd k.isLt (by omega)).mono fun _ _ hg => hg ▸ h

end Cert.Proof

end
-- ==== Proof.Model.lean ====
/-
  What the SparseCore kernel computes, as plain functions on one tile's buffers, over any floats `F`. A tile holds the
  gaussian table `A` (34 rows of 1280), the packed centre words `W`, the cell counts `C`, the cell slots `S` and 128
  points, and adds into an output of 128 rows of 32. Its work is a nest of three loops: over groups of 16 points, over
  the 8 cells around each point, over the slots of the cell; `slotStep` is the innermost body.
-/
module

public import proofs.«01_k».proof.Proof.Gen.KernelIdeal

@[expose] public section

noncomputable section

namespace Cert.Proof

open Idealize.ShloMosaic
open Cert.KernelIdeal (S16 S128 S512 S1280 S4096 S14336 S43520)

variable {F : FTy → Type} [FloatOps F]

/-- Element `k` of a one-dimensional buffer. -/
def rd {n : ℕ} [NeZero n] {e : EltTy} (A : Vec F ⟨1, ![n]⟩ e) (k : ℕ) : Elt F e :=
  A fun a => ⟨k % n, by rw [Fin.eq_zero a]; exact Nat.mod_lt _ (NeZero.pos n)⟩

/-- A gather, an index past the end wrapping round (none does). -/
def gath {n : ℕ} [NeZero n] {e : EltTy} (A : Vec F ⟨1, ![n]⟩ e) (v : IVec S16 32) : Vec F S16 e := fun x => rd A (v x).toNat

theorem loadIdx_eq {n : ℕ} [NeZero n] {e : EltTy} (A : Vec F ⟨1, ![n]⟩ e) (v : IVec S16 32)
    (h : ∀ a x, ((![v] : Fin 1 → IVec S16 32) a x).toNat < (⟨1, ![n]⟩ : Shape).size a) : loadIdx A ![v] h = gath A v := by
  funext x
  refine congrArg A (funext fun a => Fin.ext ?_)
  have ha : a = 0 := Fin.eq_zero a
  subst ha
  exact (Nat.mod_eq_of_lt (h 0 x)).symm

open Classical in
/-- The adding scatter, doing nothing where an index is past the end (none is). -/
def scat {n : ℕ} (f : Vec F ⟨1, ![n]⟩ .f32) (v : IVec S16 32) (val : FVec F S16 .f32) (mask : IVec S16 1) : Vec F ⟨1, ![n]⟩ .f32 :=
  if h : ∀ a x, ((![v] : Fin 1 → IVec S16 32) a x).toNat < (⟨1, ![n]⟩ : Shape).size a then storeIdx f ![v] val mask true h else f

theorem storeIdx_eq {n : ℕ} (f : Vec F ⟨1, ![n]⟩ .f32) (v : IVec S16 32) (val : FVec F S16 .f32) (mask : IVec S16 1)
    (h : ∀ a x, ((![v] : Fin 1 → IVec S16 32) a x).toNat < (⟨1, ![n]⟩ : Shape).size a) :
    storeIdx f ![v] val mask true h = scat f v val mask := (dif_pos h).symm

/-- The largest lane of a vector of words, compared signed. -/
def topLane (v : IVec S16 32) : BitVec 32 :=
  extractAt ![15] (xori (scan .max (xori v (broadcast S16 2147483648#32))) (broadcast S16 2147483648#32))
    Cert.KernelIdeal.Facts₀.inpos_S16_p15

section Slot

/-- Lanes whose cell has an entry `j`, -/
def inCell (cnt : IVec S16 32) (j : BitVec 32) : IVec S16 1 := cmpi .slt (broadcast S16 j) cnt

/-- the entry, -/
def slotOf (S : Vec F S14336 .i32) (cell cnt : IVec S16 32) (j : BitVec 32) : IVec S16 32 :=
  gath S (select (inCell cnt j) (addi (muli cell (broadcast S16 28#32)) (broadcast S16 j)) (broadcast S16 0#32))

/-- whether it names a gaussian, -/
def named (S : Vec F S14336 .i32) (cell cnt : IVec S16 32) (j : BitVec 32) : IVec S16 1 :=
  andi (inCell cnt j) (cmpi .sgt (slotOf S cell cnt j) (broadcast S16 0#32))

/-- which one, -/
def gidOf (S : Vec F S14336 .i32) (cell cnt : IVec S16 32) (j : BitVec 32) : IVec S16 32 :=
  select (named S cell cnt j) (subi (slotOf S cell cnt j) (broadcast S16 1#32)) (broadcast S16 0#32)

/-- and whether the point is within the gaussian's radius on every axis. -/
def hitOf (ok : IVec S16 1) (word x y z : IVec S16 32) : IVec S16 1 :=
  andi (andi (andi ok
    (cmpi .sle (absi (subi x (andi (shrsi word (broadcast S16 16#32)) (broadcast S16 255#32)))) (shrsi word (broadcast S16 24#32))))
    (cmpi .sle (absi (subi y (andi (shrsi word (broadcast S16 8#32)) (broadcast S16 255#32)))) (shrsi word (broadcast S16 24#32))))
    (cmpi .sle (absi (subi z (andi word (broadcast S16 255#32)))) (shrsi word (broadcast S16 24#32)))

/-- Row `c / 1280` of the table at the lanes' gaussians. -/
def row (A : Vec F S43520 .f32) (gid : IVec S16 32) (c : BitVec 32) : FVec F S16 .f32 := gath A (addi (broadcast S16 c) gid)

/-- One axis of the exponent: the squared distance along it, weighted. -/
def axis (A : Vec F S43520 .f32) (px py pz : FVec F S16 .f32) (gid : IVec S16 32) (r0 r1 r2 rw rc : BitVec 32) : FVec F S16 .f32 :=
  mulf (mulf
    (subf (addf (addf (mulf px (row A gid r0)) (mulf py (row A gid r1))) (mulf pz (row A gid r2))) (row A gid rc))
    (subf (addf (addf (mulf px (row A gid r0)) (mulf py (row A gid r1))) (mulf pz (row A gid r2))) (row A gid rc)))
    (row A gid rw)

/-- A gaussian's weight at the point: `exp` of minus half the exponent, times the opacity, zero off the hit lanes. -/
def ampOf (A : Vec F S43520 .f32) (px py pz : FVec F S16 .f32) (gid : IVec S16 32) (hit : IVec S16 1) : FVec F S16 .f32 :=
  extf .f32 (truncf .bf16 (select hit
    (mulf (exp (mulf (addf (addf (axis A px py pz gid 0#32 1280#32 2560#32 34560#32 38400#32)
        (axis A px py pz gid 3840#32 5120#32 6400#32 35840#32 39680#32))
        (axis A px py pz gid 7680#32 8960#32 10240#32 37120#32 40960#32))
      (broadcast S16 (Scalar.ofBits .f32 0xBF000000#32)))) (row A gid 42240#32))
    (broadcast S16 (Scalar.ofBits .f32 0x00000000#32))) Cert.KernelIdeal.Facts₀.bitsLt_bf16_f32) Cert.KernelIdeal.Facts₀.bitsLt_bf16_f32

/-- Add the weight into column 18 and the first `n` weighted features into columns 0, 1, … of the lanes' rows. -/
def putN (A : Vec F S43520 .f32) (gid base : IVec S16 32) (hit : IVec S16 1) (a : FVec F S16 .f32) (f : Vec F S4096 .f32) : ℕ → Vec F S4096 .f32
  | 0 => scat f (addi base (broadcast S16 18#32)) a hit
  | n + 1 => scat (putN A gid base hit a f n) (addi base (broadcast S16 (BitVec.ofNat 32 n)))
      (mulf a (row A gid (BitVec.ofNat 32 (1280 * (9 + n))))) hit

/-- Add the weight into column 18 and the weighted features into columns 0 to 17 of the lanes' rows. -/
abbrev puts (A : Vec F S43520 .f32) (gid base : IVec S16 32) (hit : IVec S16 1) (a : FVec F S16 .f32) (f : Vec F S4096 .f32) : Vec F S4096 .f32 :=
  putN A gid base hit a f 18

/-- The innermost body at entry `j`: if any lane is hit, every hit lane adds its gaussian's contribution. -/
def slotStep (A : Vec F S43520 .f32) (W : Vec F S1280 .i32) (S : Vec F S14336 .i32) (px py pz : FVec F S16 .f32)
    (x y z base cell cnt : IVec S16 32) (j : BitVec 32) (f : Vec F S4096 .f32) : Vec F S4096 .f32 :=
  let gid := gidOf S cell cnt j
  let hit := hitOf (named S cell cnt j) (gath W gid) x y z
  if Scalar.cmpi .ne (Scalar.extui (Scalar.cmpi .sgt (topLane (extui 32 hit Cert.KernelIdeal.Facts₀.natLt_1_32)) 0#32) : BitVec 32) 0#32 = 1#1
  then puts A gid base hit (ampOf A px py pz gid hit) f else f

/-- The entries of the lanes' cells, in order, up to the longest. -/
def slots (A : Vec F S43520 .f32) (W : Vec F S1280 .i32) (S : Vec F S14336 .i32) (px py pz : FVec F S16 .f32)
    (x y z base cell cnt : IVec S16 32) (f : Vec F S4096 .f32) : Vec F S4096 .f32 :=
  (List.range (topLane cnt).toNat).foldl (fun f j => slotStep A W S px py pz x y z base cell cnt (BitVec.ofNat 32 j) f) f

/-- The lanes' cell: number `(cx·8 + cy)·8 + cz`, or 0 on a lane with none. -/
def cellOf (ok : IVec S16 1) (cx cy cz : IVec S16 32) : IVec S16 32 :=
  select ok (addi (muli (addi (muli cx (broadcast S16 8#32)) cy) (broadcast S16 8#32)) cz) (broadcast S16 0#32)

/-- How many entries it has, none on a lane with no cell. -/
def cntOf (C : Vec F S512 .i32) (ok : IVec S16 1) (cx cy cz : IVec S16 32) : IVec S16 32 :=
  select ok (gath C (cellOf ok cx cy cz)) (broadcast S16 0#32)

/-- One of the eight cells around the lanes' points. -/
def visit (A : Vec F S43520 .f32) (W : Vec F S1280 .i32) (C : Vec F S512 .i32) (S : Vec F S14336 .i32) (px py pz : FVec F S16 .f32)
    (x y z base : IVec S16 32) (ok : IVec S16 1) (cx cy cz : IVec S16 32) (f : Vec F S4096 .f32) : Vec F S4096 .f32 :=
  slots A W S px py pz x y z base (cellOf ok cx cy cz) (cntOf C ok cx cy cz) f

/-- The first cell a window of 0.06 round the points reaches along one axis, -/
def lo (p : FVec F S16 .f32) : IVec S16 32 :=
  subi (fptosi 32 (addf (mulf (subf p (broadcast S16 (Scalar.ofBits .f32 0x3D75C28F#32))) (broadcast S16 (Scalar.ofBits .f32 0x41000000#32)))
    (broadcast S16 (Scalar.ofBits .f32 0x3F800000#32)))) (broadcast S16 1#32)

/-- and the last. -/
def hi (p : FVec F S16 .f32) : IVec S16 32 :=
  subi (fptosi 32 (addf (mulf (addf p (broadcast S16 (Scalar.ofBits .f32 0x3D75C28F#32))) (broadcast S16 (Scalar.ofBits .f32 0x41000000#32)))
    (broadcast S16 (Scalar.ofBits .f32 0x3F800000#32)))) (broadcast S16 1#32)

/-- The first cell of the window or the one after it. -/
def nxt (b : Bool) (c : IVec S16 32) : IVec S16 32 := addi c (broadcast S16 (bif b then 1#32 else 0#32))

/-- Lanes where that cell is one of the eight of its axis, and in the window, -/
def first (b : Bool) (c h : IVec S16 32) : IVec S16 1 :=
  bif b then andi (andi (cmpi .sge (nxt true c) (broadcast S16 0#32)) (cmpi .sle (nxt true c) (broadcast S16 7#32))) (cmpi .sge h (nxt true c))
  else andi (cmpi .sge (nxt false c) (broadcast S16 0#32)) (cmpi .sle (nxt false c) (broadcast S16 7#32))

/-- and this besides what the lanes already are. -/
def more (ok : IVec S16 1) (b : Bool) (c h : IVec S16 32) : IVec S16 1 :=
  bif b then andi (andi (andi ok (cmpi .sge (nxt true c) (broadcast S16 0#32))) (cmpi .sle (nxt true c) (broadcast S16 7#32))) (cmpi .sge h (nxt true c))
  else andi (andi ok (cmpi .sge (nxt false c) (broadcast S16 0#32))) (cmpi .sle (nxt false c) (broadcast S16 7#32))

/-- Lanes with a cell at offset `bx`, `by'`, `bz` of the window. -/
def okOf (px py pz : FVec F S16 .f32) (bx by' bz : Bool) : IVec S16 1 :=
  more (more (first bx (lo px) (hi px)) by' (lo py) (hi py)) bz (lo pz) (hi pz)

/-- The visit of that cell. -/
def visitAt (A : Vec F S43520 .f32) (W : Vec F S1280 .i32) (C : Vec F S512 .i32) (S : Vec F S14336 .i32) (px py pz : FVec F S16 .f32)
    (x y z base : IVec S16 32) (bx by' bz : Bool) (f : Vec F S4096 .f32) : Vec F S4096 .f32 :=
  visit A W C S px py pz x y z base (okOf px py pz bx by' bz) (nxt bx (lo px)) (nxt by' (lo py)) (nxt bz (lo pz)) f

/-- The eight offsets, in order. -/
def offsets : List (Bool × Bool × Bool) :=
  [(false, false, false), (false, false, true), (false, true, false), (false, true, true),
   (true, false, false), (true, false, true), (true, true, false), (true, true, true)]

/-- Sixteen points: the eight cells around them. -/
def around (A : Vec F S43520 .f32) (W : Vec F S1280 .i32) (C : Vec F S512 .i32) (S : Vec F S14336 .i32) (px py pz : FVec F S16 .f32)
    (x y z base : IVec S16 32) (f : Vec F S4096 .f32) : Vec F S4096 .f32 :=
  offsets.foldl (fun f b => visitAt A W C S px py pz x y z base b.1 b.2.1 b.2.2 f) f

/-- Lanes `16 t` to `16 t + 15` of a tile's points. -/
def lanes {e : EltTy} (X : Vec F S128 e) (t : ℕ) : Vec F S16 e := fun x => rd X (16 * t + (x 0).val)

/-- Where the lanes' rows of the output begin. -/
def baseOf (t : ℕ) : IVec S16 32 := fun x => BitVec.ofNat 32 ((16 * t + (x 0).val) * 32)

/-- Group `t` of a tile's points; the word `P` of a point packs its three grid coordinates. -/
def group (A : Vec F S43520 .f32) (W : Vec F S1280 .i32) (C : Vec F S512 .i32) (S : Vec F S14336 .i32) (X Y Z : Vec F S128 .f32)
    (P : Vec F S128 .i32) (t : ℕ) (f : Vec F S4096 .f32) : Vec F S4096 .f32 :=
  around A W C S (lanes X t) (lanes Y t) (lanes Z t) (shrsi (lanes P t) (broadcast S16 20#32))
    (andi (shrsi (lanes P t) (broadcast S16 10#32)) (broadcast S16 1023#32)) (andi (lanes P t) (broadcast S16 1023#32)) (baseOf t) f

/-- A tile's output. -/
def tileOut (A : Vec F S43520 .f32) (W : Vec F S1280 .i32) (C : Vec F S512 .i32) (S : Vec F S14336 .i32) (X Y Z : Vec F S128 .f32)
    (P : Vec F S128 .i32) : Vec F S4096 .f32 :=
  (List.range 8).foldl (fun f t => group A W C S X Y Z P t f) fun _ => Scalar.ofBits .f32 0x00000000#32

end Slot

end Cert.Proof

end
-- ==== Proof.Body.lean ====
/-
  The innermost body of the SparseCore kernel (one entry of a cell's list, for 16 points), run: it adds `slotStep`
  (Model.lean) into the output buffer. The printed kernel holds eight copies of it, one per cell around a point, equal
  up to the names of their facts; `slotProg` is the first, and the others are it by unfolding.
-/
module

public import proofs.«01_k».proof.Proof.Does
public import proofs.«01_k».proof.Proof.Model
public import proofs.«01_k».proof.Proof.Gen.KernelIdeal.Skeleton

@[expose] public section

noncomputable section

namespace Cert.Proof

open Cert.KernelIdeal Cert.KernelIdeal.Gen
open Idealize.ShloMosaic
open Idealize.SL Idealize.SL.RA Idealize.SL.Sem
open Idealize.SL.BI (sProp)

variable {F : FTy → Type} [FloatOps F]

/-- The machine a tile's body runs on: the tile of coordinates `i` on device `d`. -/
abbrev tileAt (d : Dev nD) (i : grid0.Coords) : At nD τ sig F Λ₀ :=
  ⟨defs₀, Variants.none, (d, .scVector ((i 0).castLE hcore0) ((i 1).castLE hsub0))⟩

/-! ## Ranges -/

theorem inb_row {gid : IVec S16 32} (hg : ∀ x, (gid x).toNat < 1280) {c : BitVec 32} (hc : c.toNat + 1280 ≤ 43520) :
    ∀ a x, ((![addi (broadcast S16 c) gid] : Fin 1 → IVec S16 32) a x).toNat < S43520.size a := by
  intro a x
  have ha : a = 0 := Fin.eq_zero a
  subst ha
  have := hg x
  show (c + gid x).toNat < 43520
  rw [BitVec.toNat_add]; omega

theorem inb_out {base : IVec S16 32} (hb : ∀ x, (base x).toNat + 32 ≤ 4096) {c : BitVec 32} (hc : c.toNat < 32) :
    ∀ a x, ((![addi base (broadcast S16 c)] : Fin 1 → IVec S16 32) a x).toNat < S4096.size a := by
  intro a x
  have ha : a = 0 := Fin.eq_zero a
  subst ha
  have := hb x
  show (base x + c).toNat < 4096
  rw [BitVec.toNat_add]; omega

theorem inb_one {n : ℕ} {v : IVec S16 32} (hv : ∀ x, (v x).toNat < n) :
    ∀ a x, ((![v] : Fin 1 → IVec S16 32) a x).toNat < (⟨1, ![n]⟩ : Shape).size a := by
  intro a x
  have ha : a = 0 := Fin.eq_zero a
  subst ha
  exact hv x

/-! ## The judgement's gathers and scatters in the model's terms -/

section

variable {Ix : Type} [DecidableEq Ix] {Name : Type} [DecidableEq Name] {U : Type} [URA U] {Lvl : Type} [Preorder Lvl]
variable {Λ : Labels} {a : At nD τ sig F Λ} {R : sProp (MT nD τ sig Ix (Elt F) Name U Lvl)} {β : Type}

theorem Does.gath {s : Shape} {e e' : EltTy} {o : Memref sig a.c.2.kind .vmem s e} {f : Vec F s e} {n : ℕ} [NeZero n]
    {m : Memref sig a.c.2.kind .vmem ⟨1, ![n]⟩ e'} {g : Vec F ⟨1, ![n]⟩ e'} (hR : Has a R m g) {v : IVec S16 32}
    {h : ∀ a x, ((![v] : Fin 1 → IVec S16 32) a x).toNat < (⟨1, ![n]⟩ : Shape).size a} {hl : m.view.Loads}
    {k : Vec F S16 e' → Prog (TpuEff nD τ sig (Elt F) Λ a.c.2) β} {Post : β → Vec F s e → Prop}
    (hk : Does a R o (k (Cert.Proof.gath g v)) f Post) :
    Does a R o (SparseCore.vectorLoadIdx m ![v] h hl >>= k) f Post :=
  Does.loadIdx hR (by rw [loadIdx_eq]; exact hk)

theorem Does.scat {n : ℕ} {o : Memref sig a.c.2.kind .vmem ⟨1, ![n]⟩ .f32} {f : Vec F ⟨1, ![n]⟩ .f32} {v : IVec S16 32}
    {w : FVec F S16 .f32} {mask : IVec S16 1}
    {h : ∀ a x, ((![v] : Fin 1 → IVec S16 32) a x).toNat < (⟨1, ![n]⟩ : Shape).size a}
    {hs : (o.access (.whole ⟨1, ![n]⟩)).Stores Finset.univ} {k : PUnit → Prog (TpuEff nD τ sig (Elt F) Λ a.c.2) β}
    {Post : β → Vec F ⟨1, ![n]⟩ .f32 → Prop} (hk : Does a R o (k ⟨⟩) (Cert.Proof.scat f v w mask) Post) :
    Does a R o (SparseCore.vectorStoreIdx o ![v] w mask true h hs >>= k) f Post :=
  Does.storeIdx (by rw [storeIdx_eq]; exact hk)

end

/-! ## The body -/

section Slot

variable (i : grid0.Coords) (arg2 : Memref sig .scVector .hbm S43520 .f32) (harg2 : arg2.IsWhole) (arg3 : Memref sig .scVector .hbm S1280 .i32) (harg3 : arg3.IsWhole) (arg4 : Memref sig .scVector .hbm S512 .i32) (harg4 : arg4.IsWhole) (arg5 : Memref sig .scVector .hbm S14336 .i32) (harg5 : arg5.IsWhole) (arg6 : Memref sig .scVector .hbm S4096 .f32) (harg6 : arg6.IsWhole) (arg7 : Memref sig .scVector .hbm S4096 .f32) (harg7 : arg7.IsWhole) (arg8 : Memref sig .scVector .hbm S4096 .f32) (harg8 : arg8.IsWhole) (arg9 : Memref sig .scVector .hbm S4096 .i32) (harg9 : arg9.IsWhole) (arg10 : Memref sig .scVector .hbm S131072 .f32) (harg10 : arg10.IsWhole) (arg11 : Memref sig .scVector .vmem S43520 .f32) (harg11 : arg11.IsWhole) (arg12 : Memref sig .scVector .vmem S1280 .i32) (harg12 : arg12.IsWhole) (arg13 : Memref sig .scVector .vmem S512 .i32) (harg13 : arg13.IsWhole) (arg14 : Memref sig .scVector .vmem S14336 .i32) (harg14 : arg14.IsWhole) (arg15 : Memref sig .scVector .vmem S128 .f32) (harg15 : arg15.IsWhole) (arg16 : Memref sig .scVector .vmem S128 .f32) (harg16 : arg16.IsWhole) (arg17 : Memref sig .scVector .vmem S128 .f32) (harg17 : arg17.IsWhole) (arg18 : Memref sig .scVector .vmem S128 .i32) (harg18 : arg18.IsWhole) (arg19 : Memref sig .scVector .vmem S4096 .f32) (harg19 : arg19.IsWhole) (v8_r0 : DmaSems sig S_) (v8_r1 : DmaSems sig S_) (v8_r2 : DmaSems sig S_) (v8_r3 : DmaSems sig S_) (v8_r4 : DmaSems sig S_) (v8_r5 : DmaSems sig S_) (v8_r6 : DmaSems sig S_) (v8_r7 : DmaSems sig S_) (v8_r8 : DmaSems sig S_)

def slotProg (v10 v12 v14 : FVec F S16 .f32) (v18 v22 v24 v29 cell : IVec S16 32) (cnt : Vec F S16 .i32) (mx : BitVec 32) (t : Fin (k0_t3_loop mx).trips) :
    Prog (TpuEff nD τ sig (Elt F) Λ₀ (.scVector ((i 0).castLE hcore0) ((i 1).castLE hsub0))) PUnit := do
  let ⟨v399, v424, v425, v427⟩ : Σ' (v399 : IVec S16 32) (v424 : IVec S16 1) (v425 : IVec S16 32), IVec S16 32 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 v18 v22 v24 cell cnt mx 0#32 1#32 t
  let v431 : BitVec 32 := extractAt ![15] (k0_pay1222 v425 v427) inpos_S16_p15
  if k0_h1 : k0_cond1 v431 = 1#1 then do
    let ⟨v446, v449, v452, v455, v458, v461, v464, v467, v472⟩ : Σ' (v446 : Vec F S16 .f32) (v449 : Vec F S16 .f32) (v452 : Vec F S16 .f32) (v455 : Vec F S16 .f32) (v458 : Vec F S16 .f32) (v461 : Vec F S16 .f32) (v464 : Vec F S16 .f32) (v467 : Vec F S16 .f32), FVec F S16 .f32 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 v10 v12 v14 v399 v431 k0_h1
    let ⟨v516, v518, k0_hw21⟩ : Σ' (v516 : FVec F S16 .f32) (v518 : IVec S16 32), k0_chk21 v431 v518 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 v10 v12 v14 v29 v399 v424 v431 k0_h1 v446 v449 v452 v455 v458 v461 v464 v467 v472
    let ⟨v550, k0_hw32⟩ : Σ' (v550 : IVec S16 32), k0_chk32 v431 v550 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 v29 v399 v424 v431 k0_h1 v516 v518 k0_hw21
    let ⟨v581, v583, k0_hw43⟩ : Σ' (v581 : Vec F S16 .f32) (v583 : IVec S16 32), k0_chk43 v431 v583 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 v29 v399 v424 v431 k0_h1 v516 v550 k0_hw32
    let v616 : IVec S16 32 ← k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 v29 v399 v424 v431 k0_h1 v516 v581 v583 k0_hw43
    have k0_hw54 : k0_chk54 v431 v616 := (← Prog.lift (TpuEff.assume (k0_chk54 v431 v616) (k0_chk54.dec v431 v616))).down
    let v617 : Vec F S16 .f32 ← SparseCore.vectorLoadIdx arg11 ![v616] (k0_idx53_inb v431 v616 k0_hw54 k0_h1) (View.loads_vmem h_S43520)
    have v619 : IVec S16 32 := k0_pay1223 v29
    have k0_hw55 : k0_chk55 v431 v619 := (← Prog.lift (TpuEff.assume (k0_chk55 v431 v619) (k0_chk55.dec v431 v619))).down
    SparseCore.vectorStoreIdx arg19 ![v619] (k0_pay1224 v516 v617) v424 true (k0_idx54_inb v431 v619 k0_hw55 k0_h1) (View.stores_vmem_bits_univ h_S4096 rfl)
    have v622 : IVec S16 32 := k0_pay1225 v399
    have k0_hw56 : k0_chk56 v431 v622 := (← Prog.lift (TpuEff.assume (k0_chk56 v431 v622) (k0_chk56.dec v431 v622))).down
    let v623 : Vec F S16 .f32 ← SparseCore.vectorLoadIdx arg11 ![v622] (k0_idx55_inb v431 v622 k0_hw56 k0_h1) (View.loads_vmem h_S43520)
    have v625 : IVec S16 32 := k0_pay1226 v29
    have k0_hw57 : k0_chk57 v431 v625 := (← Prog.lift (TpuEff.assume (k0_chk57 v431 v625) (k0_chk57.dec v431 v625))).down
    SparseCore.vectorStoreIdx arg19 ![v625] (k0_pay1227 v516 v623) v424 true (k0_idx56_inb v431 v625 k0_hw57 k0_h1) (View.stores_vmem_bits_univ h_S4096 rfl)
    pure ⟨⟩
  else do
    pure ⟨⟩
  pure ⟨⟩

variable {Ix : Type} [DecidableEq Ix] {Name : Type} [DecidableEq Name] {U : Type} [URA U] {Lvl : Type} [Preorder Lvl]
variable (d : Dev nD) {R : sProp (MT nD τ sig Ix (Elt F) Name U Lvl)}
variable {A : Vec F S43520 .f32} {W : Vec F S1280 .i32} {S : Vec F S14336 .i32}

theorem part6_does (v18 v22 v24 cell : IVec S16 32) (cnt : Vec F S16 .i32) (mx : BitVec 32) (t : Fin (k0_t3_loop mx).trips) (f : Vec F S4096 .f32)
    (hW : Has (tileAt d i) R arg12 W) (hS : Has (tileAt d i) R arg14 S)
    (hslot : ∀ x, ((select (inCell cnt (Scf.iv 0#32 1#32 t.val)) (addi (muli cell (broadcast S16 28#32)) (broadcast S16 (Scf.iv 0#32 1#32 t.val))) (broadcast S16 0#32) : IVec S16 32) x).toNat < 14336)
    (hgid : ∀ x, (gidOf S cell cnt (Scf.iv 0#32 1#32 t.val) x).toNat < 1280) :
    Does (tileAt d i) R arg19 (k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 v18 v22 v24 cell cnt mx 0#32 1#32 t) f
      fun x g => g = f ∧ x = ⟨gidOf S cell cnt (Scf.iv 0#32 1#32 t.val),
        hitOf (named S cell cnt (Scf.iv 0#32 1#32 t.val)) (gath W (gidOf S cell cnt (Scf.iv 0#32 1#32 t.val))) v18 v22 v24,
        extui 32 (hitOf (named S cell cnt (Scf.iv 0#32 1#32 t.val)) (gath W (gidOf S cell cnt (Scf.iv 0#32 1#32 t.val))) v18 v22 v24) natLt_1_32,
        broadcast S16 2147483648#32⟩ := by
  unfold k0_part6
  refine Does.assume (inb_one hslot) ?_
  refine Does.gath hS ?_
  refine Does.assume (inb_one hgid) ?_
  refine Does.gath hW ?_
  refine Does.pure ⟨rfl, rfl⟩

theorem part1_does (v10 v12 v14 : FVec F S16 .f32) (gid : IVec S16 32) (v431 : BitVec 32) (h1 : k0_cond1 v431 = 1#1) (f : Vec F S4096 .f32)
    (hA : Has (tileAt d i) R arg11 A) (hgid : ∀ x, (gid x).toNat < 1280) :
    Does (tileAt d i) R arg19 (k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 v10 v12 v14 gid v431 h1) f
      fun x g => g = f ∧ x = ⟨row A gid 3840#32, row A gid 5120#32, row A gid 6400#32, row A gid 7680#32, row A gid 8960#32,
        row A gid 10240#32, row A gid 34560#32, row A gid 38400#32,
        addf (addf (mulf v10 (row A gid 0#32)) (mulf v12 (row A gid 1280#32))) (mulf v14 (row A gid 2560#32))⟩ := by
  unfold k0_part1
  iterate 11
    refine Does.assume (fun _ => inb_row hgid (by decide)) ?_
    refine Does.gath hA ?_
  refine Does.pure ⟨rfl, rfl⟩

theorem part2_does (v10 v12 v14 : FVec F S16 .f32) (base gid : IVec S16 32) (hit : IVec S16 1) (v431 : BitVec 32) (h1 : k0_cond1 v431 = 1#1)
    (f : Vec F S4096 .f32) (hA : Has (tileAt d i) R arg11 A) (hgid : ∀ x, (gid x).toNat < 1280)
    (hbase : ∀ x, (base x).toNat + 32 ≤ 4096) :
    Does (tileAt d i) R arg19 (k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 v10 v12 v14 base gid hit v431 h1
        (row A gid 3840#32) (row A gid 5120#32) (row A gid 6400#32) (row A gid 7680#32) (row A gid 8960#32)
        (row A gid 10240#32) (row A gid 34560#32) (row A gid 38400#32)
        (addf (addf (mulf v10 (row A gid 0#32)) (mulf v12 (row A gid 1280#32))) (mulf v14 (row A gid 2560#32)))) f
      fun x g => g = f ∧ x.1 = ampOf A v10 v12 v14 gid hit ∧ x.2.1 = addi base (broadcast S16 18#32) := by
  unfold k0_part2
  iterate 5
    refine Does.assume (fun _ => inb_row hgid (by decide)) ?_
    refine Does.gath hA ?_
  refine Does.assume (fun _ => inb_out hbase (by decide)) ?_
  refine Does.pure ⟨rfl, rfl, rfl⟩

theorem part3_does (base gid : IVec S16 32) (hit : IVec S16 1) (a : FVec F S16 .f32) (v431 : BitVec 32) (h1 : k0_cond1 v431 = 1#1)
    (f : Vec F S4096 .f32) (hA : Has (tileAt d i) R arg11 A) (hgid : ∀ x, (gid x).toNat < 1280)
    (hbase : ∀ x, (base x).toNat + 32 ≤ 4096) (w : IVec S16 32) (hw : k0_chk21 v431 w) (hww : w = addi base (broadcast S16 18#32)) :
    Does (tileAt d i) R arg19 (k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 base gid hit v431 h1 a w hw) f
      fun x g => g = putN A gid base hit a f 5 ∧ x.1 = addi (broadcast S16 17920#32) gid := by
  subst hww
  unfold k0_part3
  refine Does.scat ?_
  iterate 5
    refine Does.assume (fun _ => inb_row hgid (by decide)) ?_
    refine Does.gath hA ?_
    refine Does.assume (fun _ => inb_out hbase (by decide)) ?_
    refine Does.scat ?_
  refine Does.assume (fun _ => inb_row hgid (by decide)) ?_
  exact Does.pure ⟨rfl, rfl⟩

theorem part4_does (base gid : IVec S16 32) (hit : IVec S16 1) (a : FVec F S16 .f32) (v431 : BitVec 32) (h1 : k0_cond1 v431 = 1#1)
    (f : Vec F S4096 .f32) (hA : Has (tileAt d i) R arg11 A) (hgid : ∀ x, (gid x).toNat < 1280)
    (hbase : ∀ x, (base x).toNat + 32 ≤ 4096) (w : IVec S16 32) (hw : k0_chk32 v431 w) (hww : w = addi (broadcast S16 17920#32) gid) :
    Does (tileAt d i) R arg19 (k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 base gid hit v431 h1 a w hw) (putN A gid base hit a f 5)
      fun x g => g = putN A gid base hit a f 10 ∧ x.1 = row A gid 24320#32 ∧ x.2.1 = addi base (broadcast S16 10#32) := by
  subst hww
  unfold k0_part4
  refine Does.gath hA ?_
  refine Does.assume (fun _ => inb_out hbase (by decide)) ?_
  refine Does.scat ?_
  iterate 4
    refine Does.assume (fun _ => inb_row hgid (by decide)) ?_
    refine Does.gath hA ?_
    refine Does.assume (fun _ => inb_out hbase (by decide)) ?_
    refine Does.scat ?_
  refine Does.assume (fun _ => inb_row hgid (by decide)) ?_
  refine Does.gath hA ?_
  refine Does.assume (fun _ => inb_out hbase (by decide)) ?_
  exact Does.pure ⟨rfl, rfl, rfl⟩

theorem part5_does (base gid : IVec S16 32) (hit : IVec S16 1) (a : FVec F S16 .f32) (v431 : BitVec 32) (h1 : k0_cond1 v431 = 1#1)
    (f : Vec F S4096 .f32) (hA : Has (tileAt d i) R arg11 A) (hgid : ∀ x, (gid x).toNat < 1280)
    (hbase : ∀ x, (base x).toNat + 32 ≤ 4096) (u : Vec F S16 .f32) (w : IVec S16 32) (hw : k0_chk43 v431 w) (hu : u = row A gid 24320#32)
    (hww : w = addi base (broadcast S16 10#32)) :
    Does (tileAt d i) R arg19 (k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 base gid hit v431 h1 a u w hw) (putN A gid base hit a f 10)
      fun x g => g = putN A gid base hit a f 16 ∧ x = addi (broadcast S16 32000#32) gid := by
  subst hu hww
  unfold k0_part5
  refine Does.scat ?_
  iterate 5
    refine Does.assume (fun _ => inb_row hgid (by decide)) ?_
    refine Does.gath hA ?_
    refine Does.assume (fun _ => inb_out hbase (by decide)) ?_
    refine Does.scat ?_
  exact Does.pure ⟨rfl, rfl⟩

theorem slotProg_does (v10 v12 v14 : FVec F S16 .f32) (v18 v22 v24 v29 cell : IVec S16 32) (cnt : Vec F S16 .i32) (mx : BitVec 32) (t : Fin (k0_t3_loop mx).trips) (f : Vec F S4096 .f32)
    (hA : Has (tileAt d i) R arg11 A) (hW : Has (tileAt d i) R arg12 W) (hS : Has (tileAt d i) R arg14 S)
    (hbase : ∀ x, (v29 x).toNat + 32 ≤ 4096) (hslot : ∀ x, ((select (inCell cnt (Scf.iv 0#32 1#32 t.val)) (addi (muli cell (broadcast S16 28#32)) (broadcast S16 (Scf.iv 0#32 1#32 t.val))) (broadcast S16 0#32) : IVec S16 32) x).toNat < 14336)
    (hgid : ∀ x, (gidOf S cell cnt (Scf.iv 0#32 1#32 t.val) x).toNat < 1280) :
    Does (tileAt d i) R arg19 (slotProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 v10 v12 v14 v18 v22 v24 v29 cell cnt mx t) f
      fun _ g => g = slotStep A W S v10 v12 v14 v18 v22 v24 v29 cell cnt (Scf.iv 0#32 1#32 t.val) f := by
  unfold slotProg
  refine (part6_does i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 d v18 v22 v24 cell cnt mx t f hW hS hslot hgid).bind ?_
  rintro _ g ⟨hg, rfl⟩
  subst g
  change Does _ _ _ _ _ fun _ g => g = if k0_cond1 (extractAt ![15] (k0_pay1222 (extui 32 (hitOf (named S cell cnt (Scf.iv 0#32 1#32 t.val)) (gath W (gidOf S cell cnt (Scf.iv 0#32 1#32 t.val))) v18 v22 v24) natLt_1_32) (broadcast S16 2147483648#32)) inpos_S16_p15) = 1#1 then
    puts A (gidOf S cell cnt (Scf.iv 0#32 1#32 t.val)) v29 (hitOf (named S cell cnt (Scf.iv 0#32 1#32 t.val)) (gath W (gidOf S cell cnt (Scf.iv 0#32 1#32 t.val))) v18 v22 v24) (ampOf A v10 v12 v14 (gidOf S cell cnt (Scf.iv 0#32 1#32 t.val)) (hitOf (named S cell cnt (Scf.iv 0#32 1#32 t.val)) (gath W (gidOf S cell cnt (Scf.iv 0#32 1#32 t.val))) v18 v22 v24)) f else f
  generalize gidOf S cell cnt (Scf.iv 0#32 1#32 t.val) = gid at hgid ⊢
  generalize hitOf (named S cell cnt (Scf.iv 0#32 1#32 t.val)) (gath W gid) v18 v22 v24 = hit
  dsimp only
  refine Does.dite ?_ (fun hc => Does.pure (by rw [if_neg hc]))
  intro hc
  refine Does.mono (Post := fun _ g => g = puts A gid v29 hit (ampOf A v10 v12 v14 gid hit) f) ?_ (fun _ g hg => by rw [if_pos hc]; exact hg)
  refine (part1_does i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 d v10 v12 v14 gid _ hc f hA hgid).bind ?_
  rintro _ g ⟨hg, rfl⟩
  subst g
  refine (part2_does i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 d v10 v12 v14 v29 gid hit _ hc f hA hgid hbase).bind ?_
  rintro ⟨a, w, hw⟩ g ⟨hg, ha, hw'⟩
  subst g
  dsimp only at ha hw'
  subst ha
  generalize ampOf A v10 v12 v14 gid hit = a
  refine (part3_does i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 d v29 gid hit a _ hc f hA hgid hbase w hw hw').bind ?_
  rintro ⟨w2, hw2⟩ g ⟨hg, hw2'⟩
  subst g
  refine (part4_does i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 d v29 gid hit a _ hc f hA hgid hbase w2 hw2 hw2').bind ?_
  rintro ⟨u, w3, hw3⟩ g ⟨hg, hu, hw3'⟩
  subst g
  refine (part5_does i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 d v29 gid hit a _ hc f hA hgid hbase u w3 hw3 hu hw3').bind ?_
  rintro w4 g ⟨hg, hw4⟩
  subst g hw4
  iterate 2
    refine Does.assume (fun _ => inb_row hgid (by decide)) ?_
    refine Does.gath hA ?_
    refine Does.assume (fun _ => inb_out hbase (by decide)) ?_
    refine Does.scat ?_
  refine Does.pure rfl

end Slot

end Cert.Proof

end
-- ==== Proof.Words.lean ====
/-
  The words the kernel computes with: its signed maximum over 16 lanes, its comparisons, its masks.
-/
module

public import proofs.«01_k».proof.Proof.Model

@[expose] public section

namespace Cert.Proof

open Idealize.ShloMosaic
open Cert.KernelIdeal (S16)

/-- Flipping the sign bit adds `2^31`. -/
theorem flip_toNat (x : BitVec 32) : (x ^^^ 2147483648#32).toNat = (x.toNat + 2147483648) % 4294967296 := by
  rw [BitVec.toNat_xor]
  have h := x.isLt
  have hm : (x.toNat ^^^ 2147483648) % 2 ^ 31 = x.toNat % 2 ^ 31 := by
    rw [Nat.xor_mod_two_pow]; simp
  have hd : (x.toNat ^^^ 2147483648) / 2 ^ 31 = (x.toNat / 2 ^ 31) ^^^ 1 := by
    rw [Nat.xor_div_two_pow]
  have hc : x.toNat / 2 ^ 31 = 0 ∨ x.toNat / 2 ^ 31 = 1 := by omega
  have h31 : (2147483648#32 : BitVec 32).toNat = 2147483648 := rfl
  rw [h31]
  rcases hc with hc | hc
  · rw [hc] at hd
    have : (0 ^^^ 1 : ℕ) = 1 := rfl
    omega
  · rw [hc] at hd
    have : (1 ^^^ 1 : ℕ) = 0 := rfl
    omega

theorem flip_flip (x : BitVec 32) : x ^^^ 2147483648#32 ^^^ 2147483648#32 = x := by
  rw [BitVec.xor_assoc, BitVec.xor_self, BitVec.xor_zero]

theorem toInt_flip (x : BitVec 32) : x.toInt = ((x ^^^ 2147483648#32).toNat : ℤ) - 2147483648 := by
  rw [flip_toNat, BitVec.toInt_eq_toNat_cond]
  have h := x.isLt
  split <;> omega

/-- A running unsigned maximum is one of its terms, and at least every one. -/
theorem foldl_maxui {α : Type} (g : α → BitVec 32) (l : List α) (a : BitVec 32) :
    (l.foldl (fun r k => ScanKind.step .max r (g k)) a = a ∨ ∃ k ∈ l, l.foldl (fun r k => ScanKind.step .max r (g k)) a = g k) ∧
      a.toNat ≤ (l.foldl (fun r k => ScanKind.step .max r (g k)) a).toNat ∧
      ∀ k ∈ l, (g k).toNat ≤ (l.foldl (fun r k => ScanKind.step .max r (g k)) a).toNat := by
  induction l generalizing a with
  | nil => simp
  | cons k l ih =>
    simp only [List.foldl_cons]
    obtain ⟨h1, h2, h3⟩ := ih (ScanKind.step .max a (g k))
    have hs : (ScanKind.step .max a (g k) = a ∨ ScanKind.step .max a (g k) = g k) ∧
        a.toNat ≤ (ScanKind.step .max a (g k)).toNat ∧ (g k).toNat ≤ (ScanKind.step .max a (g k)).toNat := by
      have he : ScanKind.step .max a (g k) = if (g k).ult a then a else g k := by
        simp [ScanKind.step, IntOp.maxui]
      rw [he]
      rw [BitVec.ult_eq_decide]
      split
      · rename_i hlt; simp at hlt; exact ⟨Or.inl rfl, by omega, by omega⟩
      · rename_i hlt; simp at hlt; exact ⟨Or.inr rfl, by omega, by omega⟩
    refine ⟨?_, by omega, ?_⟩
    · rcases h1 with h1 | ⟨k', hk', h1⟩
      · rcases hs.1 with h | h
        · left; rw [h1, h]
        · right; exact ⟨k, by simp, by rw [h1, h]⟩
      · right; exact ⟨k', by simp [hk'], h1⟩
    · intro k' hk'
      rcases List.mem_cons.mp hk' with rfl | hk'
      · omega
      · exact h3 k' hk'

/-- Lane `k` of 16. -/
abbrev ln (k : Fin 16) : S16.Idx := Shape.ofLane (d := ![16]) k

theorem ln_surj (x : S16.Idx) : ∃ k, x = ln k := by
  refine ⟨x 0, funext fun a => ?_⟩
  have : a = 0 := Fin.eq_zero a
  subst this
  rfl

/-- The signed maximum over the lanes is one of them, and at least every one. -/
theorem topLane_spec (v : IVec S16 32) : (∃ k, topLane v = v (ln k)) ∧ ∀ k, (v (ln k)).toInt ≤ (topLane v).toInt := by
  have he : topLane v = (((List.finRange 16).filter fun k => decide (0 < k.val ∧ k.val ≤ 15)).foldl
      (fun r k => ScanKind.step .max r (v (ln k) ^^^ 2147483648#32)) (v (ln 0) ^^^ 2147483648#32)) ^^^ 2147483648#32 := rfl
  obtain ⟨h1, h2, h3⟩ := foldl_maxui (fun k : Fin 16 => v (ln k) ^^^ 2147483648#32)
    ((List.finRange 16).filter fun k => decide (0 < k.val ∧ k.val ≤ 15)) (v (ln 0) ^^^ 2147483648#32)
  rw [he]
  generalize (((List.finRange 16).filter fun k => decide (0 < k.val ∧ k.val ≤ 15)).foldl
      (fun r k => ScanKind.step .max r (v (ln k) ^^^ 2147483648#32)) (v (ln 0) ^^^ 2147483648#32)) = r at *
  refine ⟨?_, fun k => ?_⟩
  · rcases h1 with h1 | ⟨k, -, h1⟩
    · exact ⟨0, by rw [h1, flip_flip]⟩
    · exact ⟨k, by rw [h1, flip_flip]⟩
  · rw [toInt_flip, toInt_flip (r ^^^ _), flip_flip]
    by_cases hk : k = 0
    · subst hk; omega
    · have := h3 k (by simp [List.mem_filter]; have := k.isLt; have : k.val ≠ 0 := fun h => hk (Fin.ext h); omega)
      omega

end Cert.Proof
-- ==== Proof.Visit.lean ====
/-
  One of the eight cells around 16 points: the kernel reads the cell's count, and runs the innermost body (Body.lean)
  for every entry. The kernel holds the eight copies one after another; each is `visit` (Model.lean).
-/
module

public import proofs.«01_k».proof.Proof.Body
public import proofs.«01_k».proof.Proof.Words

@[expose] public section

noncomputable section

namespace Cert.Proof

open Cert.KernelIdeal Cert.KernelIdeal.Gen
open Idealize.ShloMosaic
open Idealize.SL Idealize.SL.RA Idealize.SL.Sem
open Idealize.SL.BI (sProp)

variable {F : FTy → Type} [FloatOps F]

/-! ## Counts and trips -/

theorem small_cases {P : BitVec 32 → Prop} (h : ∀ k : Fin 29, P (BitVec.ofNat 32 k.val)) (v : BitVec 32) (hv : v.toNat ≤ 28) : P v := by
  have := h ⟨v.toNat, by omega⟩
  rwa [BitVec.ofNat_toNat, BitVec.setWidth_eq] at this

theorem trips_t3 (v : BitVec 32) (hv : v.toNat ≤ 28) : (k0_t3_loop v).trips = v.toNat :=
  small_cases (P := fun v => (k0_t3_loop v).trips = v.toNat) (by decide) v hv

theorem trips_t4 (v : BitVec 32) (hv : v.toNat ≤ 28) : (k0_t4_loop v).trips = 0 :=
  small_cases (P := fun v => (k0_t4_loop v).trips = 0) (by decide) v hv

theorem loops_ok (v : BitVec 32) (hv : v.toNat ≤ 28) : k0_chk2 v :=
  small_cases (P := fun v => (k0_t3_loop v).OK ∧ (k0_t4_loop v).OK) (by decide) v hv

theorem topLane_le {v : IVec S16 32} {n : ℕ} (h : ∀ x, (v x).toNat ≤ n) : (topLane v).toNat ≤ n := by
  obtain ⟨⟨k, hk⟩, -⟩ := topLane_spec v
  rw [hk]; exact h _

theorem iv_eq (t : ℕ) : Scf.iv 0#32 1#32 t = BitVec.ofNat 32 t := by
  unfold Scf.iv
  rw [BitVec.mul_one, BitVec.zero_add]

theorem inCell_iff {cnt : IVec S16 32} {j : ℕ} (hj : j ≤ 28) {x : S16.Idx} (hc : (cnt x).toNat ≤ 28) :
    inCell cnt (BitVec.ofNat 32 j) x = 1#1 ↔ j < (cnt x).toNat := by
  show IntOp.cmpi .slt (BitVec.ofNat 32 j) (cnt x) = 1#1 ↔ _
  have h1 : (BitVec.ofNat 32 j).toInt = j := by
    rw [BitVec.toInt_eq_toNat_cond, BitVec.toNat_ofNat]; split <;> omega
  have h2 : (cnt x).toInt = (cnt x).toNat := by
    rw [BitVec.toInt_eq_toNat_cond]; split <;> omega
  simp only [IntOp.cmpi, BitVec.slt_eq_decide, h1, h2]
  by_cases h : j < (cnt x).toNat <;> simp [h]

section Slots

variable {cell cnt : IVec S16 32} {S : Vec F S14336 .i32} {j : ℕ}

theorem slot_lt (hcell : ∀ x, (cell x).toNat < 512) (hcnt : ∀ x, (cnt x).toNat ≤ 28) (hj : j ≤ 28) (x : S16.Idx) :
    ((select (inCell cnt (BitVec.ofNat 32 j)) (addi (muli cell (broadcast S16 28#32)) (broadcast S16 (BitVec.ofNat 32 j))) (broadcast S16 0#32) : IVec S16 32) x).toNat < 14336 := by
  show (if inCell cnt (BitVec.ofNat 32 j) x = 1#1 then cell x * 28#32 + BitVec.ofNat 32 j else 0#32).toNat < 14336
  split
  · rename_i h
    rw [inCell_iff hj (hcnt x)] at h
    have h1 := hcell x
    have h2 := hcnt x
    have e28 : (28#32 : BitVec 32).toNat = 28 := rfl
    have ej : (BitVec.ofNat 32 j).toNat = j := by rw [BitVec.toNat_ofNat]; omega
    rw [BitVec.toNat_add, BitVec.toNat_mul, e28, ej, Nat.mod_eq_of_lt (a := (cell x).toNat * 28) (by omega), Nat.mod_eq_of_lt (by omega)]
    omega
  · decide

theorem gid_lt (hS : ∀ k, (rd S k : BitVec 32).toNat ≤ 1280) (x : S16.Idx) :
    (gidOf S cell cnt (BitVec.ofNat 32 j) x).toNat < 1280 := by
  show (if named S cell cnt (BitVec.ofNat 32 j) x = 1#1 then slotOf S cell cnt (BitVec.ofNat 32 j) x - 1#32 else 0#32).toNat < 1280
  split
  · rename_i h
    have h0 : IntOp.cmpi .sgt (slotOf S cell cnt (BitVec.ofNat 32 j) x) 0#32 = 1#1 := by
      have : (inCell cnt (BitVec.ofNat 32 j) x &&& IntOp.cmpi .sgt (slotOf S cell cnt (BitVec.ofNat 32 j) x) 0#32) = 1#1 := h
      revert this
      generalize inCell cnt (BitVec.ofNat 32 j) x = a
      generalize IntOp.cmpi .sgt (slotOf S cell cnt (BitVec.ofNat 32 j) x) 0#32 = b
      revert a b; decide
    have h1 : (slotOf S cell cnt (BitVec.ofNat 32 j) x).toNat ≤ 1280 := hS _
    generalize slotOf S cell cnt (BitVec.ofNat 32 j) x = s at h0 h1 ⊢
    have hs : s ≠ 0#32 := by rintro rfl; revert h0; decide
    have hs' : s.toNat ≠ 0 := fun h => hs (BitVec.eq_of_toNat_eq (by simpa using h))
    rw [BitVec.toNat_sub, BitVec.toNat_ofNat]
    omega
  · decide

end Slots

/-! ## The entries of a cell -/

section Visit

variable (i : grid0.Coords) (arg2 : Memref sig .scVector .hbm S43520 .f32) (harg2 : arg2.IsWhole) (arg3 : Memref sig .scVector .hbm S1280 .i32) (harg3 : arg3.IsWhole) (arg4 : Memref sig .scVector .hbm S512 .i32) (harg4 : arg4.IsWhole) (arg5 : Memref sig .scVector .hbm S14336 .i32) (harg5 : arg5.IsWhole) (arg6 : Memref sig .scVector .hbm S4096 .f32) (harg6 : arg6.IsWhole) (arg7 : Memref sig .scVector .hbm S4096 .f32) (harg7 : arg7.IsWhole) (arg8 : Memref sig .scVector .hbm S4096 .f32) (harg8 : arg8.IsWhole) (arg9 : Memref sig .scVector .hbm S4096 .i32) (harg9 : arg9.IsWhole) (arg10 : Memref sig .scVector .hbm S131072 .f32) (harg10 : arg10.IsWhole) (arg11 : Memref sig .scVector .vmem S43520 .f32) (harg11 : arg11.IsWhole) (arg12 : Memref sig .scVector .vmem S1280 .i32) (harg12 : arg12.IsWhole) (arg13 : Memref sig .scVector .vmem S512 .i32) (harg13 : arg13.IsWhole) (arg14 : Memref sig .scVector .vmem S14336 .i32) (harg14 : arg14.IsWhole) (arg15 : Memref sig .scVector .vmem S128 .f32) (harg15 : arg15.IsWhole) (arg16 : Memref sig .scVector .vmem S128 .f32) (harg16 : arg16.IsWhole) (arg17 : Memref sig .scVector .vmem S128 .f32) (harg17 : arg17.IsWhole) (arg18 : Memref sig .scVector .vmem S128 .i32) (harg18 : arg18.IsWhole) (arg19 : Memref sig .scVector .vmem S4096 .f32) (harg19 : arg19.IsWhole) (v8_r0 : DmaSems sig S_) (v8_r1 : DmaSems sig S_) (v8_r2 : DmaSems sig S_) (v8_r3 : DmaSems sig S_) (v8_r4 : DmaSems sig S_) (v8_r5 : DmaSems sig S_) (v8_r6 : DmaSems sig S_) (v8_r7 : DmaSems sig S_) (v8_r8 : DmaSems sig S_)

variable {Ix : Type} [DecidableEq Ix] {Name : Type} [DecidableEq Name] {U : Type} [URA U] {Lvl : Type} [Preorder Lvl]
variable (d : Dev nD) {R : sProp (MT nD τ sig Ix (Elt F) Name U Lvl)}
variable {A : Vec F S43520 .f32} {W : Vec F S1280 .i32} {C : Vec F S512 .i32} {S : Vec F S14336 .i32}

theorem slots_does (v10 v12 v14 : FVec F S16 .f32) (v18 v22 v24 v29 cell : IVec S16 32) (cnt : Vec F S16 .i32) (f : Vec F S4096 .f32)
    (hA : Has (tileAt d i) R arg11 A) (hW : Has (tileAt d i) R arg12 W) (hS : Has (tileAt d i) R arg14 S)
    (hbase : ∀ x, (v29 x).toNat + 32 ≤ 4096) (hslots : ∀ k, (rd S k : BitVec 32).toNat ≤ 1280)
    (hcell : ∀ x, (cell x).toNat < 512) (hcnt : ∀ x, (cnt x : BitVec 32).toNat ≤ 28) (hok : (k0_t3_loop (topLane cnt)).OK)
    (body : Fin (k0_t3_loop (topLane cnt)).trips → PUnit → Prog (TpuEff nD τ sig (Elt F) Λ₀ (.scVector ((i 0).castLE hcore0) ((i 1).castLE hsub0))) PUnit)
    (hb : ∀ t, body t ⟨⟩ = slotProg i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 v10 v12 v14 v18 v22 v24 v29 cell cnt (topLane cnt) t) :
    Does (tileAt d i) R arg19 (Scf.Loop.for (k0_t3_loop (topLane cnt)) hok ⟨⟩ body) f
      fun _ g => g = slots A W S v10 v12 v14 v18 v22 v24 v29 cell cnt f := by
  have hmx : (topLane cnt).toNat ≤ 28 := topLane_le hcnt
  refine (Does.for (fun n g => g = (List.range n).foldl (fun f j => slotStep A W S v10 v12 v14 v18 v22 v24 v29 cell cnt (BitVec.ofNat 32 j) f) f) rfl ?_).mono ?_
  · rintro k g rfl
    have hk : k.val ≤ 28 := by have h1 := k.isLt; have h2 := trips_t3 _ hmx; omega
    rw [hb]
    refine (slotProg_does i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 d v10 v12 v14 v18 v22 v24 v29 cell cnt (topLane cnt) k _ hA hW hS hbase ?_ ?_).mono ?_
    · rw [iv_eq]; exact slot_lt hcell hcnt hk
    · rw [iv_eq]; exact gid_lt hslots
    · rintro _ g' rfl
      rw [iv_eq, List.range_succ, List.foldl_append]
      rfl
  · rintro _ g hg
    rw [trips_t3 _ hmx] at hg
    exact hg

theorem cntOf_le {ok : IVec S16 1} {cx cy cz : IVec S16 32} (hC : ∀ k, (rd C k : BitVec 32).toNat ≤ 28) (x : S16.Idx) :
    (cntOf C ok cx cy cz x).toNat ≤ 28 := by
  show (if ok x = 1#1 then rd C (cellOf ok cx cy cz x).toNat else 0#32 : BitVec 32).toNat ≤ 28
  split
  · exact hC _
  · decide

set_option maxRecDepth 65536 in
theorem part99_does (v10 v12 v14 : FVec F S16 .f32) (v18 v22 v24 v29 : IVec S16 32) (v60 : IVec S16 32) (v78 : IVec S16 32) (v85 : IVec S16 32) (v90 : IVec S16 1) (v91 : IVec S16 32) (f : Vec F S4096 .f32)
    (hA : Has (tileAt d i) R arg11 A) (hW : Has (tileAt d i) R arg12 W) (hC : Has (tileAt d i) R arg13 C) (hS : Has (tileAt d i) R arg14 S)
    (hbase : ∀ x, (v29 x).toNat + 32 ≤ 4096) (hcounts : ∀ k, (rd C k : BitVec 32).toNat ≤ 28) (hslots : ∀ k, (rd S k : BitVec 32).toNat ≤ 1280)
    (hcell : ∀ x, (cellOf (k0_pay1218 v60 v78 v90 v91) v85 (k0_pay1215 v60 v91) (k0_pay1217 v78) x).toNat < 512) :
    Does (tileAt d i) R arg19 (k0_part99 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 v10 v12 v14 v18 v22 v24 v29 v60 v78 v85 v90 v91) f
      fun x g => g = visit A W C S v10 v12 v14 v18 v22 v24 v29 (k0_pay1218 v60 v78 v90 v91) v85 (k0_pay1215 v60 v91) (k0_pay1217 v78) f ∧ x = ⟨k0_pay1215 v60 v91, k0_pay1216 v60 v90 v91, k0_pay1234 v78⟩ := by
  rw [k0_part99_eq_skeleton]
  unfold k0_part99_skel
  refine Does.assume (inb_one hcell) ?_
  refine Does.gath hC ?_
  have hcnt : ∀ x, (cntOf C (k0_pay1218 v60 v78 v90 v91) v85 (k0_pay1215 v60 v91) (k0_pay1217 v78) x : BitVec 32).toNat ≤ 28 := cntOf_le hcounts
  have hmx : (topLane (cntOf C (k0_pay1218 v60 v78 v90 v91) v85 (k0_pay1215 v60 v91) (k0_pay1217 v78))).toNat ≤ 28 := topLane_le hcnt
  refine Does.assume (loops_ok _ hmx) ?_
  refine (slots_does i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 d v10 v12 v14 v18 v22 v24 v29 _ (cntOf C (k0_pay1218 v60 v78 v90 v91) v85 (k0_pay1215 v60 v91) (k0_pay1217 v78)) f hA hW hS hbase hslots hcell hcnt _ _ (fun t => rfl)).bind ?_
  rintro _ g hg
  refine Does.bind' (Does.for0 (trips_t4 _ hmx) ?_)
  exact Does.pure ⟨hg, rfl⟩

set_option maxRecDepth 65536 in
theorem part100_does (v10 v12 v14 : FVec F S16 .f32) (v18 v22 v24 v29 : IVec S16 32) (v60 : IVec S16 32) (v65 : IVec S16 32) (v83 : IVec S16 32) (v85 : IVec S16 32) (v90 : IVec S16 1) (v92 : IVec S16 32) (v98 : IVec S16 1) (v130 : IVec S16 32) (f : Vec F S4096 .f32)
    (hA : Has (tileAt d i) R arg11 A) (hW : Has (tileAt d i) R arg12 W) (hC : Has (tileAt d i) R arg13 C) (hS : Has (tileAt d i) R arg14 S)
    (hbase : ∀ x, (v29 x).toNat + 32 ≤ 4096) (hcounts : ∀ k, (rd C k : BitVec 32).toNat ≤ 28) (hslots : ∀ k, (rd S k : BitVec 32).toNat ≤ 1280)
    (hcell : ∀ x, (cellOf (k0_pay1235 v83 v98 v130) v85 v92 v130 x).toNat < 512) :
    Does (tileAt d i) R arg19 (k0_part100 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 v10 v12 v14 v18 v22 v24 v29 v60 v65 v83 v85 v90 v92 v98 v130) f
      fun x g => g = visit A W C S v10 v12 v14 v18 v22 v24 v29 (k0_pay1235 v83 v98 v130) v85 v92 v130 f ∧ x = ⟨k0_pay1251 v60, k0_pay1252 v60 v65 v90⟩ := by
  rw [k0_part100_eq_skeleton]
  unfold k0_part100_skel
  refine Does.assume (inb_one hcell) ?_
  refine Does.gath hC ?_
  have hcnt : ∀ x, (cntOf C (k0_pay1235 v83 v98 v130) v85 v92 v130 x : BitVec 32).toNat ≤ 28 := cntOf_le hcounts
  have hmx : (topLane (cntOf C (k0_pay1235 v83 v98 v130) v85 v92 v130)).toNat ≤ 28 := topLane_le hcnt
  refine Does.assume (loops_ok _ hmx) ?_
  refine (slots_does i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 d v10 v12 v14 v18 v22 v24 v29 _ (cntOf C (k0_pay1235 v83 v98 v130) v85 v92 v130) f hA hW hS hbase hslots hcell hcnt _ _ (fun t => rfl)).bind ?_
  rintro _ g hg
  refine Does.bind' (Does.for0 (trips_t4 _ hmx) ?_)
  exact Does.pure ⟨hg, rfl⟩

set_option maxRecDepth 65536 in
theorem part101_does (v10 v12 v14 : FVec F S16 .f32) (v18 v22 v24 v29 : IVec S16 32) (v78 : IVec S16 32) (v83 : IVec S16 32) (v85 : IVec S16 32) (v162 : IVec S16 32) (v170 : IVec S16 1) (f : Vec F S4096 .f32)
    (hA : Has (tileAt d i) R arg11 A) (hW : Has (tileAt d i) R arg12 W) (hC : Has (tileAt d i) R arg13 C) (hS : Has (tileAt d i) R arg14 S)
    (hbase : ∀ x, (v29 x).toNat + 32 ≤ 4096) (hcounts : ∀ k, (rd C k : BitVec 32).toNat ≤ 28) (hslots : ∀ k, (rd S k : BitVec 32).toNat ≤ 1280)
    (hcell : ∀ x, (cellOf (k0_pay1254 v78 v170) v85 v162 (k0_pay1253 v78) x).toNat < 512) :
    Does (tileAt d i) R arg19 (k0_part101 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 v10 v12 v14 v18 v22 v24 v29 v78 v83 v85 v162 v170) f
      fun x g => g = visit A W C S v10 v12 v14 v18 v22 v24 v29 (k0_pay1254 v78 v170) v85 v162 (k0_pay1253 v78) f ∧ x = ⟨k0_pay1270 v78, k0_pay1271 v78 v170, k0_pay1272 v78 v83⟩ := by
  rw [k0_part101_eq_skeleton]
  unfold k0_part101_skel
  refine Does.assume (inb_one hcell) ?_
  refine Does.gath hC ?_
  have hcnt : ∀ x, (cntOf C (k0_pay1254 v78 v170) v85 v162 (k0_pay1253 v78) x : BitVec 32).toNat ≤ 28 := cntOf_le hcounts
  have hmx : (topLane (cntOf C (k0_pay1254 v78 v170) v85 v162 (k0_pay1253 v78))).toNat ≤ 28 := topLane_le hcnt
  refine Does.assume (loops_ok _ hmx) ?_
  refine (slots_does i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 d v10 v12 v14 v18 v22 v24 v29 _ (cntOf C (k0_pay1254 v78 v170) v85 v162 (k0_pay1253 v78)) f hA hW hS hbase hslots hcell hcnt _ _ (fun t => rfl)).bind ?_
  rintro _ g hg
  refine Does.bind' (Does.for0 (trips_t4 _ hmx) ?_)
  exact Does.pure ⟨hg, rfl⟩

set_option maxRecDepth 65536 in
theorem part102_does (v10 v12 v14 : FVec F S16 .f32) (v18 v22 v24 v29 : IVec S16 32) (v42 : IVec S16 32) (v47 : IVec S16 32) (v60 : IVec S16 32) (v85 : IVec S16 32) (v162 : IVec S16 32) (v202 : IVec S16 32) (v208 : IVec S16 1) (v209 : IVec S16 1) (f : Vec F S4096 .f32)
    (hA : Has (tileAt d i) R arg11 A) (hW : Has (tileAt d i) R arg12 W) (hC : Has (tileAt d i) R arg13 C) (hS : Has (tileAt d i) R arg14 S)
    (hbase : ∀ x, (v29 x).toNat + 32 ≤ 4096) (hcounts : ∀ k, (rd C k : BitVec 32).toNat ≤ 28) (hslots : ∀ k, (rd S k : BitVec 32).toNat ≤ 1280)
    (hcell : ∀ x, (cellOf (k0_pay1273 v208 v209) v85 v162 v202 x).toNat < 512) :
    Does (tileAt d i) R arg19 (k0_part102 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 v10 v12 v14 v18 v22 v24 v29 v42 v47 v60 v85 v162 v202 v208 v209) f
      fun x g => g = visit A W C S v10 v12 v14 v18 v22 v24 v29 (k0_pay1273 v208 v209) v85 v162 v202 f ∧ x = ⟨k0_pay1289 v42, k0_pay1290 v42 v47, k0_pay1291 v60, k0_pay1292 v42 v47 v60, k0_pay1293 v60⟩ := by
  rw [k0_part102_eq_skeleton]
  unfold k0_part102_skel
  refine Does.assume (inb_one hcell) ?_
  refine Does.gath hC ?_
  have hcnt : ∀ x, (cntOf C (k0_pay1273 v208 v209) v85 v162 v202 x : BitVec 32).toNat ≤ 28 := cntOf_le hcounts
  have hmx : (topLane (cntOf C (k0_pay1273 v208 v209) v85 v162 v202)).toNat ≤ 28 := topLane_le hcnt
  refine Does.assume (loops_ok _ hmx) ?_
  refine (slots_does i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 d v10 v12 v14 v18 v22 v24 v29 _ (cntOf C (k0_pay1273 v208 v209) v85 v162 v202) f hA hW hS hbase hslots hcell hcnt _ _ (fun t => rfl)).bind ?_
  rintro _ g hg
  refine Does.bind' (Does.for0 (trips_t4 _ hmx) ?_)
  exact Does.pure ⟨hg, rfl⟩

set_option maxRecDepth 65536 in
theorem part103_does (v10 v12 v14 : FVec F S16 .f32) (v18 v22 v24 v29 : IVec S16 32) (v78 : IVec S16 32) (v234 : IVec S16 32) (v243 : IVec S16 32) (v246 : IVec S16 1) (v248 : IVec S16 1) (f : Vec F S4096 .f32)
    (hA : Has (tileAt d i) R arg11 A) (hW : Has (tileAt d i) R arg12 W) (hC : Has (tileAt d i) R arg13 C) (hS : Has (tileAt d i) R arg14 S)
    (hbase : ∀ x, (v29 x).toNat + 32 ≤ 4096) (hcounts : ∀ k, (rd C k : BitVec 32).toNat ≤ 28) (hslots : ∀ k, (rd S k : BitVec 32).toNat ≤ 1280)
    (hcell : ∀ x, (cellOf (k0_pay1296 v78 v246 v248) v234 v243 (k0_pay1295 v78) x).toNat < 512) :
    Does (tileAt d i) R arg19 (k0_part103 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 v10 v12 v14 v18 v22 v24 v29 v78 v234 v243 v246 v248) f
      fun x g => g = visit A W C S v10 v12 v14 v18 v22 v24 v29 (k0_pay1296 v78 v246 v248) v234 v243 (k0_pay1295 v78) f ∧ x = ⟨k0_pay1312 v78, k0_pay1313 v78 v246 v248⟩ := by
  rw [k0_part103_eq_skeleton]
  unfold k0_part103_skel
  refine Does.assume (inb_one hcell) ?_
  refine Does.gath hC ?_
  have hcnt : ∀ x, (cntOf C (k0_pay1296 v78 v246 v248) v234 v243 (k0_pay1295 v78) x : BitVec 32).toNat ≤ 28 := cntOf_le hcounts
  have hmx : (topLane (cntOf C (k0_pay1296 v78 v246 v248) v234 v243 (k0_pay1295 v78))).toNat ≤ 28 := topLane_le hcnt
  refine Does.assume (loops_ok _ hmx) ?_
  refine (slots_does i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 d v10 v12 v14 v18 v22 v24 v29 _ (cntOf C (k0_pay1296 v78 v246 v248) v234 v243 (k0_pay1295 v78)) f hA hW hS hbase hslots hcell hcnt _ _ (fun t => rfl)).bind ?_
  rintro _ g hg
  refine Does.bind' (Does.for0 (trips_t4 _ hmx) ?_)
  exact Does.pure ⟨hg, rfl⟩

set_option maxRecDepth 65536 in
theorem part104_does (v10 v12 v14 : FVec F S16 .f32) (v18 v22 v24 v29 : IVec S16 32) (v60 : IVec S16 32) (v65 : IVec S16 32) (v78 : IVec S16 32) (v83 : IVec S16 32) (v234 : IVec S16 32) (v241 : IVec S16 1) (v243 : IVec S16 32) (v281 : IVec S16 32) (v287 : IVec S16 1) (f : Vec F S4096 .f32)
    (hA : Has (tileAt d i) R arg11 A) (hW : Has (tileAt d i) R arg12 W) (hC : Has (tileAt d i) R arg13 C) (hS : Has (tileAt d i) R arg14 S)
    (hbase : ∀ x, (v29 x).toNat + 32 ≤ 4096) (hcounts : ∀ k, (rd C k : BitVec 32).toNat ≤ 28) (hslots : ∀ k, (rd S k : BitVec 32).toNat ≤ 1280)
    (hcell : ∀ x, (cellOf (k0_pay1314 v83 v281 v287) v234 v243 v281 x).toNat < 512) :
    Does (tileAt d i) R arg19 (k0_part104 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 v10 v12 v14 v18 v22 v24 v29 v60 v65 v78 v83 v234 v241 v243 v281 v287) f
      fun x g => g = visit A W C S v10 v12 v14 v18 v22 v24 v29 (k0_pay1314 v83 v281 v287) v234 v243 v281 f ∧ x = ⟨k0_pay1330 v60, k0_pay1331 v60 v65 v241, k0_pay1332 v78, k0_pay1333 v60 v65 v78 v241, 7#32⟩ := by
  rw [k0_part104_eq_skeleton]
  unfold k0_part104_skel
  refine Does.assume (inb_one hcell) ?_
  refine Does.gath hC ?_
  have hcnt : ∀ x, (cntOf C (k0_pay1314 v83 v281 v287) v234 v243 v281 x : BitVec 32).toNat ≤ 28 := cntOf_le hcounts
  have hmx : (topLane (cntOf C (k0_pay1314 v83 v281 v287) v234 v243 v281)).toNat ≤ 28 := topLane_le hcnt
  refine Does.assume (loops_ok _ hmx) ?_
  refine (slots_does i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 d v10 v12 v14 v18 v22 v24 v29 _ (cntOf C (k0_pay1314 v83 v281 v287) v234 v243 v281) f hA hW hS hbase hslots hcell hcnt _ _ (fun t => rfl)).bind ?_
  rintro _ g hg
  refine Does.bind' (Does.for0 (trips_t4 _ hmx) ?_)
  exact Does.pure ⟨hg, rfl⟩

set_option maxRecDepth 65536 in
theorem part105_does (v10 v12 v14 : FVec F S16 .f32) (v18 v22 v24 v29 : IVec S16 32) (v78 : IVec S16 32) (v83 : IVec S16 32) (v234 : IVec S16 32) (v313 : IVec S16 32) (v321 : IVec S16 1) (v323 : IVec S16 32) (v326 : IVec S16 1) (c7 : BitVec 32) (f : Vec F S4096 .f32)
    (hA : Has (tileAt d i) R arg11 A) (hW : Has (tileAt d i) R arg12 W) (hC : Has (tileAt d i) R arg13 C) (hS : Has (tileAt d i) R arg14 S)
    (hbase : ∀ x, (v29 x).toNat + 32 ≤ 4096) (hcounts : ∀ k, (rd C k : BitVec 32).toNat ≤ 28) (hslots : ∀ k, (rd S k : BitVec 32).toNat ≤ 1280)
    (hcell : ∀ x, (cellOf (k0_pay1334 v323 v326 c7) v234 v313 v323 x).toNat < 512) :
    Does (tileAt d i) R arg19 (k0_part105 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 v10 v12 v14 v18 v22 v24 v29 v78 v83 v234 v313 v321 v323 v326 c7) f
      fun x g => g = visit A W C S v10 v12 v14 v18 v22 v24 v29 (k0_pay1334 v323 v326 c7) v234 v313 v323 f ∧ x = ⟨k0_pay1350 v78, k0_pay1351 v78 v83 v321, k0_pay1352 v234 v313⟩ := by
  rw [k0_part105_eq_skeleton]
  unfold k0_part105_skel
  refine Does.assume (inb_one hcell) ?_
  refine Does.gath hC ?_
  have hcnt : ∀ x, (cntOf C (k0_pay1334 v323 v326 c7) v234 v313 v323 x : BitVec 32).toNat ≤ 28 := cntOf_le hcounts
  have hmx : (topLane (cntOf C (k0_pay1334 v323 v326 c7) v234 v313 v323)).toNat ≤ 28 := topLane_le hcnt
  refine Does.assume (loops_ok _ hmx) ?_
  refine (slots_does i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 d v10 v12 v14 v18 v22 v24 v29 _ (cntOf C (k0_pay1334 v323 v326 c7) v234 v313 v323) f hA hW hS hbase hslots hcell hcnt _ _ (fun t => rfl)).bind ?_
  rintro _ g hg
  refine Does.bind' (Does.for0 (trips_t4 _ hmx) ?_)
  exact Does.pure ⟨hg, rfl⟩

end Visit

end Cert.Proof

end
-- ==== Proof.Lanes.lean ====
/-
  A tile's two loops: clearing the output, then the groups of 16 points, each looking at the eight cells around it.
-/
module

public import proofs.«01_k».proof.Proof.Visit

@[expose] public section

noncomputable section

namespace Cert.Proof

open Cert.KernelIdeal Cert.KernelIdeal.Gen
open Idealize.ShloMosaic
open Idealize.SL Idealize.SL.RA Idealize.SL.Sem
open Idealize.SL.BI (sProp)

variable {F : FTy → Type} [FloatOps F]

/-! ## The cells of a window are cells -/

theorem ofBool_one {b : Bool} : BitVec.ofBool b = 1#1 ↔ b = true := by revert b; decide

theorem range_lt {k : IVec S16 1} {c : IVec S16 32} {x : S16.Idx}
    (h : andi (andi k (cmpi .sge c (broadcast S16 0#32))) (cmpi .sle c (broadcast S16 7#32)) x = 1#1) : k x = 1#1 ∧ (c x).toNat < 8 := by
  have h' : (k x &&& IntOp.cmpi .sge (c x) 0#32) &&& IntOp.cmpi .sle (c x) 7#32 = 1#1 := h
  have h3 : k x = 1#1 ∧ IntOp.cmpi .sge (c x) 0#32 = 1#1 ∧ IntOp.cmpi .sle (c x) 7#32 = 1#1 := by
    revert h'
    generalize k x = a
    generalize IntOp.cmpi .sge (c x) 0#32 = b
    generalize IntOp.cmpi .sle (c x) 7#32 = e
    revert a b e; decide
  refine ⟨h3.1, ?_⟩
  have h1 := h3.2.1
  have h2 := h3.2.2
  generalize c x = w at h1 h2 ⊢
  have g1 : (0#32 : BitVec 32).toInt ≤ w.toInt := by
    simpa only [IntOp.cmpi, BitVec.sle_eq_decide, ofBool_one, decide_eq_true_eq] using h1
  have g2 : w.toInt ≤ (7#32 : BitVec 32).toInt := by
    simpa only [IntOp.cmpi, BitVec.sle_eq_decide, ofBool_one, decide_eq_true_eq] using h2
  have e0 : (0#32 : BitVec 32).toInt = 0 := rfl
  have e7 : (7#32 : BitVec 32).toInt = 7 := rfl
  rw [e0, BitVec.toInt_eq_toNat_cond] at g1
  rw [e7, BitVec.toInt_eq_toNat_cond] at g2
  split at g1 <;> omega

theorem ands {a b : BitVec 1} (h : a &&& b = 1#1) : a = 1#1 ∧ b = 1#1 := by revert a b; decide

theorem first_ok {b : Bool} {c h : IVec S16 32} {x : S16.Idx} (hx : first b c h x = 1#1) : (nxt b c x).toNat < 8 := by
  have e : ∀ d : IVec S16 32, andi (cmpi .sge d (broadcast S16 0#32)) (cmpi .sle d (broadcast S16 7#32)) x = 1#1 → (d x).toNat < 8 := by
    intro d hd
    refine (range_lt (k := fun _ => 1#1) ?_).2
    obtain ⟨h1, h2⟩ := ands (show IntOp.cmpi .sge (d x) 0#32 &&& IntOp.cmpi .sle (d x) 7#32 = 1#1 from hd)
    show (1#1 &&& IntOp.cmpi .sge (d x) 0#32) &&& IntOp.cmpi .sle (d x) 7#32 = 1#1
    rw [h1, h2]; decide
  cases b
  · exact e _ hx
  · exact e _ (ands hx).1

theorem more_ok {ok : IVec S16 1} {b : Bool} {c h : IVec S16 32} {x : S16.Idx} (hx : more ok b c h x = 1#1) :
    ok x = 1#1 ∧ (nxt b c x).toNat < 8 := by
  cases b
  · exact range_lt hx
  · exact range_lt (ands hx).1

theorem cellOf_toNat {ok : IVec S16 1} {cx cy cz : IVec S16 32} {x : S16.Idx} (h : ok x = 1#1) (hx : (cx x).toNat < 8)
    (hy : (cy x).toNat < 8) (hz : (cz x).toNat < 8) :
    (cellOf ok cx cy cz x).toNat = ((cx x).toNat * 8 + (cy x).toNat) * 8 + (cz x).toNat := by
  show (if ok x = 1#1 then (cx x * 8#32 + cy x) * 8#32 + cz x else 0#32).toNat = _
  rw [if_pos h]
  have e8 : (8#32 : BitVec 32).toNat = 8 := rfl
  rw [BitVec.toNat_add, BitVec.toNat_mul, BitVec.toNat_add, BitVec.toNat_mul, e8, Nat.mod_eq_of_lt (a := (cx x).toNat * 8) (by omega),
    Nat.mod_eq_of_lt (a := (cx x).toNat * 8 + (cy x).toNat) (by omega), Nat.mod_eq_of_lt (a := ((cx x).toNat * 8 + (cy x).toNat) * 8) (by omega),
    Nat.mod_eq_of_lt (by omega)]

theorem okOf_ok {px py pz : FVec F S16 .f32} {bx by' bz : Bool} {x : S16.Idx} (h : okOf px py pz bx by' bz x = 1#1) :
    (nxt bx (lo px) x).toNat < 8 ∧ (nxt by' (lo py) x).toNat < 8 ∧ (nxt bz (lo pz) x).toNat < 8 :=
  ⟨first_ok (more_ok (more_ok h).1).1, (more_ok (more_ok h).1).2, (more_ok h).2⟩

theorem cell_lt (px py pz : FVec F S16 .f32) (bx by' bz : Bool) (x : S16.Idx) :
    (cellOf (okOf px py pz bx by' bz) (nxt bx (lo px)) (nxt by' (lo py)) (nxt bz (lo pz)) x).toNat < 512 := by
  by_cases h : okOf px py pz bx by' bz x = 1#1
  · obtain ⟨h1, h2, h3⟩ := okOf_ok h
    rw [cellOf_toNat h h1 h2 h3]; omega
  · show (if okOf px py pz bx by' bz x = 1#1 then _ else 0#32 : BitVec 32).toNat < 512
    rw [if_neg h]; decide

/-! ## Lanes -/

theorem lanes_eq {e : EltTy} (X : Vec F S128 e) (t : Fin k0_t2_loop.trips) :
    (fun x => X ((Rect.unit (s := S128) (k0_off3 t) S16.size (k0_off3_inb t)).emb x)) = lanes X t.val := by
  funext x
  refine congrArg X (funext fun a => Fin.ext ?_)
  have ha : a = 0 := Fin.eq_zero a
  subst ha
  have h16 : (x 0).val < 16 := (x 0).isLt
  have h8 : t.val < 8 := Nat.lt_of_lt_of_le t.isLt k0_t2_abs.2.1
  have hoff : ∀ t : Fin k0_t2_loop.trips, k0_off3 t 0 = 16 * t.val := by decide +kernel
  show (((Rect.unit (s := S128) (k0_off3 t) S16.size (k0_off3_inb t)).emb x 0 : Fin _) : ℕ) = (16 * t.val + (x 0).val) % 128
  rw [Rect.emb_apply, Rect.off_unit, Rect.stride_unit, hoff, Nat.mod_eq_of_lt (by omega)]; omega

theorem baseOf_eq (t : Fin k0_t2_loop.trips) : k0_pay1204 (iota .scVector S16 32 [0] iota_S16_d0_w32_scVector) 0#32 1#32 t = baseOf t.val := by
  funext x
  obtain ⟨k, rfl⟩ := ln_surj x
  revert t k; decide +kernel

theorem baseOf_le (t : ℕ) (ht : t < 8) (x : S16.Idx) : (baseOf t x).toNat = (16 * t + (x 0).val) * 32 := by
  have h16 : (x 0).val < 16 := (x 0).isLt
  show (BitVec.ofNat 32 _).toNat = _
  rw [BitVec.toNat_ofNat, Nat.mod_eq_of_lt (by omega)]

theorem foldl_range_succ {α : Type} (h : α → ℕ → α) (a : α) (n : ℕ) :
    (List.range (n + 1)).foldl h a = h ((List.range n).foldl h a) n := by
  rw [List.range_succ, List.foldl_append]; rfl

section Loops

variable (i : grid0.Coords) (arg2 : Memref sig .scVector .hbm S43520 .f32) (harg2 : arg2.IsWhole) (arg3 : Memref sig .scVector .hbm S1280 .i32) (harg3 : arg3.IsWhole) (arg4 : Memref sig .scVector .hbm S512 .i32) (harg4 : arg4.IsWhole) (arg5 : Memref sig .scVector .hbm S14336 .i32) (harg5 : arg5.IsWhole) (arg6 : Memref sig .scVector .hbm S4096 .f32) (harg6 : arg6.IsWhole) (arg7 : Memref sig .scVector .hbm S4096 .f32) (harg7 : arg7.IsWhole) (arg8 : Memref sig .scVector .hbm S4096 .f32) (harg8 : arg8.IsWhole) (arg9 : Memref sig .scVector .hbm S4096 .i32) (harg9 : arg9.IsWhole) (arg10 : Memref sig .scVector .hbm S131072 .f32) (harg10 : arg10.IsWhole) (arg11 : Memref sig .scVector .vmem S43520 .f32) (harg11 : arg11.IsWhole) (arg12 : Memref sig .scVector .vmem S1280 .i32) (harg12 : arg12.IsWhole) (arg13 : Memref sig .scVector .vmem S512 .i32) (harg13 : arg13.IsWhole) (arg14 : Memref sig .scVector .vmem S14336 .i32) (harg14 : arg14.IsWhole) (arg15 : Memref sig .scVector .vmem S128 .f32) (harg15 : arg15.IsWhole) (arg16 : Memref sig .scVector .vmem S128 .f32) (harg16 : arg16.IsWhole) (arg17 : Memref sig .scVector .vmem S128 .f32) (harg17 : arg17.IsWhole) (arg18 : Memref sig .scVector .vmem S128 .i32) (harg18 : arg18.IsWhole) (arg19 : Memref sig .scVector .vmem S4096 .f32) (harg19 : arg19.IsWhole) (v8_r0 : DmaSems sig S_) (v8_r1 : DmaSems sig S_) (v8_r2 : DmaSems sig S_) (v8_r3 : DmaSems sig S_) (v8_r4 : DmaSems sig S_) (v8_r5 : DmaSems sig S_) (v8_r6 : DmaSems sig S_) (v8_r7 : DmaSems sig S_) (v8_r8 : DmaSems sig S_)

variable {Ix : Type} [DecidableEq Ix] {Name : Type} [DecidableEq Name] {U : Type} [URA U] {Lvl : Type} [Preorder Lvl]
variable (d : Dev nD) {R : sProp (MT nD τ sig Ix (Elt F) Name U Lvl)}
variable {A : Vec F S43520 .f32} {W : Vec F S1280 .i32} {C : Vec F S512 .i32} {S : Vec F S14336 .i32}
variable {X Y Z : Vec F S128 .f32} {P : Vec F S128 .i32}

set_option maxRecDepth 65536 in
theorem group_does (t : Fin k0_t2_loop.trips) (f : Vec F S4096 .f32)
    (hA : Has (tileAt d i) R arg11 A) (hW : Has (tileAt d i) R arg12 W) (hC : Has (tileAt d i) R arg13 C) (hS : Has (tileAt d i) R arg14 S)
    (hX : Has (tileAt d i) R arg15 X) (hY : Has (tileAt d i) R arg16 Y) (hZ : Has (tileAt d i) R arg17 Z) (hP : Has (tileAt d i) R arg18 P)
    (hcounts : ∀ k, (rd C k : BitVec 32).toNat ≤ 28) (hslots : ∀ k, (rd S k : BitVec 32).toNat ≤ 1280) :
    Does (tileAt d i) R arg19 (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 (iota .scVector S16 32 [0] iota_S16_d0_w32_scVector) t ⟨⟩) f
      fun _ g => g = group A W C S X Y Z P t.val f := by
  have hbase : ∀ x, (baseOf t.val x).toNat + 32 ≤ 4096 := fun x => by
    have h8 : t.val < 8 := Nat.lt_of_lt_of_le t.isLt k0_t2_abs.2.1
    have h16 : (x 0).val < 16 := (x 0).isLt
    rw [baseOf_le _ h8]; omega
  unfold k0_t2_body
  rw [k0_part97_eq_skeleton]
  unfold k0_part97_skel
  refine Does.bind (Mid := fun x g => g = f ∧ x = ⟨lanes X t.val, lanes Y t.val, lanes Z t.val, k0_pay1201 (lanes P t.val), k0_pay1202 (lanes P t.val),
    k0_pay1203 (lanes P t.val), baseOf t.val, k0_pay1205 (lanes X t.val), k0_pay1206 (lanes X t.val), k0_pay1207 (lanes Y t.val), Scalar.ofBits .f32 0x41000000#32⟩) ?_ ?_
  · refine Does.load hX ?_
    refine Does.load hY ?_
    refine Does.load hZ ?_
    refine Does.load hP ?_
    rw [lanes_eq X t, lanes_eq Y t, lanes_eq Z t, lanes_eq P t, baseOf_eq]
    exact Does.pure ⟨rfl, rfl⟩
  rintro _ f ⟨rfl, rfl⟩
  unfold group around
  generalize lanes X t.val = px
  generalize lanes Y t.val = py
  generalize lanes Z t.val = pz
  generalize lanes P t.val = pp
  generalize baseOf t.val = base at hbase ⊢
  have hc := cell_lt px py pz
  refine Does.bind (Mid := fun x g => g = f ∧ x = ⟨lo py, hi py, lo pz, hi pz, nxt false (lo px), first false (lo px) (hi px), broadcast S16 0#32⟩)
    (Does.pure ⟨rfl, rfl⟩) ?_
  rintro _ f ⟨rfl, rfl⟩
  refine Does.bind (part99_does i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 d px py pz _ _ _ base _ _ _ _ _ _ hA hW hC hS hbase hcounts hslots (hc false false false)) ?_
  rintro _ g0 ⟨hg0, rfl⟩
  replace hg0 : g0 = visitAt A W C S px py pz (k0_pay1201 pp) (k0_pay1202 pp) (k0_pay1203 pp) base false false false f := hg0
  refine Does.bind (part100_does i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 d px py pz _ _ _ base _ _ _ _ _ _ _ _ _ hA hW hC hS hbase hcounts hslots (hc false false true)) ?_
  rintro _ g1 ⟨hg1, rfl⟩
  replace hg1 : g1 = visitAt A W C S px py pz (k0_pay1201 pp) (k0_pay1202 pp) (k0_pay1203 pp) base false false true g0 := hg1
  refine Does.bind (part101_does i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 d px py pz _ _ _ base _ _ _ _ _ _ hA hW hC hS hbase hcounts hslots (hc false true false)) ?_
  rintro _ g2 ⟨hg2, rfl⟩
  replace hg2 : g2 = visitAt A W C S px py pz (k0_pay1201 pp) (k0_pay1202 pp) (k0_pay1203 pp) base false true false g1 := hg2
  refine Does.bind (part102_does i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 d px py pz _ _ _ base _ _ _ _ _ _ _ _ _ hA hW hC hS hbase hcounts hslots (hc false true true)) ?_
  rintro _ g3 ⟨hg3, rfl⟩
  replace hg3 : g3 = visitAt A W C S px py pz (k0_pay1201 pp) (k0_pay1202 pp) (k0_pay1203 pp) base false true true g2 := hg3
  refine Does.bind (part103_does i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 d px py pz _ _ _ base _ _ _ _ _ _ hA hW hC hS hbase hcounts hslots (hc true false false)) ?_
  rintro _ g4 ⟨hg4, rfl⟩
  replace hg4 : g4 = visitAt A W C S px py pz (k0_pay1201 pp) (k0_pay1202 pp) (k0_pay1203 pp) base true false false g3 := hg4
  refine Does.bind (part104_does i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 d px py pz _ _ _ base _ _ _ _ _ _ _ _ _ _ hA hW hC hS hbase hcounts hslots (hc true false true)) ?_
  rintro _ g5 ⟨hg5, rfl⟩
  replace hg5 : g5 = visitAt A W C S px py pz (k0_pay1201 pp) (k0_pay1202 pp) (k0_pay1203 pp) base true false true g4 := hg5
  refine Does.bind (part105_does i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 d px py pz _ _ _ base _ _ _ _ _ _ _ _ _ hA hW hC hS hbase hcounts hslots (hc true true false)) ?_
  rintro _ g6 ⟨hg6, rfl⟩
  replace hg6 : g6 = visitAt A W C S px py pz (k0_pay1201 pp) (k0_pay1202 pp) (k0_pay1203 pp) base true true false g5 := hg6
  refine Does.assume (inb_one (hc true true true)) ?_
  refine Does.gath hC ?_
  have hcnt : ∀ x, (cntOf C (okOf px py pz true true true) (nxt true (lo px)) (nxt true (lo py)) (nxt true (lo pz)) x : BitVec 32).toNat ≤ 28 := cntOf_le hcounts
  have hmx : (topLane (cntOf C (okOf px py pz true true true) (nxt true (lo px)) (nxt true (lo py)) (nxt true (lo pz)))).toNat ≤ 28 := topLane_le hcnt
  refine Does.assume (loops_ok _ hmx) ?_
  refine (slots_does i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 d px py pz _ _ _ base _ (cntOf C (okOf px py pz true true true) (nxt true (lo px)) (nxt true (lo py)) (nxt true (lo pz))) _ hA hW hS hbase hslots (hc true true true) hcnt _ _ (fun t => rfl)).bind ?_
  rintro _ g7 hg7
  replace hg7 : g7 = visitAt A W C S px py pz (k0_pay1201 pp) (k0_pay1202 pp) (k0_pay1203 pp) base true true true g6 := hg7
  refine Does.bind' (Does.for0 (trips_t4 _ hmx) ?_)
  refine Does.pure ?_
  rw [hg7, hg6, hg5, hg4, hg3, hg2, hg1, hg0]
  rfl

theorem clear_does (f : Vec F S4096 .f32) :
    Does (tileAt d i) R arg19 (Scf.Loop.for k0_t1_loop k0_t1_ok ⟨⟩ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8)) f
      fun _ g => g = fun _ => Scalar.ofBits .f32 0x00000000#32 := by
  have htr : k0_t1_loop.trips = 256 := by decide
  have hoff : ∀ t : Fin k0_t1_loop.trips, k0_off2 t 0 = 16 * t.val := by decide +kernel
  refine (Does.for (fun n g => ∀ y : S4096.Idx, (y 0).val < 16 * n → g y = Scalar.ofBits .f32 0x00000000#32) (fun y h => absurd h (by omega)) ?_).mono ?_
  · intro k g hg
    unfold k0_t1_body
    refine Does.loadOut ?_
    refine Does.store fun g' h1 h2 => ?_
    refine Does.pure fun y hy => ?_
    have hk := hoff k
    have ev : ∀ x : S16.Idx, (((Rect.unit (s := S4096) (k0_off2 k) S16.size (k0_off2_inb k)).emb x 0 : Fin _) : ℕ) = 16 * k.val + (x 0).val := fun x => by
      rw [Rect.emb_apply, Rect.off_unit, Rect.stride_unit, hk]; omega
    by_cases hlt : (y 0).val < 16 * k.val
    · rw [h2 y fun x hx => ?_]
      · exact hg y hlt
      · have := ev x; rw [hx] at this; omega
    · have hy' : y = (Rect.unit (s := S4096) (k0_off2 k) S16.size (k0_off2_inb k)).emb (ln ⟨(y 0).val - 16 * k.val, by omega⟩) := by
        funext a
        have ha : a = 0 := Fin.eq_zero a
        subst ha
        refine Fin.ext ?_
        rw [ev]
        show (y 0).val = 16 * k.val + ((y 0).val - 16 * k.val)
        omega
      rw [hy', h1]; rfl
  · intro _ g hg
    funext y
    refine hg y ?_
    have h4 : (y 0).val < 4096 := (y 0).isLt
    omega

theorem groups_does (f : Vec F S4096 .f32)
    (hA : Has (tileAt d i) R arg11 A) (hW : Has (tileAt d i) R arg12 W) (hC : Has (tileAt d i) R arg13 C) (hS : Has (tileAt d i) R arg14 S)
    (hX : Has (tileAt d i) R arg15 X) (hY : Has (tileAt d i) R arg16 Y) (hZ : Has (tileAt d i) R arg17 Z) (hP : Has (tileAt d i) R arg18 P)
    (hcounts : ∀ k, (rd C k : BitVec 32).toNat ≤ 28) (hslots : ∀ k, (rd S k : BitVec 32).toNat ≤ 1280) :
    Does (tileAt d i) R arg19 (Scf.Loop.for k0_t2_loop k0_t2_ok ⟨⟩ (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 (iota .scVector S16 32 [0] iota_S16_d0_w32_scVector))) f
      fun _ g => g = (List.range 8).foldl (fun f t => group A W C S X Y Z P t f) f := by
  have htr : k0_t2_loop.trips = 8 := by decide
  refine (Does.for (fun n g => g = (List.range n).foldl (fun f t => group A W C S X Y Z P t f) f) rfl ?_).mono ?_
  · rintro k g rfl
    refine (group_does i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v8_r0 v8_r1 v8_r2 v8_r3 v8_r4 v8_r5 v8_r6 v8_r7 v8_r8 d k _ hA hW hC hS hX hY hZ hP hcounts hslots).mono ?_
    rintro _ g' rfl
    rw [foldl_range_succ]
  · intro _ g hg
    have hg' : g = (List.range k0_t2_loop.trips).foldl (fun f t => group A W C S X Y Z P t f) f := hg
    rw [htr] at hg'
    exact hg'

end Loops

end Cert.Proof

end
-- ==== Proof.Setup.lean ====
/-
  The launch: the one SparseCore call over 2 SparseCores of 16 vector subcores each, what it hands every subcore (its
  share of the eight input arrays, to read, and its 4096 elements of the output) and what comes back.
-/
module

public import proofs.«01_k».proof.Defs
public import proofs.«01_k».proof.Proof.Lanes
public import Idealize.ShloMosaic.Lib.SparseCore.Quiescent
public import Idealize.ShloMosaic.Lib.ShareLeaves
public import Idealize.ShloMosaic.Lib.StableHlo.Run
public import Idealize.ShloMosaic.Lib.Pipeline.Kit
public import Idealize.ShloMosaic.Lib.Tactic

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- What the call reads: the gaussian table, the centre words, the counts, the slots, the points and their grid words. -/
structure Tabs (F : FTy → Type) where
  A : Vec F S43520 .f32
  W : Vec F S1280 .i32
  C : Vec F S512 .i32
  S : Vec F S14336 .i32
  X : Vec F S4096 .f32
  Y : Vec F S4096 .f32
  Z : Vec F S4096 .f32
  P : Vec F S4096 .i32

/-- Points `128 w` to `128 w + 127`. -/
def slab {e : EltTy} (X : Vec F S4096 e) (w : ℕ) : Vec F S128 e := fun x => rd X (128 * w + (x 0).val)

/-- What the call leaves: subcore `w`'s 4096 elements are its tile's output. -/
def callOut [FloatOps F] (t : Tabs F) : Vec F S131072 .f32 := fun y =>
  rd (tileOut t.A t.W t.C t.S (slab t.X ((y 0).val / 4096)) (slab t.Y ((y 0).val / 4096)) (slab t.Z ((y 0).val / 4096)) (slab t.P ((y 0).val / 4096)))
    ((y 0).val % 4096)

/-- What the tables must satisfy for every index the kernel forms to be in range. -/
structure Tabs.Ok (t : Tabs F) : Prop where
  counts : ∀ k, (rd t.C k : BitVec 32).toNat ≤ 28
  slots : ∀ k, (rd t.S k : BitVec 32).toNat ≤ 1280

abbrev aLoc (d : Dev nD) : Loc nD τ sig := (SparseCore.T d).loc main_v35
abbrev wLoc (d : Dev nD) : Loc nD τ sig := (SparseCore.T d).loc main_v36
abbrev cLoc (d : Dev nD) : Loc nD τ sig := (SparseCore.T d).loc main_v37
abbrev sLoc (d : Dev nD) : Loc nD τ sig := (SparseCore.T d).loc main_v38
abbrev xLoc (d : Dev nD) : Loc nD τ sig := (SparseCore.T d).loc main_v11
abbrev yLoc (d : Dev nD) : Loc nD τ sig := (SparseCore.T d).loc main_v16
abbrev zLoc (d : Dev nD) : Loc nD τ sig := (SparseCore.T d).loc main_v21
abbrev pLoc (d : Dev nD) : Loc nD τ sig := (SparseCore.T d).loc main_v34
abbrev oLoc (d : Dev nD) : Loc nD τ sig := (SparseCore.T d).loc main_v39

local notation "aW" => (Memref.whole Cert.KernelIdeal.main_v35_scv : Memref Cert.KernelIdeal.sig Kind.scVector Space.hbm Cert.KernelIdeal.S43520 EltTy.f32)
local notation "wW" => (Memref.whole Cert.KernelIdeal.main_v36_scv : Memref Cert.KernelIdeal.sig Kind.scVector Space.hbm Cert.KernelIdeal.S1280 EltTy.i32)
local notation "cW" => (Memref.whole Cert.KernelIdeal.main_v37_scv : Memref Cert.KernelIdeal.sig Kind.scVector Space.hbm Cert.KernelIdeal.S512 EltTy.i32)
local notation "sW" => (Memref.whole Cert.KernelIdeal.main_v38_scv : Memref Cert.KernelIdeal.sig Kind.scVector Space.hbm Cert.KernelIdeal.S14336 EltTy.i32)
local notation "xW" => (Memref.whole Cert.KernelIdeal.main_v11_scv : Memref Cert.KernelIdeal.sig Kind.scVector Space.hbm Cert.KernelIdeal.S4096 EltTy.f32)
local notation "yW" => (Memref.whole Cert.KernelIdeal.main_v16_scv : Memref Cert.KernelIdeal.sig Kind.scVector Space.hbm Cert.KernelIdeal.S4096 EltTy.f32)
local notation "zW" => (Memref.whole Cert.KernelIdeal.main_v21_scv : Memref Cert.KernelIdeal.sig Kind.scVector Space.hbm Cert.KernelIdeal.S4096 EltTy.f32)
local notation "pW" => (Memref.whole Cert.KernelIdeal.main_v34_scv : Memref Cert.KernelIdeal.sig Kind.scVector Space.hbm Cert.KernelIdeal.S4096 EltTy.i32)
local notation "oW" => (Memref.whole Cert.KernelIdeal.main_v39_scv : Memref Cert.KernelIdeal.sig Kind.scVector Space.hbm Cert.KernelIdeal.S131072 EltTy.f32)

/-! ## What a subcore holds -/

theorem hdiv : 32 ∣ S131072.size 0 := ⟨4096, rfl⟩
abbrev part (w : Fin 32) : Rect S131072 := Rect.part (s := S131072) (a₀ := 0) hdiv w
abbrev partSet (w : Fin 32) : Finset S131072.Idx := ((oW).view.slice (part w)).set

/-- The eight inputs at share `q`, to read. -/
def ins (t : Dev nD → Tabs F) (d : Dev nD) (q : PosShare TreeShare) : sProp 𝕄 :=
  iprop((aLoc d ↦{q} (t d).A) ∗ (wLoc d ↦{q} (t d).W) ∗ (cLoc d ↦{q} (t d).C) ∗ (sLoc d ↦{q} (t d).S)
    ∗ (xLoc d ↦{q} (t d).X) ∗ (yLoc d ↦{q} (t d).Y) ∗ (zLoc d ↦{q} (t d).Z) ∗ (pLoc d ↦{q} (t d).P))

instance ins_storable (t : Dev nD → Tabs F) (d : Dev nD) (q : PosShare TreeShare) : BI.Storable (upEmb : UEmb _ 𝕄) (ins t d q) := by
  unfold ins; infer_instance

def outPart (d : Dev nD) (w : Fin 32) (f : Buf (Elt F) (oLoc d)) : sProp 𝕄 := oLoc d ↦[partSet w]{fullShare} f

instance outPart_storable (d : Dev nD) (w : Fin 32) (f : Buf (Elt F) (oLoc d)) : BI.Storable (upEmb : UEmb _ 𝕄) (outPart d w f) := by
  unfold outPart; infer_instance

/-- Subcore `i` of SparseCore `c` is number `2 i + c`. -/
def wid (c : Fin 2) (i : Fin 16) : Fin 32 := ⟨2 * i.val + c.val, by omega⟩

def goRes (t : Dev nD → Tabs F) (d : Dev nD) (w : Fin 32) : sProp 𝕄 := iprop(ins t d (leaf 5 fullShare w) ∗ ∃ f, outPart d w f)
def tdRes [FloatOps F] (t : Dev nD → Tabs F) (d : Dev nD) (w : Fin 32) : sProp 𝕄 := iprop(ins t d (leaf 5 fullShare w) ∗ outPart d w (callOut (t d)))

instance goRes_storable (t : Dev nD → Tabs F) (d : Dev nD) (w : Fin 32) : BI.Storable (upEmb : UEmb _ 𝕄) (goRes t d w) := by
  unfold goRes; infer_instance
instance tdRes_storable [FloatOps F] (t : Dev nD → Tabs F) (d : Dev nD) (w : Fin 32) : BI.Storable (upEmb : UEmb _ 𝕄) (tdRes t d w) := by
  unfold tdRes; infer_instance

variable [FloatOps F]

theorem nSub_zero : (K (F := F)).nSub 0 = 16 := rfl
theorem nCore_zero : (K (F := F)).nCore 0 = 2 := rfl

def P (t : Dev nD → Tabs F) : (K (F := F)).Pay (nD := nD) (Val := Elt F) (Name := ℕ) (U := UU) where
  st := fun q d c => match q with
    | 0 => bigSep Finset.univ fun i : Fin ((K (F := F)).nSub 0) => goRes t d (wid (Fin.cast nCore_zero c) (Fin.cast nSub_zero i))
  dn := fun q d c => match q with
    | 0 => bigSep Finset.univ fun i : Fin ((K (F := F)).nSub 0) => tdRes t d (wid (Fin.cast nCore_zero c) (Fin.cast nSub_zero i))
  go := fun q d c i => match q with | 0 => goRes t d (wid (Fin.cast nCore_zero c) (Fin.cast nSub_zero i))
  td := fun q d c i => match q with | 0 => tdRes t d (wid (Fin.cast nCore_zero c) (Fin.cast nSub_zero i))
  x := fun _ _ => iprop(emp)

instance P_storable (t : Dev nD → Tabs F) : (P (F := F) t).IsStorable where
  st q d c := match q with
    | 0 => (inferInstance : BI.Storable (upEmb : UEmb _ 𝕄)
        (bigSep Finset.univ fun i : Fin ((K (F := F)).nSub 0) => goRes t d (wid (Fin.cast nCore_zero c) (Fin.cast nSub_zero i))))
  dn q d c := match q with
    | 0 => (inferInstance : BI.Storable (upEmb : UEmb _ 𝕄)
        (bigSep Finset.univ fun i : Fin ((K (F := F)).nSub 0) => tdRes t d (wid (Fin.cast nCore_zero c) (Fin.cast nSub_zero i))))
  go q d c i := match q with
    | 0 => (inferInstance : BI.Storable (upEmb : UEmb _ 𝕄) (goRes t d (wid (Fin.cast nCore_zero c) (Fin.cast nSub_zero i))))
  td q d c i := match q with
    | 0 => (inferInstance : BI.Storable (upEmb : UEmb _ 𝕄) (tdRes t d (wid (Fin.cast nCore_zero c) (Fin.cast nSub_zero i))))

theorem vecSplit (t : Dev nD → Tabs F) : (K (F := F)).VecSplit' (P t) 0 := by
  intro d c
  show (bigSep Finset.univ fun i : Fin ((K (F := F)).nSub 0) => goRes t d (wid (Fin.cast nCore_zero c) (Fin.cast nSub_zero i)))
    ⊢ |={Set.univ}=> iprop((bigSep Finset.univ fun i : Fin ((K (F := F)).nSub 0) => goRes t d (wid (Fin.cast nCore_zero c) (Fin.cast nSub_zero i)))
      ∗ ((bigSep Finset.univ fun i : Fin ((K (F := F)).nSub 0) => tdRes t d (wid (Fin.cast nCore_zero c) (Fin.cast nSub_zero i)))
        -∗ (bigSep Finset.univ fun i : Fin ((K (F := F)).nSub 0) => tdRes t d (wid (Fin.cast nCore_zero c) (Fin.cast nSub_zero i)))))
  iintro H; imodintro
  isplitl [H]; · iexact H
  iintro H; iexact H

/-! ## A subcore's own semaphores and scratch buffers -/

omit [FloatOps F] in
/-- The members of a list taken out of a separating conjunction, one by one. -/
theorem bigSep_peel {I : Type} [DecidableEq I] (Φ : I → sProp 𝕄) : ∀ (l : List I) (_ : l.Nodup) (s : Finset I) (_ : ∀ x ∈ l, x ∈ s),
    bigSep s Φ = l.foldr (fun x acc => iprop(Φ x ∗ acc)) (bigSep (l.foldl Finset.erase s) Φ)
  | [], _, _, _ => rfl
  | x :: l, hl, s, hs => by
    rw [SparseCore.bigSep_erase' (hs x List.mem_cons_self)]
    obtain ⟨hx, hl'⟩ := List.nodup_cons.mp hl
    rw [bigSep_peel Φ l hl' (s.erase x) fun y hy => Finset.mem_erase.mpr ⟨fun e => hx (e ▸ hy), hs y (List.mem_cons_of_mem _ hy)⟩]
    rfl

section Own

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

def semList : List (SemLoc sig) :=
  [.dma cc0_scoped0.sem, .dma cc0_scoped1.sem, .dma cc0_scoped2.sem, .dma cc0_scoped3.sem, .dma cc0_scoped4.sem,
    .dma cc0_scoped5.sem, .dma cc0_scoped6.sem, .dma cc0_scoped7.sem, .dma cc0_scoped8.sem]

def refList : List (Ref sig .scVector) :=
  [cc0_scratch0, cc0_scratch1, cc0_scratch2, cc0_scratch3, cc0_scratch4, cc0_scratch5, cc0_scratch6, cc0_scratch7, cc0_scratch8]

theorem refList_nodup : refList.Nodup := by decide

/-- The semaphores the kernel does not use. -/
def restSems (d : Dev nD) (L : grid0.Coords) : sProp 𝕄 :=
  bigSep ((semList.map fun sm => ((thr d L, sm) : GSem nD τ sig)).foldl Finset.erase (ownCells (thr d L))) fun g => semVal g 0
/-- The buffers the kernel does not use. -/
def restBufs (d : Dev nD) (L : grid0.Coords) : sProp 𝕄 :=
  bigSep ((refList.map fun b => (Proc.scVector (cV L) (jV L)).devRef b).foldl Finset.erase (ownRefs (τ := τ) (.scVector (cV L) (jV L))))
    fun b => iprop(∃ f, ((d, b) : Loc nD τ sig) ↦{fullShare} f)

omit [FloatOps F] in
theorem ownSems0_V : (ownSems0 (thr d L) : sProp 𝕄)
    = iprop(semVal (thr d L, .dma cc0_scoped0.sem) 0 ∗ semVal (thr d L, .dma cc0_scoped1.sem) 0 ∗ semVal (thr d L, .dma cc0_scoped2.sem) 0
        ∗ semVal (thr d L, .dma cc0_scoped3.sem) 0 ∗ semVal (thr d L, .dma cc0_scoped4.sem) 0 ∗ semVal (thr d L, .dma cc0_scoped5.sem) 0
        ∗ semVal (thr d L, .dma cc0_scoped6.sem) 0 ∗ semVal (thr d L, .dma cc0_scoped7.sem) 0 ∗ semVal (thr d L, .dma cc0_scoped8.sem) 0 ∗ restSems d L) := by
  unfold SparseCore.Cfg.ownSems0
  refine (bigSep_peel (fun g => semVal g 0) (semList.map fun sm => ((thr d L, sm) : GSem nD τ sig)) ?_ (ownCells (thr d L)) ?_).trans rfl
  · exact List.Nodup.map (fun _ _ e => (Prod.mk.inj e).2) (by decide)
  · intro x hx
    obtain ⟨sm, hsm, rfl⟩ := List.mem_map.mp hx
    refine (mem_ownCells (g := (thr d L, sm))).mpr ⟨rfl, ?_⟩
    have : ∀ sm ∈ semList, (sm : SemLoc sig).isScoped .scVector = true := by decide
    exact this sm hsm

omit [FloatOps F] in
theorem ownBufs_V : (ownBufs (thr d L) : sProp 𝕄)
    = iprop((∃ f, (thr d L).loc cc0_scratch0 ↦{fullShare} f) ∗ (∃ f, (thr d L).loc cc0_scratch1 ↦{fullShare} f)
        ∗ (∃ f, (thr d L).loc cc0_scratch2 ↦{fullShare} f) ∗ (∃ f, (thr d L).loc cc0_scratch3 ↦{fullShare} f)
        ∗ (∃ f, (thr d L).loc cc0_scratch4 ↦{fullShare} f) ∗ (∃ f, (thr d L).loc cc0_scratch5 ↦{fullShare} f)
        ∗ (∃ f, (thr d L).loc cc0_scratch6 ↦{fullShare} f) ∗ (∃ f, (thr d L).loc cc0_scratch7 ↦{fullShare} f)
        ∗ (∃ f, (thr d L).loc cc0_scratch8 ↦{fullShare} f) ∗ restBufs d L) := by
  unfold SparseCore.Cfg.ownBufs
  have h := bigSep_peel (F := F) (I := DevRef τ sig) (fun b => iprop(∃ f, ((d, b) : Loc nD τ sig) ↦{fullShare} f))
    (refList.map fun b => (Proc.scVector (cV L) (jV L)).devRef b) ?_ (ownRefs (τ := τ) (.scVector (cV L) (jV L))) ?_
  · rw [h]
    show List.foldr _ (restBufs d L) _ = _
    generalize (restBufs d L : sProp 𝕄) = r
    simp only [refList, List.map_cons, List.map_nil, List.foldr_cons, List.foldr_nil]
  · exact List.Nodup.map (Proc.devRef_injective (Proc.scVector (cV L) (jV L))) refList_nodup
  · intro x hx
    obtain ⟨b, hb, rfl⟩ := List.mem_map.mp hx
    refine SparseCore.Cfg.mem_ownRefs_of_owner (p := Proc.scVector (cV L) (jV L)) (b := (Proc.scVector (cV L) (jV L)).devRef b) ?_
    clear hx
    simp only [refList, List.mem_cons, List.not_mem_nil, or_false] at hb
    rcases hb with rfl | rfl | rfl | rfl | rfl | rfl | rfl | rfl | rfl <;> rfl

end Own

end Cert.Proof

end
-- ==== Proof.Tile.lean ====
/-
  A subcore's task: copy the four tables and its 128 points into scratch, run the loops (Lanes.lean), copy the 4096
  results out.
-/
module

public import proofs.«01_k».proof.Proof.Setup

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "aW" => (Memref.whole Cert.KernelIdeal.main_v35_scv : Memref Cert.KernelIdeal.sig Kind.scVector Space.hbm Cert.KernelIdeal.S43520 EltTy.f32)
local notation "wW" => (Memref.whole Cert.KernelIdeal.main_v36_scv : Memref Cert.KernelIdeal.sig Kind.scVector Space.hbm Cert.KernelIdeal.S1280 EltTy.i32)
local notation "cW" => (Memref.whole Cert.KernelIdeal.main_v37_scv : Memref Cert.KernelIdeal.sig Kind.scVector Space.hbm Cert.KernelIdeal.S512 EltTy.i32)
local notation "sW" => (Memref.whole Cert.KernelIdeal.main_v38_scv : Memref Cert.KernelIdeal.sig Kind.scVector Space.hbm Cert.KernelIdeal.S14336 EltTy.i32)
local notation "xW" => (Memref.whole Cert.KernelIdeal.main_v11_scv : Memref Cert.KernelIdeal.sig Kind.scVector Space.hbm Cert.KernelIdeal.S4096 EltTy.f32)
local notation "yW" => (Memref.whole Cert.KernelIdeal.main_v16_scv : Memref Cert.KernelIdeal.sig Kind.scVector Space.hbm Cert.KernelIdeal.S4096 EltTy.f32)
local notation "zW" => (Memref.whole Cert.KernelIdeal.main_v21_scv : Memref Cert.KernelIdeal.sig Kind.scVector Space.hbm Cert.KernelIdeal.S4096 EltTy.f32)
local notation "pW" => (Memref.whole Cert.KernelIdeal.main_v34_scv : Memref Cert.KernelIdeal.sig Kind.scVector Space.hbm Cert.KernelIdeal.S4096 EltTy.i32)
local notation "oW" => (Memref.whole Cert.KernelIdeal.main_v39_scv : Memref Cert.KernelIdeal.sig Kind.scVector Space.hbm Cert.KernelIdeal.S131072 EltTy.f32)
local notation "b0" => (Memref.whole Cert.KernelIdeal.cc0_scratch0 : Memref Cert.KernelIdeal.sig Kind.scVector Space.vmem Cert.KernelIdeal.S43520 EltTy.f32)
local notation "b1" => (Memref.whole Cert.KernelIdeal.cc0_scratch1 : Memref Cert.KernelIdeal.sig Kind.scVector Space.vmem Cert.KernelIdeal.S1280 EltTy.i32)
local notation "b2" => (Memref.whole Cert.KernelIdeal.cc0_scratch2 : Memref Cert.KernelIdeal.sig Kind.scVector Space.vmem Cert.KernelIdeal.S512 EltTy.i32)
local notation "b3" => (Memref.whole Cert.KernelIdeal.cc0_scratch3 : Memref Cert.KernelIdeal.sig Kind.scVector Space.vmem Cert.KernelIdeal.S14336 EltTy.i32)
local notation "b4" => (Memref.whole Cert.KernelIdeal.cc0_scratch4 : Memref Cert.KernelIdeal.sig Kind.scVector Space.vmem Cert.KernelIdeal.S128 EltTy.f32)
local notation "b5" => (Memref.whole Cert.KernelIdeal.cc0_scratch5 : Memref Cert.KernelIdeal.sig Kind.scVector Space.vmem Cert.KernelIdeal.S128 EltTy.f32)
local notation "b6" => (Memref.whole Cert.KernelIdeal.cc0_scratch6 : Memref Cert.KernelIdeal.sig Kind.scVector Space.vmem Cert.KernelIdeal.S128 EltTy.f32)
local notation "b7" => (Memref.whole Cert.KernelIdeal.cc0_scratch7 : Memref Cert.KernelIdeal.sig Kind.scVector Space.vmem Cert.KernelIdeal.S128 EltTy.i32)
local notation "b8" => (Memref.whole Cert.KernelIdeal.cc0_scratch8 : Memref Cert.KernelIdeal.sig Kind.scVector Space.vmem Cert.KernelIdeal.S4096 EltTy.f32)

variable [FloatOps F]

section Tile

variable (d : Dev nD) (L : grid0.Coords)

theorem bound_zero : grid0.bound 0 = 2 := rfl
theorem bound_one : grid0.bound 1 = 16 := rfl
abbrev wL (L : grid0.Coords) : Fin 32 := wid (Fin.cast bound_zero (L 0)) (Fin.cast bound_one (L 1))

/-- A held buffer is its points-to. -/
theorem held_whole {s : Shape} {e : EltTy} (m : Memref sig .scVector .vmem s e) (hs : m.view.set = Finset.univ) (f : Buf (Elt F) (m.view.loc (V d (cV L) (jV L)))) (g : Vec F s e)
    (h : m.view.read (Elt F) f = g) : (m.view.loc (V d (cV L) (jV L)) ↦{fullShare} f : sProp 𝕄) ⊢ Held (V d (cV L) (jV L)) m g := by
  unfold Held
  rw [hs]
  iintro H
  iexists f
  isplitr
  · ipureintro; exact h
  · iexact H

theorem whole_held {s : Shape} {e : EltTy} (m : Memref sig .scVector .vmem s e) (hs : m.view.set = Finset.univ) (g : Vec F s e) :
    (Held (V d (cV L) (jV L)) m g : sProp 𝕄) ⊢ iprop(∃ f, ⌜m.view.read (Elt F) f = g⌝ ∗ m.view.loc (V d (cV L) (jV L)) ↦{fullShare} f) := by
  unfold Held
  rw [hs]

/-- The eight tables in scratch. -/
def tabRes (A : Vec F S43520 .f32) (W : Vec F S1280 .i32) (C : Vec F S512 .i32) (S : Vec F S14336 .i32) (X Y Z : Vec F S128 .f32) (P : Vec F S128 .i32) : sProp 𝕄 :=
  iprop(Held (V d (cV L) (jV L)) (b0) A ∗ Held (V d (cV L) (jV L)) (b1) W ∗ Held (V d (cV L) (jV L)) (b2) C ∗ Held (V d (cV L) (jV L)) (b3) S
    ∗ Held (V d (cV L) (jV L)) (b4) X ∗ Held (V d (cV L) (jV L)) (b5) Y ∗ Held (V d (cV L) (jV L)) (b6) Z ∗ Held (V d (cV L) (jV L)) (b7) P)

theorem has_last {s : Shape} {e : EltTy} (m : Memref sig .scVector .vmem s e) (g : Vec F s e) :
    Has (tileAt d L) (Held (V d (cV L) (jV L)) m g : sProp 𝕄) m g := by
  unfold Has
  iintro H
  isplitl [H]
  · iexact H
  · iintro H; iexact H

theorem has_head {s : Shape} {e : EltTy} (m : Memref sig .scVector .vmem s e) (g : Vec F s e) (R : sProp 𝕄) :
    Has (tileAt d L) (iprop(Held (V d (cV L) (jV L)) m g ∗ R) : sProp 𝕄) m g := by
  unfold Has
  iintro ⟨H, HR⟩
  isplitl [H]
  · iexact H
  · iintro H; isplitl [H]
    · iexact H
    · iexact HR

theorem has_tail {s : Shape} {e : EltTy} {m : Memref sig .scVector .vmem s e} {g : Vec F s e} {R : sProp 𝕄} (X : sProp 𝕄)
    (h : Has (tileAt d L) R m g) : Has (tileAt d L) (iprop(X ∗ R) : sProp 𝕄) m g := by
  unfold Has at *
  iintro ⟨HX, HR⟩
  ihave H := h $$ HR
  icases H with ⟨H, Hb⟩
  isplitl [H]
  · iexact H
  · iintro H
    isplitl [HX]
    · iexact HX
    · iapply Hb; iexact H

/-- What a described program leaves, used by the program after it. -/
theorem Does.run {s : Shape} {e : EltTy} {α β : Type} {R : sProp 𝕄} {o : Memref sig .scVector .vmem s e} {f : Vec F s e}
    {p : Prog (TpuEff nD τ sig (Elt F) Cert.KernelIdeal.Λ₀ (V d (cV L) (jV L)).2) α} {Post : α → Vec F s e → Prop} (h : Does (tileAt d L) R o p f Post)
    {k : α → Prog (TpuEff nD τ sig (Elt F) Cert.KernelIdeal.Λ₀ (V d (cV L) (jV L)).2) β} {Q : β → sProp 𝕄} :
    iprop(R ∗ (Held (V d (cV L) (jV L)) o f : sProp 𝕄)) ⊢ iprop((∀ x, ∀ g, ⌜Post x g⌝ -∗ R -∗ Held (V d (cV L) (jV L)) o g -∗
        wp frame (wpE (defs₀ (F := F)) 𝒱₀ (V d (cV L) (jV L)) none) Set.univ (k x) Q)
      -∗ wp frame (wpE (defs₀ (F := F)) 𝒱₀ (V d (cV L) (jV L)) none) Set.univ (p >>= k) Q) := by
  rw [wp_bind]
  have h' : iprop(R ∗ (Held (V d (cV L) (jV L)) o f : sProp 𝕄)) ⊢ wp frame (wpE (defs₀ (F := F)) 𝒱₀ (V d (cV L) (jV L)) none) Set.univ p
      (fun x => (iprop(∃ g, ⌜Post x g⌝ ∗ R ∗ Held (V d (cV L) (jV L)) o g) : sProp 𝕄)) := h
  iintro H Hk
  iapply wp_wand_r
  isplitl [H]
  · iapply h'; iexact H
  · iintro %x ⟨%g, %hg, HR, HO⟩
    iapply Hk $$ %x %g [] [HR] [HO]
    · ipureintro; exact hg
    · iexact HR
    · iexact HO

variable (A : Vec F S43520 .f32) (W : Vec F S1280 .i32) (C : Vec F S512 .i32) (S : Vec F S14336 .i32) (X Y Z : Vec F S128 .f32) (P : Vec F S128 .i32)

/-- The loops over the tables: the output buffer ends at the tile's output. -/
theorem loops_does (hcounts : ∀ k, (rd C k : BitVec 32).toNat ≤ 28) (hslots : ∀ k, (rd S k : BitVec 32).toNat ≤ 1280) (f : Vec F S4096 .f32) :
    Does (tileAt d L) (tabRes d L A W C S X Y Z P) (b8)
      (do
        Scf.Loop.for k0_t1_loop k0_t1_ok ⟨⟩ (k0_t1_body L aW (Memref.isWhole_whole _) wW (Memref.isWhole_whole _) cW (Memref.isWhole_whole _) sW (Memref.isWhole_whole _) xW (Memref.isWhole_whole _) yW (Memref.isWhole_whole _) zW (Memref.isWhole_whole _) pW (Memref.isWhole_whole _) oW (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) cc0_scoped0 cc0_scoped1 cc0_scoped2 cc0_scoped3 cc0_scoped4 cc0_scoped5 cc0_scoped6 cc0_scoped7 cc0_scoped8)
        let v5 : IVec S16 32 := iota .scVector S16 32 [0] iota_S16_d0_w32_scVector
        Scf.Loop.for k0_t2_loop k0_t2_ok ⟨⟩ (k0_t2_body L aW (Memref.isWhole_whole _) wW (Memref.isWhole_whole _) cW (Memref.isWhole_whole _) sW (Memref.isWhole_whole _) xW (Memref.isWhole_whole _) yW (Memref.isWhole_whole _) zW (Memref.isWhole_whole _) pW (Memref.isWhole_whole _) oW (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) cc0_scoped0 cc0_scoped1 cc0_scoped2 cc0_scoped3 cc0_scoped4 cc0_scoped5 cc0_scoped6 cc0_scoped7 cc0_scoped8 v5)
        Pure.pure PUnit.unit)
      f fun _ g => g = tileOut A W C S X Y Z P := by
  refine Does.bind (clear_does L aW (Memref.isWhole_whole _) wW (Memref.isWhole_whole _) cW (Memref.isWhole_whole _) sW (Memref.isWhole_whole _) xW (Memref.isWhole_whole _) yW (Memref.isWhole_whole _) zW (Memref.isWhole_whole _) pW (Memref.isWhole_whole _) oW (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) cc0_scoped0 cc0_scoped1 cc0_scoped2 cc0_scoped3 cc0_scoped4 cc0_scoped5 cc0_scoped6 cc0_scoped7 cc0_scoped8 d f) fun _ g hg => ?_
  refine Does.bind (groups_does L aW (Memref.isWhole_whole _) wW (Memref.isWhole_whole _) cW (Memref.isWhole_whole _) sW (Memref.isWhole_whole _) xW (Memref.isWhole_whole _) yW (Memref.isWhole_whole _) zW (Memref.isWhole_whole _) pW (Memref.isWhole_whole _) oW (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) cc0_scoped0 cc0_scoped1 cc0_scoped2 cc0_scoped3 cc0_scoped4 cc0_scoped5 cc0_scoped6 cc0_scoped7 cc0_scoped8 d g (A := A) (W := W) (C := C) (S := S) (X := X) (Y := Y) (Z := Z) (P := P) ?_ ?_ ?_ ?_ ?_ ?_ ?_ ?_ hcounts hslots) fun _ g' hg' => Does.pure ?_
  · exact has_head d L _ _ _
  · exact has_tail d L _ (has_head d L _ _ _)
  · exact has_tail d L _ (has_tail d L _ (has_head d L _ _ _))
  · exact has_tail d L _ (has_tail d L _ (has_tail d L _ (has_head d L _ _ _)))
  · exact has_tail d L _ (has_tail d L _ (has_tail d L _ (has_tail d L _ (has_head d L _ _ _))))
  · exact has_tail d L _ (has_tail d L _ (has_tail d L _ (has_tail d L _ (has_tail d L _ (has_head d L _ _ _)))))
  · exact has_tail d L _ (has_tail d L _ (has_tail d L _ (has_tail d L _ (has_tail d L _ (has_tail d L _ (has_head d L _ _ _))))))
  · exact has_tail d L _ (has_tail d L _ (has_tail d L _ (has_tail d L _ (has_tail d L _ (has_tail d L _ (has_tail d L _ (has_last d L _ _)))))))
  · rw [hg', hg]; rfl

/-- The subcore's 4096 elements of the result, as its copy out names them. -/
abbrev oSl : Memref sig .scVector .hbm S4096 .f32 := (oW).slice (Rect.unit (s := S131072) (k0_off4 L) S4096.size (k0_off4_inb L)) (fun _ => rfl)

theorem wL_val : (wL L).val = 2 * (L 1).val + (L 0).val := rfl

theorem rect_out : Rect.unit (s := S131072) (k0_off4 L) S4096.size (k0_off4_inb L) = part (wL L) := by
  unfold part Rect.part Rect.block
  congr 1 <;> funext a
  · rw [k0_off4_eq]
    match a with
    | 0 =>
      simp [Shape.partIx, Shape.partSize]
      rw [wL_val]
      omega
  · match a with
    | 0 => simp [Shape.partSize]

theorem set_oSl : (oSl L).view.set = partSet (wL L) := by
  show ((oW).view.slice (Rect.unit (s := S131072) (k0_off4 L) S4096.size (k0_off4_inb L))).set = ((oW).view.slice (part (wL L))).set
  exact rect_out L ▸ rfl

theorem pts_o (f : Buf (Elt F) (oLoc d)) :
    ((oSl L).view.loc (V d (cV L) (jV L)) ↦[(oSl L).view.set]{fullShare} f : sProp 𝕄) = outPart d (wL L) f := by
  rw [set_oSl]; rfl

/-- The subcore's slab of a point table, as its copy in reads it. -/
theorem slab_read {e : EltTy} (X : Vec F S4096 e) :
    (fun x => X ((Rect.unit (s := S4096) (k0_off1 L) S128.size (k0_off1_inb L)).emb x)) = slab X (wL L) := by
  funext x
  have hx : (x 0).val < 128 := (x 0).isLt
  have hw : (wL L).val < 32 := (wL L).isLt
  unfold slab rd
  congr 1
  funext a
  rw [Fin.eq_zero a]
  apply Fin.ext
  rw [Rect.emb_apply, Rect.off_unit, Rect.stride_unit]
  have h0 : k0_off1 L 0 = 256 * (L 1).val + 128 * (L 0).val := congrFun (k0_off1_eq L) 0
  have h1 := wL_val L
  show k0_off1 L 0 + 1 * (x 0).val = (128 * (wL L).val + (x 0).val) % 4096
  rw [Nat.mod_eq_of_lt (by omega)]
  omega

theorem read_whole_writes (f : (oSl L).view.ty.Contents (Elt F)) (w : Vec F S4096 .f32) :
    (oSl L).view.read (Elt F) ((oSl L).view.writes (Elt F) f [⟨Rect.whole S4096, w⟩]) = w :=
  (read_slice_whole (oSl L).view _).symm.trans (View.read_write_univ (v := (oSl L).view.slice (Rect.whole S4096)) _ _)

/-- An element of the subcore's part of the result. -/
theorem out_value (t : Tabs F) (f : Buf (Elt F) (oLoc d)) (w : Vec F S4096 .f32) (hf : (oSl L).view.read (Elt F) f = w)
    (hw : w = tileOut t.A t.W t.C t.S (slab t.X (wL L)) (slab t.Y (wL L)) (slab t.Z (wL L)) (slab t.P (wL L))) :
    ((oSl L).view.loc (V d (cV L) (jV L)) ↦[(oSl L).view.set]{fullShare} f : sProp 𝕄)
      ⊢ outPart d (wL L) (callOut t) := by
  rw [← pts_o]
  refine Entails.of_eq (pointsTo_congr fun y hy => ?_)
  obtain ⟨x, -, rfl⟩ := Finset.mem_map.mp hy
  have h : f ((oSl L).view.emb x) = w x := congrFun hf x
  rw [h, hw]
  have e : (((oSl L).view.emb x) 0).val = 4096 * (wL L).val + (x 0).val := by
    show (((Rect.unit (s := S131072) (k0_off4 L) S4096.size (k0_off4_inb L)).emb x) 0).val = _
    rw [Rect.emb_apply, Rect.off_unit, Rect.stride_unit]
    have h0 : k0_off4 L 0 = 8192 * (L 1).val + 4096 * (L 0).val := congrFun (k0_off4_eq L) 0
    have h1 := wL_val L
    show k0_off4 L 0 + 1 * (x 0).val = 4096 * (wL L).val + (x 0).val
    omega
  have hx : (x 0).val < 4096 := (x 0).isLt
  unfold callOut
  rw [e, show (4096 * (wL L).val + (x 0).val) / 4096 = (wL L).val by omega, show (4096 * (wL L).val + (x 0).val) % 4096 = (x 0).val by omega]
  unfold rd
  congr 1
  funext a
  rw [Fin.eq_zero a]
  exact Fin.ext (Nat.mod_eq_of_lt hx).symm

set_option maxHeartbeats 2000000 in
/-- The task of the subcore at coordinates `L`. -/
theorem tile_body (t : Dev nD → Tabs F) (hok : (t d).Ok) (hF : (K (F := F)).Facts) (O : CellTallies nD τ sig (HIx 1)) (W : Waits sig (HIx 1)) (hO : ∀ g, O g none = 0) :
    iprop(levAts (K (F := F)).L (K (F := F)).lev ∗ emp ∗ goRes t d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L aW (Memref.isWhole_whole _) wW (Memref.isWhole_whole _) cW (Memref.isWhole_whole _) sW (Memref.isWhole_whole _) xW (Memref.isWhole_whole _) yW (Memref.isWhole_whole _) zW (Memref.isWhole_whole _) pW (Memref.isWhole_whole _) oW (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) cc0_scoped0 cc0_scoped1 cc0_scoped2 cc0_scoped3 cc0_scoped4 cc0_scoped5 cc0_scoped6 cc0_scoped7 cc0_scoped8)
          fun _ => iprop(tdRes t d (wL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_body_eq_skeleton]
  unfold cc0__sc_body_skel
  rw [k0_part106_eq_skeleton]
  unfold k0_part106_skel
  rw [(K (F := F)).scopedBufs_V hF d (cV L) (jV L), SparseCore.Cfg.scopedSems0_V (Val := Elt F) d (cV L) (jV L), ownSems0_V, ownBufs_V]
  unfold goRes ins
  iintro ⟨#Hlv, -, ⟨⟨HA, HW, HC, HS, HX, HY, HZ, HP⟩, %fo, Ho⟩, ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, Hrb⟩,
    ⟨S0, S1, S2, S3, S4, S5, S6, S7, S8, Hrs⟩, HO⟩
  ihave Hmw := ((K (F := F)).mayWaits_none (thr := V d (cV L) (jV L)) hO) $$ Hlv
  ihave HA := (Entails.of_eq (show (aLoc d ↦{leaf 5 fullShare (wL L)} (t d).A : sProp 𝕄) = ((aW).view.loc (V d (cV L) (jV L)) ↦{leaf 5 fullShare (wL L)} (t d).A) from rfl)) $$ HA
  ihave HW := (Entails.of_eq (show (wLoc d ↦{leaf 5 fullShare (wL L)} (t d).W : sProp 𝕄) = ((wW).view.loc (V d (cV L) (jV L)) ↦{leaf 5 fullShare (wL L)} (t d).W) from rfl)) $$ HW
  ihave HC := (Entails.of_eq (show (cLoc d ↦{leaf 5 fullShare (wL L)} (t d).C : sProp 𝕄) = ((cW).view.loc (V d (cV L) (jV L)) ↦{leaf 5 fullShare (wL L)} (t d).C) from rfl)) $$ HC
  ihave HS := (Entails.of_eq (show (sLoc d ↦{leaf 5 fullShare (wL L)} (t d).S : sProp 𝕄) = ((sW).view.loc (V d (cV L) (jV L)) ↦{leaf 5 fullShare (wL L)} (t d).S) from rfl)) $$ HS
  ihave HX := (Entails.of_eq (show (xLoc d ↦{leaf 5 fullShare (wL L)} (t d).X : sProp 𝕄) = ((xW).view.loc (V d (cV L) (jV L)) ↦{leaf 5 fullShare (wL L)} (t d).X) from rfl)) $$ HX
  ihave HY := (Entails.of_eq (show (yLoc d ↦{leaf 5 fullShare (wL L)} (t d).Y : sProp 𝕄) = ((yW).view.loc (V d (cV L) (jV L)) ↦{leaf 5 fullShare (wL L)} (t d).Y) from rfl)) $$ HY
  ihave HZ := (Entails.of_eq (show (zLoc d ↦{leaf 5 fullShare (wL L)} (t d).Z : sProp 𝕄) = ((zW).view.loc (V d (cV L) (jV L)) ↦{leaf 5 fullShare (wL L)} (t d).Z) from rfl)) $$ HZ
  ihave HP := (Entails.of_eq (show (pLoc d ↦{leaf 5 fullShare (wL L)} (t d).P : sProp 𝕄) = ((pW).view.loc (V d (cV L) (jV L)) ↦{leaf 5 fullShare (wL L)} (t d).P) from rfl)) $$ HP
  ihave H0 := (Entails.of_eq (show ((thr d L).loc cc0_scratch0 ↦{fullShare} f0 : sProp 𝕄) = ((b0).view.loc (V d (cV L) (jV L)) ↦{fullShare} f0) from rfl)) $$ H0
  ihave H1 := (Entails.of_eq (show ((thr d L).loc cc0_scratch1 ↦{fullShare} f1 : sProp 𝕄) = ((b1).view.loc (V d (cV L) (jV L)) ↦{fullShare} f1) from rfl)) $$ H1
  ihave H2 := (Entails.of_eq (show ((thr d L).loc cc0_scratch2 ↦{fullShare} f2 : sProp 𝕄) = ((b2).view.loc (V d (cV L) (jV L)) ↦{fullShare} f2) from rfl)) $$ H2
  ihave H3 := (Entails.of_eq (show ((thr d L).loc cc0_scratch3 ↦{fullShare} f3 : sProp 𝕄) = ((b3).view.loc (V d (cV L) (jV L)) ↦{fullShare} f3) from rfl)) $$ H3
  ihave H4 := (Entails.of_eq (show ((thr d L).loc cc0_scratch4 ↦{fullShare} f4 : sProp 𝕄) = ((b4).view.loc (V d (cV L) (jV L)) ↦{fullShare} f4) from rfl)) $$ H4
  ihave H5 := (Entails.of_eq (show ((thr d L).loc cc0_scratch5 ↦{fullShare} f5 : sProp 𝕄) = ((b5).view.loc (V d (cV L) (jV L)) ↦{fullShare} f5) from rfl)) $$ H5
  ihave H6 := (Entails.of_eq (show ((thr d L).loc cc0_scratch6 ↦{fullShare} f6 : sProp 𝕄) = ((b6).view.loc (V d (cV L) (jV L)) ↦{fullShare} f6) from rfl)) $$ H6
  ihave H7 := (Entails.of_eq (show ((thr d L).loc cc0_scratch7 ↦{fullShare} f7 : sProp 𝕄) = ((b7).view.loc (V d (cV L) (jV L)) ↦{fullShare} f7) from rfl)) $$ H7
  ihave H8 := (Entails.of_eq (show ((thr d L).loc cc0_scratch8 ↦{fullShare} f8 : sProp 𝕄) = ((b8).view.loc (V d (cV L) (jV L)) ↦{fullShare} f8) from rfl)) $$ H8
  ihave Ho := (Entails.of_eq (pts_o (F := F) d L fo).symm) $$ Ho
  sl_exec
  ihave H0 := (held_whole d L (b0) (by simp only [Memref.view_whole, View.set_whole]) _ (t d).A ((View.read_write_univ _ _).trans (by rfl))) $$ H0
  ihave H1 := (held_whole d L (b1) (by simp only [Memref.view_whole, View.set_whole]) _ (t d).W ((View.read_write_univ _ _).trans (by rfl))) $$ H1
  ihave H2 := (held_whole d L (b2) (by simp only [Memref.view_whole, View.set_whole]) _ (t d).C ((View.read_write_univ _ _).trans (by rfl))) $$ H2
  ihave H3 := (held_whole d L (b3) (by simp only [Memref.view_whole, View.set_whole]) _ (t d).S ((View.read_write_univ _ _).trans (by rfl))) $$ H3
  ihave H4 := (held_whole d L (b4) (by simp only [Memref.view_whole, View.set_whole]) _ (slab (t d).X (wL L)) ((View.read_write_univ _ _).trans (by exact slab_read L _))) $$ H4
  ihave H5 := (held_whole d L (b5) (by simp only [Memref.view_whole, View.set_whole]) _ (slab (t d).Y (wL L)) ((View.read_write_univ _ _).trans (by exact slab_read L _))) $$ H5
  ihave H6 := (held_whole d L (b6) (by simp only [Memref.view_whole, View.set_whole]) _ (slab (t d).Z (wL L)) ((View.read_write_univ _ _).trans (by exact slab_read L _))) $$ H6
  ihave H7 := (held_whole d L (b7) (by simp only [Memref.view_whole, View.set_whole]) _ (slab (t d).P (wL L)) ((View.read_write_univ _ _).trans (by exact slab_read L _))) $$ H7
  ihave H8 := (held_whole d L (b8) (by simp only [Memref.view_whole, View.set_whole]) _ f8 rfl) $$ H8
  iapply (Does.run d L (loops_does d L (t d).A (t d).W (t d).C (t d).S (slab (t d).X (wL L)) (slab (t d).Y (wL L)) (slab (t d).Z (wL L)) (slab (t d).P (wL L)) hok.1 hok.2 f8)) $$ [H0 H1 H2 H3 H4 H5 H6 H7 H8]
  · unfold tabRes
    isplitr [H8]
    · isplitl [H0]
      · iexact H0
      isplitl [H1]
      · iexact H1
      isplitl [H2]
      · iexact H2
      isplitl [H3]
      · iexact H3
      isplitl [H4]
      · iexact H4
      isplitl [H5]
      · iexact H5
      isplitl [H6]
      · iexact H6
      · iexact H7
    · iexact H8
  iintro %x %g %hg HR H8
  unfold tabRes
  icases HR with ⟨H0, H1, H2, H3, H4, H5, H6, H7⟩
  ihave H0 := (whole_held d L (b0) (by simp only [Memref.view_whole, View.set_whole]) _) $$ H0
  icases H0 with ⟨%e0, %he0, H0⟩
  ihave H1 := (whole_held d L (b1) (by simp only [Memref.view_whole, View.set_whole]) _) $$ H1
  icases H1 with ⟨%e1, %he1, H1⟩
  ihave H2 := (whole_held d L (b2) (by simp only [Memref.view_whole, View.set_whole]) _) $$ H2
  icases H2 with ⟨%e2, %he2, H2⟩
  ihave H3 := (whole_held d L (b3) (by simp only [Memref.view_whole, View.set_whole]) _) $$ H3
  icases H3 with ⟨%e3, %he3, H3⟩
  ihave H4 := (whole_held d L (b4) (by simp only [Memref.view_whole, View.set_whole]) _) $$ H4
  icases H4 with ⟨%e4, %he4, H4⟩
  ihave H5 := (whole_held d L (b5) (by simp only [Memref.view_whole, View.set_whole]) _) $$ H5
  icases H5 with ⟨%e5, %he5, H5⟩
  ihave H6 := (whole_held d L (b6) (by simp only [Memref.view_whole, View.set_whole]) _) $$ H6
  icases H6 with ⟨%e6, %he6, H6⟩
  ihave H7 := (whole_held d L (b7) (by simp only [Memref.view_whole, View.set_whole]) _) $$ H7
  icases H7 with ⟨%e7, %he7, H7⟩
  ihave H8 := (whole_held d L (b8) (by simp only [Memref.view_whole, View.set_whole]) _) $$ H8
  icases H8 with ⟨%e8, %he8, H8⟩
  sl_exec
  ihave Ho := (out_value d L (t d) _ _ (read_whole_writes L fo (tile_body.sl.dma0_8 e8)) (he8.trans hg)) $$ Ho
  rw [wp_ret]
  imodintro
  isplitl [HA HW HC HS HX HY HZ HP Ho]
  · unfold tdRes ins
    isplitr [Ho]
    · isplitl [HA]
      · iexact HA
      isplitl [HW]
      · iexact HW
      isplitl [HC]
      · iexact HC
      isplitl [HS]
      · iexact HS
      isplitl [HX]
      · iexact HX
      isplitl [HY]
      · iexact HY
      isplitl [HZ]
      · iexact HZ
      · iexact HP
    · iexact Ho
  isplitl [H0 H1 H2 H3 H4 H5 H6 H7 H8 Hrb]
  · isplitl [H0]
    · iexists _; iexact H0
    isplitl [H1]
    · iexists _; iexact H1
    isplitl [H2]
    · iexists _; iexact H2
    isplitl [H3]
    · iexists _; iexact H3
    isplitl [H4]
    · iexists _; iexact H4
    isplitl [H5]
    · iexists _; iexact H5
    isplitl [H6]
    · iexists _; iexact H6
    isplitl [H7]
    · iexists _; iexact H7
    isplitl [H8]
    · iexists _; iexact H8
    · iexact Hrb
  isplitl [S0 S1 S2 S3 S4 S5 S6 S7 S8 Hrs]
  · isplitl [S0]
    · iexact S0
    isplitl [S1]
    · iexact S1
    isplitl [S2]
    · iexact S2
    isplitl [S3]
    · iexact S3
    isplitl [S4]
    · iexact S4
    isplitl [S5]
    · iexact S5
    isplitl [S6]
    · iexact S6
    isplitl [S7]
    · iexact S7
    isplitl [S8]
    · iexact S8
    · iexact Hrs
  · iexists _
    isplitr
    rotate_left
    · iexact HO
    · ipureintro
      intro p hp
      simp only [Finset.mem_insert] at hp
      rcases hp with rfl | rfl | rfl | rfl | rfl | rfl | rfl | rfl | rfl | hp
      · exact .inr rfl
      · exact .inr rfl
      · exact .inr rfl
      · exact .inr rfl
      · exact .inr rfl
      · exact .inr rfl
      · exact .inr rfl
      · exact .inr rfl
      · exact .inr rfl
      · exact .inl hp

end Tile

end Cert.Proof

end
-- ==== Proof.HostOps.lean ====
/-
  The host operations of the program: those before the SparseCore call and those after it, each as a straight line, and
  what the buffers the call reads and the results hold, as terms of the arguments.
-/
module

public import proofs.«01_k».proof.Proof.Setup
public import Idealize.ShloMosaic.Lib.StableHlo.Run

@[expose] public section

noncomputable section

namespace Cert.Proof

open Cert.KernelIdeal Cert.KernelIdeal.Gen

open Idealize.ShloMosaic Idealize.ShloMosaic.TcCoe
open Idealize.ShloMosaic.StableHlo (nullary unary binary reshape seq after tcRefs nullary_bufs_sub unary_bufs_sub binary_bufs_sub reshape_bufs_sub)
open Idealize.SL.Sem

variable {F : FTy → Type} [FloatOps F]

/-- The operations before the call. -/
abbrev ops0 : List (HloOp τ sig (Elt F)) :=
  [reshape main_arg0 main_v0 (rfl : (.f32 : EltTy) = .f32) shapeCasts_S1x10000x3_S10000x3,
    nullary main_cst (constant S_ .f32 0x3BA3D70A#32),
    unary main_cst main_v1 (broadcastInDim S10000x3 ![] bcast_S_S10000x3 : (⟨S_, .f32⟩ : BufTy).Contents (Elt F) → (⟨S10000x3, .f32⟩ : BufTy).Contents (Elt F)),
    binary main_v0 main_v1 main_v2 (Host.divf : (⟨S10000x3, .f32⟩ : BufTy).Contents (Elt F) → (⟨S10000x3, .f32⟩ : BufTy).Contents (Elt F) → (⟨S10000x3, .f32⟩ : BufTy).Contents (Elt F)),
    unary main_v2 main_v3 (Host.floor : (⟨S10000x3, .f32⟩ : BufTy).Contents (Elt F) → (⟨S10000x3, .f32⟩ : BufTy).Contents (Elt F)),
    unary main_v3 main_v4 (fptosi 32 : (⟨S10000x3, .f32⟩ : BufTy).Contents (Elt F) → (⟨S10000x3, .i32⟩ : BufTy).Contents (Elt F)),
    unary main_v0 main_v5 ((extractStridedSlice S3856x3 ![6144, 0] · slices_S10000x3_S3856x3_6144_0) : (⟨S10000x3, .f32⟩ : BufTy).Contents (Elt F) → (⟨S3856x3, .f32⟩ : BufTy).Contents (Elt F)),
    unary main_v4 main_v6 ((extractStridedSlice S3856x3 ![6144, 0] · slices_S10000x3_S3856x3_6144_0) : (⟨S10000x3, .i32⟩ : BufTy).Contents (Elt F) → (⟨S3856x3, .i32⟩ : BufTy).Contents (Elt F)),
    unary main_v5 main_v7 ((extractStridedSlice S3856x1 ![0, 0] · slices_S3856x3_S3856x1_0_0) : (⟨S3856x3, .f32⟩ : BufTy).Contents (Elt F) → (⟨S3856x1, .f32⟩ : BufTy).Contents (Elt F)),
    reshape main_v7 main_v8 (rfl : (.f32 : EltTy) = .f32) shapeCasts_S3856x1_S3856,
    unary main_v8 main_v9 ((truncf .bf16 · bitsLt_bf16_f32) : (⟨S3856, .f32⟩ : BufTy).Contents (Elt F) → (⟨S3856, .bf16⟩ : BufTy).Contents (Elt F)),
    unary main_v9 main_v10 ((extf .f32 · bitsLt_bf16_f32) : (⟨S3856, .bf16⟩ : BufTy).Contents (Elt F) → (⟨S3856, .f32⟩ : BufTy).Contents (Elt F)),
    nullary main_cst_0 (constant S_ .f32 0x41200000#32),
    unary main_cst_0 main_call0_v0 (id : (⟨S_, .f32⟩ : BufTy).Contents (Elt F) → (⟨S_, .f32⟩ : BufTy).Contents (Elt F)),
    binary main_v10 main_call0_v0 main_v11 ((fun x v => pad S4096 ![0] ![240] ![0] x v pads_S3856_S4096_02400 h_S_) : (⟨S3856, .f32⟩ : BufTy).Contents (Elt F) → (⟨S_, .f32⟩ : BufTy).Contents (Elt F) → (⟨S4096, .f32⟩ : BufTy).Contents (Elt F)),
    unary main_v5 main_v12 ((extractStridedSlice S3856x1 ![0, 1] · slices_S3856x3_S3856x1_0_1) : (⟨S3856x3, .f32⟩ : BufTy).Contents (Elt F) → (⟨S3856x1, .f32⟩ : BufTy).Contents (Elt F)),
    reshape main_v12 main_v13 (rfl : (.f32 : EltTy) = .f32) shapeCasts_S3856x1_S3856,
    unary main_v13 main_v14 ((truncf .bf16 · bitsLt_bf16_f32) : (⟨S3856, .f32⟩ : BufTy).Contents (Elt F) → (⟨S3856, .bf16⟩ : BufTy).Contents (Elt F)),
    unary main_v14 main_v15 ((extf .f32 · bitsLt_bf16_f32) : (⟨S3856, .bf16⟩ : BufTy).Contents (Elt F) → (⟨S3856, .f32⟩ : BufTy).Contents (Elt F)),
    nullary main_cst_1 (constant S_ .f32 0x41200000#32),
    unary main_cst_1 main_call1_v0 (id : (⟨S_, .f32⟩ : BufTy).Contents (Elt F) → (⟨S_, .f32⟩ : BufTy).Contents (Elt F)),
    binary main_v15 main_call1_v0 main_v16 ((fun x v => pad S4096 ![0] ![240] ![0] x v pads_S3856_S4096_02400 h_S_) : (⟨S3856, .f32⟩ : BufTy).Contents (Elt F) → (⟨S_, .f32⟩ : BufTy).Contents (Elt F) → (⟨S4096, .f32⟩ : BufTy).Contents (Elt F)),
    unary main_v5 main_v17 ((extractStridedSlice S3856x1 ![0, 2] · slices_S3856x3_S3856x1_0_2) : (⟨S3856x3, .f32⟩ : BufTy).Contents (Elt F) → (⟨S3856x1, .f32⟩ : BufTy).Contents (Elt F)),
    reshape main_v17 main_v18 (rfl : (.f32 : EltTy) = .f32) shapeCasts_S3856x1_S3856,
    unary main_v18 main_v19 ((truncf .bf16 · bitsLt_bf16_f32) : (⟨S3856, .f32⟩ : BufTy).Contents (Elt F) → (⟨S3856, .bf16⟩ : BufTy).Contents (Elt F)),
    unary main_v19 main_v20 ((extf .f32 · bitsLt_bf16_f32) : (⟨S3856, .bf16⟩ : BufTy).Contents (Elt F) → (⟨S3856, .f32⟩ : BufTy).Contents (Elt F)),
    nullary main_cst_2 (constant S_ .f32 0x41200000#32),
    unary main_cst_2 main_call2_v0 (id : (⟨S_, .f32⟩ : BufTy).Contents (Elt F) → (⟨S_, .f32⟩ : BufTy).Contents (Elt F)),
    binary main_v20 main_call2_v0 main_v21 ((fun x v => pad S4096 ![0] ![240] ![0] x v pads_S3856_S4096_02400 h_S_) : (⟨S3856, .f32⟩ : BufTy).Contents (Elt F) → (⟨S_, .f32⟩ : BufTy).Contents (Elt F) → (⟨S4096, .f32⟩ : BufTy).Contents (Elt F)),
    unary main_v6 main_v22 ((extractStridedSlice S3856x1 ![0, 0] · slices_S3856x3_S3856x1_0_0) : (⟨S3856x3, .i32⟩ : BufTy).Contents (Elt F) → (⟨S3856x1, .i32⟩ : BufTy).Contents (Elt F)),
    reshape main_v22 main_v23 (rfl : (.i32 : EltTy) = .i32) shapeCasts_S3856x1_S3856,
    nullary main_c (constantI S_ 32 20#32),
    unary main_c main_v24 (broadcastInDim S3856 ![] bcast_S_S3856 : (⟨S_, .i32⟩ : BufTy).Contents (Elt F) → (⟨S3856, .i32⟩ : BufTy).Contents (Elt F)),
    binary main_v23 main_v24 main_v25 (Host.shli : (⟨S3856, .i32⟩ : BufTy).Contents (Elt F) → (⟨S3856, .i32⟩ : BufTy).Contents (Elt F) → (⟨S3856, .i32⟩ : BufTy).Contents (Elt F)),
    unary main_v6 main_v26 ((extractStridedSlice S3856x1 ![0, 1] · slices_S3856x3_S3856x1_0_1) : (⟨S3856x3, .i32⟩ : BufTy).Contents (Elt F) → (⟨S3856x1, .i32⟩ : BufTy).Contents (Elt F)),
    reshape main_v26 main_v27 (rfl : (.i32 : EltTy) = .i32) shapeCasts_S3856x1_S3856,
    nullary main_c_3 (constantI S_ 32 10#32),
    unary main_c_3 main_v28 (broadcastInDim S3856 ![] bcast_S_S3856 : (⟨S_, .i32⟩ : BufTy).Contents (Elt F) → (⟨S3856, .i32⟩ : BufTy).Contents (Elt F)),
    binary main_v27 main_v28 main_v29 (Host.shli : (⟨S3856, .i32⟩ : BufTy).Contents (Elt F) → (⟨S3856, .i32⟩ : BufTy).Contents (Elt F) → (⟨S3856, .i32⟩ : BufTy).Contents (Elt F)),
    binary main_v25 main_v29 main_v30 (ori : (⟨S3856, .i32⟩ : BufTy).Contents (Elt F) → (⟨S3856, .i32⟩ : BufTy).Contents (Elt F) → (⟨S3856, .i32⟩ : BufTy).Contents (Elt F)),
    unary main_v6 main_v31 ((extractStridedSlice S3856x1 ![0, 2] · slices_S3856x3_S3856x1_0_2) : (⟨S3856x3, .i32⟩ : BufTy).Contents (Elt F) → (⟨S3856x1, .i32⟩ : BufTy).Contents (Elt F)),
    reshape main_v31 main_v32 (rfl : (.i32 : EltTy) = .i32) shapeCasts_S3856x1_S3856,
    binary main_v30 main_v32 main_v33 (ori : (⟨S3856, .i32⟩ : BufTy).Contents (Elt F) → (⟨S3856, .i32⟩ : BufTy).Contents (Elt F) → (⟨S3856, .i32⟩ : BufTy).Contents (Elt F)),
    nullary main_c_4 (constantI S_ 32 0#32),
    unary main_c_4 main_call3_v0 (id : (⟨S_, .i32⟩ : BufTy).Contents (Elt F) → (⟨S_, .i32⟩ : BufTy).Contents (Elt F)),
    binary main_v33 main_call3_v0 main_v34 ((fun x v => pad S4096 ![0] ![240] ![0] x v pads_S3856_S4096_02400 h_S_) : (⟨S3856, .i32⟩ : BufTy).Contents (Elt F) → (⟨S_, .i32⟩ : BufTy).Contents (Elt F) → (⟨S4096, .i32⟩ : BufTy).Contents (Elt F)),
    reshape main_arg1 main_v35 (rfl : (.f32 : EltTy) = .f32) shapeCasts_S34x1280_S43520,
    reshape main_arg2 main_v36 (rfl : (.i32 : EltTy) = .i32) shapeCasts_S1x1280_S1280,
    reshape main_arg3 main_v37 (rfl : (.i32 : EltTy) = .i32) shapeCasts_S512x1_S512,
    reshape main_arg4 main_v38 (rfl : (.i32 : EltTy) = .i32) shapeCasts_S512x28_S14336]

/-- The operations after it. -/
abbrev ops1 : List (HloOp τ sig (Elt F)) :=
  [reshape main_v39 main_v40 (rfl : (.f32 : EltTy) = .f32) shapeCasts_S131072_S4096x32,
    unary main_v40 main_v41 ((extractStridedSlice S3856x17 ![0, 0] · slices_S4096x32_S3856x17_0_0) : (⟨S4096x32, .f32⟩ : BufTy).Contents (Elt F) → (⟨S3856x17, .f32⟩ : BufTy).Contents (Elt F)),
    unary main_v40 main_v42 ((extractStridedSlice S3856x1 ![0, 17] · slices_S4096x32_S3856x1_0_17) : (⟨S4096x32, .f32⟩ : BufTy).Contents (Elt F) → (⟨S3856x1, .f32⟩ : BufTy).Contents (Elt F)),
    reshape main_v42 main_v43 (rfl : (.f32 : EltTy) = .f32) shapeCasts_S3856x1_S3856,
    unary main_v40 main_v44 ((extractStridedSlice S3856x1 ![0, 18] · slices_S4096x32_S3856x1_0_18) : (⟨S4096x32, .f32⟩ : BufTy).Contents (Elt F) → (⟨S3856x1, .f32⟩ : BufTy).Contents (Elt F)),
    reshape main_v44 main_v45 (rfl : (.f32 : EltTy) = .f32) shapeCasts_S3856x1_S3856]

set_option maxRecDepth 8192 in
set_option maxHeartbeats 4000000 in
theorem main_eq (d : Dev nD) : main (F := F) d = (seq ops0 >>= fun _ => sc.run d 0 >>= fun _ => seq ops1) := rfl

set_option maxRecDepth 8192 in
theorem ops0_sub : (ops0 : List (HloOp τ sig (Elt F))).Forall fun op => op.bufs ⊆ tcRefs τ sig :=
  ⟨reshape_bufs_sub .., nullary_bufs_sub .., unary_bufs_sub .., binary_bufs_sub .., unary_bufs_sub .., unary_bufs_sub .., unary_bufs_sub .., unary_bufs_sub .., unary_bufs_sub .., reshape_bufs_sub .., unary_bufs_sub .., unary_bufs_sub .., nullary_bufs_sub .., unary_bufs_sub .., binary_bufs_sub .., unary_bufs_sub .., reshape_bufs_sub .., unary_bufs_sub .., unary_bufs_sub .., nullary_bufs_sub .., unary_bufs_sub .., binary_bufs_sub .., unary_bufs_sub .., reshape_bufs_sub .., unary_bufs_sub .., unary_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., binary_bufs_sub .., unary_bufs_sub .., reshape_bufs_sub .., binary_bufs_sub .., nullary_bufs_sub .., unary_bufs_sub .., binary_bufs_sub .., reshape_bufs_sub .., reshape_bufs_sub .., reshape_bufs_sub .., reshape_bufs_sub ..⟩

theorem ops1_sub : (ops1 : List (HloOp τ sig (Elt F))).Forall fun op => op.bufs ⊆ tcRefs τ sig :=
  ⟨reshape_bufs_sub .., unary_bufs_sub .., unary_bufs_sub .., reshape_bufs_sub .., unary_bufs_sub .., reshape_bufs_sub ..⟩

theorem ops0_fresh : (ops0 : List (HloOp τ sig (Elt F))).Forall fun op => op.fresh = ∅ :=
  StableHlo.forall_fresh_of_map rfl

theorem ops1_fresh : (ops1 : List (HloOp τ sig (Elt F))).Forall fun op => op.fresh = ∅ :=
  StableHlo.forall_fresh_of_map rfl

/-- The references each line writes. -/
abbrev writes0 : List (Ref sig .tc) := [main_v0, main_cst, main_v1, main_v2, main_v3, main_v4, main_v5, main_v6, main_v7, main_v8, main_v9, main_v10, main_cst_0, main_call0_v0, main_v11, main_v12, main_v13, main_v14, main_v15, main_cst_1, main_call1_v0, main_v16, main_v17, main_v18, main_v19, main_v20, main_cst_2, main_call2_v0, main_v21, main_v22, main_v23, main_c, main_v24, main_v25, main_v26, main_v27, main_c_3, main_v28, main_v29, main_v30, main_v31, main_v32, main_v33, main_c_4, main_call3_v0, main_v34, main_v35, main_v36, main_v37, main_v38]
abbrev writes1 : List (Ref sig .tc) := [main_v40, main_v41, main_v42, main_v43, main_v44, main_v45]

theorem ops0_writes : (ops0 : List (HloOp τ sig (Elt F))).map HloOp.writes = writes0.map fun r => {Proc.devRef (τ := τ) .tc r} := rfl
theorem ops1_writes : (ops1 : List (HloOp τ sig (Elt F))).map HloOp.writes = writes1.map fun r => {Proc.devRef (τ := τ) .tc r} := rfl

end Cert.Proof

end
-- ==== Proof.Launch.lean ====
/-
  The whole program: the host operations, the SparseCore call on its thirty-two subcores (each as Tile.lean says), the
  host operations after it; what every buffer holds when it has ended.
-/
module

public import proofs.«01_k».proof.Proof.Tile
public import proofs.«01_k».proof.Proof.HostOps

@[expose] public section

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.ShloMosaic.ShareLeaves (leaf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split held_congr seq after tcRefs devRef_mem_tcRefs wp_seq)

variable {F : FTy → Type}

local notation "𝕄" => MT nD τ sig (HIx 1) (Elt F) ℕ UU ℕ

local notation "aW" => (Memref.whole Cert.KernelIdeal.main_v35_scv : Memref Cert.KernelIdeal.sig Kind.scVector Space.hbm Cert.KernelIdeal.S43520 EltTy.f32)
local notation "wW" => (Memref.whole Cert.KernelIdeal.main_v36_scv : Memref Cert.KernelIdeal.sig Kind.scVector Space.hbm Cert.KernelIdeal.S1280 EltTy.i32)
local notation "cW" => (Memref.whole Cert.KernelIdeal.main_v37_scv : Memref Cert.KernelIdeal.sig Kind.scVector Space.hbm Cert.KernelIdeal.S512 EltTy.i32)
local notation "sW" => (Memref.whole Cert.KernelIdeal.main_v38_scv : Memref Cert.KernelIdeal.sig Kind.scVector Space.hbm Cert.KernelIdeal.S14336 EltTy.i32)
local notation "xW" => (Memref.whole Cert.KernelIdeal.main_v11_scv : Memref Cert.KernelIdeal.sig Kind.scVector Space.hbm Cert.KernelIdeal.S4096 EltTy.f32)
local notation "yW" => (Memref.whole Cert.KernelIdeal.main_v16_scv : Memref Cert.KernelIdeal.sig Kind.scVector Space.hbm Cert.KernelIdeal.S4096 EltTy.f32)
local notation "zW" => (Memref.whole Cert.KernelIdeal.main_v21_scv : Memref Cert.KernelIdeal.sig Kind.scVector Space.hbm Cert.KernelIdeal.S4096 EltTy.f32)
local notation "pW" => (Memref.whole Cert.KernelIdeal.main_v34_scv : Memref Cert.KernelIdeal.sig Kind.scVector Space.hbm Cert.KernelIdeal.S4096 EltTy.i32)
local notation "oW" => (Memref.whole Cert.KernelIdeal.main_v39_scv : Memref Cert.KernelIdeal.sig Kind.scVector Space.hbm Cert.KernelIdeal.S131072 EltTy.f32)
local notation "b0" => (Memref.whole Cert.KernelIdeal.cc0_scratch0 : Memref Cert.KernelIdeal.sig Kind.scVector Space.vmem Cert.KernelIdeal.S43520 EltTy.f32)
local notation "b1" => (Memref.whole Cert.KernelIdeal.cc0_scratch1 : Memref Cert.KernelIdeal.sig Kind.scVector Space.vmem Cert.KernelIdeal.S1280 EltTy.i32)
local notation "b2" => (Memref.whole Cert.KernelIdeal.cc0_scratch2 : Memref Cert.KernelIdeal.sig Kind.scVector Space.vmem Cert.KernelIdeal.S512 EltTy.i32)
local notation "b3" => (Memref.whole Cert.KernelIdeal.cc0_scratch3 : Memref Cert.KernelIdeal.sig Kind.scVector Space.vmem Cert.KernelIdeal.S14336 EltTy.i32)
local notation "b4" => (Memref.whole Cert.KernelIdeal.cc0_scratch4 : Memref Cert.KernelIdeal.sig Kind.scVector Space.vmem Cert.KernelIdeal.S128 EltTy.f32)
local notation "b5" => (Memref.whole Cert.KernelIdeal.cc0_scratch5 : Memref Cert.KernelIdeal.sig Kind.scVector Space.vmem Cert.KernelIdeal.S128 EltTy.f32)
local notation "b6" => (Memref.whole Cert.KernelIdeal.cc0_scratch6 : Memref Cert.KernelIdeal.sig Kind.scVector Space.vmem Cert.KernelIdeal.S128 EltTy.f32)
local notation "b7" => (Memref.whole Cert.KernelIdeal.cc0_scratch7 : Memref Cert.KernelIdeal.sig Kind.scVector Space.vmem Cert.KernelIdeal.S128 EltTy.i32)
local notation "b8" => (Memref.whole Cert.KernelIdeal.cc0_scratch8 : Memref Cert.KernelIdeal.sig Kind.scVector Space.vmem Cert.KernelIdeal.S4096 EltTy.f32)

variable [FloatOps F]

/-! ## A subcore's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s) aW (Memref.isWhole_whole _) wW (Memref.isWhole_whole _) cW (Memref.isWhole_whole _) sW (Memref.isWhole_whole _) xW (Memref.isWhole_whole _) yW (Memref.isWhole_whole _) zW (Memref.isWhole_whole _) pW (Memref.isWhole_whole _) oW (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) cc0_scoped0 cc0_scoped1 cc0_scoped2 cc0_scoped3 cc0_scoped4 cc0_scoped5 cc0_scoped6 cc0_scoped7 cc0_scoped8) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]
  · iexact HA
  isplitl [HB]
  · iexact HB
  isplitl [HC]
  · iexact HC
  iexists W'
  isplitr
  · ipureintro; exact fun p hp => (hW' p hp).imp_right Or.inl
  · iexact HO

theorem tileObl (t : Dev nD → Tabs F) (hok : ∀ d, (t d).Ok) (hF : (K (F := F)).Facts) : (K (F := F)).TileObl (D (F := F)) 𝒱 (P t) v₀ 0 := by
  intro d c i O W hO _ _
  simp only [show (P t).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]
  simp only [SparseCore.onTile, hc, and_self, ↓reduceDIte]
  have h := tile_body d (coordsV ⟨_, hc.1⟩ ⟨_, hc.2⟩) t (hok d) hF O W hO
  generalize cc0__sc_body (F := F) (coordsV ⟨_, hc.1⟩ ⟨_, hc.2⟩) aW (Memref.isWhole_whole _) wW (Memref.isWhole_whole _) cW (Memref.isWhole_whole _) sW (Memref.isWhole_whole _) xW (Memref.isWhole_whole _) yW (Memref.isWhole_whole _) zW (Memref.isWhole_whole _) pW (Memref.isWhole_whole _) oW (Memref.isWhole_whole _) b0 (Memref.isWhole_whole _) b1 (Memref.isWhole_whole _) b2 (Memref.isWhole_whole _) b3 (Memref.isWhole_whole _) b4 (Memref.isWhole_whole _) b5 (Memref.isWhole_whole _) b6 (Memref.isWhole_whole _) b7 (Memref.isWhole_whole _) b8 (Memref.isWhole_whole _) cc0_scoped0 cc0_scoped1 cc0_scoped2 cc0_scoped3 cc0_scoped4 cc0_scoped5 cc0_scoped6 cc0_scoped7 cc0_scoped8 = prog at h ⊢
  exact h.trans (wp_mono frame _ _ fun _ => obl_post)

/-! ## What goes to the subcores and comes back -/

omit [FloatOps F] in
theorem partSet_eq (w : Fin 32) : partSet w = (part w).set := by
  show ((View.whole (main_v39_scv : Ref sig .scVector)).slice (part w)).set = _
  rw [View.set_slice]; exact Finset.map_refl

omit [FloatOps F] in
theorem parts_disjoint : ∀ w ∈ (Finset.univ : Finset (Fin 32)), ∀ w' ∈ (Finset.univ : Finset (Fin 32)), w ≠ w' → Disjoint (partSet w) (partSet w') :=
  fun w _ w' _ h => by rw [partSet_eq, partSet_eq]; exact Rect.part_disjoint hdiv h

omit [FloatOps F] in
theorem parts_cover : (Finset.univ : Finset (Fin 32)).biUnion partSet = Finset.univ :=
  (Finset.biUnion_congr rfl fun w _ => partSet_eq w).trans (Rect.biUnion_part hdiv)

omit [FloatOps F] in
theorem out_parts (d : Dev nD) (f : Buf (Elt F) (oLoc d)) :
    (oLoc d ↦{fullShare} f : sProp 𝕄) = bigSep Finset.univ fun w : Fin 32 => outPart d w f := by
  unfold outPart
  rw [← pointsTo_biUnion Finset.univ (ℓ := oLoc d) partSet parts_disjoint, parts_cover]; try rfl

/-- Subcore `i` of SparseCore `c`, numbered. -/
def widEquiv : Fin 2 × Fin 16 ≃ Fin 32 where
  toFun p := wid p.1 p.2
  invFun w := (⟨w.val % 2, Nat.mod_lt _ (by decide)⟩, ⟨w.val / 2, by omega⟩)
  left_inv := fun ⟨c, i⟩ => by
    apply Prod.ext
    · apply Fin.ext; show (2 * i.val + c.val) % 2 = c.val; omega
    · apply Fin.ext; show (2 * i.val + c.val) / 2 = i.val; omega
  right_inv := fun w => by apply Fin.ext; show 2 * (w.val / 2) + w.val % 2 = w.val; omega

omit [FloatOps F] in
theorem by_subcore (g : Fin 32 → sProp 𝕄) :
    (bigSep Finset.univ fun c : Fin 2 => bigSep Finset.univ fun i : Fin 16 => g (wid c i)) = bigSep Finset.univ g := by
  rw [bigSep_univ_equiv widEquiv g, bigSep_univ_prod]
  rfl

omit [FloatOps F] in
theorem ins_leaves (t : Dev nD → Tabs F) (d : Dev nD) :
    (ins t d fullShare : sProp 𝕄) = bigSep Finset.univ fun w : Fin 32 => ins t d (leaf 5 fullShare w) := by
  unfold ins
  rw [bigSep_sep', bigSep_sep', bigSep_sep', bigSep_sep', bigSep_sep', bigSep_sep', bigSep_sep']
  rw [ShareLeaves.pointsTo_leaves (ℓ := aLoc d) Finset.univ (t d).A 5 fullShare, ShareLeaves.pointsTo_leaves (ℓ := wLoc d) Finset.univ (t d).W 5 fullShare,
    ShareLeaves.pointsTo_leaves (ℓ := cLoc d) Finset.univ (t d).C 5 fullShare, ShareLeaves.pointsTo_leaves (ℓ := sLoc d) Finset.univ (t d).S 5 fullShare,
    ShareLeaves.pointsTo_leaves (ℓ := xLoc d) Finset.univ (t d).X 5 fullShare, ShareLeaves.pointsTo_leaves (ℓ := yLoc d) Finset.univ (t d).Y 5 fullShare,
    ShareLeaves.pointsTo_leaves (ℓ := zLoc d) Finset.univ (t d).Z 5 fullShare, ShareLeaves.pointsTo_leaves (ℓ := pLoc d) Finset.univ (t d).P 5 fullShare]
  rfl

omit [FloatOps F] in
theorem parts_some (d : Dev nD) (f : Buf (Elt F) (oLoc d)) :
    (bigSep Finset.univ fun w : Fin 32 => outPart d w f) ⊢ (bigSep Finset.univ fun w : Fin 32 => iprop(∃ f, outPart d w f) : sProp 𝕄) :=
  bigSep_mono fun w _ => (show (outPart d w f : sProp 𝕄) ⊢ iprop(∃ f, outPart d w f) from by iintro H; iexists f; iexact H)

/-- What the call takes. -/
theorem call_in (t : Dev nD → Tabs F) (d : Dev nD) (f : Buf (Elt F) (oLoc d)) :
    iprop(ins t d fullShare ∗ oLoc d ↦{fullShare} f) ⊢ (bigSep Finset.univ fun c : Fin ((K (F := F)).nCore 0) => (P t).st 0 d c : sProp 𝕄) := by
  show _ ⊢ bigSep (Finset.univ : Finset (Fin 2)) fun c => bigSep (Finset.univ : Finset (Fin 16)) fun i => goRes t d (wid c i)
  rw [by_subcore (fun w => goRes t d w)]
  unfold goRes
  rw [bigSep_sep', ins_leaves, out_parts]
  iintro ⟨HI, HO⟩
  isplitl [HI]
  · iexact HI
  · iapply parts_some; iexact HO

/-- What it hands back. -/
theorem call_out (t : Dev nD → Tabs F) (d : Dev nD) :
    (bigSep Finset.univ fun c : Fin ((K (F := F)).nCore 0) => (P t).dn 0 d c : sProp 𝕄) = iprop(ins t d fullShare ∗ oLoc d ↦{fullShare} callOut (t d)) := by
  show (bigSep (Finset.univ : Finset (Fin 2)) fun c => bigSep (Finset.univ : Finset (Fin 16)) fun i => tdRes t d (wid c i)) = _
  rw [by_subcore (fun w => tdRes t d w)]
  unfold tdRes
  rw [bigSep_sep', ins_leaves, out_parts]

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ (t : Dev nD → Tabs F) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P t).x q thr) := by
  unfold u₀
  iintro Hu
  ihave H := (ownU_pair _ _) $$ Hu
  icases H with ⟨HH, -⟩
  imodintro
  isplitl [HH]
  · iexact HH
  isplitr
  · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

variable (m : (ℓ : Loc nD τ sig) → Buf (Elt F) ℓ) (ρ : Dev nD → PrngReg)

/-- What the buffers hold at the launch; when the call starts; when it has ended; at the end. -/
def V0 (d : Dev nD) : Valuation τ sig (Elt F) := fun b => m (d, b)
def V1 (d : Dev nD) : Valuation τ sig (Elt F) := after ops0 (V0 m d)

abbrev dr (r : Ref sig .tc) : DevRef τ sig := Proc.devRef .tc r

/-- The tables the call reads. -/
def tabs (d : Dev nD) : Tabs F where
  A := V1 m d (dr main_v35)
  W := V1 m d (dr main_v36)
  C := V1 m d (dr main_v37)
  S := V1 m d (dr main_v38)
  X := V1 m d (dr main_v11)
  Y := V1 m d (dr main_v16)
  Z := V1 m d (dr main_v21)
  P := V1 m d (dr main_v34)

def V2 (d : Dev nD) : Valuation τ sig (Elt F) := Function.update (V1 m d) (dr main_v39) (callOut (tabs m d))
def V3 (d : Dev nD) : Valuation τ sig (Elt F) := after ops1 (V2 m d)

/-- The buffers the call touches. -/
abbrev S9 : Finset (DevRef τ sig) :=
  {dr main_v35, dr main_v36, dr main_v37, dr main_v38, dr main_v11, dr main_v16, dr main_v21, dr main_v34, dr main_v39}

omit [FloatOps F] in
theorem S9_sub : S9 ⊆ tcRefs τ sig := by
  intro b hb
  simp only [S9, Finset.mem_insert, Finset.mem_singleton] at hb
  rcases hb with rfl | rfl | rfl | rfl | rfl | rfl | rfl | rfl | rfl <;> exact devRef_mem_tcRefs _

omit [FloatOps F] in
theorem held_S9 (d : Dev nD) (W : Valuation τ sig (Elt F)) :
    (held (T d) S9 W : sProp 𝕄) = iprop((aLoc d ↦{fullShare} W (dr main_v35)) ∗ (wLoc d ↦{fullShare} W (dr main_v36)) ∗ (cLoc d ↦{fullShare} W (dr main_v37))
      ∗ (sLoc d ↦{fullShare} W (dr main_v38)) ∗ (xLoc d ↦{fullShare} W (dr main_v11)) ∗ (yLoc d ↦{fullShare} W (dr main_v16))
      ∗ (zLoc d ↦{fullShare} W (dr main_v21)) ∗ (pLoc d ↦{fullShare} W (dr main_v34)) ∗ (oLoc d ↦{fullShare} W (dr main_v39))) := by
  unfold held S9
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

theorem V2_ne (d : Dev nD) {r : Ref sig .tc} (h : r ≠ main_v39) : V2 m d (dr r) = V1 m d (dr r) :=
  Function.update_of_ne (fun e => h (Proc.devRef_injective _ e)) _ _
theorem V2_out (d : Dev nD) : V2 m d (dr main_v39) = callOut (tabs m d) := Function.update_self _ _ _

/-- Before the call: the tables, the result's buffer, the rest. -/
theorem held_before (d : Dev nD) :
    (held (T d) (tcRefs τ sig) (V1 m d) : sProp 𝕄)
      ⊢ iprop((ins (tabs m) d fullShare ∗ oLoc d ↦{fullShare} V1 m d (dr main_v39)) ∗ held (T d) (tcRefs τ sig \ S9) (V1 m d)) := by
  rw [held_sub_split (T d) S9_sub, held_S9]
  unfold ins
  iintro ⟨⟨HA, HW, HC, HS, HX, HY, HZ, HP, HO⟩, HR⟩
  isplitr [HR]
  · isplitr [HO]
    · isplitl [HA]
      · iexact HA
      isplitl [HW]
      · iexact HW
      isplitl [HC]
      · iexact HC
      isplitl [HS]
      · iexact HS
      isplitl [HX]
      · iexact HX
      isplitl [HY]
      · iexact HY
      isplitl [HZ]
      · iexact HZ
      · iexact HP
    · iexact HO
  · iexact HR

/-- After it. -/
theorem held_after (d : Dev nD) :
    iprop((ins (tabs m) d fullShare ∗ oLoc d ↦{fullShare} callOut (tabs m d)) ∗ held (T d) (tcRefs τ sig \ S9) (V1 m d))
      ⊢ (held (T d) (tcRefs τ sig) (V2 m d) : sProp 𝕄) := by
  rw [held_sub_split (T d) S9_sub (V2 m d), held_S9,
    V2_ne m d (r := main_v35) (by decide), V2_ne m d (r := main_v36) (by decide), V2_ne m d (r := main_v37) (by decide), V2_ne m d (r := main_v38) (by decide),
    V2_ne m d (r := main_v11) (by decide), V2_ne m d (r := main_v16) (by decide), V2_ne m d (r := main_v21) (by decide), V2_ne m d (r := main_v34) (by decide), V2_out,
    held_congr (c := T d) (S := tcRefs τ sig \ S9) (V := V2 m d) (V' := V1 m d) fun b hb =>
      Function.update_of_ne (fun e => (Finset.mem_sdiff.mp hb).2 (by rw [e]; simp [S9])) _ _]
  unfold ins
  iintro ⟨⟨⟨HA, HW, HC, HS, HX, HY, HZ, HP⟩, HO⟩, HR⟩
  isplitr [HR]
  · isplitl [HA]
    · iexact HA
    isplitl [HW]
    · iexact HW
    isplitl [HC]
    · iexact HC
    isplitl [HS]
    · iexact HS
    isplitl [HX]
    · iexact HX
    isplitl [HY]
    · iexact HY
    isplitl [HZ]
    · iexact HZ
    isplitl [HP]
    · iexact HP
    · iexact HO
  · iexact HR

omit [FloatOps F] in
theorem unscoped_held (d : Dev nD) : (unscopedBufs d (fun b => m ((SparseCore.T d).loc b)) : sProp 𝕄) = held (T d) (tcRefs τ sig) (V0 m d) := by
  unfold unscopedBufs held tcRefs
  rw [show (Finset.univ.filter fun b : Ref sig .tc => ¬ b.isScoped) = Finset.univ by decide, bigSep_map]
  rfl

/-- What @main leaves: every buffer at what the operations and the call have put there. -/
abbrev FIN (d : Dev nD) : sProp 𝕄 := held (T d) (tcRefs τ sig) (V3 m d)

theorem hmain (κ : GSem nD τ sig → ℕ) (d : Dev nD) :
    iprop((K (F := F)).ctx EH (P (tabs m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d (tcRefs τ sig) _ ops0 (List.forall_iff_forall_mem.1 ops0_sub) (List.forall_iff_forall_mem.1 ops0_fresh) (V0 m d)) $$ [Hb Hheld]
  · isplitl [Hb]
    · iexact Hb
    · iexact Hheld
  iintro ⟨Hb, Hheld⟩
  ihave Hheld := (Entails.of_eq (show (held d.tc (tcRefs τ sig) (after ops0 (V0 m d)) : sProp 𝕄) = held (SparseCore.T d) (tcRefs τ sig) (V1 m d) from rfl)) $$ Hheld
  ihave Hh := (held_before m d) $$ Hheld
  icases Hh with ⟨Hin, Hrest⟩
  rw [wp_bind]
  iapply ((K (F := F)).wp_run (D (F := F)) 𝒱 (EH := EH) (P := P (tabs m)) κ d 0) $$ [Hst Hin Hb Hrest Hts]
  isplitr
  · iexact Hctx
  isplitl [Hst]
  · iexact Hst
  isplitl [Hin]
  · iapply call_in; iexact Hin
  iintro ⟨Hst, Hdn⟩
  ihave Hdn := (Entails.of_eq (call_out (tabs m) d)) $$ Hdn
  ihave Hheld := (held_after m d) $$ [Hdn Hrest]
  · isplitl [Hdn]
    · iexact Hdn
    · iexact Hrest
  rw [show seq (ops1 (F := F)) = (seq (ops1 (F := F)) >>= fun u => Pure.pure u) from (bind_pure _).symm]
  iapply (wp_seq 𝒱 none Set.univ d (tcRefs τ sig) _ ops1 (List.forall_iff_forall_mem.1 ops1_sub) (List.forall_iff_forall_mem.1 ops1_fresh) (V2 m d)) $$ [Hb Hheld]
  · isplitl [Hb]
    · iexact Hb
    · iexact Hheld
  iintro ⟨Hb, Hheld⟩
  rw [wp_pure]; imodintro
  isplitl [Hst]
  · iexact Hst
  isplitl [Hheld]
  · iexact Hheld
  isplitl [Hb]
  · iexact Hb
  · iexact Hts

def fq (d : Dev nD) (s' : Phys nD τ sig (Elt F)) : Prop := ∀ b : Ref sig .tc, s'.mem.mem ((SparseCore.T d).loc b) = V3 m d (dr b)

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (tcRefs τ sig)) $$ [HSI H]
  · isplitl [HSI]
    · iexact HSI
    · iexact H
  ipureintro
  exact fun b => h _ (devRef_mem_tcRefs b)

/-! ## The program's run -/

def QC : PUnit × MemSt nD τ sig (Elt F) → Prop := fun r =>
  (∀ (d : Dev nD) (b : Ref sig .tc), r.2.mem ((SparseCore.T d).loc b) = V3 m d (dr b)) ∧ r.2.sem = fun _ => 0

theorem run_main [∀ e, Nonempty (Elt F e)] (hok : ∀ d, (tabs m d).Ok) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tabs m)) (A := ∅) facts v₀
    (fun q hq => match q with | 0 => nomatch hq)
    (fun q _ => match q with | 0 => tileObl (tabs m) hok facts)
    (fun q _ => match q with | 0 => SparseCore.Cfg.VecSplit.of_plain (vecSplit (tabs m)))
    m ρ main (fun _ => iprop(emp)) (FIN m) (u₀ (F := F)) (sep_elim_left.trans (hu₀ (tabs m))) (hmain m ρ) (fq m) (hfin m) (QC m) (fun _ h hz => ⟨h, hz⟩)

end Cert.Proof

end
-- ==== Proof.Vals.lean ====
/-
  What the host operations put in the buffers the call reads, and what the results are in terms of what the call leaves.
-/
module

public import proofs.«01_k».proof.Proof.Launch

@[expose] public section

noncomputable section

namespace Cert.Proof

open Cert.KernelIdeal Cert.KernelIdeal.Gen

open Idealize.ShloMosaic Idealize.ShloMosaic.TcCoe Idealize.ShloMosaic.StableHlo
open Idealize.SL.Sem

variable {F : FTy → Type} [FloatOps F]
variable (m : (ℓ : Loc nD τ sig) → Buf (Elt F) ℓ) (d : Dev nD)

abbrev at0 : Vec F S1x10000x3 .f32 := m ((SparseCore.T d).loc main_arg0)
abbrev at1 : Vec F S34x1280 .f32 := m ((SparseCore.T d).loc main_arg1)
abbrev at2 : Vec F S1x1280 .i32 := m ((SparseCore.T d).loc main_arg2)
abbrev at3 : Vec F S512x1 .i32 := m ((SparseCore.T d).loc main_arg3)
abbrev at4 : Vec F S512x28 .i32 := m ((SparseCore.T d).loc main_arg4)

/-- The lattice coordinates of the points, and the rows the call handles. -/
def ptsV : Vec F S10000x3 .f32 := shapeCast S10000x3 (at0 m d) shapeCasts_S1x10000x3_S10000x3
def latV : Vec F S10000x3 .i32 :=
  fptosi 32 (Host.floor (Host.divf (ptsV m d) (broadcastInDim S10000x3 ![] bcast_S_S10000x3 (constant S_ .f32 0x3BA3D70A#32))))
def rowsV : Vec F S3856x3 .f32 := extractStridedSlice S3856x3 ![6144, 0] (ptsV m d) slices_S10000x3_S3856x3_6144_0
def rowsI : Vec F S3856x3 .i32 := extractStridedSlice S3856x3 ![6144, 0] (latV m d) slices_S10000x3_S3856x3_6144_0

def padF (x : Vec F S3856 .f32) : Vec F S4096 .f32 :=
  pad S4096 ![0] ![240] ![0] x (id (constant (F := F) S_ .f32 0x41200000#32)) pads_S3856_S4096_02400 h_S_
def padI (x : Vec F S3856 .i32) : Vec F S4096 .i32 :=
  pad S4096 ![0] ![240] ![0] x (id (constantI S_ 32 0#32)) pads_S3856_S4096_02400 h_S_
def rnd (x : Vec F S3856 .f32) : Vec F S3856 .f32 := extf .f32 (truncf .bf16 x bitsLt_bf16_f32) bitsLt_bf16_f32

set_option maxHeartbeats 4000000 in
theorem tabs_A : (tabs m d).A = shapeCast S43520 (at1 m d) shapeCasts_S34x1280_S43520 := by
  show after ops0 (V0 m d) (dr main_v35) = _
  after_results
  rfl
set_option maxHeartbeats 4000000 in
theorem tabs_W : (tabs m d).W = shapeCast S1280 (at2 m d) shapeCasts_S1x1280_S1280 := by
  show after ops0 (V0 m d) (dr main_v36) = _
  after_results
  rfl
set_option maxHeartbeats 4000000 in
theorem tabs_C : (tabs m d).C = shapeCast S512 (at3 m d) shapeCasts_S512x1_S512 := by
  show after ops0 (V0 m d) (dr main_v37) = _
  after_results
  rfl
set_option maxHeartbeats 4000000 in
theorem tabs_S : (tabs m d).S = shapeCast S14336 (at4 m d) shapeCasts_S512x28_S14336 := by
  show after ops0 (V0 m d) (dr main_v38) = _
  after_results
  rfl
set_option maxHeartbeats 4000000 in
theorem tabs_X : (tabs m d).X = padF (rnd (shapeCast S3856 (extractStridedSlice S3856x1 ![0, 0] (rowsV m d) slices_S3856x3_S3856x1_0_0) shapeCasts_S3856x1_S3856)) := by
  show after ops0 (V0 m d) (dr main_v11) = _
  after_results
  rfl
set_option maxHeartbeats 4000000 in
theorem tabs_Y : (tabs m d).Y = padF (rnd (shapeCast S3856 (extractStridedSlice S3856x1 ![0, 1] (rowsV m d) slices_S3856x3_S3856x1_0_1) shapeCasts_S3856x1_S3856)) := by
  show after ops0 (V0 m d) (dr main_v16) = _
  after_results
  rfl
set_option maxHeartbeats 4000000 in
theorem tabs_Z : (tabs m d).Z = padF (rnd (shapeCast S3856 (extractStridedSlice S3856x1 ![0, 2] (rowsV m d) slices_S3856x3_S3856x1_0_2) shapeCasts_S3856x1_S3856)) := by
  show after ops0 (V0 m d) (dr main_v21) = _
  after_results
  rfl

def colI0 : Vec F S3856 .i32 := shapeCast S3856 (extractStridedSlice S3856x1 ![0, 0] (rowsI m d) slices_S3856x3_S3856x1_0_0) shapeCasts_S3856x1_S3856
def colI1 : Vec F S3856 .i32 := shapeCast S3856 (extractStridedSlice S3856x1 ![0, 1] (rowsI m d) slices_S3856x3_S3856x1_0_1) shapeCasts_S3856x1_S3856
def colI2 : Vec F S3856 .i32 := shapeCast S3856 (extractStridedSlice S3856x1 ![0, 2] (rowsI m d) slices_S3856x3_S3856x1_0_2) shapeCasts_S3856x1_S3856

set_option maxHeartbeats 4000000 in
theorem tabs_P : (tabs m d).P = padI (ori (ori (Host.shli (colI0 m d) (broadcastInDim S3856 ![] bcast_S_S3856 (constantI S_ 32 20#32)))
      (Host.shli (colI1 m d) (broadcastInDim S3856 ![] bcast_S_S3856 (constantI S_ 32 10#32)))) (colI2 m d)) := by
  show after ops0 (V0 m d) (dr main_v34) = _
  after_results
  rfl

/-- The result matrix: row per point. -/
def outMat : Vec F S4096x32 .f32 := shapeCast S4096x32 (callOut (tabs m d)) shapeCasts_S131072_S4096x32

theorem V3_out0 : V3 m d (dr main_v41) = extractStridedSlice S3856x17 ![0, 0] (outMat m d) slices_S4096x32_S3856x17_0_0 := by
  show after ops1 (V2 m d) (dr main_v41) = _
  after_results
  unfold outMat
  rw [← V2_out]
  rfl
theorem V3_out1 : V3 m d (dr main_v43) = shapeCast S3856 (extractStridedSlice S3856x1 ![0, 17] (outMat m d) slices_S4096x32_S3856x1_0_17) shapeCasts_S3856x1_S3856 := by
  show after ops1 (V2 m d) (dr main_v43) = _
  after_results
  unfold outMat
  rw [← V2_out]
  rfl
theorem V3_out2 : V3 m d (dr main_v45) = shapeCast S3856 (extractStridedSlice S3856x1 ![0, 18] (outMat m d) slices_S4096x32_S3856x1_0_18) shapeCasts_S3856x1_S3856 := by
  show after ops1 (V2 m d) (dr main_v45) = _
  after_results
  unfold outMat
  rw [← V2_out]
  rfl

/-- A buffer nothing writes ends as it began. -/
theorem V3_kept {r : Ref sig .tc} (h0 : r ∉ writes0) (h1 : r ∉ writes1) (hr : r ≠ main_v39) : V3 m d (dr r) = m ((SparseCore.T d).loc r) := by
  unfold V3
  rw [after_of_writes_sub ops1 (V2 m d) (forall_writes_sub_of_map ops1_writes) h1, V2_ne m d hr]
  unfold V1
  rw [after_of_writes_sub ops0 (V0 m d) (forall_writes_sub_of_map ops0_writes) h0]
  rfl

theorem V3_arg0 : V3 m d (dr main_arg0) = m ((SparseCore.T d).loc main_arg0) := V3_kept m d (by decide) (by decide) (by decide)
theorem V3_arg1 : V3 m d (dr main_arg1) = m ((SparseCore.T d).loc main_arg1) := V3_kept m d (by decide) (by decide) (by decide)
theorem V3_arg2 : V3 m d (dr main_arg2) = m ((SparseCore.T d).loc main_arg2) := V3_kept m d (by decide) (by decide) (by decide)
theorem V3_arg3 : V3 m d (dr main_arg3) = m ((SparseCore.T d).loc main_arg3) := V3_kept m d (by decide) (by decide) (by decide)
theorem V3_arg4 : V3 m d (dr main_arg4) = m ((SparseCore.T d).loc main_arg4) := V3_kept m d (by decide) (by decide) (by decide)

end Cert.Proof

end
-- ==== Proof.Given.lean ====
/-
  The precondition `listed_once_near`, read back as facts of the arguments' elements.
-/
module

public import proofs.«01_k».proof.Defs
public import proofs.«01_k».proof.Proof.Gen.Pre_listed_once_near
public import Idealize.ShloMosaic.Lib.ReduceAll
public import Idealize.ShloMosaic.Lib.ValueIdx
public import Idealize.ShloMosaic.Lib.Pipeline.Value

@[expose] public section

noncomputable section

namespace Cert.Proof

open Idealize.ShloMosaic
open Idealize.ShloMosaic.ValueIdx (ix1 ix2 ix3)
open Cert.Pre_listed_once_near (S_ S1280 S512 S1280x512 S1280x512x28 S1x10000x3 S34x1280 S1x1280 S512x1 S512x28)
open Cert.Pre_listed_once_near.Gen

variable {F : FTy → Type} [FloatOps F]

/-- Gaussian `g` stands in slot `j` of cell `c`'s list. -/
def Listed (a3 : IVec S512x1 32) (a4 : IVec S512x28 32) (g : Fin 1280) (c : Fin 512) (j : Fin 28) : Prop :=
  a4 (ix2 c j) = IntOp.addi (BitVec.ofNat 32 g.val) 1#32 ∧ (BitVec.ofNat 32 j.val).toInt < (a3 (ix2 c 0)).toInt

/-- A coordinate of gaussian `w`'s cell less the cell's corner is from 0 to 25. -/
def NearBy (u v : BitVec 32) : Prop := 0 ≤ (IntOp.subi u v).toInt ∧ (IntOp.subi u v).toInt ≤ 25

def meanX (w : BitVec 32) : BitVec 32 := IntOp.andi (IntOp.shrsi .host w 16#32) 255#32
def meanY (w : BitVec 32) : BitVec 32 := IntOp.andi (IntOp.shrsi .host w 8#32) 255#32
def meanZ (w : BitVec 32) : BitVec 32 := IntOp.andi w 255#32
def cornerX (c : ℕ) : BitVec 32 := IntOp.muli 25#32 (IntOp.shrsi .host (BitVec.ofNat 32 c) 6#32)
def cornerY (c : ℕ) : BitVec 32 := IntOp.muli 25#32 (IntOp.andi (IntOp.shrsi .host (BitVec.ofNat 32 c) 3#32) 7#32)
def cornerZ (c : ℕ) : BitVec 32 := IntOp.muli 25#32 (IntOp.andi (BitVec.ofNat 32 c) 7#32)

/-- What the precondition says of the arguments. -/
structure Given (a0 : FVec F S1x10000x3 .f32) (a2 : IVec S1x1280 32) (a3 : IVec S512x1 32) (a4 : IVec S512x28 32) : Prop where
  pts : ∀ i, FloatOps.cmpf .oge (a0 i) (FloatOps.ofBits .f32 0x00000000#32) = 1#1 ∧ FloatOps.cmpf .olt (a0 i) (FloatOps.ofBits .f32 0x3F800000#32) = 1#1
  counts : ∀ i, 0 ≤ (a3 i).toInt ∧ (a3 i).toInt ≤ 28
  slots : ∀ i, 0 ≤ (a4 i).toInt ∧ (a4 i).toInt ≤ 1280
  words : ∀ g : Fin 1280, 0 ≤ (a2 (ix2 0 g)).toInt ∧ (IntOp.shrsi .host (a2 (ix2 0 g)) 24#32).toInt ≤ 10
  once : ∀ g : Fin 1280, ∃ c j, Listed a3 a4 g c j ∧ ∀ c' j', Listed a3 a4 g c' j' → c' = c ∧ j' = j
  near : ∀ g c j, Listed a3 a4 g c j → NearBy (meanX (a2 (ix2 0 g))) (cornerX c.val) ∧ NearBy (meanY (a2 (ix2 0 g))) (cornerY c.val)
    ∧ NearBy (meanZ (a2 (ix2 0 g))) (cornerZ c.val)

theorem foldl_addi (l : List ℕ) (b : BitVec 32) : l.foldl (fun r n => IntOp.addi r (BitVec.ofNat 32 n)) b = b + BitVec.ofNat 32 l.sum := by
  induction l generalizing b with
  | nil => simp
  | cons a l ih =>
    rw [List.foldl_cons, ih, List.sum_cons]
    show b + _ + _ = _
    rw [BitVec.ofNat_add, BitVec.add_assoc]

/-- A sum by `addi` of words 0 and 1 that came out 1 has exactly one 1. -/
theorem one_of_sum {ι : Type} (l : List ι) (hl : l.length < 2 ^ 32) (hn : l.Nodup) (p : ι → BitVec 1)
    (h : l.foldl (fun r n => IntOp.addi r ((p n).setWidth 32)) 0#32 = 1#32) :
    ∃ i, i ∈ l ∧ p i = 1#1 ∧ ∀ k, k ∈ l → p k = 1#1 → k = i := by
  have h1 : l.foldl (fun r n => IntOp.addi r ((p n).setWidth 32)) 0#32 = 0#32 + BitVec.ofNat 32 (l.countP fun n => p n = 1#1) := by
    generalize 0#32 = b
    clear h hl hn
    induction l generalizing b with
    | nil => simp
    | cons a l ih =>
      rw [List.foldl_cons, ih, List.countP_cons, BitVec.ofNat_add]
      rcases BitVec.eq_zero_or_eq_one (p a) with e | e <;> rw [e]
      · show b + 0#32 + _ = _
        simp
      · show b + 1#32 + _ = _
        simp [BitVec.add_assoc, BitVec.add_comm]
  have h2 : l.countP (fun n => p n = 1#1) = 1 := by
    have hle := List.countP_le_length (p := fun n => decide (p n = 1#1)) (l := l)
    rw [h1] at h
    have := congrArg BitVec.toNat h
    simp at this
    omega
  rw [List.countP_eq_length_filter] at h2
  obtain ⟨i, hi⟩ := List.length_eq_one_iff.1 h2
  have hm : ∀ k, k ∈ l ∧ p k = 1#1 ↔ k = i := fun k => by
    have : k ∈ l.filter (fun n => p n = 1#1) ↔ k = i := by rw [hi, List.mem_singleton]
    rw [← this, List.mem_filter]; simp
  exact ⟨i, ((hm i).2 rfl).1, ((hm i).2 rfl).2, fun k hk hp => (hm k).1 ⟨hk, hp⟩⟩

section Spread

variable {α : Type} (g : Fin 1280) (c : Fin 512) (j : Fin 28)

theorem spread_g (x : S1280.Idx → α) : broadcastInDim S1280x512x28 ![0, 1, 2] bcast_S1280x1x1_S1280x512x28_0_1_2
    (broadcastInDim Cert.Pre_listed_once_near.S1280x1x1 ![0] bcast_S1280_S1280x1x1_0 x) (ix3 g c j) = x (ix1 g) :=
  congrArg x (funext fun a => match a with | ⟨0, _⟩ => rfl)
theorem spread_cj (x : S512x28.Idx → α) : broadcastInDim S1280x512x28 ![0, 1, 2] bcast_S1x512x28_S1280x512x28_0_1_2
    (broadcastInDim Cert.Pre_listed_once_near.S1x512x28 ![1, 2] bcast_S512x28_S1x512x28_1_2 x) (ix3 g c j) = x (ix2 c j) :=
  congrArg x (funext fun a => match a with | ⟨0, _⟩ => rfl | ⟨1, _⟩ => rfl)
theorem spread_c (x : S512x1.Idx → α) : broadcastInDim S512x28 ![0, 1] bcast_S512x1_S512x28_0_1 x (ix2 c j) = x (ix2 c 0) :=
  congrArg x (funext fun a => match a with | ⟨0, _⟩ => rfl | ⟨1, _⟩ => rfl)
theorem spread_gc (x : S1280x512.Idx → α) : broadcastInDim S1280x512x28 ![0, 1, 2] bcast_S1280x512x1_S1280x512x28_0_1_2
    (broadcastInDim Cert.Pre_listed_once_near.S1280x512x1 ![0, 1] bcast_S1280x512_S1280x512x1_0_1 x) (ix3 g c j) = x (ix2 g c) :=
  congrArg x (funext fun a => match a with | ⟨0, _⟩ => rfl | ⟨1, _⟩ => rfl)
theorem spread_w (x : S1280.Idx → α) : broadcastInDim S1280x512 ![0, 1] bcast_S1280x1_S1280x512_0_1
    (broadcastInDim Cert.Pre_listed_once_near.S1280x1 ![0] bcast_S1280_S1280x1_0 x) (ix2 g c) = x (ix1 g) :=
  congrArg x (funext fun a => match a with | ⟨0, _⟩ => rfl)
theorem spread_k (x : S512.Idx → α) : broadcastInDim S1280x512 ![0, 1] bcast_S1x512_S1280x512_0_1
    (broadcastInDim Cert.Pre_listed_once_near.S1x512 ![1] bcast_S512_S1x512_1 x) (ix2 g c) = x (ix1 c) :=
  congrArg x (funext fun a => match a with | ⟨0, _⟩ => rfl)

end Spread

theorem listed_at (a3 : IVec S512x1 32) (a4 : IVec S512x28 32) (g : Fin 1280) (c : Fin 512) (j : Fin 28) : andi (cmpi .eq
        (broadcastInDim S1280x512x28 ![0, 1, 2] bcast_S1x512x28_S1280x512x28_0_1_2 (broadcastInDim Cert.Pre_listed_once_near.S1x512x28 ![1, 2] bcast_S512x28_S1x512x28_1_2 a4))
        (broadcastInDim S1280x512x28 ![0, 1, 2] bcast_S1280x1x1_S1280x512x28_0_1_2
          (broadcastInDim Cert.Pre_listed_once_near.S1280x1x1 ![0] bcast_S1280_S1280x1x1_0
            (addi (iotaInDim S1280 32 0) (broadcastInDim S1280 ![] bcast_S_S1280 (constantI S_ 32 1#32))))))
      (broadcastInDim S1280x512x28 ![0, 1, 2] bcast_S1x512x28_S1280x512x28_0_1_2
        (broadcastInDim Cert.Pre_listed_once_near.S1x512x28 ![1, 2] bcast_S512x28_S1x512x28_1_2
          (cmpi .slt (iotaInDim S512x28 32 1) (broadcastInDim S512x28 ![0, 1] bcast_S512x1_S512x28_0_1 a3)))) (ix3 g c j)
      = IntOp.andi (IntOp.cmpi .eq (a4 (ix2 c j)) (IntOp.addi (BitVec.ofNat 32 g.val) 1#32))
      (IntOp.cmpi .slt (BitVec.ofNat 32 j.val) (a3 (ix2 c 0))) := by
    unfold andi
    unfold cmpi
    dsimp only
    rw [spread_cj, spread_g, spread_cj, spread_c]
    rfl

theorem word_at (a2 : IVec S1x1280 32) (g : Fin 1280) : shapeCast S1280 a2 shapeCasts_S1x1280_S1280 (ix1 g) = a2 (ix2 0 g) := by
    exact shapeCast_apply a2 shapeCasts_S1x1280_S1280 (ix1 g) (ix2 0 g)
      (by rewrite [Shape.rowMajor_val_two, Shape.rowMajor_val_one]; show 0 * 1280 + g.val = g.val; omega)

/-- `listed_once_near` says what `Given` does. -/
theorem given_of_pre (a0 : FVec F S1x10000x3 .f32) (a1 : FVec F S34x1280 .f32) (a2 : IVec S1x1280 32) (a3 : IVec S512x1 32) (a4 : IVec S512x28 32)
    (h : Cert.Pre_listed_once_near.fn a0 a1 a2 a3 a4 = fun _ => 1#1) : Given a0 a2 a3 a4 := by
  have e := congrFun h ValueIdx.ix0
  have hsub : Subsingleton S_.Idx := ⟨fun a b => funext fun i => i.elim0⟩
  dsimp only [Cert.Pre_listed_once_near.fn, Cert.Pre_listed_once_near.fn_part1, Cert.Pre_listed_once_near.fn_part2,
    Cert.Pre_listed_once_near.fn_part3, Cert.Pre_listed_once_near.fn_part4, Cert.Pre_listed_once_near.fn_part5,
    Cert.Pre_listed_once_near.fn_part6] at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  have f1 := Host.reduce_andi_all _ _ _ _ _ e1
  have f2 := Host.reduce_andi_all _ _ _ _ _ e2
  have f3 := Host.reduce_andi_all _ _ _ _ _ e3
  have f4 := Host.reduce_andi_all _ _ _ _ _ e4
  have f5 := Host.reduce_andi_all _ _ _ _ _ e5
  have f6 := Host.reduce_andi_all _ _ _ _ _ e6
  clear e e1 e2 e3 e4 e5 e6 h
  have hd : ∀ (g : Fin 1280) (c : Fin 512) (j : Fin 28) (g' : Fin 1280),
      reducesTo_S1280x512x28_S1280_d1_2.drop (ix3 g c j) = ix1 g' ↔ g = g' := fun g c j g' =>
    ⟨fun h => congrFun h 0, fun h => by subst h; funext a; rw [Fin.eq_zero a]; rfl⟩
  have at_l := listed_at a3 a4
  have hw := word_at a2
  have key : ∀ (g : Fin 1280) (c : Fin 512) (j : Fin 28), Listed a3 a4 g c j ↔ IntOp.andi (IntOp.cmpi .eq (a4 (ix2 c j)) (IntOp.addi (BitVec.ofNat 32 g.val) 1#32))
      (IntOp.cmpi .slt (BitVec.ofNat 32 j.val) (a3 (ix2 c 0))) = 1#1 := fun g c j => by
    rw [IntOp.andi_eq_one, IntOp.cmpi_eq, IntOp.cmpi_slt]; rfl
  refine ⟨fun i => ?_, fun i => ?_, fun i => ?_, fun g => ?_, fun g => ?_, fun g c j hl => ?_⟩
  · exact IntOp.andi_eq_one.1 (f1 i)
  · obtain ⟨u, v⟩ := IntOp.andi_eq_one.1 (f2 i)
    exact ⟨IntOp.cmpi_sge.1 u, IntOp.cmpi_sle.1 v⟩
  · obtain ⟨u, v⟩ := IntOp.andi_eq_one.1 (f3 i)
    exact ⟨IntOp.cmpi_sge.1 u, IntOp.cmpi_sle.1 v⟩
  · obtain ⟨u, v⟩ := IntOp.andi_eq_one.1 (f4 (ix1 g))
    rw [← hw]
    exact ⟨IntOp.cmpi_sge.1 u, IntOp.cmpi_sle.1 v⟩
  · have t := IntOp.cmpi_eq.1 (f5 (ix1 g))
    clear f1 f2 f3 f4 f5 f6
    rw [Host.reduce_eq_foldl] at t
    obtain ⟨i, hi, hp, hu⟩ := one_of_sum _ ((List.length_filter_le _ _).trans_lt (by
        rw [List.length_map, List.length_finRange]; decide))
      ((((List.nodup_finRange _).map (Equiv.injective _))).filter _) _ t
    have hall : ∀ c' j', ix3 g c' j' ∈ List.filter (fun i => decide (reducesTo_S1280x512x28_S1280_d1_2.drop i = ix1 g))
        (List.map (⇑(S1280x512x28.rowMajor.symm)) (List.finRange S1280x512x28.numel)) := fun c' j' => by
      rw [List.mem_filter]
      exact ⟨List.mem_map.2 ⟨S1280x512x28.rowMajor (ix3 g c' j'), List.mem_finRange _, Equiv.symm_apply_apply _ _⟩, by
        rw [decide_eq_true_eq, hd]⟩
    rw [ValueIdx.eq_ix3 i] at hi hp hu
    have hg : i 0 = g := (hd _ _ _ _).1 (of_decide_eq_true (List.mem_filter.1 hi).2)
    rw [hg] at hi hp hu
    refine ⟨i 1, i 2, (key g _ _).2 (at_l g _ _ ▸ hp), fun c' j' hl => ?_⟩
    have := hu _ (hall c' j') ((at_l g c' j').trans ((key g c' j').1 hl))
    exact ⟨congrFun this 1, congrFun this 2⟩
  · have hk := (key g c j).1 hl
    have t6 := f6 (ix3 g c j)
    clear f1 f2 f3 f4 f5 f6
    unfold ori noti at t6
    rw [at_l] at t6
    rcases IntOp.ori_eq_one.1 t6 with t | t
    · exact absurd hk (IntOp.not_eq_one.1 t)
    · rw [spread_gc] at t
      obtain ⟨t, z2⟩ := IntOp.andi_eq_one.1 t
      obtain ⟨t, z1⟩ := IntOp.andi_eq_one.1 t
      obtain ⟨t, y2⟩ := IntOp.andi_eq_one.1 t
      obtain ⟨t, y1⟩ := IntOp.andi_eq_one.1 t
      obtain ⟨t, x2⟩ := IntOp.andi_eq_one.1 t
      obtain ⟨t, x1⟩ := IntOp.andi_eq_one.1 t
      clear t t6
      have cv : ∀ u v : S1280x512.Idx → BitVec 32, subi u v (ix2 g c) = IntOp.subi (u (ix2 g c)) (v (ix2 g c)) := fun _ _ => rfl
      have x1 := IntOp.cmpi_sge.1 x1
      have x2 := IntOp.cmpi_sle.1 x2
      have y1 := IntOp.cmpi_sge.1 y1
      have y2 := IntOp.cmpi_sle.1 y2
      have z1 := IntOp.cmpi_sge.1 z1
      have z2 := IntOp.cmpi_sle.1 z2
      rw [cv, spread_w, spread_k] at x1 x2 y1 y2 z1 z2
      rw [← hw]
      exact ⟨⟨x1, x2⟩, ⟨y1, y2⟩, ⟨z1, z2⟩⟩

end Cert.Proof

end
-- ==== Proof.Frames.lean ====
/-
  The frame claims: the programs run, end with their arguments as they were, and leave every semaphore at zero.
-/
module

public import proofs.«01_k».proof.Proof.Vals
public import proofs.«01_k».proof.Proof.Given
public import proofs.«01_k».proof.Proof.Gen.Kernel
public import proofs.«01_k».proof.Proof.Gen.ReferenceIdeal.Run

@[expose] public section

noncomputable section

namespace Cert.Proof

open Cert.KernelIdeal Cert.KernelIdeal.Gen

open Idealize.ShloMosaic Idealize.ShloMosaic.TcCoe
open Idealize.SL.Sem

section Any

variable {F : FTy → Type} [FloatOps F]
variable (m : (ℓ : Loc nD τ sig) → Buf (Elt F) ℓ)

/-- The precondition of one device's arguments. -/
abbrev GivenAt (d : Dev nD) : Prop := Given (F := F) (at0 m d) (at2 m d) (at3 m d) (at4 m d)

theorem ok_of_given (d : Dev nD) (h : GivenAt m d) : (tabs m d).Ok := by
  have key : ∀ (v : BitVec 32) (n : ℤ), n < 2 ^ 31 → 0 ≤ v.toInt → v.toInt ≤ n → (v.toNat : ℤ) ≤ n := fun v n hn h0 h1 => by
    rw [BitVec.toInt_eq_toNat_cond] at h0 h1
    have := v.isLt
    split at h0 <;> omega
  constructor
  · intro k
    rw [tabs_C]
    have := h.counts
    unfold rd shapeCast
    refine Int.ofNat_le.1 (key _ 28 (by norm_num) ?_ ?_)
    · exact (this _).1
    · exact (this _).2
  · intro k
    rw [tabs_S]
    have := h.slots
    unfold rd shapeCast
    refine Int.ofNat_le.1 (key _ 1280 (by norm_num) ?_ ?_)
    · exact (this _).1
    · exact (this _).2

theorem run_frame [∀ e, Nonempty (Elt F e)] (ρ : Dev nD → PrngReg) (h : ∀ d, GivenAt m d) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun _ h => ⟨fun c => ⟨(h.1 c main_arg0).trans (V3_arg0 m c), (h.1 c main_arg1).trans (V3_arg1 m c),
      (h.1 c main_arg2).trans (V3_arg2 m c), (h.1 c main_arg3).trans (V3_arg3 m c), (h.1 c main_arg4).trans (V3_arg4 m c)⟩, h.2⟩)
    (run_main m ρ fun d => ok_of_given m d (h d))

end Any

theorem frame_ki : Cert.quiescent_KernelIdeal := fun m ρ h =>
  run_frame (F := Ideal) m ρ fun d => given_of_pre _ _ _ _ _ (h d)

theorem defs_same : Cert.Kernel.defs (F := Bits) = Cert.KernelIdeal.defs (F := Bits) := rfl
theorem threads_same : Cert.Kernel.threads (F := Bits) = Cert.KernelIdeal.threads (F := Bits) := rfl

theorem frame_k : Cert.quiescent_Kernel := by
  intro m ρ h
  have h' : ∀ d, GivenAt (F := Bits) m d := fun d => given_of_pre (F := Bits) _ _ _ _ _ (h d)
  have key := run_frame (F := Bits) m ρ h'
  rw [← defs_same, ← threads_same] at key
  exact key

theorem frame_ri : Cert.quiescent_ReferenceIdeal := by
  intro m ρ _
  exact (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)

end Cert.Proof

end
-- ==== Proof.Sum.lean ====
/-
  The tile's output over the extended reals, one element at a time: the scatters of the model add their terms, so an
  element is a sum over the cells around its point and over the slots of each cell.
-/
module

public import proofs.«01_k».proof.Proof.Words
public import proofs.«01_k».proof.Proof.Model
public import Idealize.ShloMosaic.PureOps.Ideal
public import Idealize.ShloMosaic.PureOps.Ideal.Laws
public import Idealize.ShloMosaic.Lib.Affine
public import Idealize.ShloMosaic.Lib.ValueIdx

@[expose] public section

noncomputable section

namespace Cert.Proof

open Idealize.ShloMosaic
open Cert.KernelIdeal (S16 S128 S512 S1280 S4096 S14336 S43520)

/-! ## A scatter -/

theorem foldl_add_if {ι κ : Type} [DecidableEq κ] (p : ι → Prop) [DecidablePred p] (at' : ι → κ) (val : ι → EReal) (l : List ι) (f : κ → EReal) (y : κ) :
    l.foldl (fun g k => if p k then (fun j => if j = at' k then g (at' k) + val k else g j) else g) f y
      = f y + (l.map fun k => if at' k = y ∧ p k then val k else 0).sum := by
  induction l generalizing f with
  | nil => simp
  | cons a l ih =>
    rw [List.foldl_cons, ih, List.map_cons, List.sum_cons, ← add_assoc]
    congr 1
    by_cases hp : p a
    · rw [if_pos hp]
      by_cases hy : y = at' a
      · rw [if_pos hy, if_pos ⟨hy.symm, hp⟩, hy]
      · rw [if_neg hy, if_neg fun h => hy h.1.symm, add_zero]
    · rw [if_neg hp, if_neg fun h => hp h.2, add_zero]

theorem scat_at (f : Vec Ideal S4096 .f32) (v : IVec S16 32) (val : FVec Ideal S16 .f32) (mask : IVec S16 1) (hv : ∀ k, (v (ln k)).toNat < 4096)
    (y : ℕ) (hy : y < 4096) :
    (rd (scat f v val mask) y : EReal) = (rd f y : EReal) + ∑ k : Fin 16, if (v (ln k)).toNat = y ∧ mask (ln k) = 1#1 then (val (ln k) : EReal) else 0 := by
  have hv' : ∀ a x, ((![v] : Fin 1 → IVec S16 32) a x).toNat < S4096.size a := fun a x => by
    rw [Fin.eq_zero a]
    obtain ⟨k, rfl⟩ := ln_surj x
    exact hv k
  have hs : scat f v val mask = storeIdx f ![v] val mask true hv' := (storeIdx_eq f v val mask hv').symm
  rw [hs]
  have hf := foldl_add_if (fun k : Fin 16 => mask (ln k) = 1#1) (fun k => idxAt (s := S4096) ![v] hv' (ln k)) (fun k => (val (ln k) : EReal))
    (List.finRange 16) f (fun a => ⟨y % 4096, by rw [Fin.eq_zero a]; exact Nat.mod_lt _ (by norm_num)⟩)
  have hidx : ∀ (k : Fin 16), (idxAt (s := S4096) ![v] hv' (ln k) = fun a => ⟨y % 4096, by rw [Fin.eq_zero a]; exact Nat.mod_lt _ (by norm_num)⟩)
      ↔ (v (ln k)).toNat = y := fun k => by
    constructor
    · intro h
      have := congrArg Fin.val (congrFun h 0)
      exact this.trans (Nat.mod_eq_of_lt hy)
    · intro h
      funext a
      refine Fin.ext ?_
      rw [Fin.eq_zero a]
      exact h.trans (Nat.mod_eq_of_lt hy).symm
  simp only [hidx] at hf
  have hst : storeIdx f ![v] val mask true hv' = (List.finRange 16).foldl (fun (g : S4096.Idx → EReal) k => if mask (ln k) = 1#1
      then (fun j => if j = idxAt (s := S4096) ![v] hv' (ln k) then g (idxAt (s := S4096) ![v] hv' (ln k)) + (val (ln k) : EReal) else g j) else g) f := by
    unfold storeIdx
    refine List.foldl_ext _ _ _ fun g k _ => ?_
    by_cases hm : mask (ln k) = 1#1
    · refine (if_pos hm).trans (Eq.trans ?_ (if_pos hm).symm)
      funext j
      by_cases hj : j = idxAt (s := S4096) ![v] hv' (ln k)
      · have hj' : ∀ a, (j a).val = (idxAt (s := S4096) ![v] hv' (ln k) a).val := fun a => by rw [hj]
        exact (if_pos hj').trans (if_pos hj).symm
      · have hj' : ¬ ∀ a, (j a).val = (idxAt (s := S4096) ![v] hv' (ln k) a).val := fun h => hj (funext fun a => Fin.ext (h a))
        exact (if_neg hj').trans (if_neg hj).symm
    · exact (if_neg hm).trans (if_neg hm).symm
  rw [hst, ← List.sum_ofFn, List.ofFn_eq_map]
  exact hf

theorem baseOf_toNat (t : ℕ) (ht : t < 8) (c : ℕ) (hc : c < 32) (l : Fin 16) :
    (addi (baseOf t) (broadcast S16 (BitVec.ofNat 32 c)) (ln l)).toNat = (16 * t + l.val) * 32 + c := by
  show (BitVec.ofNat 32 ((16 * t + l.val) * 32) + BitVec.ofNat 32 c).toNat = _
  rw [← BitVec.ofNat_add, BitVec.toNat_ofNat]
  exact Nat.mod_eq_of_lt (by have := l.isLt; omega)

/-- Row `16 t' + l'` of the output, column `k`, after group `t`'s scatter into column `c`. -/
theorem scat_row (f : Vec Ideal S4096 .f32) (t : ℕ) (ht : t < 8) (c : ℕ) (hc : c < 32) (val : FVec Ideal S16 .f32) (mask : IVec S16 1)
    (t' : ℕ) (ht' : t' < 8) (l' : Fin 16) (k : ℕ) (hk : k < 32) :
    (rd (scat f (addi (baseOf t) (broadcast S16 (BitVec.ofNat 32 c))) val mask) (32 * (16 * t' + l'.val) + k) : EReal)
      = (rd f (32 * (16 * t' + l'.val) + k) : EReal) + if t = t' ∧ c = k ∧ mask (ln l') = 1#1 then (val (ln l') : EReal) else 0 := by
  have hl := l'.isLt
  rw [scat_at _ _ _ _ (fun l => by rw [baseOf_toNat t ht c hc]; have := l.isLt; omega) _ (by omega)]
  congr 1
  rw [Finset.sum_eq_single l']
  · refine if_congr ?_ rfl rfl
    rw [baseOf_toNat t ht c hc]
    constructor
    · rintro ⟨h, hm⟩; exact ⟨by omega, by omega, hm⟩
    · rintro ⟨rfl, rfl, hm⟩; exact ⟨by omega, hm⟩
  · intro l _ hne
    refine if_neg fun h => hne (Fin.ext ?_)
    rw [baseOf_toNat t ht c hc] at h
    have := l.isLt
    omega
  · intro h; exact absurd (Finset.mem_univ _) h

/-! ## A gaussian's contribution -/

/-- What the gaussian numbered `g` adds to column `k`, its weight being `a`: the weighted feature, or in column 18 the weight. -/
def colS (A : Vec Ideal S43520 .f32) (a : EReal) (g k : ℕ) : EReal := if k = 18 then a else a * (rd A (1280 * (9 + k) + g) : EReal)

theorem row_at (A : Vec Ideal S43520 .f32) (gid : IVec S16 32) (l : Fin 16) (c : ℕ) (hc : c < 43520) (hg : (gid (ln l)).toNat < 1280) :
    row A gid (BitVec.ofNat 32 c) (ln l) = rd A (c + (gid (ln l)).toNat) := by
  unfold row gath
  refine congrArg (rd A) ?_
  show (BitVec.ofNat 32 c + gid (ln l)).toNat = _
  rw [BitVec.toNat_add, BitVec.toNat_ofNat, Nat.mod_eq_of_lt (by omega : c < 2 ^ 32)]
  exact Nat.mod_eq_of_lt (by omega)

theorem putN_row (A : Vec Ideal S43520 .f32) (gid : IVec S16 32) (t : ℕ) (ht : t < 8) (hit : IVec S16 1) (a : FVec Ideal S16 .f32)
    (f : Vec Ideal S4096 .f32) (t' : ℕ) (ht' : t' < 8) (l' : Fin 16) (hg : (gid (ln l')).toNat < 1280) (k : ℕ) (hk : k < 19) (n : ℕ) (hn : n ≤ 18) :
    (rd (putN A gid (baseOf t) hit a f n) (32 * (16 * t' + l'.val) + k) : EReal)
      = (rd f (32 * (16 * t' + l'.val) + k) : EReal)
        + if t = t' ∧ (k = 18 ∨ k < n) ∧ hit (ln l') = 1#1 then colS A (a (ln l')) (gid (ln l')).toNat k else 0 := by
  induction n with
  | zero =>
    rw [show putN A gid (baseOf t) hit a f 0 = scat f (addi (baseOf t) (broadcast S16 (BitVec.ofNat 32 18))) a hit from rfl,
      scat_row f t ht 18 (by norm_num) _ _ t' ht' l' k (by omega)]
    congr 1
    by_cases hk : k = 18
    · subst hk
      rw [colS, if_pos rfl]
      exact if_congr (by simp) rfl rfl
    · rw [if_neg (fun h => hk h.2.1.symm), if_neg (by rintro ⟨_, h | h, _⟩ <;> omega)]
  | succ n ih =>
    rw [show putN A gid (baseOf t) hit a f (n + 1) = scat (putN A gid (baseOf t) hit a f n) (addi (baseOf t) (broadcast S16 (BitVec.ofNat 32 n)))
        (mulf a (row A gid (BitVec.ofNat 32 (1280 * (9 + n))))) hit from rfl,
      scat_row _ t ht n (by omega) _ _ t' ht' l' k (by omega), ih (by omega), add_assoc]
    congr 1
    by_cases hk : n = k
    · subst hk
      rw [if_neg (by rintro ⟨_, h | h, _⟩ <;> omega), zero_add]
      have hv : (mulf a (row A gid (BitVec.ofNat 32 (1280 * (9 + n)))) (ln l') : EReal) = colS A (a (ln l')) (gid (ln l')).toNat n := by
        rw [colS, if_neg (by omega : n ≠ 18), ← row_at A gid l' (1280 * (9 + n)) (by omega) hg]
        rfl
      rw [hv]
      exact if_congr (by simp) rfl rfl
    · rw [if_neg (fun h : t = t' ∧ n = k ∧ hit (ln l') = 1#1 => hk h.2.1), add_zero]
      exact if_congr (by constructor <;> (rintro ⟨h1, h2, h3⟩; exact ⟨h1, by omega, h3⟩)) rfl rfl

/-! ## A slot -/

/-- Along one axis, the weighted square of the point's distance from the gaussian `g`. -/
def axisS (A : Vec Ideal S43520 .f32) (px py pz : EReal) (g k : ℕ) : EReal :=
  (px * rd A (1280 * (3 * k) + g) + py * rd A (1280 * (3 * k + 1) + g) + pz * rd A (1280 * (3 * k + 2) + g) - rd A (1280 * (30 + k) + g))
    * (px * rd A (1280 * (3 * k) + g) + py * rd A (1280 * (3 * k + 1) + g) + pz * rd A (1280 * (3 * k + 2) + g) - rd A (1280 * (30 + k) + g))
    * rd A (1280 * (27 + k) + g)

/-- The gaussian's weight at the point. -/
def ampS (A : Vec Ideal S43520 .f32) (px py pz : EReal) (g : ℕ) : EReal :=
  Ideal.exp ((axisS A px py pz g 0 + axisS A px py pz g 1 + axisS A px py pz g 2) * Ideal.ofBits .f32 0xBF000000#32)
    * rd A (1280 * 33 + g)

/-- Whether the point is within the gaussian's radius on every axis. -/
def hitS (w x y z : BitVec 32) : Prop :=
  IntOp.cmpi .sle (IntOp.absi (IntOp.subi x (IntOp.andi (IntOp.shrsi .vector w 16#32) 255#32))) (IntOp.shrsi .vector w 24#32) = 1#1
  ∧ IntOp.cmpi .sle (IntOp.absi (IntOp.subi y (IntOp.andi (IntOp.shrsi .vector w 8#32) 255#32))) (IntOp.shrsi .vector w 24#32) = 1#1
  ∧ IntOp.cmpi .sle (IntOp.absi (IntOp.subi z (IntOp.andi w 255#32))) (IntOp.shrsi .vector w 24#32) = 1#1

instance (w x y z : BitVec 32) : Decidable (hitS w x y z) := by unfold hitS; infer_instance

section

variable (A : Vec Ideal S43520 .f32) (W : Vec Ideal S1280 .i32) (S : Vec Ideal S14336 .i32)
variable (px py pz : FVec Ideal S16 .f32) (x y z cell cnt : IVec S16 32) (l : Fin 16)

/-- The entry of slot `j` of cell `c`. -/
def entry (c j : ℕ) : ℕ := (rd S (28 * c + j) : BitVec 32).toNat

theorem lt_toInt (a b : ℕ) (v : BitVec 32) (hv : v.toNat = b) (ha : a < 2 ^ 31) (hb : b < 2 ^ 31) :
    IntOp.cmpi .slt (BitVec.ofNat 32 a) v = 1#1 ↔ a < b := by
  rw [IntOp.cmpi_slt, BitVec.toInt_eq_toNat_cond, BitVec.toInt_eq_toNat_cond, hv, BitVec.toNat_ofNat, Nat.mod_eq_of_lt (by omega : a < 2 ^ 32)]
  rw [if_pos (by omega), if_pos (by omega)]
  omega

theorem slotOf_at (hcell : (cell (ln l)).toNat < 512) (hcnt : (cnt (ln l)).toNat ≤ 28) (j : ℕ) (hj : j < (cnt (ln l)).toNat) :
    ((slotOf S cell cnt (BitVec.ofNat 32 j) (ln l) : BitVec 32)).toNat = entry S (cell (ln l)).toNat j := by
  have h1 : inCell cnt (BitVec.ofNat 32 j) (ln l) = 1#1 := (lt_toInt _ _ _ rfl (by omega) (by omega)).2 hj
  unfold slotOf gath entry
  refine congrArg (fun k => (rd S k : BitVec 32).toNat) ?_
  show (Scalar.select (inCell cnt (BitVec.ofNat 32 j) (ln l)) (cell (ln l) * 28#32 + BitVec.ofNat 32 j) 0#32 : BitVec 32).toNat = _
  rw [h1]
  show (cell (ln l) * 28#32 + BitVec.ofNat 32 j).toNat = _
  rw [BitVec.toNat_add, BitVec.toNat_mul, BitVec.toNat_ofNat, BitVec.toNat_ofNat, Nat.mod_eq_of_lt (by omega : j < 2 ^ 32),
    Nat.mod_eq_of_lt (by omega : 28 < 2 ^ 32), Nat.mod_eq_of_lt (by omega : (cell (ln l)).toNat * 28 < 2 ^ 32), Nat.mod_eq_of_lt (by omega)]
  omega

theorem named_at (hS : ∀ k, (rd S k : BitVec 32).toNat ≤ 1280) (hcell : (cell (ln l)).toNat < 512) (hcnt : (cnt (ln l)).toNat ≤ 28) (j : ℕ) (hj : j < 28) :
    named S cell cnt (BitVec.ofNat 32 j) (ln l) = 1#1 ↔ j < (cnt (ln l)).toNat ∧ 0 < entry S (cell (ln l)).toNat j := by
  have h1 : inCell cnt (BitVec.ofNat 32 j) (ln l) = 1#1 ↔ j < (cnt (ln l)).toNat := lt_toInt _ _ _ rfl (by omega) (by omega)
  show IntOp.andi (inCell cnt (BitVec.ofNat 32 j) (ln l)) (IntOp.cmpi .sgt (slotOf S cell cnt (BitVec.ofNat 32 j) (ln l)) 0#32) = 1#1 ↔ _
  rw [IntOp.andi_eq_one, h1]
  refine and_congr_right fun hj' => ?_
  have h2 := slotOf_at S cell cnt l hcell hcnt j hj'
  have h3 := hS (28 * (cell (ln l)).toNat + j)
  have h4 : entry S (cell (ln l)).toNat j ≤ 1280 := h3
  rw [IntOp.cmpi_sgt, BitVec.toInt_eq_toNat_cond, BitVec.toInt_eq_toNat_cond, h2, if_pos (by simp), if_pos (by omega)]
  simp

theorem gidOf_at (hS : ∀ k, (rd S k : BitVec 32).toNat ≤ 1280) (hcell : (cell (ln l)).toNat < 512) (hcnt : (cnt (ln l)).toNat ≤ 28) (j : ℕ) (hj : j < 28) :
    (gidOf S cell cnt (BitVec.ofNat 32 j) (ln l)).toNat < 1280
      ∧ (named S cell cnt (BitVec.ofNat 32 j) (ln l) = 1#1 → (gidOf S cell cnt (BitVec.ofNat 32 j) (ln l)).toNat = entry S (cell (ln l)).toNat j - 1) := by
  have hg : gidOf S cell cnt (BitVec.ofNat 32 j) (ln l) = Scalar.select (named S cell cnt (BitVec.ofNat 32 j) (ln l))
      ((slotOf S cell cnt (BitVec.ofNat 32 j) (ln l) : BitVec 32) - 1#32) 0#32 := rfl
  by_cases hn : named S cell cnt (BitVec.ofNat 32 j) (ln l) = 1#1
  · obtain ⟨hj', hp⟩ := (named_at S cell cnt l hS hcell hcnt j hj).1 hn
    have h2 := slotOf_at S cell cnt l hcell hcnt j hj'
    have h4 : entry S (cell (ln l)).toNat j ≤ 1280 := hS (28 * (cell (ln l)).toNat + j)
    have h5 : (gidOf S cell cnt (BitVec.ofNat 32 j) (ln l)).toNat = entry S (cell (ln l)).toNat j - 1 := by
      rw [hg, hn]
      show ((slotOf S cell cnt (BitVec.ofNat 32 j) (ln l) : BitVec 32) - 1#32).toNat = _
      rw [BitVec.toNat_sub, h2, BitVec.toNat_ofNat]
      omega
    exact ⟨by omega, fun _ => h5⟩
  · refine ⟨?_, fun h => absurd h hn⟩
    rw [hg, ValueIdx.eq_zero_of_ne_one hn]
    show (0#32 : BitVec 32).toNat < 1280
    decide

theorem hitOf_at (ok : IVec S16 1) (word : IVec S16 32) :
    hitOf ok word x y z (ln l) = 1#1 ↔ ok (ln l) = 1#1 ∧ hitS (word (ln l)) (x (ln l)) (y (ln l)) (z (ln l)) := by
  show IntOp.andi (IntOp.andi (IntOp.andi (ok (ln l)) _) _) _ = 1#1 ↔ _
  rw [IntOp.andi_eq_one, IntOp.andi_eq_one, IntOp.andi_eq_one, and_assoc, and_assoc]
  rfl

theorem ampOf_at (gid : IVec S16 32) (hg : (gid (ln l)).toNat < 1280) (hit : IVec S16 1) (hh : hit (ln l) = 1#1) :
    (ampOf A px py pz gid hit (ln l) : EReal) = ampS A (px (ln l)) (py (ln l)) (pz (ln l)) (gid (ln l)).toNat := by
  have hr : ∀ c, c < 43520 → row A gid (BitVec.ofNat 32 c) (ln l) = rd A (c + (gid (ln l)).toNat) := fun c hc => row_at A gid l c hc hg
  have ha : ∀ k r0 r1 r2 rw rc, r0 = BitVec.ofNat 32 (1280 * (3 * k)) → r1 = BitVec.ofNat 32 (1280 * (3 * k + 1)) → r2 = BitVec.ofNat 32 (1280 * (3 * k + 2)) →
      rw = BitVec.ofNat 32 (1280 * (27 + k)) → rc = BitVec.ofNat 32 (1280 * (30 + k)) → k < 3 →
      (axis A px py pz gid r0 r1 r2 rw rc (ln l) : EReal) = axisS A (px (ln l)) (py (ln l)) (pz (ln l)) (gid (ln l)).toNat k := by
    rintro k r0 r1 r2 rw rc rfl rfl rfl rfl rfl hk
    unfold axisS
    rw [← hr _ (by omega), ← hr _ (by omega), ← hr _ (by omega), ← hr _ (by omega), ← hr _ (by omega)]
    rfl
  show (Scalar.select (hit (ln l)) _ _ : EReal) = _
  rw [hh]
  unfold ampS
  rw [← ha 0 0#32 1280#32 2560#32 34560#32 38400#32 rfl rfl rfl rfl rfl (by norm_num),
    ← ha 1 3840#32 5120#32 6400#32 35840#32 39680#32 rfl rfl rfl rfl rfl (by norm_num),
    ← ha 2 7680#32 8960#32 10240#32 37120#32 40960#32 rfl rfl rfl rfl rfl (by norm_num), ← hr _ (by norm_num)]
  rfl

theorem slotStep_row (hS : ∀ k, (rd S k : BitVec 32).toNat ≤ 1280) (hcell : (cell (ln l)).toNat < 512) (hcnt : (cnt (ln l)).toNat ≤ 28)
    (t : ℕ) (ht : t < 8) (t' : ℕ) (ht' : t' < 8) (f : Vec Ideal S4096 .f32) (k : ℕ) (hk : k < 19) (j : ℕ) (hj : j < 28) :
    (rd (slotStep A W S px py pz x y z (baseOf t) cell cnt (BitVec.ofNat 32 j) f) (32 * (16 * t' + l.val) + k) : EReal)
      = (rd f (32 * (16 * t' + l.val) + k) : EReal)
        + if t = t' ∧ (j < (cnt (ln l)).toNat ∧ 0 < entry S (cell (ln l)).toNat j)
            ∧ hitS (rd W (entry S (cell (ln l)).toNat j - 1)) (x (ln l)) (y (ln l)) (z (ln l))
          then colS A (ampS A (px (ln l)) (py (ln l)) (pz (ln l)) (entry S (cell (ln l)).toNat j - 1)) (entry S (cell (ln l)).toNat j - 1) k else 0 := by
  obtain ⟨hg, hg'⟩ := gidOf_at S cell cnt l hS hcell hcnt j hj
  have hn := named_at S cell cnt l hS hcell hcnt j hj
  have hh := hitOf_at x y z l (named S cell cnt (BitVec.ofNat 32 j)) (gath W (gidOf S cell cnt (BitVec.ofNat 32 j)))
  unfold slotStep
  dsimp only
  generalize hhit : hitOf (named S cell cnt (BitVec.ofNat 32 j)) (gath W (gidOf S cell cnt (BitVec.ofNat 32 j))) x y z = hit at hh ⊢
  by_cases h1 : hit (ln l) = 1#1
  · have hc : Scalar.cmpi .ne (Scalar.extui (Scalar.cmpi .sgt (topLane (extui 32 hit Cert.KernelIdeal.Facts₀.natLt_1_32)) 0#32) : BitVec 32) 0#32 = 1#1 := by
      have h2 := (topLane_spec (extui 32 hit Cert.KernelIdeal.Facts₀.natLt_1_32)).2 l
      have h3 : extui 32 hit Cert.KernelIdeal.Facts₀.natLt_1_32 (ln l) = 1#32 := by
        show (hit (ln l)).setWidth 32 = 1#32
        rw [h1]; rfl
      rw [h3] at h2
      have h4 : Scalar.cmpi .sgt (topLane (extui 32 hit Cert.KernelIdeal.Facts₀.natLt_1_32)) 0#32 = 1#1 := by
        refine IntOp.cmpi_sgt.2 (lt_of_lt_of_le ?_ h2)
        decide
      rw [h4]; rfl
    rw [if_pos hc, putN_row A _ t ht hit _ f t' ht' l hg k hk 18 le_rfl, ampOf_at A px py pz l _ hg hit h1]
    obtain ⟨h5, h6⟩ := hh.1 h1
    congr 1
    rw [hg' h5]
    refine if_congr ⟨fun h => ⟨h.1, hn.1 h5, ?_⟩, fun h => ⟨h.1, by omega, h1⟩⟩ rfl rfl
    have h7 : gath W (gidOf S cell cnt (BitVec.ofNat 32 j)) (ln l) = rd W (gidOf S cell cnt (BitVec.ofNat 32 j) (ln l)).toNat := rfl
    rw [h7, hg' h5] at h6
    exact h6
  · have hz : ¬ (t = t' ∧ (j < (cnt (ln l)).toNat ∧ 0 < entry S (cell (ln l)).toNat j)
            ∧ hitS (rd W (entry S (cell (ln l)).toNat j - 1)) (x (ln l)) (y (ln l)) (z (ln l))) := by
      rintro ⟨_, ha, hb⟩
      have h5 := hn.2 ha
      refine h1 (hh.2 ⟨h5, ?_⟩)
      have h7 : gath W (gidOf S cell cnt (BitVec.ofNat 32 j)) (ln l) = rd W (gidOf S cell cnt (BitVec.ofNat 32 j) (ln l)).toNat := rfl
      rw [h7, hg' h5]
      exact hb
    rw [if_neg hz, add_zero]
    split
    · rw [putN_row A _ t ht hit _ f t' ht' l hg k hk 18 le_rfl, if_neg (fun h => h1 h.2.2), add_zero]
    · rfl

end

/-! ## The loops -/

/-- A fold whose steps each add a term at one place. -/
theorem foldl_terms {α β : Type} (r : β → EReal) (step : β → α → β) (g : α → EReal) :
    ∀ (l : List α), (∀ a ∈ l, ∀ f, r (step f a) = r f + g a) → ∀ f, r (l.foldl step f) = r f + (l.map g).sum
  | [], _, f => by simp
  | a :: l, h, f => by
      rw [List.foldl_cons, foldl_terms r step g l (fun b hb => h b (List.mem_cons_of_mem _ hb)), h a List.mem_cons_self,
        List.map_cons, List.sum_cons, add_assoc]

theorem sum_range_list (g : ℕ → EReal) : ∀ n, ((List.range n).map g).sum = ∑ j ∈ Finset.range n, g j
  | 0 => rfl
  | n + 1 => by
      rw [List.range_succ, List.map_append, List.sum_append, sum_range_list g n, Finset.sum_range_succ]
      simp

/-- What the entries of cell `c`, of which there are `n`, add to column `k` of a point's row. -/
def slotS (A : Vec Ideal S43520 .f32) (W : Vec Ideal S1280 .i32) (S : Vec Ideal S14336 .i32) (px py pz : EReal) (x y z : BitVec 32) (c n k : ℕ) : EReal :=
  ∑ j ∈ Finset.range 28, if (j < n ∧ 0 < entry S c j) ∧ hitS (rd W (entry S c j - 1)) x y z
    then colS A (ampS A px py pz (entry S c j - 1)) (entry S c j - 1) k else 0

section

variable (A : Vec Ideal S43520 .f32) (W : Vec Ideal S1280 .i32) (C : Vec Ideal S512 .i32) (S : Vec Ideal S14336 .i32)
variable (px py pz : FVec Ideal S16 .f32) (x y z : IVec S16 32) (l : Fin 16)

theorem slots_row (cell cnt : IVec S16 32) (hS : ∀ k, (rd S k : BitVec 32).toNat ≤ 1280) (hcell : (cell (ln l)).toNat < 512)
    (hcnt : ∀ l, (cnt (ln l)).toNat ≤ 28)
    (t : ℕ) (ht : t < 8) (t' : ℕ) (ht' : t' < 8) (f : Vec Ideal S4096 .f32) (k : ℕ) (hk : k < 19) :
    (rd (slots A W S px py pz x y z (baseOf t) cell cnt f) (32 * (16 * t' + l.val) + k) : EReal)
      = (rd f (32 * (16 * t' + l.val) + k) : EReal)
        + if t = t' then slotS A W S (px (ln l)) (py (ln l)) (pz (ln l)) (x (ln l)) (y (ln l)) (z (ln l)) (cell (ln l)).toNat (cnt (ln l)).toNat k else 0 := by
  obtain ⟨⟨l₀, h0⟩, h1⟩ := topLane_spec cnt
  have h2 : (topLane cnt).toNat ≤ 28 := by rw [h0]; exact hcnt l₀
  have h3 : (cnt (ln l)).toNat ≤ (topLane cnt).toNat := by
    have := h1 l
    have h4 := hcnt l
    rw [BitVec.toInt_eq_toNat_cond, BitVec.toInt_eq_toNat_cond, if_pos (by omega), if_pos (by omega)] at this
    omega
  unfold slots
  rw [foldl_terms (fun f : Vec Ideal S4096 .f32 => (rd f (32 * (16 * t' + l.val) + k) : EReal)) _ _ _ (fun j hj f =>
    slotStep_row A W S px py pz x y z cell cnt l hS hcell (hcnt l) t ht t' ht' f k hk j (by have := List.mem_range.1 hj; omega)), sum_range_list]
  congr 1
  by_cases htt : t = t'
  · rw [if_pos htt]
    unfold slotS
    rw [← Finset.sum_subset (s₁ := Finset.range (topLane cnt).toNat) (fun j hj => Finset.mem_range.2 (lt_of_lt_of_le (Finset.mem_range.1 hj) h2))]
    · refine Finset.sum_congr rfl fun j _ => if_congr ⟨fun h => h.2, fun h => ⟨htt, h⟩⟩ rfl rfl
    · intro j _ hj
      refine if_neg fun h => hj (Finset.mem_range.2 ?_)
      have := h.1.1
      omega
  · rw [if_neg htt]
    exact Finset.sum_eq_zero fun j _ => if_neg fun h => htt h.1

/-- The cell window's first cell along an axis, at the coordinate `p`, -/
def loS (p : EReal) : BitVec 32 :=
  IntOp.subi (FloatOps.fptosi (F := Ideal) (φ := .f32) 32 ((p - Ideal.ofBits .f32 0x3D75C28F#32) * Ideal.ofBits .f32 0x41000000#32 + Ideal.ofBits .f32 0x3F800000#32 : EReal)) 1#32

/-- its last, -/
def hiS (p : EReal) : BitVec 32 :=
  IntOp.subi (FloatOps.fptosi (F := Ideal) (φ := .f32) 32 ((p + Ideal.ofBits .f32 0x3D75C28F#32) * Ideal.ofBits .f32 0x41000000#32 + Ideal.ofBits .f32 0x3F800000#32 : EReal)) 1#32

/-- its first or second, -/
def nxtS (b : Bool) (p : EReal) : BitVec 32 := IntOp.addi (loS p) (bif b then 1#32 else 0#32)

/-- whether that is one of the eight cells of the axis, and in the window, -/
def okS1 (b : Bool) (p : EReal) : Prop :=
  0 ≤ (nxtS b p).toInt ∧ (nxtS b p).toInt ≤ 7 ∧ (b = true → (nxtS b p).toInt ≤ (hiS p).toInt)

/-- the same on the three axes, -/
def okS (px py pz : EReal) (b : Bool × Bool × Bool) : Prop := okS1 b.1 px ∧ okS1 b.2.1 py ∧ okS1 b.2.2 pz

/-- and the cell's number. -/
def cellS (px py pz : EReal) (b : Bool × Bool × Bool) : ℕ :=
  ((nxtS b.1 px).toNat * 8 + (nxtS b.2.1 py).toNat) * 8 + (nxtS b.2.2 pz).toNat

theorem more_at (ok : IVec S16 1) (b : Bool) (p : FVec Ideal S16 .f32) :
    more ok b (lo p) (hi p) (ln l) = 1#1 ↔ ok (ln l) = 1#1 ∧ okS1 b (p (ln l)) := by
  have h0 : (0#32 : BitVec 32).toInt = 0 := by decide
  have h7 : (7#32 : BitVec 32).toInt = 7 := by decide
  unfold okS1
  cases b with
  | true =>
    show IntOp.andi (IntOp.andi (IntOp.andi (ok (ln l)) (IntOp.cmpi .sge (nxtS true (p (ln l))) 0#32)) (IntOp.cmpi .sle (nxtS true (p (ln l))) 7#32))
      (IntOp.cmpi .sge (hiS (p (ln l))) (nxtS true (p (ln l)))) = 1#1 ↔ _
    rw [IntOp.andi_eq_one, IntOp.andi_eq_one, IntOp.andi_eq_one, IntOp.cmpi_sge, IntOp.cmpi_sle, IntOp.cmpi_sge, h0, h7]
    tauto
  | false =>
    show IntOp.andi (IntOp.andi (ok (ln l)) (IntOp.cmpi .sge (nxtS false (p (ln l))) 0#32)) (IntOp.cmpi .sle (nxtS false (p (ln l))) 7#32) = 1#1 ↔ _
    rw [IntOp.andi_eq_one, IntOp.andi_eq_one, IntOp.cmpi_sge, IntOp.cmpi_sle, h0, h7]
    simp only [Bool.false_eq_true, false_imp_iff, and_true]
    tauto

theorem first_at (b : Bool) (p : FVec Ideal S16 .f32) : first b (lo p) (hi p) (ln l) = 1#1 ↔ okS1 b (p (ln l)) := by
  have h0 : (0#32 : BitVec 32).toInt = 0 := by decide
  have h7 : (7#32 : BitVec 32).toInt = 7 := by decide
  unfold okS1
  cases b with
  | true =>
    show IntOp.andi (IntOp.andi (IntOp.cmpi .sge (nxtS true (p (ln l))) 0#32) (IntOp.cmpi .sle (nxtS true (p (ln l))) 7#32))
      (IntOp.cmpi .sge (hiS (p (ln l))) (nxtS true (p (ln l)))) = 1#1 ↔ _
    rw [IntOp.andi_eq_one, IntOp.andi_eq_one, IntOp.cmpi_sge, IntOp.cmpi_sle, IntOp.cmpi_sge, h0, h7]
    tauto
  | false =>
    show IntOp.andi (IntOp.cmpi .sge (nxtS false (p (ln l))) 0#32) (IntOp.cmpi .sle (nxtS false (p (ln l))) 7#32) = 1#1 ↔ _
    rw [IntOp.andi_eq_one, IntOp.cmpi_sge, IntOp.cmpi_sle, h0, h7]
    simp only [Bool.false_eq_true, false_imp_iff, and_true]

theorem okOf_at (b : Bool × Bool × Bool) :
    okOf px py pz b.1 b.2.1 b.2.2 (ln l) = 1#1 ↔ okS (px (ln l)) (py (ln l)) (pz (ln l)) b := by
  unfold okOf okS
  rw [more_at, more_at, first_at, and_assoc]

theorem okS1_lt {b : Bool} {p : EReal} (h : okS1 b p) : (nxtS b p).toNat < 8 := by
  obtain ⟨h1, h2, _⟩ := h
  rw [BitVec.toInt_eq_toNat_cond] at h1 h2
  have := (nxtS b p).isLt
  split at h1 <;> omega

theorem cellS_lt {px py pz : EReal} {b : Bool × Bool × Bool} (h : okS px py pz b) : cellS px py pz b < 512 := by
  have h1 := okS1_lt h.1
  have h2 := okS1_lt h.2.1
  have h3 := okS1_lt h.2.2
  unfold cellS
  omega

theorem cellOf_at (b : Bool × Bool × Bool) :
    (cellOf (okOf px py pz b.1 b.2.1 b.2.2) (nxt b.1 (lo px)) (nxt b.2.1 (lo py)) (nxt b.2.2 (lo pz)) (ln l)).toNat < 512
      ∧ (okS (px (ln l)) (py (ln l)) (pz (ln l)) b →
        (cellOf (okOf px py pz b.1 b.2.1 b.2.2) (nxt b.1 (lo px)) (nxt b.2.1 (lo py)) (nxt b.2.2 (lo pz)) (ln l)).toNat = cellS (px (ln l)) (py (ln l)) (pz (ln l)) b) := by
  have hc : cellOf (okOf px py pz b.1 b.2.1 b.2.2) (nxt b.1 (lo px)) (nxt b.2.1 (lo py)) (nxt b.2.2 (lo pz)) (ln l)
      = Scalar.select (okOf px py pz b.1 b.2.1 b.2.2 (ln l))
        (((nxtS b.1 (px (ln l)) * 8#32 + nxtS b.2.1 (py (ln l))) * 8#32 + nxtS b.2.2 (pz (ln l)) : BitVec 32)) 0#32 := rfl
  by_cases hok : okS (px (ln l)) (py (ln l)) (pz (ln l)) b
  · have h : (cellOf (okOf px py pz b.1 b.2.1 b.2.2) (nxt b.1 (lo px)) (nxt b.2.1 (lo py)) (nxt b.2.2 (lo pz)) (ln l)).toNat
        = cellS (px (ln l)) (py (ln l)) (pz (ln l)) b := by
      rw [hc, (okOf_at px py pz l b).2 hok]
      show ((nxtS b.1 (px (ln l)) * 8#32 + nxtS b.2.1 (py (ln l))) * 8#32 + nxtS b.2.2 (pz (ln l)) : BitVec 32).toNat = _
      have h1 := okS1_lt hok.1
      have h2 := okS1_lt hok.2.1
      have h3 := okS1_lt hok.2.2
      unfold cellS
      generalize nxtS b.1 (px (ln l)) = u at *
      generalize nxtS b.2.1 (py (ln l)) = v at *
      generalize nxtS b.2.2 (pz (ln l)) = w at *
      simp only [BitVec.toNat_add, BitVec.toNat_mul, BitVec.toNat_ofNat]
      omega
    exact ⟨by rw [h]; exact cellS_lt hok, fun _ => h⟩
  · refine ⟨?_, fun h => absurd h hok⟩
    rw [hc, ValueIdx.eq_zero_of_ne_one (fun h => hok ((okOf_at px py pz l b).1 h))]
    show (0#32 : BitVec 32).toNat < 512
    decide

open Classical in
theorem visit_row (hC : ∀ k, (rd C k : BitVec 32).toNat ≤ 28) (hS : ∀ k, (rd S k : BitVec 32).toNat ≤ 1280) (b : Bool × Bool × Bool)
    (t : ℕ) (ht : t < 8) (t' : ℕ) (ht' : t' < 8) (f : Vec Ideal S4096 .f32) (k : ℕ) (hk : k < 19) :
    (rd (visitAt A W C S px py pz x y z (baseOf t) b.1 b.2.1 b.2.2 f) (32 * (16 * t' + l.val) + k) : EReal)
      = (rd f (32 * (16 * t' + l.val) + k) : EReal)
        + if t = t' ∧ okS (px (ln l)) (py (ln l)) (pz (ln l)) b then
            slotS A W S (px (ln l)) (py (ln l)) (pz (ln l)) (x (ln l)) (y (ln l)) (z (ln l)) (cellS (px (ln l)) (py (ln l)) (pz (ln l)) b)
              (rd C (cellS (px (ln l)) (py (ln l)) (pz (ln l)) b) : BitVec 32).toNat k else 0 := by
  obtain ⟨hc1, hc2⟩ := cellOf_at px py pz l b
  have hn : ∀ l, cntOf C (okOf px py pz b.1 b.2.1 b.2.2) (nxt b.1 (lo px)) (nxt b.2.1 (lo py)) (nxt b.2.2 (lo pz)) (ln l)
      = Scalar.select (okOf px py pz b.1 b.2.1 b.2.2 (ln l))
        (rd C (cellOf (okOf px py pz b.1 b.2.1 b.2.2) (nxt b.1 (lo px)) (nxt b.2.1 (lo py)) (nxt b.2.2 (lo pz)) (ln l)).toNat) 0#32 := fun _ => rfl
  unfold visitAt visit
  rw [slots_row A W S px py pz x y z l _ _ hS hc1 (fun l => by
    rw [hn l]
    unfold Scalar.select
    split
    · exact hC _
    · simp) t ht t' ht' f k hk]
  congr 1
  rw [hn l]
  by_cases hok : okS (px (ln l)) (py (ln l)) (pz (ln l)) b
  · rw [hc2 hok, (okOf_at px py pz l b).2 hok]
    exact if_congr ⟨fun h => ⟨h, hok⟩, fun h => h.1⟩ rfl rfl
  · rw [if_neg (fun h : t = t' ∧ okS (px (ln l)) (py (ln l)) (pz (ln l)) b => hok h.2), ValueIdx.eq_zero_of_ne_one (fun h => hok ((okOf_at px py pz l b).1 h))]
    refine ite_eq_right_iff.2 fun _ => Finset.sum_eq_zero fun j _ => if_neg fun h => ?_
    exact absurd h.1.1 (by show ¬ j < (0#32 : BitVec 32).toNat; simp)

end

/-! ## A tile -/

open Classical in
/-- A row of a tile's output: the sum over the cells round its point. -/
def rowS (A : Vec Ideal S43520 .f32) (W : Vec Ideal S1280 .i32) (C : Vec Ideal S512 .i32) (S : Vec Ideal S14336 .i32) (px py pz : EReal) (p : BitVec 32) (k : ℕ) : EReal :=
  (offsets.map fun b => if okS px py pz b then
    slotS A W S px py pz (IntOp.shrsi .vector p 20#32) (IntOp.andi (IntOp.shrsi .vector p 10#32) 1023#32) (IntOp.andi p 1023#32)
      (cellS px py pz b) (rd C (cellS px py pz b) : BitVec 32).toNat k else 0).sum

theorem group_row (A : Vec Ideal S43520 .f32) (W : Vec Ideal S1280 .i32) (C : Vec Ideal S512 .i32) (S : Vec Ideal S14336 .i32)
    (X Y Z : Vec Ideal S128 .f32) (P : Vec Ideal S128 .i32)
    (hC : ∀ k, (rd C k : BitVec 32).toNat ≤ 28) (hS : ∀ k, (rd S k : BitVec 32).toNat ≤ 1280)
    (t : ℕ) (ht : t < 8) (t' : ℕ) (ht' : t' < 8) (l : Fin 16) (f : Vec Ideal S4096 .f32) (k : ℕ) (hk : k < 19) :
    (rd (group A W C S X Y Z P t f) (32 * (16 * t' + l.val) + k) : EReal)
      = (rd f (32 * (16 * t' + l.val) + k) : EReal)
        + if t = t' then rowS A W C S (rd X (16 * t' + l.val)) (rd Y (16 * t' + l.val)) (rd Z (16 * t' + l.val)) (rd P (16 * t' + l.val)) k else 0 := by
  classical
  have hx : ∀ {e : EltTy} (X : Vec Ideal S128 e), lanes X t (ln l) = rd X (16 * t + l.val) := fun _ => rfl
  unfold group around
  rw [foldl_terms (fun f : Vec Ideal S4096 .f32 => (rd f (32 * (16 * t' + l.val) + k) : EReal)) _ _ _ (fun b _ f =>
    visit_row A W C S (lanes X t) (lanes Y t) (lanes Z t) _ _ _ l hC hS b t ht t' ht' f k hk)]
  congr 1
  by_cases htt : t = t'
  · subst htt
    rw [if_pos rfl]
    unfold rowS
    refine congrArg List.sum (List.map_congr_left fun b _ => ?_)
    rw [hx, hx, hx]
    exact if_congr ⟨fun h => h.2, fun h => ⟨rfl, h⟩⟩ rfl rfl
  · rw [if_neg htt]
    exact List.sum_eq_zero fun v hv => by
      obtain ⟨b, _, rfl⟩ := List.mem_map.1 hv
      exact if_neg fun h => htt h.1

theorem tileOut_row (A : Vec Ideal S43520 .f32) (W : Vec Ideal S1280 .i32) (C : Vec Ideal S512 .i32) (S : Vec Ideal S14336 .i32)
    (X Y Z : Vec Ideal S128 .f32) (P : Vec Ideal S128 .i32)
    (hC : ∀ k, (rd C k : BitVec 32).toNat ≤ 28) (hS : ∀ k, (rd S k : BitVec 32).toNat ≤ 1280)
    (q : ℕ) (hq : q < 128) (k : ℕ) (hk : k < 19) :
    (rd (tileOut A W C S X Y Z P) (32 * q + k) : EReal) = rowS A W C S (rd X q) (rd Y q) (rd Z q) (rd P q) k := by
  obtain ⟨t', ht', l, rfl⟩ : ∃ t', t' < 8 ∧ ∃ l : Fin 16, q = 16 * t' + l.val :=
    ⟨q / 16, by omega, ⟨q % 16, Nat.mod_lt _ (by norm_num)⟩, by show q = 16 * (q / 16) + q % 16; omega⟩
  unfold tileOut
  rw [foldl_terms (fun f : Vec Ideal S4096 .f32 => (rd f (32 * (16 * t' + l.val) + k) : EReal)) _ _ _ (fun t ht f =>
    group_row A W C S X Y Z P hC hS t (List.mem_range.1 ht) t' ht' l f k hk), sum_range_list, Finset.sum_ite_eq' , if_pos (Finset.mem_range.2 ht')]
  show Ideal.ofBits .f32 0x00000000#32 + _ = _
  rw [show Ideal.ofBits .f32 0x00000000#32 = 0 from by simp [Ideal.ofBits, Ideal.ieee], zero_add]

end Cert.Proof

end
-- ==== Proof.Grid.lean ====
/-
  The grid's arithmetic: a point's lattice coordinate, the window of cells round it, and that the window holds the cell of
  every gaussian near enough to it, once.
-/
module

public import proofs.«01_k».proof.Proof.Sum
public import Mathlib.Tactic.Linarith
public import Mathlib.Tactic.NormNum

@[expose] public section

noncomputable section

namespace Cert.Proof

open Idealize.ShloMosaic

/-! ## The constants -/

theorem ofBits_step : Ideal.ofBits .f32 0x3BA3D70A#32 = ((10737418 / 2147483648 : ℝ) : EReal) := by
  simp [Ideal.ofBits, Ideal.ieee, -EReal.coe_mul]; norm_num
theorem ofBits_margin : Ideal.ofBits .f32 0x3D75C28F#32 = ((16106127 / 268435456 : ℝ) : EReal) := by
  simp [Ideal.ofBits, Ideal.ieee, -EReal.coe_mul]; norm_num
theorem ofBits_eight : Ideal.ofBits .f32 0x41000000#32 = ((8 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_zero : Ideal.ofBits .f32 0x00000000#32 = ((0 : ℝ) : EReal) := by
  simp [Ideal.ofBits, Ideal.ieee, -EReal.coe_mul]

/-! ## Conversions to words -/

theorem ofInt_toInt {n : ℤ} (h0 : -1000 ≤ n) (h1 : n ≤ 1000) : (BitVec.ofInt 32 n).toInt = n := by
  rw [BitVec.toInt_ofInt]
  exact Int.bmod_eq_of_le (by norm_num; omega) (by norm_num; omega)

theorem fptosi_toInt {r : ℝ} (h0 : 0 ≤ r) (h1 : r < 1000) :
    (FloatOps.fptosi (F := Ideal) (φ := .f32) 32 ((r : ℝ) : EReal)).toInt = ⌊r⌋ := by
  have h2 : 0 ≤ ⌊r⌋ := Int.floor_nonneg.2 h0
  have h3 : ⌊r⌋ < 1000 := Int.floor_lt.2 (by exact_mod_cast h1)
  show (BitVec.ofInt 32 (max _ (min _ (if 0 ≤ r then ⌊r⌋ else ⌈r⌉)))).toInt = _
  rw [if_pos h0, min_eq_right (by norm_num; omega), max_eq_right (by norm_num; omega)]
  exact ofInt_toInt (by omega) (by omega)

theorem subi_toInt {u v : BitVec 32} (hu0 : -1000 ≤ u.toInt) (hu1 : u.toInt ≤ 1000) (hv0 : -1000 ≤ v.toInt) (hv1 : v.toInt ≤ 1000) :
    (IntOp.subi u v).toInt = u.toInt - v.toInt := by
  show (u - v).toInt = _
  rw [BitVec.toInt_sub]
  exact Int.bmod_eq_of_le (by norm_num; omega) (by norm_num; omega)

theorem addi_toInt {u v : BitVec 32} (hu0 : -1000 ≤ u.toInt) (hu1 : u.toInt ≤ 1000) (hv0 : -1000 ≤ v.toInt) (hv1 : v.toInt ≤ 1000) :
    (IntOp.addi u v).toInt = u.toInt + v.toInt := by
  show (u + v).toInt = _
  rw [BitVec.toInt_add]
  exact Int.bmod_eq_of_le (by norm_num; omega) (by norm_num; omega)

theorem absi_toInt {u : BitVec 32} (h0 : -1000 ≤ u.toInt) (h1 : u.toInt ≤ 1000) : (IntOp.absi u).toInt = |u.toInt| := by
  unfold IntOp.absi
  rw [BitVec.msb_eq_toInt]
  by_cases h : u.toInt < 0
  · rw [decide_eq_true h, if_pos rfl, BitVec.toInt_neg, abs_of_neg h]
    exact Int.bmod_eq_of_le (by norm_num; omega) (by norm_num; omega)
  · rw [decide_eq_false h, if_neg (by decide), abs_of_nonneg (not_lt.1 h)]

/-! ## The lattice and the window -/

/-- A coordinate's step on the lattice. -/
def latS (p : EReal) : BitVec 32 :=
  FloatOps.fptosi (F := Ideal) (φ := .f32) 32 (Ideal.liftRound Int.floor (Ideal.div p (Ideal.ofBits .f32 0x3BA3D70A#32)))

theorem lat_toInt {r : ℝ} (h0 : 0 ≤ r) (h1 : r < 1) : (latS (r : EReal)).toInt = ⌊r * (2147483648 / 10737418)⌋ := by
  have h2 : (0 : ℤ) ≤ ⌊r * (2147483648 / 10737418)⌋ := Int.floor_nonneg.2 (by positivity)
  have h3 : ⌊r * (2147483648 / 10737418)⌋ < 1000 := Int.floor_lt.2 (by push_cast; nlinarith)
  unfold latS
  rw [ofBits_step, Ideal.div_coe (by norm_num), ← EReal.coe_mul, show r * (1 / (10737418 / 2147483648)) = r * (2147483648 / 10737418) by norm_num]
  show (FloatOps.fptosi (F := Ideal) (φ := .f32) 32 (((⌊r * (2147483648 / 10737418)⌋ : ℤ) : ℝ) : EReal)).toInt = _
  rw [fptosi_toInt (by exact_mod_cast h2) (by exact_mod_cast h3), Int.floor_intCast]

theorem lat_range {r : ℝ} (h0 : 0 ≤ r) (h1 : r < 1) : 0 ≤ (latS (r : EReal)).toInt ∧ (latS (r : EReal)).toInt ≤ 200 := by
  rw [lat_toInt h0 h1]
  refine ⟨Int.floor_nonneg.2 (by positivity), Int.lt_add_one_iff.1 (Int.floor_lt.2 ?_)⟩
  push_cast
  nlinarith

theorem lo_toInt {r : ℝ} (h0 : 0 ≤ r) (h1 : r < 1) : (loS (r : EReal)).toInt = ⌊(r - 16106127 / 268435456) * 8 + 1⌋ - 1 := by
  unfold loS
  rw [ofBits_margin, ofBits_eight, ofBits_one, ← EReal.coe_sub, ← EReal.coe_mul, ← EReal.coe_add]
  have h2 : (0 : ℝ) ≤ (r - 16106127 / 268435456) * 8 + 1 := by linarith
  have h3 : (r - 16106127 / 268435456) * 8 + 1 < 1000 := by linarith
  have h4 := fptosi_toInt h2 h3
  have h5 : 0 ≤ ⌊(r - 16106127 / 268435456) * 8 + 1⌋ := Int.floor_nonneg.2 h2
  have h6 : ⌊(r - 16106127 / 268435456) * 8 + 1⌋ < 1000 := Int.floor_lt.2 (by exact_mod_cast h3)
  have h7 : (1#32 : BitVec 32).toInt = 1 := by decide
  rw [subi_toInt (by rw [h4]; omega) (by rw [h4]; omega) (by rw [h7]; omega) (by rw [h7]; omega), h4, h7]

theorem hi_toInt {r : ℝ} (h0 : 0 ≤ r) (h1 : r < 1) : (hiS (r : EReal)).toInt = ⌊(r + 16106127 / 268435456) * 8 + 1⌋ - 1 := by
  unfold hiS
  rw [ofBits_margin, ofBits_eight, ofBits_one, ← EReal.coe_add, ← EReal.coe_mul, ← EReal.coe_add]
  have h2 : (0 : ℝ) ≤ (r + 16106127 / 268435456) * 8 + 1 := by linarith
  have h3 : (r + 16106127 / 268435456) * 8 + 1 < 1000 := by linarith
  have h4 := fptosi_toInt h2 h3
  have h5 : 0 ≤ ⌊(r + 16106127 / 268435456) * 8 + 1⌋ := Int.floor_nonneg.2 h2
  have h6 : ⌊(r + 16106127 / 268435456) * 8 + 1⌋ < 1000 := Int.floor_lt.2 (by exact_mod_cast h3)
  have h7 : (1#32 : BitVec 32).toInt = 1 := by decide
  rw [subi_toInt (by rw [h4]; omega) (by rw [h4]; omega) (by rw [h7]; omega) (by rw [h7]; omega), h4, h7]

theorem nxt_toInt {r : ℝ} (h0 : 0 ≤ r) (h1 : r < 1) (b : Bool) :
    (nxtS b (r : EReal)).toInt = ⌊(r - 16106127 / 268435456) * 8 + 1⌋ - 1 + if b then 1 else 0 := by
  have h2 : (0 : ℝ) ≤ (r - 16106127 / 268435456) * 8 + 1 := by linarith
  have h3 : (r - 16106127 / 268435456) * 8 + 1 < 1000 := by linarith
  have h5 : 0 ≤ ⌊(r - 16106127 / 268435456) * 8 + 1⌋ := Int.floor_nonneg.2 h2
  have h6 : ⌊(r - 16106127 / 268435456) * 8 + 1⌋ < 1000 := Int.floor_lt.2 (by exact_mod_cast h3)
  have h4 := lo_toInt h0 h1
  have h7 : (1#32 : BitVec 32).toInt = 1 := by decide
  have h8 : (0#32 : BitVec 32).toInt = 0 := by decide
  unfold nxtS
  cases b
  · show (IntOp.addi (loS r) 0#32).toInt = _
    rw [addi_toInt (by omega) (by omega) (by rw [h8]; omega) (by rw [h8]; omega), h4, h8]
    rfl
  · show (IntOp.addi (loS r) 1#32).toInt = _
    rw [addi_toInt (by omega) (by omega) (by rw [h7]; omega) (by rw [h7]; omega), h4, h7]
    rfl

/-- A cell whose 25 steps hold a mean at most 10 steps from the point is in the window, once. -/
theorem window {r : ℝ} (h0 : 0 ≤ r) (h1 : r < 1) (c mean : ℤ) (hc0 : 0 ≤ c) (hc1 : c ≤ 7) (hm0 : 25 * c ≤ mean) (hm1 : mean ≤ 25 * c + 25)
    (hd : |(latS (r : EReal)).toInt - mean| ≤ 10) :
    ∃ b, ∀ b', (okS1 b' (r : EReal) ∧ (nxtS b' (r : EReal)).toInt = c) ↔ b' = b := by
  rw [lat_toInt h0 h1] at hd
  obtain ⟨hd0, hd1⟩ := abs_le.1 hd
  have hL0 : 25 * c - 10 ≤ ⌊r * (2147483648 / 10737418)⌋ := by omega
  have hL1 : ⌊r * (2147483648 / 10737418)⌋ < 25 * c + 36 := by omega
  have hr0 := Int.le_floor.1 hL0
  have hr1 := Int.floor_lt.1 hL1
  push_cast at hr0 hr1
  have hc0' : (0 : ℝ) ≤ c := by exact_mod_cast hc0
  have hc1' : (c : ℝ) ≤ 7 := by exact_mod_cast hc1
  have e1 : ⌊(r - 16106127 / 268435456) * 8 + 1⌋ < c + 2 := Int.floor_lt.2 (by push_cast; linarith)
  have e2 : c ≤ ⌊(r - 16106127 / 268435456) * 8 + 1⌋ := Int.le_floor.2 (by linarith)
  have e3 : c + 1 ≤ ⌊(r + 16106127 / 268435456) * 8 + 1⌋ := Int.le_floor.2 (by push_cast; linarith)
  have hh := hi_toInt h0 h1
  rcases (by omega : ⌊(r - 16106127 / 268435456) * 8 + 1⌋ = c ∨ ⌊(r - 16106127 / 268435456) * 8 + 1⌋ = c + 1) with e | e
  · refine ⟨true, fun b' => ?_⟩
    unfold okS1
    rw [nxt_toInt h0 h1, hh, e]
    generalize ⌊(r + 16106127 / 268435456) * 8 + 1⌋ = H at e3
    cases b' with
    | false => simp
    | true => simp; omega
  · refine ⟨false, fun b' => ?_⟩
    unfold okS1
    rw [nxt_toInt h0 h1, hh, e]
    generalize ⌊(r + 16106127 / 268435456) * 8 + 1⌋ = H at e3
    cases b' with
    | false => simp; omega
    | true => simp

end Cert.Proof

end
-- ==== Proof.Cells.lean ====
/-
  The sum over the cells round a point and their lists is the sum over the gaussians that hit the point: each gaussian is
  in one list, and when it hits the point its cell is in the window, once.
-/
module

public import proofs.«01_k».proof.Proof.Grid

@[expose] public section

noncomputable section

namespace Cert.Proof

open Idealize.ShloMosaic
open Cert.KernelIdeal (S16 S128 S512 S1280 S4096 S14336 S43520)

section

variable (A : Vec Ideal S43520 .f32) (W : Vec Ideal S1280 .i32) (C : Vec Ideal S512 .i32) (S : Vec Ideal S14336 .i32)

/-- Gaussian `g` stands in slot `j` of cell `c`. -/
def Lst (g c j : ℕ) : Prop := j < (rd C c : BitVec 32).toNat ∧ entry S c j = g + 1

/-- The three coordinates of a gaussian's mean. -/
def mx (g : ℕ) : BitVec 32 := IntOp.andi (IntOp.shrsi .vector (rd W g) 16#32) 255#32
def my (g : ℕ) : BitVec 32 := IntOp.andi (IntOp.shrsi .vector (rd W g) 8#32) 255#32
def mz (g : ℕ) : BitVec 32 := IntOp.andi (rd W g) 255#32

/-- The tables are lists of the gaussians, each in the cell of its mean. -/
structure Lists : Prop where
  radius : ∀ g < 1280, (IntOp.shrsi .vector (rd W g) 24#32 : BitVec 32).toInt ≤ 10
  slots : ∀ k, (rd S k : BitVec 32).toNat ≤ 1280
  once : ∀ g < 1280, ∃ c < 512, ∃ j < 28, Lst C S g c j ∧ ∀ c' < 512, ∀ j' < 28, Lst C S g c' j' → c' = c ∧ j' = j
  nearX : ∀ g < 1280, ∀ c < 512, ∀ j < 28, Lst C S g c j → (25 * (c / 64) : ℤ) ≤ (mx W g).toInt ∧ (mx W g).toInt ≤ 25 * (c / 64) + 25
  nearY : ∀ g < 1280, ∀ c < 512, ∀ j < 28, Lst C S g c j → (25 * (c / 8 % 8) : ℤ) ≤ (my W g).toInt ∧ (my W g).toInt ≤ 25 * (c / 8 % 8) + 25
  nearZ : ∀ g < 1280, ∀ c < 512, ∀ j < 28, Lst C S g c j → (25 * (c % 8) : ℤ) ≤ (mz W g).toInt ∧ (mz W g).toInt ≤ 25 * (c % 8) + 25

theorem byte_range (w : BitVec 32) : 0 ≤ (IntOp.andi w 255#32).toInt ∧ (IntOp.andi w 255#32).toInt ≤ 255 := by
  have h : (IntOp.andi w 255#32).toNat ≤ 255 := by
    show (w &&& 255#32).toNat ≤ 255
    rw [BitVec.toNat_and]
    exact Nat.and_le_right
  rw [BitVec.toInt_eq_toNat_cond, if_pos (by omega)]
  omega

/-- Within the radius on one axis. -/
theorem within_iff {x mean rad : BitVec 32} (hx0 : 0 ≤ x.toInt) (hx1 : x.toInt ≤ 200) (hm0 : 0 ≤ mean.toInt) (hm1 : mean.toInt ≤ 255) :
    IntOp.cmpi .sle (IntOp.absi (IntOp.subi x mean)) rad = 1#1 ↔ |x.toInt - mean.toInt| ≤ rad.toInt := by
  have h := subi_toInt (u := x) (v := mean) (by omega) (by omega) (by omega) (by omega)
  rw [IntOp.cmpi_sle, absi_toInt (by rw [h]; omega) (by rw [h]; omega), h]

variable {A W C S}

theorem slotS_eq (hS : ∀ k, (rd S k : BitVec 32).toNat ≤ 1280) (px py pz : EReal) (x y z : BitVec 32) (c k : ℕ) [∀ g j, Decidable (Lst C S g c j)] :
    slotS A W S px py pz x y z c (rd C c : BitVec 32).toNat k
      = ∑ j ∈ Finset.range 28, ∑ g ∈ Finset.range 1280, if Lst C S g c j ∧ hitS (rd W g) x y z then colS A (ampS A px py pz g) g k else 0 := by
  unfold slotS
  refine Finset.sum_congr rfl fun j _ => ?_
  have h4 : entry S c j ≤ 1280 := hS (28 * c + j)
  by_cases h : j < (rd C c : BitVec 32).toNat ∧ 0 < entry S c j
  · rw [Finset.sum_eq_single (entry S c j - 1)]
    · refine if_congr ⟨fun h' => ⟨⟨h.1, by omega⟩, h'.2⟩, fun h' => ⟨h, h'.2⟩⟩ rfl rfl
    · intro g _ hg
      refine if_neg fun h' => hg ?_
      have := h'.1.2
      omega
    · intro hg
      exact absurd (Finset.mem_range.2 (by omega)) hg
  · rw [if_neg (fun h' => h h'.1)]
    exact (Finset.sum_eq_zero fun g _ => if_neg fun h' => h ⟨h'.1.1, by have := h'.1.2; omega⟩).symm

theorem offsets_sum (f : Bool × Bool × Bool → EReal) : (offsets.map f).sum = ∑ b, f b := by
  simp only [offsets, List.map_cons, List.map_nil, List.sum_cons, List.sum_nil, add_zero, Fintype.sum_prod_type, Fintype.sum_bool]
  abel

theorem toNat_of_toInt {v : BitVec 32} {n : ℕ} (h : v.toInt = n) : v.toNat = n := by
  rw [BitVec.toInt_eq_toNat_cond] at h
  have := v.isLt
  split at h <;> omega

theorem toInt_of_toNat {v : BitVec 32} {n : ℕ} (hn : n < 8) (h : v.toNat = n) : v.toInt = n := by
  rw [BitVec.toInt_eq_toNat_cond, if_pos (by omega), h]

/-- A gaussian that hits the point is met once in the window. -/
theorem met_once (L : Lists W C S) {rx ry rz : ℝ} (hx0 : 0 ≤ rx) (hx1 : rx < 1) (hy0 : 0 ≤ ry) (hy1 : ry < 1) (hz0 : 0 ≤ rz) (hz1 : rz < 1)
    (g : ℕ) (hg : g < 1280) (hit : hitS (rd W g) (latS (rx : EReal)) (latS (ry : EReal)) (latS (rz : EReal))) :
    ∃ b, ∃ j < 28, ∀ b', ∀ j' < 28, (okS (rx : EReal) (ry : EReal) (rz : EReal) b' ∧ Lst C S g (cellS (rx : EReal) (ry : EReal) (rz : EReal) b') j') ↔ b' = b ∧ j' = j := by
  obtain ⟨c, hc, j, hj, hl, hu⟩ := L.once g hg
  have hr := L.radius g hg
  obtain ⟨h1, h2, h3⟩ := hit
  have lx := lat_range hx0 hx1
  have ly := lat_range hy0 hy1
  have lz := lat_range hz0 hz1
  have bx := byte_range (IntOp.shrsi .vector (rd W g) 16#32)
  have by' := byte_range (IntOp.shrsi .vector (rd W g) 8#32)
  have bz := byte_range (rd W g)
  have h1' := (within_iff lx.1 lx.2 bx.1 bx.2).1 h1
  have h2' := (within_iff ly.1 ly.2 by'.1 by'.2).1 h2
  have h3' := (within_iff lz.1 lz.2 bz.1 bz.2).1 h3
  have nx := L.nearX g hg c hc j hj hl
  have ny := L.nearY g hg c hc j hj hl
  have nz := L.nearZ g hg c hc j hj hl
  obtain ⟨b1, e1⟩ := window hx0 hx1 ((c / 64 : ℕ) : ℤ) (mx W g).toInt (by omega) (by omega) (by push_cast; exact nx.1) (by push_cast; exact nx.2) (h1'.trans hr)
  obtain ⟨b2, e2⟩ := window hy0 hy1 ((c / 8 % 8 : ℕ) : ℤ) (my W g).toInt (by omega) (by omega) (by push_cast; exact ny.1) (by push_cast; exact ny.2) (h2'.trans hr)
  obtain ⟨b3, e3⟩ := window hz0 hz1 ((c % 8 : ℕ) : ℤ) (mz W g).toInt (by omega) (by omega) (by push_cast; exact nz.1) (by push_cast; exact nz.2) (h3'.trans hr)
  have hcell : cellS (rx : EReal) (ry : EReal) (rz : EReal) (b1, b2, b3) = c := by
    have f1 := toNat_of_toInt ((e1 b1).2 rfl).2
    have f2 := toNat_of_toInt ((e2 b2).2 rfl).2
    have f3 := toNat_of_toInt ((e3 b3).2 rfl).2
    unfold cellS
    show ((nxtS b1 _).toNat * 8 + (nxtS b2 _).toNat) * 8 + (nxtS b3 _).toNat = c
    rw [f1, f2, f3]
    omega
  refine ⟨(b1, b2, b3), j, hj, fun b' j' hj' => ⟨fun h => ?_, ?_⟩⟩
  · obtain ⟨hok, hl'⟩ := h
    obtain ⟨hcc, hjj⟩ := hu _ (cellS_lt hok) j' hj' hl'
    refine ⟨?_, hjj⟩
    obtain ⟨b1', b2', b3'⟩ := b'
    have g1 := okS1_lt hok.1
    have g2 := okS1_lt hok.2.1
    have g3 := okS1_lt hok.2.2
    unfold cellS at hcc
    dsimp only at hcc g1 g2 g3
    have i1 := (e1 b1').1 ⟨hok.1, toInt_of_toNat (by omega) (by omega)⟩
    have i2 := (e2 b2').1 ⟨hok.2.1, toInt_of_toNat (by omega) (by omega)⟩
    have i3 := (e3 b3').1 ⟨hok.2.2, toInt_of_toNat (by omega) (by omega)⟩
    rw [i1, i2, i3]
  · rintro ⟨rfl, rfl⟩
    refine ⟨⟨((e1 b1).2 rfl).1, ((e2 b2).2 rfl).1, ((e3 b3).2 rfl).1⟩, ?_⟩
    rw [hcell]
    exact hl

/-- A row of the output as a sum over the gaussians. -/
theorem row_sum (L : Lists W C S) {rx ry rz : ℝ} (hx0 : 0 ≤ rx) (hx1 : rx < 1) (hy0 : 0 ≤ ry) (hy1 : ry < 1) (hz0 : 0 ≤ rz) (hz1 : rz < 1)
    (p : BitVec 32) (hpx : IntOp.shrsi .vector p 20#32 = latS (rx : EReal)) (hpy : IntOp.andi (IntOp.shrsi .vector p 10#32) 1023#32 = latS (ry : EReal))
    (hpz : IntOp.andi p 1023#32 = latS (rz : EReal)) (k : ℕ) :
    rowS A W C S (rx : EReal) (ry : EReal) (rz : EReal) p k
      = ∑ g ∈ Finset.range 1280, if hitS (rd W g) (latS (rx : EReal)) (latS (ry : EReal)) (latS (rz : EReal))
          then colS A (ampS A (rx : EReal) (ry : EReal) (rz : EReal) g) g k else 0 := by
  classical
  unfold rowS
  rw [offsets_sum, hpx, hpy, hpz]
  have step : ∀ b : Bool × Bool × Bool, (if okS (rx : EReal) (ry : EReal) (rz : EReal) b then
      slotS A W S (rx : EReal) (ry : EReal) (rz : EReal) (latS (rx : EReal)) (latS (ry : EReal)) (latS (rz : EReal)) (cellS (rx : EReal) (ry : EReal) (rz : EReal) b)
        (rd C (cellS (rx : EReal) (ry : EReal) (rz : EReal) b) : BitVec 32).toNat k else 0)
      = ∑ g ∈ Finset.range 1280, ∑ j ∈ Finset.range 28, if (okS (rx : EReal) (ry : EReal) (rz : EReal) b ∧ Lst C S g (cellS (rx : EReal) (ry : EReal) (rz : EReal) b) j)
          ∧ hitS (rd W g) (latS (rx : EReal)) (latS (ry : EReal)) (latS (rz : EReal)) then colS A (ampS A (rx : EReal) (ry : EReal) (rz : EReal) g) g k else 0 := by
    intro b
    by_cases hok : okS (rx : EReal) (ry : EReal) (rz : EReal) b
    · rw [if_pos hok, slotS_eq L.slots, Finset.sum_comm]
      exact Finset.sum_congr rfl fun g _ => Finset.sum_congr rfl fun j _ => if_congr ⟨fun h => ⟨⟨hok, h.1⟩, h.2⟩, fun h => ⟨h.1.2, h.2⟩⟩ rfl rfl
    · rw [if_neg hok]
      exact (Finset.sum_eq_zero fun g _ => Finset.sum_eq_zero fun j _ => if_neg fun h => hok h.1.1).symm
  rw [Finset.sum_congr rfl fun b _ => step b, Finset.sum_comm]
  refine Finset.sum_congr rfl fun g hg => ?_
  by_cases hit : hitS (rd W g) (latS (rx : EReal)) (latS (ry : EReal)) (latS (rz : EReal))
  · rw [if_pos hit]
    obtain ⟨b, j, hj, e⟩ := met_once L hx0 hx1 hy0 hy1 hz0 hz1 g (Finset.mem_range.1 hg) hit
    rw [Finset.sum_eq_single b, Finset.sum_eq_single j, if_pos ⟨(e b j hj).2 ⟨rfl, rfl⟩, hit⟩]
    · intro j' hj' hne
      exact if_neg fun h => hne ((e b j' (Finset.mem_range.1 hj')).1 h.1).2
    · exact fun h => absurd (Finset.mem_range.2 hj) h
    · intro b' _ hne
      exact Finset.sum_eq_zero fun j' hj' => if_neg fun h => hne ((e b' j' (Finset.mem_range.1 hj')).1 h.1).1
    · exact fun h => absurd (Finset.mem_univ b) h
  · rw [if_neg hit]
    exact Finset.sum_eq_zero fun b _ => Finset.sum_eq_zero fun j _ => if_neg fun h => hit h.2

end

end Cert.Proof

end
-- ==== Proof.Ends.lean ====
/-
  The tables the call reads, element by element, and the program's results as sums over the gaussians.
-/
module

public import proofs.«01_k».proof.Proof.Frames
public import proofs.«01_k».proof.Proof.Cells

@[expose] public section

noncomputable section

namespace Cert.Proof

open Cert.KernelIdeal Cert.KernelIdeal.Gen

open Idealize.ShloMosaic Idealize.ShloMosaic.TcCoe
open Idealize.ShloMosaic.ValueIdx (ix1 ix2 ix3)

/-! ## Packing three coordinates in a word -/

theorem pack_toNat {x y z : BitVec 32} (hx : x.toNat ≤ 200) (hy : y.toNat ≤ 200) (hz : z.toNat ≤ 200) :
    (IntOp.ori (IntOp.ori (IntOp.shli .host x 20#32) (IntOp.shli .host y 10#32)) z).toNat = 2 ^ 20 * x.toNat + (2 ^ 10 * y.toNat + z.toNat) := by
  show ((x <<< (20#32 : BitVec 32)) ||| (y <<< (10#32 : BitVec 32)) ||| z).toNat = _
  rw [BitVec.toNat_or, BitVec.toNat_or, BitVec.shiftLeft_eq', BitVec.shiftLeft_eq', BitVec.toNat_shiftLeft, BitVec.toNat_shiftLeft, Nat.or_assoc]
  have e1 : x.toNat <<< (20#32 : BitVec 32).toNat % 2 ^ 32 = 2 ^ 20 * x.toNat := by
    rw [Nat.shiftLeft_eq, show (20#32 : BitVec 32).toNat = 20 from rfl]; omega
  have e2 : y.toNat <<< (10#32 : BitVec 32).toNat % 2 ^ 32 = 2 ^ 10 * y.toNat := by
    rw [Nat.shiftLeft_eq, show (10#32 : BitVec 32).toNat = 10 from rfl]; omega
  rw [e1, e2, ← Nat.two_pow_add_eq_or_of_lt (by omega : z.toNat < 2 ^ 10), ← Nat.two_pow_add_eq_or_of_lt (by omega : 2 ^ 10 * y.toNat + z.toNat < 2 ^ 20)]

theorem shr_toNat {p : BitVec 32} (hp : p.toNat < 2 ^ 31) (n : ℕ) (hn : n < 32) : (IntOp.shrsi .vector p (BitVec.ofNat 32 n)).toNat = p.toNat / 2 ^ n := by
  have h : (BitVec.ofNat 32 n).toNat = n := by rw [BitVec.toNat_ofNat]; omega
  unfold IntOp.shrsi
  rw [if_pos (by rw [h]; exact hn)]
  show (p.sshiftRight (BitVec.ofNat 32 n).toNat).toNat = _
  rw [h, BitVec.sshiftRight_eq_of_msb_false (by rw [BitVec.msb_eq_decide]; simp; omega), BitVec.toNat_ushiftRight, Nat.shiftRight_eq_div_pow]

theorem low_toNat (p : BitVec 32) : (IntOp.andi p 1023#32).toNat = p.toNat % 1024 := by
  show (p &&& 1023#32).toNat = _
  rw [BitVec.toNat_and, show (1023#32 : BitVec 32).toNat = 2 ^ 10 - 1 from rfl, Nat.and_two_pow_sub_one_eq_mod]

theorem toNat_le_200 {v : BitVec 32} (h : 0 ≤ v.toInt ∧ v.toInt ≤ 200) : v.toNat ≤ 200 := by
  obtain ⟨h0, h1⟩ := h
  rw [BitVec.toInt_eq_toNat_cond] at h0 h1
  have := v.isLt
  split at h0 <;> omega

theorem unpack {x y z : BitVec 32} (hx : x.toNat ≤ 200) (hy : y.toNat ≤ 200) (hz : z.toNat ≤ 200) (p : BitVec 32)
    (hp : p = IntOp.ori (IntOp.ori (IntOp.shli .host x 20#32) (IntOp.shli .host y 10#32)) z) :
    IntOp.shrsi .vector p 20#32 = x ∧ IntOp.andi (IntOp.shrsi .vector p 10#32) 1023#32 = y ∧ IntOp.andi p 1023#32 = z := by
  have h := pack_toNat hx hy hz
  rw [← hp] at h
  have hlt : p.toNat < 2 ^ 31 := by omega
  refine ⟨BitVec.eq_of_toNat_eq ?_, BitVec.eq_of_toNat_eq ?_, BitVec.eq_of_toNat_eq ?_⟩
  · rw [shr_toNat hlt 20 (by norm_num), h]; omega
  · rw [low_toNat, shr_toNat hlt 10 (by norm_num), h]; omega
  · rw [low_toNat, h]; omega

/-! ## Reading the tables -/

theorem rd_two {n a b : ℕ} [NeZero n] {e : EltTy} (x : Vec Ideal ⟨2, ![a, b]⟩ e) (h : (⟨2, ![a, b]⟩ : Shape).ShapeCasts ⟨1, ![n]⟩) (i : Fin a) (j : Fin b)
    (hn : b * i.val + j.val < n) : rd (shapeCast ⟨1, ![n]⟩ x h) (b * i.val + j.val) = x (ix2 i j) := by
  unfold rd
  refine shapeCast_apply x h _ (ix2 i j) ?_
  rewrite [Shape.rowMajor_val_two, Shape.rowMajor_val_one]
  show i.val * b + j.val = (b * i.val + j.val) % n
  rw [Nat.mod_eq_of_lt hn, Nat.mul_comm]

theorem rd_padF (x : Vec Ideal S3856 .f32) (p : Fin 3856) : (rd (padF x) p.val : EReal) = x (ix1 p) := by
  unfold rd padF pad
  have hp := p.isLt
  have hin : ∀ a : Fin S3856.rank, (![0] : Fin 1 → ℕ) a ≤ p.val % 4096 ∧ (p.val % 4096 - (![0] : Fin 1 → ℕ) a) % ((![0] : Fin 1 → ℕ) a + 1) = 0
      ∧ (p.val % 4096 - (![0] : Fin 1 → ℕ) a) / ((![0] : Fin 1 → ℕ) a + 1) < S3856.size a := by
    intro a
    have ha : a = 0 := Fin.eq_zero a
    subst ha
    show 0 ≤ _ ∧ (p.val % 4096 - 0) % (0 + 1) = 0 ∧ (p.val % 4096 - 0) / (0 + 1) < 3856
    omega
  refine (dif_pos hin).trans (congrArg x (funext fun a => Fin.ext ?_))
  have ha : a = 0 := Fin.eq_zero a
  subst ha
  show (p.val % 4096 - 0) / (0 + 1) = p.val
  omega

theorem rd_padI (x : Vec Ideal S3856 .i32) (p : Fin 3856) : (rd (padI x) p.val : BitVec 32) = x (ix1 p) := by
  unfold rd padI pad
  have hp := p.isLt
  have hin : ∀ a : Fin S3856.rank, (![0] : Fin 1 → ℕ) a ≤ p.val % 4096 ∧ (p.val % 4096 - (![0] : Fin 1 → ℕ) a) % ((![0] : Fin 1 → ℕ) a + 1) = 0
      ∧ (p.val % 4096 - (![0] : Fin 1 → ℕ) a) / ((![0] : Fin 1 → ℕ) a + 1) < S3856.size a := by
    intro a
    have ha : a = 0 := Fin.eq_zero a
    subst ha
    show 0 ≤ _ ∧ (p.val % 4096 - 0) % (0 + 1) = 0 ∧ (p.val % 4096 - 0) / (0 + 1) < 3856
    omega
  refine (dif_pos hin).trans (congrArg x (funext fun a => Fin.ext ?_))
  have ha : a = 0 := Fin.eq_zero a
  subst ha
  show (p.val % 4096 - 0) / (0 + 1) = p.val
  omega

variable (m : (ℓ : Loc nD τ sig) → Buf (Elt Ideal) ℓ) (d : Dev nD)

/-- Coordinate `k` of the `p`-th of the points the call handles. -/
def pt (p : Fin 3856) (k : Fin 3) : EReal := at0 m d (ix3 0 ⟨6144 + p.val, by have := p.isLt; omega⟩ k)

theorem ptsV_at (q : Fin 10000) (k : Fin 3) : ptsV m d (ix2 q k) = at0 m d (ix3 0 q k) := by
  unfold ptsV
  refine shapeCast_apply (at0 m d) _ _ (ix3 0 q k) ?_
  rewrite [Shape.rowMajor_val_two, Shape.rowMajor_val_three]
  show (0 * 10000 + q.val) * 3 + k.val = q.val * 3 + k.val
  omega

theorem column {e : EltTy} (x : Vec Ideal S3856x3 e) (k : Fin 3) (off : Fin 2 → ℕ) (ho : off = ![0, k.val]) (h : S3856x3.Slices off S3856x1) (p : Fin 3856) :
    shapeCast S3856 (extractStridedSlice S3856x1 off x h) shapeCasts_S3856x1_S3856 (ix1 p) = x (ix2 p k) := by
  subst ho
  refine (shapeCast_apply (s := S3856x1) _ _ (ix1 p) (ix2 p 0) ?_).trans ?_
  · rewrite [Shape.rowMajor_val_two, Shape.rowMajor_val_one]
    show p.val * 1 + 0 = p.val
    omega
  · refine extractStridedSlice_apply ![0, k.val] x h (ix2 p 0) (ix2 p k) (fun a => match a with
      | ⟨0, _⟩ => by show p.val = 0 + p.val; omega
      | ⟨1, _⟩ => by show k.val = k.val + 0; omega)

theorem rowsV_at (p : Fin 3856) (k : Fin 3) : rowsV m d (ix2 p k) = pt m d p k := by
  unfold rowsV pt
  rw [← ptsV_at]
  exact extractStridedSlice_apply ![6144, 0] (ptsV m d) _ (ix2 p k) (ix2 ⟨6144 + p.val, by have := p.isLt; omega⟩ k) (fun a => match a with
      | ⟨0, _⟩ => by show 6144 + p.val = 6144 + p.val; rfl
      | ⟨1, _⟩ => by show k.val = 0 + k.val; omega)

theorem rowsI_at (p : Fin 3856) (k : Fin 3) : rowsI m d (ix2 p k) = latS (pt m d p k) := by
  unfold rowsI pt
  rw [← ptsV_at]
  exact (extractStridedSlice_apply ![6144, 0] (latV m d) _ (ix2 p k) (ix2 ⟨6144 + p.val, by have := p.isLt; omega⟩ k) (fun a => match a with
      | ⟨0, _⟩ => by show 6144 + p.val = 6144 + p.val; rfl
      | ⟨1, _⟩ => by show k.val = 0 + k.val; omega)).trans rfl

theorem X_at (p : Fin 3856) : (rd (tabs m d).X p.val : EReal) = pt m d p 0 := by
  rw [tabs_X, rd_padF, ← rowsV_at]
  exact column (rowsV m d) 0 ![0, 0] rfl slices_S3856x3_S3856x1_0_0 p
theorem Y_at (p : Fin 3856) : (rd (tabs m d).Y p.val : EReal) = pt m d p 1 := by
  rw [tabs_Y, rd_padF, ← rowsV_at]
  exact column (rowsV m d) 1 ![0, 1] rfl slices_S3856x3_S3856x1_0_1 p
theorem Z_at (p : Fin 3856) : (rd (tabs m d).Z p.val : EReal) = pt m d p 2 := by
  rw [tabs_Z, rd_padF, ← rowsV_at]
  exact column (rowsV m d) 2 ![0, 2] rfl slices_S3856x3_S3856x1_0_2 p

theorem P_at (p : Fin 3856) : (rd (tabs m d).P p.val : BitVec 32)
    = IntOp.ori (IntOp.ori (IntOp.shli .host (latS (pt m d p 0)) 20#32) (IntOp.shli .host (latS (pt m d p 1)) 10#32)) (latS (pt m d p 2)) := by
  rw [tabs_P, rd_padI, ← rowsI_at, ← rowsI_at, ← rowsI_at]
  show IntOp.ori (IntOp.ori (IntOp.shli .host (colI0 m d (ix1 p)) 20#32) (IntOp.shli .host (colI1 m d (ix1 p)) 10#32)) (colI2 m d (ix1 p)) = _
  unfold colI0 colI1 colI2
  rw [column (rowsI m d) 0 ![0, 0] rfl, column (rowsI m d) 1 ![0, 1] rfl, column (rowsI m d) 2 ![0, 2] rfl]

theorem A_at (r : Fin 34) (g : Fin 1280) : (rd (tabs m d).A (1280 * r.val + g.val) : EReal) = at1 m d (ix2 r g) := by
  rw [tabs_A]
  have := r.isLt
  have := g.isLt
  exact rd_two (n := 43520) (at1 m d) _ r g (by omega)

theorem W_at (g : Fin 1280) : (rd (tabs m d).W g.val : BitVec 32) = at2 m d (ix2 0 g) := by
  rw [tabs_W]
  have h := rd_two (n := 1280) (at2 m d) shapeCasts_S1x1280_S1280 0 g (by have := g.isLt; show 1280 * 0 + g.val < 1280; omega)
  rw [show 1280 * (0 : Fin 1).val + g.val = g.val by simp] at h
  exact h

theorem C_at (c : Fin 512) : (rd (tabs m d).C c.val : BitVec 32) = at3 m d (ix2 c 0) := by
  rw [tabs_C]
  have h := rd_two (n := 512) (at3 m d) shapeCasts_S512x1_S512 c 0 (by have := c.isLt; show 1 * c.val + 0 < 512; omega)
  rw [show 1 * c.val + (0 : Fin 1).val = c.val by simp] at h
  exact h

theorem S_at (c : Fin 512) (j : Fin 28) : (rd (tabs m d).S (28 * c.val + j.val) : BitVec 32) = at4 m d (ix2 c j) := by
  rw [tabs_S]
  have := c.isLt
  have := j.isLt
  exact rd_two (n := 14336) (at4 m d) _ c j (by omega)

/-! ## The lists -/

theorem lst_iff (g : Fin 1280) (c : Fin 512) (j : Fin 28) (h : GivenAt m d) :
    Lst (tabs m d).C (tabs m d).S g.val c.val j.val ↔ Listed (at3 m d) (at4 m d) g c j := by
  have hc := h.counts (ix2 c 0)
  have hg := g.isLt
  have hj := j.isLt
  unfold Lst Listed entry
  rw [C_at, S_at]
  have e1 : (BitVec.ofNat 32 j.val).toInt < (at3 m d (ix2 c 0)).toInt ↔ j.val < (at3 m d (ix2 c 0)).toNat := by
    have hc0 := hc.1
    have := (at3 m d (ix2 c 0)).isLt
    rw [BitVec.toInt_eq_toNat_cond] at hc0
    rw [BitVec.toInt_eq_toNat_cond, BitVec.toInt_eq_toNat_cond, BitVec.toNat_ofNat, Nat.mod_eq_of_lt (by omega : j.val < 2 ^ 32), if_pos (by omega)]
    split at hc0
    · rw [if_pos (by assumption)]; omega
    · omega
  have e2 : (at4 m d (ix2 c j) : BitVec 32) = IntOp.addi (BitVec.ofNat 32 g.val) 1#32 ↔ (at4 m d (ix2 c j) : BitVec 32).toNat = g.val + 1 := by
    have e3 : (IntOp.addi (BitVec.ofNat 32 g.val) 1#32).toNat = g.val + 1 := by
      show (BitVec.ofNat 32 g.val + 1#32).toNat = _
      rw [BitVec.toNat_add, BitVec.toNat_ofNat, BitVec.toNat_ofNat]
      omega
    exact ⟨fun h => by rw [h, e3], fun h => BitVec.eq_of_toNat_eq (by rw [h, e3])⟩
  rw [e1, e2, and_comm]

theorem host_shrsi (x : BitVec 32) (n : ℕ) (hn : n < 32) : IntOp.shrsi .host x (BitVec.ofNat 32 n) = IntOp.shrsi .vector x (BitVec.ofNat 32 n) := by
  have h : (BitVec.ofNat 32 n).toNat < 32 := by rw [BitVec.toNat_ofNat]; omega
  unfold IntOp.shrsi
  rw [if_pos h, if_pos h]

theorem corner_toNat {v : BitVec 32} {n : ℕ} (hn : n < 8) (h : v.toNat = n) : (IntOp.muli 25#32 v).toInt = 25 * n := by
  have e : (IntOp.muli 25#32 v).toNat = 25 * n := by
    show (25#32 * v).toNat = _
    rw [BitVec.toNat_mul, h, BitVec.toNat_ofNat]
    omega
  rw [BitVec.toInt_eq_toNat_cond, if_pos (by omega), e]
  push_cast
  rfl

theorem seven (v : BitVec 32) : (IntOp.andi v 7#32).toNat = v.toNat % 8 := by
  show (v &&& 7#32).toNat = _
  rw [BitVec.toNat_and, show (7#32 : BitVec 32).toNat = 2 ^ 3 - 1 from rfl, Nat.and_two_pow_sub_one_eq_mod]

theorem cornerX_toInt (c : Fin 512) : (cornerX c.val).toInt = 25 * (c.val / 64 : ℕ) := by
  have := c.isLt
  refine corner_toNat (by omega) ?_
  rw [host_shrsi _ 6 (by norm_num), shr_toNat (by rw [BitVec.toNat_ofNat]; omega) 6 (by norm_num), BitVec.toNat_ofNat]
  omega
theorem cornerY_toInt (c : Fin 512) : (cornerY c.val).toInt = 25 * (c.val / 8 % 8 : ℕ) := by
  have := c.isLt
  refine corner_toNat (by omega) ?_
  rw [seven, host_shrsi _ 3 (by norm_num), shr_toNat (by rw [BitVec.toNat_ofNat]; omega) 3 (by norm_num), BitVec.toNat_ofNat]
  omega
theorem cornerZ_toInt (c : Fin 512) : (cornerZ c.val).toInt = 25 * (c.val % 8 : ℕ) := by
  have := c.isLt
  refine corner_toNat (by omega) ?_
  rw [seven, BitVec.toNat_ofNat]
  omega

theorem near_of {u v : BitVec 32} {n : ℕ} (hn : n < 8) (hu : 0 ≤ u.toInt ∧ u.toInt ≤ 255) (hv : v.toInt = 25 * n) (h : NearBy u v) :
    25 * (n : ℤ) ≤ u.toInt ∧ u.toInt ≤ 25 * n + 25 := by
  obtain ⟨h0, h1⟩ := h
  rw [subi_toInt (by omega) (by omega) (by omega) (by omega), hv] at h0 h1
  omega

theorem lists (h : GivenAt m d) : Lists (tabs m d).W (tabs m d).C (tabs m d).S where
  radius := fun g hg => by
    have := (h.words ⟨g, hg⟩).2
    rw [host_shrsi _ 24 (by norm_num)] at this
    rw [W_at m d ⟨g, hg⟩]
    exact this
  slots := (ok_of_given m d h).slots
  once := fun g hg => by
    obtain ⟨c, j, hl, hu⟩ := h.once ⟨g, hg⟩
    refine ⟨c.val, c.isLt, j.val, j.isLt, (lst_iff m d ⟨g, hg⟩ c j h).2 hl, fun c' hc' j' hj' hl' => ?_⟩
    obtain ⟨e1, e2⟩ := hu ⟨c', hc'⟩ ⟨j', hj'⟩ ((lst_iff m d ⟨g, hg⟩ ⟨c', hc'⟩ ⟨j', hj'⟩ h).1 hl')
    exact ⟨congrArg Fin.val e1, congrArg Fin.val e2⟩
  nearX := fun g hg c hc j hj hl => by
    have hn := (h.near ⟨g, hg⟩ ⟨c, hc⟩ ⟨j, hj⟩ ((lst_iff m d ⟨g, hg⟩ ⟨c, hc⟩ ⟨j, hj⟩ h).1 hl)).1
    unfold meanX at hn
    rw [host_shrsi _ 16 (by norm_num), ← W_at m d ⟨g, hg⟩] at hn
    have := near_of (by omega : c / 64 < 8) (byte_range _) (cornerX_toInt ⟨c, hc⟩) hn
    push_cast at this
    exact this
  nearY := fun g hg c hc j hj hl => by
    have hn := (h.near ⟨g, hg⟩ ⟨c, hc⟩ ⟨j, hj⟩ ((lst_iff m d ⟨g, hg⟩ ⟨c, hc⟩ ⟨j, hj⟩ h).1 hl)).2.1
    unfold meanY at hn
    rw [host_shrsi _ 8 (by norm_num), ← W_at m d ⟨g, hg⟩] at hn
    have := near_of (by omega : c / 8 % 8 < 8) (byte_range _) (cornerY_toInt ⟨c, hc⟩) hn
    push_cast at this
    exact this
  nearZ := fun g hg c hc j hj hl => by
    have hn := (h.near ⟨g, hg⟩ ⟨c, hc⟩ ⟨j, hj⟩ ((lst_iff m d ⟨g, hg⟩ ⟨c, hc⟩ ⟨j, hj⟩ h).1 hl)).2.2
    unfold meanZ at hn
    rw [← W_at m d ⟨g, hg⟩] at hn
    have := near_of (by omega : c % 8 < 8) (byte_range _) (cornerZ_toInt ⟨c, hc⟩) hn
    push_cast at this
    exact this

/-! ## The results -/

theorem pt_real (h : GivenAt m d) (p : Fin 3856) (k : Fin 3) : ∃ r : ℝ, 0 ≤ r ∧ r < 1 ∧ pt m d p k = (r : EReal) := by
  obtain ⟨h0, h1⟩ := h.pts (ix3 0 ⟨6144 + p.val, by have := p.isLt; omega⟩ k)
  have h0' : Ideal.ofBits .f32 0x00000000#32 ≤ pt m d p k := by
    have : BitVec.ofBool (decide (Ideal.ofBits .f32 0x00000000#32 ≤ pt m d p k)) = 1#1 := h0
    by_contra hc
    rw [decide_eq_false hc] at this
    exact absurd this (by decide)
  have h1' : pt m d p k < Ideal.ofBits .f32 0x3F800000#32 := by
    have : BitVec.ofBool (decide (pt m d p k < Ideal.ofBits .f32 0x3F800000#32)) = 1#1 := h1
    by_contra hc
    rw [decide_eq_false hc] at this
    exact absurd this (by decide)
  rw [ofBits_zero] at h0'
  rw [ofBits_one] at h1'
  generalize pt m d p k = v at h0' h1'
  induction v with
  | bot => exact absurd h0' (by simp)
  | coe r => exact ⟨r, by exact_mod_cast h0', by exact_mod_cast h1', rfl⟩
  | top => exact absurd h1' (by simp)

/-- What gaussian `g` adds to column `k` of point `p`'s row. -/
def term (p : Fin 3856) (k : ℕ) (g : Fin 1280) : EReal :=
  if hitS (at2 m d (ix2 0 g)) (latS (pt m d p 0)) (latS (pt m d p 1)) (latS (pt m d p 2))
  then colS (tabs m d).A (ampS (tabs m d).A (pt m d p 0) (pt m d p 1) (pt m d p 2) g.val) g.val k else 0

theorem rd_slab {e : EltTy} (X : Vec Ideal S4096 e) (w q : ℕ) (hq : q < 128) : rd (slab X w) q = rd X (128 * w + q) := by
  show rd X (128 * w + q % 128) = _
  rw [Nat.mod_eq_of_lt hq]

theorem out_at (h : GivenAt m d) (p : Fin 3856) (k : Fin 19) :
    outMat m d (ix2 ⟨p.val, by have := p.isLt; omega⟩ ⟨k.val, by have := k.isLt; omega⟩) = ∑ g, term m d p k.val g := by
  have hp := p.isLt
  have hk := k.isLt
  unfold outMat
  rw [shapeCast_apply (callOut (tabs m d)) _ _ (ix1 (⟨32 * p.val + k.val, by omega⟩ : Fin 131072)) (by
    rewrite [Shape.rowMajor_val_two, Shape.rowMajor_val_one]
    show 32 * p.val + k.val = p.val * 32 + k.val
    omega)]
  unfold callOut
  show rd (F := Ideal) (tileOut (tabs m d).A (tabs m d).W (tabs m d).C (tabs m d).S (slab (tabs m d).X ((32 * p.val + k.val) / 4096))
    (slab (tabs m d).Y ((32 * p.val + k.val) / 4096)) (slab (tabs m d).Z ((32 * p.val + k.val) / 4096)) (slab (tabs m d).P ((32 * p.val + k.val) / 4096)))
    ((32 * p.val + k.val) % 4096) = _
  rw [show (32 * p.val + k.val) / 4096 = p.val / 128 by omega, show (32 * p.val + k.val) % 4096 = 32 * (p.val % 128) + k.val by omega,
    tileOut_row _ _ _ _ _ _ _ _ (ok_of_given m d h).counts (ok_of_given m d h).slots _ (by omega) _ hk,
    rd_slab _ _ _ (by omega), rd_slab _ _ _ (by omega), rd_slab _ _ _ (by omega), rd_slab _ _ _ (by omega),
    show 128 * (p.val / 128) + p.val % 128 = p.val by omega, X_at, Y_at, Z_at]
  obtain ⟨rx, x0, x1, ex⟩ := pt_real m d h p 0
  obtain ⟨ry, y0, y1, ey⟩ := pt_real m d h p 1
  obtain ⟨rz, z0, z1, ez⟩ := pt_real m d h p 2
  obtain ⟨u1, u2, u3⟩ := unpack (toNat_le_200 (lat_range x0 x1)) (toNat_le_200 (lat_range y0 y1)) (toNat_le_200 (lat_range z0 z1)) (rd (tabs m d).P p.val)
    (by rw [P_at, ex, ey, ez])
  unfold term
  rw [ex, ey, ez, row_sum (lists m d h) x0 x1 y0 y1 z0 z1 _ u1 u2 u3, Finset.sum_range]
  refine Finset.sum_congr rfl fun g _ => ?_
  rw [W_at]

end Cert.Proof

end
-- ==== Proof.Ref.lean ====
/-
  The reference's results, element by element: the gaussians' masked weights and their sums.
-/
module

public import proofs.«01_k».proof.Proof.Gen.ReferenceIdeal.Read
public import proofs.«01_k».proof.Proof.Ends

@[expose] public section

noncomputable section

namespace Cert.Proof.Ref

open Cert.ReferenceIdeal Cert.ReferenceIdeal.Read

open Idealize.ShloMosaic Idealize.ShloMosaic.TcCoe
open Idealize.ShloMosaic.ValueIdx (ix1 ix2 ix3)

variable (x0 : (⟨S1x10000x3, .f32⟩ : BufTy).Contents (Elt Ideal)) (x1 : (⟨S34x1280, .f32⟩ : BufTy).Contents (Elt Ideal))
variable (x2 : (⟨S1x1280, .i32⟩ : BufTy).Contents (Elt Ideal))
variable (p : Fin 3856) (g : Fin 1280)

/-- Coordinate `k` of point `p` of the last 3856. -/
def pt (k : Fin 3) : EReal := x0 (ix3 0 ⟨6144 + p.val, by have := p.isLt; omega⟩ k)

theorem v1_at (k : Fin 3) : val_main_v1 (F := Ideal) x0 (ix2 p k) = pt x0 p k := by
  rw [val_main_v1_apply, val_main_v0_apply]
  have hp := p.isLt
  have hk := k.isLt
  refine congrArg x0 (funext fun a => Fin.ext ?_)
  match a with
  | ⟨0, _⟩ => rfl
  | ⟨1, _⟩ => show 6144 + (p.val * 3 + k.val) / 3 % 3856 = 6144 + p.val; omega
  | ⟨2, _⟩ => show (p.val * 3 + k.val) % 3 = k.val; omega

theorem v5_at (k : Fin 3) : val_main_v5 (F := Ideal) x0 (ix2 p k) = latS (pt x0 p k) := by
  rw [val_main_v5_apply, val_main_v4_apply, val_main_v3_apply, v1_at, val_main_v2_apply, val_main_cst_apply]
  rfl

theorem v6_at : val_main_v6 (F := Ideal) x2 (ix1 g) = x2 (ix2 0 g) := by
  rw [val_main_v6_apply]
  have hg := g.isLt
  refine congrArg x2 (funext fun a => Fin.ext ?_)
  match a with
  | ⟨0, _⟩ => rfl
  | ⟨1, _⟩ => show g.val % 1280 = g.val; omega

theorem v26_at : val_main_v26 (F := Ideal) x1 (ix2 p g) = x1 (ix2 30 g) := by
  rw [val_main_v26_apply, val_main_v25_apply, val_main_v24_apply, val_main_v23_apply]
  have hg := g.isLt
  refine congrArg x1 (funext fun a => Fin.ext ?_)
  match a with
  | ⟨0, _⟩ => rfl
  | ⟨1, _⟩ => show g.val % 1280 = g.val; omega

theorem v47_at : val_main_v47 (F := Ideal) x1 (ix2 p g) = x1 (ix2 31 g) := by
  rw [val_main_v47_apply, val_main_v46_apply, val_main_v45_apply, val_main_v44_apply]
  have hg := g.isLt
  refine congrArg x1 (funext fun a => Fin.ext ?_)
  match a with
  | ⟨0, _⟩ => rfl
  | ⟨1, _⟩ => show g.val % 1280 = g.val; omega

theorem v68_at : val_main_v68 (F := Ideal) x1 (ix2 p g) = x1 (ix2 32 g) := by
  rw [val_main_v68_apply, val_main_v67_apply, val_main_v66_apply, val_main_v65_apply]
  have hg := g.isLt
  refine congrArg x1 (funext fun a => Fin.ext ?_)
  match a with
  | ⟨0, _⟩ => rfl
  | ⟨1, _⟩ => show g.val % 1280 = g.val; omega

theorem v32_at : val_main_v32 (F := Ideal) x1 (ix2 p g) = x1 (ix2 27 g) := by
  rw [val_main_v32_apply, val_main_v31_apply, val_main_v30_apply, val_main_v29_apply]
  have hg := g.isLt
  refine congrArg x1 (funext fun a => Fin.ext ?_)
  match a with
  | ⟨0, _⟩ => rfl
  | ⟨1, _⟩ => show g.val % 1280 = g.val; omega

theorem v53_at : val_main_v53 (F := Ideal) x1 (ix2 p g) = x1 (ix2 28 g) := by
  rw [val_main_v53_apply, val_main_v52_apply, val_main_v51_apply, val_main_v50_apply]
  have hg := g.isLt
  refine congrArg x1 (funext fun a => Fin.ext ?_)
  match a with
  | ⟨0, _⟩ => rfl
  | ⟨1, _⟩ => show g.val % 1280 = g.val; omega

theorem v74_at : val_main_v74 (F := Ideal) x1 (ix2 p g) = x1 (ix2 29 g) := by
  rw [val_main_v74_apply, val_main_v73_apply, val_main_v72_apply, val_main_v71_apply]
  have hg := g.isLt
  refine congrArg x1 (funext fun a => Fin.ext ?_)
  match a with
  | ⟨0, _⟩ => rfl
  | ⟨1, _⟩ => show g.val % 1280 = g.val; omega

theorem v95_at : val_main_v95 (F := Ideal) x1 (ix2 p g) = x1 (ix2 33 g) := by
  rw [val_main_v95_apply, val_main_v94_apply, val_main_v93_apply, val_main_v92_apply]
  have hg := g.isLt
  refine congrArg x1 (funext fun a => Fin.ext ?_)
  match a with
  | ⟨0, _⟩ => rfl
  | ⟨1, _⟩ => show g.val % 1280 = g.val; omega

theorem v21_at0 : val_main_v21 (F := Ideal) x1 (ix2 0 g) = x1 (ix2 0 g) := by
  rw [val_main_v21_apply]
  refine congrArg x1 (funext fun a => Fin.ext ?_)
  match a with
  | ⟨0, _⟩ => rfl
  | ⟨1, _⟩ => rfl

theorem v21_at1 : val_main_v21 (F := Ideal) x1 (ix2 1 g) = x1 (ix2 1 g) := by
  rw [val_main_v21_apply]
  refine congrArg x1 (funext fun a => Fin.ext ?_)
  match a with
  | ⟨0, _⟩ => rfl
  | ⟨1, _⟩ => rfl

theorem v21_at2 : val_main_v21 (F := Ideal) x1 (ix2 2 g) = x1 (ix2 2 g) := by
  rw [val_main_v21_apply]
  refine congrArg x1 (funext fun a => Fin.ext ?_)
  match a with
  | ⟨0, _⟩ => rfl
  | ⟨1, _⟩ => rfl

theorem v22_at : val_main_v22 (F := Ideal) x0 x1 (ix2 p g)
    = pt x0 p 0 * x1 (ix2 0 g) + pt x0 p 1 * x1 (ix2 1 g) + pt x0 p 2 * x1 (ix2 2 g) := by
  have hl : ∀ k : Fin 3, lidx_main_v22 (ix2 p g) k = ix2 p k := fun k => funext fun a => Fin.ext (by
    match a with
    | ⟨0, _⟩ => rfl
    | ⟨1, _⟩ => rfl)
  have hr : ∀ k : Fin 3, ridx_main_v22 (ix2 p g) k = ix2 k g := fun k => funext fun a => Fin.ext (by
    match a with
    | ⟨0, _⟩ => rfl
    | ⟨1, _⟩ => rfl)
  rw [val_main_v22_apply, Fin.sum_univ_three, hl, hl, hl, hr, hr, hr, v1_at, v1_at, v1_at, v21_at0, v21_at1, v21_at2]

theorem v42_at0 : val_main_v42 (F := Ideal) x1 (ix2 0 g) = x1 (ix2 3 g) := by
  rw [val_main_v42_apply]
  refine congrArg x1 (funext fun a => Fin.ext ?_)
  match a with
  | ⟨0, _⟩ => rfl
  | ⟨1, _⟩ => rfl

theorem v42_at1 : val_main_v42 (F := Ideal) x1 (ix2 1 g) = x1 (ix2 4 g) := by
  rw [val_main_v42_apply]
  refine congrArg x1 (funext fun a => Fin.ext ?_)
  match a with
  | ⟨0, _⟩ => rfl
  | ⟨1, _⟩ => rfl

theorem v42_at2 : val_main_v42 (F := Ideal) x1 (ix2 2 g) = x1 (ix2 5 g) := by
  rw [val_main_v42_apply]
  refine congrArg x1 (funext fun a => Fin.ext ?_)
  match a with
  | ⟨0, _⟩ => rfl
  | ⟨1, _⟩ => rfl

theorem v43_at : val_main_v43 (F := Ideal) x0 x1 (ix2 p g)
    = pt x0 p 0 * x1 (ix2 3 g) + pt x0 p 1 * x1 (ix2 4 g) + pt x0 p 2 * x1 (ix2 5 g) := by
  have hl : ∀ k : Fin 3, lidx_main_v43 (ix2 p g) k = ix2 p k := fun k => funext fun a => Fin.ext (by
    match a with
    | ⟨0, _⟩ => rfl
    | ⟨1, _⟩ => rfl)
  have hr : ∀ k : Fin 3, ridx_main_v43 (ix2 p g) k = ix2 k g := fun k => funext fun a => Fin.ext (by
    match a with
    | ⟨0, _⟩ => rfl
    | ⟨1, _⟩ => rfl)
  rw [val_main_v43_apply, Fin.sum_univ_three, hl, hl, hl, hr, hr, hr, v1_at, v1_at, v1_at, v42_at0, v42_at1, v42_at2]

theorem v63_at0 : val_main_v63 (F := Ideal) x1 (ix2 0 g) = x1 (ix2 6 g) := by
  rw [val_main_v63_apply]
  refine congrArg x1 (funext fun a => Fin.ext ?_)
  match a with
  | ⟨0, _⟩ => rfl
  | ⟨1, _⟩ => rfl

theorem v63_at1 : val_main_v63 (F := Ideal) x1 (ix2 1 g) = x1 (ix2 7 g) := by
  rw [val_main_v63_apply]
  refine congrArg x1 (funext fun a => Fin.ext ?_)
  match a with
  | ⟨0, _⟩ => rfl
  | ⟨1, _⟩ => rfl

theorem v63_at2 : val_main_v63 (F := Ideal) x1 (ix2 2 g) = x1 (ix2 8 g) := by
  rw [val_main_v63_apply]
  refine congrArg x1 (funext fun a => Fin.ext ?_)
  match a with
  | ⟨0, _⟩ => rfl
  | ⟨1, _⟩ => rfl

theorem v64_at : val_main_v64 (F := Ideal) x0 x1 (ix2 p g)
    = pt x0 p 0 * x1 (ix2 6 g) + pt x0 p 1 * x1 (ix2 7 g) + pt x0 p 2 * x1 (ix2 8 g) := by
  have hl : ∀ k : Fin 3, lidx_main_v64 (ix2 p g) k = ix2 p k := fun k => funext fun a => Fin.ext (by
    match a with
    | ⟨0, _⟩ => rfl
    | ⟨1, _⟩ => rfl)
  have hr : ∀ k : Fin 3, ridx_main_v64 (ix2 p g) k = ix2 k g := fun k => funext fun a => Fin.ext (by
    match a with
    | ⟨0, _⟩ => rfl
    | ⟨1, _⟩ => rfl)
  rw [val_main_v64_apply, Fin.sum_univ_three, hl, hl, hl, hr, hr, hr, v1_at, v1_at, v1_at, v63_at0, v63_at1, v63_at2]

/-- Along one axis, the weighted square of the distance, from the table's rows. -/
def axisR (r0 r1 r2 rw rc : Fin 34) : EReal :=
  (pt x0 p 0 * x1 (ix2 r0 g) + pt x0 p 1 * x1 (ix2 r1 g) + pt x0 p 2 * x1 (ix2 r2 g) - x1 (ix2 rc g))
    * (pt x0 p 0 * x1 (ix2 r0 g) + pt x0 p 1 * x1 (ix2 r1 g) + pt x0 p 2 * x1 (ix2 r2 g) - x1 (ix2 rc g))
    * x1 (ix2 rw g)

theorem v33_at : val_main_v33 (F := Ideal) x0 x1 (ix2 p g) = axisR x0 x1 p g 0 1 2 27 30 := by
  rw [val_main_v33_apply, val_main_v28_apply, val_main_v27_apply, v22_at, v26_at, v32_at]
  rfl

theorem v54_at : val_main_v54 (F := Ideal) x0 x1 (ix2 p g) = axisR x0 x1 p g 3 4 5 28 31 := by
  rw [val_main_v54_apply, val_main_v49_apply, val_main_v48_apply, v43_at, v47_at, v53_at]
  rfl

theorem v75_at : val_main_v75 (F := Ideal) x0 x1 (ix2 p g) = axisR x0 x1 p g 6 7 8 29 32 := by
  rw [val_main_v75_apply, val_main_v70_apply, val_main_v69_apply, v64_at, v68_at, v74_at]
  rfl

theorem v76_at : val_main_v76 (F := Ideal) x0 x1 (ix2 p g)
    = axisR x0 x1 p g 0 1 2 27 30 + axisR x0 x1 p g 3 4 5 28 31 + axisR x0 x1 p g 6 7 8 29 32 := by
  rw [val_main_v76_apply, val_main_v55_apply, val_main_v34_apply, v33_at, v54_at, v75_at, val_main_v19_apply, val_main_cst_5_apply]
  show Ideal.ofBits .f32 0x00000000#32 + _ + _ + _ = _
  rw [ofBits_zero, EReal.coe_zero, zero_add]

theorem v86_at : val_main_v86 (F := Ideal) x0 x1 (ix2 p g)
    = Ideal.exp ((axisR x0 x1 p g 0 1 2 27 30 + axisR x0 x1 p g 3 4 5 28 31 + axisR x0 x1 p g 6 7 8 29 32) * Ideal.ofBits .f32 0xBF000000#32) := by
  rw [val_main_v86_apply, val_main_v85_apply, v76_at, val_main_v84_apply, val_main_cst_7_apply, mul_comm]
  rfl

/-! ## The mask -/

theorem v38_at : val_main_v38 (F := Ideal) x2 (ix2 p g) = IntOp.andi (IntOp.shrsi .vector (x2 (ix2 0 g)) 16#32) 255#32 := by
  have hi : idx_main_v36 (idx_main_v38 (ix2 p g)) = ix1 g := funext fun a => Fin.ext (by
    match a with
    | ⟨0, _⟩ => rfl)
  rw [val_main_v38_apply, val_main_v36_apply, hi, val_main_v12_apply, val_main_v10_apply, v6_at, val_main_v9_apply, val_main_c_0_apply, val_main_v11_apply, val_main_c_1_apply, host_shrsi _ 16 (by norm_num)]

theorem v37_at : val_main_v37 (F := Ideal) x0 (ix2 p g) = latS (pt x0 p 0) := by
  have hi : idx_main_v35 (idx_main_v37 (ix2 p g)) = ix2 p 0 := funext fun a => Fin.ext (by
    match a with
    | ⟨0, _⟩ => rfl
    | ⟨1, _⟩ => rfl)
  rw [val_main_v37_apply, val_main_v35_apply, hi, v5_at]

theorem v59_at : val_main_v59 (F := Ideal) x2 (ix2 p g) = IntOp.andi (IntOp.shrsi .vector (x2 (ix2 0 g)) 8#32) 255#32 := by
  have hi : idx_main_v57 (idx_main_v59 (ix2 p g)) = ix1 g := funext fun a => Fin.ext (by
    match a with
    | ⟨0, _⟩ => rfl)
  rw [val_main_v59_apply, val_main_v57_apply, hi, val_main_v16_apply, val_main_v14_apply, v6_at, val_main_v13_apply, val_main_c_2_apply, val_main_v15_apply, val_main_c_3_apply, host_shrsi _ 8 (by norm_num)]

theorem v58_at : val_main_v58 (F := Ideal) x0 (ix2 p g) = latS (pt x0 p 1) := by
  have hi : idx_main_v56 (idx_main_v58 (ix2 p g)) = ix2 p 1 := funext fun a => Fin.ext (by
    match a with
    | ⟨0, _⟩ => rfl
    | ⟨1, _⟩ => rfl)
  rw [val_main_v58_apply, val_main_v56_apply, hi, v5_at]

theorem v80_at : val_main_v80 (F := Ideal) x2 (ix2 p g) = IntOp.andi (x2 (ix2 0 g)) 255#32 := by
  have hi : idx_main_v78 (idx_main_v80 (ix2 p g)) = ix1 g := funext fun a => Fin.ext (by
    match a with
    | ⟨0, _⟩ => rfl)
  rw [val_main_v80_apply, val_main_v78_apply, hi, val_main_v18_apply, v6_at, val_main_v17_apply, val_main_c_4_apply]

theorem v79_at : val_main_v79 (F := Ideal) x0 (ix2 p g) = latS (pt x0 p 2) := by
  have hi : idx_main_v77 (idx_main_v79 (ix2 p g)) = ix2 p 2 := funext fun a => Fin.ext (by
    match a with
    | ⟨0, _⟩ => rfl
    | ⟨1, _⟩ => rfl)
  rw [val_main_v79_apply, val_main_v77_apply, hi, v5_at]

theorem v88_at : val_main_v88 (F := Ideal) x2 (ix2 p g) = IntOp.shrsi .vector (x2 (ix2 0 g)) 24#32 := by
  have hi : idx_main_v87 (idx_main_v88 (ix2 p g)) = ix1 g := funext fun a => Fin.ext (by
    match a with
    | ⟨0, _⟩ => rfl)
  rw [val_main_v88_apply, val_main_v87_apply, hi, val_main_v8_apply, v6_at, val_main_v7_apply, val_main_c_apply, host_shrsi _ 24 (by norm_num)]

theorem max_le (u v r : BitVec 32) : (IntOp.maxsi u v).toInt ≤ r.toInt ↔ u.toInt ≤ r.toInt ∧ v.toInt ≤ r.toInt := by
  unfold IntOp.maxsi
  by_cases h : v.slt u = true
  · rw [if_pos h]
    have := BitVec.slt_iff_toInt_lt.1 h
    omega
  · rw [if_neg h]
    have : ¬ v.toInt < u.toInt := fun h' => h (BitVec.slt_iff_toInt_lt.2 h')
    omega

theorem v89_at (hw : 0 ≤ (x2 (ix2 0 g) : BitVec 32).toInt) : val_main_v89 (F := Ideal) x0 x2 (ix2 p g) = 1#1
    ↔ hitS (x2 (ix2 0 g)) (latS (pt x0 p 0)) (latS (pt x0 p 1)) (latS (pt x0 p 2)) := by
  have hr : 0 ≤ (IntOp.shrsi .vector (x2 (ix2 0 g)) 24#32 : BitVec 32).toInt := by
    have hw' : (x2 (ix2 0 g) : BitVec 32).toNat < 2 ^ 31 := by
      rw [BitVec.toInt_eq_toNat_cond] at hw
      have := (x2 (ix2 0 g) : BitVec 32).isLt
      split at hw <;> omega
    have h := shr_toNat hw' 24 (by norm_num)
    rw [BitVec.toInt_eq_toNat_cond, h, if_pos (by omega)]
    exact Int.natCast_nonneg _
  rw [val_main_v89_apply, IntOp.cmpi_sle, v88_at, val_main_v83_apply, max_le, val_main_v62_apply, max_le, val_main_v41_apply, max_le,
    val_main_v40_apply, val_main_v39_apply, v37_at, v38_at, val_main_v61_apply, val_main_v60_apply, v58_at, v59_at,
    val_main_v82_apply, val_main_v81_apply, v79_at, v80_at, val_main_v20_apply, val_main_c_6_apply]
  have h0 : (0#32 : BitVec 32).toInt = 0 := by decide
  unfold hitS
  rw [IntOp.cmpi_sle, IntOp.cmpi_sle, IntOp.cmpi_sle, h0]
  tauto

theorem v96_at (hw : 0 ≤ (x2 (ix2 0 g) : BitVec 32).toInt) : val_main_v96 (F := Ideal) x0 x1 x2 (ix2 p g)
    = if hitS (x2 (ix2 0 g)) (latS (pt x0 p 0)) (latS (pt x0 p 1)) (latS (pt x0 p 2)) then
        Ideal.exp ((axisR x0 x1 p g 0 1 2 27 30 + axisR x0 x1 p g 3 4 5 28 31 + axisR x0 x1 p g 6 7 8 29 32) * Ideal.ofBits .f32 0xBF000000#32) * x1 (ix2 33 g)
      else 0 := by
  rw [val_main_v96_apply, val_main_v91_apply, v86_at, v95_at, val_main_v90_apply]
  have hm := v89_at x0 x2 p g hw
  by_cases hh : hitS (x2 (ix2 0 g)) (latS (pt x0 p 0)) (latS (pt x0 p 1)) (latS (pt x0 p 2))
  · rw [if_pos hh, hm.2 hh]
    show _ * (((1#1 : BitVec 1).toNat : ℝ) : EReal) * _ = _
    rw [show (((1#1 : BitVec 1).toNat : ℝ) : EReal) = 1 by simp, mul_one]
  · rw [if_neg hh, ValueIdx.eq_zero_of_ne_one (fun h => hh (hm.1 h))]
    show _ * (((0#1 : BitVec 1).toNat : ℝ) : EReal) * _ = _
    rw [show (((0#1 : BitVec 1).toNat : ℝ) : EReal) = 0 by simp, mul_zero, zero_mul]

/-! ## The sums -/

theorem v97_at : val_main_v97 (F := Ideal) x0 x1 x2 (ix1 p) = ∑ g : Fin 1280, (val_main_v96 (F := Ideal) x0 x1 x2 (ix2 p g) : EReal) := by
  rw [val_main_v97_apply, val_main_cst_8_apply]
  show Ideal.ofBits .f32 0x00000000#32 + _ = _
  rw [ofBits_zero, EReal.coe_zero, zero_add]
  refine Finset.sum_congr rfl fun g _ => congrArg _ (funext fun a => Fin.ext ?_)
  match a with
  | ⟨0, _⟩ => rfl
  | ⟨1, _⟩ => rfl

theorem v100_at : val_main_v100 (F := Ideal) x0 x1 x2 (ix1 p)
    = ∑ g : Fin 1280, (val_main_v96 (F := Ideal) x0 x1 x2 (ix2 p g) : EReal) * x1 (ix2 26 g) := by
  rw [val_main_v100_apply]
  refine Finset.sum_congr rfl fun g _ => ?_
  have hl : lidx_main_v100 (ix1 p) g = ix2 p g := funext fun a => Fin.ext (by
    match a with
    | ⟨0, _⟩ => rfl
    | ⟨1, _⟩ => rfl)
  have hr : val_main_v99 (F := Ideal) x1 (ridx_main_v100 (ix1 p) g) = x1 (ix2 26 g) := by
    rw [val_main_v99_apply, val_main_v98_apply]
    have hg := g.isLt
    refine congrArg x1 (funext fun a => Fin.ext ?_)
    match a with
    | ⟨0, _⟩ => rfl
    | ⟨1, _⟩ => show g.val % 1280 = g.val; omega
  rw [hl, hr]

theorem v103_at (k : Fin 17) : val_main_v103 (F := Ideal) x0 x1 x2 (ix2 p k)
    = ∑ g : Fin 1280, (val_main_v96 (F := Ideal) x0 x1 x2 (ix2 p g) : EReal) * x1 (ix2 ⟨9 + k.val, by have := k.isLt; omega⟩ g) := by
  rw [val_main_v103_apply]
  refine Finset.sum_congr rfl fun g _ => ?_
  have hl : lidx_main_v103 (ix2 p k) g = ix2 p g := funext fun a => Fin.ext (by
    match a with
    | ⟨0, _⟩ => rfl
    | ⟨1, _⟩ => rfl)
  have hr : val_main_v102 (F := Ideal) x1 (ridx_main_v103 (ix2 p k) g) = x1 (ix2 ⟨9 + k.val, by have := k.isLt; omega⟩ g) := by
    rw [val_main_v102_apply, val_main_v101_apply]
    refine congrArg x1 (funext fun a => Fin.ext ?_)
    match a with
    | ⟨0, _⟩ => rfl
    | ⟨1, _⟩ => rfl
  rw [hl, hr]

end Cert.Proof.Ref

end
-- ==== Proof.Same.lean ====
/-
  The program's three results and the reference's are the same functions of the arguments.
-/
module

public import proofs.«01_k».proof.Proof.Ref

@[expose] public section

noncomputable section

namespace Cert.Proof

open Cert.KernelIdeal Cert.KernelIdeal.Gen
open Cert.ReferenceIdeal.Read (val_main_v96 val_main_v97 val_main_v100 val_main_v103 val_main_v97_eq val_main_v100_eq val_main_v103_eq)

open Idealize.ShloMosaic Idealize.ShloMosaic.TcCoe
open Idealize.ShloMosaic.ValueIdx (ix1 ix2 ix3 eq_ix1 eq_ix2)
open Idealize.SL.Sem

section

variable (m : (ℓ : Loc nD τ sig) → Buf (Elt Ideal) ℓ) (d : Dev nD)

/-- The masked weight of gaussian `g` at point `p`, as the reference has it. -/
abbrev wt (p : Fin 3856) (g : Fin 1280) : EReal := val_main_v96 (F := Ideal) (at0 m d) (at1 m d) (at2 m d) (ix2 p g)

theorem amp_eq (p : Fin 3856) (g : Fin 1280) : ampS (tabs m d).A (pt m d p 0) (pt m d p 1) (pt m d p 2) g.val
    = Ideal.exp ((Ref.axisR (at0 m d) (at1 m d) p g 0 1 2 27 30 + Ref.axisR (at0 m d) (at1 m d) p g 3 4 5 28 31 + Ref.axisR (at0 m d) (at1 m d) p g 6 7 8 29 32)
        * Ideal.ofBits .f32 0xBF000000#32) * at1 m d (ix2 33 g) := by
  have ha : ∀ (r : Fin 34) (n : ℕ), n = r.val → (rd (tabs m d).A (1280 * n + g.val) : EReal) = at1 m d (ix2 r g) := by
    rintro r n rfl
    exact A_at m d r g
  unfold ampS axisS Ref.axisR
  rw [ha 0 (3 * 0) rfl, ha 1 (3 * 0 + 1) rfl, ha 2 (3 * 0 + 2) rfl, ha 30 (30 + 0) rfl, ha 27 (27 + 0) rfl,
    ha 3 (3 * 1) rfl, ha 4 (3 * 1 + 1) rfl, ha 5 (3 * 1 + 2) rfl, ha 31 (30 + 1) rfl, ha 28 (27 + 1) rfl,
    ha 6 (3 * 2) rfl, ha 7 (3 * 2 + 1) rfl, ha 8 (3 * 2 + 2) rfl, ha 32 (30 + 2) rfl, ha 29 (27 + 2) rfl, ha 33 33 rfl]
  rfl

theorem term_eq (h : GivenAt m d) (p : Fin 3856) (k : ℕ) (g : Fin 1280) :
    term m d p k g = if k = 18 then wt m d p g else wt m d p g * rd (tabs m d).A (1280 * (9 + k) + g.val) := by
  unfold term colS
  rw [amp_eq]
  have hw := Ref.v96_at (at0 m d) (at1 m d) (at2 m d) p g (h.words g).1
  unfold wt
  rw [hw]
  have hp : ∀ k, Ref.pt (at0 m d) p k = pt m d p k := fun _ => rfl
  rw [hp, hp, hp]
  split <;> split <;> simp

theorem out0_eq (h : GivenAt m d) : V3 m d (dr main_v41) = val_main_v103 (F := Ideal) (at0 m d) (at1 m d) (at2 m d) := by
  rw [V3_out0]
  funext i
  obtain ⟨p, k, rfl⟩ : ∃ (p : Fin 3856) (k : Fin 17), i = ix2 p k := ⟨i 0, i 1, eq_ix2 i⟩
  rw [Ref.v103_at]
  have hk : k.val < 17 := k.isLt
  refine (extractStridedSlice_apply ![0, 0] (outMat m d) slices_S4096x32_S3856x17_0_0 (ix2 p k)
    (ix2 ⟨p.val, by have : p.val < 3856 := p.isLt; omega⟩ ⟨(⟨k.val, by omega⟩ : Fin 19).val, by show k.val < 32; omega⟩) (fun a => match a with
      | ⟨0, _⟩ => by show p.val = 0 + p.val; omega
      | ⟨1, _⟩ => by show k.val = 0 + k.val; omega)).trans ?_
  rw [out_at m d h p ⟨k.val, by omega⟩]
  refine Finset.sum_congr rfl fun g _ => ?_
  rw [term_eq m d h, if_neg (by show ¬ k.val = 18; omega)]
  exact congrArg (wt m d p g * ·) (A_at m d ⟨9 + k.val, by omega⟩ g)

theorem col_out (h : GivenAt m d) (k : Fin 19) (off : Fin 2 → ℕ) (ho : off = ![0, k.val]) (hs : S4096x32.Slices off S3856x1) (p : Fin 3856) :
    shapeCast S3856 (extractStridedSlice S3856x1 off (outMat m d) hs) shapeCasts_S3856x1_S3856 (ix1 p) = ∑ g, term m d p k.val g := by
  subst ho
  refine (shapeCast_apply (s := S3856x1) _ _ (ix1 p) (ix2 p 0) ?_).trans ?_
  · rewrite [Shape.rowMajor_val_two, Shape.rowMajor_val_one]
    show p.val * 1 + 0 = p.val
    omega
  · rw [← out_at m d h p k]
    generalize outMat m d = M
    exact extractStridedSlice_apply ![0, k.val] M hs (ix2 p 0)
      (ix2 ⟨p.val, by have := p.isLt; omega⟩ ⟨k.val, by have := k.isLt; omega⟩) (fun a => match a with
      | ⟨0, _⟩ => by show p.val = 0 + p.val; omega
      | ⟨1, _⟩ => by show k.val = k.val + 0; omega)

theorem out1_eq (h : GivenAt m d) : V3 m d (dr main_v43) = val_main_v100 (F := Ideal) (at0 m d) (at1 m d) (at2 m d) := by
  rw [V3_out1]
  funext i
  obtain ⟨p, rfl⟩ : ∃ p : Fin 3856, i = ix1 p := ⟨i 0, eq_ix1 i⟩
  rw [Ref.v100_at]
  refine (col_out m d h 17 ![0, 17] rfl slices_S4096x32_S3856x1_0_17 p).trans ?_
  refine Finset.sum_congr rfl fun g _ => ?_
  rw [term_eq m d h, if_neg (by decide)]
  exact congrArg (wt m d p g * ·) (A_at m d 26 g)

theorem out2_eq (h : GivenAt m d) : V3 m d (dr main_v45) = val_main_v97 (F := Ideal) (at0 m d) (at1 m d) (at2 m d) := by
  rw [V3_out2]
  funext i
  obtain ⟨p, rfl⟩ : ∃ p : Fin 3856, i = ix1 p := ⟨i 0, eq_ix1 i⟩
  rw [Ref.v97_at]
  refine (col_out m d h 18 ![0, 18] rfl slices_S4096x32_S3856x1_0_18 p).trans ?_
  refine Finset.sum_congr rfl fun g _ => ?_
  rw [term_eq m d h, if_pos (by decide)]

end

theorem frame_ri' : Cert.quiescent_ReferenceIdeal_pre_listed_once_near := fun m ρ _ => frame_ri m ρ trivial

theorem algebraic : Cert.algebraic_KernelIdeal_ReferenceIdeal := by
  intro m g m' g' hpre hargs
  have h : ∀ d, GivenAt (F := Ideal) m d := fun d => given_of_pre _ _ _ _ _ (hpre d)
  refine ⟨fun c => V3 m c (dr main_v41), fun c => V3 m c (dr main_v43), fun c => V3 m c (dr main_v45), ?_, ?_⟩
  · exact (θ_run _ _ _).mono (fun _ e c => ⟨e.1 c main_v41, e.1 c main_v43, e.1 c main_v45, (e.1 c main_arg0).trans (V3_arg0 m c),
      (e.1 c main_arg1).trans (V3_arg1 m c), (e.1 c main_arg2).trans (V3_arg2 m c), (e.1 c main_arg3).trans (V3_arg3 m c),
      (e.1 c main_arg4).trans (V3_arg4 m c)⟩) (run_main m g fun d => ok_of_given m d (h d))
  · refine (θ_run _ _ _).mono (fun _ e c => ?_) (Cert.ReferenceIdeal.Value.run (F := Ideal) m' g')
    obtain ⟨e0, e1, e2, ea⟩ := e c
    obtain ⟨a0, a1, a2, _, _⟩ := hargs c
    refine ⟨e0.trans ?_, e1.trans ?_, e2.trans ?_, ea⟩
    · rw [val_main_v103_eq, a0, a1, a2]; exact (out0_eq m c (h c)).symm
    · rw [val_main_v100_eq, a0, a1, a2]; exact (out1_eq m c (h c)).symm
    · rw [val_main_v97_eq, a0, a1, a2]; exact (out2_eq m c (h c)).symm

end Cert.Proof

end
-- ==== Proof.DenseRun.lean ====
/-
  The run of the program of the two TensorCore calls: it ends with each buffer at the contents that the generated chain of
  boundaries gives it.
-/
module

public import proofs.«01_k».proof.Proof.Gen.DenseIdeal.Frame
public import Idealize.ShloMosaic.Lib.StableHlo.Run

@[expose] public section

set_option maxRecDepth 16384

noncomputable section

namespace Cert.Proof.Dense

open Cert.DenseIdeal Cert.DenseIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every run ends with the results at the last boundary's contents and the arguments as they began. -/
theorem run_main : θ_run defs (onTc (τ := τ) (main (F := F))) ⟨m, fun _ => 0, ρ⟩ (fun r => ∀ c : Dev nD,
      r.2.mem ((c.tc : Thread nD τ).loc main_v43) = W5 m ρ c (Proc.devRef .tc main_v43)
      ∧ r.2.mem ((c.tc : Thread nD τ).loc main_v45) = W5 m ρ c (Proc.devRef .tc main_v45)
      ∧ r.2.mem ((c.tc : Thread nD τ).loc main_v47) = W5 m ρ c (Proc.devRef .tc main_v47)
      ∧ r.2.mem ((c.tc : Thread nD τ).loc main_v37_0) = W5 m ρ c (Proc.devRef .tc main_v37_0)
      ∧ r.2.mem ((c.tc : Thread nD τ).loc main_v37_1) = W5 m ρ c (Proc.devRef .tc main_v37_1)
      ∧ r.2.mem ((c.tc : Thread nD τ).loc main_v37_2) = W5 m ρ c (Proc.devRef .tc main_v37_2)
      ∧ r.2.mem ((c.tc : Thread nD τ).loc main_v37_3) = W5 m ρ c (Proc.devRef .tc main_v37_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v43 (by decide)), h c _ (mem_uc main_v45 (by decide)), h c _ (mem_uc main_v47 (by decide)),
       h c _ (mem_uc main_v37_0 (by decide)), h c _ (mem_uc main_v37_1 (by decide)),
       h c _ (mem_uc main_v37_2 (by decide)), h c _ (mem_uc main_v37_3 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.Proof.Dense

end
-- ==== Proof.DensePrep.lean ====
/-
  What the two calls leave in their result arrays, as vectors of what they read.
-/
module

public import proofs.«01_k».proof.Proof.DenseRun
public import Idealize.ShloMosaic.Lib.Pipeline.ValueKit

@[expose] public section

set_option maxRecDepth 16384

noncomputable section

namespace Cert.Proof.Dense

open Cert.DenseIdeal Cert.DenseIdeal.Gen

open Idealize.ShloMosaic Idealize.ShloMosaic.TcCoe Idealize.ShloMosaic.Tactic
open Idealize.SL.Sem

variable {F : FTy → Type} [FloatOps F]
variable (V : (c : Dev nD) → (b : Ref sig .tc) → Buf (Elt F) ((c : Thread nD τ).loc b)) (c : Dev nD)

/-! ## The first call's blocks are its arrays -/

theorem iblk0_1 (t : Fin cfg0.N) : iblk0 V c 1 t = V c main_v30 := by
  funext y
  blk_simp [iblk0]
  exact congrArg (V c main_v30) (funext fun a => Fin.ext (by
    blk_simp
    show 0 * _ + (y a).val = (y a).val
    rw [Nat.zero_mul, Nat.zero_add]))

theorem iblk0_2 (t : Fin cfg0.N) : iblk0 V c 2 t = V c main_v31 := by
  funext y
  blk_simp [iblk0]
  exact congrArg (V c main_v31) (funext fun a => Fin.ext (by
    blk_simp
    show 0 * _ + (y a).val = (y a).val
    rw [Nat.zero_mul, Nat.zero_add]))

theorem iblk0_3 (t : Fin cfg0.N) : iblk0 V c 3 t = V c main_v32 := by
  funext y
  blk_simp [iblk0]
  exact congrArg (V c main_v32) (funext fun a => Fin.ext (by
    blk_simp
    show 0 * _ + (y a).val = (y a).val
    rw [Nat.zero_mul, Nat.zero_add]))

theorem iblk0_5 (t : Fin cfg0.N) : iblk0 V c 5 t = V c main_v10 := by
  funext y
  blk_simp [iblk0]
  exact congrArg (V c main_v10) (funext fun a => Fin.ext (by
    blk_simp
    show 0 * _ + (y a).val = (y a).val
    rw [Nat.zero_mul, Nat.zero_add]))

theorem iblk0_6 (t : Fin cfg0.N) : iblk0 V c 6 t = V c main_v34 := by
  funext y
  blk_simp [iblk0]
  exact congrArg (V c main_v34) (funext fun a => Fin.ext (by
    blk_simp
    show 0 * _ + (y a).val = (y a).val
    rw [Nat.zero_mul, Nat.zero_add]))

/-! ## What it leaves in its last six arrays -/

theorem arr0_15 : (dat0 V c).arrAt 15 cfg0.N = k0_pay24 (k0_pay12 (V c main_v31)) (k0_pay13 (V c main_v31)) (k0_pay14 (V c main_v31)) := by
  refine (dat0 V c).arrAt_eq_of_after_last 15 t0_0 (by decide +kernel) _ fun j => ?_
  blk_simp
  rw [after0_15]
  frame_out
  unfold k0_pay87 k0_pay88 k0_pay89
  simp (disch := decide) only [iblk0_1, iblk0_2, iblk0_3, iblk0_5, iblk0_6, View.ld_unit_lit]

theorem arr0_16 : (dat0 V c).arrAt 16 cfg0.N = k0_pay25 (k0_pay15 (V c main_v31)) (k0_pay16 (V c main_v31)) (k0_pay17 (V c main_v31)) (Scalar.ofBits .f32 0x40000000#32) := by
  refine (dat0 V c).arrAt_eq_of_after_last 16 t0_0 (by decide +kernel) _ fun j => ?_
  blk_simp
  rw [after0_16]
  frame_out
  unfold k0_pay90 k0_pay91 k0_pay92
  simp (disch := decide) only [iblk0_1, iblk0_2, iblk0_3, iblk0_5, iblk0_6, View.ld_unit_lit]

theorem arr0_17 : (dat0 V c).arrAt 17 cfg0.N = k0_pay26 (k0_pay8 (V c main_v31)) (k0_pay9 (V c main_v31)) (k0_pay10 (V c main_v31)) (k0_pay11 (V c main_v31)) := by
  refine (dat0 V c).arrAt_eq_of_after_last 17 t0_0 (by decide +kernel) _ fun j => ?_
  blk_simp
  rw [after0_17]
  frame_out
  unfold k0_pay83 k0_pay84 k0_pay85 k0_pay86
  simp (disch := decide) only [iblk0_1, iblk0_2, iblk0_3, iblk0_5, iblk0_6, View.ld_unit_lit]

theorem arr0_18 : (dat0 V c).arrAt 18 cfg0.N = k0_pay32 (k0_pay16 (V c main_v31)) (k0_pay18 (k0_pay17 (V c main_v31)) (Scalar.ofBits .f32 0x40000000#32)) (k0_pay19 (k0_pay8 (V c main_v31)) (k0_pay9 (V c main_v31)) (k0_pay10 (V c main_v31)) (k0_pay11 (V c main_v31))) (k0_pay20 (k0_pay8 (V c main_v31)) (k0_pay9 (V c main_v31)) (k0_pay10 (V c main_v31)) (k0_pay11 (V c main_v31))) (k0_pay21 (k0_pay9 (V c main_v31)) (k0_pay10 (V c main_v31))) (k0_pay22 (V c main_v30))
      (k0_pay27 (k0_pay12 (V c main_v31)) (k0_pay13 (V c main_v31)) (k0_pay14 (V c main_v31)) (V c main_v30)) (k0_pay28 (k0_pay15 (V c main_v31)) (V c main_v30)) (k0_pay29 (V c main_v30)) := by
  refine (dat0 V c).arrAt_eq_of_after_last 18 t0_0 (by decide +kernel) _ fun j => ?_
  blk_simp
  rw [after0_18]
  frame_out
  unfold k0_pay101 k0_pay100 k0_pay99 k0_pay97 k0_pay96 k0_pay95 k0_pay94 k0_pay93 k0_pay92 k0_pay91 k0_pay90 k0_pay89 k0_pay88 k0_pay87 k0_pay86 k0_pay85 k0_pay84 k0_pay83
  simp (disch := decide) only [iblk0_1, iblk0_2, iblk0_3, iblk0_5, iblk0_6, View.ld_unit_lit]

theorem arr0_19 : (dat0 V c).arrAt 19 cfg0.N = k0_pay36 (k0_pay23 (V c main_v32)) := by
  refine (dat0 V c).arrAt_eq_of_after_last 19 t0_0 (by decide +kernel) _ fun j => ?_
  blk_simp
  rw [after0_19]
  frame_out
  unfold k0_pay98
  simp (disch := decide) only [iblk0_1, iblk0_2, iblk0_3, iblk0_5, iblk0_6, View.ld_unit_lit]

theorem arr0_20 : (dat0 V c).arrAt 20 cfg0.N = k0_pay56 (V c main_v10) (V c main_v34) := by
  refine (dat0 V c).arrAt_eq_of_after_last 20 t0_0 (by decide +kernel) _ fun j => ?_
  blk_simp
  rw [after0_20]
  frame_out
  simp (disch := decide) only [iblk0_1, iblk0_2, iblk0_3, iblk0_5, iblk0_6, View.ld_unit_lit]

end Cert.Proof.Dense

end
-- ==== Proof.DenseTab.lean ====
/-
  The first call's four tables for the other points, as vectors of what it reads.
-/
module

public import proofs.«01_k».proof.Proof.DensePrep

@[expose] public section

set_option maxRecDepth 16384
set_option maxHeartbeats 4000000

noncomputable section

namespace Cert.Proof.Dense

open Cert.DenseIdeal Cert.DenseIdeal.Gen

open Idealize.ShloMosaic Idealize.ShloMosaic.TcCoe Idealize.ShloMosaic.Tactic
open Idealize.SL.Sem

variable {F : FTy → Type} [FloatOps F]

/-- The float table. -/
def floats (R : Vec F S4x1280 .f32) (M S : Vec F S3x1280 .f32) (E : Vec F S17x1280 .f32) (O U : Vec F S1x1280 .f32) : Vec F S34x1280 .f32 :=
  k0_pay72 (k0_pay27 (k0_pay12 R) (k0_pay13 R) (k0_pay14 R) M) (k0_pay30 (k0_pay16 R) (k0_pay18 (k0_pay17 R) (Scalar.ofBits .f32 0x40000000#32)) (k0_pay22 M) (k0_pay28 (k0_pay15 R) M) (k0_pay29 M)) (k0_pay31 (k0_pay19 (k0_pay8 R) (k0_pay9 R) (k0_pay10 R) (k0_pay11 R)) (k0_pay20 (k0_pay8 R) (k0_pay9 R) (k0_pay10 R) (k0_pay11 R)) (k0_pay21 (k0_pay9 R) (k0_pay10 R)) (k0_pay22 M)) (k0_pay33 (k0_pay23 S)) (k0_pay34 (k0_pay23 S)) (k0_pay35 (k0_pay23 S)) (k0_pay44 (k0_pay37 E)) (k0_pay45 (k0_pay37 E)) (k0_pay46 (k0_pay37 E)) (k0_pay47 (k0_pay37 E)) (k0_pay48 (k0_pay37 E)) (k0_pay49 (k0_pay37 E)) (k0_pay50 (k0_pay37 E)) (k0_pay51 (k0_pay37 E)) (k0_pay52 (k0_pay37 E)) (k0_pay53 (k0_pay37 E)) (k0_pay54 (k0_pay37 E)) (k0_pay55 U) (k0_pay57 (k0_pay12 R)) (k0_pay58 (k0_pay13 R)) (k0_pay59 (k0_pay14 R)) (k0_pay60 (k0_pay15 R)) (k0_pay61 (k0_pay16 R)) (k0_pay62 (k0_pay18 (k0_pay17 R) (Scalar.ofBits .f32 0x40000000#32))) (k0_pay63 (k0_pay19 (k0_pay8 R) (k0_pay9 R) (k0_pay10 R) (k0_pay11 R))) (k0_pay64 (k0_pay20 (k0_pay8 R) (k0_pay9 R) (k0_pay10 R) (k0_pay11 R))) (k0_pay65 (k0_pay21 (k0_pay9 R) (k0_pay10 R))) (k0_pay66 (k0_pay38 E)) (k0_pay67 (k0_pay39 E)) (k0_pay68 (k0_pay40 E)) (k0_pay69 (k0_pay41 E)) (k0_pay70 (k0_pay42 E)) (k0_pay71 (k0_pay43 E)) O

/-- The word row. -/
def wordRow (I : Vec F S3x1280 .i32) (D : Vec F S1x1280 .i32) : Vec F S1x1280 .i32 :=
  k0_pay73 I D

/-- How many gaussians a cell holds. -/
def countCol (M : Vec F S3x1280 .f32) : Vec F S512x1 .i32 :=
  k0_pay80 (F := F) (k0_pay74 (k0_pay22 M))

/-- The gaussians' numbers, cell by cell. -/
def listTab (C : Vec F S1280x3 .f32) (M : Vec F S3x1280 .f32) : Vec F S512x28 .i32 :=
  k0_pay1 (k0_pay79 (F := F) (k0_pay74 (k0_pay22 M))) (k0_pay81 (k0_pay74 (k0_pay22 M)) (k0_pay75 C) (k0_pay76 C) (k0_pay77 C) (k0_pay78 (F := F))) (iota .tc S1280x28 32 [1] iota_S1280x28_d1_w32) (iota .tc S1280x28 32 [0] iota_S1280x28_d0_w32) k0_pay82

variable (V : (c : Dev nD) → (b : Ref sig .tc) → Buf (Elt F) ((c : Thread nD τ).loc b)) (c : Dev nD)

theorem iblk0_0 (t : Fin cfg0.N) : iblk0 V c 0 t = V c main_v1 := by
  funext y
  blk_simp [iblk0]
  exact congrArg (V c main_v1) (funext fun a => Fin.ext (by
    blk_simp
    show 0 * _ + (y a).val = (y a).val
    rw [Nat.zero_mul, Nat.zero_add]))

theorem iblk0_4 (t : Fin cfg0.N) : iblk0 V c 4 t = V c main_v33 := by
  funext y
  blk_simp [iblk0]
  exact congrArg (V c main_v33) (funext fun a => Fin.ext (by
    blk_simp
    show 0 * _ + (y a).val = (y a).val
    rw [Nat.zero_mul, Nat.zero_add]))

theorem iblk0_7 (t : Fin cfg0.N) : iblk0 V c 7 t = V c main_v35 := by
  funext y
  blk_simp [iblk0]
  exact congrArg (V c main_v35) (funext fun a => Fin.ext (by
    blk_simp
    show 0 * _ + (y a).val = (y a).val
    rw [Nat.zero_mul, Nat.zero_add]))

theorem iblk0_8 (t : Fin cfg0.N) : iblk0 V c 8 t = V c main_v36 := by
  funext y
  blk_simp [iblk0]
  exact congrArg (V c main_v36) (funext fun a => Fin.ext (by
    blk_simp
    show 0 * _ + (y a).val = (y a).val
    rw [Nat.zero_mul, Nat.zero_add]))

theorem iblk0_9 (t : Fin cfg0.N) : iblk0 V c 9 t = V c main_v19 := by
  funext y
  blk_simp [iblk0]
  exact congrArg (V c main_v19) (funext fun a => Fin.ext (by
    blk_simp
    show 0 * _ + (y a).val = (y a).val
    rw [Nat.zero_mul, Nat.zero_add]))

theorem iblk0_10 (t : Fin cfg0.N) : iblk0 V c 10 t = V c main_v29 := by
  funext y
  blk_simp [iblk0]
  exact congrArg (V c main_v29) (funext fun a => Fin.ext (by
    blk_simp
    show 0 * _ + (y a).val = (y a).val
    rw [Nat.zero_mul, Nat.zero_add]))

theorem arr0_11 : (dat0 V c).arrAt 11 cfg0.N = floats (V c main_v31) (V c main_v30) (V c main_v32) (V c main_v33) (V c main_v35) (V c main_v36) := by
  refine (dat0 V c).arrAt_eq_of_after_last 11 t0_0 (by decide +kernel) _ fun j => ?_
  blk_simp
  rw [after0_11]
  frame_out
  unfold floats k0_pay102 k0_pay101 k0_pay100 k0_pay99 k0_pay98 k0_pay97 k0_pay96 k0_pay95 k0_pay94 k0_pay93 k0_pay92 k0_pay91 k0_pay90 k0_pay89 k0_pay88 k0_pay87 k0_pay86 k0_pay85 k0_pay84 k0_pay83
  simp (disch := decide) only [iblk0_0, iblk0_1, iblk0_2, iblk0_3, iblk0_4, iblk0_7, iblk0_8, iblk0_9, iblk0_10, View.ld_unit_lit]

theorem arr0_12 : (dat0 V c).arrAt 12 cfg0.N = wordRow (V c main_v19) (V c main_v29) := by
  refine (dat0 V c).arrAt_eq_of_after_last 12 t0_0 (by decide +kernel) _ fun j => ?_
  blk_simp
  rw [after0_12]
  frame_out
  unfold wordRow
  simp (disch := decide) only [iblk0_0, iblk0_1, iblk0_2, iblk0_3, iblk0_4, iblk0_7, iblk0_8, iblk0_9, iblk0_10, View.ld_unit_lit]

theorem arr0_13 : (dat0 V c).arrAt 13 cfg0.N = countCol (V c main_v30) := by
  refine (dat0 V c).arrAt_eq_of_after_last 13 t0_0 (by decide +kernel) _ fun j => ?_
  blk_simp
  rw [after0_13]
  frame_out
  unfold countCol k0_pay103 k0_pay97
  simp (disch := decide) only [iblk0_0, iblk0_1, iblk0_2, iblk0_3, iblk0_4, iblk0_7, iblk0_8, iblk0_9, iblk0_10, View.ld_unit_lit]

theorem arr0_14 : (dat0 V c).arrAt 14 cfg0.N = listTab (V c main_v1) (V c main_v30) := by
  refine (dat0 V c).arrAt_eq_of_after_last 14 t0_0 (by decide +kernel) _ fun j => ?_
  blk_simp
  rw [after0_14]
  frame_out
  unfold listTab k0_pay103 k0_pay97
  simp (disch := decide) only [iblk0_0, iblk0_1, iblk0_2, iblk0_3, iblk0_4, iblk0_7, iblk0_8, iblk0_9, iblk0_10, View.ld_unit_lit]

end Cert.Proof.Dense

end
-- ==== Proof.DenseAgg.lean ====
/-
  What the second call leaves in its result array: row `p`, column `k` is the sum over the gaussians of their weight at
  point `p` times their `k`-th entry.
-/
module

public import proofs.«01_k».proof.Proof.DensePrep
public import Idealize.ShloMosaic.Lib.Pointwise

@[expose] public section

set_option maxRecDepth 16384

noncomputable section

namespace Cert.Proof.Dense

open Cert.DenseIdeal Cert.DenseIdeal.Gen

open Idealize.ShloMosaic Idealize.ShloMosaic.TcCoe Idealize.ShloMosaic.Tactic
open Idealize.SL.Sem

/-- The weighted square of the distance along one axis: of `p` through the column `r`, from `c`, weighted by `w`. -/
def sqd (p r : Fin 3 → EReal) (c w : EReal) : EReal :=
  (∑ k : Fin 3, p k * r k - c) * (∑ k : Fin 3, p k * r k - c) * w

/-- Whether the lattice cell `a` is within `r` of the cell `b`. -/
def near (a b : Fin 3 → BitVec 32) (r : BitVec 32) : BitVec 1 :=
  IntOp.andi (IntOp.andi (IntOp.cmpi .sle (IntOp.absi (IntOp.subi (a 0) (b 0))) r)
    (IntOp.cmpi .sle (IntOp.absi (IntOp.subi (a 1) (b 1))) r))
    (IntOp.cmpi .sle (IntOp.absi (IntOp.subi (a 2) (b 2))) r)

/-- The weight of a gaussian at a point. -/
def wgt (b : BitVec 1) (e o : EReal) : EReal := if b = 1#1 then Ideal.exp (Ideal.ofBits .f32 0xBF000000#32 * e) * o else 0

variable (V : (c : Dev nD) → (b : Ref sig .tc) → Buf (Elt Ideal) ((c : Thread nD τ).loc b)) (c : Dev nD)

theorem pay2_at (P : Vec Ideal S1024x3 .bf16) (ck w : Vec Ideal S3x1280 .f32) (r0 r1 r2 : Vec Ideal S3x1280 .bf16) (q : Fin 1024) (g : Fin 1280) :
    k1_pay2 P ck w r0 r1 r2 (ix2 q g)
      = sqd (fun k => P (ix2 q k)) (fun k => r0 (ix2 k g)) (ck (ix2 0 g)) (w (ix2 0 g))
        + sqd (fun k => P (ix2 q k)) (fun k => r1 (ix2 k g)) (ck (ix2 1 g)) (w (ix2 1 g))
        + sqd (fun k => P (ix2 q k)) (fun k => r2 (ix2 k g)) (ck (ix2 2 g)) (w (ix2 2 g)) := by
  unfold k1_pay2 sqd
  pointwise

theorem pay1_at (X : FVec Ideal S1024x1280 .f32) (I : IVec S1024x3 32) (mint : Vec Ideal S3x1280 .i32) (rad : Vec Ideal S1x1280 .i32)
    (op : Vec Ideal S1x1280 .f32) (B : Vec Ideal S1280x19 .bf16) (q : Fin 1024) (k : Fin 19) :
    k1_pay1 X I mint rad op B (ix2 q k)
      = ∑ g : Fin 1280, wgt (near (fun a => I (ix2 q a)) (fun a => mint (ix2 a g)) (rad (ix2 0 g))) (X (ix2 q g)) (op (ix2 0 g)) * (B (ix2 g k) : EReal) := by
  unfold k1_pay1
  pointwise
  refine Finset.sum_congr rfl fun g _ => ?_
  unfold wgt near Scalar.select
  rw [ite_mul, zero_mul]
  rfl

theorem pay1_any (P : Vec Ideal S1024x3 .bf16) (ck w : Vec Ideal S3x1280 .f32) (r0 r1 r2 : Vec Ideal S3x1280 .bf16) (I : Vec Ideal S1024x3 .i32)
    (mint : Vec Ideal S3x1280 .i32) (rad : Vec Ideal S1x1280 .i32)
    (op : Vec Ideal S1x1280 .f32) (B : Vec Ideal S1280x19 .bf16) (q : Fin 1024) (k : Fin 19) :
    k1_pay1 (k1_pay2 P ck w r0 r1 r2) (k1_pay3 I) mint rad op B (ix2 q k)
      = ∑ g : Fin 1280, wgt (near (fun a => I (ix2 q a)) (fun a => mint (ix2 a g)) (rad (ix2 0 g)))
          (sqd (fun k => P (ix2 q k)) (fun k => r0 (ix2 k g)) (ck (ix2 0 g)) (w (ix2 0 g))
        + sqd (fun k => P (ix2 q k)) (fun k => r1 (ix2 k g)) (ck (ix2 1 g)) (w (ix2 1 g))
        + sqd (fun k => P (ix2 q k)) (fun k => r2 (ix2 k g)) (ck (ix2 2 g)) (w (ix2 2 g))) (op (ix2 0 g)) * (B (ix2 g k) : EReal) := by
  have e : k1_pay3 (F := Ideal) I = I := by unfold k1_pay3; funext j; pointwise
  rw [pay1_at, e]
  exact Finset.sum_congr rfl fun g _ => by rw [pay2_at]

/-- The array that the second call leaves. -/
def aggOut (P : Vec Ideal S6144x3 .bf16) (I : Vec Ideal S6144x3 .i32) (r0 r1 r2 : Vec Ideal S3x1280 .bf16) (ck w : Vec Ideal S3x1280 .f32)
    (op : Vec Ideal S1x1280 .f32) (mint : Vec Ideal S3x1280 .i32) (rad : Vec Ideal S1x1280 .i32) (B : Vec Ideal S1280x19 .bf16) :
    Vec Ideal S6144x19 .f32 := fun i =>
  ∑ g : Fin 1280, wgt (near (fun a => I (ix2 (i 0) a)) (fun a => mint (ix2 a g)) (rad (ix2 0 g)))
    (sqd (fun k => P (ix2 (i 0) k)) (fun k => r0 (ix2 k g)) (ck (ix2 0 g)) (w (ix2 0 g))
        + sqd (fun k => P (ix2 (i 0) k)) (fun k => r1 (ix2 k g)) (ck (ix2 1 g)) (w (ix2 1 g))
        + sqd (fun k => P (ix2 (i 0) k)) (fun k => r2 (ix2 k g)) (ck (ix2 2 g)) (w (ix2 2 g)))
    (op (ix2 0 g)) * (B (ix2 g (i 1)) : EReal)

theorem iblk1_2 (t : Fin cfg1.N) : iblk1 V c 2 t = V c main_v37_4 :=
  funext fun y => by
    have e : win1_2.index t = fun _ => 0 := (by decide +kernel : ∀ t : Fin cfg1.N, win1_2.index t = fun _ => 0) t
    blk_simp [iblk1]
    exact congrArg (V c main_v37_4) (funext fun a => Fin.ext (by
      blk_simp; rw [e, Nat.zero_mul, Nat.zero_add]))

theorem iblk1_3 (t : Fin cfg1.N) : iblk1 V c 3 t = V c main_v37_5 :=
  funext fun y => by
    have e : win1_3.index t = fun _ => 0 := (by decide +kernel : ∀ t : Fin cfg1.N, win1_3.index t = fun _ => 0) t
    blk_simp [iblk1]
    exact congrArg (V c main_v37_5) (funext fun a => Fin.ext (by
      blk_simp; rw [e, Nat.zero_mul, Nat.zero_add]))

theorem iblk1_4 (t : Fin cfg1.N) : iblk1 V c 4 t = V c main_v37_6 :=
  funext fun y => by
    have e : win1_4.index t = fun _ => 0 := (by decide +kernel : ∀ t : Fin cfg1.N, win1_4.index t = fun _ => 0) t
    blk_simp [iblk1]
    exact congrArg (V c main_v37_6) (funext fun a => Fin.ext (by
      blk_simp; rw [e, Nat.zero_mul, Nat.zero_add]))

theorem iblk1_5 (t : Fin cfg1.N) : iblk1 V c 5 t = V c main_v37_7 :=
  funext fun y => by
    have e : win1_5.index t = fun _ => 0 := (by decide +kernel : ∀ t : Fin cfg1.N, win1_5.index t = fun _ => 0) t
    blk_simp [iblk1]
    exact congrArg (V c main_v37_7) (funext fun a => Fin.ext (by
      blk_simp; rw [e, Nat.zero_mul, Nat.zero_add]))

theorem iblk1_6 (t : Fin cfg1.N) : iblk1 V c 6 t = V c main_v37_8 :=
  funext fun y => by
    have e : win1_6.index t = fun _ => 0 := (by decide +kernel : ∀ t : Fin cfg1.N, win1_6.index t = fun _ => 0) t
    blk_simp [iblk1]
    exact congrArg (V c main_v37_8) (funext fun a => Fin.ext (by
      blk_simp; rw [e, Nat.zero_mul, Nat.zero_add]))

theorem iblk1_7 (t : Fin cfg1.N) : iblk1 V c 7 t = V c main_v41 :=
  funext fun y => by
    have e : win1_7.index t = fun _ => 0 := (by decide +kernel : ∀ t : Fin cfg1.N, win1_7.index t = fun _ => 0) t
    blk_simp [iblk1]
    exact congrArg (V c main_v41) (funext fun a => Fin.ext (by
      blk_simp; rw [e, Nat.zero_mul, Nat.zero_add]))

theorem iblk1_8 (t : Fin cfg1.N) : iblk1 V c 8 t = V c main_v19 :=
  funext fun y => by
    have e : win1_8.index t = fun _ => 0 := (by decide +kernel : ∀ t : Fin cfg1.N, win1_8.index t = fun _ => 0) t
    blk_simp [iblk1]
    exact congrArg (V c main_v19) (funext fun a => Fin.ext (by
      blk_simp; rw [e, Nat.zero_mul, Nat.zero_add]))

theorem iblk1_9 (t : Fin cfg1.N) : iblk1 V c 9 t = V c main_v29 :=
  funext fun y => by
    have e : win1_9.index t = fun _ => 0 := (by decide +kernel : ∀ t : Fin cfg1.N, win1_9.index t = fun _ => 0) t
    blk_simp [iblk1]
    exact congrArg (V c main_v29) (funext fun a => Fin.ext (by
      blk_simp; rw [e, Nat.zero_mul, Nat.zero_add]))

theorem iblk1_10 (t : Fin cfg1.N) : iblk1 V c 10 t = V c main_v37_9 :=
  funext fun y => by
    have e : win1_10.index t = fun _ => 0 := (by decide +kernel : ∀ t : Fin cfg1.N, win1_10.index t = fun _ => 0) t
    blk_simp [iblk1]
    exact congrArg (V c main_v37_9) (funext fun a => Fin.ext (by
      blk_simp; rw [e, Nat.zero_mul, Nat.zero_add]))

theorem iblk1_0 (t : Fin cfg1.N) (y : S1024x3.Idx) (p : Fin 6144) (hp : p.val = t.val * 1024 + (y 0).val) :
    iblk1 V c 0 t y = V c main_v39 (ix2 p (y 1)) := by
  have e : win1_0.index t = ![t.val, 0] := (by decide +kernel : ∀ t : Fin cfg1.N, win1_0.index t = ![t.val, 0]) t
  blk_simp [iblk1]
  refine congrArg (V c main_v39) (funext fun a => Fin.ext ?_)
  blk_simp
  rw [e]
  match a with
  | ⟨0, _⟩ => exact hp.symm
  | ⟨1, _⟩ => show 0 * _ + (y 1).val = (y 1).val; rw [Nat.zero_mul, Nat.zero_add]

theorem iblk1_1 (t : Fin cfg1.N) (y : S1024x3.Idx) (p : Fin 6144) (hp : p.val = t.val * 1024 + (y 0).val) :
    iblk1 V c 1 t y = V c main_v40 (ix2 p (y 1)) := by
  have e : win1_1.index t = ![t.val, 0] := (by decide +kernel : ∀ t : Fin cfg1.N, win1_1.index t = ![t.val, 0]) t
  blk_simp [iblk1]
  refine congrArg (V c main_v40) (funext fun a => Fin.ext ?_)
  blk_simp
  rw [e]
  match a with
  | ⟨0, _⟩ => exact hp.symm
  | ⟨1, _⟩ => show 0 * _ + (y 1).val = (y 1).val; rw [Nat.zero_mul, Nat.zero_add]

theorem agg_at (P' : Vec Ideal S1024x3 .bf16) (I' : Vec Ideal S1024x3 .i32) (P : Vec Ideal S6144x3 .bf16) (I : Vec Ideal S6144x3 .i32)
    (r0 r1 r2 : Vec Ideal S3x1280 .bf16) (ck w : Vec Ideal S3x1280 .f32)
    (op : Vec Ideal S1x1280 .f32) (mint : Vec Ideal S3x1280 .i32) (rad : Vec Ideal S1x1280 .i32) (B : Vec Ideal S1280x19 .bf16)
    (y : S1024x19.Idx) (z : S6144x19.Idx) (h1 : z 1 = y 1)
    (hP : ∀ a : Fin 3, P' (ix2 (y 0) a) = P (ix2 (z 0) a)) (hI : ∀ a : Fin 3, I' (ix2 (y 0) a) = I (ix2 (z 0) a)) :
    k1_pay1 (k1_pay2 P' ck w r0 r1 r2) (k1_pay3 I') mint rad op B y = aggOut P I r0 r1 r2 ck w op mint rad B z := by
  have hy : y = (ix2 (y 0) (y 1) : S1024x19.Idx) := eq_ix2 y
  refine (congrArg _ hy).trans ((pay1_any _ _ _ _ _ _ _ _ _ _ _ (y 0) (y 1)).trans ?_)
  unfold aggOut
  refine Finset.sum_congr rfl fun g _ => ?_
  rw [h1]
  simp only [hP, hI]

theorem emb1_11_0 (t : Fin cfg1.N) (y : S1024x19.Idx) :
    (((View.whole main_v42).slice (win1_11.rect t)).emb y 0).val = t.val * 1024 + (y 0).val := by
  have e : win1_11.index t = ![t.val, 0] := (by decide +kernel : ∀ t : Fin cfg1.N, win1_11.index t = ![t.val, 0]) t
  show win1_11.index t 0 * 1024 + 1 * (y 0).val = _
  rw [e, one_mul]
  rfl

theorem emb1_11_1 (t : Fin cfg1.N) (y : S1024x19.Idx) :
    ((View.whole main_v42).slice (win1_11.rect t)).emb y 1 = y 1 := by
  have e : win1_11.index t = ![t.val, 0] := (by decide +kernel : ∀ t : Fin cfg1.N, win1_11.index t = ![t.val, 0]) t
  refine Fin.ext ?_
  show win1_11.index t 1 * 19 + 1 * (y 1).val = _
  rw [e, one_mul]
  show 0 * 19 + _ = _
  rw [Nat.zero_mul, Nat.zero_add]

set_option maxHeartbeats 4000000 in
theorem arr1_11 : (dat1 V c).arrAt 11 cfg1.N = aggOut (V c main_v39) (V c main_v40) (V c main_v37_4) (V c main_v37_5) (V c main_v37_6)
    (V c main_v37_7) (V c main_v37_8) (V c main_v41) (V c main_v19) (V c main_v29) (V c main_v37_9) := by
  refine (dat1 V c).arrAt_eq_of_covers 11 _ (by decide +kernel) fun t hf y => ?_
  blk_simp
  rw [after1_11]
  frame_out
  rw [iblk1_2, iblk1_3, iblk1_4, iblk1_5, iblk1_6, iblk1_7, iblk1_8, iblk1_9, iblk1_10]
  generalize hz : ((View.whole main_v42).slice (win1_11.rect t)).emb y = z
  have h0 : (z 0).val = t.val * 1024 + (y 0).val := hz ▸ emb1_11_0 t y
  have h1 : z 1 = y 1 := hz ▸ emb1_11_1 t y
  exact agg_at (iblk1 V c 0 t) (iblk1 V c 1 t) _ _ _ _ _ _ _ _ _ _ _ y z h1 (fun a => iblk1_0 V c t (ix2 (y 0) a) (z 0) h0)
    (fun a => iblk1_1 V c t (ix2 (y 0) a) (z 0) h0)

end Cert.Proof.Dense

end
-- ==== Proof.DenseSpec.lean ====
/-
  A gaussian's numbers, written plainly, and the first call's arrays read entry by entry as these.
-/
module

public import proofs.«01_k».proof.Proof.DenseAgg

@[expose] public section

set_option maxRecDepth 16384

noncomputable section

namespace Cert.Proof.Dense

open Cert.DenseIdeal Cert.DenseIdeal.Gen

open Idealize.ShloMosaic Idealize.ShloMosaic.TcCoe Idealize.ShloMosaic.Tactic
open Idealize.SL.Sem

abbrev two : EReal := Ideal.ofBits .f32 0x40000000#32
abbrev eps : EReal := Ideal.ofBits .f32 0x322BCC77#32

/-- A quaternion's length. -/
def len (q : Fin 4 → EReal) : EReal := Ideal.sqrt (q 0 * q 0 + q 1 * q 1 + q 2 * q 2 + q 3 * q 3)

/-- A quaternion's rotation matrix, the quaternion being scaled to length 1 first. -/
def unitq (q : Fin 4 → EReal) (b : Fin 4) : EReal := Ideal.div (q b) (len q)
def rotm (w x y z : EReal) : Fin 3 → Fin 3 → EReal :=
  ![![1 - two * (y * y + z * z), two * (x * y - w * z), two * (x * z + w * y)],
    ![two * (x * y + w * z), 1 - two * (x * x + z * z), two * (y * z - w * x)],
    ![two * (x * z - w * y), two * (y * z + w * x), 1 - two * (x * x + y * y)]]
def rot (q : Fin 4 → EReal) : Fin 3 → Fin 3 → EReal := rotm (unitq q 0) (unitq q 1) (unitq q 2) (unitq q 3)

variable (R : Vec Ideal S4x1280 .f32) (M S : Vec Ideal S3x1280 .f32) (g : Fin 1280)

theorem pay8_at : k0_pay8 R (ix2 0 g) = unitq (fun b => R (ix2 b g)) 0 := by
  unfold k0_pay8 k0_pay7 k0_pay6 k0_pay5 k0_pay4 k0_pay3 k0_pay2 unitq len
  pointwise
theorem pay9_at : k0_pay9 R (ix2 0 g) = unitq (fun b => R (ix2 b g)) 1 := by
  unfold k0_pay9 k0_pay7 k0_pay6 k0_pay5 k0_pay4 k0_pay3 k0_pay2 unitq len
  pointwise
theorem pay10_at : k0_pay10 R (ix2 0 g) = unitq (fun b => R (ix2 b g)) 2 := by
  unfold k0_pay10 k0_pay7 k0_pay6 k0_pay5 k0_pay4 k0_pay3 k0_pay2 unitq len
  pointwise
theorem pay11_at : k0_pay11 R (ix2 0 g) = unitq (fun b => R (ix2 b g)) 3 := by
  unfold k0_pay11 k0_pay7 k0_pay6 k0_pay5 k0_pay4 k0_pay3 k0_pay2 unitq len
  pointwise

/-- The sum over the three axes. -/
def sum3 (f : Fin 3 → EReal) : EReal := f 0 + f 1 + f 2

/-- One over a squared scale. -/
def iw (s : EReal) : EReal := Ideal.div 1 (s * s + eps)

theorem r0_at (k : Fin 3) : k0_pay24 (k0_pay12 R) (k0_pay13 R) (k0_pay14 R) (ix2 k g) = rot (fun b => R (ix2 b g)) k 0 := by
  unfold k0_pay24 k0_pay12 k0_pay13 k0_pay14 rot
  rw [← pay8_at, ← pay9_at, ← pay10_at, ← pay11_at]
  match k with
  | 0 => pointwise; rfl
  | 1 => pointwise; rfl
  | 2 => pointwise; rfl

theorem r1_at (k : Fin 3) : k0_pay25 (k0_pay15 R) (k0_pay16 R) (k0_pay17 R) (Scalar.ofBits .f32 0x40000000#32) (ix2 k g)
    = rot (fun b => R (ix2 b g)) k 1 := by
  unfold k0_pay25 k0_pay15 k0_pay16 k0_pay18 k0_pay17 rot
  rw [← pay8_at, ← pay9_at, ← pay10_at, ← pay11_at]
  match k with
  | 0 => pointwise; rfl
  | 1 => pointwise; rfl
  | 2 => pointwise; rfl

theorem r2_at (k : Fin 3) : k0_pay26 (k0_pay8 R) (k0_pay9 R) (k0_pay10 R) (k0_pay11 R) (ix2 k g)
    = rot (fun b => R (ix2 b g)) k 2 := by
  unfold k0_pay26 k0_pay19 k0_pay20 k0_pay21 rot
  rw [← pay8_at, ← pay9_at, ← pay10_at, ← pay11_at]
  match k with
  | 0 => pointwise; rfl
  | 1 => pointwise; rfl
  | 2 => pointwise; rfl

theorem ck_at (k : Fin 3) : k0_pay32 (k0_pay16 R) (k0_pay18 (k0_pay17 R) (Scalar.ofBits .f32 0x40000000#32))
      (k0_pay19 (k0_pay8 R) (k0_pay9 R) (k0_pay10 R) (k0_pay11 R)) (k0_pay20 (k0_pay8 R) (k0_pay9 R) (k0_pay10 R) (k0_pay11 R))
      (k0_pay21 (k0_pay9 R) (k0_pay10 R)) (k0_pay22 M) (k0_pay27 (k0_pay12 R) (k0_pay13 R) (k0_pay14 R) M)
      (k0_pay28 (k0_pay15 R) M) (k0_pay29 M) (ix2 k g)
    = sum3 fun i => M (ix2 i g) * rot (fun b => R (ix2 b g)) i k := by
  unfold k0_pay32 k0_pay30 k0_pay31 k0_pay27 k0_pay28 k0_pay29 k0_pay22 k0_pay12 k0_pay13 k0_pay14 k0_pay15 k0_pay16 k0_pay18 k0_pay17 k0_pay19 k0_pay20 k0_pay21 rot
  rw [← pay8_at, ← pay9_at, ← pay10_at, ← pay11_at]
  match k with
  | 0 => pointwise; rfl
  | 1 => pointwise; rfl
  | 2 => pointwise; rfl

theorem w_at (k : Fin 3) : k0_pay36 (k0_pay23 S) (ix2 k g) = iw (S (ix2 k g)) := by
  unfold k0_pay36 k0_pay33 k0_pay34 k0_pay35 k0_pay23 iw
  match k with
  | 0 => pointwise
  | 1 => pointwise
  | 2 => pointwise

/-- What the first call writes for the second's last input: 17 entries, then `u`, then 1. -/
theorem B_at (E : Vec Ideal S1280x17 .f32) (U : Vec Ideal S1280x1 .f32) (k : Fin 17) :
    k0_pay56 E U (ix2 g ⟨k.val, by omega⟩) = E (ix2 g k) := by
  unfold k0_pay56
  pointwise
theorem B_at17 (E : Vec Ideal S1280x17 .f32) (U : Vec Ideal S1280x1 .f32) : k0_pay56 E U (ix2 g 17) = U (ix2 g 0) := by
  unfold k0_pay56
  pointwise
theorem B_at18 (E : Vec Ideal S1280x17 .f32) (U : Vec Ideal S1280x1 .f32) : k0_pay56 E U (ix2 g 18) = (1 : EReal) := by
  unfold k0_pay56
  pointwise

end Cert.Proof.Dense

end
-- ==== Proof.DenseTabAt.lean ====
/-
  The first call's tables, entry by entry.
-/
module

public import proofs.«01_k».proof.Proof.DenseTab
public import proofs.«01_k».proof.Proof.DenseSpec

@[expose] public section

set_option maxRecDepth 16384
set_option maxHeartbeats 4000000

noncomputable section

namespace Cert.Proof.Dense

open Cert.DenseIdeal Cert.DenseIdeal.Gen

open Idealize.ShloMosaic Idealize.ShloMosaic.TcCoe Idealize.ShloMosaic.Tactic
open Idealize.SL.Sem

variable (R : Vec Ideal S4x1280 .f32) (M S : Vec Ideal S3x1280 .f32) (E : Vec Ideal S17x1280 .f32) (O U : Vec Ideal S1x1280 .f32) (g : Fin 1280)

theorem floats_axis (k i : Fin 3) : floats R M S E O U (ix2 ⟨3 * k.val + i.val, by omega⟩ g) = rot (fun b => R (ix2 b g)) i k := by
  unfold floats k0_pay72 rot
  rw [← pay8_at, ← pay9_at, ← pay10_at, ← pay11_at]
  match k, i with
  | 0, 0 => unfold k0_pay57 k0_pay12; pointwise; rfl
  | 0, 1 => unfold k0_pay58 k0_pay13; pointwise; rfl
  | 0, 2 => unfold k0_pay59 k0_pay14; pointwise; rfl
  | 1, 0 => unfold k0_pay60 k0_pay15; pointwise; rfl
  | 1, 1 => unfold k0_pay61 k0_pay16; pointwise; rfl
  | 1, 2 => unfold k0_pay62 k0_pay18 k0_pay17; pointwise; rfl
  | 2, 0 => unfold k0_pay63 k0_pay19; pointwise; rfl
  | 2, 1 => unfold k0_pay64 k0_pay20; pointwise; rfl
  | 2, 2 => unfold k0_pay65 k0_pay21; pointwise; rfl

theorem floats_feat (k : Fin 17) : floats R M S E O U (ix2 ⟨9 + k.val, by omega⟩ g) = E (ix2 k g) := by
  unfold floats k0_pay72
  match k with
  | ⟨0, _⟩ => unfold k0_pay66 k0_pay38 k0_pay37; pointwise
  | ⟨1, _⟩ => unfold k0_pay67 k0_pay39 k0_pay37; pointwise
  | ⟨2, _⟩ => unfold k0_pay68 k0_pay40 k0_pay37; pointwise
  | ⟨3, _⟩ => unfold k0_pay69 k0_pay41 k0_pay37; pointwise
  | ⟨4, _⟩ => unfold k0_pay70 k0_pay42 k0_pay37; pointwise
  | ⟨5, _⟩ => unfold k0_pay71 k0_pay43 k0_pay37; pointwise
  | ⟨6, _⟩ => unfold k0_pay44 k0_pay37; pointwise
  | ⟨7, _⟩ => unfold k0_pay45 k0_pay37; pointwise
  | ⟨8, _⟩ => unfold k0_pay46 k0_pay37; pointwise
  | ⟨9, _⟩ => unfold k0_pay47 k0_pay37; pointwise
  | ⟨10, _⟩ => unfold k0_pay48 k0_pay37; pointwise
  | ⟨11, _⟩ => unfold k0_pay49 k0_pay37; pointwise
  | ⟨12, _⟩ => unfold k0_pay50 k0_pay37; pointwise
  | ⟨13, _⟩ => unfold k0_pay51 k0_pay37; pointwise
  | ⟨14, _⟩ => unfold k0_pay52 k0_pay37; pointwise
  | ⟨15, _⟩ => unfold k0_pay53 k0_pay37; pointwise
  | ⟨16, _⟩ => unfold k0_pay54 k0_pay37; pointwise
  | ⟨n + 17, h⟩ => exact absurd h (by omega)

theorem floats_u : floats R M S E O U (ix2 26 g) = U (ix2 0 g) := by
  unfold floats k0_pay72 k0_pay55
  pointwise

theorem floats_iw (k : Fin 3) : floats R M S E O U (ix2 ⟨27 + k.val, by omega⟩ g) = iw (S (ix2 k g)) := by
  unfold floats k0_pay72 iw
  match k with
  | 0 => unfold k0_pay33 k0_pay23; pointwise
  | 1 => unfold k0_pay34 k0_pay23; pointwise
  | 2 => unfold k0_pay35 k0_pay23; pointwise

theorem floats_ck (k : Fin 3) : floats R M S E O U (ix2 ⟨30 + k.val, by omega⟩ g) = sum3 fun i => M (ix2 i g) * rot (fun b => R (ix2 b g)) i k := by
  rw [← ck_at]
  unfold floats k0_pay72 k0_pay32
  match k with
  | 0 => pointwise
  | 1 => pointwise
  | 2 => pointwise

theorem floats_o : floats R M S E O U (ix2 33 g) = O (ix2 0 g) := by
  unfold floats k0_pay72
  pointwise

/-- A gaussian's word, from its grid cell and radius. -/
def word (a b c r : BitVec 32) : BitVec 32 := ((r <<< 24#32 ||| a <<< 16#32) ||| b <<< 8#32) ||| c

theorem wordRow_at (I : Vec Ideal S3x1280 .i32) (D : Vec Ideal S1x1280 .i32) : wordRow I D (ix2 0 g)
    = word (I (ix2 0 g)) (I (ix2 1 g)) (I (ix2 2 g)) (D (ix2 0 g)) := by
  unfold wordRow k0_pay73
  pointwise
  rfl

/-! ## The cells -/

/-- A coordinate's octant, and the cell of a mean. -/
def octant (e : EReal) : BitVec 32 :=
  FloatOps.fptosi (F := Ideal) (φ := .f32) 32 (e * Ideal.ofBits .f32 0x41000000#32 + Ideal.ofBits .f32 0x3F800000#32) - 1#32
def cellNo (x : Fin 3 → EReal) : BitVec 32 := (octant (x 0) * 8#32 + octant (x 1)) * 8#32 + octant (x 2)

theorem cell_at : k0_pay74 (k0_pay22 M) (ix2 0 g) = cellNo (fun a => M (ix2 a g)) := by
  unfold k0_pay74 k0_pay22 cellNo octant
  pointwise
  rfl

theorem inside_at (Q : IVec S1x1280 32) (j : Fin 512) : k0_pay79 (F := Ideal) Q (ix2 j g)
    = FloatOps.sitofp (F := Ideal) .f32 (BitVec.setWidth 32 (IntOp.cmpi .eq (BitVec.ofNat 32 j.val) (Q (ix2 0 g)))) := by
  unfold k0_pay79
  pointwise

theorem count_at (Q : IVec S1x1280 32) (j : Fin 512) : k0_pay80 (F := Ideal) Q (ix2 j 0)
    = FloatOps.fptosi (F := Ideal) (φ := .f32) 32 (min (∑ g, (k0_pay79 (F := Ideal) Q (ix2 j g) : EReal)) (Ideal.ofBits .f32 0x41E00000#32)) := by
  unfold k0_pay80
  generalize k0_pay79 (F := Ideal) Q = T
  pointwise

theorem place_at (Q : IVec S1x1280 32) (C : Vec Ideal S1280x3 .f32) : k0_pay81 (F := Ideal) Q (k0_pay75 C) (k0_pay76 C) (k0_pay77 C) k0_pay78 (ix2 g 0)
    = FloatOps.fptosi (F := Ideal) (φ := .f32) 32 (∑ g' : Fin 1280, (FloatOps.sitofp (F := Ideal) .f32 (BitVec.setWidth 32 (IntOp.andi
      (IntOp.cmpi .eq (cellNo fun a => C (ix2 g a)) (Q (ix2 0 g'))) (IntOp.cmpi .slt (BitVec.ofNat 32 g'.val) (BitVec.ofNat 32 g.val)))) : EReal)) := by
  unfold k0_pay81 k0_pay76 k0_pay77 k0_pay78 k0_pay75 cellNo octant
  pointwise
  rfl

theorem list_at (T : FVec Ideal S512x1280 .f32) (P : IVec S1280x1 32) (j : Fin 512) (k : Fin 28) :
    k0_pay1 (F := Ideal) T P (iota .tc S1280x28 32 [1] iota_S1280x28_d1_w32) (iota .tc S1280x28 32 [0] iota_S1280x28_d0_w32) k0_pay82 (ix2 j k)
    = FloatOps.fptosi (F := Ideal) (φ := .f32) 32 (∑ g : Fin 1280, Scalar.select (IntOp.cmpi .eq (P (ix2 g 0)) (BitVec.ofNat 32 k.val))
      ((T (ix2 j g) : EReal) * FloatOps.sitofp (F := Ideal) .f32 (BitVec.ofNat 32 g.val + 1#32)) 0) := by
  unfold k0_pay1 k0_pay82
  pointwise
  rfl

end Cert.Proof.Dense

end
-- ==== Proof.DenseHost.lean ====
/-
  What the operations between the calls put in the buffers, entry by entry from the arguments.
-/
module

public import proofs.«01_k».proof.Proof.DenseSpec
public import proofs.«01_k».proof.Proof.Gen.DenseReferenceIdeal.Read
public import Idealize.ShloMosaic.Lib.StableHlo.ReadAt

@[expose] public section

set_option maxRecDepth 16384
set_option maxHeartbeats 4000000

noncomputable section

namespace Cert.Proof.Dense

open Cert.DenseIdeal Cert.DenseIdeal.Gen

open Idealize.ShloMosaic Idealize.ShloMosaic.TcCoe Idealize.ShloMosaic.Tactic Idealize.ShloMosaic.StableHlo
open Idealize.SL.Sem

/-- The lattice cell of a coordinate. -/
def cellOf (e : EReal) : BitVec 32 :=
  FloatOps.fptosi (F := Ideal) (φ := .f32) 32 (Ideal.liftRound Int.floor (Ideal.div e (Ideal.ofBits .f32 0x3BA3D70A#32)))

variable (m : (ℓ : Loc nD τ sig) → Buf (Elt Ideal) ℓ) (ρ : Dev nD → PrngReg) (c : Dev nD)

abbrev x0 : Vec Ideal S1x10000x3 .f32 := m ((c : Thread nD τ).loc main_arg0)
abbrev x1 : Vec Ideal S1x1280x3 .f32 := m ((c : Thread nD τ).loc main_arg1)
abbrev x2 : Vec Ideal S1x1280 .f32 := m ((c : Thread nD τ).loc main_arg2)
abbrev x3 : Vec Ideal S1x1280 .f32 := m ((c : Thread nD τ).loc main_arg3)
abbrev x4 : Vec Ideal S1x1280 .f32 := m ((c : Thread nD τ).loc main_arg4)
abbrev x5 : Vec Ideal S1x1280x17 .f32 := m ((c : Thread nD τ).loc main_arg5)
abbrev x6 : Vec Ideal S1x1280x3 .f32 := m ((c : Thread nD τ).loc main_arg6)
abbrev x7 : Vec Ideal S1x1280x4 .f32 := m ((c : Thread nD τ).loc main_arg7)

theorem v30_eq : W1 m ρ c (Proc.devRef .tc main_v30) = (transpose S3x1280 [1, 0] (shapeCast S1280x3 (x1 m c) shapeCasts_S1x1280x3_S1280x3) transposes_S1280x3_S3x1280_1_0 : Vec Ideal S3x1280 .f32) := by
  show after hostOps0 (W0 m ρ c) _ = _
  after_results
  rfl
theorem v30_at (k : Fin 3) (g : Fin 1280) : (W1 m ρ c (Proc.devRef .tc main_v30) : Vec Ideal S3x1280 .f32) (ix2 k g) = x1 m c (ix3 0 g k) := by
  rw [v30_eq]
  pointwise

theorem v31_eq : W1 m ρ c (Proc.devRef .tc main_v31) = (transpose S4x1280 [1, 0] (shapeCast S1280x4 (x7 m c) shapeCasts_S1x1280x4_S1280x4) transposes_S1280x4_S4x1280_1_0 : Vec Ideal S4x1280 .f32) := by
  show after hostOps0 (W0 m ρ c) _ = _
  after_results
  rfl
theorem v31_at (k : Fin 4) (g : Fin 1280) : (W1 m ρ c (Proc.devRef .tc main_v31) : Vec Ideal S4x1280 .f32) (ix2 k g) = x7 m c (ix3 0 g k) := by
  rw [v31_eq]
  pointwise

theorem v32_eq : W1 m ρ c (Proc.devRef .tc main_v32) = (transpose S3x1280 [1, 0] (shapeCast S1280x3 (x6 m c) shapeCasts_S1x1280x3_S1280x3) transposes_S1280x3_S3x1280_1_0 : Vec Ideal S3x1280 .f32) := by
  show after hostOps0 (W0 m ρ c) _ = _
  after_results
  rfl
theorem v32_at (k : Fin 3) (g : Fin 1280) : (W1 m ρ c (Proc.devRef .tc main_v32) : Vec Ideal S3x1280 .f32) (ix2 k g) = x6 m c (ix3 0 g k) := by
  rw [v32_eq]
  pointwise

theorem v10_eq : W1 m ρ c (Proc.devRef .tc main_v10) = (mulf (F := Ideal) (φ := .f32) (shapeCast S1280x17 (x5 m c) shapeCasts_S1x1280x17_S1280x17) (broadcastInDim S1280x17 ![0, 1] bcast_S1280x1_S1280x17_0_1 (broadcastInDim S1280x1 ![0] bcast_S1280_S1280x1_0 (shapeCast S1280 (x4 m c) shapeCasts_S1x1280_S1280))) : Vec Ideal S1280x17 .f32) := by
  show after hostOps0 (W0 m ρ c) _ = _
  after_results
  rfl
theorem v10_at (g : Fin 1280) (k : Fin 17) : (W1 m ρ c (Proc.devRef .tc main_v10) : Vec Ideal S1280x17 .f32) (ix2 g k) = x5 m c (ix3 0 g k) * (x4 m c (ix2 0 g) : EReal) := by
  rw [v10_eq]
  pointwise

theorem v34_eq : W1 m ρ c (Proc.devRef .tc main_v34) = (broadcastInDim S1280x1 ![0] bcast_S1280_S1280x1_0 (shapeCast S1280 (x3 m c) shapeCasts_S1x1280_S1280) : Vec Ideal S1280x1 .f32) := by
  show after hostOps0 (W0 m ρ c) _ = _
  after_results
  rfl
theorem v34_at (g : Fin 1280) : (W1 m ρ c (Proc.devRef .tc main_v34) : Vec Ideal S1280x1 .f32) (ix2 g 0) = x3 m c (ix2 0 g) := by
  rw [v34_eq]
  pointwise

theorem v19_eq : W1 m ρ c (Proc.devRef .tc main_v19) = (transpose S3x1280 [1, 0] (fptosi 32 (Host.floor (Host.divf (shapeCast S1280x3 (x1 m c) shapeCasts_S1x1280x3_S1280x3) (broadcastInDim S1280x3 ![] bcast_S_S1280x3 (constant (F := Ideal) S_ .f32 0x3BA3D70A#32))))) transposes_S1280x3_S3x1280_1_0 : Vec Ideal S3x1280 .i32) := by
  show after hostOps0 (W0 m ρ c) _ = _
  after_results
  rfl
theorem v19_at (k : Fin 3) (g : Fin 1280) : (W1 m ρ c (Proc.devRef .tc main_v19) : Vec Ideal S3x1280 .i32) (ix2 k g) = cellOf (x1 m c (ix3 0 g k)) := by
  rw [v19_eq]
  unfold cellOf
  pointwise

theorem v29_eq : W1 m ρ c (Proc.devRef .tc main_v29) = (broadcastInDim S1x1280 ![1] bcast_S1280_S1x1280_1 (Cert.DenseReferenceIdeal.Read.val_main_v32 (F := Ideal) (x6 m c)) : Vec Ideal S1x1280 .i32) := by
  show after hostOps0 (W0 m ρ c) _ = _
  after_results
  rfl
theorem v29_at (g : Fin 1280) : (W1 m ρ c (Proc.devRef .tc main_v29) : Vec Ideal S1x1280 .i32) (ix2 0 g) = Cert.DenseReferenceIdeal.Read.val_main_v32 (F := Ideal) (x6 m c) (ix1 g) := by
  rw [v29_eq]
  pointwise

theorem v14_eq : W1 m ρ c (Proc.devRef .tc main_v14) = (fptosi 32 (Host.floor (Host.divf (shapeCast S10000x3 (x0 m c) shapeCasts_S1x10000x3_S10000x3) (broadcastInDim S10000x3 ![] bcast_S_S10000x3 (constant (F := Ideal) S_ .f32 0x3BA3D70A#32)))) : Vec Ideal S10000x3 .i32) := by
  show after hostOps0 (W0 m ρ c) _ = _
  after_results
  rfl

theorem v0_eq : W1 m ρ c (Proc.devRef .tc main_v0) = (shapeCast S10000x3 (x0 m c) shapeCasts_S1x10000x3_S10000x3 : Vec Ideal S10000x3 .f32) := by
  show after hostOps0 (W0 m ρ c) _ = _
  after_results
  rfl

theorem v2_eq : W1 m ρ c (Proc.devRef .tc main_v2) = (shapeCast S1280 (x2 m c) shapeCasts_S1x1280_S1280 : Vec Ideal S1280 .f32) := by
  show after hostOps0 (W0 m ρ c) _ = _
  after_results
  rfl
theorem w2_0 : W2 m ρ c (Proc.devRef .tc main_v0) = W1 m ρ c (Proc.devRef .tc main_v0) := W2_of m ρ c _ (by decide +kernel)
theorem w2_2 : W2 m ρ c (Proc.devRef .tc main_v2) = W1 m ρ c (Proc.devRef .tc main_v2) := W2_of m ρ c _ (by decide +kernel)
theorem w2_14 : W2 m ρ c (Proc.devRef .tc main_v14) = W1 m ρ c (Proc.devRef .tc main_v14) := W2_of m ρ c _ (by decide +kernel)
theorem w3_19 : W3 m ρ c (Proc.devRef .tc main_v19) = W1 m ρ c (Proc.devRef .tc main_v19) :=
  (W3_of m ρ c _ (by decide +kernel)).trans (W2_of m ρ c _ (by decide +kernel))
theorem w3_29 : W3 m ρ c (Proc.devRef .tc main_v29) = W1 m ρ c (Proc.devRef .tc main_v29) :=
  (W3_of m ρ c _ (by decide +kernel)).trans (W2_of m ρ c _ (by decide +kernel))

theorem v39_eq : W3 m ρ c (Proc.devRef .tc main_v39) = (truncf (F := Ideal) (φ := .f32) .bf16 (extractStridedSlice S6144x3 ![0, 0] (W2 m ρ c (Proc.devRef .tc main_v0) : Vec Ideal S10000x3 .f32) slices_S10000x3_S6144x3_0_0) bitsLt_bf16_f32 : Vec Ideal S6144x3 .bf16) := by
  show after hostOps1 (W2 m ρ c) _ = _
  after_results
theorem v39_at (p : Fin 6144) (k : Fin 3) : (W3 m ρ c (Proc.devRef .tc main_v39) : Vec Ideal S6144x3 .bf16) (ix2 p k) = x0 m c (ix3 0 ⟨p.val, by omega⟩ k) := by
  rw [v39_eq]
  rw [w2_0, v0_eq]
  pointwise

theorem v40_eq : W3 m ρ c (Proc.devRef .tc main_v40) = (extractStridedSlice S6144x3 ![0, 0] (W2 m ρ c (Proc.devRef .tc main_v14) : Vec Ideal S10000x3 .i32) slices_S10000x3_S6144x3_0_0 : Vec Ideal S6144x3 .i32) := by
  show after hostOps1 (W2 m ρ c) _ = _
  after_results
theorem v40_at (p : Fin 6144) (k : Fin 3) : (W3 m ρ c (Proc.devRef .tc main_v40) : Vec Ideal S6144x3 .i32) (ix2 p k) = cellOf (x0 m c (ix3 0 ⟨p.val, by omega⟩ k)) := by
  rw [v40_eq]
  rw [w2_14, v14_eq]
  unfold cellOf
  pointwise

theorem v41_eq : W3 m ρ c (Proc.devRef .tc main_v41) = (broadcastInDim S1x1280 ![1] bcast_S1280_S1x1280_1 (W2 m ρ c (Proc.devRef .tc main_v2) : Vec Ideal S1280 .f32) : Vec Ideal S1x1280 .f32) := by
  show after hostOps1 (W2 m ρ c) _ = _
  after_results
theorem v41_at (g : Fin 1280) : (W3 m ρ c (Proc.devRef .tc main_v41) : Vec Ideal S1x1280 .f32) (ix2 0 g) = x2 m c (ix2 0 g) := by
  rw [v41_eq]
  rw [w2_2, v2_eq]
  pointwise

theorem w3_37_4 : W3 m ρ c (Proc.devRef .tc main_v37_4) = (dat0 (V1 m ρ) c).arrAt 15 cfg0.N :=
  (W3_of m ρ c _ (by decide +kernel)).trans (W2_arr m ρ c 15)

theorem w3_37_5 : W3 m ρ c (Proc.devRef .tc main_v37_5) = (dat0 (V1 m ρ) c).arrAt 16 cfg0.N :=
  (W3_of m ρ c _ (by decide +kernel)).trans (W2_arr m ρ c 16)

theorem w3_37_6 : W3 m ρ c (Proc.devRef .tc main_v37_6) = (dat0 (V1 m ρ) c).arrAt 17 cfg0.N :=
  (W3_of m ρ c _ (by decide +kernel)).trans (W2_arr m ρ c 17)

theorem w3_37_7 : W3 m ρ c (Proc.devRef .tc main_v37_7) = (dat0 (V1 m ρ) c).arrAt 18 cfg0.N :=
  (W3_of m ρ c _ (by decide +kernel)).trans (W2_arr m ρ c 18)

theorem w3_37_8 : W3 m ρ c (Proc.devRef .tc main_v37_8) = (dat0 (V1 m ρ) c).arrAt 19 cfg0.N :=
  (W3_of m ρ c _ (by decide +kernel)).trans (W2_arr m ρ c 19)

theorem w3_37_9 : W3 m ρ c (Proc.devRef .tc main_v37_9) = (dat0 (V1 m ρ) c).arrAt 20 cfg0.N :=
  (W3_of m ρ c _ (by decide +kernel)).trans (W2_arr m ρ c 20)

theorem w4_42 : W4 m ρ c (Proc.devRef .tc main_v42) = (dat1 (V3 m ρ) c).arrAt 11 cfg1.N := W4_arr m ρ c 11

theorem v43_eq : W5 m ρ c (Proc.devRef .tc main_v43) = (extractStridedSlice S6144x17 ![0, 0] (W4 m ρ c (Proc.devRef .tc main_v42) : Vec Ideal S6144x19 .f32) slices_S6144x19_S6144x17_0_0 : Vec Ideal S6144x17 .f32) := by
  show after hostOps2 (W4 m ρ c) _ = _
  after_results

theorem v45_eq : W5 m ρ c (Proc.devRef .tc main_v45) = (shapeCast S6144 (extractStridedSlice S6144x1 ![0, 17] (W4 m ρ c (Proc.devRef .tc main_v42) : Vec Ideal S6144x19 .f32) slices_S6144x19_S6144x1_0_17) shapeCasts_S6144x1_S6144 : Vec Ideal S6144 .f32) := by
  show after hostOps2 (W4 m ρ c) _ = _
  after_results
  rfl

theorem v47_eq : W5 m ρ c (Proc.devRef .tc main_v47) = (shapeCast S6144 (extractStridedSlice S6144x1 ![0, 18] (W4 m ρ c (Proc.devRef .tc main_v42) : Vec Ideal S6144x19 .f32) slices_S6144x19_S6144x1_0_18) shapeCasts_S6144x1_S6144 : Vec Ideal S6144 .f32) := by
  show after hostOps2 (W4 m ρ c) _ = _
  after_results
  rfl

end Cert.Proof.Dense

end
-- ==== Proof.DenseTabHost.lean ====
/-
  What the first call reads for its tables, entry by entry from the arguments, and where its tables end.
-/
module

public import proofs.«01_k».proof.Proof.DenseTabAt
public import proofs.«01_k».proof.Proof.DenseHost

@[expose] public section

set_option maxRecDepth 16384
set_option maxHeartbeats 4000000

noncomputable section

namespace Cert.Proof.Dense

open Cert.DenseIdeal Cert.DenseIdeal.Gen

open Idealize.ShloMosaic Idealize.ShloMosaic.TcCoe Idealize.ShloMosaic.Tactic Idealize.ShloMosaic.StableHlo
open Idealize.SL.Sem

variable (m : (ℓ : Loc nD τ sig) → Buf (Elt Ideal) ℓ) (ρ : Dev nD → PrngReg) (c : Dev nD)

theorem v1_eq : W1 m ρ c (Proc.devRef .tc main_v1) = (shapeCast S1280x3 (x1 m c) shapeCasts_S1x1280x3_S1280x3 : Vec Ideal S1280x3 .f32) := by
  show after hostOps0 (W0 m ρ c) _ = _
  after_results
  rfl
theorem v1_at (g : Fin 1280) (k : Fin 3) : (W1 m ρ c (Proc.devRef .tc main_v1) : Vec Ideal S1280x3 .f32) (ix2 g k) = x1 m c (ix3 0 g k) := by
  rw [v1_eq]
  pointwise

theorem v33_eq : W1 m ρ c (Proc.devRef .tc main_v33) = (transpose S17x1280 [1, 0] (mulf (F := Ideal) (φ := .f32) (shapeCast S1280x17 (x5 m c) shapeCasts_S1x1280x17_S1280x17) (broadcastInDim S1280x17 ![0, 1] bcast_S1280x1_S1280x17_0_1 (broadcastInDim S1280x1 ![0] bcast_S1280_S1280x1_0 (shapeCast S1280 (x4 m c) shapeCasts_S1x1280_S1280)))) transposes_S1280x17_S17x1280_1_0 : Vec Ideal S17x1280 .f32) := by
  show after hostOps0 (W0 m ρ c) _ = _
  after_results
  rfl
theorem v33_at (k : Fin 17) (g : Fin 1280) : (W1 m ρ c (Proc.devRef .tc main_v33) : Vec Ideal S17x1280 .f32) (ix2 k g) = x5 m c (ix3 0 g k) * (x4 m c (ix2 0 g) : EReal) := by
  rw [v33_eq]
  pointwise

theorem v35_eq : W1 m ρ c (Proc.devRef .tc main_v35) = (broadcastInDim S1x1280 ![1] bcast_S1280_S1x1280_1 (shapeCast S1280 (x2 m c) shapeCasts_S1x1280_S1280) : Vec Ideal S1x1280 .f32) := by
  show after hostOps0 (W0 m ρ c) _ = _
  after_results
  rfl
theorem v35_at (g : Fin 1280) : (W1 m ρ c (Proc.devRef .tc main_v35) : Vec Ideal S1x1280 .f32) (ix2 0 g) = x2 m c (ix2 0 g) := by
  rw [v35_eq]
  pointwise

theorem v36_eq : W1 m ρ c (Proc.devRef .tc main_v36) = (broadcastInDim S1x1280 ![1] bcast_S1280_S1x1280_1 (shapeCast S1280 (x3 m c) shapeCasts_S1x1280_S1280) : Vec Ideal S1x1280 .f32) := by
  show after hostOps0 (W0 m ρ c) _ = _
  after_results
  rfl
theorem v36_at (g : Fin 1280) : (W1 m ρ c (Proc.devRef .tc main_v36) : Vec Ideal S1x1280 .f32) (ix2 0 g) = x3 m c (ix2 0 g) := by
  rw [v36_eq]
  pointwise

theorem w5_37_0 : W5 m ρ c (Proc.devRef .tc main_v37_0)
    = floats (W1 m ρ c (Proc.devRef .tc main_v31)) (W1 m ρ c (Proc.devRef .tc main_v30)) (W1 m ρ c (Proc.devRef .tc main_v32))
      (W1 m ρ c (Proc.devRef .tc main_v33)) (W1 m ρ c (Proc.devRef .tc main_v35)) (W1 m ρ c (Proc.devRef .tc main_v36)) :=
  (W5_of m ρ c _ (by decide +kernel)).trans ((W4_of m ρ c _ (by decide +kernel)).trans ((W3_of m ρ c _ (by decide +kernel)).trans
    ((W2_arr m ρ c 11).trans (arr0_11 (V1 m ρ) c))))

theorem w5_37_1 : W5 m ρ c (Proc.devRef .tc main_v37_1) = wordRow (W1 m ρ c (Proc.devRef .tc main_v19)) (W1 m ρ c (Proc.devRef .tc main_v29)) :=
  (W5_of m ρ c _ (by decide +kernel)).trans ((W4_of m ρ c _ (by decide +kernel)).trans ((W3_of m ρ c _ (by decide +kernel)).trans
    ((W2_arr m ρ c 12).trans (arr0_12 (V1 m ρ) c))))

theorem w5_37_2 : W5 m ρ c (Proc.devRef .tc main_v37_2) = countCol (W1 m ρ c (Proc.devRef .tc main_v30)) :=
  (W5_of m ρ c _ (by decide +kernel)).trans ((W4_of m ρ c _ (by decide +kernel)).trans ((W3_of m ρ c _ (by decide +kernel)).trans
    ((W2_arr m ρ c 13).trans (arr0_13 (V1 m ρ) c))))

theorem w5_37_3 : W5 m ρ c (Proc.devRef .tc main_v37_3) = listTab (W1 m ρ c (Proc.devRef .tc main_v1)) (W1 m ρ c (Proc.devRef .tc main_v30)) :=
  (W5_of m ρ c _ (by decide +kernel)).trans ((W4_of m ρ c _ (by decide +kernel)).trans ((W3_of m ρ c _ (by decide +kernel)).trans
    ((W2_arr m ρ c 14).trans (arr0_14 (V1 m ρ) c))))

end Cert.Proof.Dense

end
-- ==== Proof.DenseOut.lean ====
/-
  The two calls' results, entry by entry from the arguments.
-/
module

public import proofs.«01_k».proof.Proof.DenseHost

@[expose] public section

set_option maxRecDepth 16384

noncomputable section

namespace Cert.Proof.Dense

open Cert.DenseIdeal Cert.DenseIdeal.Gen

open Idealize.ShloMosaic Idealize.ShloMosaic.TcCoe Idealize.ShloMosaic.Tactic Idealize.ShloMosaic.StableHlo
open Idealize.SL.Sem

/-- The squared distance along the `k`-th axis of a gaussian, weighted. -/
def axis (X M : Fin 3 → EReal) (q : Fin 4 → EReal) (s : Fin 3 → EReal) (k : Fin 3) : EReal :=
  sqd X (fun i => rot q i k) (sum3 fun i => M i * rot q i k) (iw (s k))

/-- The weight at the point `X` of the gaussian of mean `M`, quaternion `q`, scales `s`, opacity `o`, radius `r`. -/
def weight (X M : Fin 3 → EReal) (q : Fin 4 → EReal) (s : Fin 3 → EReal) (o : EReal) (r : BitVec 32) : EReal :=
  wgt (near (fun a => cellOf (X a)) (fun a => cellOf (M a)) r) (axis X M q s 0 + axis X M q s 1 + axis X M q s 2) o

theorem sum_ext {f f' : Fin 1280 → EReal} (h : ∀ g, f g = f' g) : ∑ g, f g = ∑ g, f' g := Finset.sum_congr rfl fun g _ => h g
theorem mul_l {a b c : EReal} (h : a = b) : a * c = b * c := h ▸ rfl
theorem mul_r {a b c : EReal} (h : b = c) : a * b = a * c := h ▸ rfl

/-- The weight of gaussian `g` at point `p`, from the arguments. -/
def wt (x0 : Vec Ideal S1x10000x3 .f32) (x1 : Vec Ideal S1x1280x3 .f32) (x2 : Vec Ideal S1x1280 .f32) (x6 : Vec Ideal S1x1280x3 .f32)
    (x7 : Vec Ideal S1x1280x4 .f32) (p : Fin 6144) (g : Fin 1280) : EReal :=
  weight (fun a => x0 (ix3 0 ⟨p.val, by omega⟩ a)) (fun a => x1 (ix3 0 g a)) (fun b => x7 (ix3 0 g b)) (fun a => x6 (ix3 0 g a)) (x2 (ix2 0 g))
    (Cert.DenseReferenceIdeal.Read.val_main_v32 (F := Ideal) x6 (ix1 g))

variable (m : (ℓ : Loc nD τ sig) → Buf (Elt Ideal) ℓ) (ρ : Dev nD → PrngReg) (c : Dev nD)

theorem r0_v (k : Fin 3) (g : Fin 1280) : (W3 m ρ c (Proc.devRef .tc main_v37_4) : Vec Ideal S3x1280 .bf16) (ix2 k g) = rot (fun b => x7 m c (ix3 0 g b)) k 0 := by
  rw [w3_37_4, arr0_15, r0_at]
  exact congrArg (fun q => rot q k 0) (funext fun b => v31_at m ρ c b g)
theorem r1_v (k : Fin 3) (g : Fin 1280) : (W3 m ρ c (Proc.devRef .tc main_v37_5) : Vec Ideal S3x1280 .bf16) (ix2 k g) = rot (fun b => x7 m c (ix3 0 g b)) k 1 := by
  rw [w3_37_5, arr0_16, r1_at]
  exact congrArg (fun q => rot q k 1) (funext fun b => v31_at m ρ c b g)
theorem r2_v (k : Fin 3) (g : Fin 1280) : (W3 m ρ c (Proc.devRef .tc main_v37_6) : Vec Ideal S3x1280 .bf16) (ix2 k g) = rot (fun b => x7 m c (ix3 0 g b)) k 2 := by
  rw [w3_37_6, arr0_17, r2_at]
  exact congrArg (fun q => rot q k 2) (funext fun b => v31_at m ρ c b g)
theorem ck_v (k : Fin 3) (g : Fin 1280) : (W3 m ρ c (Proc.devRef .tc main_v37_7) : Vec Ideal S3x1280 .f32) (ix2 k g)
    = sum3 fun i => x1 m c (ix3 0 g i) * rot (fun b => x7 m c (ix3 0 g b)) i k := by
  rw [w3_37_7, arr0_18, ck_at]
  refine congrArg sum3 (funext fun i => ?_)
  exact congrArg₂ (fun (a : EReal) q => a * rot q i k) (v30_at m ρ c i g) (funext fun b => v31_at m ρ c b g)
theorem w_v (k : Fin 3) (g : Fin 1280) : (W3 m ρ c (Proc.devRef .tc main_v37_8) : Vec Ideal S3x1280 .f32) (ix2 k g) = iw (x6 m c (ix3 0 g k)) := by
  rw [w3_37_8, arr0_19, w_at]
  exact congrArg iw (v32_at m ρ c k g)

theorem out_at (p : Fin 6144) (k : Fin 19) : (W4 m ρ c (Proc.devRef .tc main_v42) : Vec Ideal S6144x19 .f32) (ix2 p k)
    = ∑ g : Fin 1280, wt (x0 m c) (x1 m c) (x2 m c) (x6 m c) (x7 m c) p g
        * ((W3 m ρ c (Proc.devRef .tc main_v37_9) : Vec Ideal S1280x19 .bf16) (ix2 g k) : EReal) := by
  rw [w4_42, arr1_11]
  refine sum_ext fun g => mul_l ?_
  have h39 : ∀ a : Fin 3, V3 m ρ c main_v39 (ix2 p a) = x0 m c (ix3 0 ⟨p.val, by omega⟩ a) := v39_at m ρ c p
  have h40 : ∀ a : Fin 3, V3 m ρ c main_v40 (ix2 p a) = cellOf (x0 m c (ix3 0 ⟨p.val, by omega⟩ a)) := v40_at m ρ c p
  have h41 : V3 m ρ c main_v41 (ix2 0 g) = x2 m c (ix2 0 g) := v41_at m ρ c g
  have h19 : ∀ a : Fin 3, V3 m ρ c main_v19 (ix2 a g) = cellOf (x1 m c (ix3 0 g a)) := fun a =>
    (congrFun (w3_19 m ρ c) (ix2 a g)).trans (v19_at m ρ c a g)
  have h29 : V3 m ρ c main_v29 (ix2 0 g) = Cert.DenseReferenceIdeal.Read.val_main_v32 (F := Ideal) (x6 m c) (ix1 g) :=
    (congrFun (w3_29 m ρ c) (ix2 0 g)).trans (v29_at m ρ c g)
  have e0 : ∀ a : Fin 3, V3 m ρ c main_v37_4 (ix2 a g) = _ := fun a => r0_v m ρ c a g
  have e1 : ∀ a : Fin 3, V3 m ρ c main_v37_5 (ix2 a g) = _ := fun a => r1_v m ρ c a g
  have e2 : ∀ a : Fin 3, V3 m ρ c main_v37_6 (ix2 a g) = _ := fun a => r2_v m ρ c a g
  have e3 : ∀ a : Fin 3, V3 m ρ c main_v37_7 (ix2 a g) = _ := fun a => ck_v m ρ c a g
  have e4 : ∀ a : Fin 3, V3 m ρ c main_v37_8 (ix2 a g) = _ := fun a => w_v m ρ c a g
  show wgt (near (fun a => V3 m ρ c main_v40 (ix2 p a)) (fun a => V3 m ρ c main_v19 (ix2 a g)) (V3 m ρ c main_v29 (ix2 0 g)))
    (sqd (fun a => V3 m ρ c main_v39 (ix2 p a)) (fun a => V3 m ρ c main_v37_4 (ix2 a g)) (V3 m ρ c main_v37_7 (ix2 0 g)) (V3 m ρ c main_v37_8 (ix2 0 g))
      + sqd (fun a => V3 m ρ c main_v39 (ix2 p a)) (fun a => V3 m ρ c main_v37_5 (ix2 a g)) (V3 m ρ c main_v37_7 (ix2 1 g)) (V3 m ρ c main_v37_8 (ix2 1 g))
      + sqd (fun a => V3 m ρ c main_v39 (ix2 p a)) (fun a => V3 m ρ c main_v37_6 (ix2 a g)) (V3 m ρ c main_v37_7 (ix2 2 g)) (V3 m ρ c main_v37_8 (ix2 2 g)))
    (V3 m ρ c main_v41 (ix2 0 g)) = _
  simp only [h39, h40, h41, h19, h29, e0, e1, e2, e3, e4]
  rfl

/-- The first result: the weights times the 17 entries. -/
theorem out_sem (p : Fin 6144) (k : Fin 17) : (W5 m ρ c (Proc.devRef .tc main_v43) : Vec Ideal S6144x17 .f32) (ix2 p k)
    = ∑ g : Fin 1280, wt (x0 m c) (x1 m c) (x2 m c) (x6 m c) (x7 m c) p g * ((x5 m c (ix3 0 g k) : EReal) * (x4 m c (ix2 0 g) : EReal)) := by
  have h : (W5 m ρ c (Proc.devRef .tc main_v43) : Vec Ideal S6144x17 .f32) (ix2 p k)
      = (W4 m ρ c (Proc.devRef .tc main_v42) : Vec Ideal S6144x19 .f32) (ix2 p ⟨k.val, by omega⟩) := by
    rw [v43_eq]
    generalize (W4 m ρ c (Proc.devRef .tc main_v42) : Vec Ideal S6144x19 .f32) = Y
    pointwise
  rw [h, out_at]
  refine sum_ext fun g => mul_r ?_
  rw [w3_37_9, arr0_20, B_at]
  exact v10_at m ρ c g k

/-- The second: the weights times `u`. -/
theorem out_bin (p : Fin 6144) : (W5 m ρ c (Proc.devRef .tc main_v45) : Vec Ideal S6144 .f32) (ix1 p)
    = ∑ g : Fin 1280, wt (x0 m c) (x1 m c) (x2 m c) (x6 m c) (x7 m c) p g * (x3 m c (ix2 0 g) : EReal) := by
  have h : (W5 m ρ c (Proc.devRef .tc main_v45) : Vec Ideal S6144 .f32) (ix1 p)
      = (W4 m ρ c (Proc.devRef .tc main_v42) : Vec Ideal S6144x19 .f32) (ix2 p 17) := by
    rw [v45_eq]
    generalize (W4 m ρ c (Proc.devRef .tc main_v42) : Vec Ideal S6144x19 .f32) = Y
    pointwise
  rw [h, out_at]
  refine sum_ext fun g => mul_r ?_
  rw [w3_37_9, arr0_20, B_at17]
  exact v34_at m ρ c g

/-- The third: the weights. -/
theorem out_den (p : Fin 6144) : (W5 m ρ c (Proc.devRef .tc main_v47) : Vec Ideal S6144 .f32) (ix1 p)
    = ∑ g : Fin 1280, wt (x0 m c) (x1 m c) (x2 m c) (x6 m c) (x7 m c) p g := by
  have h : (W5 m ρ c (Proc.devRef .tc main_v47) : Vec Ideal S6144 .f32) (ix1 p)
      = (W4 m ρ c (Proc.devRef .tc main_v42) : Vec Ideal S6144x19 .f32) (ix2 p 18) := by
    rw [v47_eq]
    generalize (W4 m ρ c (Proc.devRef .tc main_v42) : Vec Ideal S6144x19 .f32) = Y
    pointwise
  rw [h, out_at]
  refine sum_ext fun g => ?_
  rw [w3_37_9, arr0_20, B_at18, mul_one]

end Cert.Proof.Dense

end
-- ==== Proof.DenseRef.lean ====
/-
  The reference, entry by entry from the arguments.
-/
module

public import proofs.«01_k».proof.Proof.DenseOut

@[expose] public section

set_option maxRecDepth 16384
set_option maxHeartbeats 4000000

noncomputable section

namespace Cert.Proof.Dense

open Cert.DenseReferenceIdeal Cert.DenseReferenceIdeal.Read

open Idealize.ShloMosaic Idealize.ShloMosaic.Tactic

variable (x0 : Vec Ideal S1x10000x3 .f32) (x1 : Vec Ideal S1x1280x3 .f32) (x2 x3 x4 : Vec Ideal S1x1280 .f32) (x5 : Vec Ideal S1x1280x17 .f32)
  (x6 : Vec Ideal S1x1280x3 .f32) (x7 : Vec Ideal S1x1280x4 .f32) (p : Fin 6144) (g : Fin 1280)

theorem eps_pos : (0 : EReal) < eps := by
  have h : eps = ((11258999 / 1125899906842624 : ℝ) : EReal) := by
    unfold eps
    simp [Ideal.ofBits, Ideal.ieee, -EReal.coe_mul]; norm_num
  rw [h]
  exact_mod_cast (by norm_num : (0 : ℝ) < 11258999 / 1125899906842624)

theorem sq_nonneg' (s : EReal) : 0 ≤ s * s := by
  induction s with
  | bot => simp
  | top => simp
  | coe r => exact_mod_cast mul_self_nonneg r

theorem s2_ne (s : EReal) : s * s + eps ≠ 0 := ne_of_gt (lt_of_lt_of_le eps_pos (by
  calc eps = 0 + eps := (zero_add _).symm
    _ ≤ s * s + eps := add_le_add_left (sq_nonneg' s) _))

/-- Dividing by a squared scale is multiplying by one over it. -/
theorem div_s2 (x s : EReal) : Ideal.div x (s * s + eps) = x * iw s := by
  unfold iw Ideal.div
  rw [if_neg (s2_ne s), if_neg (s2_ne s), one_mul]

/-- A number of at least 1 converts to an integer that is not negative. -/
theorem fptosi_nonneg (x : EReal) (h : 1 ≤ x) : 0 ≤ (Ideal.fptosi 32 x).toInt := by
  have key : ∀ n : ℤ, 0 ≤ n → n ≤ 2147483647 → 0 ≤ (BitVec.ofInt 32 n).toInt := by
    intro n h0 h1
    rw [BitVec.toInt_ofInt, Int.bmod_eq_of_le (by norm_num; omega) (by norm_num; omega)]
    exact h0
  induction x with
  | bot => exact absurd (le_bot_iff.1 h) (EReal.coe_ne_bot 1)
  | top => exact key _ (by norm_num) (by norm_num)
  | coe r =>
    have hr : (1 : ℝ) ≤ r := by exact_mod_cast h
    have h0 : 0 ≤ ⌊r⌋ := Int.floor_nonneg.2 (by linarith)
    unfold Ideal.fptosi
    rw [Ideal.toIntClamped_coe, if_pos (by linarith)]
    refine key _ (le_max_of_le_right (le_min (by norm_num) h0)) (max_le (by norm_num) (min_le_of_left_le (by norm_num)))

theorem q_at (b : Fin 4) : val_main_v35 (F := Ideal) x7 (ix2 g b) = unitq (fun b => x7 (ix3 0 g b)) b := by
  unfold val_main_v35 val_main_v34 val_main_v33 val_main_call0_v2 val_main_call0_v1 val_main_call0_v0 val_main_call0_cst val_main_v8 unitq len
  pointwise
  rw [Fin.sum_univ_four]

theorem R_at (i k : Fin 3) : val_main_v110 (F := Ideal) x7 (ix3 g i k) = rot (fun b => x7 (ix3 0 g b)) i k := by
  unfold val_main_v110 val_main_v109 val_main_v108 val_main_v107 val_main_v106 val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v39 val_main_v38 val_main_v37 val_main_v36 val_main_cst_6 val_main_cst_7 val_main_cst_8 val_main_cst_9 val_main_cst_10 val_main_cst_11 val_main_cst_12 val_main_cst_13 val_main_cst_14 val_main_cst_15 val_main_cst_16 val_main_cst_17 rot
  rw [← q_at, ← q_at, ← q_at, ← q_at]
  generalize val_main_v35 (F := Ideal) x7 = Q
  match i, k with
  | 0, 0 => pointwise; rfl
  | 0, 1 => pointwise; rfl
  | 0, 2 => pointwise; rfl
  | 1, 0 => pointwise; rfl
  | 1, 1 => pointwise; rfl
  | 1, 2 => pointwise; rfl
  | 2, 0 => pointwise; rfl
  | 2, 1 => pointwise; rfl
  | 2, 2 => pointwise; rfl

theorem ax0_at : val_main_v130 (F := Ideal) x0 x1 x6 x7 (ix2 p g)
    = Ideal.div ((∑ i : Fin 3, x0 (ix3 0 ⟨p.val, by omega⟩ i) * rot (fun b => x7 (ix3 0 g b)) i 0 - sum3 fun i => x1 (ix3 0 g i) * rot (fun b => x7 (ix3 0 g b)) i 0)
        * (∑ i : Fin 3, x0 (ix3 0 ⟨p.val, by omega⟩ i) * rot (fun b => x7 (ix3 0 g b)) i 0 - sum3 fun i => x1 (ix3 0 g i) * rot (fun b => x7 (ix3 0 g b)) i 0))
      (x6 (ix3 0 g 0) * x6 (ix3 0 g 0) + eps) := by
  unfold val_main_v130 val_main_v129 val_main_v128 val_main_v127 val_main_v126 val_main_v125 val_main_v124 val_main_v123 val_main_v122 val_main_v121 val_main_v120 val_main_v119 val_main_v118 val_main_v117 val_main_v116 val_main_cst_20 val_main_v113 val_main_v112 val_main_v111 val_main_v7 val_main_v2 val_main_v1 val_main_v0 val_main_cst_18 sum3
  simp only [← R_at]
  generalize val_main_v110 (F := Ideal) x7 = Q
  pointwise
  rw [Fin.sum_univ_three (f := fun i => x1 (ix3 0 g i) * Q (ix3 g i 0))]

theorem ax1_at : val_main_v155 (F := Ideal) x0 x1 x6 x7 (ix2 p g)
    = Ideal.div ((∑ i : Fin 3, x0 (ix3 0 ⟨p.val, by omega⟩ i) * rot (fun b => x7 (ix3 0 g b)) i 1 - sum3 fun i => x1 (ix3 0 g i) * rot (fun b => x7 (ix3 0 g b)) i 1)
        * (∑ i : Fin 3, x0 (ix3 0 ⟨p.val, by omega⟩ i) * rot (fun b => x7 (ix3 0 g b)) i 1 - sum3 fun i => x1 (ix3 0 g i) * rot (fun b => x7 (ix3 0 g b)) i 1))
      (x6 (ix3 0 g 1) * x6 (ix3 0 g 1) + eps) := by
  unfold val_main_v155 val_main_v154 val_main_v153 val_main_v152 val_main_v151 val_main_v150 val_main_v149 val_main_v148 val_main_v147 val_main_v146 val_main_v145 val_main_v144 val_main_v143 val_main_v142 val_main_v141 val_main_cst_21 val_main_v113 val_main_v112 val_main_v111 val_main_v7 val_main_v2 val_main_v1 val_main_v0 val_main_cst_18 sum3
  simp only [← R_at]
  generalize val_main_v110 (F := Ideal) x7 = Q
  pointwise
  rw [Fin.sum_univ_three (f := fun i => x1 (ix3 0 g i) * Q (ix3 g i 1))]

theorem ax2_at : val_main_v180 (F := Ideal) x0 x1 x6 x7 (ix2 p g)
    = Ideal.div ((∑ i : Fin 3, x0 (ix3 0 ⟨p.val, by omega⟩ i) * rot (fun b => x7 (ix3 0 g b)) i 2 - sum3 fun i => x1 (ix3 0 g i) * rot (fun b => x7 (ix3 0 g b)) i 2)
        * (∑ i : Fin 3, x0 (ix3 0 ⟨p.val, by omega⟩ i) * rot (fun b => x7 (ix3 0 g b)) i 2 - sum3 fun i => x1 (ix3 0 g i) * rot (fun b => x7 (ix3 0 g b)) i 2))
      (x6 (ix3 0 g 2) * x6 (ix3 0 g 2) + eps) := by
  unfold val_main_v180 val_main_v179 val_main_v178 val_main_v177 val_main_v176 val_main_v175 val_main_v174 val_main_v173 val_main_v172 val_main_v171 val_main_v170 val_main_v169 val_main_v168 val_main_v167 val_main_v166 val_main_cst_22 val_main_v113 val_main_v112 val_main_v111 val_main_v7 val_main_v2 val_main_v1 val_main_v0 val_main_cst_18 sum3
  simp only [← R_at]
  generalize val_main_v110 (F := Ideal) x7 = Q
  pointwise
  rw [Fin.sum_univ_three (f := fun i => x1 (ix3 0 g i) * Q (ix3 g i 2))]

theorem pint_at (a : Fin 3) : val_main_v16 (F := Ideal) x0 (ix2 p a) = cellOf (x0 (ix3 0 ⟨p.val, by omega⟩ a)) := by
  unfold val_main_v16 val_main_v15 val_main_v14 val_main_v13 val_main_v12 val_main_v11 val_main_v10 val_main_v9 val_main_v1 val_main_v0 val_main_cst val_main_cst_0 cellOf
  pointwise

theorem mint_at (a : Fin 3) : val_main_v23 (F := Ideal) x1 (ix2 g a) = cellOf (x1 (ix3 0 g a)) := by
  unfold val_main_v23 val_main_v22 val_main_v21 val_main_v20 val_main_v19 val_main_v18 val_main_v17 val_main_v9 val_main_v2 val_main_cst val_main_cst_1 cellOf
  pointwise

theorem cheb_at : val_main_v190 (F := Ideal) x0 x1 (ix2 p g)
    = IntOp.maxsi (IntOp.maxsi (IntOp.maxsi 0#32
        (IntOp.absi (IntOp.subi (cellOf (x0 (ix3 0 ⟨p.val, by omega⟩ 0))) (cellOf (x1 (ix3 0 g 0))))))
        (IntOp.absi (IntOp.subi (cellOf (x0 (ix3 0 ⟨p.val, by omega⟩ 1))) (cellOf (x1 (ix3 0 g 1))))))
        (IntOp.absi (IntOp.subi (cellOf (x0 (ix3 0 ⟨p.val, by omega⟩ 2))) (cellOf (x1 (ix3 0 g 2))))) := by
  unfold val_main_v190 val_main_v189 val_main_v188 val_main_v187 val_main_v186 val_main_v185 val_main_v184 val_main_v183 val_main_v182 val_main_v165 val_main_v164 val_main_v163 val_main_v162 val_main_v161 val_main_v160 val_main_v159 val_main_v158 val_main_v157 val_main_v140 val_main_v139 val_main_v138 val_main_v137 val_main_v136 val_main_v135 val_main_v134 val_main_v133 val_main_v132 val_main_v115 val_main_c
  simp only [← pint_at, ← mint_at]
  generalize val_main_v16 (F := Ideal) x0 = P
  generalize val_main_v23 (F := Ideal) x1 = M
  pointwise

theorem maxsi_le (u v r : BitVec 32) : (IntOp.maxsi u v).toInt ≤ r.toInt ↔ u.toInt ≤ r.toInt ∧ v.toInt ≤ r.toInt := by
  unfold IntOp.maxsi
  by_cases h : v.slt u = true
  · rw [if_pos h]
    have := BitVec.slt_iff_toInt_lt.1 h
    omega
  · rw [if_neg h]
    have : ¬ v.toInt < u.toInt := fun h' => h (BitVec.slt_iff_toInt_lt.2 h')
    omega

theorem rad_nonneg : 0 ≤ (val_main_v32 (F := Ideal) x6 (ix1 g) : BitVec 32).toInt := by
  rw [val_main_v32_apply, val_main_v31_apply]
  refine fptosi_nonneg _ ?_
  refine le_trans (le_of_eq ?_) (le_max_right _ _)
  unfold val_main_v30 val_main_cst_5
  pointwise

/-- The largest of the three distances is within the radius just when each is. -/
theorem mask_eq (a0 a1 a2 r : BitVec 32) (hr : 0 ≤ r.toInt) :
    IntOp.cmpi .sle (IntOp.maxsi (IntOp.maxsi (IntOp.maxsi 0#32 a0) a1) a2) r
      = IntOp.andi (IntOp.andi (IntOp.cmpi .sle a0 r) (IntOp.cmpi .sle a1 r)) (IntOp.cmpi .sle a2 r) := by
  have h0 : (0#32 : BitVec 32).toInt = 0 := by decide
  have b : ∀ u v : BitVec 1, (u = 1#1 ↔ v = 1#1) → u = v := by decide
  have c : ∀ u v : BitVec 1, IntOp.andi u v = 1#1 ↔ u = 1#1 ∧ v = 1#1 := by decide
  refine b _ _ ?_
  rw [c, c, IntOp.cmpi_sle, IntOp.cmpi_sle, IntOp.cmpi_sle, IntOp.cmpi_sle, maxsi_le, maxsi_le, maxsi_le, h0]
  tauto

theorem wt_at : val_main_v201 (F := Ideal) x0 x1 x2 x6 x7 (ix2 p g) = wt x0 x1 x2 x6 x7 p g := by
  have hm : val_main_v196 (F := Ideal) x0 x1 x6 (ix2 p g)
      = near (fun a => cellOf (x0 (ix3 0 ⟨p.val, by omega⟩ a))) (fun a => cellOf (x1 (ix3 0 g a))) (val_main_v32 (F := Ideal) x6 (ix1 g)) := by
    refine Eq.trans ?_ (mask_eq _ _ _ _ (rad_nonneg x6 g))
    rw [← cheb_at]
    unfold val_main_v196 val_main_v195 val_main_v194
    pointwise
  have hp : val_main_v181 (F := Ideal) x0 x1 x6 x7 (ix2 p g)
      = val_main_v130 (F := Ideal) x0 x1 x6 x7 (ix2 p g) + val_main_v155 (F := Ideal) x0 x1 x6 x7 (ix2 p g) + val_main_v180 (F := Ideal) x0 x1 x6 x7 (ix2 p g) := by
    unfold val_main_v181 val_main_v156 val_main_v131 val_main_v114 val_main_cst_19
    pointwise
  have hv : val_main_v201 (F := Ideal) x0 x1 x2 x6 x7 (ix2 p g)
      = Ideal.exp (Ideal.ofBits .f32 0xBF000000#32 * val_main_v181 (F := Ideal) x0 x1 x6 x7 (ix2 p g))
        * FloatOps.uitofp (F := Ideal) .f32 (val_main_v196 (F := Ideal) x0 x1 x6 (ix2 p g)) * x2 (ix2 0 g) := by
    unfold val_main_v201 val_main_v200 val_main_v199 val_main_v198 val_main_v197 val_main_v193 val_main_v192 val_main_v191 val_main_cst_23 val_main_v3
    pointwise
  rw [hv, hm, hp, ax0_at, ax1_at, ax2_at, div_s2, div_s2, div_s2]
  unfold wt weight wgt
  have hb : ∀ b : BitVec 1, b = 0#1 ∨ b = 1#1 := by decide
  generalize near _ _ _ = b
  rcases hb b with rfl | rfl
  · rw [if_neg (by decide)]
    show _ * (((0#1 : BitVec 1).toNat : ℝ) : EReal) * _ = _
    rw [show (((0#1 : BitVec 1).toNat : ℝ) : EReal) = 0 by simp, mul_zero, zero_mul]
  · rw [if_pos rfl]
    show _ * (((1#1 : BitVec 1).toNat : ℝ) : EReal) * _ = _
    rw [show (((1#1 : BitVec 1).toNat : ℝ) : EReal) = 1 by simp, mul_one]
    rfl

theorem sem_at (k : Fin 17) : val_main_v207 (F := Ideal) x0 x1 x2 x4 x5 x6 x7 (ix2 p k)
    = ∑ g : Fin 1280, wt x0 x1 x2 x6 x7 p g * ((x5 (ix3 0 g k) : EReal) * (x4 (ix2 0 g) : EReal)) := by
  simp only [← wt_at]
  unfold val_main_v207 val_main_v206 val_main_v205 val_main_v204 val_main_v6 val_main_v5
  generalize val_main_v201 (F := Ideal) x0 x1 x2 x6 x7 = A
  pointwise

theorem bin_at : val_main_v203 (F := Ideal) x0 x1 x2 x3 x6 x7 (ix1 p) = ∑ g : Fin 1280, wt x0 x1 x2 x6 x7 p g * (x3 (ix2 0 g) : EReal) := by
  simp only [← wt_at]
  unfold val_main_v203 val_main_v4
  generalize val_main_v201 (F := Ideal) x0 x1 x2 x6 x7 = A
  pointwise

theorem den_at : val_main_v202 (F := Ideal) x0 x1 x2 x6 x7 (ix1 p) = ∑ g : Fin 1280, wt x0 x1 x2 x6 x7 p g := by
  simp only [← wt_at]
  unfold val_main_v202 val_main_cst_24
  generalize val_main_v201 (F := Ideal) x0 x1 x2 x6 x7 = A
  pointwise

end Cert.Proof.Dense

end
-- ==== Proof.DenseCount.lean ====
/-
  Counting over the reals and counting in words.
-/
module

public import proofs.«01_k».proof.Proof.DenseSpec

@[expose] public section

noncomputable section

namespace Cert.Proof.Dense
open Idealize.ShloMosaic

/-- A left-to-right sum of words is the word of the sum. -/
theorem fold_ofNat {ι : Type} (s : Finset ι) (n : ι → ℕ) :
    s.fold IntOp.addi 0#32 (fun i => BitVec.ofNat 32 (n i)) = BitVec.ofNat 32 (∑ i ∈ s, n i) := by
  induction s using Finset.cons_induction with
  | empty => rfl
  | cons a s ha ih =>
    rw [Finset.fold_cons, ih, Finset.sum_cons, BitVec.ofNat_add]
    rfl

theorem toInt_nat (N : ℕ) (h : N ≤ 2147483647) : (BitVec.ofNat 32 N).toInt = N := by
  rw [← BitVec.ofInt_natCast, BitVec.toInt_ofInt, Int.bmod_eq_of_le (by norm_num <;> omega) (by norm_num <;> omega)]

/-- A natural number below 2³¹ converts to its word. -/
theorem fptosi_nat (N : ℕ) (h : N ≤ 2147483647) : Ideal.fptosi 32 ((N : ℕ) : EReal) = BitVec.ofNat 32 N := by
  have e : ((N : ℕ) : EReal) = ((N : ℝ) : EReal) := (EReal.coe_natCast).symm
  rw [e]
  unfold Ideal.fptosi
  rw [Ideal.toIntClamped_coe, if_pos (Nat.cast_nonneg N), Int.floor_natCast, min_eq_right (by norm_num; omega), max_eq_right (by norm_num)]
  exact BitVec.ofInt_natCast 32 N

theorem bit_word (b : BitVec 1) : b.setWidth 32 = BitVec.ofNat 32 b.toNat := by
  rcases BitVec.eq_zero_or_eq_one b with rfl | rfl <;> rfl

theorem sitofp_nat (N : ℕ) (h : N ≤ 2147483647) : FloatOps.sitofp (F := Ideal) .f32 (BitVec.ofNat 32 N) = ((N : ℕ) : EReal) := by
  show (((BitVec.ofNat 32 N).toInt : ℝ) : EReal) = _
  rw [toInt_nat N h, Int.cast_natCast, EReal.coe_natCast]

theorem bit_le (b : BitVec 1) : b.toNat ≤ 1 := by have := b.isLt; omega

theorem sitofp_bit (b : BitVec 1) : FloatOps.sitofp (F := Ideal) .f32 (b.setWidth 32) = ((b.toNat : ℕ) : EReal) := by
  rw [bit_word, sitofp_nat _ (le_trans (bit_le b) (by norm_num))]

/-- How many of `n` bits are set. -/
def howMany {n : ℕ} (b : Fin n → BitVec 1) : ℕ := ∑ i, (b i).toNat

theorem howMany_le {n : ℕ} (b : Fin n → BitVec 1) : howMany b ≤ n := by
  refine (Finset.sum_le_sum fun i _ => bit_le (b i)).trans ?_
  simp

/-- The real sum of bits. -/
theorem sum_bits {n : ℕ} (b : Fin n → BitVec 1) : ∑ i, (FloatOps.sitofp (F := Ideal) .f32 ((b i).setWidth 32) : EReal) = ((howMany b : ℕ) : EReal) := by
  unfold howMany
  rw [Nat.cast_sum]
  exact Fintype.sum_congr _ _ fun i => sitofp_bit (b i)

/-- The integer sum of bits. -/
theorem fold_bits {n : ℕ} (b : Fin n → BitVec 1) : Finset.univ.fold IntOp.addi 0#32 (fun i => (b i).setWidth 32) = BitVec.ofNat 32 (howMany b) := by
  unfold howMany
  rw [← fold_ofNat]
  exact congrArg (fun f => Finset.univ.fold IntOp.addi 0#32 f) (funext fun i => bit_word (b i))

/-- A set of at most 2³¹ - 1 bits counted over the reals and converted, against the same counted in words. -/
theorem count_same {n : ℕ} (hn : n ≤ 2147483647) (b : Fin n → BitVec 1) :
    FloatOps.fptosi (F := Ideal) (φ := .f32) 32 (∑ i, (FloatOps.sitofp (F := Ideal) .f32 ((b i).setWidth 32) : EReal))
      = Finset.univ.fold IntOp.addi 0#32 (fun i => (b i).setWidth 32) := by
  rw [sum_bits, fold_bits]
  exact fptosi_nat _ ((howMany_le b).trans hn)

theorem of_28 : Ideal.ofBits .f32 0x41E00000#32 = ((28 : ℕ) : EReal) := by
  rw [show ((28 : ℕ) : EReal) = ((28 : ℝ) : EReal) from (EReal.coe_natCast (n := 28)).symm]
  simp [Ideal.ofBits, Ideal.ieee, -EReal.coe_mul]; norm_num

/-- The same count, at most 28. -/
theorem capped_same {n : ℕ} (hn : n ≤ 2147483647) (b : Fin n → BitVec 1) :
    FloatOps.fptosi (F := Ideal) (φ := .f32) 32 (min (∑ i, (FloatOps.sitofp (F := Ideal) .f32 ((b i).setWidth 32) : EReal)) (Ideal.ofBits .f32 0x41E00000#32))
      = IntOp.minsi (Finset.univ.fold IntOp.addi 0#32 (fun i => (b i).setWidth 32)) 28#32 := by
  have h := (howMany_le b).trans hn
  rw [sum_bits, fold_bits, of_28, ← (Nat.mono_cast (α := EReal)).map_min]
  refine (fptosi_nat _ ((min_le_right _ _).trans (by norm_num))).trans ?_
  generalize howMany b = N at h ⊢
  have e : (BitVec.ofNat 32 N).toInt = N := toInt_nat N h
  unfold IntOp.minsi
  rw [BitVec.slt_eq_decide, e, show (28#32 : BitVec 32).toInt = 28 from rfl]
  by_cases l : N < 28
  · rw [min_eq_left l.le, if_pos (by simpa using (by exact_mod_cast l))]
  · rw [min_eq_right (by omega), if_neg (by simp; omega)]

/-- A sum of at most 1280 numbers 1, 2, …, 1280, each taken or not, over the reals and converted, against the same in words. -/
theorem pick_same (b d : Fin 1280 → BitVec 1) :
    FloatOps.fptosi (F := Ideal) (φ := .f32) 32 (∑ g : Fin 1280, Scalar.select (d g)
      ((FloatOps.sitofp (F := Ideal) .f32 ((b g).setWidth 32) : EReal) * FloatOps.sitofp (F := Ideal) .f32 (BitVec.ofNat 32 g.val + 1#32)) 0)
      = Finset.univ.fold IntOp.addi 0#32 (fun g : Fin 1280 => Scalar.select (IntOp.andi (b g) (d g)) (IntOp.addi (BitVec.ofNat 32 g.val) 1#32) 0#32) := by
  let n : Fin 1280 → ℕ := fun g => if IntOp.andi (b g) (d g) = 1#1 then g.val + 1 else 0
  have hn : ∀ g, n g ≤ 1280 := fun g => by
    show (if _ then _ else _) ≤ _
    split
    · exact g.isLt
    · omega
  have hr : ∀ g : Fin 1280, Scalar.select (d g)
      ((FloatOps.sitofp (F := Ideal) .f32 ((b g).setWidth 32) : EReal) * FloatOps.sitofp (F := Ideal) .f32 (BitVec.ofNat 32 g.val + 1#32)) 0 = ((n g : ℕ) : EReal) := fun g => by
    have h1 : BitVec.ofNat 32 g.val + 1#32 = BitVec.ofNat 32 (g.val + 1) := (BitVec.ofNat_add g.val 1).symm
    rw [sitofp_bit, h1, sitofp_nat _ (by have := g.isLt; omega)]
    show _ = (((if _ then _ else _ : ℕ) : ℕ) : EReal)
    rcases BitVec.eq_zero_or_eq_one (b g) with hb | hb <;> rcases BitVec.eq_zero_or_eq_one (d g) with hd | hd <;> rw [hb, hd] <;>
      simp [Scalar.select, IntOp.andi]
  have hw : ∀ g : Fin 1280, Scalar.select (IntOp.andi (b g) (d g)) (IntOp.addi (BitVec.ofNat 32 g.val) 1#32) 0#32 = BitVec.ofNat 32 (n g) := fun g => by
    show _ = BitVec.ofNat 32 (if _ then _ else _)
    unfold Scalar.select
    split
    · rename_i h
      rw [if_pos (show IntOp.andi (b g) (d g) = 1#1 from h), BitVec.ofNat_add]
      rfl
    · rename_i h
      rw [if_neg (show ¬ IntOp.andi (b g) (d g) = 1#1 from h)]
  rw [show (∑ g : Fin 1280, Scalar.select (d g)
      ((FloatOps.sitofp (F := Ideal) .f32 ((b g).setWidth 32) : EReal) * FloatOps.sitofp (F := Ideal) .f32 (BitVec.ofNat 32 g.val + 1#32)) 0) = (((∑ g, n g : ℕ) : ℕ) : EReal) by
    rw [Nat.cast_sum]; exact Fintype.sum_congr _ _ hr]
  rw [funext hw, fold_ofNat]
  refine fptosi_nat _ ((Finset.sum_le_sum fun g _ => hn g).trans ?_)
  simp

theorem eq_comm' (a b : BitVec 32) : IntOp.cmpi .eq a b = IntOp.cmpi .eq b a := by
  show BitVec.ofBool (a == b) = BitVec.ofBool (b == a)
  rw [BEq.comm]

end Cert.Proof.Dense

end
-- ==== Proof.DenseTabRef.lean ====
/-
  The reference's four tables, entry by entry from the arguments.
-/
module

public import proofs.«01_k».proof.Proof.DenseRef
public import proofs.«01_k».proof.Proof.DenseTabAt
public import proofs.«01_k».proof.Proof.DenseCount

@[expose] public section

set_option maxRecDepth 16384
set_option maxHeartbeats 4000000

noncomputable section

namespace Cert.Proof.Dense

open Cert.DenseReferenceIdeal Cert.DenseReferenceIdeal.Read

open Idealize.ShloMosaic Idealize.ShloMosaic.Tactic

variable (x1 : Vec Ideal S1x1280x3 .f32) (x2 x3 x4 : Vec Ideal S1x1280 .f32) (x5 : Vec Ideal S1x1280x17 .f32)
  (x6 : Vec Ideal S1x1280x3 .f32) (x7 : Vec Ideal S1x1280x4 .f32) (g : Fin 1280)

/-! ## The rows of the float table -/

theorem axis0_at (i : Fin 3) : val_main_v228 (F := Ideal) x7 (ix2 i g) = rot (fun b => x7 (ix3 0 g b)) i 0 := by
  unfold val_main_v228 val_main_v227 val_main_v226
  rw [← R_at]
  generalize val_main_v110 (F := Ideal) x7 = Q
  pointwise

theorem axis1_at (i : Fin 3) : val_main_v231 (F := Ideal) x7 (ix2 i g) = rot (fun b => x7 (ix3 0 g b)) i 1 := by
  unfold val_main_v231 val_main_v230 val_main_v229
  rw [← R_at]
  generalize val_main_v110 (F := Ideal) x7 = Q
  pointwise

theorem axis2_at (i : Fin 3) : val_main_v234 (F := Ideal) x7 (ix2 i g) = rot (fun b => x7 (ix3 0 g b)) i 2 := by
  unfold val_main_v234 val_main_v233 val_main_v232
  rw [← R_at]
  generalize val_main_v110 (F := Ideal) x7 = Q
  pointwise

theorem feat_at (k : Fin 17) : val_main_v235 (F := Ideal) x4 x5 (ix2 k g) = x5 (ix3 0 g k) * (x4 (ix2 0 g) : EReal) := by
  unfold val_main_v235 val_main_v210 val_main_v209 val_main_v208 val_main_v6 val_main_v5
  pointwise

theorem urow_at : val_main_v236 (F := Ideal) x3 (ix2 0 g) = x3 (ix2 0 g) := by
  unfold val_main_v236 val_main_v4
  pointwise

theorem orow_at : val_main_v240 (F := Ideal) x2 (ix2 0 g) = x2 (ix2 0 g) := by
  unfold val_main_v240 val_main_v3
  pointwise

theorem iw_at (k : Fin 3) : val_main_v239 (F := Ideal) x6 (ix2 k g) = iw (x6 (ix3 0 g k)) := by
  unfold val_main_v239 val_main_v238 val_main_v237 val_main_cst_28 val_main_v113 val_main_v112 val_main_v111 val_main_v7 val_main_cst_18 iw
  pointwise

theorem ck0_ref : val_main_v215 (F := Ideal) x1 x7 (ix2 0 g) = sum3 fun i => x1 (ix3 0 g i) * rot (fun b => x7 (ix3 0 g b)) i 0 := by
  unfold val_main_v215 val_main_v214 val_main_v213 val_main_v212 val_main_v211 val_main_cst_25 val_main_v2 sum3
  simp only [← R_at]
  generalize val_main_v110 (F := Ideal) x7 = Q
  pointwise
  rw [Fin.sum_univ_three]

theorem ck1_ref : val_main_v220 (F := Ideal) x1 x7 (ix2 0 g) = sum3 fun i => x1 (ix3 0 g i) * rot (fun b => x7 (ix3 0 g b)) i 1 := by
  unfold val_main_v220 val_main_v219 val_main_v218 val_main_v217 val_main_v216 val_main_cst_26 val_main_v2 sum3
  simp only [← R_at]
  generalize val_main_v110 (F := Ideal) x7 = Q
  pointwise
  rw [Fin.sum_univ_three]

theorem ck2_ref : val_main_v225 (F := Ideal) x1 x7 (ix2 0 g) = sum3 fun i => x1 (ix3 0 g i) * rot (fun b => x7 (ix3 0 g b)) i 2 := by
  unfold val_main_v225 val_main_v224 val_main_v223 val_main_v222 val_main_v221 val_main_cst_27 val_main_v2 sum3
  simp only [← R_at]
  generalize val_main_v110 (F := Ideal) x7 = Q
  pointwise
  rw [Fin.sum_univ_three]

theorem row_axis0 (i : Fin 3) : val_main_v241 (F := Ideal) x1 x2 x3 x4 x5 x6 x7 (ix2 ⟨0 + i.val, by omega⟩ g) = val_main_v228 (F := Ideal) x7 (ix2 i g) := by
  unfold val_main_v241
  generalize val_main_v228 (F := Ideal) x7 = T228
  generalize val_main_v231 (F := Ideal) x7 = T231
  generalize val_main_v234 (F := Ideal) x7 = T234
  generalize val_main_v235 (F := Ideal) x4 x5 = T235
  generalize val_main_v236 (F := Ideal) x3 = T236
  generalize val_main_v239 (F := Ideal) x6 = T239
  generalize val_main_v215 (F := Ideal) x1 x7 = T215
  generalize val_main_v220 (F := Ideal) x1 x7 = T220
  generalize val_main_v225 (F := Ideal) x1 x7 = T225
  generalize val_main_v240 (F := Ideal) x2 = T240
  match i with
  | ⟨0, _⟩ => pointwise
  | ⟨1, _⟩ => pointwise
  | ⟨2, _⟩ => pointwise
  | ⟨n + 3, h⟩ => exact absurd h (by omega)

theorem row_axis1 (i : Fin 3) : val_main_v241 (F := Ideal) x1 x2 x3 x4 x5 x6 x7 (ix2 ⟨3 + i.val, by omega⟩ g) = val_main_v231 (F := Ideal) x7 (ix2 i g) := by
  unfold val_main_v241
  generalize val_main_v228 (F := Ideal) x7 = T228
  generalize val_main_v231 (F := Ideal) x7 = T231
  generalize val_main_v234 (F := Ideal) x7 = T234
  generalize val_main_v235 (F := Ideal) x4 x5 = T235
  generalize val_main_v236 (F := Ideal) x3 = T236
  generalize val_main_v239 (F := Ideal) x6 = T239
  generalize val_main_v215 (F := Ideal) x1 x7 = T215
  generalize val_main_v220 (F := Ideal) x1 x7 = T220
  generalize val_main_v225 (F := Ideal) x1 x7 = T225
  generalize val_main_v240 (F := Ideal) x2 = T240
  match i with
  | ⟨0, _⟩ => pointwise
  | ⟨1, _⟩ => pointwise
  | ⟨2, _⟩ => pointwise
  | ⟨n + 3, h⟩ => exact absurd h (by omega)

theorem row_axis2 (i : Fin 3) : val_main_v241 (F := Ideal) x1 x2 x3 x4 x5 x6 x7 (ix2 ⟨6 + i.val, by omega⟩ g) = val_main_v234 (F := Ideal) x7 (ix2 i g) := by
  unfold val_main_v241
  generalize val_main_v228 (F := Ideal) x7 = T228
  generalize val_main_v231 (F := Ideal) x7 = T231
  generalize val_main_v234 (F := Ideal) x7 = T234
  generalize val_main_v235 (F := Ideal) x4 x5 = T235
  generalize val_main_v236 (F := Ideal) x3 = T236
  generalize val_main_v239 (F := Ideal) x6 = T239
  generalize val_main_v215 (F := Ideal) x1 x7 = T215
  generalize val_main_v220 (F := Ideal) x1 x7 = T220
  generalize val_main_v225 (F := Ideal) x1 x7 = T225
  generalize val_main_v240 (F := Ideal) x2 = T240
  match i with
  | ⟨0, _⟩ => pointwise
  | ⟨1, _⟩ => pointwise
  | ⟨2, _⟩ => pointwise
  | ⟨n + 3, h⟩ => exact absurd h (by omega)

theorem row_feat (k : Fin 17) : val_main_v241 (F := Ideal) x1 x2 x3 x4 x5 x6 x7 (ix2 ⟨9 + k.val, by omega⟩ g) = val_main_v235 (F := Ideal) x4 x5 (ix2 k g) := by
  unfold val_main_v241
  generalize val_main_v228 (F := Ideal) x7 = T228
  generalize val_main_v231 (F := Ideal) x7 = T231
  generalize val_main_v234 (F := Ideal) x7 = T234
  generalize val_main_v235 (F := Ideal) x4 x5 = T235
  generalize val_main_v236 (F := Ideal) x3 = T236
  generalize val_main_v239 (F := Ideal) x6 = T239
  generalize val_main_v215 (F := Ideal) x1 x7 = T215
  generalize val_main_v220 (F := Ideal) x1 x7 = T220
  generalize val_main_v225 (F := Ideal) x1 x7 = T225
  generalize val_main_v240 (F := Ideal) x2 = T240
  match k with
  | ⟨0, _⟩ => pointwise
  | ⟨1, _⟩ => pointwise
  | ⟨2, _⟩ => pointwise
  | ⟨3, _⟩ => pointwise
  | ⟨4, _⟩ => pointwise
  | ⟨5, _⟩ => pointwise
  | ⟨6, _⟩ => pointwise
  | ⟨7, _⟩ => pointwise
  | ⟨8, _⟩ => pointwise
  | ⟨9, _⟩ => pointwise
  | ⟨10, _⟩ => pointwise
  | ⟨11, _⟩ => pointwise
  | ⟨12, _⟩ => pointwise
  | ⟨13, _⟩ => pointwise
  | ⟨14, _⟩ => pointwise
  | ⟨15, _⟩ => pointwise
  | ⟨16, _⟩ => pointwise
  | ⟨n + 17, h⟩ => exact absurd h (by omega)

theorem row_u : val_main_v241 (F := Ideal) x1 x2 x3 x4 x5 x6 x7 (ix2 26 g) = val_main_v236 (F := Ideal) x3 (ix2 0 g) := by
  unfold val_main_v241
  generalize val_main_v228 (F := Ideal) x7 = T228
  generalize val_main_v231 (F := Ideal) x7 = T231
  generalize val_main_v234 (F := Ideal) x7 = T234
  generalize val_main_v235 (F := Ideal) x4 x5 = T235
  generalize val_main_v236 (F := Ideal) x3 = T236
  generalize val_main_v239 (F := Ideal) x6 = T239
  generalize val_main_v215 (F := Ideal) x1 x7 = T215
  generalize val_main_v220 (F := Ideal) x1 x7 = T220
  generalize val_main_v225 (F := Ideal) x1 x7 = T225
  generalize val_main_v240 (F := Ideal) x2 = T240
  pointwise

theorem row_iw (k : Fin 3) : val_main_v241 (F := Ideal) x1 x2 x3 x4 x5 x6 x7 (ix2 ⟨27 + k.val, by omega⟩ g) = val_main_v239 (F := Ideal) x6 (ix2 k g) := by
  unfold val_main_v241
  generalize val_main_v228 (F := Ideal) x7 = T228
  generalize val_main_v231 (F := Ideal) x7 = T231
  generalize val_main_v234 (F := Ideal) x7 = T234
  generalize val_main_v235 (F := Ideal) x4 x5 = T235
  generalize val_main_v236 (F := Ideal) x3 = T236
  generalize val_main_v239 (F := Ideal) x6 = T239
  generalize val_main_v215 (F := Ideal) x1 x7 = T215
  generalize val_main_v220 (F := Ideal) x1 x7 = T220
  generalize val_main_v225 (F := Ideal) x1 x7 = T225
  generalize val_main_v240 (F := Ideal) x2 = T240
  match k with
  | ⟨0, _⟩ => pointwise
  | ⟨1, _⟩ => pointwise
  | ⟨2, _⟩ => pointwise
  | ⟨n + 3, h⟩ => exact absurd h (by omega)

theorem row_ck0 : val_main_v241 (F := Ideal) x1 x2 x3 x4 x5 x6 x7 (ix2 30 g) = val_main_v215 (F := Ideal) x1 x7 (ix2 0 g) := by
  unfold val_main_v241
  generalize val_main_v228 (F := Ideal) x7 = T228
  generalize val_main_v231 (F := Ideal) x7 = T231
  generalize val_main_v234 (F := Ideal) x7 = T234
  generalize val_main_v235 (F := Ideal) x4 x5 = T235
  generalize val_main_v236 (F := Ideal) x3 = T236
  generalize val_main_v239 (F := Ideal) x6 = T239
  generalize val_main_v215 (F := Ideal) x1 x7 = T215
  generalize val_main_v220 (F := Ideal) x1 x7 = T220
  generalize val_main_v225 (F := Ideal) x1 x7 = T225
  generalize val_main_v240 (F := Ideal) x2 = T240
  pointwise

theorem row_ck1 : val_main_v241 (F := Ideal) x1 x2 x3 x4 x5 x6 x7 (ix2 31 g) = val_main_v220 (F := Ideal) x1 x7 (ix2 0 g) := by
  unfold val_main_v241
  generalize val_main_v228 (F := Ideal) x7 = T228
  generalize val_main_v231 (F := Ideal) x7 = T231
  generalize val_main_v234 (F := Ideal) x7 = T234
  generalize val_main_v235 (F := Ideal) x4 x5 = T235
  generalize val_main_v236 (F := Ideal) x3 = T236
  generalize val_main_v239 (F := Ideal) x6 = T239
  generalize val_main_v215 (F := Ideal) x1 x7 = T215
  generalize val_main_v220 (F := Ideal) x1 x7 = T220
  generalize val_main_v225 (F := Ideal) x1 x7 = T225
  generalize val_main_v240 (F := Ideal) x2 = T240
  pointwise

theorem row_ck2 : val_main_v241 (F := Ideal) x1 x2 x3 x4 x5 x6 x7 (ix2 32 g) = val_main_v225 (F := Ideal) x1 x7 (ix2 0 g) := by
  unfold val_main_v241
  generalize val_main_v228 (F := Ideal) x7 = T228
  generalize val_main_v231 (F := Ideal) x7 = T231
  generalize val_main_v234 (F := Ideal) x7 = T234
  generalize val_main_v235 (F := Ideal) x4 x5 = T235
  generalize val_main_v236 (F := Ideal) x3 = T236
  generalize val_main_v239 (F := Ideal) x6 = T239
  generalize val_main_v215 (F := Ideal) x1 x7 = T215
  generalize val_main_v220 (F := Ideal) x1 x7 = T220
  generalize val_main_v225 (F := Ideal) x1 x7 = T225
  generalize val_main_v240 (F := Ideal) x2 = T240
  pointwise

theorem row_o : val_main_v241 (F := Ideal) x1 x2 x3 x4 x5 x6 x7 (ix2 33 g) = val_main_v240 (F := Ideal) x2 (ix2 0 g) := by
  unfold val_main_v241
  generalize val_main_v228 (F := Ideal) x7 = T228
  generalize val_main_v231 (F := Ideal) x7 = T231
  generalize val_main_v234 (F := Ideal) x7 = T234
  generalize val_main_v235 (F := Ideal) x4 x5 = T235
  generalize val_main_v236 (F := Ideal) x3 = T236
  generalize val_main_v239 (F := Ideal) x6 = T239
  generalize val_main_v215 (F := Ideal) x1 x7 = T215
  generalize val_main_v220 (F := Ideal) x1 x7 = T220
  generalize val_main_v225 (F := Ideal) x1 x7 = T225
  generalize val_main_v240 (F := Ideal) x2 = T240
  pointwise

/-! ## The words -/

theorem shli_lt (a b : BitVec 32) (h : b.toNat < 32) : IntOp.shli .host a b = a <<< b := by
  unfold IntOp.shli
  exact if_pos h

theorem word_at : val_main_v257 (F := Ideal) x1 x6 (ix2 0 g)
    = word (cellOf (x1 (ix3 0 g 0))) (cellOf (x1 (ix3 0 g 1))) (cellOf (x1 (ix3 0 g 2))) (val_main_v32 (F := Ideal) x6 (ix1 g)) := by
  unfold val_main_v257 val_main_v256 val_main_v255 val_main_v254 val_main_v253 val_main_v252 val_main_v251 val_main_c_31 val_main_v250 val_main_v249 val_main_v248 val_main_v247 val_main_v246 val_main_c_30 val_main_v245 val_main_v244 val_main_v243 val_main_v242 val_main_c_29
  rw [← mint_at, ← mint_at, ← mint_at]
  generalize val_main_v23 (F := Ideal) x1 = P
  generalize val_main_v32 (F := Ideal) x6 = D
  pointwise
  rfl

/-! ## The cells, their counts and their lists -/

theorem octant_at (a : Fin 3) : val_main_v264 (F := Ideal) x1 (ix2 g a) = octant (x1 (ix3 0 g a)) := by
  unfold val_main_v264 val_main_v263 val_main_c_34 val_main_v262 val_main_v261 val_main_v260 val_main_cst_33 val_main_v259 val_main_v258 val_main_cst_32 val_main_v2 octant
  pointwise
  rfl

theorem cellNo_at : val_main_v276 (F := Ideal) x1 (ix1 g) = cellNo fun a => x1 (ix3 0 g a) := by
  unfold val_main_v276 val_main_v275 val_main_v274 val_main_v273 val_main_v272 val_main_c_36 val_main_v271 val_main_v270 val_main_v269 val_main_v268 val_main_v267 val_main_c_35 val_main_v266 val_main_v265 cellNo
  rw [← octant_at, ← octant_at, ← octant_at]
  generalize val_main_v264 (F := Ideal) x1 = P
  pointwise
  rfl

/-- Whether a gaussian is in a cell. -/
abbrev isIn (j : Fin 512) (g : Fin 1280) : BitVec 1 := IntOp.cmpi .eq (cellNo fun a => x1 (ix3 0 g a)) (BitVec.ofNat 32 j.val)

theorem isIn_at (j : Fin 512) : val_main_v283 (F := Ideal) x1 (ix2 j g) = isIn x1 j g := by
  unfold val_main_v283 val_main_v282 val_main_v281 val_main_v280 val_main_v279 val_main_v278 isIn
  rw [← cellNo_at]
  generalize val_main_v276 (F := Ideal) x1 = P
  pointwise

theorem counts_at (j : Fin 512) : val_main_v288 (F := Ideal) x1 (ix2 j 0)
    = IntOp.minsi (Finset.univ.fold IntOp.addi 0#32 (fun g : Fin 1280 => (isIn x1 j g).setWidth 32)) 28#32 := by
  simp only [← isIn_at]
  unfold val_main_v288 val_main_v287 val_main_c_38 val_main_v286 val_main_v285 val_main_c_37 val_main_v284
  generalize val_main_v283 (F := Ideal) x1 = P
  pointwise

/-- Whether a gaussian comes before another of the same cell. -/
abbrev isBefore (g g' : Fin 1280) : BitVec 1 := IntOp.andi (IntOp.cmpi .eq (cellNo fun a => x1 (ix3 0 g a)) (cellNo fun a => x1 (ix3 0 g' a)))
  (IntOp.cmpi .slt (BitVec.ofNat 32 g'.val) (BitVec.ofNat 32 g.val))

theorem isBefore_at (g' : Fin 1280) : val_main_v299 (F := Ideal) x1 (ix2 g g') = isBefore x1 g g' := by
  unfold val_main_v299 val_main_v298 val_main_v297 val_main_v296 val_main_v295 val_main_v294 val_main_v293 val_main_v292 val_main_v291 val_main_v290 val_main_v289 val_main_v277 isBefore
  rw [← cellNo_at, ← cellNo_at]
  generalize val_main_v276 (F := Ideal) x1 = P
  pointwise

/-- A gaussian's place in its cell. -/
abbrev placeOf (g : Fin 1280) : BitVec 32 := Finset.univ.fold IntOp.addi 0#32 (fun g' : Fin 1280 => (isBefore x1 g g').setWidth 32)

theorem placeOf_at : val_main_v301 (F := Ideal) x1 (ix1 g) = placeOf x1 g := by
  unfold placeOf
  simp only [← isBefore_at]
  unfold val_main_v301 val_main_c_39 val_main_v300
  generalize val_main_v299 (F := Ideal) x1 = P
  pointwise

theorem slots_at (j : Fin 512) (k : Fin 28) : val_main_v316 (F := Ideal) x1 (ix2 j k)
    = Finset.univ.fold IntOp.addi 0#32 (fun g : Fin 1280 => Scalar.select (IntOp.andi (isIn x1 j g) (IntOp.cmpi .eq (placeOf x1 g) (BitVec.ofNat 32 k.val)))
        (IntOp.addi (BitVec.ofNat 32 g.val) 1#32) 0#32) := by
  simp only [← isIn_at, ← placeOf_at]
  unfold val_main_v316 val_main_c_42 val_main_v315 val_main_call1_v2 val_main_call1_v1 val_main_call1_v0 val_main_c_41 val_main_v314 val_main_v313 val_main_c_40 val_main_v312 val_main_v311 val_main_v310 val_main_v309 val_main_v308 val_main_v307 val_main_v306 val_main_v305 val_main_v304 val_main_v303 val_main_v302 val_main_v277
  generalize val_main_v283 (F := Ideal) x1 = P
  generalize val_main_v301 (F := Ideal) x1 = Q
  pointwise
  rfl

end Cert.Proof.Dense

end
-- ==== Proof.DenseTabSame.lean ====
/-
  The first call's four tables and the reference's are the same functions of the arguments.
-/
module

public import proofs.«01_k».proof.Proof.DenseTabHost
public import proofs.«01_k».proof.Proof.DenseTabRef

@[expose] public section

set_option maxRecDepth 16384

noncomputable section

namespace Cert.Proof.Dense

open Cert.DenseIdeal Cert.DenseIdeal.Gen
open Cert.DenseReferenceIdeal.Read (val_main_v241 val_main_v257 val_main_v288 val_main_v316)

open Idealize.ShloMosaic Idealize.ShloMosaic.TcCoe
open Idealize.SL.Sem

variable (m : (ℓ : Loc nD τ sig) → Buf (Elt Ideal) ℓ) (ρ : Dev nD → PrngReg) (c : Dev nD)

theorem quat (g : Fin 1280) : (fun b : Fin 4 => (W1 m ρ c (Proc.devRef .tc main_v31) : Vec Ideal S4x1280 .f32) (ix2 b g)) = fun b => x7 m c (ix3 0 g b) :=
  funext fun b => v31_at m ρ c b g

theorem attrs_eq : W5 m ρ c (Proc.devRef .tc main_v37_0)
    = val_main_v241 (F := Ideal) (x1 m c) (x2 m c) (x3 m c) (x4 m c) (x5 m c) (x6 m c) (x7 m c) := by
  rw [w5_37_0]
  funext i
  obtain ⟨r, g, rfl⟩ : ∃ (r : Fin 34) (g : Fin 1280), i = ix2 r g := ⟨i 0, i 1, eq_ix2 i⟩
  obtain ⟨r, hr⟩ := r
  have axis : ∀ k i : Fin 3, floats (W1 m ρ c (Proc.devRef .tc main_v31)) (W1 m ρ c (Proc.devRef .tc main_v30)) (W1 m ρ c (Proc.devRef .tc main_v32))
      (W1 m ρ c (Proc.devRef .tc main_v33)) (W1 m ρ c (Proc.devRef .tc main_v35)) (W1 m ρ c (Proc.devRef .tc main_v36)) (ix2 ⟨3 * k.val + i.val, by omega⟩ g)
      = rot (fun b => x7 m c (ix3 0 g b)) i k := fun k i => by
    rw [floats_axis, quat]
  have dots : ∀ k : Fin 3, floats (W1 m ρ c (Proc.devRef .tc main_v31)) (W1 m ρ c (Proc.devRef .tc main_v30)) (W1 m ρ c (Proc.devRef .tc main_v32))
      (W1 m ρ c (Proc.devRef .tc main_v33)) (W1 m ρ c (Proc.devRef .tc main_v35)) (W1 m ρ c (Proc.devRef .tc main_v36)) (ix2 ⟨30 + k.val, by omega⟩ g)
      = sum3 fun i => x1 m c (ix3 0 g i) * rot (fun b => x7 m c (ix3 0 g b)) i k := fun k => by
    rw [floats_ck, quat]
    exact congrArg sum3 (funext fun i => congrArg (· * _) (v30_at m ρ c i g))
  rcases Nat.lt_or_ge r 3 with h | h
  · have e : (⟨r, hr⟩ : Fin 34) = ⟨3 * 0 + (⟨r, h⟩ : Fin 3).val, by omega⟩ := Fin.ext (by simp)
    rw [e]
    exact (axis 0 ⟨r, h⟩).trans ((row_axis0 _ _ _ _ _ _ _ g ⟨r, h⟩).trans (axis0_at _ g ⟨r, h⟩)).symm
  rcases Nat.lt_or_ge r 6 with h | h
  · obtain ⟨a, rfl⟩ : ∃ a, r = 3 + a := ⟨r - 3, by omega⟩
    exact (axis 1 ⟨a, by omega⟩).trans ((row_axis1 _ _ _ _ _ _ _ g ⟨a, by omega⟩).trans (axis1_at _ g _)).symm
  rcases Nat.lt_or_ge r 9 with h | h
  · obtain ⟨a, rfl⟩ : ∃ a, r = 6 + a := ⟨r - 6, by omega⟩
    exact (axis 2 ⟨a, by omega⟩).trans ((row_axis2 _ _ _ _ _ _ _ g ⟨a, by omega⟩).trans (axis2_at _ g _)).symm
  rcases Nat.lt_or_ge r 26 with h | h
  · obtain ⟨a, rfl⟩ : ∃ a, r = 9 + a := ⟨r - 9, by omega⟩
    exact ((floats_feat _ _ _ _ _ _ g ⟨a, by omega⟩).trans (v33_at m ρ c _ g)).trans
      ((row_feat _ _ _ _ _ _ _ g ⟨a, by omega⟩).trans (feat_at _ _ g _)).symm
  rcases Nat.lt_or_ge r 27 with h | h
  · obtain rfl : r = 26 := by omega
    exact ((floats_u _ _ _ _ _ _ g).trans (v36_at m ρ c g)).trans ((row_u _ _ _ _ _ _ _ g).trans (urow_at _ g)).symm
  rcases Nat.lt_or_ge r 30 with h | h
  · obtain ⟨a, rfl⟩ : ∃ a, r = 27 + a := ⟨r - 27, by omega⟩
    exact ((floats_iw _ _ _ _ _ _ g ⟨a, by omega⟩).trans (congrArg iw (v32_at m ρ c _ g))).trans
      ((row_iw _ _ _ _ _ _ _ g ⟨a, by omega⟩).trans (iw_at _ g _)).symm
  rcases Nat.lt_or_ge r 31 with h | h
  · obtain rfl : r = 30 := by omega
    exact (dots 0).trans ((row_ck0 _ _ _ _ _ _ _ g).trans (ck0_ref _ _ g)).symm
  rcases Nat.lt_or_ge r 32 with h | h
  · obtain rfl : r = 31 := by omega
    exact (dots 1).trans ((row_ck1 _ _ _ _ _ _ _ g).trans (ck1_ref _ _ g)).symm
  rcases Nat.lt_or_ge r 33 with h | h
  · obtain rfl : r = 32 := by omega
    exact (dots 2).trans ((row_ck2 _ _ _ _ _ _ _ g).trans (ck2_ref _ _ g)).symm
  · obtain rfl : r = 33 := by omega
    exact ((floats_o _ _ _ _ _ _ g).trans (v35_at m ρ c g)).trans ((row_o _ _ _ _ _ _ _ g).trans (orow_at _ g)).symm

theorem words_eq : W5 m ρ c (Proc.devRef .tc main_v37_1) = val_main_v257 (F := Ideal) (x1 m c) (x6 m c) := by
  rw [w5_37_1]
  funext i
  obtain ⟨z, g, rfl⟩ : ∃ (z : Fin 1) (g : Fin 1280), i = ix2 z g := ⟨i 0, i 1, eq_ix2 i⟩
  obtain rfl : z = 0 := Subsingleton.elim _ _
  refine ((wordRow_at g _ _).trans ?_).trans (word_at (x1 m c) (x6 m c) g).symm
  rw [v19_at, v19_at, v19_at, v29_at]

/-- The cell of a mean, as the row of means gives it. -/
theorem cell_row (g : Fin 1280) : k0_pay74 (k0_pay22 (W1 m ρ c (Proc.devRef .tc main_v30) : Vec Ideal S3x1280 .f32)) (ix2 0 g) = cellNo fun a => x1 m c (ix3 0 g a) := by
  rw [cell_at]
  exact congrArg cellNo (funext fun a => v30_at m ρ c a g)

theorem inside_bit (g : Fin 1280) (j : Fin 512) : k0_pay79 (F := Ideal) (k0_pay74 (k0_pay22 (W1 m ρ c (Proc.devRef .tc main_v30) : Vec Ideal S3x1280 .f32))) (ix2 j g)
    = FloatOps.sitofp (F := Ideal) .f32 ((isIn (x1 m c) j g).setWidth 32) := by
  rw [inside_at, cell_row, eq_comm']

theorem counts_eq : W5 m ρ c (Proc.devRef .tc main_v37_2) = val_main_v288 (F := Ideal) (x1 m c) := by
  rw [w5_37_2]
  funext i
  obtain ⟨j, z, rfl⟩ : ∃ (j : Fin 512) (z : Fin 1), i = ix2 j z := ⟨i 0, i 1, eq_ix2 i⟩
  obtain rfl : z = 0 := Subsingleton.elim _ _
  refine Eq.trans ?_ (counts_at (x1 m c) j).symm
  unfold countCol
  rw [count_at, ← capped_same (by norm_num)]
  exact congrArg (fun s : EReal => FloatOps.fptosi (F := Ideal) (φ := .f32) 32 (min s (Ideal.ofBits .f32 0x41E00000#32)))
    (Fintype.sum_congr _ _ fun g => inside_bit m ρ c g j)

theorem place_word (g : Fin 1280) : k0_pay81 (F := Ideal) (k0_pay74 (k0_pay22 (W1 m ρ c (Proc.devRef .tc main_v30) : Vec Ideal S3x1280 .f32)))
    (k0_pay75 (W1 m ρ c (Proc.devRef .tc main_v1) : Vec Ideal S1280x3 .f32)) (k0_pay76 (W1 m ρ c (Proc.devRef .tc main_v1) : Vec Ideal S1280x3 .f32))
    (k0_pay77 (W1 m ρ c (Proc.devRef .tc main_v1) : Vec Ideal S1280x3 .f32)) k0_pay78 (ix2 g 0) = placeOf (x1 m c) g := by
  rw [place_at]
  unfold placeOf
  rw [← count_same (by norm_num)]
  refine congrArg (fun s : EReal => FloatOps.fptosi (F := Ideal) (φ := .f32) 32 s) (Fintype.sum_congr _ _ fun g' => ?_)
  rw [cell_row, show (fun a : Fin 3 => (W1 m ρ c (Proc.devRef .tc main_v1) : Vec Ideal S1280x3 .f32) (ix2 g a)) = fun a => x1 m c (ix3 0 g a) from
    funext fun a => v1_at m ρ c g a]

theorem lists_eq : W5 m ρ c (Proc.devRef .tc main_v37_3) = val_main_v316 (F := Ideal) (x1 m c) := by
  rw [w5_37_3]
  funext i
  obtain ⟨j, k, rfl⟩ : ∃ (j : Fin 512) (k : Fin 28), i = ix2 j k := ⟨i 0, i 1, eq_ix2 i⟩
  refine Eq.trans ?_ (slots_at (x1 m c) j k).symm
  unfold listTab
  rw [list_at, ← pick_same]
  refine congrArg (fun s : EReal => FloatOps.fptosi (F := Ideal) (φ := .f32) 32 s) (Fintype.sum_congr _ _ fun g => ?_)
  rw [inside_bit, place_word]

end Cert.Proof.Dense

end
-- ==== Proof.DenseSame.lean ====
/-
  The two calls' seven results and the reference's are the same functions of the arguments.
-/
module

public import proofs.«01_k».proof.Proof.DenseTabSame
public import proofs.«01_k».proof.Defs
public import proofs.«01_k».proof.Proof.Gen.DenseReferenceIdeal.Run

@[expose] public section

noncomputable section

namespace Cert.Proof.Dense

open Cert.DenseIdeal Cert.DenseIdeal.Gen
open Cert.DenseReferenceIdeal.Read (val_main_v202 val_main_v203 val_main_v207 val_main_v202_eq val_main_v203_eq val_main_v207_eq
  val_main_v241_eq val_main_v257_eq val_main_v288_eq val_main_v316_eq)

open Idealize.ShloMosaic Idealize.ShloMosaic.TcCoe
open Idealize.SL.Sem

variable (m : (ℓ : Loc nD τ sig) → Buf (Elt Ideal) ℓ) (ρ : Dev nD → PrngReg) (c : Dev nD)

theorem sem_eq : W5 m ρ c (Proc.devRef .tc main_v43)
    = val_main_v207 (F := Ideal) (x0 m c) (x1 m c) (x2 m c) (x4 m c) (x5 m c) (x6 m c) (x7 m c) := by
  funext i
  obtain ⟨p, k, rfl⟩ : ∃ (p : Fin 6144) (k : Fin 17), i = ix2 p k := ⟨i 0, i 1, eq_ix2 i⟩
  exact (out_sem m ρ c p k).trans (sem_at (x0 m c) (x1 m c) (x2 m c) (x4 m c) (x5 m c) (x6 m c) (x7 m c) p k).symm

theorem bin_eq : W5 m ρ c (Proc.devRef .tc main_v45)
    = val_main_v203 (F := Ideal) (x0 m c) (x1 m c) (x2 m c) (x3 m c) (x6 m c) (x7 m c) := by
  funext i
  obtain ⟨p, rfl⟩ : ∃ p : Fin 6144, i = ix1 p := ⟨i 0, eq_ix1 i⟩
  exact (out_bin m ρ c p).trans (bin_at (x0 m c) (x1 m c) (x2 m c) (x3 m c) (x6 m c) (x7 m c) p).symm

theorem den_eq : W5 m ρ c (Proc.devRef .tc main_v47)
    = val_main_v202 (F := Ideal) (x0 m c) (x1 m c) (x2 m c) (x6 m c) (x7 m c) := by
  funext i
  obtain ⟨p, rfl⟩ : ∃ p : Fin 6144, i = ix1 p := ⟨i 0, eq_ix1 i⟩
  exact (out_den m ρ c p).trans (den_at (x0 m c) (x1 m c) (x2 m c) (x6 m c) (x7 m c) p).symm

theorem frame_ri : Cert.quiescent_DenseReferenceIdeal := by
  intro m ρ _
  exact (θ_run Cert.DenseReferenceIdeal.defs _ _).mono (fun r h => ⟨fun c => (h c).2.2.2.2.2.2.2, Idealize.ShloMosaic.sem_eq_zero_of_no_sems (by decide) r.2⟩)
    (Cert.DenseReferenceIdeal.Value.run (F := Ideal) m ρ)

theorem algebraic : Cert.algebraic_DenseIdeal_DenseReferenceIdeal := by
  intro m g m' g' _ hargs
  refine ⟨fun c => W5 m g c (Proc.devRef .tc main_v43), fun c => W5 m g c (Proc.devRef .tc main_v45),
    fun c => W5 m g c (Proc.devRef .tc main_v47),
    fun c => W5 m g c (Proc.devRef .tc main_v37_0), fun c => W5 m g c (Proc.devRef .tc main_v37_1), fun c => W5 m g c (Proc.devRef .tc main_v37_2),
    fun c => W5 m g c (Proc.devRef .tc main_v37_3), run_main m g, ?_⟩
  refine (θ_run _ _ _).mono (fun _ e c => ?_) (Cert.DenseReferenceIdeal.Value.run (F := Ideal) m' g')
  obtain ⟨e0, e1, e2, e3, e4, e5, e6, ea⟩ := e c
  obtain ⟨a0, a1, a2, a3, a4, a5, a6, a7⟩ := hargs c
  have b0 : StableHlo.launchContents m' c (Proc.devRef .tc Cert.DenseReferenceIdeal.main_arg0) = x0 m c := a0
  have b1 : StableHlo.launchContents m' c (Proc.devRef .tc Cert.DenseReferenceIdeal.main_arg1) = x1 m c := a1
  have b2 : StableHlo.launchContents m' c (Proc.devRef .tc Cert.DenseReferenceIdeal.main_arg2) = x2 m c := a2
  have b3 : StableHlo.launchContents m' c (Proc.devRef .tc Cert.DenseReferenceIdeal.main_arg3) = x3 m c := a3
  have b4 : StableHlo.launchContents m' c (Proc.devRef .tc Cert.DenseReferenceIdeal.main_arg4) = x4 m c := a4
  have b5 : StableHlo.launchContents m' c (Proc.devRef .tc Cert.DenseReferenceIdeal.main_arg5) = x5 m c := a5
  have b6 : StableHlo.launchContents m' c (Proc.devRef .tc Cert.DenseReferenceIdeal.main_arg6) = x6 m c := a6
  have b7 : StableHlo.launchContents m' c (Proc.devRef .tc Cert.DenseReferenceIdeal.main_arg7) = x7 m c := a7
  refine ⟨e0.trans ?_, e1.trans ?_, e2.trans ?_, e3.trans ?_, e4.trans ?_, e5.trans ?_, e6.trans ?_, ea⟩
  · rw [val_main_v207_eq, b0, b1, b2, b4, b5, b6, b7]; exact (sem_eq m g c).symm
  · rw [val_main_v203_eq, b0, b1, b2, b3, b6, b7]; exact (bin_eq m g c).symm
  · rw [val_main_v202_eq, b0, b1, b2, b6, b7]; exact (den_eq m g c).symm
  · rw [val_main_v241_eq, b1, b2, b3, b4, b5, b6, b7]; exact (attrs_eq m g c).symm
  · rw [val_main_v257_eq, b1, b6]; exact (words_eq m g c).symm
  · rw [val_main_v288_eq, b1]; exact (counts_eq m g c).symm
  · rw [val_main_v316_eq, b1]; exact (lists_eq m g c).symm

end Cert.Proof.Dense

end
-- ==== Proof.lean ====
/-
  The proof of `Cert.Claim` (Defs.lean): the frames of the kernels and of all four programs' ideal readings,
  and that each kernel's three results are its reference's.
-/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Gen.ReferenceIdeal.Read
public import proofs.«01_k».proof.Proof.Gen.Pre_listed_once_near
public import proofs.«01_k».proof.Proof.Frames
public import proofs.«01_k».proof.Proof.Same
public import proofs.«01_k».proof.Proof.DenseSame
public import proofs.«01_k».proof.Proof.Gen.Dense.Frame
public import proofs.«01_k».proof.Proof.Gen.DenseIdeal.Frame
public import proofs.«01_k».proof.Proof.Gen.DenseReferenceIdeal.Run
public import proofs.«01_k».proof.Proof.Gen.DenseReferenceIdeal.Read

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Dense.Gen.facts,
    Cert.DenseIdeal.Gen.facts, Cert.DenseReferenceIdeal.Gen.facts, Cert.Pre_listed_once_near.Gen.facts,
    frame_k, frame_ki, frame_ri, frame_ri', fun m ρ _ => Cert.Dense.Gen.frame m ρ, fun m ρ _ => Cert.DenseIdeal.Gen.frame m ρ, Dense.frame_ri,
    trivial, algebraic, trivial, Dense.algebraic⟩

end Cert.Proof

end
